-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Experts [hPre_routed : Cert.Pre_routed.Facts] (m : (ℓ : Loc Cert.Experts.nD Cert.Experts.τ Cert.Experts.sig) → Buf (Elt Bits) ℓ) : Prop :=
  ∀ c : Dev Cert.Experts.nD,
    (Cert.Pre_routed.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_routed : Cert.Pre_routed.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_routed [hPre_routed : Cert.Pre_routed.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_routed.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInReferenceIdeal (m : (ℓ : Loc Cert.OddInReferenceIdeal.nD Cert.OddInReferenceIdeal.τ Cert.OddInReferenceIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInReferenceIdeal (m : (ℓ : Loc Cert.EvenInReferenceIdeal.nD Cert.EvenInReferenceIdeal.τ Cert.EvenInReferenceIdeal.sig) → Buf (Elt Ideal) ℓ) : Prop :=
  True

def Pre_CmpIn (m : (ℓ : Loc Cert.CmpIn.nD Cert.CmpIn.τ Cert.CmpIn.sig) → Buf (Elt Bits) ℓ) : Prop :=
  True

def Pre_CmpInIdeal (m : (ℓ : Loc Cert.CmpInIdeal.nD Cert.CmpInIdeal.τ Cert.CmpInIdeal.sig) → Buf (Elt Ideal) ℓ) : Prop :=
  True

def Pre_CmpInReferenceIdeal (m : (ℓ : Loc Cert.CmpInReferenceIdeal.nD Cert.CmpInReferenceIdeal.τ Cert.CmpInReferenceIdeal.sig) → Buf (Elt Ideal) ℓ) : Prop :=
  True

def Pre_CmpOut (m : (ℓ : Loc Cert.CmpOut.nD Cert.CmpOut.τ Cert.CmpOut.sig) → Buf (Elt Bits) ℓ) : Prop :=
  True

def Pre_CmpOutIdeal (m : (ℓ : Loc Cert.CmpOutIdeal.nD Cert.CmpOutIdeal.τ Cert.CmpOutIdeal.sig) → Buf (Elt Ideal) ℓ) : Prop :=
  True

def Pre_CmpOutReferenceIdeal (m : (ℓ : Loc Cert.CmpOutReferenceIdeal.nD Cert.CmpOutReferenceIdeal.τ Cert.CmpOutReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Cmp (m : (ℓ : Loc Cert.Cmp.nD Cert.Cmp.τ Cert.Cmp.sig) → Buf (Elt Bits) ℓ) : Prop :=
  True

def Pre_CmpIdeal (m : (ℓ : Loc Cert.CmpIdeal.nD Cert.CmpIdeal.τ Cert.CmpIdeal.sig) → Buf (Elt Ideal) ℓ) : Prop :=
  True

def Pre_CmpIdeal_finite_keys [hPre_finite_keys : Cert.Pre_finite_keys.Facts] (m : (ℓ : Loc Cert.CmpIdeal.nD Cert.CmpIdeal.τ Cert.CmpIdeal.sig) → Buf (Elt Ideal) ℓ) : Prop :=
  ∀ c : Dev Cert.CmpIdeal.nD,
    (Cert.Pre_finite_keys.fn (F := Ideal) (m ((c.tc : Thread Cert.CmpIdeal.nD Cert.CmpIdeal.τ).loc Cert.CmpIdeal.main_arg0)) (m ((c.tc : Thread Cert.CmpIdeal.nD Cert.CmpIdeal.τ).loc Cert.CmpIdeal.main_arg1)) (m ((c.tc : Thread Cert.CmpIdeal.nD Cert.CmpIdeal.τ).loc Cert.CmpIdeal.main_arg2))) = (fun _ => 1#1)

def Pre_CmpReferenceIdeal (m : (ℓ : Loc Cert.CmpReferenceIdeal.nD Cert.CmpReferenceIdeal.τ Cert.CmpReferenceIdeal.sig) → Buf (Elt Ideal) ℓ) : Prop :=
  True

def Pre_CmpReferenceIdeal_finite_keys [hPre_finite_keys : Cert.Pre_finite_keys.Facts] (m : (ℓ : Loc Cert.CmpReferenceIdeal.nD Cert.CmpReferenceIdeal.τ Cert.CmpReferenceIdeal.sig) → Buf (Elt Ideal) ℓ) : Prop :=
  ∀ c : Dev Cert.CmpReferenceIdeal.nD,
    (Cert.Pre_finite_keys.fn (F := Ideal) (m ((c.tc : Thread Cert.CmpReferenceIdeal.nD Cert.CmpReferenceIdeal.τ).loc Cert.CmpReferenceIdeal.main_arg0)) (m ((c.tc : Thread Cert.CmpReferenceIdeal.nD Cert.CmpReferenceIdeal.τ).loc Cert.CmpReferenceIdeal.main_arg1)) (m ((c.tc : Thread Cert.CmpReferenceIdeal.nD Cert.CmpReferenceIdeal.τ).loc Cert.CmpReferenceIdeal.main_arg2))) = (fun _ => 1#1)

def Pre_Dil (m : (ℓ : Loc Cert.Dil.nD Cert.Dil.τ Cert.Dil.sig) → Buf (Elt Bits) ℓ) : Prop :=
  True

def Pre_DilIdeal (m : (ℓ : Loc Cert.DilIdeal.nD Cert.DilIdeal.τ Cert.DilIdeal.sig) → Buf (Elt Ideal) ℓ) : Prop :=
  True

def Pre_DilIdeal_finite [hPre_finite : Cert.Pre_finite.Facts] (m : (ℓ : Loc Cert.DilIdeal.nD Cert.DilIdeal.τ Cert.DilIdeal.sig) → Buf (Elt Ideal) ℓ) : Prop :=
  ∀ c : Dev Cert.DilIdeal.nD,
    (Cert.Pre_finite.fn (F := Ideal) (m ((c.tc : Thread Cert.DilIdeal.nD Cert.DilIdeal.τ).loc Cert.DilIdeal.main_arg0))) = (fun _ => 1#1)

def Pre_DilReferenceIdeal (m : (ℓ : Loc Cert.DilReferenceIdeal.nD Cert.DilReferenceIdeal.τ Cert.DilReferenceIdeal.sig) → Buf (Elt Ideal) ℓ) : Prop :=
  True

def Pre_DilReferenceIdeal_finite [hPre_finite : Cert.Pre_finite.Facts] (m : (ℓ : Loc Cert.DilReferenceIdeal.nD Cert.DilReferenceIdeal.τ Cert.DilReferenceIdeal.sig) → Buf (Elt Ideal) ℓ) : Prop :=
  ∀ c : Dev Cert.DilReferenceIdeal.nD,
    (Cert.Pre_finite.fn (F := Ideal) (m ((c.tc : Thread Cert.DilReferenceIdeal.nD Cert.DilReferenceIdeal.τ).loc Cert.DilReferenceIdeal.main_arg0))) = (fun _ => 1#1)

def Pre_Band4 (m : (ℓ : Loc Cert.Band4.nD Cert.Band4.τ Cert.Band4.sig) → Buf (Elt Bits) ℓ) : Prop :=
  True

def Pre_Band4Ideal (m : (ℓ : Loc Cert.Band4Ideal.nD Cert.Band4Ideal.τ Cert.Band4Ideal.sig) → Buf (Elt Ideal) ℓ) : Prop :=
  True

def Pre_Band4Ideal_finite [hPre_finite : Cert.Pre_finite.Facts] (m : (ℓ : Loc Cert.Band4Ideal.nD Cert.Band4Ideal.τ Cert.Band4Ideal.sig) → Buf (Elt Ideal) ℓ) : Prop :=
  ∀ c : Dev Cert.Band4Ideal.nD,
    (Cert.Pre_finite.fn (F := Ideal) (m ((c.tc : Thread Cert.Band4Ideal.nD Cert.Band4Ideal.τ).loc Cert.Band4Ideal.main_arg0))) = (fun _ => 1#1)

def Pre_Band4ReferenceIdeal (m : (ℓ : Loc Cert.Band4ReferenceIdeal.nD Cert.Band4ReferenceIdeal.τ Cert.Band4ReferenceIdeal.sig) → Buf (Elt Ideal) ℓ) : Prop :=
  True

def Pre_Band4ReferenceIdeal_finite [hPre_finite : Cert.Pre_finite.Facts] (m : (ℓ : Loc Cert.Band4ReferenceIdeal.nD Cert.Band4ReferenceIdeal.τ Cert.Band4ReferenceIdeal.sig) → Buf (Elt Ideal) ℓ) : Prop :=
  ∀ c : Dev Cert.Band4ReferenceIdeal.nD,
    (Cert.Pre_finite.fn (F := Ideal) (m ((c.tc : Thread Cert.Band4ReferenceIdeal.nD Cert.Band4ReferenceIdeal.τ).loc Cert.Band4ReferenceIdeal.main_arg0))) = (fun _ => 1#1)

def Pre_Band16 (m : (ℓ : Loc Cert.Band16.nD Cert.Band16.τ Cert.Band16.sig) → Buf (Elt Bits) ℓ) : Prop :=
  True

def Pre_Band16Ideal (m : (ℓ : Loc Cert.Band16Ideal.nD Cert.Band16Ideal.τ Cert.Band16Ideal.sig) → Buf (Elt Ideal) ℓ) : Prop :=
  True

def Pre_Band16Ideal_finite [hPre_finite : Cert.Pre_finite.Facts] (m : (ℓ : Loc Cert.Band16Ideal.nD Cert.Band16Ideal.τ Cert.Band16Ideal.sig) → Buf (Elt Ideal) ℓ) : Prop :=
  ∀ c : Dev Cert.Band16Ideal.nD,
    (Cert.Pre_finite.fn (F := Ideal) (m ((c.tc : Thread Cert.Band16Ideal.nD Cert.Band16Ideal.τ).loc Cert.Band16Ideal.main_arg0))) = (fun _ => 1#1)

def Pre_Band16ReferenceIdeal (m : (ℓ : Loc Cert.Band16ReferenceIdeal.nD Cert.Band16ReferenceIdeal.τ Cert.Band16ReferenceIdeal.sig) → Buf (Elt Ideal) ℓ) : Prop :=
  True

def Pre_Band16ReferenceIdeal_finite [hPre_finite : Cert.Pre_finite.Facts] (m : (ℓ : Loc Cert.Band16ReferenceIdeal.nD Cert.Band16ReferenceIdeal.τ Cert.Band16ReferenceIdeal.sig) → Buf (Elt Ideal) ℓ) : Prop :=
  ∀ c : Dev Cert.Band16ReferenceIdeal.nD,
    (Cert.Pre_finite.fn (F := Ideal) (m ((c.tc : Thread Cert.Band16ReferenceIdeal.nD Cert.Band16ReferenceIdeal.τ).loc Cert.Band16ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Experts [hExperts : Cert.Experts.Facts] [hPre_routed : Cert.Pre_routed.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_ExpertsReferenceIdeal_pre_routed [hExpertsReferenceIdeal : Cert.ExpertsReferenceIdeal.Facts] [hPre_routed : Cert.Pre_routed.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_routed m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ r.2.sem = fun _ => 0)

def quiescent_OddInReferenceIdeal [hOddInReferenceIdeal : Cert.OddInReferenceIdeal.Facts] : Prop :=
  ∀ (m : (ℓ : Loc Cert.OddInReferenceIdeal.nD Cert.OddInReferenceIdeal.τ Cert.OddInReferenceIdeal.sig) → Buf (Elt Ideal) ℓ) (g : Dev Cert.OddInReferenceIdeal.nD → PrngReg), Pre_OddInReferenceIdeal m →
    θ_run (Cert.OddInReferenceIdeal.defs (F := Ideal)) (onTc (τ := Cert.OddInReferenceIdeal.τ) (Cert.OddInReferenceIdeal.main (F := Ideal))) ⟨m, fun _ => 0, g⟩ (fun r => (∀ c : Dev Cert.OddInReferenceIdeal.nD,
      r.2.mem ((c.tc : Thread Cert.OddInReferenceIdeal.nD Cert.OddInReferenceIdeal.τ).loc Cert.OddInReferenceIdeal.main_arg0) = m ((c.tc : Thread Cert.OddInReferenceIdeal.nD Cert.OddInReferenceIdeal.τ).loc Cert.OddInReferenceIdeal.main_arg0)
      ∧ r.2.mem ((c.tc : Thread Cert.OddInReferenceIdeal.nD Cert.OddInReferenceIdeal.τ).loc Cert.OddInReferenceIdeal.main_arg1) = m ((c.tc : Thread Cert.OddInReferenceIdeal.nD Cert.OddInReferenceIdeal.τ).loc Cert.OddInReferenceIdeal.main_arg1))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ r.2.sem = fun _ => 0)

def quiescent_EvenInReferenceIdeal [hEvenInReferenceIdeal : Cert.EvenInReferenceIdeal.Facts] : Prop :=
  ∀ (m : (ℓ : Loc Cert.EvenInReferenceIdeal.nD Cert.EvenInReferenceIdeal.τ Cert.EvenInReferenceIdeal.sig) → Buf (Elt Ideal) ℓ) (g : Dev Cert.EvenInReferenceIdeal.nD → PrngReg), Pre_EvenInReferenceIdeal m →
    θ_run (Cert.EvenInReferenceIdeal.defs (F := Ideal)) (onTc (τ := Cert.EvenInReferenceIdeal.τ) (Cert.EvenInReferenceIdeal.main (F := Ideal))) ⟨m, fun _ => 0, g⟩ (fun r => (∀ c : Dev Cert.EvenInReferenceIdeal.nD,
      r.2.mem ((c.tc : Thread Cert.EvenInReferenceIdeal.nD Cert.EvenInReferenceIdeal.τ).loc Cert.EvenInReferenceIdeal.main_arg0) = m ((c.tc : Thread Cert.EvenInReferenceIdeal.nD Cert.EvenInReferenceIdeal.τ).loc Cert.EvenInReferenceIdeal.main_arg0)
      ∧ r.2.mem ((c.tc : Thread Cert.EvenInReferenceIdeal.nD Cert.EvenInReferenceIdeal.τ).loc Cert.EvenInReferenceIdeal.main_arg1) = m ((c.tc : Thread Cert.EvenInReferenceIdeal.nD Cert.EvenInReferenceIdeal.τ).loc Cert.EvenInReferenceIdeal.main_arg1))
      ∧ r.2.sem = fun _ => 0)

def quiescent_CmpIn [hCmpIn : Cert.CmpIn.Facts] : Prop :=
  ∀ (m : (ℓ : Loc Cert.CmpIn.nD Cert.CmpIn.τ Cert.CmpIn.sig) → Buf (Elt Bits) ℓ) (g : Dev Cert.CmpIn.nD → PrngReg), Pre_CmpIn m →
    θ_run (Cert.CmpIn.defs (F := Bits)) (onTc (τ := Cert.CmpIn.τ) (Cert.CmpIn.main (F := Bits))) ⟨m, fun _ => 0, g⟩ (fun r => (∀ c : Dev Cert.CmpIn.nD,
      r.2.mem ((c.tc : Thread Cert.CmpIn.nD Cert.CmpIn.τ).loc Cert.CmpIn.main_arg0) = m ((c.tc : Thread Cert.CmpIn.nD Cert.CmpIn.τ).loc Cert.CmpIn.main_arg0)
      ∧ r.2.mem ((c.tc : Thread Cert.CmpIn.nD Cert.CmpIn.τ).loc Cert.CmpIn.main_arg1) = m ((c.tc : Thread Cert.CmpIn.nD Cert.CmpIn.τ).loc Cert.CmpIn.main_arg1)
      ∧ r.2.mem ((c.tc : Thread Cert.CmpIn.nD Cert.CmpIn.τ).loc Cert.CmpIn.main_arg2) = m ((c.tc : Thread Cert.CmpIn.nD Cert.CmpIn.τ).loc Cert.CmpIn.main_arg2))
      ∧ r.2.sem = fun _ => 0)

def quiescent_CmpInIdeal [hCmpInIdeal : Cert.CmpInIdeal.Facts] : Prop :=
  ∀ (m : (ℓ : Loc Cert.CmpInIdeal.nD Cert.CmpInIdeal.τ Cert.CmpInIdeal.sig) → Buf (Elt Ideal) ℓ) (g : Dev Cert.CmpInIdeal.nD → PrngReg), Pre_CmpInIdeal m →
    θ_run (Cert.CmpInIdeal.defs (F := Ideal)) (onTc (τ := Cert.CmpInIdeal.τ) (Cert.CmpInIdeal.main (F := Ideal))) ⟨m, fun _ => 0, g⟩ (fun r => (∀ c : Dev Cert.CmpInIdeal.nD,
      r.2.mem ((c.tc : Thread Cert.CmpInIdeal.nD Cert.CmpInIdeal.τ).loc Cert.CmpInIdeal.main_arg0) = m ((c.tc : Thread Cert.CmpInIdeal.nD Cert.CmpInIdeal.τ).loc Cert.CmpInIdeal.main_arg0)
      ∧ r.2.mem ((c.tc : Thread Cert.CmpInIdeal.nD Cert.CmpInIdeal.τ).loc Cert.CmpInIdeal.main_arg1) = m ((c.tc : Thread Cert.CmpInIdeal.nD Cert.CmpInIdeal.τ).loc Cert.CmpInIdeal.main_arg1)
      ∧ r.2.mem ((c.tc : Thread Cert.CmpInIdeal.nD Cert.CmpInIdeal.τ).loc Cert.CmpInIdeal.main_arg2) = m ((c.tc : Thread Cert.CmpInIdeal.nD Cert.CmpInIdeal.τ).loc Cert.CmpInIdeal.main_arg2))
      ∧ r.2.sem = fun _ => 0)

def quiescent_CmpInReferenceIdeal [hCmpInReferenceIdeal : Cert.CmpInReferenceIdeal.Facts] : Prop :=
  ∀ (m : (ℓ : Loc Cert.CmpInReferenceIdeal.nD Cert.CmpInReferenceIdeal.τ Cert.CmpInReferenceIdeal.sig) → Buf (Elt Ideal) ℓ) (g : Dev Cert.CmpInReferenceIdeal.nD → PrngReg), Pre_CmpInReferenceIdeal m →
    θ_run (Cert.CmpInReferenceIdeal.defs (F := Ideal)) (onTc (τ := Cert.CmpInReferenceIdeal.τ) (Cert.CmpInReferenceIdeal.main (F := Ideal))) ⟨m, fun _ => 0, g⟩ (fun r => (∀ c : Dev Cert.CmpInReferenceIdeal.nD,
      r.2.mem ((c.tc : Thread Cert.CmpInReferenceIdeal.nD Cert.CmpInReferenceIdeal.τ).loc Cert.CmpInReferenceIdeal.main_arg0) = m ((c.tc : Thread Cert.CmpInReferenceIdeal.nD Cert.CmpInReferenceIdeal.τ).loc Cert.CmpInReferenceIdeal.main_arg0)
      ∧ r.2.mem ((c.tc : Thread Cert.CmpInReferenceIdeal.nD Cert.CmpInReferenceIdeal.τ).loc Cert.CmpInReferenceIdeal.main_arg1) = m ((c.tc : Thread Cert.CmpInReferenceIdeal.nD Cert.CmpInReferenceIdeal.τ).loc Cert.CmpInReferenceIdeal.main_arg1)
      ∧ r.2.mem ((c.tc : Thread Cert.CmpInReferenceIdeal.nD Cert.CmpInReferenceIdeal.τ).loc Cert.CmpInReferenceIdeal.main_arg2) = m ((c.tc : Thread Cert.CmpInReferenceIdeal.nD Cert.CmpInReferenceIdeal.τ).loc Cert.CmpInReferenceIdeal.main_arg2))
      ∧ r.2.sem = fun _ => 0)

def quiescent_CmpOut [hCmpOut : Cert.CmpOut.Facts] : Prop :=
  ∀ (m : (ℓ : Loc Cert.CmpOut.nD Cert.CmpOut.τ Cert.CmpOut.sig) → Buf (Elt Bits) ℓ) (g : Dev Cert.CmpOut.nD → PrngReg), Pre_CmpOut m →
    θ_run (Cert.CmpOut.defs (F := Bits)) (onTc (τ := Cert.CmpOut.τ) (Cert.CmpOut.main (F := Bits))) ⟨m, fun _ => 0, g⟩ (fun r => (∀ c : Dev Cert.CmpOut.nD,
      r.2.mem ((c.tc : Thread Cert.CmpOut.nD Cert.CmpOut.τ).loc Cert.CmpOut.main_arg0) = m ((c.tc : Thread Cert.CmpOut.nD Cert.CmpOut.τ).loc Cert.CmpOut.main_arg0)
      ∧ r.2.mem ((c.tc : Thread Cert.CmpOut.nD Cert.CmpOut.τ).loc Cert.CmpOut.main_arg1) = m ((c.tc : Thread Cert.CmpOut.nD Cert.CmpOut.τ).loc Cert.CmpOut.main_arg1)
      ∧ r.2.mem ((c.tc : Thread Cert.CmpOut.nD Cert.CmpOut.τ).loc Cert.CmpOut.main_arg2) = m ((c.tc : Thread Cert.CmpOut.nD Cert.CmpOut.τ).loc Cert.CmpOut.main_arg2))
      ∧ r.2.sem = fun _ => 0)

def quiescent_CmpOutIdeal [hCmpOutIdeal : Cert.CmpOutIdeal.Facts] : Prop :=
  ∀ (m : (ℓ : Loc Cert.CmpOutIdeal.nD Cert.CmpOutIdeal.τ Cert.CmpOutIdeal.sig) → Buf (Elt Ideal) ℓ) (g : Dev Cert.CmpOutIdeal.nD → PrngReg), Pre_CmpOutIdeal m →
    θ_run (Cert.CmpOutIdeal.defs (F := Ideal)) (onTc (τ := Cert.CmpOutIdeal.τ) (Cert.CmpOutIdeal.main (F := Ideal))) ⟨m, fun _ => 0, g⟩ (fun r => (∀ c : Dev Cert.CmpOutIdeal.nD,
      r.2.mem ((c.tc : Thread Cert.CmpOutIdeal.nD Cert.CmpOutIdeal.τ).loc Cert.CmpOutIdeal.main_arg0) = m ((c.tc : Thread Cert.CmpOutIdeal.nD Cert.CmpOutIdeal.τ).loc Cert.CmpOutIdeal.main_arg0)
      ∧ r.2.mem ((c.tc : Thread Cert.CmpOutIdeal.nD Cert.CmpOutIdeal.τ).loc Cert.CmpOutIdeal.main_arg1) = m ((c.tc : Thread Cert.CmpOutIdeal.nD Cert.CmpOutIdeal.τ).loc Cert.CmpOutIdeal.main_arg1)
      ∧ r.2.mem ((c.tc : Thread Cert.CmpOutIdeal.nD Cert.CmpOutIdeal.τ).loc Cert.CmpOutIdeal.main_arg2) = m ((c.tc : Thread Cert.CmpOutIdeal.nD Cert.CmpOutIdeal.τ).loc Cert.CmpOutIdeal.main_arg2))
      ∧ r.2.sem = fun _ => 0)

def quiescent_CmpOutReferenceIdeal [hCmpOutReferenceIdeal : Cert.CmpOutReferenceIdeal.Facts] : Prop :=
  ∀ (m : (ℓ : Loc Cert.CmpOutReferenceIdeal.nD Cert.CmpOutReferenceIdeal.τ Cert.CmpOutReferenceIdeal.sig) → Buf (Elt Ideal) ℓ) (g : Dev Cert.CmpOutReferenceIdeal.nD → PrngReg), Pre_CmpOutReferenceIdeal m →
    θ_run (Cert.CmpOutReferenceIdeal.defs (F := Ideal)) (onTc (τ := Cert.CmpOutReferenceIdeal.τ) (Cert.CmpOutReferenceIdeal.main (F := Ideal))) ⟨m, fun _ => 0, g⟩ (fun r => (∀ c : Dev Cert.CmpOutReferenceIdeal.nD,
      r.2.mem ((c.tc : Thread Cert.CmpOutReferenceIdeal.nD Cert.CmpOutReferenceIdeal.τ).loc Cert.CmpOutReferenceIdeal.main_arg0) = m ((c.tc : Thread Cert.CmpOutReferenceIdeal.nD Cert.CmpOutReferenceIdeal.τ).loc Cert.CmpOutReferenceIdeal.main_arg0)
      ∧ r.2.mem ((c.tc : Thread Cert.CmpOutReferenceIdeal.nD Cert.CmpOutReferenceIdeal.τ).loc Cert.CmpOutReferenceIdeal.main_arg1) = m ((c.tc : Thread Cert.CmpOutReferenceIdeal.nD Cert.CmpOutReferenceIdeal.τ).loc Cert.CmpOutReferenceIdeal.main_arg1)
      ∧ r.2.mem ((c.tc : Thread Cert.CmpOutReferenceIdeal.nD Cert.CmpOutReferenceIdeal.τ).loc Cert.CmpOutReferenceIdeal.main_arg2) = m ((c.tc : Thread Cert.CmpOutReferenceIdeal.nD Cert.CmpOutReferenceIdeal.τ).loc Cert.CmpOutReferenceIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_Cmp [hCmp : Cert.Cmp.Facts] : Prop :=
  ∀ (m : (ℓ : Loc Cert.Cmp.nD Cert.Cmp.τ Cert.Cmp.sig) → Buf (Elt Bits) ℓ) (g : Dev Cert.Cmp.nD → PrngReg), Pre_Cmp m →
    θ_run (Cert.Cmp.defs (F := Bits)) (onTc (τ := Cert.Cmp.τ) (Cert.Cmp.main (F := Bits))) ⟨m, fun _ => 0, g⟩ (fun r => (∀ c : Dev Cert.Cmp.nD,
      r.2.mem ((c.tc : Thread Cert.Cmp.nD Cert.Cmp.τ).loc Cert.Cmp.main_arg0) = m ((c.tc : Thread Cert.Cmp.nD Cert.Cmp.τ).loc Cert.Cmp.main_arg0)
      ∧ r.2.mem ((c.tc : Thread Cert.Cmp.nD Cert.Cmp.τ).loc Cert.Cmp.main_arg1) = m ((c.tc : Thread Cert.Cmp.nD Cert.Cmp.τ).loc Cert.Cmp.main_arg1)
      ∧ r.2.mem ((c.tc : Thread Cert.Cmp.nD Cert.Cmp.τ).loc Cert.Cmp.main_arg2) = m ((c.tc : Thread Cert.Cmp.nD Cert.Cmp.τ).loc Cert.Cmp.main_arg2))
      ∧ r.2.sem = fun _ => 0)

def quiescent_CmpIdeal [hCmpIdeal : Cert.CmpIdeal.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2))
      ∧ r.2.sem = fun _ => 0)

def quiescent_CmpIdeal_pre_finite_keys [hCmpIdeal : Cert.CmpIdeal.Facts] [hPre_finite_keys : Cert.Pre_finite_keys.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal_finite_keys m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2))
      ∧ r.2.sem = fun _ => 0)

def quiescent_CmpReferenceIdeal [hCmpReferenceIdeal : Cert.CmpReferenceIdeal.Facts] : Prop :=
  ∀ (m : (ℓ : Loc Cert.CmpReferenceIdeal.nD Cert.CmpReferenceIdeal.τ Cert.CmpReferenceIdeal.sig) → Buf (Elt Ideal) ℓ) (g : Dev Cert.CmpReferenceIdeal.nD → PrngReg), Pre_CmpReferenceIdeal m →
    θ_run (Cert.CmpReferenceIdeal.defs (F := Ideal)) (onTc (τ := Cert.CmpReferenceIdeal.τ) (Cert.CmpReferenceIdeal.main (F := Ideal))) ⟨m, fun _ => 0, g⟩ (fun r => (∀ c : Dev Cert.CmpReferenceIdeal.nD,
      r.2.mem ((c.tc : Thread Cert.CmpReferenceIdeal.nD Cert.CmpReferenceIdeal.τ).loc Cert.CmpReferenceIdeal.main_arg0) = m ((c.tc : Thread Cert.CmpReferenceIdeal.nD Cert.CmpReferenceIdeal.τ).loc Cert.CmpReferenceIdeal.main_arg0)
      ∧ r.2.mem ((c.tc : Thread Cert.CmpReferenceIdeal.nD Cert.CmpReferenceIdeal.τ).loc Cert.CmpReferenceIdeal.main_arg1) = m ((c.tc : Thread Cert.CmpReferenceIdeal.nD Cert.CmpReferenceIdeal.τ).loc Cert.CmpReferenceIdeal.main_arg1)
      ∧ r.2.mem ((c.tc : Thread Cert.CmpReferenceIdeal.nD Cert.CmpReferenceIdeal.τ).loc Cert.CmpReferenceIdeal.main_arg2) = m ((c.tc : Thread Cert.CmpReferenceIdeal.nD Cert.CmpReferenceIdeal.τ).loc Cert.CmpReferenceIdeal.main_arg2))
      ∧ r.2.sem = fun _ => 0)

def quiescent_CmpReferenceIdeal_pre_finite_keys [hCmpReferenceIdeal : Cert.CmpReferenceIdeal.Facts] [hPre_finite_keys : Cert.Pre_finite_keys.Facts] : Prop :=
  ∀ (m : (ℓ : Loc Cert.CmpReferenceIdeal.nD Cert.CmpReferenceIdeal.τ Cert.CmpReferenceIdeal.sig) → Buf (Elt Ideal) ℓ) (g : Dev Cert.CmpReferenceIdeal.nD → PrngReg), Pre_CmpReferenceIdeal_finite_keys m →
    θ_run (Cert.CmpReferenceIdeal.defs (F := Ideal)) (onTc (τ := Cert.CmpReferenceIdeal.τ) (Cert.CmpReferenceIdeal.main (F := Ideal))) ⟨m, fun _ => 0, g⟩ (fun r => (∀ c : Dev Cert.CmpReferenceIdeal.nD,
      r.2.mem ((c.tc : Thread Cert.CmpReferenceIdeal.nD Cert.CmpReferenceIdeal.τ).loc Cert.CmpReferenceIdeal.main_arg0) = m ((c.tc : Thread Cert.CmpReferenceIdeal.nD Cert.CmpReferenceIdeal.τ).loc Cert.CmpReferenceIdeal.main_arg0)
      ∧ r.2.mem ((c.tc : Thread Cert.CmpReferenceIdeal.nD Cert.CmpReferenceIdeal.τ).loc Cert.CmpReferenceIdeal.main_arg1) = m ((c.tc : Thread Cert.CmpReferenceIdeal.nD Cert.CmpReferenceIdeal.τ).loc Cert.CmpReferenceIdeal.main_arg1)
      ∧ r.2.mem ((c.tc : Thread Cert.CmpReferenceIdeal.nD Cert.CmpReferenceIdeal.τ).loc Cert.CmpReferenceIdeal.main_arg2) = m ((c.tc : Thread Cert.CmpReferenceIdeal.nD Cert.CmpReferenceIdeal.τ).loc Cert.CmpReferenceIdeal.main_arg2))
      ∧ r.2.sem = fun _ => 0)

def quiescent_Dil [hDil : Cert.Dil.Facts] : Prop :=
  ∀ (m : (ℓ : Loc Cert.Dil.nD Cert.Dil.τ Cert.Dil.sig) → Buf (Elt Bits) ℓ) (g : Dev Cert.Dil.nD → PrngReg), Pre_Dil m →
    θ_run (Cert.Dil.defs (F := Bits)) (onTc (τ := Cert.Dil.τ) (Cert.Dil.main (F := Bits))) ⟨m, fun _ => 0, g⟩ (fun r => (∀ c : Dev Cert.Dil.nD,
      r.2.mem ((c.tc : Thread Cert.Dil.nD Cert.Dil.τ).loc Cert.Dil.main_arg0) = m ((c.tc : Thread Cert.Dil.nD Cert.Dil.τ).loc Cert.Dil.main_arg0))
      ∧ r.2.sem = fun _ => 0)

def quiescent_DilIdeal [hDilIdeal : Cert.DilIdeal.Facts] : Prop :=
  ∀ (m : (ℓ : Loc Cert.DilIdeal.nD Cert.DilIdeal.τ Cert.DilIdeal.sig) → Buf (Elt Ideal) ℓ) (g : Dev Cert.DilIdeal.nD → PrngReg), Pre_DilIdeal m →
    θ_run (Cert.DilIdeal.defs (F := Ideal)) (onTc (τ := Cert.DilIdeal.τ) (Cert.DilIdeal.main (F := Ideal))) ⟨m, fun _ => 0, g⟩ (fun r => (∀ c : Dev Cert.DilIdeal.nD,
      r.2.mem ((c.tc : Thread Cert.DilIdeal.nD Cert.DilIdeal.τ).loc Cert.DilIdeal.main_arg0) = m ((c.tc : Thread Cert.DilIdeal.nD Cert.DilIdeal.τ).loc Cert.DilIdeal.main_arg0))
      ∧ r.2.sem = fun _ => 0)

def quiescent_DilIdeal_pre_finite [hDilIdeal : Cert.DilIdeal.Facts] [hPre_finite : Cert.Pre_finite.Facts] : Prop :=
  ∀ (m : (ℓ : Loc Cert.DilIdeal.nD Cert.DilIdeal.τ Cert.DilIdeal.sig) → Buf (Elt Ideal) ℓ) (g : Dev Cert.DilIdeal.nD → PrngReg), Pre_DilIdeal_finite m →
    θ_run (Cert.DilIdeal.defs (F := Ideal)) (onTc (τ := Cert.DilIdeal.τ) (Cert.DilIdeal.main (F := Ideal))) ⟨m, fun _ => 0, g⟩ (fun r => (∀ c : Dev Cert.DilIdeal.nD,
      r.2.mem ((c.tc : Thread Cert.DilIdeal.nD Cert.DilIdeal.τ).loc Cert.DilIdeal.main_arg0) = m ((c.tc : Thread Cert.DilIdeal.nD Cert.DilIdeal.τ).loc Cert.DilIdeal.main_arg0))
      ∧ r.2.sem = fun _ => 0)

def quiescent_DilReferenceIdeal [hDilReferenceIdeal : Cert.DilReferenceIdeal.Facts] : Prop :=
  ∀ (m : (ℓ : Loc Cert.DilReferenceIdeal.nD Cert.DilReferenceIdeal.τ Cert.DilReferenceIdeal.sig) → Buf (Elt Ideal) ℓ) (g : Dev Cert.DilReferenceIdeal.nD → PrngReg), Pre_DilReferenceIdeal m →
    θ_run (Cert.DilReferenceIdeal.defs (F := Ideal)) (onTc (τ := Cert.DilReferenceIdeal.τ) (Cert.DilReferenceIdeal.main (F := Ideal))) ⟨m, fun _ => 0, g⟩ (fun r => (∀ c : Dev Cert.DilReferenceIdeal.nD,
      r.2.mem ((c.tc : Thread Cert.DilReferenceIdeal.nD Cert.DilReferenceIdeal.τ).loc Cert.DilReferenceIdeal.main_arg0) = m ((c.tc : Thread Cert.DilReferenceIdeal.nD Cert.DilReferenceIdeal.τ).loc Cert.DilReferenceIdeal.main_arg0))
      ∧ r.2.sem = fun _ => 0)

def quiescent_DilReferenceIdeal_pre_finite [hDilReferenceIdeal : Cert.DilReferenceIdeal.Facts] [hPre_finite : Cert.Pre_finite.Facts] : Prop :=
  ∀ (m : (ℓ : Loc Cert.DilReferenceIdeal.nD Cert.DilReferenceIdeal.τ Cert.DilReferenceIdeal.sig) → Buf (Elt Ideal) ℓ) (g : Dev Cert.DilReferenceIdeal.nD → PrngReg), Pre_DilReferenceIdeal_finite m →
    θ_run (Cert.DilReferenceIdeal.defs (F := Ideal)) (onTc (τ := Cert.DilReferenceIdeal.τ) (Cert.DilReferenceIdeal.main (F := Ideal))) ⟨m, fun _ => 0, g⟩ (fun r => (∀ c : Dev Cert.DilReferenceIdeal.nD,
      r.2.mem ((c.tc : Thread Cert.DilReferenceIdeal.nD Cert.DilReferenceIdeal.τ).loc Cert.DilReferenceIdeal.main_arg0) = m ((c.tc : Thread Cert.DilReferenceIdeal.nD Cert.DilReferenceIdeal.τ).loc Cert.DilReferenceIdeal.main_arg0))
      ∧ r.2.sem = fun _ => 0)

def quiescent_Band4 [hBand4 : Cert.Band4.Facts] : Prop :=
  ∀ (m : (ℓ : Loc Cert.Band4.nD Cert.Band4.τ Cert.Band4.sig) → Buf (Elt Bits) ℓ) (g : Dev Cert.Band4.nD → PrngReg), Pre_Band4 m →
    θ_run (Cert.Band4.defs (F := Bits)) (onTc (τ := Cert.Band4.τ) (Cert.Band4.main (F := Bits))) ⟨m, fun _ => 0, g⟩ (fun r => (∀ c : Dev Cert.Band4.nD,
      r.2.mem ((c.tc : Thread Cert.Band4.nD Cert.Band4.τ).loc Cert.Band4.main_arg0) = m ((c.tc : Thread Cert.Band4.nD Cert.Band4.τ).loc Cert.Band4.main_arg0))
      ∧ r.2.sem = fun _ => 0)

def quiescent_Band4Ideal [hBand4Ideal : Cert.Band4Ideal.Facts] : Prop :=
  ∀ (m : (ℓ : Loc Cert.Band4Ideal.nD Cert.Band4Ideal.τ Cert.Band4Ideal.sig) → Buf (Elt Ideal) ℓ) (g : Dev Cert.Band4Ideal.nD → PrngReg), Pre_Band4Ideal m →
    θ_run (Cert.Band4Ideal.defs (F := Ideal)) (onTc (τ := Cert.Band4Ideal.τ) (Cert.Band4Ideal.main (F := Ideal))) ⟨m, fun _ => 0, g⟩ (fun r => (∀ c : Dev Cert.Band4Ideal.nD,
      r.2.mem ((c.tc : Thread Cert.Band4Ideal.nD Cert.Band4Ideal.τ).loc Cert.Band4Ideal.main_arg0) = m ((c.tc : Thread Cert.Band4Ideal.nD Cert.Band4Ideal.τ).loc Cert.Band4Ideal.main_arg0))
      ∧ r.2.sem = fun _ => 0)

def quiescent_Band4Ideal_pre_finite [hBand4Ideal : Cert.Band4Ideal.Facts] [hPre_finite : Cert.Pre_finite.Facts] : Prop :=
  ∀ (m : (ℓ : Loc Cert.Band4Ideal.nD Cert.Band4Ideal.τ Cert.Band4Ideal.sig) → Buf (Elt Ideal) ℓ) (g : Dev Cert.Band4Ideal.nD → PrngReg), Pre_Band4Ideal_finite m →
    θ_run (Cert.Band4Ideal.defs (F := Ideal)) (onTc (τ := Cert.Band4Ideal.τ) (Cert.Band4Ideal.main (F := Ideal))) ⟨m, fun _ => 0, g⟩ (fun r => (∀ c : Dev Cert.Band4Ideal.nD,
      r.2.mem ((c.tc : Thread Cert.Band4Ideal.nD Cert.Band4Ideal.τ).loc Cert.Band4Ideal.main_arg0) = m ((c.tc : Thread Cert.Band4Ideal.nD Cert.Band4Ideal.τ).loc Cert.Band4Ideal.main_arg0))
      ∧ r.2.sem = fun _ => 0)

def quiescent_Band4ReferenceIdeal [hBand4ReferenceIdeal : Cert.Band4ReferenceIdeal.Facts] : Prop :=
  ∀ (m : (ℓ : Loc Cert.Band4ReferenceIdeal.nD Cert.Band4ReferenceIdeal.τ Cert.Band4ReferenceIdeal.sig) → Buf (Elt Ideal) ℓ) (g : Dev Cert.Band4ReferenceIdeal.nD → PrngReg), Pre_Band4ReferenceIdeal m →
    θ_run (Cert.Band4ReferenceIdeal.defs (F := Ideal)) (onTc (τ := Cert.Band4ReferenceIdeal.τ) (Cert.Band4ReferenceIdeal.main (F := Ideal))) ⟨m, fun _ => 0, g⟩ (fun r => (∀ c : Dev Cert.Band4ReferenceIdeal.nD,
      r.2.mem ((c.tc : Thread Cert.Band4ReferenceIdeal.nD Cert.Band4ReferenceIdeal.τ).loc Cert.Band4ReferenceIdeal.main_arg0) = m ((c.tc : Thread Cert.Band4ReferenceIdeal.nD Cert.Band4ReferenceIdeal.τ).loc Cert.Band4ReferenceIdeal.main_arg0))
      ∧ r.2.sem = fun _ => 0)

def quiescent_Band4ReferenceIdeal_pre_finite [hBand4ReferenceIdeal : Cert.Band4ReferenceIdeal.Facts] [hPre_finite : Cert.Pre_finite.Facts] : Prop :=
  ∀ (m : (ℓ : Loc Cert.Band4ReferenceIdeal.nD Cert.Band4ReferenceIdeal.τ Cert.Band4ReferenceIdeal.sig) → Buf (Elt Ideal) ℓ) (g : Dev Cert.Band4ReferenceIdeal.nD → PrngReg), Pre_Band4ReferenceIdeal_finite m →
    θ_run (Cert.Band4ReferenceIdeal.defs (F := Ideal)) (onTc (τ := Cert.Band4ReferenceIdeal.τ) (Cert.Band4ReferenceIdeal.main (F := Ideal))) ⟨m, fun _ => 0, g⟩ (fun r => (∀ c : Dev Cert.Band4ReferenceIdeal.nD,
      r.2.mem ((c.tc : Thread Cert.Band4ReferenceIdeal.nD Cert.Band4ReferenceIdeal.τ).loc Cert.Band4ReferenceIdeal.main_arg0) = m ((c.tc : Thread Cert.Band4ReferenceIdeal.nD Cert.Band4ReferenceIdeal.τ).loc Cert.Band4ReferenceIdeal.main_arg0))
      ∧ r.2.sem = fun _ => 0)

def quiescent_Band16 [hBand16 : Cert.Band16.Facts] : Prop :=
  ∀ (m : (ℓ : Loc Cert.Band16.nD Cert.Band16.τ Cert.Band16.sig) → Buf (Elt Bits) ℓ) (g : Dev Cert.Band16.nD → PrngReg), Pre_Band16 m →
    θ_run (Cert.Band16.defs (F := Bits)) (onTc (τ := Cert.Band16.τ) (Cert.Band16.main (F := Bits))) ⟨m, fun _ => 0, g⟩ (fun r => (∀ c : Dev Cert.Band16.nD,
      r.2.mem ((c.tc : Thread Cert.Band16.nD Cert.Band16.τ).loc Cert.Band16.main_arg0) = m ((c.tc : Thread Cert.Band16.nD Cert.Band16.τ).loc Cert.Band16.main_arg0))
      ∧ r.2.sem = fun _ => 0)

def quiescent_Band16Ideal [hBand16Ideal : Cert.Band16Ideal.Facts] : Prop :=
  ∀ (m : (ℓ : Loc Cert.Band16Ideal.nD Cert.Band16Ideal.τ Cert.Band16Ideal.sig) → Buf (Elt Ideal) ℓ) (g : Dev Cert.Band16Ideal.nD → PrngReg), Pre_Band16Ideal m →
    θ_run (Cert.Band16Ideal.defs (F := Ideal)) (onTc (τ := Cert.Band16Ideal.τ) (Cert.Band16Ideal.main (F := Ideal))) ⟨m, fun _ => 0, g⟩ (fun r => (∀ c : Dev Cert.Band16Ideal.nD,
      r.2.mem ((c.tc : Thread Cert.Band16Ideal.nD Cert.Band16Ideal.τ).loc Cert.Band16Ideal.main_arg0) = m ((c.tc : Thread Cert.Band16Ideal.nD Cert.Band16Ideal.τ).loc Cert.Band16Ideal.main_arg0))
      ∧ r.2.sem = fun _ => 0)

def quiescent_Band16Ideal_pre_finite [hBand16Ideal : Cert.Band16Ideal.Facts] [hPre_finite : Cert.Pre_finite.Facts] : Prop :=
  ∀ (m : (ℓ : Loc Cert.Band16Ideal.nD Cert.Band16Ideal.τ Cert.Band16Ideal.sig) → Buf (Elt Ideal) ℓ) (g : Dev Cert.Band16Ideal.nD → PrngReg), Pre_Band16Ideal_finite m →
    θ_run (Cert.Band16Ideal.defs (F := Ideal)) (onTc (τ := Cert.Band16Ideal.τ) (Cert.Band16Ideal.main (F := Ideal))) ⟨m, fun _ => 0, g⟩ (fun r => (∀ c : Dev Cert.Band16Ideal.nD,
      r.2.mem ((c.tc : Thread Cert.Band16Ideal.nD Cert.Band16Ideal.τ).loc Cert.Band16Ideal.main_arg0) = m ((c.tc : Thread Cert.Band16Ideal.nD Cert.Band16Ideal.τ).loc Cert.Band16Ideal.main_arg0))
      ∧ r.2.sem = fun _ => 0)

def quiescent_Band16ReferenceIdeal [hBand16ReferenceIdeal : Cert.Band16ReferenceIdeal.Facts] : Prop :=
  ∀ (m : (ℓ : Loc Cert.Band16ReferenceIdeal.nD Cert.Band16ReferenceIdeal.τ Cert.Band16ReferenceIdeal.sig) → Buf (Elt Ideal) ℓ) (g : Dev Cert.Band16ReferenceIdeal.nD → PrngReg), Pre_Band16ReferenceIdeal m →
    θ_run (Cert.Band16ReferenceIdeal.defs (F := Ideal)) (onTc (τ := Cert.Band16ReferenceIdeal.τ) (Cert.Band16ReferenceIdeal.main (F := Ideal))) ⟨m, fun _ => 0, g⟩ (fun r => (∀ c : Dev Cert.Band16ReferenceIdeal.nD,
      r.2.mem ((c.tc : Thread Cert.Band16ReferenceIdeal.nD Cert.Band16ReferenceIdeal.τ).loc Cert.Band16ReferenceIdeal.main_arg0) = m ((c.tc : Thread Cert.Band16ReferenceIdeal.nD Cert.Band16ReferenceIdeal.τ).loc Cert.Band16ReferenceIdeal.main_arg0))
      ∧ r.2.sem = fun _ => 0)

def quiescent_Band16ReferenceIdeal_pre_finite [hBand16ReferenceIdeal : Cert.Band16ReferenceIdeal.Facts] [hPre_finite : Cert.Pre_finite.Facts] : Prop :=
  ∀ (m : (ℓ : Loc Cert.Band16ReferenceIdeal.nD Cert.Band16ReferenceIdeal.τ Cert.Band16ReferenceIdeal.sig) → Buf (Elt Ideal) ℓ) (g : Dev Cert.Band16ReferenceIdeal.nD → PrngReg), Pre_Band16ReferenceIdeal_finite m →
    θ_run (Cert.Band16ReferenceIdeal.defs (F := Ideal)) (onTc (τ := Cert.Band16ReferenceIdeal.τ) (Cert.Band16ReferenceIdeal.main (F := Ideal))) ⟨m, fun _ => 0, g⟩ (fun r => (∀ c : Dev Cert.Band16ReferenceIdeal.nD,
      r.2.mem ((c.tc : Thread Cert.Band16ReferenceIdeal.nD Cert.Band16ReferenceIdeal.τ).loc Cert.Band16ReferenceIdeal.main_arg0) = m ((c.tc : Thread Cert.Band16ReferenceIdeal.nD Cert.Band16ReferenceIdeal.τ).loc Cert.Band16ReferenceIdeal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v7)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v7) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v53) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v4) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1))

def preserves_OddIn_OddInIdeal : Prop :=
  True

def algebraic_OddInIdeal_OddInReferenceIdeal [hOddInIdeal : Cert.OddInIdeal.Facts] [hOddInReferenceIdeal : Cert.OddInReferenceIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInReferenceIdeal.nD Cert.OddInReferenceIdeal.τ Cert.OddInReferenceIdeal.sig) → Buf (Elt Ideal) ℓ) (g' : Dev Cert.OddInReferenceIdeal.nD → PrngReg), Pre_OddInIdeal m →
    (∀ c : Dev Cert.OddInIdeal.nD,
      m' ((c.tc : Thread Cert.OddInReferenceIdeal.nD Cert.OddInReferenceIdeal.τ).loc Cert.OddInReferenceIdeal.main_arg0) = m ((c.tc : Thread Cert.OddInIdeal.nD Cert.OddInIdeal.τ).loc Cert.OddInIdeal.main_arg0)
      ∧ m' ((c.tc : Thread Cert.OddInReferenceIdeal.nD Cert.OddInReferenceIdeal.τ).loc Cert.OddInReferenceIdeal.main_arg1) = m ((c.tc : Thread Cert.OddInIdeal.nD Cert.OddInIdeal.τ).loc Cert.OddInIdeal.main_arg1)) →
    ∃ (v0 : (c : Dev Cert.OddInIdeal.nD) → Buf (Elt Ideal) ((c.tc : Thread Cert.OddInIdeal.nD Cert.OddInIdeal.τ).loc Cert.OddInIdeal.main_v80)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v80) = v0 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ θ_run (Cert.OddInReferenceIdeal.defs (F := Ideal)) (onTc (τ := Cert.OddInReferenceIdeal.τ) (Cert.OddInReferenceIdeal.main (F := Ideal))) ⟨m', fun _ => 0, g'⟩ (fun r => ∀ c : Dev Cert.OddInReferenceIdeal.nD,
          r.2.mem ((c.tc : Thread Cert.OddInReferenceIdeal.nD Cert.OddInReferenceIdeal.τ).loc Cert.OddInReferenceIdeal.main_v77) = v0 c
          ∧ r.2.mem ((c.tc : Thread Cert.OddInReferenceIdeal.nD Cert.OddInReferenceIdeal.τ).loc Cert.OddInReferenceIdeal.main_arg0) = m' ((c.tc : Thread Cert.OddInReferenceIdeal.nD Cert.OddInReferenceIdeal.τ).loc Cert.OddInReferenceIdeal.main_arg0)
          ∧ r.2.mem ((c.tc : Thread Cert.OddInReferenceIdeal.nD Cert.OddInReferenceIdeal.τ).loc Cert.OddInReferenceIdeal.main_arg1) = m' ((c.tc : Thread Cert.OddInReferenceIdeal.nD Cert.OddInReferenceIdeal.τ).loc Cert.OddInReferenceIdeal.main_arg1))

def preserves_EvenIn_EvenInIdeal : Prop :=
  True

def algebraic_EvenInIdeal_EvenInReferenceIdeal [hEvenInIdeal : Cert.EvenInIdeal.Facts] [hEvenInReferenceIdeal : Cert.EvenInReferenceIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInReferenceIdeal.nD Cert.EvenInReferenceIdeal.τ Cert.EvenInReferenceIdeal.sig) → Buf (Elt Ideal) ℓ) (g' : Dev Cert.EvenInReferenceIdeal.nD → PrngReg), Pre_EvenInIdeal m →
    (∀ c : Dev Cert.EvenInIdeal.nD,
      m' ((c.tc : Thread Cert.EvenInReferenceIdeal.nD Cert.EvenInReferenceIdeal.τ).loc Cert.EvenInReferenceIdeal.main_arg0) = m ((c.tc : Thread Cert.EvenInIdeal.nD Cert.EvenInIdeal.τ).loc Cert.EvenInIdeal.main_arg0)
      ∧ m' ((c.tc : Thread Cert.EvenInReferenceIdeal.nD Cert.EvenInReferenceIdeal.τ).loc Cert.EvenInReferenceIdeal.main_arg1) = m ((c.tc : Thread Cert.EvenInIdeal.nD Cert.EvenInIdeal.τ).loc Cert.EvenInIdeal.main_arg1)) →
    ∃ (v0 : (c : Dev Cert.EvenInIdeal.nD) → Buf (Elt Ideal) ((c.tc : Thread Cert.EvenInIdeal.nD Cert.EvenInIdeal.τ).loc Cert.EvenInIdeal.main_v80)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v80) = v0 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ θ_run (Cert.EvenInReferenceIdeal.defs (F := Ideal)) (onTc (τ := Cert.EvenInReferenceIdeal.τ) (Cert.EvenInReferenceIdeal.main (F := Ideal))) ⟨m', fun _ => 0, g'⟩ (fun r => ∀ c : Dev Cert.EvenInReferenceIdeal.nD,
          r.2.mem ((c.tc : Thread Cert.EvenInReferenceIdeal.nD Cert.EvenInReferenceIdeal.τ).loc Cert.EvenInReferenceIdeal.main_v184) = v0 c
          ∧ r.2.mem ((c.tc : Thread Cert.EvenInReferenceIdeal.nD Cert.EvenInReferenceIdeal.τ).loc Cert.EvenInReferenceIdeal.main_arg0) = m' ((c.tc : Thread Cert.EvenInReferenceIdeal.nD Cert.EvenInReferenceIdeal.τ).loc Cert.EvenInReferenceIdeal.main_arg0)
          ∧ r.2.mem ((c.tc : Thread Cert.EvenInReferenceIdeal.nD Cert.EvenInReferenceIdeal.τ).loc Cert.EvenInReferenceIdeal.main_arg1) = m' ((c.tc : Thread Cert.EvenInReferenceIdeal.nD Cert.EvenInReferenceIdeal.τ).loc Cert.EvenInReferenceIdeal.main_arg1))

def preserves_CmpIn_CmpInIdeal : Prop :=
  True

def algebraic_CmpInIdeal_CmpInReferenceIdeal [hCmpInIdeal : Cert.CmpInIdeal.Facts] [hCmpInReferenceIdeal : Cert.CmpInReferenceIdeal.Facts] : Prop :=
  ∀ (m : (ℓ : Loc Cert.CmpInIdeal.nD Cert.CmpInIdeal.τ Cert.CmpInIdeal.sig) → Buf (Elt Ideal) ℓ) (g : Dev Cert.CmpInIdeal.nD → PrngReg)
    (m' : (ℓ : Loc Cert.CmpInReferenceIdeal.nD Cert.CmpInReferenceIdeal.τ Cert.CmpInReferenceIdeal.sig) → Buf (Elt Ideal) ℓ) (g' : Dev Cert.CmpInReferenceIdeal.nD → PrngReg), Pre_CmpInIdeal m →
    (∀ c : Dev Cert.CmpInIdeal.nD,
      m' ((c.tc : Thread Cert.CmpInReferenceIdeal.nD Cert.CmpInReferenceIdeal.τ).loc Cert.CmpInReferenceIdeal.main_arg0) = m ((c.tc : Thread Cert.CmpInIdeal.nD Cert.CmpInIdeal.τ).loc Cert.CmpInIdeal.main_arg0)
      ∧ m' ((c.tc : Thread Cert.CmpInReferenceIdeal.nD Cert.CmpInReferenceIdeal.τ).loc Cert.CmpInReferenceIdeal.main_arg1) = m ((c.tc : Thread Cert.CmpInIdeal.nD Cert.CmpInIdeal.τ).loc Cert.CmpInIdeal.main_arg1)
      ∧ m' ((c.tc : Thread Cert.CmpInReferenceIdeal.nD Cert.CmpInReferenceIdeal.τ).loc Cert.CmpInReferenceIdeal.main_arg2) = m ((c.tc : Thread Cert.CmpInIdeal.nD Cert.CmpInIdeal.τ).loc Cert.CmpInIdeal.main_arg2)) →
    ∃ (v0 : (c : Dev Cert.CmpInIdeal.nD) → Buf (Elt Ideal) ((c.tc : Thread Cert.CmpInIdeal.nD Cert.CmpInIdeal.τ).loc Cert.CmpInIdeal.main_v1)),
      θ_run (Cert.CmpInIdeal.defs (F := Ideal)) (onTc (τ := Cert.CmpInIdeal.τ) (Cert.CmpInIdeal.main (F := Ideal))) ⟨m, fun _ => 0, g⟩ (fun r => ∀ c : Dev Cert.CmpInIdeal.nD,
          r.2.mem ((c.tc : Thread Cert.CmpInIdeal.nD Cert.CmpInIdeal.τ).loc Cert.CmpInIdeal.main_v1) = v0 c
          ∧ r.2.mem ((c.tc : Thread Cert.CmpInIdeal.nD Cert.CmpInIdeal.τ).loc Cert.CmpInIdeal.main_arg0) = m ((c.tc : Thread Cert.CmpInIdeal.nD Cert.CmpInIdeal.τ).loc Cert.CmpInIdeal.main_arg0)
          ∧ r.2.mem ((c.tc : Thread Cert.CmpInIdeal.nD Cert.CmpInIdeal.τ).loc Cert.CmpInIdeal.main_arg1) = m ((c.tc : Thread Cert.CmpInIdeal.nD Cert.CmpInIdeal.τ).loc Cert.CmpInIdeal.main_arg1)
          ∧ r.2.mem ((c.tc : Thread Cert.CmpInIdeal.nD Cert.CmpInIdeal.τ).loc Cert.CmpInIdeal.main_arg2) = m ((c.tc : Thread Cert.CmpInIdeal.nD Cert.CmpInIdeal.τ).loc Cert.CmpInIdeal.main_arg2))
      ∧ θ_run (Cert.CmpInReferenceIdeal.defs (F := Ideal)) (onTc (τ := Cert.CmpInReferenceIdeal.τ) (Cert.CmpInReferenceIdeal.main (F := Ideal))) ⟨m', fun _ => 0, g'⟩ (fun r => ∀ c : Dev Cert.CmpInReferenceIdeal.nD,
          r.2.mem ((c.tc : Thread Cert.CmpInReferenceIdeal.nD Cert.CmpInReferenceIdeal.τ).loc Cert.CmpInReferenceIdeal.main_v19) = v0 c
          ∧ r.2.mem ((c.tc : Thread Cert.CmpInReferenceIdeal.nD Cert.CmpInReferenceIdeal.τ).loc Cert.CmpInReferenceIdeal.main_arg0) = m' ((c.tc : Thread Cert.CmpInReferenceIdeal.nD Cert.CmpInReferenceIdeal.τ).loc Cert.CmpInReferenceIdeal.main_arg0)
          ∧ r.2.mem ((c.tc : Thread Cert.CmpInReferenceIdeal.nD Cert.CmpInReferenceIdeal.τ).loc Cert.CmpInReferenceIdeal.main_arg1) = m' ((c.tc : Thread Cert.CmpInReferenceIdeal.nD Cert.CmpInReferenceIdeal.τ).loc Cert.CmpInReferenceIdeal.main_arg1)
          ∧ r.2.mem ((c.tc : Thread Cert.CmpInReferenceIdeal.nD Cert.CmpInReferenceIdeal.τ).loc Cert.CmpInReferenceIdeal.main_arg2) = m' ((c.tc : Thread Cert.CmpInReferenceIdeal.nD Cert.CmpInReferenceIdeal.τ).loc Cert.CmpInReferenceIdeal.main_arg2))

def preserves_CmpOut_CmpOutIdeal : Prop :=
  True

def algebraic_CmpOutIdeal_CmpOutReferenceIdeal [hCmpOutIdeal : Cert.CmpOutIdeal.Facts] [hCmpOutReferenceIdeal : Cert.CmpOutReferenceIdeal.Facts] : Prop :=
  ∀ (m : (ℓ : Loc Cert.CmpOutIdeal.nD Cert.CmpOutIdeal.τ Cert.CmpOutIdeal.sig) → Buf (Elt Ideal) ℓ) (g : Dev Cert.CmpOutIdeal.nD → PrngReg)
    (m' : (ℓ : Loc Cert.CmpOutReferenceIdeal.nD Cert.CmpOutReferenceIdeal.τ Cert.CmpOutReferenceIdeal.sig) → Buf (Elt Ideal) ℓ) (g' : Dev Cert.CmpOutReferenceIdeal.nD → PrngReg), Pre_CmpOutIdeal m →
    (∀ c : Dev Cert.CmpOutIdeal.nD,
      m' ((c.tc : Thread Cert.CmpOutReferenceIdeal.nD Cert.CmpOutReferenceIdeal.τ).loc Cert.CmpOutReferenceIdeal.main_arg0) = m ((c.tc : Thread Cert.CmpOutIdeal.nD Cert.CmpOutIdeal.τ).loc Cert.CmpOutIdeal.main_arg0)
      ∧ m' ((c.tc : Thread Cert.CmpOutReferenceIdeal.nD Cert.CmpOutReferenceIdeal.τ).loc Cert.CmpOutReferenceIdeal.main_arg1) = m ((c.tc : Thread Cert.CmpOutIdeal.nD Cert.CmpOutIdeal.τ).loc Cert.CmpOutIdeal.main_arg1)
      ∧ m' ((c.tc : Thread Cert.CmpOutReferenceIdeal.nD Cert.CmpOutReferenceIdeal.τ).loc Cert.CmpOutReferenceIdeal.main_arg2) = m ((c.tc : Thread Cert.CmpOutIdeal.nD Cert.CmpOutIdeal.τ).loc Cert.CmpOutIdeal.main_arg2)) →
    ∃ (v0 : (c : Dev Cert.CmpOutIdeal.nD) → Buf (Elt Ideal) ((c.tc : Thread Cert.CmpOutIdeal.nD Cert.CmpOutIdeal.τ).loc Cert.CmpOutIdeal.main_v1)),
      θ_run (Cert.CmpOutIdeal.defs (F := Ideal)) (onTc (τ := Cert.CmpOutIdeal.τ) (Cert.CmpOutIdeal.main (F := Ideal))) ⟨m, fun _ => 0, g⟩ (fun r => ∀ c : Dev Cert.CmpOutIdeal.nD,
          r.2.mem ((c.tc : Thread Cert.CmpOutIdeal.nD Cert.CmpOutIdeal.τ).loc Cert.CmpOutIdeal.main_v1) = v0 c
          ∧ r.2.mem ((c.tc : Thread Cert.CmpOutIdeal.nD Cert.CmpOutIdeal.τ).loc Cert.CmpOutIdeal.main_arg0) = m ((c.tc : Thread Cert.CmpOutIdeal.nD Cert.CmpOutIdeal.τ).loc Cert.CmpOutIdeal.main_arg0)
          ∧ r.2.mem ((c.tc : Thread Cert.CmpOutIdeal.nD Cert.CmpOutIdeal.τ).loc Cert.CmpOutIdeal.main_arg1) = m ((c.tc : Thread Cert.CmpOutIdeal.nD Cert.CmpOutIdeal.τ).loc Cert.CmpOutIdeal.main_arg1)
          ∧ r.2.mem ((c.tc : Thread Cert.CmpOutIdeal.nD Cert.CmpOutIdeal.τ).loc Cert.CmpOutIdeal.main_arg2) = m ((c.tc : Thread Cert.CmpOutIdeal.nD Cert.CmpOutIdeal.τ).loc Cert.CmpOutIdeal.main_arg2))
      ∧ θ_run (Cert.CmpOutReferenceIdeal.defs (F := Ideal)) (onTc (τ := Cert.CmpOutReferenceIdeal.τ) (Cert.CmpOutReferenceIdeal.main (F := Ideal))) ⟨m', fun _ => 0, g'⟩ (fun r => ∀ c : Dev Cert.CmpOutReferenceIdeal.nD,
          r.2.mem ((c.tc : Thread Cert.CmpOutReferenceIdeal.nD Cert.CmpOutReferenceIdeal.τ).loc Cert.CmpOutReferenceIdeal.main_v6) = v0 c
          ∧ r.2.mem ((c.tc : Thread Cert.CmpOutReferenceIdeal.nD Cert.CmpOutReferenceIdeal.τ).loc Cert.CmpOutReferenceIdeal.main_arg0) = m' ((c.tc : Thread Cert.CmpOutReferenceIdeal.nD Cert.CmpOutReferenceIdeal.τ).loc Cert.CmpOutReferenceIdeal.main_arg0)
          ∧ r.2.mem ((c.tc : Thread Cert.CmpOutReferenceIdeal.nD Cert.CmpOutReferenceIdeal.τ).loc Cert.CmpOutReferenceIdeal.main_arg1) = m' ((c.tc : Thread Cert.CmpOutReferenceIdeal.nD Cert.CmpOutReferenceIdeal.τ).loc Cert.CmpOutReferenceIdeal.main_arg1)
          ∧ r.2.mem ((c.tc : Thread Cert.CmpOutReferenceIdeal.nD Cert.CmpOutReferenceIdeal.τ).loc Cert.CmpOutReferenceIdeal.main_arg2) = m' ((c.tc : Thread Cert.CmpOutReferenceIdeal.nD Cert.CmpOutReferenceIdeal.τ).loc Cert.CmpOutReferenceIdeal.main_arg2))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v2_0)) (v1 : (c : Dev Cert.NormIdeal.nD) → Buf (Elt Ideal) ((c.tc : Thread Cert.NormIdeal.nD Cert.NormIdeal.τ).loc Cert.NormIdeal.main_v2_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2_0) = v0 c
          ∧ r.2.mem ((c.tc : Thread Cert.NormIdeal.nD Cert.NormIdeal.τ).loc Cert.NormIdeal.main_v2_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v26) = v0 c
          ∧ r.2.mem ((c.tc : Thread Cert.NormReferenceIdeal.nD Cert.NormReferenceIdeal.τ).loc Cert.NormReferenceIdeal.main_v27) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_Cmp_CmpIdeal : Prop :=
  IdealRules.named_const.Statement Cert.CmpIdeal.κ "mask" .f32 0xF149F2CA#32 ⊥

def algebraic_CmpIdeal_CmpReferenceIdeal_pre_finite_keys [hCmpIdeal : Cert.CmpIdeal.Facts] [hCmpReferenceIdeal : Cert.CmpReferenceIdeal.Facts] [hPre_finite_keys : Cert.Pre_finite_keys.Facts] : Prop :=
  ∀ (m : (ℓ : Loc Cert.CmpIdeal.nD Cert.CmpIdeal.τ Cert.CmpIdeal.sig) → Buf (Elt Ideal) ℓ) (g : Dev Cert.CmpIdeal.nD → PrngReg)
    (m' : (ℓ : Loc Cert.CmpReferenceIdeal.nD Cert.CmpReferenceIdeal.τ Cert.CmpReferenceIdeal.sig) → Buf (Elt Ideal) ℓ) (g' : Dev Cert.CmpReferenceIdeal.nD → PrngReg), Pre_CmpIdeal_finite_keys m →
    (∀ c : Dev Cert.CmpIdeal.nD,
      m' ((c.tc : Thread Cert.CmpReferenceIdeal.nD Cert.CmpReferenceIdeal.τ).loc Cert.CmpReferenceIdeal.main_arg0) = m ((c.tc : Thread Cert.CmpIdeal.nD Cert.CmpIdeal.τ).loc Cert.CmpIdeal.main_arg0)
      ∧ m' ((c.tc : Thread Cert.CmpReferenceIdeal.nD Cert.CmpReferenceIdeal.τ).loc Cert.CmpReferenceIdeal.main_arg1) = m ((c.tc : Thread Cert.CmpIdeal.nD Cert.CmpIdeal.τ).loc Cert.CmpIdeal.main_arg1)
      ∧ m' ((c.tc : Thread Cert.CmpReferenceIdeal.nD Cert.CmpReferenceIdeal.τ).loc Cert.CmpReferenceIdeal.main_arg2) = m ((c.tc : Thread Cert.CmpIdeal.nD Cert.CmpIdeal.τ).loc Cert.CmpIdeal.main_arg2)) →
    ∃ (v0 : (c : Dev Cert.CmpIdeal.nD) → Buf (Elt Ideal) ((c.tc : Thread Cert.CmpIdeal.nD Cert.CmpIdeal.τ).loc Cert.CmpIdeal.main_v27_0)) (v1 : (c : Dev Cert.CmpIdeal.nD) → Buf (Elt Ideal) ((c.tc : Thread Cert.CmpIdeal.nD Cert.CmpIdeal.τ).loc Cert.CmpIdeal.main_v27_1)),
      θ_run (Cert.CmpIdeal.defs (F := Ideal)) (onTc (τ := Cert.CmpIdeal.τ) (Cert.CmpIdeal.main (F := Ideal))) ⟨m, fun _ => 0, g⟩ (fun r => ∀ c : Dev Cert.CmpIdeal.nD,
          r.2.mem ((c.tc : Thread Cert.CmpIdeal.nD Cert.CmpIdeal.τ).loc Cert.CmpIdeal.main_v27_0) = v0 c
          ∧ r.2.mem ((c.tc : Thread Cert.CmpIdeal.nD Cert.CmpIdeal.τ).loc Cert.CmpIdeal.main_v27_1) = v1 c
          ∧ r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
          ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
          ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2))
      ∧ θ_run (Cert.CmpReferenceIdeal.defs (F := Ideal)) (onTc (τ := Cert.CmpReferenceIdeal.τ) (Cert.CmpReferenceIdeal.main (F := Ideal))) ⟨m', fun _ => 0, g'⟩ (fun r => ∀ c : Dev Cert.CmpReferenceIdeal.nD,
          r.2.mem ((c.tc : Thread Cert.CmpReferenceIdeal.nD Cert.CmpReferenceIdeal.τ).loc Cert.CmpReferenceIdeal.main_v96) = v0 c
          ∧ r.2.mem ((c.tc : Thread Cert.CmpReferenceIdeal.nD Cert.CmpReferenceIdeal.τ).loc Cert.CmpReferenceIdeal.main_v99) = v1 c
          ∧ r.2.mem ((c.tc : Thread Cert.CmpReferenceIdeal.nD Cert.CmpReferenceIdeal.τ).loc Cert.CmpReferenceIdeal.main_arg0) = m' ((c.tc : Thread Cert.CmpReferenceIdeal.nD Cert.CmpReferenceIdeal.τ).loc Cert.CmpReferenceIdeal.main_arg0)
          ∧ r.2.mem ((c.tc : Thread Cert.CmpReferenceIdeal.nD Cert.CmpReferenceIdeal.τ).loc Cert.CmpReferenceIdeal.main_arg1) = m' ((c.tc : Thread Cert.CmpReferenceIdeal.nD Cert.CmpReferenceIdeal.τ).loc Cert.CmpReferenceIdeal.main_arg1)
          ∧ r.2.mem ((c.tc : Thread Cert.CmpReferenceIdeal.nD Cert.CmpReferenceIdeal.τ).loc Cert.CmpReferenceIdeal.main_arg2) = m' ((c.tc : Thread Cert.CmpReferenceIdeal.nD Cert.CmpReferenceIdeal.τ).loc Cert.CmpReferenceIdeal.main_arg2))

def preserves_Dil_DilIdeal : Prop :=
  IdealRules.named_const.Statement Cert.DilIdeal.κ "mask" .f32 0xF149F2CA#32 ⊥

def algebraic_DilIdeal_DilReferenceIdeal_pre_finite [hDilIdeal : Cert.DilIdeal.Facts] [hDilReferenceIdeal : Cert.DilReferenceIdeal.Facts] [hPre_finite : Cert.Pre_finite.Facts] : Prop :=
  ∀ (m : (ℓ : Loc Cert.DilIdeal.nD Cert.DilIdeal.τ Cert.DilIdeal.sig) → Buf (Elt Ideal) ℓ) (g : Dev Cert.DilIdeal.nD → PrngReg)
    (m' : (ℓ : Loc Cert.DilReferenceIdeal.nD Cert.DilReferenceIdeal.τ Cert.DilReferenceIdeal.sig) → Buf (Elt Ideal) ℓ) (g' : Dev Cert.DilReferenceIdeal.nD → PrngReg), Pre_DilIdeal_finite m →
    (∀ c : Dev Cert.DilIdeal.nD,
      m' ((c.tc : Thread Cert.DilReferenceIdeal.nD Cert.DilReferenceIdeal.τ).loc Cert.DilReferenceIdeal.main_arg0) = m ((c.tc : Thread Cert.DilIdeal.nD Cert.DilIdeal.τ).loc Cert.DilIdeal.main_arg0)) →
    ∃ (v0 : (c : Dev Cert.DilIdeal.nD) → Buf (Elt Ideal) ((c.tc : Thread Cert.DilIdeal.nD Cert.DilIdeal.τ).loc Cert.DilIdeal.main_v0_0)) (v1 : (c : Dev Cert.DilIdeal.nD) → Buf (Elt Ideal) ((c.tc : Thread Cert.DilIdeal.nD Cert.DilIdeal.τ).loc Cert.DilIdeal.main_v0_1)),
      θ_run (Cert.DilIdeal.defs (F := Ideal)) (onTc (τ := Cert.DilIdeal.τ) (Cert.DilIdeal.main (F := Ideal))) ⟨m, fun _ => 0, g⟩ (fun r => ∀ c : Dev Cert.DilIdeal.nD,
          r.2.mem ((c.tc : Thread Cert.DilIdeal.nD Cert.DilIdeal.τ).loc Cert.DilIdeal.main_v0_0) = v0 c
          ∧ r.2.mem ((c.tc : Thread Cert.DilIdeal.nD Cert.DilIdeal.τ).loc Cert.DilIdeal.main_v0_1) = v1 c
          ∧ r.2.mem ((c.tc : Thread Cert.DilIdeal.nD Cert.DilIdeal.τ).loc Cert.DilIdeal.main_arg0) = m ((c.tc : Thread Cert.DilIdeal.nD Cert.DilIdeal.τ).loc Cert.DilIdeal.main_arg0))
      ∧ θ_run (Cert.DilReferenceIdeal.defs (F := Ideal)) (onTc (τ := Cert.DilReferenceIdeal.τ) (Cert.DilReferenceIdeal.main (F := Ideal))) ⟨m', fun _ => 0, g'⟩ (fun r => ∀ c : Dev Cert.DilReferenceIdeal.nD,
          r.2.mem ((c.tc : Thread Cert.DilReferenceIdeal.nD Cert.DilReferenceIdeal.τ).loc Cert.DilReferenceIdeal.main_v38) = v0 c
          ∧ r.2.mem ((c.tc : Thread Cert.DilReferenceIdeal.nD Cert.DilReferenceIdeal.τ).loc Cert.DilReferenceIdeal.main_v40) = v1 c
          ∧ r.2.mem ((c.tc : Thread Cert.DilReferenceIdeal.nD Cert.DilReferenceIdeal.τ).loc Cert.DilReferenceIdeal.main_arg0) = m' ((c.tc : Thread Cert.DilReferenceIdeal.nD Cert.DilReferenceIdeal.τ).loc Cert.DilReferenceIdeal.main_arg0))

def preserves_Band4_Band4Ideal : Prop :=
  IdealRules.named_const.Statement Cert.Band4Ideal.κ "mask" .f32 0xF149F2CA#32 ⊥

def algebraic_Band4Ideal_Band4ReferenceIdeal_pre_finite [hBand4Ideal : Cert.Band4Ideal.Facts] [hBand4ReferenceIdeal : Cert.Band4ReferenceIdeal.Facts] [hPre_finite : Cert.Pre_finite.Facts] : Prop :=
  ∀ (m : (ℓ : Loc Cert.Band4Ideal.nD Cert.Band4Ideal.τ Cert.Band4Ideal.sig) → Buf (Elt Ideal) ℓ) (g : Dev Cert.Band4Ideal.nD → PrngReg)
    (m' : (ℓ : Loc Cert.Band4ReferenceIdeal.nD Cert.Band4ReferenceIdeal.τ Cert.Band4ReferenceIdeal.sig) → Buf (Elt Ideal) ℓ) (g' : Dev Cert.Band4ReferenceIdeal.nD → PrngReg), Pre_Band4Ideal_finite m →
    (∀ c : Dev Cert.Band4Ideal.nD,
      m' ((c.tc : Thread Cert.Band4ReferenceIdeal.nD Cert.Band4ReferenceIdeal.τ).loc Cert.Band4ReferenceIdeal.main_arg0) = m ((c.tc : Thread Cert.Band4Ideal.nD Cert.Band4Ideal.τ).loc Cert.Band4Ideal.main_arg0)) →
    ∃ (v0 : (c : Dev Cert.Band4Ideal.nD) → Buf (Elt Ideal) ((c.tc : Thread Cert.Band4Ideal.nD Cert.Band4Ideal.τ).loc Cert.Band4Ideal.main_v0_0)) (v1 : (c : Dev Cert.Band4Ideal.nD) → Buf (Elt Ideal) ((c.tc : Thread Cert.Band4Ideal.nD Cert.Band4Ideal.τ).loc Cert.Band4Ideal.main_v0_1)),
      θ_run (Cert.Band4Ideal.defs (F := Ideal)) (onTc (τ := Cert.Band4Ideal.τ) (Cert.Band4Ideal.main (F := Ideal))) ⟨m, fun _ => 0, g⟩ (fun r => ∀ c : Dev Cert.Band4Ideal.nD,
          r.2.mem ((c.tc : Thread Cert.Band4Ideal.nD Cert.Band4Ideal.τ).loc Cert.Band4Ideal.main_v0_0) = v0 c
          ∧ r.2.mem ((c.tc : Thread Cert.Band4Ideal.nD Cert.Band4Ideal.τ).loc Cert.Band4Ideal.main_v0_1) = v1 c
          ∧ r.2.mem ((c.tc : Thread Cert.Band4Ideal.nD Cert.Band4Ideal.τ).loc Cert.Band4Ideal.main_arg0) = m ((c.tc : Thread Cert.Band4Ideal.nD Cert.Band4Ideal.τ).loc Cert.Band4Ideal.main_arg0))
      ∧ θ_run (Cert.Band4ReferenceIdeal.defs (F := Ideal)) (onTc (τ := Cert.Band4ReferenceIdeal.τ) (Cert.Band4ReferenceIdeal.main (F := Ideal))) ⟨m', fun _ => 0, g'⟩ (fun r => ∀ c : Dev Cert.Band4ReferenceIdeal.nD,
          r.2.mem ((c.tc : Thread Cert.Band4ReferenceIdeal.nD Cert.Band4ReferenceIdeal.τ).loc Cert.Band4ReferenceIdeal.main_v43) = v0 c
          ∧ r.2.mem ((c.tc : Thread Cert.Band4ReferenceIdeal.nD Cert.Band4ReferenceIdeal.τ).loc Cert.Band4ReferenceIdeal.main_v45) = v1 c
          ∧ r.2.mem ((c.tc : Thread Cert.Band4ReferenceIdeal.nD Cert.Band4ReferenceIdeal.τ).loc Cert.Band4ReferenceIdeal.main_arg0) = m' ((c.tc : Thread Cert.Band4ReferenceIdeal.nD Cert.Band4ReferenceIdeal.τ).loc Cert.Band4ReferenceIdeal.main_arg0))

def preserves_Band16_Band16Ideal : Prop :=
  IdealRules.named_const.Statement Cert.Band16Ideal.κ "mask" .f32 0xF149F2CA#32 ⊥

def algebraic_Band16Ideal_Band16ReferenceIdeal_pre_finite [hBand16Ideal : Cert.Band16Ideal.Facts] [hBand16ReferenceIdeal : Cert.Band16ReferenceIdeal.Facts] [hPre_finite : Cert.Pre_finite.Facts] : Prop :=
  ∀ (m : (ℓ : Loc Cert.Band16Ideal.nD Cert.Band16Ideal.τ Cert.Band16Ideal.sig) → Buf (Elt Ideal) ℓ) (g : Dev Cert.Band16Ideal.nD → PrngReg)
    (m' : (ℓ : Loc Cert.Band16ReferenceIdeal.nD Cert.Band16ReferenceIdeal.τ Cert.Band16ReferenceIdeal.sig) → Buf (Elt Ideal) ℓ) (g' : Dev Cert.Band16ReferenceIdeal.nD → PrngReg), Pre_Band16Ideal_finite m →
    (∀ c : Dev Cert.Band16Ideal.nD,
      m' ((c.tc : Thread Cert.Band16ReferenceIdeal.nD Cert.Band16ReferenceIdeal.τ).loc Cert.Band16ReferenceIdeal.main_arg0) = m ((c.tc : Thread Cert.Band16Ideal.nD Cert.Band16Ideal.τ).loc Cert.Band16Ideal.main_arg0)) →
    ∃ (v0 : (c : Dev Cert.Band16Ideal.nD) → Buf (Elt Ideal) ((c.tc : Thread Cert.Band16Ideal.nD Cert.Band16Ideal.τ).loc Cert.Band16Ideal.main_v0_0)) (v1 : (c : Dev Cert.Band16Ideal.nD) → Buf (Elt Ideal) ((c.tc : Thread Cert.Band16Ideal.nD Cert.Band16Ideal.τ).loc Cert.Band16Ideal.main_v0_1)),
      θ_run (Cert.Band16Ideal.defs (F := Ideal)) (onTc (τ := Cert.Band16Ideal.τ) (Cert.Band16Ideal.main (F := Ideal))) ⟨m, fun _ => 0, g⟩ (fun r => ∀ c : Dev Cert.Band16Ideal.nD,
          r.2.mem ((c.tc : Thread Cert.Band16Ideal.nD Cert.Band16Ideal.τ).loc Cert.Band16Ideal.main_v0_0) = v0 c
          ∧ r.2.mem ((c.tc : Thread Cert.Band16Ideal.nD Cert.Band16Ideal.τ).loc Cert.Band16Ideal.main_v0_1) = v1 c
          ∧ r.2.mem ((c.tc : Thread Cert.Band16Ideal.nD Cert.Band16Ideal.τ).loc Cert.Band16Ideal.main_arg0) = m ((c.tc : Thread Cert.Band16Ideal.nD Cert.Band16Ideal.τ).loc Cert.Band16Ideal.main_arg0))
      ∧ θ_run (Cert.Band16ReferenceIdeal.defs (F := Ideal)) (onTc (τ := Cert.Band16ReferenceIdeal.τ) (Cert.Band16ReferenceIdeal.main (F := Ideal))) ⟨m', fun _ => 0, g'⟩ (fun r => ∀ c : Dev Cert.Band16ReferenceIdeal.nD,
          r.2.mem ((c.tc : Thread Cert.Band16ReferenceIdeal.nD Cert.Band16ReferenceIdeal.τ).loc Cert.Band16ReferenceIdeal.main_v43) = v0 c
          ∧ r.2.mem ((c.tc : Thread Cert.Band16ReferenceIdeal.nD Cert.Band16ReferenceIdeal.τ).loc Cert.Band16ReferenceIdeal.main_v45) = v1 c
          ∧ r.2.mem ((c.tc : Thread Cert.Band16ReferenceIdeal.nD Cert.Band16ReferenceIdeal.τ).loc Cert.Band16ReferenceIdeal.main_arg0) = m' ((c.tc : Thread Cert.Band16ReferenceIdeal.nD Cert.Band16ReferenceIdeal.τ).loc Cert.Band16ReferenceIdeal.main_arg0))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hOutProj : Cert.OutProj.Facts) (hOutProjIdeal : Cert.OutProjIdeal.Facts) (hOutProjReferenceIdeal : Cert.OutProjReferenceIdeal.Facts) (hOddIn : Cert.OddIn.Facts) (hOddInIdeal : Cert.OddInIdeal.Facts) (hOddInReferenceIdeal : Cert.OddInReferenceIdeal.Facts) (hEvenIn : Cert.EvenIn.Facts) (hEvenInIdeal : Cert.EvenInIdeal.Facts) (hEvenInReferenceIdeal : Cert.EvenInReferenceIdeal.Facts) (hCmpIn : Cert.CmpIn.Facts) (hCmpInIdeal : Cert.CmpInIdeal.Facts) (hCmpInReferenceIdeal : Cert.CmpInReferenceIdeal.Facts) (hCmpOut : Cert.CmpOut.Facts) (hCmpOutIdeal : Cert.CmpOutIdeal.Facts) (hCmpOutReferenceIdeal : Cert.CmpOutReferenceIdeal.Facts) (hNorm : Cert.Norm.Facts) (hNormIdeal : Cert.NormIdeal.Facts) (hNormReferenceIdeal : Cert.NormReferenceIdeal.Facts) (hCmp : Cert.Cmp.Facts) (hCmpIdeal : Cert.CmpIdeal.Facts) (hCmpReferenceIdeal : Cert.CmpReferenceIdeal.Facts) (hDil : Cert.Dil.Facts) (hDilIdeal : Cert.DilIdeal.Facts) (hDilReferenceIdeal : Cert.DilReferenceIdeal.Facts) (hBand4 : Cert.Band4.Facts) (hBand4Ideal : Cert.Band4Ideal.Facts) (hBand4ReferenceIdeal : Cert.Band4ReferenceIdeal.Facts) (hBand16 : Cert.Band16.Facts) (hBand16Ideal : Cert.Band16Ideal.Facts) (hBand16ReferenceIdeal : Cert.Band16ReferenceIdeal.Facts) (hPre_finite : Cert.Pre_finite.Facts) (hPre_routed : Cert.Pre_routed.Facts) (hPre_finite_keys : Cert.Pre_finite_keys.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts) (hPre_routed := hPre_routed)
    ∧ quiescent_ExpertsIdeal (hExpertsIdeal := hExpertsIdeal) (hPre_routed := hPre_routed)
    ∧ quiescent_ExpertsReferenceIdeal (hExpertsReferenceIdeal := hExpertsReferenceIdeal)
    ∧ quiescent_ExpertsReferenceIdeal_pre_routed (hExpertsReferenceIdeal := hExpertsReferenceIdeal) (hPre_routed := hPre_routed)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_OddIn (hOddIn := hOddIn)
    ∧ quiescent_OddInIdeal (hOddInIdeal := hOddInIdeal)
    ∧ quiescent_OddInReferenceIdeal (hOddInReferenceIdeal := hOddInReferenceIdeal)
    ∧ quiescent_EvenIn (hEvenIn := hEvenIn)
    ∧ quiescent_EvenInIdeal (hEvenInIdeal := hEvenInIdeal)
    ∧ quiescent_EvenInReferenceIdeal (hEvenInReferenceIdeal := hEvenInReferenceIdeal)
    ∧ quiescent_CmpIn (hCmpIn := hCmpIn)
    ∧ quiescent_CmpInIdeal (hCmpInIdeal := hCmpInIdeal)
    ∧ quiescent_CmpInReferenceIdeal (hCmpInReferenceIdeal := hCmpInReferenceIdeal)
    ∧ quiescent_CmpOut (hCmpOut := hCmpOut)
    ∧ quiescent_CmpOutIdeal (hCmpOutIdeal := hCmpOutIdeal)
    ∧ quiescent_CmpOutReferenceIdeal (hCmpOutReferenceIdeal := hCmpOutReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Cmp (hCmp := hCmp)
    ∧ quiescent_CmpIdeal (hCmpIdeal := hCmpIdeal)
    ∧ quiescent_CmpIdeal_pre_finite_keys (hCmpIdeal := hCmpIdeal) (hPre_finite_keys := hPre_finite_keys)
    ∧ quiescent_CmpReferenceIdeal (hCmpReferenceIdeal := hCmpReferenceIdeal)
    ∧ quiescent_CmpReferenceIdeal_pre_finite_keys (hCmpReferenceIdeal := hCmpReferenceIdeal) (hPre_finite_keys := hPre_finite_keys)
    ∧ quiescent_Dil (hDil := hDil)
    ∧ quiescent_DilIdeal (hDilIdeal := hDilIdeal)
    ∧ quiescent_DilIdeal_pre_finite (hDilIdeal := hDilIdeal) (hPre_finite := hPre_finite)
    ∧ quiescent_DilReferenceIdeal (hDilReferenceIdeal := hDilReferenceIdeal)
    ∧ quiescent_DilReferenceIdeal_pre_finite (hDilReferenceIdeal := hDilReferenceIdeal) (hPre_finite := hPre_finite)
    ∧ quiescent_Band4 (hBand4 := hBand4)
    ∧ quiescent_Band4Ideal (hBand4Ideal := hBand4Ideal)
    ∧ quiescent_Band4Ideal_pre_finite (hBand4Ideal := hBand4Ideal) (hPre_finite := hPre_finite)
    ∧ quiescent_Band4ReferenceIdeal (hBand4ReferenceIdeal := hBand4ReferenceIdeal)
    ∧ quiescent_Band4ReferenceIdeal_pre_finite (hBand4ReferenceIdeal := hBand4ReferenceIdeal) (hPre_finite := hPre_finite)
    ∧ quiescent_Band16 (hBand16 := hBand16)
    ∧ quiescent_Band16Ideal (hBand16Ideal := hBand16Ideal)
    ∧ quiescent_Band16Ideal_pre_finite (hBand16Ideal := hBand16Ideal) (hPre_finite := hPre_finite)
    ∧ quiescent_Band16ReferenceIdeal (hBand16ReferenceIdeal := hBand16ReferenceIdeal)
    ∧ quiescent_Band16ReferenceIdeal_pre_finite (hBand16ReferenceIdeal := hBand16ReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_ExpertsReferenceIdeal (hExpertsIdeal := hExpertsIdeal) (hExpertsReferenceIdeal := hExpertsReferenceIdeal) (hPre_routed := hPre_routed)
    ∧ preserves_OutProj_OutProjIdeal
    ∧ algebraic_OutProjIdeal_OutProjReferenceIdeal (hOutProjIdeal := hOutProjIdeal) (hOutProjReferenceIdeal := hOutProjReferenceIdeal)
    ∧ preserves_OddIn_OddInIdeal
    ∧ algebraic_OddInIdeal_OddInReferenceIdeal (hOddInIdeal := hOddInIdeal) (hOddInReferenceIdeal := hOddInReferenceIdeal)
    ∧ preserves_EvenIn_EvenInIdeal
    ∧ algebraic_EvenInIdeal_EvenInReferenceIdeal (hEvenInIdeal := hEvenInIdeal) (hEvenInReferenceIdeal := hEvenInReferenceIdeal)
    ∧ preserves_CmpIn_CmpInIdeal
    ∧ algebraic_CmpInIdeal_CmpInReferenceIdeal (hCmpInIdeal := hCmpInIdeal) (hCmpInReferenceIdeal := hCmpInReferenceIdeal)
    ∧ preserves_CmpOut_CmpOutIdeal
    ∧ algebraic_CmpOutIdeal_CmpOutReferenceIdeal (hCmpOutIdeal := hCmpOutIdeal) (hCmpOutReferenceIdeal := hCmpOutReferenceIdeal)
    ∧ preserves_Norm_NormIdeal
    ∧ algebraic_NormIdeal_NormReferenceIdeal (hNormIdeal := hNormIdeal) (hNormReferenceIdeal := hNormReferenceIdeal)
    ∧ preserves_Cmp_CmpIdeal
    ∧ algebraic_CmpIdeal_CmpReferenceIdeal_pre_finite_keys (hCmpIdeal := hCmpIdeal) (hCmpReferenceIdeal := hCmpReferenceIdeal) (hPre_finite_keys := hPre_finite_keys)
    ∧ preserves_Dil_DilIdeal
    ∧ algebraic_DilIdeal_DilReferenceIdeal_pre_finite (hDilIdeal := hDilIdeal) (hDilReferenceIdeal := hDilReferenceIdeal) (hPre_finite := hPre_finite)
    ∧ preserves_Band4_Band4Ideal
    ∧ algebraic_Band4Ideal_Band4ReferenceIdeal_pre_finite (hBand4Ideal := hBand4Ideal) (hBand4ReferenceIdeal := hBand4ReferenceIdeal) (hPre_finite := hPre_finite)
    ∧ preserves_Band16_Band16Ideal
    ∧ algebraic_Band16Ideal_Band16ReferenceIdeal_pre_finite (hBand16Ideal := hBand16Ideal) (hBand16ReferenceIdeal := hBand16ReferenceIdeal) (hPre_finite := hPre_finite)
-- ==== Pre_finite.lean ====
abbrev S16384x10752 : Shape := ⟨2, ![16384, 10752]⟩
abbrev S_ : Shape := ⟨0, ![]⟩

class Facts : Prop where
  bitsLt_bf16_f32 : FTy.bits .bf16 < FTy.bits .f32
  bcast_S_S16384x10752 : S_.BroadcastsInDim S16384x10752 (![] : Fin 0 → Fin S16384x10752.rank)
  reducesTo_S16384x10752_S_d0_1 : S16384x10752.ReducesTo [0, 1] S_
  h_S_ : 0 < S_.numel

variable [Facts]

def fn {F : FTy → Type} [FloatOps F] (main_arg0 : FVec F S16384x10752 .bf16) : IVec S_ 1 :=
  let main_v0 : FVec F S16384x10752 .f32 := (extf .f32 · bitsLt_bf16_f32) main_arg0
  let main_v1 : FVec F S16384x10752 .f32 := Host.absf main_v0
  let main_cst : FVec F S_ .f32 := constant S_ .f32 0x7F800000#32
  let main_v2 : FVec F S16384x10752 .f32 := broadcastInDim S16384x10752 ![] bcast_S_S16384x10752 main_cst
  let main_v3 : IVec S16384x10752 1 := cmpf .olt main_v1 main_v2
  let main_c : IVec S_ 1 := constantI S_ 1 1#1
  let main_v4 : IVec S_ 1 := (fun x v => Host.reduce IntOp.andi x v reducesTo_S16384x10752_S_d0_1 h_S_) main_v3 main_c
  main_v4
-- ==== Pre_finite_keys.lean ====
abbrev S16384x10752 : Shape := ⟨2, ![16384, 10752]⟩
abbrev S4096x128 : Shape := ⟨2, ![4096, 128]⟩
abbrev S_ : Shape := ⟨0, ![]⟩

class Facts : Prop where
  bitsLt_bf16_f32 : FTy.bits .bf16 < FTy.bits .f32
  bcast_S_S16384x10752 : S_.BroadcastsInDim S16384x10752 (![] : Fin 0 → Fin S16384x10752.rank)
  reducesTo_S16384x10752_S_d0_1 : S16384x10752.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_

variable [Facts]

def fn {F : FTy → Type} [FloatOps F] (main_arg0 : FVec F S16384x10752 .bf16) (main_arg1 : FVec F S4096x128 .bf16) (main_arg2 : FVec F S4096x128 .bf16) : IVec S_ 1 :=
  let main_v0 : FVec F S16384x10752 .f32 := (extf .f32 · bitsLt_bf16_f32) main_arg0
  let main_v1 : FVec F S16384x10752 .f32 := Host.absf main_v0
  let main_cst : FVec F S_ .f32 := constant S_ .f32 0x7F800000#32
  let main_v2 : FVec F S16384x10752 .f32 := broadcastInDim S16384x10752 ![] bcast_S_S16384x10752 main_cst
  let main_v3 : IVec S16384x10752 1 := cmpf .olt main_v1 main_v2
  let main_c : IVec S_ 1 := constantI S_ 1 1#1
  let main_v4 : IVec S_ 1 := (fun x v => Host.reduce IntOp.andi x v reducesTo_S16384x10752_S_d0_1 h_S_) main_v3 main_c
  let main_v5 : FVec F S4096x128 .f32 := (extf .f32 · bitsLt_bf16_f32) main_arg1
  let main_v6 : FVec F S4096x128 .f32 := Host.absf main_v5
  let main_cst_0 : FVec F S_ .f32 := constant S_ .f32 0x7F800000#32
  let main_v7 : FVec F S4096x128 .f32 := broadcastInDim S4096x128 ![] bcast_S_S4096x128 main_cst_0
  let main_v8 : IVec S4096x128 1 := cmpf .olt main_v6 main_v7
  let main_c_1 : IVec S_ 1 := constantI S_ 1 1#1
  let main_v9 : IVec S_ 1 := (fun x v => Host.reduce IntOp.andi x v reducesTo_S4096x128_S_d0_1 h_S_) main_v8 main_c_1
  let main_v10 : IVec S_ 1 := andi main_v4 main_v9
  main_v10
-- ==== Pre_routed.lean ====
abbrev S73728x4096 : Shape := ⟨2, ![73728, 4096]⟩
abbrev S288 : Shape := ⟨1, ![288]⟩
abbrev S1 : Shape := ⟨1, ![1]⟩
abbrev S4x32x4096x768 : Shape := ⟨4, ![4, 32, 4096, 768]⟩
abbrev S4x32x1x768 : Shape := ⟨4, ![4, 32, 1, 768]⟩
abbrev S4x32x384x4096 : Shape := ⟨4, ![4, 32, 384, 4096]⟩
abbrev S4x32x1x4096 : Shape := ⟨4, ![4, 32, 1, 4096]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S73728x4096 .f32) (main_arg1 : IVec S288 32) (main_arg2 : IVec S1 32) (main_arg3 : FVec F S4x32x4096x768 .bf16) (main_arg4 : FVec F S4x32x1x768 .f32) (main_arg5 : FVec F S4x32x384x4096 .bf16) (main_arg6 : FVec F S4x32x1x4096 .f32) : IVec S_ 1 :=
  let main_c : IVec S_ 32 := constantI S_ 32 0#32
  let main_v0 : IVec S288 32 := broadcastInDim S288 ![] bcast_S_S288 main_c
  let main_v1 : IVec S288 1 := cmpi .sge main_arg1 main_v0
  let main_c_0 : IVec S_ 32 := constantI S_ 32 32#32
  let main_v2 : IVec S288 32 := broadcastInDim S288 ![] bcast_S_S288 main_c_0
  let main_v3 : IVec S288 1 := cmpi .slt main_arg1 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg2 main_v6
  let main_c_3 : IVec S_ 32 := constantI S_ 32 288#32
  let main_v8 : IVec S1 32 := broadcastInDim S1 ![] bcast_S_S1 main_c_3
  let main_v9 : IVec S1 1 := cmpi .sle main_arg2 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Kernel.lean ====
abbrev S16384x10752 : Shape := ⟨2, ![16384, 10752]⟩
abbrev S16384x2560 : Shape := ⟨2, ![16384, 2560]⟩
abbrev S512x640 : Shape := ⟨2, ![512, 640]⟩
abbrev S512x128 : Shape := ⟨2, ![512, 128]⟩
abbrev S512x1024 : Shape := ⟨2, ![512, 1024]⟩
abbrev S1024x128 : Shape := ⟨2, ![1024, 128]⟩
abbrev S512 : Shape := ⟨1, ![512]⟩
abbrev S512x1 : Shape := ⟨2, ![512, 1]⟩

abbrev nBuf : Space → Nat
  | .hbm => 2
  | .vmem => 12
  | .smem => 0
  | _ => 0

abbrev bufTy : (tb : Table) → Fin (tcTables nBuf tb) → BufTy
  | .hbm, ⟨0, _⟩ => ⟨S16384x10752, .bf16⟩
  | .hbm, ⟨1, _⟩ => ⟨S16384x2560, .bf16⟩
  | .local _ .vmem, ⟨0, _⟩ => ⟨S512x640, .bf16⟩
  | .local _ .vmem, ⟨1, _⟩ => ⟨S512x640, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S512x640, .bf16⟩
  | .local _ .vmem, ⟨11, _⟩ => ⟨S512x640, .bf16⟩
  | _, _ => ⟨S16384x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c36_i32 : BitVec 32 := 36#32
  let v2 : BitVec 32 := Scalar.addi c36_i32 arg0
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c40_i32 : BitVec 32 := 40#32
  let v2 : BitVec 32 := Scalar.addi c40_i32 arg0
  let c0_i32_0 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x640 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x10752 : Shape := ⟨2, ![16384, 10752]⟩
abbrev S16384x2560 : Shape := ⟨2, ![16384, 2560]⟩
abbrev S16384x4x5x128 : Shape := ⟨4, ![16384, 4, 5, 128]⟩
abbrev S16384x512 : Shape := ⟨2, ![16384, 512]⟩
abbrev S16384x4x128 : Shape := ⟨3, ![16384, 4, 128]⟩
abbrev S4x16384x5x16384 : Shape := ⟨4, ![4, 16384, 5, 16384]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S1x16384x1x16384 : Shape := ⟨4, ![1, 16384, 1, 16384]⟩
abbrev S4x16384x5 : Shape := ⟨3, ![4, 16384, 5]⟩
abbrev S4x16384x5x1 : Shape := ⟨4, ![4, 16384, 5, 1]⟩
abbrev S4x16384x5x128 : Shape := ⟨4, ![4, 16384, 5, 128]⟩

abbrev nBuf : Space → Nat
  | .hbm => 55
  | .vmem => 0
  | .smem => 0
  | _ => 0

abbrev bufTy : (tb : Table) → Fin (tcTables nBuf tb) → BufTy
  | .hbm, ⟨0, _⟩ => ⟨S16384x10752, .bf16⟩
  | .hbm, ⟨1, _⟩ => ⟨S16384x2560, .bf16⟩
  | .hbm, ⟨2, _⟩ => ⟨S16384x2560, .f32⟩
  | .hbm, ⟨3, _⟩ => ⟨S16384x4x5x128, .f32⟩
  | .hbm, ⟨4, _⟩ => ⟨S16384x512, .bf16⟩
  | .hbm, ⟨5, _⟩ => ⟨S16384x512, .f32⟩
  | .hbm, ⟨6, _⟩ => ⟨S16384x4x128, .f32⟩
  | .hbm, ⟨7, _⟩ => ⟨S16384x512, .bf16⟩
  | .hbm, ⟨8, _⟩ => ⟨S16384x512, .f32⟩
  | .hbm, ⟨9, _⟩ => ⟨S16384x4x128, .f32⟩
  | .hbm, ⟨10, _⟩ => ⟨S4x16384x5x16384, .f32⟩
  | .hbm, ⟨11, _⟩ => ⟨S_, .f32⟩
  | .hbm, ⟨12, _⟩ => ⟨S_, .f32⟩
  | .hbm, ⟨13, _⟩ => ⟨S4x16384x5x16384, .f32⟩
  | .hbm, ⟨14, _⟩ => ⟨S4x16384x5x16384, .f32⟩
  | .hbm, ⟨15, _⟩ => ⟨S16384, .i32⟩
  | .hbm, ⟨16, _⟩ => ⟨S16384x1, .i32⟩
  | .hbm, ⟨17, _⟩ => ⟨S1x16384, .i32⟩
  | .hbm, ⟨18, _⟩ => ⟨S16384x16384, .i32⟩
  | .hbm, ⟨19, _⟩ => ⟨S16384x16384, .i32⟩
  | .hbm, ⟨20, _⟩ => ⟨S16384x16384, .i32⟩
  | .hbm, ⟨21, _⟩ => ⟨S_, .i32⟩
  | .hbm, ⟨22, _⟩ => ⟨S16384x16384, .i32⟩
  | .hbm, ⟨23, _⟩ => ⟨S16384x16384, .i1⟩
  | .hbm, ⟨24, _⟩ => ⟨S_, .i32⟩
  | .hbm, ⟨25, _⟩ => ⟨S16384x16384, .i32⟩
  | .hbm, ⟨26, _⟩ => ⟨S16384x16384, .i1⟩
  | .hbm, ⟨27, _⟩ => ⟨S16384x16384, .i1⟩
  | .hbm, ⟨28, _⟩ => ⟨S1x16384x1x16384, .i1⟩
  | .hbm, ⟨29, _⟩ => ⟨S_, .f32⟩
  | .hbm, ⟨30, _⟩ => ⟨S_, .f32⟩
  | .hbm, ⟨31, _⟩ => ⟨S4x16384x5x16384, .i1⟩
  | .hbm, ⟨32, _⟩ => ⟨S4x16384x5x16384, .f32⟩
  | .hbm, ⟨33, _⟩ => ⟨S4x16384x5x16384, .f32⟩
  | .hbm, ⟨34, _⟩ => ⟨S_, .f32⟩
  | .hbm, ⟨35, _⟩ => ⟨S4x16384x5, .f32⟩
  | .hbm, ⟨36, _⟩ => ⟨S_, .f32⟩
  | .hbm, ⟨37, _⟩ => ⟨S4x16384x5, .f32⟩
  | .hbm, ⟨38, _⟩ => ⟨S4x16384x5, .f32⟩
  | .hbm, ⟨39, _⟩ => ⟨S4x16384x5x1, .f32⟩
  | .hbm, ⟨40, _⟩ => ⟨S4x16384x5x16384, .f32⟩
  | .hbm, ⟨41, _⟩ => ⟨S4x16384x5x16384, .f32⟩
  | .hbm, ⟨42, _⟩ => ⟨S4x16384x5x16384, .f32⟩
  | .hbm, ⟨43, _⟩ => ⟨S_, .f32⟩
  | .hbm, ⟨44, _⟩ => ⟨S4x16384x5, .f32⟩
  | .hbm, ⟨45, _⟩ => ⟨S4x16384x5x1, .f32⟩
  | .hbm, ⟨46, _⟩ => ⟨S4x16384x5x16384, .f32⟩
  | .hbm, ⟨47, _⟩ => ⟨S4x16384x5x16384, .f32⟩
  | .hbm, ⟨48, _⟩ => ⟨S1x16384x1x16384, .f32⟩
  | .hbm, ⟨49, _⟩ => ⟨S4x16384x5x16384, .f32⟩
  | .hbm, ⟨50, _⟩ => ⟨S4x16384x5x16384, .f32⟩
  | .hbm, ⟨51, _⟩ => ⟨S4x16384x5x128, .f32⟩
  | .hbm, ⟨52, _⟩ => ⟨S16384x4x5x128, .f32⟩
  | .hbm, ⟨53, _⟩ => ⟨S16384x2560, .f32⟩
  | .hbm, ⟨54, _⟩ => ⟨S16384x2560, .bf16⟩
  | _, _ => ⟨S16384x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_c : Ref sig .tc := ⟨.hbm, 21, rfl⟩
abbrev main_v19 : Ref sig .tc := ⟨.hbm, 22, rfl⟩
abbrev main_v20 : Ref sig .tc := ⟨.hbm, 23, rfl⟩
abbrev main_c_0 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_1 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== Experts.lean ====
abbrev S73728x4096 : Shape := ⟨2, ![73728, 4096]⟩
abbrev S288 : Shape := ⟨1, ![288]⟩
abbrev S1 : Shape := ⟨1, ![1]⟩
abbrev S4x32x4096x768 : Shape := ⟨4, ![4, 32, 4096, 768]⟩
abbrev S4x32x1x768 : Shape := ⟨4, ![4, 32, 1, 768]⟩
abbrev S4x32x384x4096 : Shape := ⟨4, ![4, 32, 384, 4096]⟩
abbrev S4x32x1x4096 : Shape := ⟨4, ![4, 32, 1, 4096]⟩
abbrev S768x384 : Shape := ⟨2, ![768, 384]⟩
abbrev S_ : Shape := ⟨0, ![]⟩
abbrev S256x4096 : Shape := ⟨2, ![256, 4096]⟩
abbrev S1x1x4096x768 : Shape := ⟨4, ![1, 1, 4096, 768]⟩
abbrev S1x1x1x768 : Shape := ⟨4, ![1, 1, 1, 768]⟩
abbrev S1x1x384x4096 : Shape := ⟨4, ![1, 1, 384, 4096]⟩
abbrev S1x1x1x4096 : Shape := ⟨4, ![1, 1, 1, 4096]⟩
abbrev S4096x768 : Shape := ⟨2, ![4096, 768]⟩
abbrev S256x768 : Shape := ⟨2, ![256, 768]⟩
abbrev S1x768 : Shape := ⟨2, ![1, 768]⟩
abbrev S256x128 : Shape := ⟨2, ![256, 128]⟩
abbrev S256x384 : Shape := ⟨2, ![256, 384]⟩
abbrev S384x4096 : Shape := ⟨2, ![384, 4096]⟩
abbrev S1x4096 : Shape := ⟨2, ![1, 4096]⟩

abbrev nBuf : Space → Nat
  | .hbm => 14
  | .vmem => 13
  | .smem => 2
  | _ => 0

abbrev bufTy : (tb : Table) → Fin (tcTables nBuf tb) → BufTy
  | .hbm, ⟨0, _⟩ => ⟨S73728x4096, .f32⟩
  | .hbm, ⟨1, _⟩ => ⟨S4x32x4096x768, .bf16⟩
  | .hbm, ⟨2, _⟩ => ⟨S4x32x1x768, .f32⟩
  | .hbm, ⟨3, _⟩ => ⟨S4x32x384x4096, .bf16⟩
  | .hbm, ⟨4, _⟩ => ⟨S4x32x1x4096, .f32⟩
  | .hbm, ⟨5, _⟩ => ⟨S768x384, .i32⟩
  | .hbm, ⟨6, _⟩ => ⟨S768x384, .i32⟩
  | .hbm, ⟨7, _⟩ => ⟨S_, .i32⟩
  | .hbm, ⟨8, _⟩ => ⟨S768x384, .i32⟩
  | .hbm, ⟨9, _⟩ => ⟨S768x384, .i32⟩
  | .hbm, ⟨10, _⟩ => ⟨S768x384, .i1⟩
  | .hbm, ⟨11, _⟩ => ⟨S768x384, .f32⟩
  | .hbm, ⟨12, _⟩ => ⟨S768x384, .bf16⟩
  | .hbm, ⟨13, _⟩ => ⟨S73728x4096, .f32⟩
  | .local _ .vmem, ⟨0, _⟩ => ⟨S256x4096, .f32⟩
  | .local _ .vmem, ⟨1, _⟩ => ⟨S256x4096, .f32⟩
  | .local _ .vmem, ⟨2, _⟩ => ⟨S1x1x4096x768, .bf16⟩
  | .local _ .vmem, ⟨3, _⟩ => ⟨S1x1x4096x768, .bf16⟩
  | .local _ .vmem, ⟨4, _⟩ => ⟨S1x1x1x768, .f32⟩
  | .local _ .vmem, ⟨5, _⟩ => ⟨S1x1x1x768, .f32⟩
  | .local _ .vmem, ⟨6, _⟩ => ⟨S1x1x384x4096, .bf16⟩
  | .local _ .vmem, ⟨7, _⟩ => ⟨S1x1x384x4096, .bf16⟩
  | .local _ .vmem, ⟨8, _⟩ => ⟨S1x1x1x4096, .f32⟩
  | .local _ .vmem, ⟨9, _⟩ => ⟨S1x1x1x4096, .f32⟩
  | .local _ .vmem, ⟨10, _⟩ => ⟨S768x384, .bf16⟩
  | .local _ .vmem, ⟨11, _⟩ => ⟨S256x4096, .f32⟩
  | .local _ .vmem, ⟨12, _⟩ => ⟨S256x4096, .f32⟩
  | .local _ .smem, ⟨0, _⟩ => ⟨S288, .i32⟩
  | .local _ .smem, ⟨1, _⟩ => ⟨S1, .i32⟩
  | _, _ => ⟨S73728x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x384x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S768x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ExpertsReferenceIdeal.lean ====
abbrev S73728x4096 : Shape := ⟨2, ![73728, 4096]⟩
abbrev S288 : Shape := ⟨1, ![288]⟩
abbrev S1 : Shape := ⟨1, ![1]⟩
abbrev S4x32x4096x768 : Shape := ⟨4, ![4, 32, 4096, 768]⟩
abbrev S4x32x1x768 : Shape := ⟨4, ![4, 32, 1, 768]⟩
abbrev S4x32x384x4096 : Shape := ⟨4, ![4, 32, 384, 4096]⟩
abbrev S4x32x1x4096 : Shape := ⟨4, ![4, 32, 1, 4096]⟩
abbrev S32 : Shape := ⟨1, ![32]⟩
abbrev S288x1 : Shape := ⟨2, ![288, 1]⟩
abbrev S1x32 : Shape := ⟨2, ![1, 32]⟩
abbrev S288x32 : Shape := ⟨2, ![288, 32]⟩
abbrev S_ : Shape := ⟨0, ![]⟩
abbrev S288x1x32 : Shape := ⟨3, ![288, 1, 32]⟩
abbrev S288x256x32 : Shape := ⟨3, ![288, 256, 32]⟩
abbrev S73728x32 : Shape := ⟨2, ![73728, 32]⟩
abbrev S1x32x4096x768 : Shape := ⟨4, ![1, 32, 4096, 768]⟩
abbrev S32x4096x768 : Shape := ⟨3, ![32, 4096, 768]⟩
abbrev S73728x32x768 : Shape := ⟨3, ![73728, 32, 768]⟩
abbrev S1x32x1x768 : Shape := ⟨4, ![1, 32, 1, 768]⟩
abbrev S32x768 : Shape := ⟨2, ![32, 768]⟩
abbrev S1x32x768 : Shape := ⟨3, ![1, 32, 768]⟩
abbrev S73728x32x384 : Shape := ⟨3, ![73728, 32, 384]⟩
abbrev S73728x32x1 : Shape := ⟨3, ![73728, 32, 1]⟩
abbrev S1x32x384x4096 : Shape := ⟨4, ![1, 32, 384, 4096]⟩
abbrev S32x384x4096 : Shape := ⟨3, ![32, 384, 4096]⟩
abbrev S1x32x1x4096 : Shape := ⟨4, ![1, 32, 1, 4096]⟩
abbrev S32x4096 : Shape := ⟨2, ![32, 4096]⟩

abbrev nBuf : Space → Nat
  | .hbm => 73
  | .vmem => 0
  | .smem => 0
  | _ => 0

abbrev bufTy : (tb : Table) → Fin (tcTables nBuf tb) → BufTy
  | .hbm, ⟨0, _⟩ => ⟨S73728x4096, .f32⟩
  | .hbm, ⟨1, _⟩ => ⟨S288, .i32⟩
  | .hbm, ⟨2, _⟩ => ⟨S1, .i32⟩
  | .hbm, ⟨3, _⟩ => ⟨S4x32x4096x768, .bf16⟩
  | .hbm, ⟨4, _⟩ => ⟨S4x32x1x768, .f32⟩
  | .hbm, ⟨5, _⟩ => ⟨S4x32x384x4096, .bf16⟩
  | .hbm, ⟨6, _⟩ => ⟨S4x32x1x4096, .f32⟩
  | .hbm, ⟨7, _⟩ => ⟨S288, .i32⟩
  | .hbm, ⟨8, _⟩ => ⟨S32, .i32⟩
  | .hbm, ⟨9, _⟩ => ⟨S288x1, .i32⟩
  | .hbm, ⟨10, _⟩ => ⟨S1x32, .i32⟩
  | .hbm, ⟨11, _⟩ => ⟨S288x32, .i32⟩
  | .hbm, ⟨12, _⟩ => ⟨S288x32, .i32⟩
  | .hbm, ⟨13, _⟩ => ⟨S288x32, .i1⟩
  | .hbm, ⟨14, _⟩ => ⟨S_, .i32⟩
  | .hbm, ⟨15, _⟩ => ⟨S288, .i32⟩
  | .hbm, ⟨16, _⟩ => ⟨S288, .i1⟩
  | .hbm, ⟨17, _⟩ => ⟨S288x1, .i1⟩
  | .hbm, ⟨18, _⟩ => ⟨S288x32, .i1⟩
  | .hbm, ⟨19, _⟩ => ⟨S288x32, .i1⟩
  | .hbm, ⟨20, _⟩ => ⟨S288x1x32, .i1⟩
  | .hbm, ⟨21, _⟩ => ⟨S288x256x32, .i1⟩
  | .hbm, ⟨22, _⟩ => ⟨S73728x32, .i1⟩
  | .hbm, ⟨23, _⟩ => ⟨S73728x32, .f32⟩
  | .hbm, ⟨24, _⟩ => ⟨S1x32x4096x768, .bf16⟩
  | .hbm, ⟨25, _⟩ => ⟨S32x4096x768, .bf16⟩
  | .hbm, ⟨26, _⟩ => ⟨S32x4096x768, .f32⟩
  | .hbm, ⟨27, _⟩ => ⟨S73728x32x768, .f32⟩
  | .hbm, ⟨28, _⟩ => ⟨S1x32x1x768, .f32⟩
  | .hbm, ⟨29, _⟩ => ⟨S32x768, .f32⟩
  | .hbm, ⟨30, _⟩ => ⟨S1x32x768, .f32⟩
  | .hbm, ⟨31, _⟩ => ⟨S73728x32x768, .f32⟩
  | .hbm, ⟨32, _⟩ => ⟨S73728x32x768, .f32⟩
  | .hbm, ⟨33, _⟩ => ⟨S73728x32x384, .f32⟩
  | .hbm, ⟨34, _⟩ => ⟨S_, .f32⟩
  | .hbm, ⟨35, _⟩ => ⟨S73728x32x384, .f32⟩
  | .hbm, ⟨36, _⟩ => ⟨S73728x32x384, .f32⟩
  | .hbm, ⟨37, _⟩ => ⟨S73728x32x384, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S73728x32x384, .f32⟩
  | .hbm, ⟨42, _⟩ => ⟨S73728x32x384, .f32⟩
  | .hbm, ⟨43, _⟩ => ⟨S_, .f32⟩
  | .hbm, ⟨44, _⟩ => ⟨S73728x32x384, .f32⟩
  | .hbm, ⟨45, _⟩ => ⟨S73728x32x384, .f32⟩
  | .hbm, ⟨46, _⟩ => ⟨S_, .f32⟩
  | .hbm, ⟨47, _⟩ => ⟨S73728x32x384, .f32⟩
  | .hbm, ⟨48, _⟩ => ⟨S73728x32x384, .f32⟩
  | .hbm, ⟨49, _⟩ => ⟨S73728x32x384, .f32⟩
  | .hbm, ⟨50, _⟩ => ⟨S73728x32x384, .f32⟩
  | .hbm, ⟨51, _⟩ => ⟨S_, .f32⟩
  | .hbm, ⟨52, _⟩ => ⟨S73728x32x384, .f32⟩
  | .hbm, ⟨53, _⟩ => ⟨S73728x32x384, .f32⟩
  | .hbm, ⟨54, _⟩ => ⟨S_, .f32⟩
  | .hbm, ⟨55, _⟩ => ⟨S73728x32x384, .f32⟩
  | .hbm, ⟨56, _⟩ => ⟨S73728x32x384, .f32⟩
  | .hbm, ⟨57, _⟩ => ⟨S73728x32x384, .f32⟩
  | .hbm, ⟨58, _⟩ => ⟨S_, .f32⟩
  | .hbm, ⟨59, _⟩ => ⟨S73728x32x384, .f32⟩
  | .hbm, ⟨60, _⟩ => ⟨S73728x32x384, .f32⟩
  | .hbm, ⟨61, _⟩ => ⟨S73728x32x384, .f32⟩
  | .hbm, ⟨62, _⟩ => ⟨S73728x32x1, .f32⟩
  | .hbm, ⟨63, _⟩ => ⟨S73728x32x384, .f32⟩
  | .hbm, ⟨64, _⟩ => ⟨S73728x32x384, .f32⟩
  | .hbm, ⟨65, _⟩ => ⟨S1x32x384x4096, .bf16⟩
  | .hbm, ⟨66, _⟩ => ⟨S32x384x4096, .bf16⟩
  | .hbm, ⟨67, _⟩ => ⟨S32x384x4096, .f32⟩
  | .hbm, ⟨68, _⟩ => ⟨S73728x4096, .f32⟩
  | .hbm, ⟨69, _⟩ => ⟨S1x32x1x4096, .f32⟩
  | .hbm, ⟨70, _⟩ => ⟨S32x4096, .f32⟩
  | .hbm, ⟨71, _⟩ => ⟨S73728x4096, .f32⟩
  | .hbm, ⟨72, _⟩ => ⟨S73728x4096, .f32⟩
  | _, _ => ⟨S73728x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_0 : Ref sig .tc := ⟨.hbm, 38, rfl⟩
abbrev main_cst_1 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_cst_4 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== OutProj.lean ====
abbrev S16384x4096 : Shape := ⟨2, ![16384, 4096]⟩
abbrev S2x4096x4096 : Shape := ⟨3, ![2, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S2x4096x4096, .bf16⟩
  | .hbm, ⟨2, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutProjReferenceIdeal.lean ====
abbrev S16384x4096 : Shape := ⟨2, ![16384, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x4096, .bf16⟩
  | .hbm, ⟨2, _⟩ => ⟨S16384x4096, .f32⟩
  | .hbm, ⟨3, _⟩ => ⟨S1x4096x4096, .bf16⟩
  | .hbm, ⟨4, _⟩ => ⟨S4096x4096, .bf16⟩
  | .hbm, ⟨5, _⟩ => ⟨S4096x4096, .f32⟩
  | .hbm, ⟨6, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OddIn.lean ====
abbrev S16384x4096 : Shape := ⟨2, ![16384, 4096]⟩
abbrev S2x4096x12288 : Shape := ⟨3, ![2, 4096, 12288]⟩
abbrev S24 : Shape := ⟨1, ![24]⟩
abbrev S16384 : Shape := ⟨1, ![16384]⟩
abbrev S16 : Shape := ⟨1, ![16]⟩
abbrev S_ : Shape := ⟨0, ![]⟩
abbrev S16384x1 : Shape := ⟨2, ![16384, 1]⟩
abbrev S1x16 : Shape := ⟨2, ![1, 16]⟩
abbrev S16384x16 : Shape := ⟨2, ![16384, 16]⟩
abbrev S16384x96 : Shape := ⟨2, ![16384, 96]⟩
abbrev S16384x112 : Shape := ⟨2, ![16384, 112]⟩
abbrev S16384x128 : Shape := ⟨2, ![16384, 128]⟩
abbrev S16384x384 : Shape := ⟨2, ![16384, 384]⟩
abbrev S1x16384x384 : Shape := ⟨3, ![1, 16384, 384]⟩
abbrev S3x16384x384 : Shape := ⟨3, ![3, 16384, 384]⟩
abbrev S16384x12288 : Shape := ⟨2, ![16384, 12288]⟩
abbrev S1024x4096 : Shape := ⟨2, ![1024, 4096]⟩
abbrev S1x4096x512 : Shape := ⟨3, ![1, 4096, 512]⟩
abbrev S1x1024x384 : Shape := ⟨3, ![1, 1024, 384]⟩
abbrev S1 : Shape := ⟨1, ![1]⟩
abbrev S1024x512 : Shape := ⟨2, ![1024, 512]⟩
abbrev S4096x512 : Shape := ⟨2, ![4096, 512]⟩
abbrev S1024x384 : Shape := ⟨2, ![1024, 384]⟩
abbrev S1024x128 : Shape := ⟨2, ![1024, 128]⟩

abbrev nBuf : Space → Nat
  | .hbm => 104
  | .vmem => 8
  | .smem => 1
  | _ => 0

abbrev bufTy : (tb : Table) → Fin (tcTables nBuf tb) → BufTy
  | .hbm, ⟨0, _⟩ => ⟨S16384x4096, .bf16⟩
  | .hbm, ⟨1, _⟩ => ⟨S2x4096x12288, .bf16⟩
  | .hbm, ⟨2, _⟩ => ⟨S16384, .i32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S16384, .f32⟩
  | .hbm, ⟨12, _⟩ => ⟨S16384x1, .f32⟩
  | .hbm, ⟨13, _⟩ => ⟨S1x16, .f32⟩
  | .hbm, ⟨14, _⟩ => ⟨S16384x16, .f32⟩
  | .hbm, ⟨15, _⟩ => ⟨S16384x16, .f32⟩
  | .hbm, ⟨16, _⟩ => ⟨S16384x16, .f32⟩
  | .hbm, ⟨17, _⟩ => ⟨S16384x16, .f32⟩
  | .hbm, ⟨18, _⟩ => ⟨S16384x16, .f32⟩
  | .hbm, ⟨19, _⟩ => ⟨S_, .f32⟩
  | .hbm, ⟨20, _⟩ => ⟨S16384x96, .f32⟩
  | .hbm, ⟨21, _⟩ => ⟨S_, .f32⟩
  | .hbm, ⟨22, _⟩ => ⟨S16384x112, .f32⟩
  | .hbm, ⟨23, _⟩ => ⟨S16384x128, .f32⟩
  | .hbm, ⟨24, _⟩ => ⟨S16384x16, .f32⟩
  | .hbm, ⟨25, _⟩ => ⟨S16384x128, .f32⟩
  | .hbm, ⟨26, _⟩ => ⟨S_, .f32⟩
  | .hbm, ⟨27, _⟩ => ⟨S16384x16, .f32⟩
  | .hbm, ⟨28, _⟩ => ⟨S_, .f32⟩
  | .hbm, ⟨29, _⟩ => ⟨S16384x96, .f32⟩
  | .hbm, ⟨30, _⟩ => ⟨S16384x128, .f32⟩
  | .hbm, ⟨31, _⟩ => ⟨S16384x384, .f32⟩
  | .hbm, ⟨32, _⟩ => ⟨S_, .f32⟩
  | .hbm, ⟨33, _⟩ => ⟨S16384x384, .f32⟩
  | .hbm, ⟨34, _⟩ => ⟨S16384x384, .f32⟩
  | .hbm, ⟨35, _⟩ => ⟨S16, .f32⟩
  | .hbm, ⟨36, _⟩ => ⟨S16, .f32⟩
  | .hbm, ⟨37, _⟩ => ⟨S_, .f32⟩
  | .hbm, ⟨38, _⟩ => ⟨S16, .f32⟩
  | .hbm, ⟨39, _⟩ => ⟨S16, .f32⟩
  | .hbm, ⟨40, _⟩ => ⟨S_, .f32⟩
  | .hbm, ⟨41, _⟩ => ⟨S16, .f32⟩
  | .hbm, ⟨42, _⟩ => ⟨S16, .f32⟩
  | .hbm, ⟨43, _⟩ => ⟨S16384, .f32⟩
  | .hbm, ⟨44, _⟩ => ⟨S16384x1, .f32⟩
  | .hbm, ⟨45, _⟩ => ⟨S1x16, .f32⟩
  | .hbm, ⟨46, _⟩ => ⟨S16384x16, .f32⟩
  | .hbm, ⟨47, _⟩ => ⟨S16384x16, .f32⟩
  | .hbm, ⟨48, _⟩ => ⟨S16384x16, .f32⟩
  | .hbm, ⟨49, _⟩ => ⟨S16384x16, .f32⟩
  | .hbm, ⟨50, _⟩ => ⟨S16384x16, .f32⟩
  | .hbm, ⟨51, _⟩ => ⟨S_, .f32⟩
  | .hbm, ⟨52, _⟩ => ⟨S16384x96, .f32⟩
  | .hbm, ⟨53, _⟩ => ⟨S_, .f32⟩
  | .hbm, ⟨54, _⟩ => ⟨S16384x112, .f32⟩
  | .hbm, ⟨55, _⟩ => ⟨S16384x128, .f32⟩
  | .hbm, ⟨56, _⟩ => ⟨S16384x16, .f32⟩
  | .hbm, ⟨57, _⟩ => ⟨S16384x128, .f32⟩
  | .hbm, ⟨58, _⟩ => ⟨S_, .f32⟩
  | .hbm, ⟨59, _⟩ => ⟨S16384x16, .f32⟩
  | .hbm, ⟨60, _⟩ => ⟨S_, .f32⟩
  | .hbm, ⟨61, _⟩ => ⟨S16384x96, .f32⟩
  | .hbm, ⟨62, _⟩ => ⟨S16384x128, .f32⟩
  | .hbm, ⟨63, _⟩ => ⟨S16384x384, .f32⟩
  | .hbm, ⟨64, _⟩ => ⟨S_, .f32⟩
  | .hbm, ⟨65, _⟩ => ⟨S16384x384, .f32⟩
  | .hbm, ⟨66, _⟩ => ⟨S16384x384, .f32⟩
  | .hbm, ⟨67, _⟩ => ⟨S16, .f32⟩
  | .hbm, ⟨68, _⟩ => ⟨S16, .f32⟩
  | .hbm, ⟨69, _⟩ => ⟨S_, .f32⟩
  | .hbm, ⟨70, _⟩ => ⟨S16, .f32⟩
  | .hbm, ⟨71, _⟩ => ⟨S16, .f32⟩
  | .hbm, ⟨72, _⟩ => ⟨S_, .f32⟩
  | .hbm, ⟨73, _⟩ => ⟨S16, .f32⟩
  | .hbm, ⟨74, _⟩ => ⟨S16, .f32⟩
  | .hbm, ⟨75, _⟩ => ⟨S16384, .f32⟩
  | .hbm, ⟨76, _⟩ => ⟨S16384x1, .f32⟩
  | .hbm, ⟨77, _⟩ => ⟨S1x16, .f32⟩
  | .hbm, ⟨78, _⟩ => ⟨S16384x16, .f32⟩
  | .hbm, ⟨79, _⟩ => ⟨S16384x16, .f32⟩
  | .hbm, ⟨80, _⟩ => ⟨S16384x16, .f32⟩
  | .hbm, ⟨81, _⟩ => ⟨S16384x16, .f32⟩
  | .hbm, ⟨82, _⟩ => ⟨S16384x16, .f32⟩
  | .hbm, ⟨83, _⟩ => ⟨S_, .f32⟩
  | .hbm, ⟨84, _⟩ => ⟨S16384x96, .f32⟩
  | .hbm, ⟨85, _⟩ => ⟨S_, .f32⟩
  | .hbm, ⟨86, _⟩ => ⟨S16384x112, .f32⟩
  | .hbm, ⟨87, _⟩ => ⟨S16384x128, .f32⟩
  | .hbm, ⟨88, _⟩ => ⟨S16384x16, .f32⟩
  | .hbm, ⟨89, _⟩ => ⟨S16384x128, .f32⟩
  | .hbm, ⟨90, _⟩ => ⟨S_, .f32⟩
  | .hbm, ⟨91, _⟩ => ⟨S16384x16, .f32⟩
  | .hbm, ⟨92, _⟩ => ⟨S_, .f32⟩
  | .hbm, ⟨93, _⟩ => ⟨S16384x96, .f32⟩
  | .hbm, ⟨94, _⟩ => ⟨S16384x128, .f32⟩
  | .hbm, ⟨95, _⟩ => ⟨S16384x384, .f32⟩
  | .hbm, ⟨96, _⟩ => ⟨S_, .f32⟩
  | .hbm, ⟨97, _⟩ => ⟨S16384x384, .f32⟩
  | .hbm, ⟨98, _⟩ => ⟨S16384x384, .f32⟩
  | .hbm, ⟨99, _⟩ => ⟨S1x16384x384, .f32⟩
  | .hbm, ⟨100, _⟩ => ⟨S1x16384x384, .f32⟩
  | .hbm, ⟨101, _⟩ => ⟨S1x16384x384, .f32⟩
  | .hbm, ⟨102, _⟩ => ⟨S3x16384x384, .f32⟩
  | .hbm, ⟨103, _⟩ => ⟨S16384x12288, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x1024x384, .f32⟩
  | .local _ .vmem, ⟨5, _⟩ => ⟨S1x1024x384, .f32⟩
  | .local _ .vmem, ⟨6, _⟩ => ⟨S1024x512, .bf16⟩
  | .local _ .vmem, ⟨7, _⟩ => ⟨S1024x512, .bf16⟩
  | .local _ .smem, ⟨0, _⟩ => ⟨S24, .i32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_8 : Ref sig .tc := ⟨.hbm, 51, rfl⟩
abbrev main_v40 : Ref sig .tc := ⟨.hbm, 52, rfl⟩
abbrev main_cst_9 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_10 : Ref sig .tc := ⟨.hbm, 58, rfl⟩
abbrev main_v45 : Ref sig .tc := ⟨.hbm, 59, rfl⟩
abbrev main_cst_11 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_12 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_13 : Ref sig .tc := ⟨.hbm, 69, rfl⟩
abbrev main_v53 : Ref sig .tc := ⟨.hbm, 70, rfl⟩
abbrev main_v54 : Ref sig .tc := ⟨.hbm, 71, rfl⟩
abbrev main_cst_14 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_15 : Ref sig .tc := ⟨.hbm, 83, rfl⟩
abbrev main_v65 : Ref sig .tc := ⟨.hbm, 84, rfl⟩
abbrev main_cst_16 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_17 : Ref sig .tc := ⟨.hbm, 90, rfl⟩
abbrev main_v70 : Ref sig .tc := ⟨.hbm, 91, rfl⟩
abbrev main_cst_18 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_19 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 24], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (v5 : BitVec 32) : BitVec 1 :=
  let c0_i32 : BitVec 32 := 0#32
  let v6 : BitVec 1 := Scalar.cmpi .eq v5 c0_i32
  let v7 : BitVec 32 := Scalar.extui v6
  let c0_i32_4 : BitVec 32 := 0#32
  let v8 : BitVec 1 := Scalar.cmpi .ne v7 c0_i32_4
  v8

def k0_cond2 (v5 : BitVec 32) : BitVec 1 :=
  let c0_i32_5 : BitVec 32 := 0#32
  let v9 : BitVec 1 := Scalar.cmpi .ne v5 c0_i32_5
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S24) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OddInReferenceIdeal.lean ====
abbrev S16384x4096 : Shape := ⟨2, ![16384, 4096]⟩
abbrev S2x4096x12288 : Shape := ⟨3, ![2, 4096, 12288]⟩
abbrev S1x4096x12288 : Shape := ⟨3, ![1, 4096, 12288]⟩
abbrev S4096x12288 : Shape := ⟨2, ![4096, 12288]⟩
abbrev S16384x12288 : Shape := ⟨2, ![16384, 12288]⟩
abbrev S16384x32x128 : Shape := ⟨3, ![16384, 32, 128]⟩
abbrev S16384 : Shape := ⟨1, ![16384]⟩
abbrev S16 : Shape := ⟨1, ![16]⟩
abbrev S_ : Shape := ⟨0, ![]⟩
abbrev S16384x1 : Shape := ⟨2, ![16384, 1]⟩
abbrev S1x16 : Shape := ⟨2, ![1, 16]⟩
abbrev S16384x16 : Shape := ⟨2, ![16384, 16]⟩
abbrev S16384x1x16 : Shape := ⟨3, ![16384, 1, 16]⟩
abbrev S16384x32x16 : Shape := ⟨3, ![16384, 32, 16]⟩
abbrev S16384x32x96 : Shape := ⟨3, ![16384, 32, 96]⟩

abbrev nBuf : Space → Nat
  | .hbm => 85
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x12288, .bf16⟩
  | .hbm, ⟨2, _⟩ => ⟨S16384x4096, .f32⟩
  | .hbm, ⟨3, _⟩ => ⟨S1x4096x12288, .bf16⟩
  | .hbm, ⟨4, _⟩ => ⟨S4096x12288, .bf16⟩
  | .hbm, ⟨5, _⟩ => ⟨S4096x12288, .f32⟩
  | .hbm, ⟨6, _⟩ => ⟨S16384x12288, .f32⟩
  | .hbm, ⟨7, _⟩ => ⟨S16384x4096, .f32⟩
  | .hbm, ⟨8, _⟩ => ⟨S16384x32x128, .f32⟩
  | .hbm, ⟨9, _⟩ => ⟨S16384x4096, .f32⟩
  | .hbm, ⟨10, _⟩ => ⟨S16384x32x128, .f32⟩
  | .hbm, ⟨11, _⟩ => ⟨S16384x4096, .f32⟩
  | .hbm, ⟨12, _⟩ => ⟨S16384, .i32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S16384, .f32⟩
  | .hbm, ⟨22, _⟩ => ⟨S16384x1, .f32⟩
  | .hbm, ⟨23, _⟩ => ⟨S1x16, .f32⟩
  | .hbm, ⟨24, _⟩ => ⟨S16384x16, .f32⟩
  | .hbm, ⟨25, _⟩ => ⟨S16384x16, .f32⟩
  | .hbm, ⟨26, _⟩ => ⟨S16384x16, .f32⟩
  | .hbm, ⟨27, _⟩ => ⟨S16384x16, .f32⟩
  | .hbm, ⟨28, _⟩ => ⟨S16384x1x16, .f32⟩
  | .hbm, ⟨29, _⟩ => ⟨S16384x16, .f32⟩
  | .hbm, ⟨30, _⟩ => ⟨S16384x1x16, .f32⟩
  | .hbm, ⟨31, _⟩ => ⟨S16384x32x16, .f32⟩
  | .hbm, ⟨32, _⟩ => ⟨S16384x32x16, .f32⟩
  | .hbm, ⟨33, _⟩ => ⟨S16384x32x16, .f32⟩
  | .hbm, ⟨34, _⟩ => ⟨S16384x32x16, .f32⟩
  | .hbm, ⟨35, _⟩ => ⟨S16384x32x16, .f32⟩
  | .hbm, ⟨36, _⟩ => ⟨S16384x32x16, .f32⟩
  | .hbm, ⟨37, _⟩ => ⟨S16384x32x16, .f32⟩
  | .hbm, ⟨38, _⟩ => ⟨S16384x32x16, .f32⟩
  | .hbm, ⟨39, _⟩ => ⟨S16384x32x16, .f32⟩
  | .hbm, ⟨40, _⟩ => ⟨S16384x32x16, .f32⟩
  | .hbm, ⟨41, _⟩ => ⟨S16384x32x16, .f32⟩
  | .hbm, ⟨42, _⟩ => ⟨S16384x32x16, .f32⟩
  | .hbm, ⟨43, _⟩ => ⟨S16384x32x96, .f32⟩
  | .hbm, ⟨44, _⟩ => ⟨S16384x32x128, .f32⟩
  | .hbm, ⟨45, _⟩ => ⟨S_, .f32⟩
  | .hbm, ⟨46, _⟩ => ⟨S16384x32x128, .f32⟩
  | .hbm, ⟨47, _⟩ => ⟨S16384x32x128, .f32⟩
  | .hbm, ⟨48, _⟩ => ⟨S16384x4096, .f32⟩
  | .hbm, ⟨49, _⟩ => ⟨S16384, .i32⟩
  | .hbm, ⟨50, _⟩ => ⟨S16, .f32⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S_, .f32⟩
  | .hbm, ⟨56, _⟩ => ⟨S16, .f32⟩
  | .hbm, ⟨57, _⟩ => ⟨S16, .f32⟩
  | .hbm, ⟨58, _⟩ => ⟨S16384, .f32⟩
  | .hbm, ⟨59, _⟩ => ⟨S16384x1, .f32⟩
  | .hbm, ⟨60, _⟩ => ⟨S1x16, .f32⟩
  | .hbm, ⟨61, _⟩ => ⟨S16384x16, .f32⟩
  | .hbm, ⟨62, _⟩ => ⟨S16384x16, .f32⟩
  | .hbm, ⟨63, _⟩ => ⟨S16384x16, .f32⟩
  | .hbm, ⟨64, _⟩ => ⟨S16384x16, .f32⟩
  | .hbm, ⟨65, _⟩ => ⟨S16384x1x16, .f32⟩
  | .hbm, ⟨66, _⟩ => ⟨S16384x16, .f32⟩
  | .hbm, ⟨67, _⟩ => ⟨S16384x1x16, .f32⟩
  | .hbm, ⟨68, _⟩ => ⟨S16384x32x16, .f32⟩
  | .hbm, ⟨69, _⟩ => ⟨S16384x32x16, .f32⟩
  | .hbm, ⟨70, _⟩ => ⟨S16384x32x16, .f32⟩
  | .hbm, ⟨71, _⟩ => ⟨S16384x32x16, .f32⟩
  | .hbm, ⟨72, _⟩ => ⟨S16384x32x16, .f32⟩
  | .hbm, ⟨73, _⟩ => ⟨S16384x32x16, .f32⟩
  | .hbm, ⟨74, _⟩ => ⟨S16384x32x16, .f32⟩
  | .hbm, ⟨75, _⟩ => ⟨S16384x32x16, .f32⟩
  | .hbm, ⟨76, _⟩ => ⟨S16384x32x16, .f32⟩
  | .hbm, ⟨77, _⟩ => ⟨S16384x32x16, .f32⟩
  | .hbm, ⟨78, _⟩ => ⟨S16384x32x16, .f32⟩
  | .hbm, ⟨79, _⟩ => ⟨S16384x32x16, .f32⟩
  | .hbm, ⟨80, _⟩ => ⟨S16384x32x96, .f32⟩
  | .hbm, ⟨81, _⟩ => ⟨S16384x32x128, .f32⟩
  | .hbm, ⟨82, _⟩ => ⟨S16384x4096, .f32⟩
  | .hbm, ⟨83, _⟩ => ⟨S16384x12288, .f32⟩
  | .hbm, ⟨84, _⟩ => ⟨S16384x12288, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_cst_1 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_cst_2 : Ref sig .tc := ⟨.hbm, 52, rfl⟩
abbrev main_v47 : Ref sig .tc := ⟨.hbm, 53, rfl⟩
abbrev main_v48 : Ref sig .tc := ⟨.hbm, 54, rfl⟩
abbrev main_cst_3 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩

abbrev nD : Nat := 1
abbrev τ : Topo := Topo.v7x

variable {F : FTy → Type} [FloatOps F]
-- ==== EvenIn.lean ====
abbrev S16384x4096 : Shape := ⟨2, ![16384, 4096]⟩
abbrev S4096x10752 : Shape := ⟨2, ![4096, 10752]⟩
abbrev S21 : Shape := ⟨1, ![21]⟩
abbrev S16384 : Shape := ⟨1, ![16384]⟩
abbrev S16 : Shape := ⟨1, ![16]⟩
abbrev S_ : Shape := ⟨0, ![]⟩
abbrev S16384x1 : Shape := ⟨2, ![16384, 1]⟩
abbrev S1x16 : Shape := ⟨2, ![1, 16]⟩
abbrev S16384x16 : Shape := ⟨2, ![16384, 16]⟩
abbrev S16384x96 : Shape := ⟨2, ![16384, 96]⟩
abbrev S16384x112 : Shape := ⟨2, ![16384, 112]⟩
abbrev S16384x128 : Shape := ⟨2, ![16384, 128]⟩
abbrev S16384x384 : Shape := ⟨2, ![16384, 384]⟩
abbrev S1x16384x384 : Shape := ⟨3, ![1, 16384, 384]⟩
abbrev S3x16384x384 : Shape := ⟨3, ![3, 16384, 384]⟩
abbrev S16384x10752 : Shape := ⟨2, ![16384, 10752]⟩
abbrev S1024x4096 : Shape := ⟨2, ![1024, 4096]⟩
abbrev S4096x512 : Shape := ⟨2, ![4096, 512]⟩
abbrev S1x1024x384 : Shape := ⟨3, ![1, 1024, 384]⟩
abbrev S1 : Shape := ⟨1, ![1]⟩
abbrev S1024x512 : Shape := ⟨2, ![1024, 512]⟩
abbrev S1024x384 : Shape := ⟨2, ![1024, 384]⟩
abbrev S1024x128 : Shape := ⟨2, ![1024, 128]⟩

abbrev nBuf : Space → Nat
  | .hbm => 104
  | .vmem => 8
  | .smem => 1
  | _ => 0

abbrev bufTy : (tb : Table) → Fin (tcTables nBuf tb) → BufTy
  | .hbm, ⟨0, _⟩ => ⟨S16384x4096, .bf16⟩
  | .hbm, ⟨1, _⟩ => ⟨S4096x10752, .bf16⟩
  | .hbm, ⟨2, _⟩ => ⟨S16384, .i32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S16384, .f32⟩
  | .hbm, ⟨12, _⟩ => ⟨S16384x1, .f32⟩
  | .hbm, ⟨13, _⟩ => ⟨S1x16, .f32⟩
  | .hbm, ⟨14, _⟩ => ⟨S16384x16, .f32⟩
  | .hbm, ⟨15, _⟩ => ⟨S16384x16, .f32⟩
  | .hbm, ⟨16, _⟩ => ⟨S16384x16, .f32⟩
  | .hbm, ⟨17, _⟩ => ⟨S16384x16, .f32⟩
  | .hbm, ⟨18, _⟩ => ⟨S16384x16, .f32⟩
  | .hbm, ⟨19, _⟩ => ⟨S_, .f32⟩
  | .hbm, ⟨20, _⟩ => ⟨S16384x96, .f32⟩
  | .hbm, ⟨21, _⟩ => ⟨S_, .f32⟩
  | .hbm, ⟨22, _⟩ => ⟨S16384x112, .f32⟩
  | .hbm, ⟨23, _⟩ => ⟨S16384x128, .f32⟩
  | .hbm, ⟨24, _⟩ => ⟨S16384x16, .f32⟩
  | .hbm, ⟨25, _⟩ => ⟨S16384x128, .f32⟩
  | .hbm, ⟨26, _⟩ => ⟨S_, .f32⟩
  | .hbm, ⟨27, _⟩ => ⟨S16384x16, .f32⟩
  | .hbm, ⟨28, _⟩ => ⟨S_, .f32⟩
  | .hbm, ⟨29, _⟩ => ⟨S16384x96, .f32⟩
  | .hbm, ⟨30, _⟩ => ⟨S16384x128, .f32⟩
  | .hbm, ⟨31, _⟩ => ⟨S16384x384, .f32⟩
  | .hbm, ⟨32, _⟩ => ⟨S_, .f32⟩
  | .hbm, ⟨33, _⟩ => ⟨S16384x384, .f32⟩
  | .hbm, ⟨34, _⟩ => ⟨S16384x384, .f32⟩
  | .hbm, ⟨35, _⟩ => ⟨S16, .f32⟩
  | .hbm, ⟨36, _⟩ => ⟨S16, .f32⟩
  | .hbm, ⟨37, _⟩ => ⟨S_, .f32⟩
  | .hbm, ⟨38, _⟩ => ⟨S16, .f32⟩
  | .hbm, ⟨39, _⟩ => ⟨S16, .f32⟩
  | .hbm, ⟨40, _⟩ => ⟨S_, .f32⟩
  | .hbm, ⟨41, _⟩ => ⟨S16, .f32⟩
  | .hbm, ⟨42, _⟩ => ⟨S16, .f32⟩
  | .hbm, ⟨43, _⟩ => ⟨S16384, .f32⟩
  | .hbm, ⟨44, _⟩ => ⟨S16384x1, .f32⟩
  | .hbm, ⟨45, _⟩ => ⟨S1x16, .f32⟩
  | .hbm, ⟨46, _⟩ => ⟨S16384x16, .f32⟩
  | .hbm, ⟨47, _⟩ => ⟨S16384x16, .f32⟩
  | .hbm, ⟨48, _⟩ => ⟨S16384x16, .f32⟩
  | .hbm, ⟨49, _⟩ => ⟨S16384x16, .f32⟩
  | .hbm, ⟨50, _⟩ => ⟨S16384x16, .f32⟩
  | .hbm, ⟨51, _⟩ => ⟨S_, .f32⟩
  | .hbm, ⟨52, _⟩ => ⟨S16384x96, .f32⟩
  | .hbm, ⟨53, _⟩ => ⟨S_, .f32⟩
  | .hbm, ⟨54, _⟩ => ⟨S16384x112, .f32⟩
  | .hbm, ⟨55, _⟩ => ⟨S16384x128, .f32⟩
  | .hbm, ⟨56, _⟩ => ⟨S16384x16, .f32⟩
  | .hbm, ⟨57, _⟩ => ⟨S16384x128, .f32⟩
  | .hbm, ⟨58, _⟩ => ⟨S_, .f32⟩
  | .hbm, ⟨59, _⟩ => ⟨S16384x16, .f32⟩
  | .hbm, ⟨60, _⟩ => ⟨S_, .f32⟩
  | .hbm, ⟨61, _⟩ => ⟨S16384x96, .f32⟩
  | .hbm, ⟨62, _⟩ => ⟨S16384x128, .f32⟩
  | .hbm, ⟨63, _⟩ => ⟨S16384x384, .f32⟩
  | .hbm, ⟨64, _⟩ => ⟨S_, .f32⟩
  | .hbm, ⟨65, _⟩ => ⟨S16384x384, .f32⟩
  | .hbm, ⟨66, _⟩ => ⟨S16384x384, .f32⟩
  | .hbm, ⟨67, _⟩ => ⟨S16, .f32⟩
  | .hbm, ⟨68, _⟩ => ⟨S16, .f32⟩
  | .hbm, ⟨69, _⟩ => ⟨S_, .f32⟩
  | .hbm, ⟨70, _⟩ => ⟨S16, .f32⟩
  | .hbm, ⟨71, _⟩ => ⟨S16, .f32⟩
  | .hbm, ⟨72, _⟩ => ⟨S_, .f32⟩
  | .hbm, ⟨73, _⟩ => ⟨S16, .f32⟩
  | .hbm, ⟨74, _⟩ => ⟨S16, .f32⟩
  | .hbm, ⟨75, _⟩ => ⟨S16384, .f32⟩
  | .hbm, ⟨76, _⟩ => ⟨S16384x1, .f32⟩
  | .hbm, ⟨77, _⟩ => ⟨S1x16, .f32⟩
  | .hbm, ⟨78, _⟩ => ⟨S16384x16, .f32⟩
  | .hbm, ⟨79, _⟩ => ⟨S16384x16, .f32⟩
  | .hbm, ⟨80, _⟩ => ⟨S16384x16, .f32⟩
  | .hbm, ⟨81, _⟩ => ⟨S16384x16, .f32⟩
  | .hbm, ⟨82, _⟩ => ⟨S16384x16, .f32⟩
  | .hbm, ⟨83, _⟩ => ⟨S_, .f32⟩
  | .hbm, ⟨84, _⟩ => ⟨S16384x96, .f32⟩
  | .hbm, ⟨85, _⟩ => ⟨S_, .f32⟩
  | .hbm, ⟨86, _⟩ => ⟨S16384x112, .f32⟩
  | .hbm, ⟨87, _⟩ => ⟨S16384x128, .f32⟩
  | .hbm, ⟨88, _⟩ => ⟨S16384x16, .f32⟩
  | .hbm, ⟨89, _⟩ => ⟨S16384x128, .f32⟩
  | .hbm, ⟨90, _⟩ => ⟨S_, .f32⟩
  | .hbm, ⟨91, _⟩ => ⟨S16384x16, .f32⟩
  | .hbm, ⟨92, _⟩ => ⟨S_, .f32⟩
  | .hbm, ⟨93, _⟩ => ⟨S16384x96, .f32⟩
  | .hbm, ⟨94, _⟩ => ⟨S16384x128, .f32⟩
  | .hbm, ⟨95, _⟩ => ⟨S16384x384, .f32⟩
  | .hbm, ⟨96, _⟩ => ⟨S_, .f32⟩
  | .hbm, ⟨97, _⟩ => ⟨S16384x384, .f32⟩
  | .hbm, ⟨98, _⟩ => ⟨S16384x384, .f32⟩
  | .hbm, ⟨99, _⟩ => ⟨S1x16384x384, .f32⟩
  | .hbm, ⟨100, _⟩ => ⟨S1x16384x384, .f32⟩
  | .hbm, ⟨101, _⟩ => ⟨S1x16384x384, .f32⟩
  | .hbm, ⟨102, _⟩ => ⟨S3x16384x384, .f32⟩
  | .hbm, ⟨103, _⟩ => ⟨S16384x10752, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1x1024x384, .f32⟩
  | .local _ .vmem, ⟨5, _⟩ => ⟨S1x1024x384, .f32⟩
  | .local _ .vmem, ⟨6, _⟩ => ⟨S1024x512, .bf16⟩
  | .local _ .vmem, ⟨7, _⟩ => ⟨S1024x512, .bf16⟩
  | .local _ .smem, ⟨0, _⟩ => ⟨S21, .i32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_8 : Ref sig .tc := ⟨.hbm, 51, rfl⟩
abbrev main_v40 : Ref sig .tc := ⟨.hbm, 52, rfl⟩
abbrev main_cst_9 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_10 : Ref sig .tc := ⟨.hbm, 58, rfl⟩
abbrev main_v45 : Ref sig .tc := ⟨.hbm, 59, rfl⟩
abbrev main_cst_11 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_12 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_13 : Ref sig .tc := ⟨.hbm, 69, rfl⟩
abbrev main_v53 : Ref sig .tc := ⟨.hbm, 70, rfl⟩
abbrev main_v54 : Ref sig .tc := ⟨.hbm, 71, rfl⟩
abbrev main_cst_14 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_15 : Ref sig .tc := ⟨.hbm, 83, rfl⟩
abbrev main_v65 : Ref sig .tc := ⟨.hbm, 84, rfl⟩
abbrev main_cst_16 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_17 : Ref sig .tc := ⟨.hbm, 90, rfl⟩
abbrev main_v70 : Ref sig .tc := ⟨.hbm, 91, rfl⟩
abbrev main_cst_18 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_19 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 21], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (v4 : BitVec 32) : BitVec 1 :=
  let c0_i32 : BitVec 32 := 0#32
  let v5 : BitVec 1 := Scalar.cmpi .eq v4 c0_i32
  let v6 : BitVec 32 := Scalar.extui v5
  let c0_i32_3 : BitVec 32 := 0#32
  let v7 : BitVec 1 := Scalar.cmpi .ne v6 c0_i32_3
  v7

def k0_cond2 (v4 : BitVec 32) : BitVec 1 :=
  let c0_i32_4 : BitVec 32 := 0#32
  let v8 : BitVec 1 := Scalar.cmpi .ne v4 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (k0_off1_inb : ∀ i : grid0.Coords, ∀ a, (k0_off1 i) a + S1.size a ≤ S21.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S21) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== EvenInReferenceIdeal.lean ====
abbrev S16384x4096 : Shape := ⟨2, ![16384, 4096]⟩
abbrev S4096x10752 : Shape := ⟨2, ![4096, 10752]⟩
abbrev S16384x10752 : Shape := ⟨2, ![16384, 10752]⟩
abbrev S16384x2560 : Shape := ⟨2, ![16384, 2560]⟩
abbrev S16384x512 : Shape := ⟨2, ![16384, 512]⟩
abbrev S16384x1536 : Shape := ⟨2, ![16384, 1536]⟩
abbrev S16384x20x128 : Shape := ⟨3, ![16384, 20, 128]⟩
abbrev S16384 : Shape := ⟨1, ![16384]⟩
abbrev S16 : Shape := ⟨1, ![16]⟩
abbrev S_ : Shape := ⟨0, ![]⟩
abbrev S16384x1 : Shape := ⟨2, ![16384, 1]⟩
abbrev S1x16 : Shape := ⟨2, ![1, 16]⟩
abbrev S16384x16 : Shape := ⟨2, ![16384, 16]⟩
abbrev S16384x1x16 : Shape := ⟨3, ![16384, 1, 16]⟩
abbrev S16384x20x16 : Shape := ⟨3, ![16384, 20, 16]⟩
abbrev S16384x20x96 : Shape := ⟨3, ![16384, 20, 96]⟩
abbrev S16384x4x128 : Shape := ⟨3, ![16384, 4, 128]⟩
abbrev S16384x4x16 : Shape := ⟨3, ![16384, 4, 16]⟩
abbrev S16384x4x96 : Shape := ⟨3, ![16384, 4, 96]⟩
abbrev S16384x12x128 : Shape := ⟨3, ![16384, 12, 128]⟩
abbrev S16384x12x16 : Shape := ⟨3, ![16384, 12, 16]⟩
abbrev S16384x12x96 : Shape := ⟨3, ![16384, 12, 96]⟩

abbrev nBuf : Space → Nat
  | .hbm => 199
  | .vmem => 0
  | .smem => 0
  | _ => 0

abbrev hbmTy0_0 (i : Nat) : BufTy := match i % 128 with
  | 0 => ⟨S16384x4096, .bf16⟩
  | 1 => ⟨S4096x10752, .bf16⟩
  | 2 => ⟨S16384x4096, .f32⟩
  | 3 => ⟨S4096x10752, .f32⟩
  | 4 => ⟨S16384x10752, .f32⟩
  | 5 => ⟨S16384x2560, .f32⟩
  | 6 => ⟨S16384x512, .f32⟩
  | 7 => ⟨S16384x512, .f32⟩
  | 8 => ⟨S16384x512, .f32⟩
  | 9 => ⟨S16384x512, .f32⟩
  | 10 => ⟨S16384x512, .f32⟩
  | 11 => ⟨S16384x512, .f32⟩
  | 12 => ⟨S16384x1536, .f32⟩
  | 13 => ⟨S16384x1536, .f32⟩
  | 14 => ⟨S16384x1536, .f32⟩
  | 15 => ⟨S16384x512, .f32⟩
  | 16 => ⟨S16384x20x128, .f32⟩
  | 17 => ⟨S16384, .i32⟩
  | 18 => ⟨S16, .f32⟩
  | 19 => ⟨S16, .f32⟩
  | 20 => ⟨S_, .f32⟩
  | 21 => ⟨S16, .f32⟩
  | 22 => ⟨S16, .f32⟩
  | 23 => ⟨S_, .f32⟩
  | 24 => ⟨S16, .f32⟩
  | 25 => ⟨S16, .f32⟩
  | 26 => ⟨S16384, .f32⟩
  | 27 => ⟨S16384x1, .f32⟩
  | 28 => ⟨S1x16, .f32⟩
  | 29 => ⟨S16384x16, .f32⟩
  | 30 => ⟨S16384x16, .f32⟩
  | 31 => ⟨S16384x16, .f32⟩
  | 32 => ⟨S16384x16, .f32⟩
  | 33 => ⟨S16384x1x16, .f32⟩
  | 34 => ⟨S16384x16, .f32⟩
  | 35 => ⟨S16384x1x16, .f32⟩
  | 36 => ⟨S16384x20x16, .f32⟩
  | 37 => ⟨S16384x20x16, .f32⟩
  | 38 => ⟨S16384x20x16, .f32⟩
  | 39 => ⟨S16384x20x16, .f32⟩
  | 40 => ⟨S16384x20x16, .f32⟩
  | 41 => ⟨S16384x20x16, .f32⟩
  | 42 => ⟨S16384x20x16, .f32⟩
  | 43 => ⟨S16384x20x16, .f32⟩
  | 44 => ⟨S16384x20x16, .f32⟩
  | 45 => ⟨S16384x20x16, .f32⟩
  | 46 => ⟨S16384x20x16, .f32⟩
  | 47 => ⟨S16384x20x16, .f32⟩
  | 48 => ⟨S16384x20x96, .f32⟩
  | 49 => ⟨S16384x20x128, .f32⟩
  | 50 => ⟨S_, .f32⟩
  | 51 => ⟨S16384x20x128, .f32⟩
  | 52 => ⟨S16384x20x128, .f32⟩
  | 53 => ⟨S16384x2560, .f32⟩
  | 54 => ⟨S16384x4x128, .f32⟩
  | 55 => ⟨S16384, .i32⟩
  | 56 => ⟨S16, .f32⟩
  | 57 => ⟨S16, .f32⟩
  | 58 => ⟨S_, .f32⟩
  | 59 => ⟨S16, .f32⟩
  | 60 => ⟨S16, .f32⟩
  | 61 => ⟨S_, .f32⟩
  | 62 => ⟨S16, .f32⟩
  | 63 => ⟨S16, .f32⟩
  | 64 => ⟨S16384, .f32⟩
  | 65 => ⟨S16384x1, .f32⟩
  | 66 => ⟨S1x16, .f32⟩
  | 67 => ⟨S16384x16, .f32⟩
  | 68 => ⟨S16384x16, .f32⟩
  | 69 => ⟨S16384x16, .f32⟩
  | 70 => ⟨S16384x16, .f32⟩
  | 71 => ⟨S16384x1x16, .f32⟩
  | 72 => ⟨S16384x16, .f32⟩
  | 73 => ⟨S16384x1x16, .f32⟩
  | 74 => ⟨S16384x4x16, .f32⟩
  | 75 => ⟨S16384x4x16, .f32⟩
  | 76 => ⟨S16384x4x16, .f32⟩
  | 77 => ⟨S16384x4x16, .f32⟩
  | 78 => ⟨S16384x4x16, .f32⟩
  | 79 => ⟨S16384x4x16, .f32⟩
  | 80 => ⟨S16384x4x16, .f32⟩
  | 81 => ⟨S16384x4x16, .f32⟩
  | 82 => ⟨S16384x4x16, .f32⟩
  | 83 => ⟨S16384x4x16, .f32⟩
  | 84 => ⟨S16384x4x16, .f32⟩
  | 85 => ⟨S16384x4x16, .f32⟩
  | 86 => ⟨S16384x4x96, .f32⟩
  | 87 => ⟨S16384x4x128, .f32⟩
  | 88 => ⟨S16384x512, .f32⟩
  | 89 => ⟨S16384x4x128, .f32⟩
  | 90 => ⟨S16384, .i32⟩
  | 91 => ⟨S16, .f32⟩
  | 92 => ⟨S16, .f32⟩
  | 93 => ⟨S_, .f32⟩
  | 94 => ⟨S16, .f32⟩
  | 95 => ⟨S16, .f32⟩
  | 96 => ⟨S_, .f32⟩
  | 97 => ⟨S16, .f32⟩
  | 98 => ⟨S16, .f32⟩
  | 99 => ⟨S16384, .f32⟩
  | 100 => ⟨S16384x1, .f32⟩
  | 101 => ⟨S1x16, .f32⟩
  | 102 => ⟨S16384x16, .f32⟩
  | 103 => ⟨S16384x16, .f32⟩
  | 104 => ⟨S16384x16, .f32⟩
  | 105 => ⟨S16384x16, .f32⟩
  | 106 => ⟨S16384x1x16, .f32⟩
  | 107 => ⟨S16384x16, .f32⟩
  | 108 => ⟨S16384x1x16, .f32⟩
  | 109 => ⟨S16384x4x16, .f32⟩
  | 110 => ⟨S16384x4x16, .f32⟩
  | 111 => ⟨S16384x4x16, .f32⟩
  | 112 => ⟨S16384x4x16, .f32⟩
  | 113 => ⟨S16384x4x16, .f32⟩
  | 114 => ⟨S16384x4x16, .f32⟩
  | 115 => ⟨S16384x4x16, .f32⟩
  | 116 => ⟨S16384x4x16, .f32⟩
  | 117 => ⟨S16384x4x16, .f32⟩
  | 118 => ⟨S16384x4x16, .f32⟩
  | 119 => ⟨S16384x4x16, .f32⟩
  | 120 => ⟨S16384x4x16, .f32⟩
  | 121 => ⟨S16384x4x96, .f32⟩
  | 122 => ⟨S16384x4x128, .f32⟩
  | 123 => ⟨S16384x512, .f32⟩
  | 124 => ⟨S16384x12x128, .f32⟩
  | 125 => ⟨S16384, .i32⟩
  | 126 => ⟨S16, .f32⟩
  | 127 => ⟨S16, .f32⟩
  | _ => ⟨S16384x4096, .bf16⟩

abbrev hbmTy0_1 (i : Nat) : BufTy := match i % 128 with
  | 0 => ⟨S_, .f32⟩
  | 1 => ⟨S16, .f32⟩
  | 2 => ⟨S16, .f32⟩
  | 3 => ⟨S_, .f32⟩
  | 4 => ⟨S16, .f32⟩
  | 5 => ⟨S16, .f32⟩
  | 6 => ⟨S16384, .f32⟩
  | 7 => ⟨S16384x1, .f32⟩
  | 8 => ⟨S1x16, .f32⟩
  | 9 => ⟨S16384x16, .f32⟩
  | 10 => ⟨S16384x16, .f32⟩
  | 11 => ⟨S16384x16, .f32⟩
  | 12 => ⟨S16384x16, .f32⟩
  | 13 => ⟨S16384x1x16, .f32⟩
  | 14 => ⟨S16384x16, .f32⟩
  | 15 => ⟨S16384x1x16, .f32⟩
  | 16 => ⟨S16384x12x16, .f32⟩
  | 17 => ⟨S16384x12x16, .f32⟩
  | 18 => ⟨S16384x12x16, .f32⟩
  | 19 => ⟨S16384x12x16, .f32⟩
  | 20 => ⟨S16384x12x16, .f32⟩
  | 21 => ⟨S16384x12x16, .f32⟩
  | 22 => ⟨S16384x12x16, .f32⟩
  | 23 => ⟨S16384x12x16, .f32⟩
  | 24 => ⟨S16384x12x16, .f32⟩
  | 25 => ⟨S16384x12x16, .f32⟩
  | 26 => ⟨S16384x12x16, .f32⟩
  | 27 => ⟨S16384x12x16, .f32⟩
  | 28 => ⟨S16384x12x96, .f32⟩
  | 29 => ⟨S16384x12x128, .f32⟩
  | 30 => ⟨S_, .f32⟩
  | 31 => ⟨S16384x12x128, .f32⟩
  | 32 => ⟨S16384x12x128, .f32⟩
  | 33 => ⟨S16384x1536, .f32⟩
  | 34 => ⟨S16384x12x128, .f32⟩
  | 35 => ⟨S16384, .i32⟩
  | 36 => ⟨S16, .f32⟩
  | 37 => ⟨S16, .f32⟩
  | 38 => ⟨S_, .f32⟩
  | 39 => ⟨S16, .f32⟩
  | 40 => ⟨S16, .f32⟩
  | 41 => ⟨S_, .f32⟩
  | 42 => ⟨S16, .f32⟩
  | 43 => ⟨S16, .f32⟩
  | 44 => ⟨S16384, .f32⟩
  | 45 => ⟨S16384x1, .f32⟩
  | 46 => ⟨S1x16, .f32⟩
  | 47 => ⟨S16384x16, .f32⟩
  | 48 => ⟨S16384x16, .f32⟩
  | 49 => ⟨S16384x16, .f32⟩
  | 50 => ⟨S16384x16, .f32⟩
  | 51 => ⟨S16384x1x16, .f32⟩
  | 52 => ⟨S16384x16, .f32⟩
  | 53 => ⟨S16384x1x16, .f32⟩
  | 54 => ⟨S16384x12x16, .f32⟩
  | 55 => ⟨S16384x12x16, .f32⟩
  | 56 => ⟨S16384x12x16, .f32⟩
  | 57 => ⟨S16384x12x16, .f32⟩
  | 58 => ⟨S16384x12x16, .f32⟩
  | 59 => ⟨S16384x12x16, .f32⟩
  | 60 => ⟨S16384x12x16, .f32⟩
  | 61 => ⟨S16384x12x16, .f32⟩
  | 62 => ⟨S16384x12x16, .f32⟩
  | 63 => ⟨S16384x12x16, .f32⟩
  | 64 => ⟨S16384x12x16, .f32⟩
  | 65 => ⟨S16384x12x16, .f32⟩
  | 66 => ⟨S16384x12x96, .f32⟩
  | 67 => ⟨S16384x12x128, .f32⟩
  | 68 => ⟨S16384x1536, .f32⟩
  | 69 => ⟨S16384x10752, .f32⟩
  | 70 => ⟨S16384x10752, .bf16⟩
  | _ => ⟨S16384x4096, .bf16⟩

abbrev hbmTy (i : Nat) : BufTy := match i / 128 with
  | 0 => hbmTy0_0 i
  | 1 => hbmTy0_1 i
  | _ => ⟨S16384x4096, .bf16⟩

abbrev bufTy : (tb : Table) → Fin (tcTables nBuf tb) → BufTy
  | .hbm, ⟨i, _⟩ => hbmTy i
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_cst_1 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_cst_2 : Ref sig .tc := ⟨.hbm, 58, rfl⟩
abbrev main_v53 : Ref sig .tc := ⟨.hbm, 59, rfl⟩
abbrev main_v54 : Ref sig .tc := ⟨.hbm, 60, rfl⟩
abbrev main_cst_3 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_cst_4 : Ref sig .tc := ⟨.hbm, 93, rfl⟩
abbrev main_v86 : Ref sig .tc := ⟨.hbm, 94, rfl⟩
abbrev main_v87 : Ref sig .tc := ⟨.hbm, 95, rfl⟩
abbrev main_cst_5 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_cst_6 : Ref sig .tc := ⟨.hbm, 128, rfl⟩
abbrev main_v119 : Ref sig .tc := ⟨.hbm, 129, rfl⟩
abbrev main_v120 : Ref sig .tc := ⟨.hbm, 130, rfl⟩
abbrev main_cst_7 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_cst_8 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_cst_9 : Ref sig .tc := ⟨.hbm, 166, rfl⟩
abbrev main_v154 : Ref sig .tc := ⟨.hbm, 167, rfl⟩
abbrev main_v155 : Ref sig .tc := ⟨.hbm, 168, rfl⟩
abbrev main_cst_10 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩

abbrev nD : Nat := 1
abbrev τ : Topo := Topo.v7x

variable {F : FTy → Type} [FloatOps F]
-- ==== CmpIn.lean ====
abbrev S4096x4096 : Shape := ⟨2, ![4096, 4096]⟩
abbrev S4096x512 : Shape := ⟨2, ![4096, 512]⟩
abbrev S512 : Shape := ⟨1, ![512]⟩
abbrev S1x512 : Shape := ⟨2, ![1, 512]⟩
abbrev S1024x4096 : Shape := ⟨2, ![1024, 4096]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x512, .bf16⟩
  | .hbm, ⟨2, _⟩ => ⟨S512, .f32⟩
  | .hbm, ⟨3, _⟩ => ⟨S1x512, .f32⟩
  | .hbm, ⟨4, _⟩ => ⟨S4096x512, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S1x512, .f32⟩
  | .local _ .vmem, ⟨4, _⟩ => ⟨S1024x512, .bf16⟩
  | .local _ .vmem, ⟨5, _⟩ => ⟨S1024x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CmpInReferenceIdeal.lean ====
abbrev S4096x4096 : Shape := ⟨2, ![4096, 4096]⟩
abbrev S4096x512 : Shape := ⟨2, ![4096, 512]⟩
abbrev S512 : Shape := ⟨1, ![512]⟩
abbrev S1x512 : Shape := ⟨2, ![1, 512]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x512, .bf16⟩
  | .hbm, ⟨2, _⟩ => ⟨S512, .f32⟩
  | .hbm, ⟨3, _⟩ => ⟨S4096x4096, .f32⟩
  | .hbm, ⟨4, _⟩ => ⟨S4096x512, .f32⟩
  | .hbm, ⟨5, _⟩ => ⟨S4096x512, .f32⟩
  | .hbm, ⟨6, _⟩ => ⟨S1x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== CmpOut.lean ====
abbrev S4096x512 : Shape := ⟨2, ![4096, 512]⟩
abbrev S512x128 : Shape := ⟨2, ![512, 128]⟩
abbrev S128 : Shape := ⟨1, ![128]⟩
abbrev S1x128 : Shape := ⟨2, ![1, 128]⟩
abbrev S4096x128 : Shape := ⟨2, ![4096, 128]⟩
abbrev S1024x512 : Shape := ⟨2, ![1024, 512]⟩
abbrev S1024x128 : Shape := ⟨2, ![1024, 128]⟩

abbrev nBuf : Space → Nat
  | .hbm => 5
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x128, .bf16⟩
  | .hbm, ⟨2, _⟩ => ⟨S128, .f32⟩
  | .hbm, ⟨3, _⟩ => ⟨S1x128, .f32⟩
  | .hbm, ⟨4, _⟩ => ⟨S4096x128, .bf16⟩
  | .local _ .vmem, ⟨0, _⟩ => ⟨S1024x512, .bf16⟩
  | .local _ .vmem, ⟨1, _⟩ => ⟨S1024x512, .bf16⟩
  | .local _ .vmem, ⟨2, _⟩ => ⟨S512x128, .bf16⟩
  | .local _ .vmem, ⟨3, _⟩ => ⟨S1x128, .f32⟩
  | .local _ .vmem, ⟨4, _⟩ => ⟨S1024x128, .bf16⟩
  | .local _ .vmem, ⟨5, _⟩ => ⟨S1024x128, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CmpOutReferenceIdeal.lean ====
abbrev S4096x512 : Shape := ⟨2, ![4096, 512]⟩
abbrev S512x128 : Shape := ⟨2, ![512, 128]⟩
abbrev S128 : Shape := ⟨1, ![128]⟩
abbrev S4096x128 : Shape := ⟨2, ![4096, 128]⟩
abbrev S1x128 : Shape := ⟨2, ![1, 128]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x128, .bf16⟩
  | .hbm, ⟨2, _⟩ => ⟨S128, .f32⟩
  | .hbm, ⟨3, _⟩ => ⟨S4096x512, .f32⟩
  | .hbm, ⟨4, _⟩ => ⟨S512x128, .f32⟩
  | .hbm, ⟨5, _⟩ => ⟨S4096x128, .f32⟩
  | .hbm, ⟨6, _⟩ => ⟨S1x128, .f32⟩
  | .hbm, ⟨7, _⟩ => ⟨S4096x128, .f32⟩
  | .hbm, ⟨8, _⟩ => ⟨S4096x128, .f32⟩
  | .hbm, ⟨9, _⟩ => ⟨S4096x128, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Norm.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S16384x4096, .f32⟩
  | .hbm, ⟨7, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NormReferenceIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096, .f32⟩
  | .hbm, ⟨3, _⟩ => ⟨S4096, .f32⟩
  | .hbm, ⟨4, _⟩ => ⟨S_, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x4096, .f32⟩
  | .hbm, ⟨24, _⟩ => ⟨S16384x4096, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x4096, .f32⟩
  | .hbm, ⟨30, _⟩ => ⟨S16384x4096, .f32⟩
  | .hbm, ⟨31, _⟩ => ⟨S1x4096, .f32⟩
  | .hbm, ⟨32, _⟩ => ⟨S16384x4096, .f32⟩
  | .hbm, ⟨33, _⟩ => ⟨S16384x4096, .f32⟩
  | .hbm, ⟨34, _⟩ => ⟨S1x4096, .f32⟩
  | .hbm, ⟨35, _⟩ => ⟨S16384x4096, .f32⟩
  | .hbm, ⟨36, _⟩ => ⟨S16384x4096, .f32⟩
  | .hbm, ⟨37, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Cmp.lean ====
abbrev S16384x10752 : Shape := ⟨2, ![16384, 10752]⟩
abbrev S4096x128 : Shape := ⟨2, ![4096, 128]⟩
abbrev S1024 : Shape := ⟨1, ![1024]⟩
abbrev S1024x1 : Shape := ⟨2, ![1024, 1]⟩
abbrev S_ : Shape := ⟨0, ![]⟩
abbrev S256 : Shape := ⟨1, ![256]⟩
abbrev S1x256 : Shape := ⟨2, ![1, 256]⟩
abbrev S1024x256 : Shape := ⟨2, ![1024, 256]⟩
abbrev S16384x2560 : Shape := ⟨2, ![16384, 2560]⟩
abbrev S16384x1024 : Shape := ⟨2, ![16384, 1024]⟩
abbrev S512x640 : Shape := ⟨2, ![512, 640]⟩
abbrev S1024x128 : Shape := ⟨2, ![1024, 128]⟩
abbrev S512x256 : Shape := ⟨2, ![512, 256]⟩
abbrev S512x1 : Shape := ⟨2, ![512, 1]⟩
abbrev S1x1024 : Shape := ⟨2, ![1, 1024]⟩
abbrev S512x1024 : Shape := ⟨2, ![512, 1024]⟩
abbrev S512x128 : Shape := ⟨2, ![512, 128]⟩
abbrev S512 : Shape := ⟨1, ![512]⟩

abbrev nBuf : Space → Nat
  | .hbm => 37
  | .vmem => 11
  | .smem => 0
  | _ => 0

abbrev bufTy : (tb : Table) → Fin (tcTables nBuf tb) → BufTy
  | .hbm, ⟨0, _⟩ => ⟨S16384x10752, .bf16⟩
  | .hbm, ⟨1, _⟩ => ⟨S4096x128, .bf16⟩
  | .hbm, ⟨2, _⟩ => ⟨S4096x128, .bf16⟩
  | .hbm, ⟨3, _⟩ => ⟨S1024, .i32⟩
  | .hbm, ⟨4, _⟩ => ⟨S1024x1, .i32⟩
  | .hbm, ⟨5, _⟩ => ⟨S_, .i32⟩
  | .hbm, ⟨6, _⟩ => ⟨S1024x1, .i32⟩
  | .hbm, ⟨7, _⟩ => ⟨S1024x1, .i32⟩
  | .hbm, ⟨8, _⟩ => ⟨S256, .i32⟩
  | .hbm, ⟨9, _⟩ => ⟨S1x256, .i32⟩
  | .hbm, ⟨10, _⟩ => ⟨S_, .i32⟩
  | .hbm, ⟨11, _⟩ => ⟨S1x256, .i32⟩
  | .hbm, ⟨12, _⟩ => ⟨S1x256, .i32⟩
  | .hbm, ⟨13, _⟩ => ⟨S_, .i32⟩
  | .hbm, ⟨14, _⟩ => ⟨S1x256, .i32⟩
  | .hbm, ⟨15, _⟩ => ⟨S1x256, .i32⟩
  | .hbm, ⟨16, _⟩ => ⟨S1024x256, .i32⟩
  | .hbm, ⟨17, _⟩ => ⟨S1024x256, .i32⟩
  | .hbm, ⟨18, _⟩ => ⟨S1024x256, .i1⟩
  | .hbm, ⟨19, _⟩ => ⟨S_, .i32⟩
  | .hbm, ⟨20, _⟩ => ⟨S1024x1, .i32⟩
  | .hbm, ⟨21, _⟩ => ⟨S1024x1, .i32⟩
  | .hbm, ⟨22, _⟩ => ⟨S1024x256, .i32⟩
  | .hbm, ⟨23, _⟩ => ⟨S1024x256, .i32⟩
  | .hbm, ⟨24, _⟩ => ⟨S1024x256, .i1⟩
  | .hbm, ⟨25, _⟩ => ⟨S1024x256, .i1⟩
  | .hbm, ⟨26, _⟩ => ⟨S1024, .i32⟩
  | .hbm, ⟨27, _⟩ => ⟨S1024x1, .i32⟩
  | .hbm, ⟨28, _⟩ => ⟨S_, .i32⟩
  | .hbm, ⟨29, _⟩ => ⟨S1024x1, .i32⟩
  | .hbm, ⟨30, _⟩ => ⟨S1024x1, .i1⟩
  | .hbm, ⟨31, _⟩ => ⟨S1024x256, .i1⟩
  | .hbm, ⟨32, _⟩ => ⟨S1024x256, .i1⟩
  | .hbm, ⟨33, _⟩ => ⟨S1024x256, .f32⟩
  | .hbm, ⟨34, _⟩ => ⟨S1024x256, .bf16⟩
  | .hbm, ⟨35, _⟩ => ⟨S16384x2560, .bf16⟩
  | .hbm, ⟨36, _⟩ => ⟨S16384x1024, .bf16⟩
  | .local _ .vmem, ⟨0, _⟩ => ⟨S512x640, .bf16⟩
  | .local _ .vmem, ⟨1, _⟩ => ⟨S512x640, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x256, .bf16⟩
  | .local _ .vmem, ⟨7, _⟩ => ⟨S512x640, .bf16⟩
  | .local _ .vmem, ⟨8, _⟩ => ⟨S512x640, .bf16⟩
  | .local _ .vmem, ⟨9, _⟩ => ⟨S512x256, .bf16⟩
  | .local _ .vmem, ⟨10, _⟩ => ⟨S512x256, .bf16⟩
  | _, _ => ⟨S16384x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27_0 : Ref sig .tc := ⟨.hbm, 35, rfl⟩
abbrev main_v27_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x640 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== CmpIdeal.lean ====
variable {F : FTy → Type} [FloatOps F] [Named F]
def κ : String → Option EReal := fun
  | "mask" => some ⊥
  | _ => none
-- ==== CmpReferenceIdeal.lean ====
abbrev S16384x10752 : Shape := ⟨2, ![16384, 10752]⟩
abbrev S4096x128 : Shape := ⟨2, ![4096, 128]⟩
abbrev S16384x2560 : Shape := ⟨2, ![16384, 2560]⟩
abbrev S16384x4x5x128 : Shape := ⟨4, ![16384, 4, 5, 128]⟩
abbrev S4x1024x128 : Shape := ⟨3, ![4, 1024, 128]⟩
abbrev S4x16384x5x1024 : Shape := ⟨4, ![4, 16384, 5, 1024]⟩
abbrev S_ : Shape := ⟨0, ![]⟩
abbrev S16384 : Shape := ⟨1, ![16384]⟩
abbrev S1024 : Shape := ⟨1, ![1024]⟩
abbrev S1x1024 : Shape := ⟨2, ![1, 1024]⟩
abbrev S16384x1 : Shape := ⟨2, ![16384, 1]⟩
abbrev S16384x1024 : Shape := ⟨2, ![16384, 1024]⟩
abbrev S1x16384x1x1024 : Shape := ⟨4, ![1, 16384, 1, 1024]⟩
abbrev S4x16384x5 : Shape := ⟨3, ![4, 16384, 5]⟩
abbrev S4x16384x5x1 : Shape := ⟨4, ![4, 16384, 5, 1]⟩
abbrev S4x16384x5x128 : Shape := ⟨4, ![4, 16384, 5, 128]⟩
abbrev S256 : Shape := ⟨1, ![256]⟩
abbrev S1024x1 : Shape := ⟨2, ![1024, 1]⟩
abbrev S1x256 : Shape := ⟨2, ![1, 256]⟩
abbrev S1024x256 : Shape := ⟨2, ![1024, 256]⟩
abbrev S4x16384x1024 : Shape := ⟨3, ![4, 16384, 1024]⟩
abbrev S4x16384x256 : Shape := ⟨3, ![4, 16384, 256]⟩
abbrev S16384x256 : Shape := ⟨2, ![16384, 256]⟩
abbrev S4x16384x16 : Shape := ⟨3, ![4, 16384, 16]⟩
abbrev S4x16384x16x1 : Shape := ⟨4, ![4, 16384, 16, 1]⟩
abbrev S1x1x1x256 : Shape := ⟨4, ![1, 1, 1, 256]⟩
abbrev S4x16384x16x256 : Shape := ⟨4, ![4, 16384, 16, 256]⟩
abbrev S16384x4x256 : Shape := ⟨3, ![16384, 4, 256]⟩

abbrev nBuf : Space → Nat
  | .hbm => 148
  | .vmem => 0
  | .smem => 0
  | _ => 0

abbrev hbmTy0_0 (i : Nat) : BufTy := match i % 128 with
  | 0 => ⟨S16384x10752, .bf16⟩
  | 1 => ⟨S4096x128, .bf16⟩
  | 2 => ⟨S4096x128, .bf16⟩
  | 3 => ⟨S16384x2560, .bf16⟩
  | 4 => ⟨S16384x2560, .f32⟩
  | 5 => ⟨S16384x4x5x128, .f32⟩
  | 6 => ⟨S4096x128, .f32⟩
  | 7 => ⟨S4x1024x128, .f32⟩
  | 8 => ⟨S4096x128, .f32⟩
  | 9 => ⟨S4x1024x128, .f32⟩
  | 10 => ⟨S4x16384x5x1024, .f32⟩
  | 11 => ⟨S_, .f32⟩
  | 12 => ⟨S_, .f32⟩
  | 13 => ⟨S4x16384x5x1024, .f32⟩
  | 14 => ⟨S4x16384x5x1024, .f32⟩
  | 15 => ⟨S16384, .i32⟩
  | 16 => ⟨S1024, .i32⟩
  | 17 => ⟨S_, .i32⟩
  | 18 => ⟨S1024, .i32⟩
  | 19 => ⟨S1024, .i32⟩
  | 20 => ⟨S1x1024, .i32⟩
  | 21 => ⟨S_, .i32⟩
  | 22 => ⟨S1x1024, .i32⟩
  | 23 => ⟨S1x1024, .i32⟩
  | 24 => ⟨S16384x1, .i32⟩
  | 25 => ⟨S16384x1024, .i32⟩
  | 26 => ⟨S16384x1024, .i32⟩
  | 27 => ⟨S16384x1024, .i1⟩
  | 28 => ⟨S1x16384x1x1024, .i1⟩
  | 29 => ⟨S_, .f32⟩
  | 30 => ⟨S_, .f32⟩
  | 31 => ⟨S4x16384x5x1024, .i1⟩
  | 32 => ⟨S4x16384x5x1024, .f32⟩
  | 33 => ⟨S4x16384x5x1024, .f32⟩
  | 34 => ⟨S_, .f32⟩
  | 35 => ⟨S4x16384x5, .f32⟩
  | 36 => ⟨S_, .f32⟩
  | 37 => ⟨S4x16384x5, .f32⟩
  | 38 => ⟨S4x16384x5, .f32⟩
  | 39 => ⟨S4x16384x5x1, .f32⟩
  | 40 => ⟨S4x16384x5x1024, .f32⟩
  | 41 => ⟨S4x16384x5x1024, .f32⟩
  | 42 => ⟨S4x16384x5x1024, .f32⟩
  | 43 => ⟨S_, .f32⟩
  | 44 => ⟨S4x16384x5, .f32⟩
  | 45 => ⟨S4x16384x5x1, .f32⟩
  | 46 => ⟨S4x16384x5x1024, .f32⟩
  | 47 => ⟨S4x16384x5x1024, .f32⟩
  | 48 => ⟨S1x16384x1x1024, .f32⟩
  | 49 => ⟨S4x16384x5x1024, .f32⟩
  | 50 => ⟨S4x16384x5x1024, .f32⟩
  | 51 => ⟨S4x16384x5x128, .f32⟩
  | 52 => ⟨S256, .i32⟩
  | 53 => ⟨S_, .i32⟩
  | 54 => ⟨S256, .i32⟩
  | 55 => ⟨S256, .i32⟩
  | 56 => ⟨S1024x1, .i32⟩
  | 57 => ⟨S1x256, .i32⟩
  | 58 => ⟨S_, .i32⟩
  | 59 => ⟨S1x256, .i32⟩
  | 60 => ⟨S1x256, .i32⟩
  | 61 => ⟨S1024x256, .i32⟩
  | 62 => ⟨S1024x256, .i32⟩
  | 63 => ⟨S1024x256, .i1⟩
  | 64 => ⟨S1024x1, .i32⟩
  | 65 => ⟨S_, .i32⟩
  | 66 => ⟨S1024x1, .i32⟩
  | 67 => ⟨S1024x1, .i32⟩
  | 68 => ⟨S1x256, .i32⟩
  | 69 => ⟨S1024x256, .i32⟩
  | 70 => ⟨S1024x256, .i32⟩
  | 71 => ⟨S1024x256, .i1⟩
  | 72 => ⟨S1024x256, .i1⟩
  | 73 => ⟨S1024x256, .f32⟩
  | 74 => ⟨S_, .f32⟩
  | 75 => ⟨S4x16384x1024, .f32⟩
  | 76 => ⟨S4x16384x256, .f32⟩
  | 77 => ⟨S256, .i32⟩
  | 78 => ⟨S1x256, .i32⟩
  | 79 => ⟨S_, .i32⟩
  | 80 => ⟨S_, .i32⟩
  | 81 => ⟨S16384, .i32⟩
  | 82 => ⟨S16384, .i32⟩
  | 83 => ⟨S16384, .i32⟩
  | 84 => ⟨S_, .i32⟩
  | 85 => ⟨S16384, .i32⟩
  | 86 => ⟨S16384, .i1⟩
  | 87 => ⟨S16384, .i32⟩
  | 88 => ⟨S16384, .i32⟩
  | 89 => ⟨S_, .i32⟩
  | 90 => ⟨S16384, .i32⟩
  | 91 => ⟨S16384, .i1⟩
  | 92 => ⟨S16384, .i1⟩
  | 93 => ⟨S_, .i32⟩
  | 94 => ⟨S16384, .i32⟩
  | 95 => ⟨S16384, .i32⟩
  | 96 => ⟨S16384, .i32⟩
  | 97 => ⟨S16384x1, .i32⟩
  | 98 => ⟨S_, .i32⟩
  | 99 => ⟨S1x256, .i32⟩
  | 100 => ⟨S1x256, .i1⟩
  | 101 => ⟨S16384x256, .i32⟩
  | 102 => ⟨S16384x256, .i32⟩
  | 103 => ⟨S16384x256, .i1⟩
  | 104 => ⟨S16384x256, .i1⟩
  | 105 => ⟨S16384x256, .i1⟩
  | 106 => ⟨S_, .i32⟩
  | 107 => ⟨S16384x1, .i32⟩
  | 108 => ⟨S16384x1, .i32⟩
  | 109 => ⟨S16384x256, .i32⟩
  | 110 => ⟨S16384x256, .i32⟩
  | 111 => ⟨S16384x256, .i1⟩
  | 112 => ⟨S16384x256, .i1⟩
  | 113 => ⟨S16384x256, .i32⟩
  | 114 => ⟨S16384x256, .i32⟩
  | 115 => ⟨S16384x256, .i1⟩
  | 116 => ⟨S_, .f32⟩
  | 117 => ⟨S_, .f32⟩
  | 118 => ⟨S4x16384x256, .i1⟩
  | 119 => ⟨S4x16384x256, .f32⟩
  | 120 => ⟨S4x16384x256, .f32⟩
  | 121 => ⟨S_, .f32⟩
  | 122 => ⟨S_, .f32⟩
  | 123 => ⟨S4x16384x256, .i1⟩
  | 124 => ⟨S4x16384x256, .f32⟩
  | 125 => ⟨S4x16384x256, .f32⟩
  | 126 => ⟨S4x16384x16, .f32⟩
  | 127 => ⟨S4x16384x16, .i32⟩
  | _ => ⟨S16384x10752, .bf16⟩

abbrev hbmTy0_1 (i : Nat) : BufTy := match i % 128 with
  | 0 => ⟨S_, .f32⟩
  | 1 => ⟨S4x16384x16, .f32⟩
  | 2 => ⟨S4x16384x16, .i1⟩
  | 3 => ⟨S4x16384x16x1, .i32⟩
  | 4 => ⟨S256, .i32⟩
  | 5 => ⟨S1x1x1x256, .i32⟩
  | 6 => ⟨S4x16384x16x256, .i32⟩
  | 7 => ⟨S4x16384x16x256, .i32⟩
  | 8 => ⟨S4x16384x16x256, .i1⟩
  | 9 => ⟨S4x16384x16x1, .i1⟩
  | 10 => ⟨S4x16384x16x256, .i1⟩
  | 11 => ⟨S4x16384x16x256, .i1⟩
  | 12 => ⟨S_, .i1⟩
  | 13 => ⟨S4x16384x256, .i1⟩
  | 14 => ⟨S16384x4x5x128, .f32⟩
  | 15 => ⟨S16384x2560, .f32⟩
  | 16 => ⟨S16384x2560, .bf16⟩
  | 17 => ⟨S16384x4x256, .i1⟩
  | 18 => ⟨S16384x1024, .i1⟩
  | 19 => ⟨S16384x1024, .bf16⟩
  | _ => ⟨S16384x10752, .bf16⟩

abbrev hbmTy (i : Nat) : BufTy := match i / 128 with
  | 0 => hbmTy0_0 i
  | 1 => hbmTy0_1 i
  | _ => ⟨S16384x10752, .bf16⟩

abbrev bufTy : (tb : Table) → Fin (tcTables nBuf tb) → BufTy
  | .hbm, ⟨i, _⟩ => hbmTy i
  | _, _ => ⟨S16384x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_7 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_8 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_c_9 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_v6 : Ref sig .tc := ⟨.hbm, 86, rfl⟩
abbrev main_call1_v7 : Ref sig .tc := ⟨.hbm, 87, rfl⟩
abbrev main_call1_v8 : Ref sig .tc := ⟨.hbm, 88, rfl⟩
abbrev main_call1_c : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_c_0 : Ref sig .tc := ⟨.hbm, 93, rfl⟩
abbrev main_call1_v12 : Ref sig .tc := ⟨.hbm, 94, rfl⟩
abbrev main_call1_v13 : Ref sig .tc := ⟨.hbm, 95, rfl⟩
abbrev main_v62 : Ref sig .tc := ⟨.hbm, 96, rfl⟩
abbrev main_v63 : Ref sig .tc := ⟨.hbm, 97, rfl⟩
abbrev main_c_10 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_c_11 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_12 : Ref sig .tc := ⟨.hbm, 116, rfl⟩
abbrev main_call2_v0 : Ref sig .tc := ⟨.hbm, 117, rfl⟩
abbrev main_call2_v1 : Ref sig .tc := ⟨.hbm, 118, rfl⟩
abbrev main_call2_v2 : Ref sig .tc := ⟨.hbm, 119, rfl⟩
abbrev main_v80 : Ref sig .tc := ⟨.hbm, 120, rfl⟩
abbrev main_cst_13 : Ref sig .tc := ⟨.hbm, 121, rfl⟩
abbrev main_call3_v0 : Ref sig .tc := ⟨.hbm, 122, rfl⟩
abbrev main_call3_v1 : Ref sig .tc := ⟨.hbm, 123, rfl⟩
abbrev main_call3_v2 : Ref sig .tc := ⟨.hbm, 124, rfl⟩
abbrev main_v81 : Ref sig .tc := ⟨.hbm, 125, rfl⟩
abbrev main_values : Ref sig .tc := ⟨.hbm, 126, rfl⟩
abbrev main_indices : Ref sig .tc := ⟨.hbm, 127, rfl⟩
abbrev main_cst_14 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_c_15 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩

abbrev nD : Nat := 1
abbrev τ : Topo := Topo.v7x

variable {F : FTy → Type} [FloatOps F]
-- ==== Dil.lean ====
abbrev S16384x10752 : Shape := ⟨2, ![16384, 10752]⟩
abbrev S16384x512 : Shape := ⟨2, ![16384, 512]⟩
abbrev S128x512 : Shape := ⟨2, ![128, 512]⟩
abbrev S128x256 : Shape := ⟨2, ![128, 256]⟩
abbrev S128x128 : Shape := ⟨2, ![128, 128]⟩
abbrev S256x128 : Shape := ⟨2, ![256, 128]⟩
abbrev S128 : Shape := ⟨1, ![128]⟩
abbrev S128x1 : Shape := ⟨2, ![128, 1]⟩

abbrev nBuf : Space → Nat
  | .hbm => 3
  | .vmem => 14
  | .smem => 0
  | _ => 0

abbrev bufTy : (tb : Table) → Fin (tcTables nBuf tb) → BufTy
  | .hbm, ⟨0, _⟩ => ⟨S16384x10752, .bf16⟩
  | .hbm, ⟨1, _⟩ => ⟨S16384x512, .bf16⟩
  | .hbm, ⟨2, _⟩ => ⟨S16384x512, .f32⟩
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S128x512, .bf16⟩
  | .local _ .vmem, ⟨11, _⟩ => ⟨S128x512, .bf16⟩
  | .local _ .vmem, ⟨12, _⟩ => ⟨S128x512, .f32⟩
  | .local _ .vmem, ⟨13, _⟩ => ⟨S128x512, .f32⟩
  | _, _ => ⟨S16384x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 128], ![false, false]⟩

def cc0_transform_0 (i : grid0.Coords) : Fin 2 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg1.toNat, c11_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c14_i32 : BitVec 32 := 14#32
  let c0_i32_0 : BitVec 32 := 0#32
  ![v1.toNat, c14_i32.toNat]

def cc0_transform_2 (i : grid0.Coords) : Fin 2 → Nat :=
  let arg0 : BitVec 32 := BitVec.ofNat 32 (i 0).val
  let arg1 : BitVec 32 := BitVec.ofNat 32 (i 1).val
  let c14_i32 : BitVec 32 := 14#32
  let c0_i32 : BitVec 32 := 0#32
  ![arg1.toNat, c14_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c17_i32 : BitVec 32 := 17#32
  let c0_i32_0 : BitVec 32 := 0#32
  ![v1.toNat, c17_i32.toNat]

def cc0_transform_4 (i : grid0.Coords) : Fin 2 → Nat :=
  let arg0 : BitVec 32 := BitVec.ofNat 32 (i 0).val
  let arg1 : BitVec 32 := BitVec.ofNat 32 (i 1).val
  let c17_i32 : BitVec 32 := 17#32
  let c0_i32 : BitVec 32 := 0#32
  ![arg1.toNat, c17_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DilIdeal.lean ====
variable {F : FTy → Type} [FloatOps F] [Named F]
def κ : String → Option EReal := fun
  | "mask" => some ⊥
  | _ => none
-- ==== DilReferenceIdeal.lean ====
abbrev S16384x10752 : Shape := ⟨2, ![16384, 10752]⟩
abbrev S16384x512 : Shape := ⟨2, ![16384, 512]⟩
abbrev S16384x4x128 : Shape := ⟨3, ![16384, 4, 128]⟩
abbrev S4x16384x16384 : Shape := ⟨3, ![4, 16384, 16384]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S_ : Shape := ⟨0, ![]⟩
abbrev S1x16384x16384 : Shape := ⟨3, ![1, 16384, 16384]⟩
abbrev S4x16384 : Shape := ⟨2, ![4, 16384]⟩
abbrev S4x16384x1 : Shape := ⟨3, ![4, 16384, 1]⟩
abbrev S4x16384x128 : Shape := ⟨3, ![4, 16384, 128]⟩

abbrev nBuf : Space → Nat
  | .hbm => 50
  | .vmem => 0
  | .smem => 0
  | _ => 0

abbrev bufTy : (tb : Table) → Fin (tcTables nBuf tb) → BufTy
  | .hbm, ⟨0, _⟩ => ⟨S16384x10752, .bf16⟩
  | .hbm, ⟨1, _⟩ => ⟨S16384x512, .bf16⟩
  | .hbm, ⟨2, _⟩ => ⟨S16384x512, .f32⟩
  | .hbm, ⟨3, _⟩ => ⟨S16384x4x128, .f32⟩
  | .hbm, ⟨4, _⟩ => ⟨S16384x512, .bf16⟩
  | .hbm, ⟨5, _⟩ => ⟨S16384x512, .f32⟩
  | .hbm, ⟨6, _⟩ => ⟨S16384x4x128, .f32⟩
  | .hbm, ⟨7, _⟩ => ⟨S16384x512, .bf16⟩
  | .hbm, ⟨8, _⟩ => ⟨S16384x512, .f32⟩
  | .hbm, ⟨9, _⟩ => ⟨S16384x4x128, .f32⟩
  | .hbm, ⟨10, _⟩ => ⟨S4x16384x16384, .f32⟩
  | .hbm, ⟨11, _⟩ => ⟨S16384, .i32⟩
  | .hbm, ⟨12, _⟩ => ⟨S16384x1, .i32⟩
  | .hbm, ⟨13, _⟩ => ⟨S1x16384, .i32⟩
  | .hbm, ⟨14, _⟩ => ⟨S16384x16384, .i32⟩
  | .hbm, ⟨15, _⟩ => ⟨S16384x16384, .i32⟩
  | .hbm, ⟨16, _⟩ => ⟨S16384x16384, .i32⟩
  | .hbm, ⟨17, _⟩ => ⟨S_, .i32⟩
  | .hbm, ⟨18, _⟩ => ⟨S16384x16384, .i32⟩
  | .hbm, ⟨19, _⟩ => ⟨S16384x16384, .i1⟩
  | .hbm, ⟨20, _⟩ => ⟨S_, .i32⟩
  | .hbm, ⟨21, _⟩ => ⟨S16384x16384, .i32⟩
  | .hbm, ⟨22, _⟩ => ⟨S16384x16384, .i1⟩
  | .hbm, ⟨23, _⟩ => ⟨S16384x16384, .i1⟩
  | .hbm, ⟨24, _⟩ => ⟨S1x16384x16384, .i1⟩
  | .hbm, ⟨25, _⟩ => ⟨S_, .f32⟩
  | .hbm, ⟨26, _⟩ => ⟨S_, .f32⟩
  | .hbm, ⟨27, _⟩ => ⟨S4x16384x16384, .i1⟩
  | .hbm, ⟨28, _⟩ => ⟨S4x16384x16384, .f32⟩
  | .hbm, ⟨29, _⟩ => ⟨S4x16384x16384, .f32⟩
  | .hbm, ⟨30, _⟩ => ⟨S_, .f32⟩
  | .hbm, ⟨31, _⟩ => ⟨S4x16384, .f32⟩
  | .hbm, ⟨32, _⟩ => ⟨S4x16384x1, .f32⟩
  | .hbm, ⟨33, _⟩ => ⟨S4x16384x16384, .f32⟩
  | .hbm, ⟨34, _⟩ => ⟨S4x16384x16384, .f32⟩
  | .hbm, ⟨35, _⟩ => ⟨S4x16384x16384, .f32⟩
  | .hbm, ⟨36, _⟩ => ⟨S_, .f32⟩
  | .hbm, ⟨37, _⟩ => ⟨S4x16384, .f32⟩
  | .hbm, ⟨38, _⟩ => ⟨S4x16384x1, .f32⟩
  | .hbm, ⟨39, _⟩ => ⟨S4x16384x16384, .f32⟩
  | .hbm, ⟨40, _⟩ => ⟨S4x16384x16384, .f32⟩
  | .hbm, ⟨41, _⟩ => ⟨S4x16384x128, .f32⟩
  | .hbm, ⟨42, _⟩ => ⟨S4x16384x1, .f32⟩
  | .hbm, ⟨43, _⟩ => ⟨S4x16384x1, .f32⟩
  | .hbm, ⟨44, _⟩ => ⟨S4x16384x128, .f32⟩
  | .hbm, ⟨45, _⟩ => ⟨S16384x4x128, .f32⟩
  | .hbm, ⟨46, _⟩ => ⟨S16384x512, .f32⟩
  | .hbm, ⟨47, _⟩ => ⟨S16384x512, .bf16⟩
  | .hbm, ⟨48, _⟩ => ⟨S16384x4x128, .f32⟩
  | .hbm, ⟨49, _⟩ => ⟨S16384x512, .f32⟩
  | _, _ => ⟨S16384x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_c : Ref sig .tc := ⟨.hbm, 17, rfl⟩
abbrev main_v16 : Ref sig .tc := ⟨.hbm, 18, rfl⟩
abbrev main_v17 : Ref sig .tc := ⟨.hbm, 19, rfl⟩
abbrev main_c_0 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩

abbrev nD : Nat := 1
abbrev τ : Topo := Topo.v7x

variable {F : FTy → Type} [FloatOps F]
-- ==== Band4.lean ====
abbrev S16384x10752 : Shape := ⟨2, ![16384, 10752]⟩
abbrev S16384x512 : Shape := ⟨2, ![16384, 512]⟩
abbrev S256x128 : Shape := ⟨2, ![256, 128]⟩
abbrev S16384x128 : Shape := ⟨2, ![16384, 128]⟩
abbrev S768x128 : Shape := ⟨2, ![768, 128]⟩
abbrev S256x768 : Shape := ⟨2, ![256, 768]⟩
abbrev S256 : Shape := ⟨1, ![256]⟩
abbrev S256x1 : Shape := ⟨2, ![256, 1]⟩

abbrev nBuf : Space → Nat
  | .hbm => 3
  | .vmem => 10
  | .smem => 0
  | _ => 0

abbrev bufTy : (tb : Table) → Fin (tcTables nBuf tb) → BufTy
  | .hbm, ⟨0, _⟩ => ⟨S16384x10752, .bf16⟩
  | .hbm, ⟨1, _⟩ => ⟨S16384x512, .bf16⟩
  | .hbm, ⟨2, _⟩ => ⟨S16384x512, .f32⟩
  | .local _ .vmem, ⟨0, _⟩ => ⟨S256x128, .bf16⟩
  | .local _ .vmem, ⟨1, _⟩ => ⟨S256x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S256x128, .bf16⟩
  | .local _ .vmem, ⟨7, _⟩ => ⟨S256x128, .bf16⟩
  | .local _ .vmem, ⟨8, _⟩ => ⟨S256x128, .f32⟩
  | .local _ .vmem, ⟨9, _⟩ => ⟨S256x128, .f32⟩
  | _, _ => ⟨S16384x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 64], ![false, false]⟩

def k0_mult1 (i : grid0.Coords) : BitVec 32 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c768_i32 : BitVec 32 := 768#32
  let v2 : BitVec 32 := Scalar.subi v1 c768_i32
  let c0_i32 : BitVec 32 := 0#32
  let v3 : BitVec 32 := Scalar.maxsi v2 c0_i32
  v3
def k0_off1 (i : grid0.Coords) : Fin 2 → Nat :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c768_i32 : BitVec 32 := 768#32
  let v2 : BitVec 32 := Scalar.subi v1 c768_i32
  let c0_i32 : BitVec 32 := 0#32
  let v3 : BitVec 32 := Scalar.maxsi v2 c0_i32
  let v4 : BitVec 32 := v3
  let v5 : Index := Scalar.indexCast v4
  let c0 : Index := 0#32
  ![v5.toNat, 0]
def cc0_transform_0 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c60_i32 : BitVec 32 := 60#32
  let v0 : BitVec 32 := Scalar.addi c60_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c72_i32 : BitVec 32 := 72#32
  let v0 : BitVec 32 := Scalar.addi c72_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Band4Ideal.lean ====
variable {F : FTy → Type} [FloatOps F] [Named F]
def κ : String → Option EReal := fun
  | "mask" => some ⊥
  | _ => none
-- ==== Band4ReferenceIdeal.lean ====
abbrev S16384x10752 : Shape := ⟨2, ![16384, 10752]⟩
abbrev S16384x512 : Shape := ⟨2, ![16384, 512]⟩
abbrev S16384x4x128 : Shape := ⟨3, ![16384, 4, 128]⟩
abbrev S4x16384x16384 : Shape := ⟨3, ![4, 16384, 16384]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S_ : Shape := ⟨0, ![]⟩
abbrev S1x16384x16384 : Shape := ⟨3, ![1, 16384, 16384]⟩
abbrev S4x16384 : Shape := ⟨2, ![4, 16384]⟩
abbrev S4x16384x1 : Shape := ⟨3, ![4, 16384, 1]⟩
abbrev S4x16384x128 : Shape := ⟨3, ![4, 16384, 128]⟩

abbrev nBuf : Space → Nat
  | .hbm => 57
  | .vmem => 0
  | .smem => 0
  | _ => 0

abbrev bufTy : (tb : Table) → Fin (tcTables nBuf tb) → BufTy
  | .hbm, ⟨0, _⟩ => ⟨S16384x10752, .bf16⟩
  | .hbm, ⟨1, _⟩ => ⟨S16384x512, .bf16⟩
  | .hbm, ⟨2, _⟩ => ⟨S16384x512, .f32⟩
  | .hbm, ⟨3, _⟩ => ⟨S16384x4x128, .f32⟩
  | .hbm, ⟨4, _⟩ => ⟨S16384x512, .bf16⟩
  | .hbm, ⟨5, _⟩ => ⟨S16384x512, .f32⟩
  | .hbm, ⟨6, _⟩ => ⟨S16384x4x128, .f32⟩
  | .hbm, ⟨7, _⟩ => ⟨S16384x512, .bf16⟩
  | .hbm, ⟨8, _⟩ => ⟨S16384x512, .f32⟩
  | .hbm, ⟨9, _⟩ => ⟨S16384x4x128, .f32⟩
  | .hbm, ⟨10, _⟩ => ⟨S4x16384x16384, .f32⟩
  | .hbm, ⟨11, _⟩ => ⟨S16384, .i32⟩
  | .hbm, ⟨12, _⟩ => ⟨S16384x1, .i32⟩
  | .hbm, ⟨13, _⟩ => ⟨S1x16384, .i32⟩
  | .hbm, ⟨14, _⟩ => ⟨S16384x16384, .i32⟩
  | .hbm, ⟨15, _⟩ => ⟨S16384x16384, .i32⟩
  | .hbm, ⟨16, _⟩ => ⟨S16384x16384, .i32⟩
  | .hbm, ⟨17, _⟩ => ⟨S_, .i32⟩
  | .hbm, ⟨18, _⟩ => ⟨S16384x16384, .i32⟩
  | .hbm, ⟨19, _⟩ => ⟨S16384x16384, .i1⟩
  | .hbm, ⟨20, _⟩ => ⟨S_, .i32⟩
  | .hbm, ⟨21, _⟩ => ⟨S16384x16384, .i32⟩
  | .hbm, ⟨22, _⟩ => ⟨S16384x16384, .i1⟩
  | .hbm, ⟨23, _⟩ => ⟨S16384x16384, .i1⟩
  | .hbm, ⟨24, _⟩ => ⟨S_, .i32⟩
  | .hbm, ⟨25, _⟩ => ⟨S16384x16384, .i32⟩
  | .hbm, ⟨26, _⟩ => ⟨S16384x16384, .i32⟩
  | .hbm, ⟨27, _⟩ => ⟨S_, .i32⟩
  | .hbm, ⟨28, _⟩ => ⟨S16384x16384, .i32⟩
  | .hbm, ⟨29, _⟩ => ⟨S16384x16384, .i1⟩
  | .hbm, ⟨30, _⟩ => ⟨S16384x16384, .i1⟩
  | .hbm, ⟨31, _⟩ => ⟨S1x16384x16384, .i1⟩
  | .hbm, ⟨32, _⟩ => ⟨S_, .f32⟩
  | .hbm, ⟨33, _⟩ => ⟨S_, .f32⟩
  | .hbm, ⟨34, _⟩ => ⟨S4x16384x16384, .i1⟩
  | .hbm, ⟨35, _⟩ => ⟨S4x16384x16384, .f32⟩
  | .hbm, ⟨36, _⟩ => ⟨S4x16384x16384, .f32⟩
  | .hbm, ⟨37, _⟩ => ⟨S_, .f32⟩
  | .hbm, ⟨38, _⟩ => ⟨S4x16384, .f32⟩
  | .hbm, ⟨39, _⟩ => ⟨S4x16384x1, .f32⟩
  | .hbm, ⟨40, _⟩ => ⟨S4x16384x16384, .f32⟩
  | .hbm, ⟨41, _⟩ => ⟨S4x16384x16384, .f32⟩
  | .hbm, ⟨42, _⟩ => ⟨S4x16384x16384, .f32⟩
  | .hbm, ⟨43, _⟩ => ⟨S_, .f32⟩
  | .hbm, ⟨44, _⟩ => ⟨S4x16384, .f32⟩
  | .hbm, ⟨45, _⟩ => ⟨S4x16384x1, .f32⟩
  | .hbm, ⟨46, _⟩ => ⟨S4x16384x16384, .f32⟩
  | .hbm, ⟨47, _⟩ => ⟨S4x16384x16384, .f32⟩
  | .hbm, ⟨48, _⟩ => ⟨S4x16384x128, .f32⟩
  | .hbm, ⟨49, _⟩ => ⟨S4x16384x1, .f32⟩
  | .hbm, ⟨50, _⟩ => ⟨S4x16384x1, .f32⟩
  | .hbm, ⟨51, _⟩ => ⟨S4x16384x128, .f32⟩
  | .hbm, ⟨52, _⟩ => ⟨S16384x4x128, .f32⟩
  | .hbm, ⟨53, _⟩ => ⟨S16384x512, .f32⟩
  | .hbm, ⟨54, _⟩ => ⟨S16384x512, .bf16⟩
  | .hbm, ⟨55, _⟩ => ⟨S16384x4x128, .f32⟩
  | .hbm, ⟨56, _⟩ => ⟨S16384x512, .f32⟩
  | _, _ => ⟨S16384x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_c : Ref sig .tc := ⟨.hbm, 17, rfl⟩
abbrev main_v16 : Ref sig .tc := ⟨.hbm, 18, rfl⟩
abbrev main_v17 : Ref sig .tc := ⟨.hbm, 19, rfl⟩
abbrev main_c_0 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_c_1 : Ref sig .tc := ⟨.hbm, 24, rfl⟩
abbrev main_v21 : Ref sig .tc := ⟨.hbm, 25, rfl⟩
abbrev main_v22 : Ref sig .tc := ⟨.hbm, 26, rfl⟩
abbrev main_c_2 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]
-- ==== Band16.lean ====
abbrev S16384x10752 : Shape := ⟨2, ![16384, 10752]⟩
abbrev S16384x512 : Shape := ⟨2, ![16384, 512]⟩
abbrev S256x128 : Shape := ⟨2, ![256, 128]⟩
abbrev S16384x128 : Shape := ⟨2, ![16384, 128]⟩
abbrev S2304x128 : Shape := ⟨2, ![2304, 128]⟩
abbrev S256x2304 : Shape := ⟨2, ![256, 2304]⟩
abbrev S256 : Shape := ⟨1, ![256]⟩
abbrev S256x1 : Shape := ⟨2, ![256, 1]⟩

abbrev nBuf : Space → Nat
  | .hbm => 3
  | .vmem => 10
  | .smem => 0
  | _ => 0

abbrev bufTy : (tb : Table) → Fin (tcTables nBuf tb) → BufTy
  | .hbm, ⟨0, _⟩ => ⟨S16384x10752, .bf16⟩
  | .hbm, ⟨1, _⟩ => ⟨S16384x512, .bf16⟩
  | .hbm, ⟨2, _⟩ => ⟨S16384x512, .f32⟩
  | .local _ .vmem, ⟨0, _⟩ => ⟨S256x128, .bf16⟩
  | .local _ .vmem, ⟨1, _⟩ => ⟨S256x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S256x128, .bf16⟩
  | .local _ .vmem, ⟨7, _⟩ => ⟨S256x128, .bf16⟩
  | .local _ .vmem, ⟨8, _⟩ => ⟨S256x128, .f32⟩
  | .local _ .vmem, ⟨9, _⟩ => ⟨S256x128, .f32⟩
  | _, _ => ⟨S16384x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 64], ![false, false]⟩

def k0_mult1 (i : grid0.Coords) : BitVec 32 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c2304_i32 : BitVec 32 := 2304#32
  let v2 : BitVec 32 := Scalar.subi v1 c2304_i32
  let c0_i32 : BitVec 32 := 0#32
  let v3 : BitVec 32 := Scalar.maxsi v2 c0_i32
  v3
def k0_off1 (i : grid0.Coords) : Fin 2 → Nat :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c2304_i32 : BitVec 32 := 2304#32
  let v2 : BitVec 32 := Scalar.subi v1 c2304_i32
  let c0_i32 : BitVec 32 := 0#32
  let v3 : BitVec 32 := Scalar.maxsi v2 c0_i32
  let v4 : BitVec 32 := v3
  let v5 : Index := Scalar.indexCast v4
  let c0 : Index := 0#32
  ![v5.toNat, 0]
def cc0_transform_0 (i : grid0.Coords) : Fin 2 → Nat :=
  let arg0 : BitVec 32 := BitVec.ofNat 32 (i 0).val
  let arg1 : BitVec 32 := BitVec.ofNat 32 (i 1).val
  let c52_i32 : BitVec 32 := 52#32
  let v0 : BitVec 32 := Scalar.addi c52_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c76_i32 : BitVec 32 := 76#32
  let v0 : BitVec 32 := Scalar.addi c76_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Band16Ideal.lean ====
variable {F : FTy → Type} [FloatOps F] [Named F]
def κ : String → Option EReal := fun
  | "mask" => some ⊥
  | _ => none
-- ==== Band16ReferenceIdeal.lean ====
abbrev S16384x10752 : Shape := ⟨2, ![16384, 10752]⟩
abbrev S16384x512 : Shape := ⟨2, ![16384, 512]⟩
abbrev S16384x4x128 : Shape := ⟨3, ![16384, 4, 128]⟩
abbrev S4x16384x16384 : Shape := ⟨3, ![4, 16384, 16384]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S_ : Shape := ⟨0, ![]⟩
abbrev S1x16384x16384 : Shape := ⟨3, ![1, 16384, 16384]⟩
abbrev S4x16384 : Shape := ⟨2, ![4, 16384]⟩
abbrev S4x16384x1 : Shape := ⟨3, ![4, 16384, 1]⟩
abbrev S4x16384x128 : Shape := ⟨3, ![4, 16384, 128]⟩

abbrev nBuf : Space → Nat
  | .hbm => 57
  | .vmem => 0
  | .smem => 0
  | _ => 0

abbrev bufTy : (tb : Table) → Fin (tcTables nBuf tb) → BufTy
  | .hbm, ⟨0, _⟩ => ⟨S16384x10752, .bf16⟩
  | .hbm, ⟨1, _⟩ => ⟨S16384x512, .bf16⟩
  | .hbm, ⟨2, _⟩ => ⟨S16384x512, .f32⟩
  | .hbm, ⟨3, _⟩ => ⟨S16384x4x128, .f32⟩
  | .hbm, ⟨4, _⟩ => ⟨S16384x512, .bf16⟩
  | .hbm, ⟨5, _⟩ => ⟨S16384x512, .f32⟩
  | .hbm, ⟨6, _⟩ => ⟨S16384x4x128, .f32⟩
  | .hbm, ⟨7, _⟩ => ⟨S16384x512, .bf16⟩
  | .hbm, ⟨8, _⟩ => ⟨S16384x512, .f32⟩
  | .hbm, ⟨9, _⟩ => ⟨S16384x4x128, .f32⟩
  | .hbm, ⟨10, _⟩ => ⟨S4x16384x16384, .f32⟩
  | .hbm, ⟨11, _⟩ => ⟨S16384, .i32⟩
  | .hbm, ⟨12, _⟩ => ⟨S16384x1, .i32⟩
  | .hbm, ⟨13, _⟩ => ⟨S1x16384, .i32⟩
  | .hbm, ⟨14, _⟩ => ⟨S16384x16384, .i32⟩
  | .hbm, ⟨15, _⟩ => ⟨S16384x16384, .i32⟩
  | .hbm, ⟨16, _⟩ => ⟨S16384x16384, .i32⟩
  | .hbm, ⟨17, _⟩ => ⟨S_, .i32⟩
  | .hbm, ⟨18, _⟩ => ⟨S16384x16384, .i32⟩
  | .hbm, ⟨19, _⟩ => ⟨S16384x16384, .i1⟩
  | .hbm, ⟨20, _⟩ => ⟨S_, .i32⟩
  | .hbm, ⟨21, _⟩ => ⟨S16384x16384, .i32⟩
  | .hbm, ⟨22, _⟩ => ⟨S16384x16384, .i1⟩
  | .hbm, ⟨23, _⟩ => ⟨S16384x16384, .i1⟩
  | .hbm, ⟨24, _⟩ => ⟨S_, .i32⟩
  | .hbm, ⟨25, _⟩ => ⟨S16384x16384, .i32⟩
  | .hbm, ⟨26, _⟩ => ⟨S16384x16384, .i32⟩
  | .hbm, ⟨27, _⟩ => ⟨S_, .i32⟩
  | .hbm, ⟨28, _⟩ => ⟨S16384x16384, .i32⟩
  | .hbm, ⟨29, _⟩ => ⟨S16384x16384, .i1⟩
  | .hbm, ⟨30, _⟩ => ⟨S16384x16384, .i1⟩
  | .hbm, ⟨31, _⟩ => ⟨S1x16384x16384, .i1⟩
  | .hbm, ⟨32, _⟩ => ⟨S_, .f32⟩
  | .hbm, ⟨33, _⟩ => ⟨S_, .f32⟩
  | .hbm, ⟨34, _⟩ => ⟨S4x16384x16384, .i1⟩
  | .hbm, ⟨35, _⟩ => ⟨S4x16384x16384, .f32⟩
  | .hbm, ⟨36, _⟩ => ⟨S4x16384x16384, .f32⟩
  | .hbm, ⟨37, _⟩ => ⟨S_, .f32⟩
  | .hbm, ⟨38, _⟩ => ⟨S4x16384, .f32⟩
  | .hbm, ⟨39, _⟩ => ⟨S4x16384x1, .f32⟩
  | .hbm, ⟨40, _⟩ => ⟨S4x16384x16384, .f32⟩
  | .hbm, ⟨41, _⟩ => ⟨S4x16384x16384, .f32⟩
  | .hbm, ⟨42, _⟩ => ⟨S4x16384x16384, .f32⟩
  | .hbm, ⟨43, _⟩ => ⟨S_, .f32⟩
  | .hbm, ⟨44, _⟩ => ⟨S4x16384, .f32⟩
  | .hbm, ⟨45, _⟩ => ⟨S4x16384x1, .f32⟩
  | .hbm, ⟨46, _⟩ => ⟨S4x16384x16384, .f32⟩
  | .hbm, ⟨47, _⟩ => ⟨S4x16384x16384, .f32⟩
  | .hbm, ⟨48, _⟩ => ⟨S4x16384x128, .f32⟩
  | .hbm, ⟨49, _⟩ => ⟨S4x16384x1, .f32⟩
  | .hbm, ⟨50, _⟩ => ⟨S4x16384x1, .f32⟩
  | .hbm, ⟨51, _⟩ => ⟨S4x16384x128, .f32⟩
  | .hbm, ⟨52, _⟩ => ⟨S16384x4x128, .f32⟩
  | .hbm, ⟨53, _⟩ => ⟨S16384x512, .f32⟩
  | .hbm, ⟨54, _⟩ => ⟨S16384x512, .bf16⟩
  | .hbm, ⟨55, _⟩ => ⟨S16384x4x128, .f32⟩
  | .hbm, ⟨56, _⟩ => ⟨S16384x512, .f32⟩
  | _, _ => ⟨S16384x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_c : Ref sig .tc := ⟨.hbm, 17, rfl⟩
abbrev main_v16 : Ref sig .tc := ⟨.hbm, 18, rfl⟩
abbrev main_v17 : Ref sig .tc := ⟨.hbm, 19, rfl⟩
abbrev main_c_0 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_c_1 : Ref sig .tc := ⟨.hbm, 24, rfl⟩
abbrev main_v21 : Ref sig .tc := ⟨.hbm, 25, rfl⟩
abbrev main_v22 : Ref sig .tc := ⟨.hbm, 26, rfl⟩
abbrev main_c_2 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]
-- ==== Proof.Row.lean ====
/-
  ONE ROW OF MASKED SOFTMAX ATTENTION over the extended reals. A row has finitely many keys, some of them visible, each
  with a real score in base two and a real value. `soft` is what the row computes: the mean of the values of the visible
  keys with weights `2 ^ score`. Two ways to compute it are shown equal to it: `kernel_row` takes powers of two of the
  scores less their maximum and divides once at the end, `reference_row` takes powers of e of the scores times `log 2`
  less their maximum, divides every weight, and masks the weights again. `soft_reindex` changes the set of keys.
-/
module

public import Idealize.ShloMosaic.PureOps.Ideal

@[expose] public section

noncomputable section

namespace Cert.Row

open Idealize.ShloMosaic

variable {ι κ : Type} [Fintype ι] [Fintype κ]

/-- The mean of the visible keys' values, with weights `2 ^ score`. -/
def soft (M : ι → Prop) [DecidablePred M] (x v : ι → ℝ) : ℝ :=
  (∑ c, if M c then (2 : ℝ) ^ x c * v c else 0) / ∑ c, if M c then (2 : ℝ) ^ x c else 0

/-- A sum of reals, taken in the extended reals. -/
theorem sum_coe (f : ι → ℝ) : (∑ c, (f c : EReal)) = ((∑ c, f c : ℝ) : EReal) := by
  classical
  induction (Finset.univ : Finset ι) using Finset.induction_on with
  | empty => simp
  | insert a s ha ih => rw [Finset.sum_insert ha, Finset.sum_insert ha, ih, EReal.coe_add]

/-- The maximum of the visible scores is a real number when some key is visible. -/
theorem max_real (M : ι → Prop) [DecidablePred M] (hne : ∃ c, M c) (x : ι → ℝ) :
    ∃ μ : ℝ, Finset.univ.fold max ⊥ (fun c => if M c then (x c : EReal) else ⊥) = (μ : EReal) := by
  obtain ⟨c₀, h₀⟩ := hne
  obtain ⟨c, -, hc⟩ := Finset.exists_mem_eq_sup (Finset.univ : Finset ι) ⟨c₀, Finset.mem_univ _⟩
    (fun c => if M c then (x c : EReal) else ⊥)
  have hle := Finset.le_sup (f := fun c => if M c then (x c : EReal) else ⊥) (Finset.mem_univ c₀)
  change ∃ μ : ℝ, Finset.univ.sup (fun c => if M c then (x c : EReal) else ⊥) = (μ : EReal)
  rw [hc] at hle ⊢
  by_cases hM : M c
  · exact ⟨x c, if_pos hM⟩
  · simp only [if_pos h₀, if_neg hM] at hle
    exact absurd (le_bot_iff.mp hle) (EReal.coe_ne_bot _)

/-- The sum of the visible weights is positive, whatever the scores are shifted by. -/
theorem weights_pos (M : ι → Prop) [DecidablePred M] (hne : ∃ c, M c) (w : ι → ℝ) (hw : ∀ c, 0 < w c) :
    0 < ∑ c, if M c then w c else 0 := by
  obtain ⟨c₀, h₀⟩ := hne
  refine Finset.sum_pos' (fun c _ => ?_) ⟨c₀, Finset.mem_univ _, by rw [if_pos h₀]; exact hw c₀⟩
  split
  · exact (hw c).le
  · exact le_rfl

/-- A common factor of the weights cancels. -/
theorem soft_scale (M : ι → Prop) [DecidablePred M] (x v : ι → ℝ) (a : ℝ) (ha : a ≠ 0) :
    (∑ c, if M c then a * (2 : ℝ) ^ x c * v c else 0) / (∑ c, if M c then a * (2 : ℝ) ^ x c else 0) = soft M x v := by
  have h₁ : (∑ c, if M c then a * (2 : ℝ) ^ x c * v c else 0) = a * ∑ c, if M c then (2 : ℝ) ^ x c * v c else 0 := by
    rw [Finset.mul_sum]; exact Finset.sum_congr rfl fun c _ => by split <;> ring
  have h₂ : (∑ c, if M c then a * (2 : ℝ) ^ x c else 0) = a * ∑ c, if M c then (2 : ℝ) ^ x c else 0 := by
    rw [Finset.mul_sum]; exact Finset.sum_congr rfl fun c _ => by split <;> ring
  rw [h₁, h₂, mul_div_mul_left _ _ ha]; rfl

/-- The kernel's row: weights `2 ^ (score - maximum)`, the product with the values divided once. -/
theorem kernel_row (M : ι → Prop) [DecidablePred M] (hne : ∃ c, M c) (x v : ι → ℝ) (s : ι → EReal)
    (hs : ∀ c, s c = if M c then (x c : EReal) else ⊥) :
    Ideal.div (0 + ∑ c, Ideal.exp2 (s c - Finset.univ.fold max ⊥ s) * (v c : EReal))
      (∑ c, Ideal.exp2 (s c - Finset.univ.fold max ⊥ s)) = (soft M x v : EReal) := by
  obtain rfl : s = fun c => if M c then (x c : EReal) else ⊥ := funext hs
  obtain ⟨μ, hμ⟩ := max_real M hne x
  rw [hμ]
  have he : ∀ c, Ideal.exp2 ((if M c then (x c : EReal) else ⊥) - (μ : EReal))
      = ((if M c then (2 : ℝ) ^ (-μ) * (2 : ℝ) ^ x c else 0 : ℝ) : EReal) := fun c => by
    split
    · rw [← EReal.coe_sub, Ideal.exp2_coe, Real.rpow_eq_pow, sub_eq_neg_add, Real.rpow_add two_pos]
    · rw [EReal.bot_sub, Ideal.exp2_bot, EReal.coe_zero]
  have ha : (0 : ℝ) < (2 : ℝ) ^ (-μ) := Real.rpow_pos_of_pos two_pos _
  have hpos := weights_pos M hne (fun c => (2 : ℝ) ^ (-μ) * (2 : ℝ) ^ x c)
    fun c => mul_pos ha (Real.rpow_pos_of_pos two_pos _)
  simp only [he, ← EReal.coe_mul, sum_coe, zero_add]
  rw [Ideal.div_coe hpos.ne', ← EReal.coe_mul, ← soft_scale M x v _ ha.ne', mul_one_div]
  congr 2
  exact Finset.sum_congr rfl fun c _ => by split <;> simp

/-- The reference's row: weights `e ^ (score * log 2 - maximum)`, each divided by their sum and masked again. -/
theorem reference_row (M : ι → Prop) [DecidablePred M] (hne : ∃ c, M c) (x v : ι → ℝ) (s k : ι → EReal)
    (hs : ∀ c, s c = if M c then (x c : EReal) * (Real.log 2 : ℝ) else ⊥) (hk : ∀ c, k c = if M c then 1 else 0) :
    ∑ c, Ideal.div (Ideal.exp (s c - Finset.univ.fold max ⊥ s))
        (0 + ∑ c, Ideal.exp (s c - Finset.univ.fold max ⊥ s)) * k c * (v c : EReal) = (soft M x v : EReal) := by
  obtain rfl : s = fun c => if M c then ((x c * Real.log 2 : ℝ) : EReal) else ⊥ :=
    funext fun c => by rw [hs, EReal.coe_mul]
  obtain rfl : k = fun c => if M c then 1 else 0 := funext hk
  obtain ⟨μ, hμ⟩ := max_real M hne fun c => x c * Real.log 2
  rw [hμ]
  have he : ∀ c, Ideal.exp ((if M c then ((x c * Real.log 2 : ℝ) : EReal) else ⊥) - (μ : EReal))
      = ((if M c then Real.exp (-μ) * (2 : ℝ) ^ x c else 0 : ℝ) : EReal) := fun c => by
    split
    · rw [← EReal.coe_sub, Ideal.exp_coe, sub_eq_neg_add, Real.exp_add, Real.rpow_def_of_pos two_pos, mul_comm (x c)]
    · rw [EReal.bot_sub, Ideal.exp_bot, EReal.coe_zero]
  have ha : (0 : ℝ) < Real.exp (-μ) := Real.exp_pos _
  have hpos := weights_pos M hne (fun c => Real.exp (-μ) * (2 : ℝ) ^ x c)
    fun c => mul_pos ha (Real.rpow_pos_of_pos two_pos _)
  have hm : ∀ c, (if M c then (1 : EReal) else 0) = ((if M c then 1 else 0 : ℝ) : EReal) := fun c => by split <;> simp
  simp only [he, hm, sum_coe, zero_add]
  simp only [Ideal.div_coe hpos.ne', ← EReal.coe_mul, sum_coe]
  rw [← soft_scale M x v _ ha.ne', Finset.sum_div]
  congr 1
  refine Finset.sum_congr rfl fun c _ => ?_
  split
  · ring
  · simp

/-- Two rows of keys whose visible parts correspond, with equal scores and values, have one result. -/
theorem soft_reindex (M : ι → Prop) [DecidablePred M] (N : κ → Prop) [DecidablePred N] (x v : ι → ℝ) (y w : κ → ℝ)
    (f : ι → κ) (g : κ → ι) (hf : ∀ c, M c → N (f c)) (hg : ∀ d, N d → M (g d)) (hgf : ∀ c, M c → g (f c) = c)
    (hfg : ∀ d, N d → f (g d) = d) (hx : ∀ c, M c → x c = y (f c)) (hv : ∀ c, M c → v c = w (f c)) :
    soft M x v = soft N y w := by
  unfold soft
  simp only [← Finset.sum_filter]
  congr 1
  · refine Finset.sum_bij' (fun c _ => f c) (fun d _ => g d) ?_ ?_ ?_ ?_ ?_
    all_goals simp only [Finset.mem_filter, Finset.mem_univ, true_and]
    · exact hf
    · exact hg
    · exact hgf
    · exact hfg
    · intro c hc; rw [hx c hc, hv c hc]
  · refine Finset.sum_bij' (fun c _ => f c) (fun d _ => g d) ?_ ?_ ?_ ?_ ?_
    all_goals simp only [Finset.mem_filter, Finset.mem_univ, true_and]
    · exact hf
    · exact hg
    · exact hgf
    · exact hfg
    · intro c hc; rw [hx c hc]

end Cert.Row

end
-- ==== Proof.Head.lean ====
/-
  ONE HEAD OF ONE BLOCK OF THE KERNEL, at the ideal values. The kernel's body runs the same computation once per head of a
  group: `head` is that computation, on the mask, the block of queries, and the keys and values of the block before and
  of the block itself, stacked (`cat`). `head_eq` reads it at a row and a lane, for real queries, keys and values: it is
  the row function `Row.soft` of the visible keys. `mask_eq` says which keys of the two blocks a row sees.
-/
module

public import proofs.«01_k».proof.Proof.Gen.KernelIdeal.Skeleton
public import Idealize.ShloMosaic.Lib.Pointwise
public import proofs.«01_k».proof.Proof.Row

@[expose] public section

set_option maxRecDepth 16384

noncomputable section

namespace Cert.KernelIdeal.Head

open Idealize.ShloMosaic Idealize.SL.Sem Cert.KernelIdeal Cert.KernelIdeal.Gen

/-- Two blocks of 512 rows, one below the other. -/
def cat (a b : FVec Ideal S512x128 .bf16) : FVec Ideal S1024x128 .bf16 :=
  concatenate S1024x128 0 [⟨S512x128, a⟩, ⟨S512x128, b⟩] concatenates_S512x128_S512x128_S1024x128_d0

/-- The scores of a block of queries, the hidden ones at minus infinity. -/
def scores (mk : IVec S512x1024 1) (q : FVec Ideal S512x128 .bf16) (k : FVec Ideal S1024x128 .bf16) : FVec Ideal S512x1024 .f32 :=
  select mk (matmul dot_S512x128_S1024x128_S512x1024_1_1_0_0_n_n none q k (constant S512x1024 .f32 0x00000000#32))
    (broadcast S512x1024 (Named.named κ "mask" 0xF149F2CA#32))

/-- The weights: powers of two of the scores less their row's maximum. -/
def weights (s : FVec Ideal S512x1024 .f32) : FVec Ideal S512x1024 .f32 :=
  exp2 (subf s (broadcastTo S512x1024 (shapeCast S512x1
    (multiReduction .maximumf [1] S512 s 0xFF800000#32 reduces_S512x1024_S512 (.inl rfl) rfl) shapeCasts_S512_S512x1)
    broadcasts_S512x1_S512x1024))

/-- The weighted mean of the values. -/
def mean (e : FVec Ideal S512x1024 .f32) (v : FVec Ideal S1024x128 .bf16) : FVec Ideal S512x128 .bf16 :=
  truncf .bf16 (divf
    (matmul dot_S512x1024_S1024x128_S512x128_1_0_0_1_n_n none (truncf .bf16 e bitsLt_bf16_f32) v
      (constant S512x128 .f32 0x00000000#32))
    (broadcastTo S512x128 (shapeCast S512x1
      (multiReduction .add [1] S512 e 0x00000000#32 reduces_S512x1024_S512 (.inl rfl) rfl) shapeCasts_S512_S512x1)
      broadcasts_S512x1_S512x128)) bitsLt_bf16_f32

/-- One head of one block. -/
def head (mk : IVec S512x1024 1) (q kp kc vp vc : FVec Ideal S512x128 .bf16) : FVec Ideal S512x128 .bf16 :=
  mean (weights (scores mk q (cat kp kc))) (cat vp vc)

/-! The five heads' payloads are that function. -/

theorem pay_0 (i : grid0.Coords) (q kp kc vp vc : Vec Ideal S512x128 .bf16) :
    k0_pay7 (F := Ideal) (k0_pay5 i q kp kc vp vc) (k0_pay6 i q kp kc) = head (k0_pay3 i) q kp kc vp vc := rfl
theorem pay_1 (mk : IVec S512x1024 1) (q kp kc vp vc : Vec Ideal S512x128 .bf16) :
    k0_pay8 (F := Ideal) mk q kp kc vp vc = head mk q kp kc vp vc := rfl
theorem pay_2 (mk : IVec S512x1024 1) (q kp kc vp vc : Vec Ideal S512x128 .bf16) :
    k0_pay10 (F := Ideal) mk q (k0_pay9 kp kc) vp vc = head mk q kp kc vp vc := rfl
theorem pay_3 (mk : IVec S512x1024 1) (q kp kc vp vc : Vec Ideal S512x128 .bf16) :
    k0_pay1 (F := Ideal) (k0_pay11 vp vc) (k0_pay13 mk q kp kc) (k0_pay14 mk q kp kc) = head mk q kp kc vp vc := rfl
theorem pay_4 (mk : IVec S512x1024 1) (q kp kc vp vc : Vec Ideal S512x128 .bf16) :
    k0_pay2 (F := Ideal) mk q kp kc vp vc = head mk q kp kc vp vc := rfl

/-! Each stage at an index. -/

theorem cat_apply (a b : FVec Ideal S512x128 .bf16) (c : Fin 1024) (d : Fin 128) :
    cat a b (ix2 c d) = if h : c.val < 512 then a (ix2 (⟨c.val, h⟩ : Fin 512) d)
      else b (ix2 (⟨c.val - 512, by omega⟩ : Fin 512) d) := by
  pointwise [cat]

theorem scores_apply (mk : IVec S512x1024 1) (q : FVec Ideal S512x128 .bf16) (k : FVec Ideal S1024x128 .bf16)
    (r : Fin 512) (c : Fin 1024) :
    scores mk q k (ix2 r c) = if mk (ix2 r c) = 1#1 then ∑ l : Fin 128, q (ix2 r l) * k (ix2 c l) else ⊥ := by
  have hm : Named.named (F := Ideal) κ "mask" (φ := .f32) 0xF149F2CA#32 = ⊥ :=
    IdealRules.named_const.ideal_named_scalar _ _ _ _ rfl
  pointwise [scores]
  rw [hm]
  rfl

theorem weights_apply (s : FVec Ideal S512x1024 .f32) (r : Fin 512) (c : Fin 1024) :
    weights s (ix2 r c) = Ideal.exp2 (s (ix2 r c) - Finset.univ.fold max ⊥ fun c : Fin 1024 => s (ix2 r c)) := by
  have hb : Ideal.ofBits .f32 0xFF800000#32 = ⊥ := by simp [Ideal.ofBits, Ideal.ieee]
  pointwise [weights]
  rw [hb]
  rfl

theorem mean_apply (e : FVec Ideal S512x1024 .f32) (v : FVec Ideal S1024x128 .bf16) (r : Fin 512) (d : Fin 128) :
    mean e v (ix2 r d) = Ideal.div (∑ c : Fin 1024, e (ix2 r c) * v (ix2 c d)) (∑ c : Fin 1024, e (ix2 r c)) := by
  pointwise [mean]

/-- A head at a row and a lane, for real operands. -/
theorem head_eq (mk : IVec S512x1024 1) (q kp kc vp vc : FVec Ideal S512x128 .bf16) (r : Fin 512) (d : Fin 128)
    (M : Fin 1024 → Prop) [DecidablePred M] (hne : ∃ c, M c) (hM : ∀ c, mk (ix2 r c) = 1#1 ↔ M c)
    (x : Fin 128 → ℝ) (y : Fin 1024 → Fin 128 → ℝ) (z : Fin 1024 → ℝ)
    (hq : ∀ l, q (ix2 r l) = (x l : EReal)) (hk : ∀ c l, cat kp kc (ix2 c l) = (y c l : EReal))
    (hv : ∀ c, cat vp vc (ix2 c d) = (z c : EReal)) :
    head mk q kp kc vp vc (ix2 r d) = (Row.soft M (fun c => ∑ l, x l * y c l) z : EReal) := by
  rw [head, mean_apply]
  simp only [weights_apply, hv]
  refine Eq.trans ?_ (Row.kernel_row M hne (fun c => ∑ l, x l * y c l) z
    (fun c => scores mk q (cat kp kc) (ix2 r c)) fun c => ?_)
  · rw [zero_add]
  · rw [scores_apply]
    simp only [hM, hq, hk, ← EReal.coe_mul, Row.sum_coe]

/-- A small natural number as a signed word. -/
theorem toInt_small (n : ℕ) (h : n < 2 ^ 31) : (BitVec.ofNat 32 n).toInt = n := by
  rw [BitVec.toInt_eq_toNat_cond, BitVec.toNat_ofNat, Nat.mod_eq_of_lt (by omega), if_pos (by omega)]

/-- A row `r` of block `i` sees column `c` of the two stacked blocks when the column is not before the first key, not
    after the row's own position, and fewer than 512 positions before it. -/
theorem mask_eq (i : grid0.Coords) (r : Fin 512) (c : Fin 1024) :
    k0_pay3 i (ix2 r c) = 1#1 ↔ (512 ≤ (i 1).val * 512 + c.val ∧ c.val ≤ r.val + 512 ∧ r.val < c.val) := by
  have hn : (i 1).val < 32 := (i 1).isLt
  have hr := r.isLt
  have hc := c.isLt
  have s₁ := toInt_small r.val (by omega)
  have s₂ := toInt_small c.val (by omega)
  have s₃ := toInt_small (i 1).val (by omega)
  have e₁ : (IntOp.subi (IntOp.addi (BitVec.ofNat 32 r.val) 512#32) (BitVec.ofNat 32 c.val)).toInt
      = (r.val : ℤ) + 512 - c.val := by
    simp only [IntOp.subi, IntOp.addi, BitVec.toInt_sub, BitVec.toInt_add, s₁, s₂, show (512#32).toInt = 512 from rfl, Int.bmod]
    omega
  have e₂ : (IntOp.addi (BitVec.ofNat 32 c.val)
      (Scalar.muli (Scalar.subi (BitVec.ofNat 32 (i 1).val) 1#32) 512#32)).toInt
      = (c.val : ℤ) + ((i 1).val - 1) * 512 := by
    simp only [Scalar.muli, Scalar.subi, IntOp.subi, IntOp.addi, IntOp.muli, BitVec.toInt_sub, BitVec.toInt_add,
      BitVec.toInt_mul, s₂, s₃, show (512#32).toInt = 512 from rfl, show (1#32).toInt = 1 from rfl, Int.bmod]
    omega
  pointwise [k0_pay3]
  rw [IntOp.andi_eq_one, IntOp.andi_eq_one, IntOp.cmpi_sge, IntOp.cmpi_sge, IntOp.cmpi_sle, e₁, e₂,
    show (0#32).toInt = 0 from rfl, show (511#32).toInt = 511 from rfl]
  omega

end Cert.KernelIdeal.Head

end
-- ==== Proof.Spec.lean ====
/-
  WHAT THE CALL COMPUTES, as one function of the projected rows. A row of `h` holds 20 query heads of 128 lanes (columns 0
  to 2559), and, for each of four groups of five heads, a key (from column 4608) and a value (from column 5120). Position
  `t` sees the positions `j` with `j ≤ t < j + 512`. The entry of the result at position `t` and column `l` belongs to head
  `l / 128` of group `l / 640`, lane `l % 128`.
-/
module

public import proofs.«01_k».proof.Proof.Row
public import Idealize.ShloMosaic.Lib.Pointwise

@[expose] public section

noncomputable section

namespace Cert.Spec

open Idealize.ShloMosaic

/-- The projected rows, as real numbers. -/
abbrev Rows := (⟨2, ![16384, 10752]⟩ : Shape).Idx → ℝ

/-- The score of position `t` against position `j` in the head of column `l`. -/
def score (x : Rows) (t : Fin 16384) (l : Fin 2560) (j : Fin 16384) : ℝ :=
  ∑ d : Fin 128, x (ix2 t (⟨l.val / 128 * 128 + d.val, by omega⟩ : Fin 10752))
    * x (ix2 j (⟨4608 + l.val / 640 * 128 + d.val, by omega⟩ : Fin 10752))

/-- The value of position `j` at column `l`. -/
def value (x : Rows) (l : Fin 2560) (j : Fin 16384) : ℝ :=
  x (ix2 j (⟨5120 + l.val / 640 * 128 + l.val % 128, by omega⟩ : Fin 10752))

/-- The attention of position `t` over its window, at column `l`. -/
def attn (x : Rows) (t : Fin 16384) (l : Fin 2560) : ℝ :=
  Row.soft (fun j : Fin 16384 => j.val ≤ t.val ∧ t.val < j.val + 512) (score x t l) (value x l)

end Cert.Spec

end
-- ==== Proof.Block.lean ====
/-
  THE KERNEL'S RESULT ARRAY. Grid point `(g, n)` computes, for the five heads of group `g`, the rows `512 n` to `512 n +
  511` of the result, from those rows' queries and from the keys and values of blocks `n - 1` and `n`. `head_row` is one
  head of one block against the function of Spec.lean, the visible columns of the two blocks being the visible positions;
  `final` is the array after the run.
-/
module

public import proofs.«01_k».proof.Proof.Gen.KernelIdeal.Value
public import Idealize.ShloMosaic.Lib.Pipeline.ValueKit
public import proofs.«01_k».proof.Proof.Head
public import proofs.«01_k».proof.Proof.Spec

@[expose] public section

set_option maxRecDepth 16384

noncomputable section

namespace Cert.KernelIdeal.Block

open Idealize.ShloMosaic Idealize.ShloMosaic.TcCoe Idealize.SL.Sem Cert.KernelIdeal Cert.KernelIdeal.Gen Cert.KernelIdeal.Head

/-- The position of column `c` of the two blocks stacked before a row of block `n`. -/
def posn (n : Fin 32) (c : Fin 1024) : Fin 16384 :=
  if h : c.val < 512 then ⟨(n.val - 1) * 512 + c.val, by omega⟩ else ⟨n.val * 512 + (c.val - 512), by omega⟩

/-- One head of one block is the attention of its rows. -/
theorem head_row (x : Spec.Rows) (i : grid0.Coords) (g : Fin 4) (n : Fin 32) (hh : Fin 5) (hn : (i 1).val = n.val)
    (q kp kc vp vc : FVec Ideal S512x128 .bf16) (r : Fin 512) (d : Fin 128)
    (hq : ∀ l : Fin 128, q (ix2 r l) = (x (ix2 (⟨n.val * 512 + r.val, by omega⟩ : Fin 16384)
      (⟨g.val * 640 + hh.val * 128 + l.val, by omega⟩ : Fin 10752)) : EReal))
    (hkp : ∀ (c : Fin 512) (l : Fin 128), kp (ix2 c l) = (x (ix2 (⟨(n.val - 1) * 512 + c.val, by omega⟩ : Fin 16384)
      (⟨4608 + g.val * 128 + l.val, by omega⟩ : Fin 10752)) : EReal))
    (hkc : ∀ (c : Fin 512) (l : Fin 128), kc (ix2 c l) = (x (ix2 (⟨n.val * 512 + c.val, by omega⟩ : Fin 16384)
      (⟨4608 + g.val * 128 + l.val, by omega⟩ : Fin 10752)) : EReal))
    (hvp : ∀ (c : Fin 512) (l : Fin 128), vp (ix2 c l) = (x (ix2 (⟨(n.val - 1) * 512 + c.val, by omega⟩ : Fin 16384)
      (⟨5120 + g.val * 128 + l.val, by omega⟩ : Fin 10752)) : EReal))
    (hvc : ∀ (c : Fin 512) (l : Fin 128), vc (ix2 c l) = (x (ix2 (⟨n.val * 512 + c.val, by omega⟩ : Fin 16384)
      (⟨5120 + g.val * 128 + l.val, by omega⟩ : Fin 10752)) : EReal)) :
    head (k0_pay3 i) q kp kc vp vc (ix2 r d)
      = (Spec.attn x ⟨n.val * 512 + r.val, by omega⟩ ⟨g.val * 640 + hh.val * 128 + d.val, by omega⟩ : EReal) := by
  rw [head_eq (k0_pay3 i) q kp kc vp vc r d
    (fun c => 512 ≤ n.val * 512 + c.val ∧ c.val ≤ r.val + 512 ∧ r.val < c.val)
    ⟨⟨r.val + 512, by omega⟩, by constructor <;> dsimp only <;> omega⟩
    (fun c => by rw [mask_eq, hn])
    _ (fun c l => x (ix2 (posn n c) (⟨4608 + g.val * 128 + l.val, by omega⟩ : Fin 10752)))
    (fun c => x (ix2 (posn n c) (⟨5120 + g.val * 128 + d.val, by omega⟩ : Fin 10752)))
    hq
    (fun c l => by rw [cat_apply, posn]; split <;> simp only [hkp, hkc])
    (fun c => by rw [cat_apply, posn]; split <;> simp only [hvp, hvc])]
  refine congrArg _ ?_
  have hpos : ∀ c : Fin 1024, 512 ≤ n.val * 512 + c.val → (posn n c).val = n.val * 512 + c.val - 512 := fun c h => by
    unfold posn
    split
    · dsimp only; omega
    · dsimp only; omega
  refine Row.soft_reindex _ _ _ _ _ _ (posn n)
    (fun j => if h : n.val * 512 ≤ j.val + 512 ∧ j.val + 512 < n.val * 512 + 1024 then ⟨j.val + 512 - n.val * 512, by omega⟩ else 0)
    ?_ ?_ ?_ ?_ ?_ ?_
  · intro c hc
    have e := hpos c hc.1
    show (posn n c).val ≤ n.val * 512 + r.val ∧ n.val * 512 + r.val < (posn n c).val + 512
    omega
  · intro j hj
    have h1 : j.val ≤ n.val * 512 + r.val := hj.1
    have h2 : n.val * 512 + r.val < j.val + 512 := hj.2
    rw [dif_pos (by omega)]
    dsimp only
    omega
  · intro c hc
    have e := hpos c hc.1
    rw [dif_pos (by omega)]
    apply Fin.ext
    dsimp only
    omega
  · intro j hj
    have h1 : j.val ≤ n.val * 512 + r.val := hj.1
    have h2 : n.val * 512 + r.val < j.val + 512 := hj.2
    rw [dif_pos (by omega)]
    apply Fin.ext
    rw [hpos _ (by dsimp only; omega)]
    dsimp only
    omega
  · intro c hc
    unfold Spec.score
    refine Finset.sum_congr rfl fun l _ => ?_
    have e : (g.val * 640 + hh.val * 128 + d.val) / 128 * 128 = g.val * 640 + hh.val * 128 := by omega
    have e' : (g.val * 640 + hh.val * 128 + d.val) / 640 * 128 = g.val * 128 := by omega
    simp only [e, e']
  · intro c hc
    unfold Spec.value
    have e : 5120 + (g.val * 640 + hh.val * 128 + d.val) / 640 * 128 + (g.val * 640 + hh.val * 128 + d.val) % 128
      = 5120 + g.val * 128 + d.val := by omega
    simp only [e]

variable (m : (ℓ : Loc nD τ sig) → Buf (Elt Ideal) ℓ)

theorem idx0 : ∀ t : Fin cfg0.N, win0_0.index t = ![(grid0.coords t 1).val, (grid0.coords t 0).val] := by decide +kernel
theorem idx1 : ∀ t : Fin cfg0.N, win0_1.index t = ![(grid0.coords t 1).val - 1, 36 + (grid0.coords t 0).val] := by decide +kernel
theorem idx2 : ∀ t : Fin cfg0.N, win0_2.index t = ![(grid0.coords t 1).val, 36 + (grid0.coords t 0).val] := by decide +kernel
theorem idx3 : ∀ t : Fin cfg0.N, win0_3.index t = ![(grid0.coords t 1).val - 1, 40 + (grid0.coords t 0).val] := by decide +kernel
theorem idx4 : ∀ t : Fin cfg0.N, win0_4.index t = ![(grid0.coords t 1).val, 40 + (grid0.coords t 0).val] := by decide +kernel
theorem idx5 : ∀ t : Fin cfg0.N, win0_5.index t = ![(grid0.coords t 1).val, (grid0.coords t 0).val] := by decide +kernel

variable (c : Dev nD) (x : Spec.Rows) (hx : ∀ i, m ((c.tc : Thread nD τ).loc main_arg0) i = (x i : EReal)) (t : Fin cfg0.N)

theorem lt0 : (grid0.coords t 0).val < 4 := (grid0.coords t 0).isLt
theorem lt1 : (grid0.coords t 1).val < 32 := (grid0.coords t 1).isLt

include hx

theorem blk1 (r : Fin 512) (l : Fin 128) : iblk m c 1 t (ix2 r l)
    = (x (ix2 (⟨((grid0.coords t 1).val - 1) * 512 + r.val, by have := lt1 t; omega⟩ : Fin 16384)
        (⟨4608 + (grid0.coords t 0).val * 128 + l.val, by have := lt0 t; omega⟩ : Fin 10752)) : EReal) := by
  rw [← hx]
  blk_ext [iblk, V, idx1 t]

theorem blk2 (r : Fin 512) (l : Fin 128) : iblk m c 2 t (ix2 r l)
    = (x (ix2 (⟨(grid0.coords t 1).val * 512 + r.val, by have := lt1 t; omega⟩ : Fin 16384)
        (⟨4608 + (grid0.coords t 0).val * 128 + l.val, by have := lt0 t; omega⟩ : Fin 10752)) : EReal) := by
  rw [← hx]
  blk_ext [iblk, V, idx2 t]

theorem blk3 (r : Fin 512) (l : Fin 128) : iblk m c 3 t (ix2 r l)
    = (x (ix2 (⟨((grid0.coords t 1).val - 1) * 512 + r.val, by have := lt1 t; omega⟩ : Fin 16384)
        (⟨5120 + (grid0.coords t 0).val * 128 + l.val, by have := lt0 t; omega⟩ : Fin 10752)) : EReal) := by
  rw [← hx]
  blk_ext [iblk, V, idx3 t]

theorem blk4 (r : Fin 512) (l : Fin 128) : iblk m c 4 t (ix2 r l)
    = (x (ix2 (⟨(grid0.coords t 1).val * 512 + r.val, by have := lt1 t; omega⟩ : Fin 16384)
        (⟨5120 + (grid0.coords t 0).val * 128 + l.val, by have := lt0 t; omega⟩ : Fin 10752)) : EReal) := by
  rw [← hx]
  blk_ext [iblk, V, idx4 t]

theorem blk0 (o : ℕ) (ho : o + 128 ≤ 640) (inb) (r : Fin 512) (l : Fin 128) :
    View.ld (X0_0 m c t) (Rect.unit ![0, o] ![512, 128] inb) (ix2 r l)
      = (x (ix2 (⟨(grid0.coords t 1).val * 512 + r.val, by have := lt1 t; omega⟩ : Fin 16384)
        (⟨(grid0.coords t 0).val * 640 + o + l.val, by have := lt0 t; omega⟩ : Fin 10752)) : EReal) := by
  rw [← hx]
  unfold X0_0
  unfold Pipeline.Window.fill
  rw [View.ld]
  rw [dif_pos (moved0_0 t _)]
  blk_ext [iblk, V, idx0 t]
  · simp [Rect.unit, LoadRect.idx, ix2]
  · simp [Rect.unit, LoadRect.idx, ix2]; omega

theorem final :
    (dats m 0 c).arrAt 5 cfg0.N = fun i => (Spec.attn x (i 0) (i 1) : EReal) := by
  refine (dats m 0 c).arrAt_eq_of_covers 5 _ (by decide +kernel) fun t hf y => ?_
  blk_simp
  rw [after0_5]
  unfold outsAt0
  frame_out
  simp only [pay_0, pay_1, pay_2, pay_3, pay_4]
  have e0 : (((View.whole main_v0).slice (win0_5.rect t)).emb y 0).val = (grid0.coords t 1).val * 512 + (y 0).val := by
    blk_simp [idx5 t]
  have e1 : (((View.whole main_v0).slice (win0_5.rect t)).emb y 1).val = (grid0.coords t 0).val * 640 + (y 1).val := by
    blk_simp [idx5 t]
  generalize (((View.whole main_v0).slice (win0_5.rect t)).emb y) = Y at e0 e1 ⊢
  canon_tiles z h
  · rw [show z = ix2 (z 0) (z 1) from by pointwise]
    refine (head_row x (grid0.coords t) (grid0.coords t 0) (grid0.coords t 1) 4 rfl _ _ _ _ _ _ _
      (blk0 m c x hx t 512 (by omega) _ _) (blk1 m c x hx t) (blk2 m c x hx t) (blk3 m c x hx t) (blk4 m c x hx t)).trans ?_
    congr 2 <;> · apply Fin.ext; dsimp only; omega
  · rw [show z = ix2 (z 0) (z 1) from by pointwise]
    refine (head_row x (grid0.coords t) (grid0.coords t 0) (grid0.coords t 1) 3 rfl _ _ _ _ _ _ _
      (blk0 m c x hx t 384 (by omega) _ _) (blk1 m c x hx t) (blk2 m c x hx t) (blk3 m c x hx t) (blk4 m c x hx t)).trans ?_
    congr 2 <;> · apply Fin.ext; dsimp only; omega
  · rw [show z = ix2 (z 0) (z 1) from by pointwise]
    refine (head_row x (grid0.coords t) (grid0.coords t 0) (grid0.coords t 1) 2 rfl _ _ _ _ _ _ _
      (blk0 m c x hx t 256 (by omega) _ _) (blk1 m c x hx t) (blk2 m c x hx t) (blk3 m c x hx t) (blk4 m c x hx t)).trans ?_
    congr 2 <;> · apply Fin.ext; dsimp only; omega
  · rw [show z = ix2 (z 0) (z 1) from by pointwise]
    refine (head_row x (grid0.coords t) (grid0.coords t 0) (grid0.coords t 1) 1 rfl _ _ _ _ _ _ _
      (blk0 m c x hx t 128 (by omega) _ _) (blk1 m c x hx t) (blk2 m c x hx t) (blk3 m c x hx t) (blk4 m c x hx t)).trans ?_
    congr 2 <;> · apply Fin.ext; dsimp only; omega
  · rw [show z = ix2 (z 0) (z 1) from by pointwise]
    refine (head_row x (grid0.coords t) (grid0.coords t 0) (grid0.coords t 1) 0 rfl _ _ _ _ _ _ _
      (blk0 m c x hx t 0 (by omega) _ _) (blk1 m c x hx t) (blk2 m c x hx t) (blk3 m c x hx t) (blk4 m c x hx t)).trans ?_
    congr 2 <;> · apply Fin.ext; dsimp only; omega

end Cert.KernelIdeal.Block

end
-- ==== Proof.Ref.lean ====
/-
  THE REFERENCE'S VALUE. The composed term of the reference is the staged functions below, one for each of its lines: which
  positions are visible, the scores, a row's largest score, the exponentials, the probabilities, the result. Read at an
  entry, the result is the function of Spec.lean.
-/
module

public import proofs.«01_k».proof.Proof.Gen.ReferenceIdeal.Run
public import proofs.«01_k».proof.Proof.Spec

@[expose] public section

set_option maxRecDepth 16384

noncomputable section

namespace Cert.ReferenceIdeal.Stage

open Idealize.ShloMosaic Idealize.ShloMosaic.TcCoe Idealize.SL.Sem Cert.ReferenceIdeal Cert.ReferenceIdeal.Gen

/-- A position's distance to another. -/
def dist : IVec S16384x16384 32 :=
  subi (broadcastInDim S16384x16384 ![0, 1] bcast_S16384x1_S16384x16384_0_1 (broadcastInDim S16384x1 ![0] bcast_S16384_S16384x1_0 (iotaInDim S16384 32 0)))
    (broadcastInDim S16384x16384 ![0, 1] bcast_S1x16384_S16384x16384_0_1 (broadcastInDim S1x16384 ![1] bcast_S16384_S1x16384_1 (iotaInDim S16384 32 0)))

/-- Which positions are visible. -/
def vis : IVec S16384x16384 1 :=
  andi (cmpi .sge dist (broadcastInDim S16384x16384 ![] bcast_S_S16384x16384 (constantI S_ 32 0#32)))
    (cmpi .slt dist (broadcastInDim S16384x16384 ![] bcast_S_S16384x16384 (constantI S_ 32 512#32)))

def vis4 : IVec S1x16384x1x16384 1 := broadcastInDim S1x16384x1x16384 ![1, 3] bcast_S16384x16384_S1x16384x1x16384_1_3 vis

variable (a : FVec Ideal S16384x10752 .bf16)

def queries : FVec Ideal S16384x4x5x128 .f32 :=
  shapeCast _ (extf .f32 (extractStridedSlice S16384x2560 ![0, 0] a slices_S16384x10752_S16384x2560_0_0) bitsLt_bf16_f32) shapeCasts_S16384x2560_S16384x4x5x128

def keys : FVec Ideal S16384x4x128 .f32 :=
  shapeCast _ (extf .f32 (extractStridedSlice S16384x512 ![0, 4608] a slices_S16384x10752_S16384x512_0_4608) bitsLt_bf16_f32) shapeCasts_S16384x512_S16384x4x128

def values : FVec Ideal S16384x4x128 .f32 :=
  shapeCast _ (extf .f32 (extractStridedSlice S16384x512 ![0, 5120] a slices_S16384x10752_S16384x512_0_5120) bitsLt_bf16_f32) shapeCasts_S16384x512_S16384x4x128

def raw : FVec Ideal S4x16384x5x16384 .f32 :=
  Host.dotGeneral dot_S16384x4x5x128_S16384x4x128_S4x16384x5x16384_3_2_02_0_1_1 none (queries a) (keys a)

def scores : FVec Ideal S4x16384x5x16384 .f32 :=
  select (broadcastInDim S4x16384x5x16384 ![0, 1, 2, 3] bcast_S1x16384x1x16384_S4x16384x5x16384_0_1_2_3 vis4)
    (mulf (raw a) (broadcastInDim S4x16384x5x16384 ![] bcast_S_S4x16384x5x16384 (Host.log (constant S_ .f32 0x40000000#32))))
    (broadcastInDim S4x16384x5x16384 ![] bcast_S_S4x16384x5x16384 (id (constant S_ .f32 0xFF800000#32)))

variable (s : FVec Ideal S4x16384x5x16384 .f32)

def top : FVec Ideal S4x16384x5 .f32 := Host.reduce FloatOps.maximumf s (constant S_ .f32 0xFF800000#32) reducesTo_S4x16384x5x16384_S4x16384x5_d3 h_S_

variable (b : FVec Ideal S4x16384x5 .f32)

def expd : FVec Ideal S4x16384x5x16384 .f32 :=
  Host.exp (subf s (broadcastInDim S4x16384x5x16384 ![0, 1, 2, 3] bcast_S4x16384x5x1_S4x16384x5x16384_0_1_2_3 (broadcastInDim S4x16384x5x1 ![0, 1, 2] bcast_S4x16384x5_S4x16384x5x1_0_1_2
    (maximumf (broadcastInDim S4x16384x5 ![] bcast_S_S4x16384x5 (constant S_ .f32 0xFF800000#32)) b))))

def total : FVec Ideal S4x16384x5 .f32 := Host.reduceAdd s (constant S_ .f32 0x00000000#32) reducesTo_S4x16384x5x16384_S4x16384x5_d3 h_S_

def quot : FVec Ideal S4x16384x5x16384 .f32 :=
  mulf (Host.divf s (broadcastInDim S4x16384x5x16384 ![0, 1, 2, 3] bcast_S4x16384x5x1_S4x16384x5x16384_0_1_2_3 (broadcastInDim S4x16384x5x1 ![0, 1, 2] bcast_S4x16384x5_S4x16384x5x1_0_1_2 b)))
    (broadcastInDim S4x16384x5x16384 ![0, 1, 2, 3] bcast_S1x16384x1x16384_S4x16384x5x16384_0_1_2_3 (uitofp .f32 vis4))

def probs : FVec Ideal S4x16384x5x16384 .f32 := quot (expd s (top s)) (total (expd s (top s)))

def mix (v : FVec Ideal S16384x4x128 .f32) : FVec Ideal S16384x2560 .bf16 :=
  truncf .bf16 (shapeCast _ (transpose S16384x4x5x128 [1, 0, 2, 3] (Host.dotGeneral dot_S4x16384x5x16384_S16384x4x128_S4x16384x5x128_3_0_12_2_0_1 none
    s v) transposes_S4x16384x5x128_S16384x4x5x128_1_0_2_3) shapeCasts_S16384x4x5x128_S16384x2560) bitsLt_bf16_f32

def result : FVec Ideal S16384x2560 .bf16 := mix (probs (scores a)) (values a)

theorem res_eq (m : (ℓ : Loc nD τ sig) → Buf (Elt Ideal) ℓ) (c : Dev nD) :
    Value.res_main_v43 (F := Ideal) m c = result (m ((c.tc : Thread nD τ).loc main_arg0)) := rfl

/-! The stages at an entry. -/

theorem bot_eq : Ideal.ofBits FTy.f32 0xFF800000#32 = ⊥ := by simp [Ideal.ofBits, Ideal.ieee]

theorem two_eq : Ideal.log (Ideal.ofBits FTy.f32 0x40000000#32) = (Real.log 2 : ℝ) := by
  have e : Ideal.ofBits FTy.f32 0x40000000#32 = ((2 : ℝ) : EReal) := by
    simp [Ideal.ofBits, Ideal.ieee]
    rw [← EReal.coe_mul]
    norm_num
  rw [e, Ideal.log_coe, if_neg (by norm_num)]

theorem toInt_small (n : ℕ) (h : n < 16384) : (BitVec.ofNat 32 n).toInt = n := by
  rw [BitVec.toInt_eq_toNat_of_lt] <;> rw [BitVec.toNat_ofNat] <;> omega

theorem vis_eq (t j : Fin 16384) : vis (ix2 t j) = 1#1 ↔ (j.val ≤ t.val ∧ t.val < j.val + 512) := by
  unfold vis dist
  pointwise
  have e : ((BitVec.ofNat 32 t.val) - (BitVec.ofNat 32 j.val)).toInt = (t.val : ℤ) - j.val := by
    rw [BitVec.toInt_sub, toInt_small _ t.isLt, toInt_small _ j.isLt]
    simp only [Int.bmod_def]
    omega
  rw [IntOp.andi_eq_one, IntOp.cmpi_sge, IntOp.cmpi_slt, IntOp.subi, e]
  have h0 : (0#32).toInt = 0 := rfl
  have h1 : (512#32).toInt = 512 := rfl
  rw [h0, h1]
  omega

theorem queries_eq (t : Fin 16384) (g : Fin 4) (h : Fin 5) (d : Fin 128) :
    queries a (ix4 t g h d) = a (ix2 t (⟨g.val * 640 + h.val * 128 + d.val, by omega⟩ : Fin 10752)) := by
  pointwise [queries]

theorem keys_eq (t : Fin 16384) (g : Fin 4) (d : Fin 128) :
    keys a (ix3 t g d) = a (ix2 t (⟨4608 + g.val * 128 + d.val, by omega⟩ : Fin 10752)) := by
  pointwise [keys]
  simp only [Nat.add_assoc]

theorem values_eq (t : Fin 16384) (g : Fin 4) (d : Fin 128) :
    values a (ix3 t g d) = a (ix2 t (⟨5120 + g.val * 128 + d.val, by omega⟩ : Fin 10752)) := by
  pointwise [values]
  simp only [Nat.add_assoc]

theorem raw_eq (g : Fin 4) (t : Fin 16384) (h : Fin 5) (j : Fin 16384) :
    raw a (ix4 g t h j) = ∑ d : Fin 128, queries a (ix4 t g h d) * keys a (ix3 j g d) := by
  pointwise [raw]

theorem scores_eq (g : Fin 4) (t : Fin 16384) (h : Fin 5) (j : Fin 16384) :
    scores a (ix4 g t h j) = if j.val ≤ t.val ∧ t.val < j.val + 512 then raw a (ix4 g t h j) * (Real.log 2 : ℝ) else ⊥ := by
  pointwise [scores, vis4]
  simp only [Scalar.select, two_eq, id]
  refine if_congr (vis_eq t j) ?_ ?_
  · rfl
  · exact bot_eq

theorem top_eq (g : Fin 4) (t : Fin 16384) (h : Fin 5) :
    top s (ix3 g t h) = Finset.univ.fold max ⊥ fun j : Fin 16384 => s (ix4 g t h j) := by
  pointwise [top]
  rw [bot_eq]

theorem expd_eq (g : Fin 4) (t : Fin 16384) (h : Fin 5) (j : Fin 16384) :
    expd s b (ix4 g t h j) = Ideal.exp (s (ix4 g t h j) - b (ix3 g t h)) := by
  pointwise [expd]
  rw [bot_eq, max_eq_right bot_le]

theorem total_eq (g : Fin 4) (t : Fin 16384) (h : Fin 5) :
    total s (ix3 g t h) = 0 + ∑ j, s (ix4 g t h j) := by
  rw [zero_add]
  pointwise [total]

theorem quot_eq (g : Fin 4) (t : Fin 16384) (h : Fin 5) (j : Fin 16384) :
    quot s b (ix4 g t h j) = Ideal.div (s (ix4 g t h j)) (b (ix3 g t h)) * (if j.val ≤ t.val ∧ t.val < j.val + 512 then 1 else 0) := by
  pointwise [quot, vis4]
  congr 1
  have e : vis (ix2 t j) = if j.val ≤ t.val ∧ t.val < j.val + 512 then 1#1 else 0#1 := by
    split
    · exact (vis_eq t j).mpr ‹_›
    · have := mt (vis_eq t j).mp ‹_›
      generalize vis (ix2 t j) = w at this ⊢
      revert w; decide
  rw [e]
  split <;> simp [FloatOps.uitofp]

theorem mix_eq (v : FVec Ideal S16384x4x128 .f32) (t : Fin 16384) (l : Fin 2560) :
    mix s v (ix2 t l) = ∑ j, s (ix4 (⟨l.val / 640, by omega⟩ : Fin 4) t (⟨l.val / 128 % 5, by omega⟩ : Fin 5) j)
      * v (ix3 j (⟨l.val / 640, by omega⟩ : Fin 4) (⟨l.val % 128, by omega⟩ : Fin 128)) := by
  pointwise [mix]

/-- The reference computes the function of Spec.lean. -/
theorem result_eq (x : Spec.Rows) (hx : ∀ i, a i = (x i : EReal)) : result a = fun i => (Spec.attn x (i 0) (i 1) : EReal) := by
  funext i
  obtain ⟨t, l, rfl⟩ : ∃ t l, i = ix2 t l := ⟨i 0, i 1, by pointwise⟩
  show result a (ix2 t l) = (Spec.attn x t l : EReal)
  unfold result probs
  rw [mix_eq]
  simp only [quot_eq, total_eq, expd_eq, top_eq, values_eq, hx]
  refine Eq.trans ?_ (Row.reference_row (fun j : Fin 16384 => j.val ≤ t.val ∧ t.val < j.val + 512) ⟨t, by omega⟩ (Spec.score x t l) (Spec.value x l)
    (fun j => scores a (ix4 (⟨l.val / 640, by omega⟩ : Fin 4) t (⟨l.val / 128 % 5, by omega⟩ : Fin 5) j)) (fun j => if j.val ≤ t.val ∧ t.val < j.val + 512 then 1 else 0) ?_ fun c => rfl)
  · rfl
  · intro j
    rw [scores_eq, raw_eq]
    refine if_congr Iff.rfl (congrArg (· * _) ?_) rfl
    unfold Spec.score
    rw [← Row.sum_coe]
    refine Finset.sum_congr rfl fun d _ => ?_
    rw [queries_eq, keys_eq, hx, hx, EReal.coe_mul]
    have e : l.val / 640 * 640 + l.val / 128 % 5 * 128 + d.val = l.val / 128 * 128 + d.val := by omega
    simp only [e]

end Cert.ReferenceIdeal.Stage

end
-- ==== Proof.Window.lean ====
/-
  THE CLAIMS OF THE WINDOWED ATTENTION. On arguments every entry of which is a real number, the kernel's result and the
  reference's are one function of the argument (Spec.lean).
-/
module

public import proofs.«01_k».proof.Defs
public import proofs.«01_k».proof.Proof.Gen.Kernel.Frame
public import proofs.«01_k».proof.Proof.Gen.KernelIdeal.Frame
public import proofs.«01_k».proof.Proof.Gen.Pre_finite
public import proofs.«01_k».proof.Proof.Block
public import proofs.«01_k».proof.Proof.Ref
public import Idealize.ShloMosaic.Lib.ReduceAll
public import Idealize.ShloMosaic.Lib.Quiescent

@[expose] public section

noncomputable section

namespace Cert.Proof.Window

open Idealize.ShloMosaic Idealize.ShloMosaic.TcCoe Idealize.SL.Sem

/-- Under the precondition every entry is a real number. -/
theorem real_of_pre (a : FVec Ideal Cert.Pre_finite.S16384x10752 .bf16) (h : Cert.Pre_finite.fn (F := Ideal) a = fun _ => 1#1) :
    ∃ x : Spec.Rows, ∀ i, a i = (x i : EReal) := by
  suffices ∀ i, ∃ r : ℝ, a i = (r : EReal) by choose x hx using this; exact ⟨x, hx⟩
  intro i
  have h0 := congrFun h ix0
  dsimp only [Cert.Pre_finite.fn] at h0
  have h1 := Host.reduce_andi_all _ _ _ _ _ h0 i
  have e : Ideal.ofBits FTy.f32 0x7F800000#32 = ⊤ := by simp [Ideal.ofBits, Ideal.ieee]
  revert h1
  pointwise
  rw [e]
  intro h2
  have h3 : max (a i : EReal) (-(a i)) < ⊤ := by
    by_contra hn
    rw [show decide (FloatOps.absf (F := Ideal) (φ := .f32) (a i) < (⊤ : EReal)) = false from decide_eq_false hn] at h2
    exact absurd h2 (by decide)
  generalize (a i : EReal) = v at h3 ⊢
  match v, h3 with
  | ⊥, h3 => simp at h3
  | ⊤, h3 => simp at h3
  | (r : ℝ), _ => exact ⟨r, rfl⟩

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_finite := fun m ρ _ => Cert.KernelIdeal.Gen.frame m ρ
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_ri_pre : Cert.quiescent_ReferenceIdeal_pre_finite := fun m ρ _ => frame_ri m ρ trivial

/-- The mask's fill is the table's `-∞`. -/
theorem preserves : Cert.preserves_Kernel_KernelIdeal :=
  IdealRules.named_const.statement Cert.KernelIdeal.κ "mask" .f32 0xF149F2CA#32 ⊥ rfl

theorem algebraic : Cert.algebraic_KernelIdeal_ReferenceIdeal_pre_finite := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨x, hx⟩ := real_of_pre _ (hpre c)
  rw [Cert.ReferenceIdeal.Stage.res_eq, hagree c]
  exact (Cert.ReferenceIdeal.Stage.result_eq _ x hx).trans (Cert.KernelIdeal.Block.final m c x hx).symm

end Cert.Proof.Window

end
-- ==== Proof.Routed.lean ====
/-
  WHAT THE PRECONDITION `routed` SAYS of the two tables: every tile's expert is one of the 32, and between one and all of
  the 288 tiles are in use.
-/
module

public import proofs.«01_k».proof.Defs
public import proofs.«01_k».proof.Proof.Gen.Pre_routed
public import Idealize.ShloMosaic.Lib.ReduceAll
public import Idealize.ShloMosaic.Lib.Affine
public import Idealize.ShloMosaic.Lib.Pointwise

@[expose] public section

noncomputable section

namespace Cert.Routed

open Idealize.ShloMosaic Idealize.ShloMosaic.TcCoe Cert.Pre_routed

variable {F : FTy → Type} [FloatOps F]

/-! ## Words -/

theorem toNat_eq {a : BitVec 32} (h : 0 ≤ a.toInt) : (a.toNat : Int) = a.toInt := by
  have := BitVec.toInt_eq_toNat_cond a
  split at this <;> omega

theorem toInt_ofNat {n : ℕ} (h : n < 288) : (BitVec.ofNat 32 n).toInt = (n : Int) := by
  rw [BitVec.toInt_eq_toNat_of_lt] <;> rw [BitVec.toNat_ofNat] <;> omega

/-- The block index of the rows. -/
theorem min_word {n : ℕ} (hn : n < 288) {u : BitVec 32} (h1 : 1 ≤ u.toInt) (h2 : u.toInt ≤ 288) :
    (Scalar.minsi (BitVec.ofNat 32 n) (Scalar.subi u 1#32)).toNat = min n (u.toNat - 1) := by
  have hu := toNat_eq (a := u) (by omega)
  have hs : (u - 1#32).toNat = u.toNat - 1 := by
    rw [BitVec.toNat_sub]
    have : (1#32).toNat = 1 := rfl
    rw [this]
    have := u.isLt
    omega
  have hi : (u - 1#32).toInt = ((u.toNat - 1 : ℕ) : Int) := by
    rw [BitVec.toInt_eq_toNat_of_lt] <;> rw [hs] <;> omega
  rw [Scalar.minsi, IntOp.minsi, Scalar.subi, IntOp.subi]
  by_cases hc : (BitVec.ofNat 32 n).slt (u - 1#32)
  · rw [if_pos hc]
    rw [BitVec.slt_iff_toInt_lt, hi, toInt_ofNat hn] at hc
    rw [BitVec.toNat_ofNat]
    omega
  · rw [if_neg hc]
    rw [BitVec.slt_iff_toInt_lt, hi, toInt_ofNat hn] at hc
    rw [hs]
    omega

/-- The test whether the tile is in use. -/
theorem slt_word {n : ℕ} (hn : n < 288) {u : BitVec 32} (h1 : 1 ≤ u.toInt) :
    (BitVec.ofNat 32 n).slt u = decide (n < u.toNat) := by
  have hu := toNat_eq (a := u) (by omega)
  rw [Bool.eq_iff_iff, BitVec.slt_iff_toInt_lt, toInt_ofNat hn, decide_eq_true_iff]
  omega

/-- The tables' words as integers. -/
structure Ok (eid : IVec S288 32) (nused : IVec S1 32) : Prop where
  eid_nonneg : ∀ i, 0 ≤ (eid i).toInt
  eid_lt : ∀ i, (eid i).toInt < 32
  used_pos : ∀ i, 1 ≤ (nused i).toInt
  used_le : ∀ i, (nused i).toInt ≤ 288

theorem ok_of_pre (x : FVec F S73728x4096 .f32) (eid : IVec S288 32) (nused : IVec S1 32) (w : FVec F S4x32x4096x768 .bf16)
    (b : FVec F S4x32x1x768 .f32) (v : FVec F S4x32x384x4096 .bf16) (d : FVec F S4x32x1x4096 .f32)
    (h : Cert.Pre_routed.fn (F := F) x eid nused w b v d = fun _ => 1#1) : Ok eid nused := by
  have h0 := congrFun h ix0
  dsimp only [Cert.Pre_routed.fn] at h0
  have h1 := IntOp.andi_eq_one.1 h0
  have e : ∀ i, 0 ≤ (eid i).toInt ∧ (eid i).toInt < 32 := fun i => by
    have h2 := IntOp.andi_eq_one.1 (Host.reduce_andi_all _ _ _ _ _ h1.1 i)
    have h3 := IntOp.cmpi_sge.1 h2.1
    have h4 := IntOp.cmpi_slt.1 h2.2
    revert h3 h4
    pointwise
    intro h3 h4
    exact ⟨h3, h4⟩
  have u : ∀ i, 1 ≤ (nused i).toInt ∧ (nused i).toInt ≤ 288 := fun i => by
    have h2 := IntOp.andi_eq_one.1 (Host.reduce_andi_all _ _ _ _ _ h1.2 i)
    have h3 := IntOp.cmpi_sge.1 h2.1
    have h4 := IntOp.cmpi_sle.1 h2.2
    revert h3 h4
    pointwise
    intro h3 h4
    exact ⟨h3, h4⟩
  exact ⟨fun i => (e i).1, fun i => (e i).2, fun i => (u i).1, fun i => (u i).2⟩

end Cert.Routed

end
-- ==== Proof.ExpertsIdealBody.lean ====
/-
  THE EXPERTS' BODY, RUN. The body has two ways through a point of the grid: a tile that is in use is multiplied by its
  expert's weights (path A), a tile past the last used one is filled with zeros (path B). Each is run once here on
  arbitrary whole staging buffers and arbitrary table contents, of the idealized program.
-/
module

public import proofs.«01_k».proof.Proof.Gen.ExpertsIdeal.Skeleton
public import proofs.«01_k».proof.Proof.Gen.ExpertsIdeal.Launch
public import Idealize.ShloMosaic.Lib.Tactic
public import Idealize.ShloMosaic.Lib.Ring
public import Idealize.ShloMosaic.Lib.Pipeline.TableIdle
public import Idealize.ShloMosaic.Lib.Pipeline.FrameBody
public import Idealize.ShloMosaic.Lib.Pipeline.Frame
public import Idealize.ShloMosaic.Lib.Pipeline.ValueKit

@[expose] public section

set_option Elab.async false

noncomputable section

namespace Cert.ExpertsIdeal.Gen

open Cert.ExpertsIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The two tables as the body is handed them. -/
abbrev tbM_0 : Memref sig .tc .smem S288 .i32 := Memref.whole main_arg1
abbrev tbM_1 : Memref sig .tc .smem S1 .i32 := Memref.whole main_arg2

/-- One staging buffer of the output, through which its contents are stated. -/
abbrev VO0_6 : View sig .tc .vmem S256x4096 .f32 := (Memref.whole cc0_stg6_0 : Memref sig .tc .vmem S256x4096 .f32).view

set_option backward.proofsInPublic true in
set_option maxHeartbeats 8000000 in
/-- PATH A: the tile is in use. What the body leaves in the output's staging buffer, with the proof that, holding its inputs at their blocks
    and its halves of the tables, it runs and leaves that. -/
noncomputable def kernelRun0_A (c : Dev nD) (i : grid0.Coords) (arg3 : Memref sig .tc .vmem S256x4096 .f32) (harg3 : arg3.IsWhole) (arg4 : Memref sig .tc .vmem S1x1x4096x768 .bf16) (harg4 : arg4.IsWhole) (arg5 : Memref sig .tc .vmem S1x1x1x768 .f32) (harg5 : arg5.IsWhole) (arg6 : Memref sig .tc .vmem S1x1x384x4096 .bf16) (harg6 : arg6.IsWhole) (arg7 : Memref sig .tc .vmem S1x1x1x4096 .f32) (harg7 : arg7.IsWhole) (arg8 : Memref sig .tc .vmem S768x384 .bf16) (harg8 : arg8.IsWhole) (arg9 : Memref sig .tc .vmem S256x4096 .f32) (harg9 : arg9.IsWhole) (T0 : S288.Idx → Elt F .i32) (T1 : S1.Idx → Elt F .i32)
    (x0 : S256x4096.Idx → Elt F .f32) (x1 : S1x1x4096x768.Idx → Elt F .bf16) (x2 : S1x1x1x768.Idx → Elt F .f32) (x3 : S1x1x384x4096.Idx → Elt F .bf16) (x4 : S1x1x1x4096.Idx → Elt F .f32) (x5 : S768x384.Idx → Elt F .bf16) (k0_h1 : k0_cond1 i (View.readAt (Elt F) (tbM_1).view (Rect.unit (s := S1) ![0] S1.size inb_S1_S1_0).toLoadRect T1 (Shape.Idx.first (numel1_S1.symm ▸ Nat.one_pos))) = 1#1) (k0_h2 : ¬(k0_cond2 i (View.readAt (Elt F) (tbM_1).view (Rect.unit (s := S1) ![0] S1.size inb_S1_S1_0).toLoadRect T1 (Shape.Idx.first (numel1_S1.symm ▸ Nat.one_pos))) = 1#1)) :
    { out0 : List (View.Piece (Elt F) S256x4096 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (arg8.view.loc (c : Thread nD τ) ↦[arg8.view.set]{fullShare} arg8.view.rep x5)
          ∗ (tbM_0.view.loc (c : Thread nD τ) ↦{fullShare.right} T0)
          ∗ (tbM_1.view.loc (c : Thread nD τ) ↦{fullShare.right} T1)
          ∗ (∃ d, owns (c : Thread nD τ) arg9 fullShare d)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (arg8.view.loc (c : Thread nD τ) ↦[arg8.view.set]{fullShare} arg8.view.rep x5)
          ∗ (tbM_0.view.loc (c : Thread nD τ) ↦{fullShare.right} T0)
          ∗ (tbM_1.view.loc (c : Thread nD τ) ↦{fullShare.right} T1)
              ∗ (∃ f, arg9.view.loc (c : Thread nD τ) ↦[arg9.view.set]{fullShare} arg9.view.writes (Elt F) f out0)) -∗ K ⟨⟩))
          ⊢ wp frame (wpE (defs₀ (F := F)) Variants.none c none) Set.univ (cc0_moe_experts i tbM_0 (Memref.isWhole_whole _) tbM_1 (Memref.isWhole_whole _) arg3 harg3 arg4 harg4 arg5 harg5 arg6 harg6 arg7 harg7 arg8 harg8 arg9 harg9) K } :=
  ⟨_, fun K => by
    unfold owns
    rw [cc0_moe_experts_eq_skeleton]; unfold cc0_moe_experts_skel
    iintro ⟨H0, H1, H2, H3, H4, H5, HT0, HT1, ⟨%d6, %f6, -, HO6⟩, Hk⟩
    have hT0 : tbM_0.IsWhole := Memref.isWhole_whole _
    have hT1 : tbM_1.IsWhole := Memref.isWhole_whole _
    sl_exec! (disch := first | (guard_target = k0_cond1 _ _ = _; exact k0_h1) | (guard_target = ¬(k0_cond2 _ _ = _); exact k0_h2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    iexists _; iexact HO6⟩

/-- Its one store covers the block. -/
theorem cover0_A_6 (c : Dev nD) (i : grid0.Coords) (arg3 : Memref sig .tc .vmem S256x4096 .f32) (harg3 : arg3.IsWhole) (arg4 : Memref sig .tc .vmem S1x1x4096x768 .bf16) (harg4 : arg4.IsWhole) (arg5 : Memref sig .tc .vmem S1x1x1x768 .f32) (harg5 : arg5.IsWhole) (arg6 : Memref sig .tc .vmem S1x1x384x4096 .bf16) (harg6 : arg6.IsWhole) (arg7 : Memref sig .tc .vmem S1x1x1x4096 .f32) (harg7 : arg7.IsWhole) (arg8 : Memref sig .tc .vmem S768x384 .bf16) (harg8 : arg8.IsWhole) (arg9 : Memref sig .tc .vmem S256x4096 .f32) (harg9 : arg9.IsWhole) (T0 : S288.Idx → Elt F .i32) (T1 : S1.Idx → Elt F .i32)
    (x0 : S256x4096.Idx → Elt F .f32) (x1 : S1x1x4096x768.Idx → Elt F .bf16) (x2 : S1x1x1x768.Idx → Elt F .f32) (x3 : S1x1x384x4096.Idx → Elt F .bf16) (x4 : S1x1x1x4096.Idx → Elt F .f32) (x5 : S768x384.Idx → Elt F .bf16) (k0_h1 : k0_cond1 i (View.readAt (Elt F) (tbM_1).view (Rect.unit (s := S1) ![0] S1.size inb_S1_S1_0).toLoadRect T1 (Shape.Idx.first (numel1_S1.symm ▸ Nat.one_pos))) = 1#1) (k0_h2 : ¬(k0_cond2 i (View.readAt (Elt F) (tbM_1).view (Rect.unit (s := S1) ![0] S1.size inb_S1_S1_0).toLoadRect T1 (Shape.Idx.first (numel1_S1.symm ▸ Nat.one_pos))) = 1#1)) (y : S256x4096.Idx) :
    ∃ pc ∈ (kernelRun0_A c i arg3 harg3 arg4 harg4 arg5 harg5 arg6 harg6 arg7 harg7 arg8 harg8 arg9 harg9 T0 T1 x0 x1 x2 x3 x4 x5 k0_h1 k0_h2).1, y ∈ pc.1.set :=
  View.cover_of_tiledL (kernelRun0_A c i arg3 harg3 arg4 harg4 arg5 harg5 arg6 harg6 arg7 harg7 arg8 harg8 arg9 harg9 T0 T1 x0 x1 x2 x3 x4 x5 k0_h1 k0_h2).1 S256x4096.size (by sl_kernel_rfl) y

/-- What the block then holds. -/
noncomputable def out0_A_6 (c : Dev nD) (i : grid0.Coords) (arg3 : Memref sig .tc .vmem S256x4096 .f32) (harg3 : arg3.IsWhole) (arg4 : Memref sig .tc .vmem S1x1x4096x768 .bf16) (harg4 : arg4.IsWhole) (arg5 : Memref sig .tc .vmem S1x1x1x768 .f32) (harg5 : arg5.IsWhole) (arg6 : Memref sig .tc .vmem S1x1x384x4096 .bf16) (harg6 : arg6.IsWhole) (arg7 : Memref sig .tc .vmem S1x1x1x4096 .f32) (harg7 : arg7.IsWhole) (arg8 : Memref sig .tc .vmem S768x384 .bf16) (harg8 : arg8.IsWhole) (arg9 : Memref sig .tc .vmem S256x4096 .f32) (harg9 : arg9.IsWhole) (T0 : S288.Idx → Elt F .i32) (T1 : S1.Idx → Elt F .i32)
    (x0 : S256x4096.Idx → Elt F .f32) (x1 : S1x1x4096x768.Idx → Elt F .bf16) (x2 : S1x1x1x768.Idx → Elt F .f32) (x3 : S1x1x384x4096.Idx → Elt F .bf16) (x4 : S1x1x1x4096.Idx → Elt F .f32) (x5 : S768x384.Idx → Elt F .bf16) (k0_h1 : k0_cond1 i (View.readAt (Elt F) (tbM_1).view (Rect.unit (s := S1) ![0] S1.size inb_S1_S1_0).toLoadRect T1 (Shape.Idx.first (numel1_S1.symm ▸ Nat.one_pos))) = 1#1) (k0_h2 : ¬(k0_cond2 i (View.readAt (Elt F) (tbM_1).view (Rect.unit (s := S1) ![0] S1.size inb_S1_S1_0).toLoadRect T1 (Shape.Idx.first (numel1_S1.symm ▸ Nat.one_pos))) = 1#1)) : S256x4096.Idx → Elt F .f32 :=
  VO0_6.read (Elt F) (VO0_6.writes (Elt F) VO0_6.junk (kernelRun0_A c i arg3 harg3 arg4 harg4 arg5 harg5 arg6 harg6 arg7 harg7 arg8 harg8 arg9 harg9 T0 T1 x0 x1 x2 x3 x4 x5 k0_h1 k0_h2).1)

set_option backward.proofsInPublic true in
set_option maxHeartbeats 8000000 in
/-- PATH B: the tile is not in use. What the body leaves in the output's staging buffer, with the proof that, holding its inputs at their blocks
    and its halves of the tables, it runs and leaves that. -/
noncomputable def kernelRun0_B (c : Dev nD) (i : grid0.Coords) (arg3 : Memref sig .tc .vmem S256x4096 .f32) (harg3 : arg3.IsWhole) (arg4 : Memref sig .tc .vmem S1x1x4096x768 .bf16) (harg4 : arg4.IsWhole) (arg5 : Memref sig .tc .vmem S1x1x1x768 .f32) (harg5 : arg5.IsWhole) (arg6 : Memref sig .tc .vmem S1x1x384x4096 .bf16) (harg6 : arg6.IsWhole) (arg7 : Memref sig .tc .vmem S1x1x1x4096 .f32) (harg7 : arg7.IsWhole) (arg8 : Memref sig .tc .vmem S768x384 .bf16) (harg8 : arg8.IsWhole) (arg9 : Memref sig .tc .vmem S256x4096 .f32) (harg9 : arg9.IsWhole) (T0 : S288.Idx → Elt F .i32) (T1 : S1.Idx → Elt F .i32)
    (x0 : S256x4096.Idx → Elt F .f32) (x1 : S1x1x4096x768.Idx → Elt F .bf16) (x2 : S1x1x1x768.Idx → Elt F .f32) (x3 : S1x1x384x4096.Idx → Elt F .bf16) (x4 : S1x1x1x4096.Idx → Elt F .f32) (x5 : S768x384.Idx → Elt F .bf16) (k0_h1 : ¬(k0_cond1 i (View.readAt (Elt F) (tbM_1).view (Rect.unit (s := S1) ![0] S1.size inb_S1_S1_0).toLoadRect T1 (Shape.Idx.first (numel1_S1.symm ▸ Nat.one_pos))) = 1#1)) (k0_h2 : k0_cond2 i (View.readAt (Elt F) (tbM_1).view (Rect.unit (s := S1) ![0] S1.size inb_S1_S1_0).toLoadRect T1 (Shape.Idx.first (numel1_S1.symm ▸ Nat.one_pos))) = 1#1) :
    { out0 : List (View.Piece (Elt F) S256x4096 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (arg8.view.loc (c : Thread nD τ) ↦[arg8.view.set]{fullShare} arg8.view.rep x5)
          ∗ (tbM_0.view.loc (c : Thread nD τ) ↦{fullShare.right} T0)
          ∗ (tbM_1.view.loc (c : Thread nD τ) ↦{fullShare.right} T1)
          ∗ (∃ d, owns (c : Thread nD τ) arg9 fullShare d)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (arg8.view.loc (c : Thread nD τ) ↦[arg8.view.set]{fullShare} arg8.view.rep x5)
          ∗ (tbM_0.view.loc (c : Thread nD τ) ↦{fullShare.right} T0)
          ∗ (tbM_1.view.loc (c : Thread nD τ) ↦{fullShare.right} T1)
              ∗ (∃ f, arg9.view.loc (c : Thread nD τ) ↦[arg9.view.set]{fullShare} arg9.view.writes (Elt F) f out0)) -∗ K ⟨⟩))
          ⊢ wp frame (wpE (defs₀ (F := F)) Variants.none c none) Set.univ (cc0_moe_experts i tbM_0 (Memref.isWhole_whole _) tbM_1 (Memref.isWhole_whole _) arg3 harg3 arg4 harg4 arg5 harg5 arg6 harg6 arg7 harg7 arg8 harg8 arg9 harg9) K } :=
  ⟨_, fun K => by
    unfold owns
    rw [cc0_moe_experts_eq_skeleton]; unfold cc0_moe_experts_skel
    iintro ⟨H0, H1, H2, H3, H4, H5, HT0, HT1, ⟨%d6, %f6, -, HO6⟩, Hk⟩
    have hT0 : tbM_0.IsWhole := Memref.isWhole_whole _
    have hT1 : tbM_1.IsWhole := Memref.isWhole_whole _
    sl_exec! (disch := first | (guard_target = ¬(k0_cond1 _ _ = _); exact k0_h1) | (guard_target = k0_cond2 _ _ = _; exact k0_h2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    iexists _; iexact HO6⟩

/-- Its one store covers the block. -/
theorem cover0_B_6 (c : Dev nD) (i : grid0.Coords) (arg3 : Memref sig .tc .vmem S256x4096 .f32) (harg3 : arg3.IsWhole) (arg4 : Memref sig .tc .vmem S1x1x4096x768 .bf16) (harg4 : arg4.IsWhole) (arg5 : Memref sig .tc .vmem S1x1x1x768 .f32) (harg5 : arg5.IsWhole) (arg6 : Memref sig .tc .vmem S1x1x384x4096 .bf16) (harg6 : arg6.IsWhole) (arg7 : Memref sig .tc .vmem S1x1x1x4096 .f32) (harg7 : arg7.IsWhole) (arg8 : Memref sig .tc .vmem S768x384 .bf16) (harg8 : arg8.IsWhole) (arg9 : Memref sig .tc .vmem S256x4096 .f32) (harg9 : arg9.IsWhole) (T0 : S288.Idx → Elt F .i32) (T1 : S1.Idx → Elt F .i32)
    (x0 : S256x4096.Idx → Elt F .f32) (x1 : S1x1x4096x768.Idx → Elt F .bf16) (x2 : S1x1x1x768.Idx → Elt F .f32) (x3 : S1x1x384x4096.Idx → Elt F .bf16) (x4 : S1x1x1x4096.Idx → Elt F .f32) (x5 : S768x384.Idx → Elt F .bf16) (k0_h1 : ¬(k0_cond1 i (View.readAt (Elt F) (tbM_1).view (Rect.unit (s := S1) ![0] S1.size inb_S1_S1_0).toLoadRect T1 (Shape.Idx.first (numel1_S1.symm ▸ Nat.one_pos))) = 1#1)) (k0_h2 : k0_cond2 i (View.readAt (Elt F) (tbM_1).view (Rect.unit (s := S1) ![0] S1.size inb_S1_S1_0).toLoadRect T1 (Shape.Idx.first (numel1_S1.symm ▸ Nat.one_pos))) = 1#1) (y : S256x4096.Idx) :
    ∃ pc ∈ (kernelRun0_B c i arg3 harg3 arg4 harg4 arg5 harg5 arg6 harg6 arg7 harg7 arg8 harg8 arg9 harg9 T0 T1 x0 x1 x2 x3 x4 x5 k0_h1 k0_h2).1, y ∈ pc.1.set :=
  View.cover_of_tiledL (kernelRun0_B c i arg3 harg3 arg4 harg4 arg5 harg5 arg6 harg6 arg7 harg7 arg8 harg8 arg9 harg9 T0 T1 x0 x1 x2 x3 x4 x5 k0_h1 k0_h2).1 S256x4096.size (by sl_kernel_rfl) y

/-- What the block then holds. -/
noncomputable def out0_B_6 (c : Dev nD) (i : grid0.Coords) (arg3 : Memref sig .tc .vmem S256x4096 .f32) (harg3 : arg3.IsWhole) (arg4 : Memref sig .tc .vmem S1x1x4096x768 .bf16) (harg4 : arg4.IsWhole) (arg5 : Memref sig .tc .vmem S1x1x1x768 .f32) (harg5 : arg5.IsWhole) (arg6 : Memref sig .tc .vmem S1x1x384x4096 .bf16) (harg6 : arg6.IsWhole) (arg7 : Memref sig .tc .vmem S1x1x1x4096 .f32) (harg7 : arg7.IsWhole) (arg8 : Memref sig .tc .vmem S768x384 .bf16) (harg8 : arg8.IsWhole) (arg9 : Memref sig .tc .vmem S256x4096 .f32) (harg9 : arg9.IsWhole) (T0 : S288.Idx → Elt F .i32) (T1 : S1.Idx → Elt F .i32)
    (x0 : S256x4096.Idx → Elt F .f32) (x1 : S1x1x4096x768.Idx → Elt F .bf16) (x2 : S1x1x1x768.Idx → Elt F .f32) (x3 : S1x1x384x4096.Idx → Elt F .bf16) (x4 : S1x1x1x4096.Idx → Elt F .f32) (x5 : S768x384.Idx → Elt F .bf16) (k0_h1 : ¬(k0_cond1 i (View.readAt (Elt F) (tbM_1).view (Rect.unit (s := S1) ![0] S1.size inb_S1_S1_0).toLoadRect T1 (Shape.Idx.first (numel1_S1.symm ▸ Nat.one_pos))) = 1#1)) (k0_h2 : k0_cond2 i (View.readAt (Elt F) (tbM_1).view (Rect.unit (s := S1) ![0] S1.size inb_S1_S1_0).toLoadRect T1 (Shape.Idx.first (numel1_S1.symm ▸ Nat.one_pos))) = 1#1) : S256x4096.Idx → Elt F .f32 :=
  VO0_6.read (Elt F) (VO0_6.writes (Elt F) VO0_6.junk (kernelRun0_B c i arg3 harg3 arg4 harg4 arg5 harg5 arg6 harg6 arg7 harg7 arg8 harg8 arg9 harg9 T0 T1 x0 x1 x2 x3 x4 x5 k0_h1 k0_h2).1)

end Cert.ExpertsIdeal.Gen

end
-- ==== Proof.ExpertsIdealFrame.lean ====
/-
  THE EXPERTS' RUN, for ANY contents of the two tables that keep every block inside its array: no table entry is fixed
  here. The body obligation by the two ways through a point, then the launch: the host operations that build the
  0/1 matrix, then the grid.
-/
module

public import proofs.«01_k».proof.Proof.ExpertsIdealBody

@[expose] public section

set_option Elab.async false

noncomputable section

namespace Cert.ExpertsIdeal.Gen

open Cert.ExpertsIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The contents of the TensorCore's buffers when the grid starts. -/
abbrev Entry (F : FTy → Type) := (c : Dev nD) → (b : Ref sig .tc) → Buf (Elt F) ((c.tc : Thread nD τ).loc b)

variable (a : (pcfg0 (F := F)).Adm) (V : Entry F)

abbrev crd (t : Fin (cfg0 a).N) : grid0.Coords := (cfg0 a).grid.coords t
abbrev ms0_0 (t : Fin (cfg0 a).N) : Memref sig .tc .vmem S256x4096 .f32 := spec0_0.stage ((cfg0 a).slots t (0 : Fin 7))
theorem hs0_0 (t : Fin (cfg0 a).N) : (ms0_0 a t).IsWhole := hstage0_0 (((cfg0 a).slots t (0 : Fin 7)).cast nbuf0_0)
abbrev ms0_1 (t : Fin (cfg0 a).N) : Memref sig .tc .vmem S1x1x4096x768 .bf16 := spec0_1.stage ((cfg0 a).slots t (1 : Fin 7))
theorem hs0_1 (t : Fin (cfg0 a).N) : (ms0_1 a t).IsWhole := hstage0_1 (((cfg0 a).slots t (1 : Fin 7)).cast nbuf0_1)
abbrev ms0_2 (t : Fin (cfg0 a).N) : Memref sig .tc .vmem S1x1x1x768 .f32 := spec0_2.stage ((cfg0 a).slots t (2 : Fin 7))
theorem hs0_2 (t : Fin (cfg0 a).N) : (ms0_2 a t).IsWhole := hstage0_2 (((cfg0 a).slots t (2 : Fin 7)).cast nbuf0_2)
abbrev ms0_3 (t : Fin (cfg0 a).N) : Memref sig .tc .vmem S1x1x384x4096 .bf16 := spec0_3.stage ((cfg0 a).slots t (3 : Fin 7))
theorem hs0_3 (t : Fin (cfg0 a).N) : (ms0_3 a t).IsWhole := hstage0_3 (((cfg0 a).slots t (3 : Fin 7)).cast nbuf0_3)
abbrev ms0_4 (t : Fin (cfg0 a).N) : Memref sig .tc .vmem S1x1x1x4096 .f32 := spec0_4.stage ((cfg0 a).slots t (4 : Fin 7))
theorem hs0_4 (t : Fin (cfg0 a).N) : (ms0_4 a t).IsWhole := hstage0_4 (((cfg0 a).slots t (4 : Fin 7)).cast nbuf0_4)
abbrev ms0_5 (t : Fin (cfg0 a).N) : Memref sig .tc .vmem S768x384 .bf16 := spec0_5.stage ((cfg0 a).slots t (5 : Fin 7))
theorem hs0_5 (t : Fin (cfg0 a).N) : (ms0_5 a t).IsWhole := hstage0_5 (((cfg0 a).slots t (5 : Fin 7)).cast nbuf0_5)
abbrev ms0_6 (t : Fin (cfg0 a).N) : Memref sig .tc .vmem S256x4096 .f32 := spec0_6.stage ((cfg0 a).slots t (6 : Fin 7))
theorem hs0_6 (t : Fin (cfg0 a).N) : (ms0_6 a t).IsWhole := hstage0_6 (((cfg0 a).slots t (6 : Fin 7)).cast nbuf0_6)

/-- Window `w`'s block at point `t`, read off its array at entry. -/
def iblk (c : Dev nD) (w : Fin (cfg0 a).W) (t : Fin (cfg0 a).N) :
    (((cfg0 a).win w).xblock (crd a t)).Idx → Elt F ((cfg0 a).win w).elt :=
  (((cfg0 a).win w).blk t).view.read (Elt F) (V c (Pipeline.arrRef (cfg0 a).spec w))

/-- The word the body compares its tile with: the number of tiles in use. -/
abbrev word : BitVec 32 := View.readAt (Elt F) (tbM_1).view (Rect.unit (s := S1) ![0] S1.size inb_S1_S1_0).toLoadRect (a.1 1) (Shape.Idx.first (numel1_S1.symm ▸ Nat.one_pos))

/-- The two tests are each other's negation. -/
theorem cond2_iff (i : grid0.Coords) (w : BitVec 32) : k0_cond2 i w = 1#1 ↔ ¬ (k0_cond1 i w = 1#1) := by
  unfold k0_cond1 k0_cond2
  simp only [Scalar.cmpi, Scalar.extui, IntOp.cmpi]
  by_cases h : (BitVec.ofNat 32 (i 0).val).slt w
  · simp [h, BitVec.sle_eq_not_slt]
  · simp [h, BitVec.sle_eq_not_slt]

theorem not_cond2 (i : grid0.Coords) (w : BitVec 32) (h : k0_cond1 i w = 1#1) : ¬ (k0_cond2 i w = 1#1) :=
  fun h2 => (cond2_iff i w).1 h2 h

/-- What the output's block holds after point `t`. -/
def outAt (c : Dev nD) (t : Fin (cfg0 a).N) : S256x4096.Idx → Elt F .f32 :=
  if h : k0_cond1 (crd a t) (word a) = 1#1 then
    out0_A_6 c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (a.1 0) (a.1 1) (iblk a V c (0 : Fin 7) t) (iblk a V c (1 : Fin 7) t) (iblk a V c (2 : Fin 7) t) (iblk a V c (3 : Fin 7) t) (iblk a V c (4 : Fin 7) t) (iblk a V c (5 : Fin 7) t) h (not_cond2 _ _ h)
  else
    out0_B_6 c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (a.1 0) (a.1 1) (iblk a V c (0 : Fin 7) t) (iblk a V c (1 : Fin 7) t) (iblk a V c (2 : Fin 7) t) (iblk a V c (3 : Fin 7) t) (iblk a V c (4 : Fin 7) t) (iblk a V c (5 : Fin 7) t) h ((cond2_iff _ _).2 h)

theorem word_eq : (a.1.atD 1 ![0] : BitVec 32) = word a := by
  first | rfl | (simp [word, Pipeline.Prefetch.Contents.atD, View.readAt]; done)

/-- No point leaves the output untouched. -/
theorem idle_6 (i : grid0.Coords) : (cfg0 a).idle (6 : Fin 7) i = false := by
  show (!(k0_cond1 i (a.1.atD 1 ![0]) == 1#1) && !(k0_cond2 i (a.1.atD 1 ![0]) == 1#1)) = false
  by_cases h : k0_cond1 i (a.1.atD 1 ![0]) = 1#1
  · simp [h]
  · simp [h, (cond2_iff _ _).2 h]

/-- The pipeline's proof data. -/
def dats (_ : Fin 1) (c : Dev nD) : Dat τ (Elt F) Unit ℕ (UR sig nD τ) ℕ (cfg0 a) c where
  A w := V c (Pipeline.arrRef (cfg0 a).spec w)
  after w t := match w with
    | ⟨0, _⟩ => iblk a V c (0 : Fin 7) t
    | ⟨1, _⟩ => iblk a V c (1 : Fin 7) t
    | ⟨2, _⟩ => iblk a V c (2 : Fin 7) t
    | ⟨3, _⟩ => iblk a V c (3 : Fin 7) t
    | ⟨4, _⟩ => iblk a V c (4 : Fin 7) t
    | ⟨5, _⟩ => iblk a V c (5 : Fin 7) t
    | ⟨6, _⟩ => outAt a V c t
  Φ _ := iprop(Pipeline.ΦA (cfg0 a).spec c ∗ Pipeline.ΦT pre0 a.1 c)
  q _ := fullShare
  owed _ := 0
theorem after0_0 (c : Dev nD) (t : Fin (cfg0 a).N) : (dats a V 0 c).after (0 : Fin 7) t = iblk a V c (0 : Fin 7) t := rfl
theorem after0_1 (c : Dev nD) (t : Fin (cfg0 a).N) : (dats a V 0 c).after (1 : Fin 7) t = iblk a V c (1 : Fin 7) t := rfl
theorem after0_2 (c : Dev nD) (t : Fin (cfg0 a).N) : (dats a V 0 c).after (2 : Fin 7) t = iblk a V c (2 : Fin 7) t := rfl
theorem after0_3 (c : Dev nD) (t : Fin (cfg0 a).N) : (dats a V 0 c).after (3 : Fin 7) t = iblk a V c (3 : Fin 7) t := rfl
theorem after0_4 (c : Dev nD) (t : Fin (cfg0 a).N) : (dats a V 0 c).after (4 : Fin 7) t = iblk a V c (4 : Fin 7) t := rfl
theorem after0_5 (c : Dev nD) (t : Fin (cfg0 a).N) : (dats a V 0 c).after (5 : Fin 7) t = iblk a V c (5 : Fin 7) t := rfl
theorem after0_6 (c : Dev nD) (t : Fin (cfg0 a).N) : (dats a V 0 c).after (6 : Fin 7) t = outAt a V c t := rfl

theorem before0_0 (c : Dev nD) (t : Fin (cfg0 a).N) (d) : (dats a V 0 c).before (0 : Fin 7) t d = iblk a V c (0 : Fin 7) t :=
  ((dats a V 0 c).before_in_eq_fetched (0 : Fin 7) rfl (fun _ => rfl) (fun _ _ _ => rfl) (fun t => by rw [after0_0]; unfold Dat.blockOf iblk; rfl) t d).trans
    (by unfold Dat.fetched Dat.blockOf iblk; rfl)
theorem before0_1 (c : Dev nD) (t : Fin (cfg0 a).N) (d) : (dats a V 0 c).before (1 : Fin 7) t d = iblk a V c (1 : Fin 7) t :=
  ((dats a V 0 c).before_in_eq_fetched (1 : Fin 7) rfl (fun _ => rfl) (fun _ _ _ => rfl) (fun t => by rw [after0_1]; unfold Dat.blockOf iblk; rfl) t d).trans
    (by unfold Dat.fetched Dat.blockOf iblk; rfl)
theorem before0_2 (c : Dev nD) (t : Fin (cfg0 a).N) (d) : (dats a V 0 c).before (2 : Fin 7) t d = iblk a V c (2 : Fin 7) t :=
  ((dats a V 0 c).before_in_eq_fetched (2 : Fin 7) rfl (fun _ => rfl) (fun _ _ _ => rfl) (fun t => by rw [after0_2]; unfold Dat.blockOf iblk; rfl) t d).trans
    (by unfold Dat.fetched Dat.blockOf iblk; rfl)
theorem before0_3 (c : Dev nD) (t : Fin (cfg0 a).N) (d) : (dats a V 0 c).before (3 : Fin 7) t d = iblk a V c (3 : Fin 7) t :=
  ((dats a V 0 c).before_in_eq_fetched (3 : Fin 7) rfl (fun _ => rfl) (fun _ _ _ => rfl) (fun t => by rw [after0_3]; unfold Dat.blockOf iblk; rfl) t d).trans
    (by unfold Dat.fetched Dat.blockOf iblk; rfl)
theorem before0_4 (c : Dev nD) (t : Fin (cfg0 a).N) (d) : (dats a V 0 c).before (4 : Fin 7) t d = iblk a V c (4 : Fin 7) t :=
  ((dats a V 0 c).before_in_eq_fetched (4 : Fin 7) rfl (fun _ => rfl) (fun _ _ _ => rfl) (fun t => by rw [after0_4]; unfold Dat.blockOf iblk; rfl) t d).trans
    (by unfold Dat.fetched Dat.blockOf iblk; rfl)
theorem before0_5 (c : Dev nD) (t : Fin (cfg0 a).N) (d) : (dats a V 0 c).before (5 : Fin 7) t d = iblk a V c (5 : Fin 7) t :=
  ((dats a V 0 c).before_in_eq_fetched (5 : Fin 7) rfl (fun _ => rfl) (fun _ _ _ => rfl) (fun t => by rw [after0_5]; unfold Dat.blockOf iblk; rfl) t d).trans
    (by unfold Dat.fetched Dat.blockOf iblk; rfl)

/-- The tables one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- The body at point `t` on its staging buffers. -/
abbrev bodyAt0 (t : Fin (cfg0 a).N) : Prog (TpuEff nD τ sig (Elt F) Λ₀ .tc) PUnit :=
  cc0_moe_experts (crd a t) tbM_0 (Memref.isWhole_whole _) tbM_1 (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t)

set_option maxHeartbeats 4000000 in
/-- The body obligation at point `t`: which way the point goes is told by its first test. -/
theorem sound_body (c : Dev nD) (t : Fin (cfg0 a).N) :
    iprop((dats a V 0 c).Φ t.castSucc ∗ (dats a V 0 c).owesAt () t.castSucc
        ∗ (∃ d, owns (c : Thread nD τ) (ms0_0 a t) fullShare ((dats a V 0 c).before (0 : Fin 7) t d))
        ∗ (∃ d, owns (c : Thread nD τ) (ms0_1 a t) fullShare ((dats a V 0 c).before (1 : Fin 7) t d))
        ∗ (∃ d, owns (c : Thread nD τ) (ms0_2 a t) fullShare ((dats a V 0 c).before (2 : Fin 7) t d))
        ∗ (∃ d, owns (c : Thread nD τ) (ms0_3 a t) fullShare ((dats a V 0 c).before (3 : Fin 7) t d))
        ∗ (∃ d, owns (c : Thread nD τ) (ms0_4 a t) fullShare ((dats a V 0 c).before (4 : Fin 7) t d))
        ∗ (∃ d, owns (c : Thread nD τ) (ms0_5 a t) fullShare ((dats a V 0 c).before (5 : Fin 7) t d))
        ∗ (∃ d, owns (c : Thread nD τ) (ms0_6 a t) fullShare ((dats a V 0 c).before (6 : Fin 7) t d)))
      ⊢ wp frame (wpE (defs₀ (F := F)) Variants.none c none) Set.univ (bodyAt0 a t) fun _ =>
          iprop((dats a V 0 c).Φ t.succ ∗ (dats a V 0 c).owesAt () t.succ
            ∗ bigSep Finset.univ fun w : Fin (cfg0 a).W =>
                match (cfg0 a).idle w ((cfg0 a).grid.coords t) with
                | true =>
                  match ((cfg0 a).win w).flush t with
                  | false => iprop(∃ d, owns (c : Thread nD τ) (((cfg0 a).win w).stage ((cfg0 a).slots t w)) fullShare ((dats a V 0 c).before w t d))
                  | true => owns (c : Thread nD τ) (((cfg0 a).win w).stage ((cfg0 a).slots t w)) fullShare ((dats a V 0 c).after w t)
                | false => owns (c : Thread nD τ) (((cfg0 a).win w).stage ((cfg0 a).slots t w)) fullShare ((dats a V 0 c).after w t)) := by
  rw [bigSep_W0]
  rewrite [idle_6 a]
  simp only [before0_0, before0_1, before0_2, before0_3, before0_4, before0_5, after0_0, after0_1, after0_2, after0_3, after0_4, after0_5, after0_6]
  rewrite [show (dats a V 0 c).Φ t.succ = iprop(Pipeline.ΦA (cfg0 a).spec c ∗ Pipeline.ΦT pre0 a.1 c) from rfl,
    show (dats a V 0 c).Φ t.castSucc = iprop(Pipeline.ΦA (cfg0 a).spec c ∗ Pipeline.ΦT pre0 a.1 c) from rfl,
    show (dats a V 0 c).owesAt () t.succ = (dats a V 0 c).owesAt () t.castSucc from rfl]
  rw [show (Pipeline.ΦT pre0 a.1 c : sProp 𝕄) = _ from prefHeld_eq c _ _]
  by_cases h : k0_cond1 (crd a t) (word a) = 1#1
  ·
    rw [show outAt a V c t = out0_A_6 c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (a.1 0) (a.1 1) (iblk a V c (0 : Fin 7) t) (iblk a V c (1 : Fin 7) t) (iblk a V c (2 : Fin 7) t) (iblk a V c (3 : Fin 7) t) (iblk a V c (4 : Fin 7) t) (iblk a V c (5 : Fin 7) t) h (not_cond2 _ _ h) from by unfold outAt; rw [dif_pos h]]
    iintro ⟨⟨HA, HT0, HT1⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (a.1 0) (a.1 1) (iblk a V c (0 : Fin 7) t) (iblk a V c (1 : Fin 7) t) (iblk a V c (2 : Fin 7) t) (iblk a V c (3 : Fin 7) t) (iblk a V c (4 : Fin 7) t) (iblk a V c (5 : Fin 7) t) h (not_cond2 _ _ h)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [HT0]; · iexact HT0
    isplitl [HT1]; · iexact HT1
    isplitl [H6]; · iexists _; iexact H6
    iintro ⟨H0, H1, H2, H3, H4, H5, HT0, HT1, ⟨%e6, H6⟩⟩
    isplitl [HA HT0 HT1]
    · isplitl [HA]
      · iexact HA
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    isplitl [H5]
    · iapply owns_of_rep; iexact H5
    unfold owns; iexists _; isplitr; swap
    · iexact H6
    · ipureintro; exact View.read_writes_of_cover _ _ _ _ _ (cover0_A_6 c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (a.1 0) (a.1 1) (iblk a V c (0 : Fin 7) t) (iblk a V c (1 : Fin 7) t) (iblk a V c (2 : Fin 7) t) (iblk a V c (3 : Fin 7) t) (iblk a V c (4 : Fin 7) t) (iblk a V c (5 : Fin 7) t) h (not_cond2 _ _ h))
  ·
    rw [show outAt a V c t = out0_B_6 c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (a.1 0) (a.1 1) (iblk a V c (0 : Fin 7) t) (iblk a V c (1 : Fin 7) t) (iblk a V c (2 : Fin 7) t) (iblk a V c (3 : Fin 7) t) (iblk a V c (4 : Fin 7) t) (iblk a V c (5 : Fin 7) t) h ((cond2_iff _ _).2 h) from by unfold outAt; rw [dif_neg h]]
    iintro ⟨⟨HA, HT0, HT1⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (a.1 0) (a.1 1) (iblk a V c (0 : Fin 7) t) (iblk a V c (1 : Fin 7) t) (iblk a V c (2 : Fin 7) t) (iblk a V c (3 : Fin 7) t) (iblk a V c (4 : Fin 7) t) (iblk a V c (5 : Fin 7) t) h ((cond2_iff _ _).2 h)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [HT0]; · iexact HT0
    isplitl [HT1]; · iexact HT1
    isplitl [H6]; · iexists _; iexact H6
    iintro ⟨H0, H1, H2, H3, H4, H5, HT0, HT1, ⟨%e6, H6⟩⟩
    isplitl [HA HT0 HT1]
    · isplitl [HA]
      · iexact HA
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    isplitl [H5]
    · iapply owns_of_rep; iexact H5
    unfold owns; iexists _; isplitr; swap
    · iexact H6
    · ipureintro; exact View.read_writes_of_cover _ _ _ _ _ (cover0_B_6 c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (a.1 0) (a.1 1) (iblk a V c (0 : Fin 7) t) (iblk a V c (1 : Fin 7) t) (iblk a V c (2 : Fin 7) t) (iblk a V c (3 : Fin 7) t) (iblk a V c (4 : Fin 7) t) (iblk a V c (5 : Fin 7) t) h ((cond2_iff _ _).2 h))

/-- The library's body obligation, at every point. -/
theorem body_obligation (c : Dev nD) : BodyObligation (dats a V 0 c) (defs₀ (F := F)) Variants.none () Set.univ := fun t => by
  rw [bigSep_W0]
  exact sound_body a V c t

theorem share_eq (c : Dev nD) (w : Fin (cfg0 a).W) : (dats a V 0 c).share w = fullShare := by unfold Dat.share; split <;> rfl

/-- The buffers when the grid starts: the host operations done on the launch memory. -/
def entry (m : (ℓ : Loc nD τ sig) → Buf (Elt F) ℓ) : Entry F :=
  fun c b => StableHlo.after hostOps0 (fun b => m (c, b)) b

/-- THE RUN: from any memory whose tables (after the host operations) are the admissible contents `a`, every execution
    terminates with every array at the computed contents, every other buffer as the host operations left it, and every
    semaphore counter at zero. -/
theorem run (m : (ℓ : Loc nD τ sig) → Buf (Elt F) ℓ) (ρ : Dev nD → PrngReg)
    (hpf : ∀ c k, entry m c (pre0.ref k) = a.1 k) :
    θ_run (defs (F := F)) (onTc (τ := τ) (main (F := F))) (s₀ m ρ)
      (fun r => Pipeline.FramePost (Pipeline.pin (pcfgs (F := F)) fun _ => a) (fun p c => dats a (entry m) p c) 0 (entry m) r ∧ r.2.sem = fun _ => 0) :=
  Pipeline.θ_run_frameP (pcfgs (F := F)) (fun _ => a) (fun p c => dats a (entry m) p c) 0 launch0 defs₀ Variants.none m ρ main
    (fun c => (body_obligation a (entry m) c).loose) (share_eq a (entry m)) (fun _ _ => rfl) (entry m)
    (Pipeline.hmainP_prefix (pcfgs (F := F)) 0 defs₀ Variants.none m main hostOps0 hostOps0_sub
      (by simp only [hostOps0, List.Forall]; exact ⟨rfl, rfl, rfl, rfl, rfl, rfl, rfl, rfl⟩) main_chain)
    (fun _ _ => rfl) hpf (fun _ _ => rfl) _ (fun _ h => h)

end Cert.ExpertsIdeal.Gen

end
-- ==== Proof.ExpertsIdealTables.lean ====
/-
  THE EXPERTS' FRAME. Tables that satisfy the precondition keep every block inside its array; the run then leaves the
  arguments as they were.
-/
module

public import proofs.«01_k».proof.Proof.ExpertsIdealFrame
public import proofs.«01_k».proof.Proof.Routed

@[expose] public section

noncomputable section

namespace Cert.ExpertsIdeal.Gen

open Cert.ExpertsIdeal
open Idealize.ShloMosaic Idealize.ShloMosaic.TcCoe Idealize.SL.Sem

variable {F : FTy → Type} [FloatOps F]

/-! ## The index maps in closed form -/

section Maps

variable (T : pre0.Contents (Elt F)) (ok : Routed.Ok (T 0) (T 1)) (i : grid0.Coords)

abbrev tile : S288.Idx := ix1 (⟨(i 0).val, (i 0).isLt⟩ : Fin 288)

/-- The expert of the tile and the number of tiles in use, as naturals. -/
def eid : ℕ := (T 0 (tile i) : BitVec 32).toNat
def used : ℕ := (T 1 (ix1 (0 : Fin 1)) : BitVec 32).toNat

include ok in
theorem eid_lt : eid T i < 32 := by
  have h := Routed.toNat_eq (ok.eid_nonneg (tile i))
  have h2 := ok.eid_lt (tile i)
  unfold eid
  omega

include ok in
theorem used_pos : 1 ≤ used T := by
  have h1 := ok.used_pos (ix1 (0 : Fin 1))
  have h := Routed.toNat_eq (a := T 1 (ix1 (0 : Fin 1))) (by omega)
  unfold used
  omega

include ok in
theorem used_le : used T ≤ 288 := by
  have h1 := ok.used_pos (ix1 (0 : Fin 1))
  have h2 := ok.used_le (ix1 (0 : Fin 1))
  have h := Routed.toNat_eq (a := T 1 (ix1 (0 : Fin 1))) (by omega)
  unfold used
  omega

theorem at0 : T.at 0 (Rect.unit (s := S288) ![((Scalar.indexCast (BitVec.ofNat 32 (i 0).val) : Index)).toNat] S1.size (k0_off1_inb i)) numel1_S1 = T 0 (tile i) := by
  have h : ((Scalar.indexCast (BitVec.ofNat 32 (i 0).val) : Index)).toNat = (i 0).val := congrFun (k0_off1_eq i) 0
  show T 0 _ = T 0 _
  congr 1
  funext a
  fin_cases a
  apply Fin.ext
  refine Eq.trans ?_ h
  exact (Nat.add_zero _)

theorem at1 : T.at 1 (Rect.unit (s := S1) ![0] S1.size inb_S1_S1_0) numel1_S1 = T 1 (ix1 (0 : Fin 1)) := by
  show T 1 _ = T 1 _
  congr 1
  funext a
  fin_cases a
  apply Fin.ext
  simp [Rect.unit, LoadRect.idx, ix1]

include ok in
/-- The rows' block of a tile: its own while the tile is in use, the last used one's after. -/
theorem map0 : cc0_transform_0 inb_S1_S1_0 numel1_S1 T i = ![min (i 0).val (used T - 1), 0] := by
  unfold cc0_transform_0
  dsimp only
  rw [at1]
  rw [show (Scalar.minsi (BitVec.ofNat 32 (i 0).val) (Scalar.subi (T 1 (ix1 (0 : Fin 1))) 1#32)).toNat = min (i 0).val (used T - 1) from
    Routed.min_word (i 0).isLt (ok.used_pos _) (ok.used_le _)]
  rfl

theorem map1 : cc0_transform_1 k0_off1_inb numel1_S1 T i = ![0, eid T i, 0, 0] := by
  unfold cc0_transform_1
  dsimp only
  rw [at0]
  rfl
theorem map2 : cc0_transform_2 k0_off1_inb numel1_S1 T i = ![0, eid T i, 0, 0] := by
  unfold cc0_transform_2
  dsimp only
  rw [at0]
  rfl
theorem map3 : cc0_transform_3 k0_off1_inb numel1_S1 T i = ![0, eid T i, 0, 0] := by
  unfold cc0_transform_3
  dsimp only
  rw [at0]
  rfl
theorem map4 : cc0_transform_4 k0_off1_inb numel1_S1 T i = ![0, eid T i, 0, 0] := by
  unfold cc0_transform_4
  dsimp only
  rw [at0]
  rfl
theorem map5 : cc0_transform_5 i = ![0, 0] := rfl
theorem map6 : cc0_transform_6 i = ![(i 0).val, 0] := by
  have hi : (i 0).val < 288 := (i 0).isLt
  have h : (BitVec.ofNat 32 (i 0).val).toNat = (i 0).val := by rw [BitVec.toNat_ofNat]; omega
  unfold cc0_transform_6
  dsimp only
  rw [h]
  rfl

include ok in
/-- The first test: the tile is in use. -/
theorem cond1_iff : k0_cond1 i (T 1 (ix1 (0 : Fin 1))) = 1#1 ↔ (i 0).val < used T := by
  unfold k0_cond1
  simp only [Scalar.cmpi, Scalar.extui, IntOp.cmpi]
  rw [show (BitVec.ofNat 32 (i 0).val).slt (T 1 (ix1 (0 : Fin 1))) = decide ((i 0).val < used T) from
    Routed.slt_word (i 0).isLt (ok.used_pos _)]
  by_cases hc : (i 0).val < used T <;> simp [hc]

include ok in
theorem ok0_of : ok0 T := by
  refine ⟨fun i => ?_, fun i => ?_, fun i => ?_, fun i => ?_, fun i => ?_⟩
  · refine ⟨fun a => ?_, .inl rfl⟩
    rw [map0 T ok i]
    have := used_le T ok; have := used_pos T ok; have hi : (i 0).val < 288 := (i 0).isLt
    fin_cases a
    · show (min (i 0).val (used T - 1) + 1) * 256 ≤ 73728
      omega
    · show (0 + 1) * 4096 ≤ 4096
      decide
  all_goals have he := eid_lt T ok i
  · refine ⟨fun a => ?_, .inr (Affine.block_words_dvd (of_decide_eq_true rfl) (by decide))⟩
    rw [map1 T i]
    fin_cases a
    · show (0 + 1) * 1 ≤ 4
      decide
    · show (eid T i + 1) * 1 ≤ 32
      omega
    · show (0 + 1) * 4096 ≤ 4096
      decide
    · show (0 + 1) * 768 ≤ 768
      decide
  · refine ⟨fun a => ?_, .inl rfl⟩
    rw [map2 T i]
    fin_cases a
    · show (0 + 1) * 1 ≤ 4
      decide
    · show (eid T i + 1) * 1 ≤ 32
      omega
    · show (0 + 1) * 1 ≤ 1
      decide
    · show (0 + 1) * 768 ≤ 768
      decide
  · refine ⟨fun a => ?_, .inr (Affine.block_words_dvd (of_decide_eq_true rfl) (by decide))⟩
    rw [map3 T i]
    fin_cases a
    · show (0 + 1) * 1 ≤ 4
      decide
    · show (eid T i + 1) * 1 ≤ 32
      omega
    · show (0 + 1) * 384 ≤ 384
      decide
    · show (0 + 1) * 4096 ≤ 4096
      decide
  · refine ⟨fun a => ?_, .inl rfl⟩
    rw [map4 T i]
    fin_cases a
    · show (0 + 1) * 1 ≤ 4
      decide
    · show (eid T i + 1) * 1 ≤ 32
      omega
    · show (0 + 1) * 1 ≤ 1
      decide
    · show (0 + 1) * 4096 ≤ 4096
      decide

end Maps

/-! ## The launch memory's tables -/

section Memory

variable (m : (ℓ : Loc nD τ sig) → Buf (Elt F) ℓ)

/-- The tables at launch, read on device 0 (there is one). -/
def tbl : pre0.Contents (Elt F) := fun k => m (((0 : Dev nD).tc : Thread nD τ).loc (pre0.ref k))

variable (ok : Routed.Ok (tbl m 0) (tbl m 1))

def adm : (pcfg0 (F := F)).Adm := ⟨tbl m, ok0_of (tbl m) ok⟩

/-- The host operations write none of the arguments. -/
theorem entry_arg (c : Dev nD) (b : Ref sig .tc)
    (h : b = main_arg0 ∨ b = main_arg1 ∨ b = main_arg2 ∨ b = main_arg3 ∨ b = main_arg4 ∨ b = main_arg5 ∨ b = main_arg6) :
    entry m c b = m ((c.tc : Thread nD τ).loc b) := by
  unfold entry
  rcases h with rfl | rfl | rfl | rfl | rfl | rfl | rfl <;> rfl

theorem entry_tbl (c : Dev nD) (k : Fin 2) : entry m c (pre0.ref k) = tbl m k := by
  obtain rfl : c = 0 := Subsingleton.elim _ _
  fin_cases k
  · exact entry_arg m 0 main_arg1 (by simp)
  · exact entry_arg m 0 main_arg2 (by simp)

theorem arr_ne1 : ∀ w : Fin 7, (((Pipeline.pin pcfgs (fun _ => adm m ok) 0).spec w).arr.view.ref : Ref sig .tc) ≠ main_arg1 := fun w => by
  fin_cases w
  · exact (by decide : (main_arg0 : Ref sig .tc) ≠ main_arg1)
  · exact (by decide : (main_arg3 : Ref sig .tc) ≠ main_arg1)
  · exact (by decide : (main_arg4 : Ref sig .tc) ≠ main_arg1)
  · exact (by decide : (main_arg5 : Ref sig .tc) ≠ main_arg1)
  · exact (by decide : (main_arg6 : Ref sig .tc) ≠ main_arg1)
  · exact (by decide : (main_v6 : Ref sig .tc) ≠ main_arg1)
  · exact (by decide : (main_v7 : Ref sig .tc) ≠ main_arg1)
theorem arr_ne2 : ∀ w : Fin 7, (((Pipeline.pin pcfgs (fun _ => adm m ok) 0).spec w).arr.view.ref : Ref sig .tc) ≠ main_arg2 := fun w => by
  fin_cases w
  · exact (by decide : (main_arg0 : Ref sig .tc) ≠ main_arg2)
  · exact (by decide : (main_arg3 : Ref sig .tc) ≠ main_arg2)
  · exact (by decide : (main_arg4 : Ref sig .tc) ≠ main_arg2)
  · exact (by decide : (main_arg5 : Ref sig .tc) ≠ main_arg2)
  · exact (by decide : (main_arg6 : Ref sig .tc) ≠ main_arg2)
  · exact (by decide : (main_v6 : Ref sig .tc) ≠ main_arg2)
  · exact (by decide : (main_v7 : Ref sig .tc) ≠ main_arg2)

variable (ρ : Dev nD → PrngReg)

/-- What the run leaves: the arguments as they were, the result as the proof data computes it, no counter up. -/
theorem run_args : θ_run (defs (F := F)) (onTc (τ := τ) (main (F := F))) ⟨m, fun _ => 0, ρ⟩ (fun r =>
    (∀ c : Dev nD, r.2.mem ((c.tc : Thread nD τ).loc main_v7) = (dats (adm m ok) (entry m) 0 c).arrAt (6 : Fin 7) (cfg0 (adm m ok)).N
      ∧ ∀ b : Ref sig .tc, (b = main_arg0 ∨ b = main_arg1 ∨ b = main_arg2 ∨ b = main_arg3 ∨ b = main_arg4 ∨ b = main_arg5 ∨ b = main_arg6) →
        r.2.mem ((c.tc : Thread nD τ).loc b) = m ((c.tc : Thread nD τ).loc b)) ∧ r.2.sem = fun _ => 0) := by
  refine (θ_run defs _ _).mono (fun r h => ⟨fun c => ⟨(h.1 c).1 (6 : Fin 7), fun b hb => ?_⟩, h.2⟩) (run (adm m ok) m ρ (fun c k => entry_tbl m c k))
  rw [← entry_arg m c b hb]
  rcases hb with rfl | rfl | rfl | rfl | rfl | rfl | rfl
  · exact ((h.1 c).1 (0 : Fin 7)).trans ((dats (adm m ok) (entry m) 0 c).arrAt_in (0 : Fin 7) rfl _)
  · exact (h.1 c).2 main_arg1 (Pipeline.mem_restRefs_of _ rfl (arr_ne1 m ok))
  · exact (h.1 c).2 main_arg2 (Pipeline.mem_restRefs_of _ rfl (arr_ne2 m ok))
  · exact ((h.1 c).1 (1 : Fin 7)).trans ((dats (adm m ok) (entry m) 0 c).arrAt_in (1 : Fin 7) rfl _)
  · exact ((h.1 c).1 (2 : Fin 7)).trans ((dats (adm m ok) (entry m) 0 c).arrAt_in (2 : Fin 7) rfl _)
  · exact ((h.1 c).1 (3 : Fin 7)).trans ((dats (adm m ok) (entry m) 0 c).arrAt_in (3 : Fin 7) rfl _)
  · exact ((h.1 c).1 (4 : Fin 7)).trans ((dats (adm m ok) (entry m) 0 c).arrAt_in (4 : Fin 7) rfl _)

end Memory

/-- The precondition, of the tables at launch. -/
theorem ok_of_pre (m : (ℓ : Loc nD τ sig) → Buf (Elt Ideal) ℓ) (h : Cert.Pre_ExpertsIdeal m) : Routed.Ok (tbl m 0) (tbl m 1) :=
  Routed.ok_of_pre _ _ _ _ _ _ _ (h 0)

/-- The frame. -/
theorem frame : Cert.quiescent_ExpertsIdeal := fun m ρ h =>
  (θ_run defs _ _).mono (fun r hr => ⟨fun c => ⟨(hr.1 c).2 _ (by simp), (hr.1 c).2 _ (by simp), (hr.1 c).2 _ (by simp), (hr.1 c).2 _ (by simp),
    (hr.1 c).2 _ (by simp), (hr.1 c).2 _ (by simp), (hr.1 c).2 _ (by simp)⟩, hr.2⟩) (run_args m (ok_of_pre m h) ρ)

end Cert.ExpertsIdeal.Gen

end
-- ==== Proof.ExpertsSpec.lean ====
/-
  WHAT THE EXPERTS' CALL COMPUTES, one row at a time. A row `x` of a tile that is in use goes through its tile's expert:
  `hid` is the first product with its bias, 768 lanes of which the even ones are gates and the odd ones linear parts; `act`
  joins lane `2 f` with lane `2 f + 1`; `out` is the second product with its bias. A row of a tile that is not in use is zero.
-/
module

public import Idealize.ShloMosaic.Lib.Pointwise

@[expose] public section

noncomputable section

namespace Cert.Moe

open Idealize.ShloMosaic

/-- The gate of a lane, `min(h, 7)` times its logistic at 1.702. -/
def gate (h : EReal) : EReal :=
  min h (Ideal.ofBits .f32 0x40E00000#32) * Ideal.logistic (Ideal.ofBits .f32 0x3FD9DB23#32 * min h (Ideal.ofBits .f32 0x40E00000#32))

/-- The linear part of a lane, clipped to `[-7, 7]`, plus one. -/
def lin (h : EReal) : EReal :=
  min (Ideal.ofBits .f32 0x40E00000#32) (max (Ideal.ofBits .f32 0xC0E00000#32) h) + 1

def hid (x : Fin 4096 → EReal) (w : Fin 4096 → Fin 768 → EReal) (b : Fin 768 → EReal) (k : Fin 768) : EReal :=
  ∑ d, x d * w d k + b k

def act (h : Fin 768 → EReal) (f : Fin 384) : EReal :=
  gate (h ⟨2 * f.val, by omega⟩) * lin (h ⟨2 * f.val + 1, by omega⟩)

def out (x : Fin 4096 → EReal) (w : Fin 4096 → Fin 768 → EReal) (b : Fin 768 → EReal) (v : Fin 384 → Fin 4096 → EReal)
    (d : Fin 4096 → EReal) (k : Fin 4096) : EReal :=
  ∑ f, act (hid x w b) f * v f k + d k

/-- The expert of a tile (the table's word is below 32 wherever the call is used). -/
def expert (eid : IVec ⟨1, ![288]⟩ 32) (t : Fin 288) : Fin 32 := ⟨(eid (ix1 t)).toNat % 32, Nat.mod_lt _ (by omega)⟩

/-- The whole result: 288 tiles of 256 rows, of layer 0. -/
def result (x : FVec Ideal ⟨2, ![73728, 4096]⟩ .f32) (eid : IVec ⟨1, ![288]⟩ 32) (nused : IVec ⟨1, ![1]⟩ 32)
    (w : FVec Ideal ⟨4, ![4, 32, 4096, 768]⟩ .bf16) (b : FVec Ideal ⟨4, ![4, 32, 1, 768]⟩ .f32) (v : FVec Ideal ⟨4, ![4, 32, 384, 4096]⟩ .bf16)
    (d : FVec Ideal ⟨4, ![4, 32, 1, 4096]⟩ .f32) (r : Fin 73728) (k : Fin 4096) : EReal :=
  if r.val / 256 < (nused (ix1 0)).toNat then
    out (fun j => x (ix2 r j)) (fun j k => w (ix4 0 (expert eid ⟨r.val / 256, by omega⟩) j k)) (fun k => b (ix4 0 (expert eid ⟨r.val / 256, by omega⟩) 0 k))
      (fun f k => v (ix4 0 (expert eid ⟨r.val / 256, by omega⟩) f k)) (fun k => d (ix4 0 (expert eid ⟨r.val / 256, by omega⟩) 0 k)) k
  else 0

/-- Picking the even lanes by a product with the matrix whose entry `(l, f)` is one where `l = 2 f`. -/
theorem pick_sum (g : Fin 768 → EReal) (f : Fin 384) :
    ∑ l : Fin 768, g l * (if l.val = 2 * f.val then 1 else 0) = g ⟨2 * f.val, by omega⟩ := by
  rw [Finset.sum_eq_single (⟨2 * f.val, by omega⟩ : Fin 768)]
  · simp
  · intro l _ hl
    rw [if_neg (fun h => hl (Fin.ext h)), mul_zero]
  · intro h
    exact absurd (Finset.mem_univ _) h

/-- A sum over the experts of which only one has weight one, the rest zero. -/
theorem one_hot (e0 : ℕ) (he : e0 < 32) (c : Fin 32 → EReal) (hc : ∀ e, c e = if e.val = e0 then 1 else 0) (g : Fin 32 → EReal) :
    ∑ e, g e * c e = g ⟨e0, he⟩ := by
  rw [Finset.sum_eq_single (⟨e0, he⟩ : Fin 32)]
  · rw [hc, if_pos rfl, mul_one]
  · intro l _ hl
    rw [hc, if_neg (fun h => hl (Fin.ext h)), mul_zero]
  · intro h
    exact absurd (Finset.mem_univ _) h

end Cert.Moe

end
-- ==== Proof.ExpertsTile.lean ====
/-
  WHAT ONE TILE COMPUTES. The kernel's body on a tile in use, read at a row and a column, is `Moe.out` of the row and of the
  expert's weights: the two products are sums; a chunk of 128 lanes turned by one puts the linear part of lane `2 f + 1` under the
  gate of lane `2 f`; the product with the picking matrix keeps the even lanes.
-/
module

public import proofs.«01_k».proof.Proof.ExpertsIdealTables
public import proofs.«01_k».proof.Proof.ExpertsSpec
public import Idealize.ShloMosaic.Lib.Pointwise

@[expose] public section

noncomputable section

namespace Cert.ExpertsIdeal.Gen

open Cert.ExpertsIdeal
open Idealize.ShloMosaic Idealize.ShloMosaic.TcCoe

/-- The activations as the kernel lays them out: six chunks of 128 lanes side by side. -/
def cat (v32 v36 v40 v44 v48 v52 : FVec Ideal S256x128 .f32) : FVec Ideal S256x768 .f32 :=
  concatenate S256x768 1 [⟨S256x128, v32⟩, ⟨S256x128, v36⟩, ⟨S256x128, v40⟩, ⟨S256x128, v44⟩, ⟨S256x128, v48⟩, ⟨S256x128, v52⟩] concatenates_S256x128_S256x128_S256x128_S256x128_S256x128_S256x128_S256x768_d1

/-- A chunk: the gates times the linear parts turned by one lane. -/
def chunk (g l : FVec Ideal S256x128 .f32) : FVec Ideal S256x128 .f32 :=
  mulf g (dynamicRotate 1 127#32 none l rotates_S256x128_d1)

theorem pay1_at (g l : FVec Ideal S256x768 .f32) (v32 v36 v40 v44 v45 v46 : FVec Ideal S256x128 .f32) (P : Vec Ideal S768x384 .bf16) (v : Vec Ideal S1x1x384x4096 .bf16)
    (d : Vec Ideal S1x1x1x4096 .f32) (H : FVec Ideal S256x768 .f32)
    (hH : H = cat v32 v36 v40 v44 (chunk v45 v46) (chunk (extractStridedSlice S256x128 ![0, 640] g slices_S256x768_o0_640_S256x128) (extractStridedSlice S256x128 ![0, 640] l slices_S256x768_o0_640_S256x128)))
    (p : Fin 256) (k : Fin 4096) :
    k0_pay1 g l v32 v36 v40 v44 v45 v46 127#32 P v d (ix2 p k)
      = ∑ f : Fin 384, (∑ j : Fin 768, H (ix2 p j) * P (ix2 j f)) * v (ix4 0 0 f k) + d (ix4 0 0 0 k) := by
  show addf (matmul dot_S256x384_S384x4096_S256x4096_1_0_0_1_n_n none (truncf .bf16 (matmul dot_S256x768_S768x384_S256x384_1_0_0_1_n_n none (truncf .bf16 (cat v32 v36 v40 v44 (chunk v45 v46) (chunk (extractStridedSlice S256x128 ![0, 640] g slices_S256x768_o0_640_S256x128) (extractStridedSlice S256x128 ![0, 640] l slices_S256x768_o0_640_S256x128))) bitsLt_bf16_f32)
    (shapeCast S768x384 P shapeCasts_S768x384_S768x384) (constant S256x384 .f32 0x00000000#32)) bitsLt_bf16_f32)
    (shapeCast S384x4096 v shapeCasts_S1x1x384x4096_S384x4096) (constant S256x4096 .f32 0x00000000#32)) (broadcastTo S256x4096 (shapeCast S1x4096 d shapeCasts_S1x1x1x4096_S1x4096) broadcasts_S1x4096_S256x4096) (ix2 p k) = _
  rw [← hH]
  pointwise

theorem cat_at (g l : FVec Ideal S256x768 .f32) (H : Fin 6 → FVec Ideal S256x128 .f32)
    (hH : ∀ c p (k : Fin 128), H c (ix2 p k) = g (ix2 p (⟨c.val * 128 + k.val, by omega⟩ : Fin 768)) * l (ix2 p (⟨c.val * 128 + (k.val + 128 - 127) % 128, by omega⟩ : Fin 768)))
    (p : Fin 256) (f : Fin 384) :
    cat (H 0) (H 1) (H 2) (H 3) (H 4) (H 5) (ix2 p (⟨2 * f.val, by omega⟩ : Fin 768)) = g (ix2 p (⟨2 * f.val, by omega⟩ : Fin 768)) * l (ix2 p (⟨2 * f.val + 1, by omega⟩ : Fin 768)) := by
  have key : ∀ (c : Fin 6) (k : Fin 128), c.val * 128 + k.val = 2 * f.val → H c (ix2 p k) = g (ix2 p (⟨2 * f.val, by omega⟩ : Fin 768)) * l (ix2 p (⟨2 * f.val + 1, by omega⟩ : Fin 768)) := by
    intro c k h
    have h2 : c.val * 128 + (k.val + 128 - 127) % 128 = 2 * f.val + 1 := by omega
    rw [hH]
    simp only [h, h2]
  pointwise [cat]
  split_ifs
  all_goals apply key
  all_goals first | omega | (simp <;> omega)

variable (x : Vec Ideal S256x4096 .f32) (w : Vec Ideal S1x1x4096x768 .bf16) (b : Vec Ideal S1x1x1x768 .f32)

/-- A row of the tile through the first product. -/
abbrev hidRow (p : Fin 256) : Fin 768 → EReal :=
  Moe.hid (fun j => x (ix2 p j)) (fun j k => w (ix4 0 0 j k)) (fun k => b (ix4 0 0 0 k))

theorem pay3_at (p : Fin 256) (k : Fin 768) : k0_pay3 x w b (ix2 p k) = hidRow x w b p k := by
  pointwise [k0_pay3]
  rfl

theorem pay4_at (p : Fin 256) (k : Fin 768) : k0_pay4 x w b (ix2 p k) = Moe.gate (hidRow x w b p k) := by
  rw [← pay3_at]
  unfold k0_pay4
  generalize k0_pay3 x w b = h
  pointwise
  rfl

theorem pay5_at (p : Fin 256) (k : Fin 768) : k0_pay5 x w b (ix2 p k) = Moe.lin (hidRow x w b p k) := by
  rw [← pay3_at]
  unfold k0_pay5
  generalize k0_pay3 x w b = h
  pointwise
  rfl

/-- The six chunks. -/
def chunks (g l : FVec Ideal S256x768 .f32) : Fin 6 → FVec Ideal S256x128 .f32 := fun
  | 0 => chunk (extractStridedSlice S256x128 ![0, 0] g slices_S256x768_o0_0_S256x128) (extractStridedSlice S256x128 ![0, 0] l slices_S256x768_o0_0_S256x128)
  | 1 => chunk (extractStridedSlice S256x128 ![0, 128] g slices_S256x768_o0_128_S256x128) (extractStridedSlice S256x128 ![0, 128] l slices_S256x768_o0_128_S256x128)
  | 2 => chunk (extractStridedSlice S256x128 ![0, 256] g slices_S256x768_o0_256_S256x128) (extractStridedSlice S256x128 ![0, 256] l slices_S256x768_o0_256_S256x128)
  | 3 => chunk (extractStridedSlice S256x128 ![0, 384] g slices_S256x768_o0_384_S256x128) (extractStridedSlice S256x128 ![0, 384] l slices_S256x768_o0_384_S256x128)
  | 4 => chunk (extractStridedSlice S256x128 ![0, 512] g slices_S256x768_o0_512_S256x128) (extractStridedSlice S256x128 ![0, 512] l slices_S256x768_o0_512_S256x128)
  | 5 => chunk (extractStridedSlice S256x128 ![0, 640] g slices_S256x768_o0_640_S256x128) (extractStridedSlice S256x128 ![0, 640] l slices_S256x768_o0_640_S256x128)

theorem chunks_at (g l : FVec Ideal S256x768 .f32) (c : Fin 6) (p : Fin 256) (k : Fin 128) :
    chunks g l c (ix2 p k) = g (ix2 p (⟨c.val * 128 + k.val, by omega⟩ : Fin 768)) * l (ix2 p (⟨c.val * 128 + (k.val + 128 - 127) % 128, by omega⟩ : Fin 768)) := by
  fin_cases c
  all_goals
    show chunk _ _ (ix2 p k) = _
    pointwise [chunk]
  all_goals congr 1

variable (P : Vec Ideal S768x384 .bf16) (hP : ∀ (j : Fin 768) (f : Fin 384), P (ix2 j f) = (if j.val = 2 * f.val then 1 else 0 : EReal))
  (v : Vec Ideal S1x1x384x4096 .bf16) (d : Vec Ideal S1x1x1x4096 .f32)

include hP in
/-- The tile at a row and a column. -/
theorem tile_at (p : Fin 256) (k : Fin 4096) :
    k0_pay1 (k0_pay4 x w b) (k0_pay5 x w b) (k0_pay6 x w b) (k0_pay7 x w b) (k0_pay8 x w b) (k0_pay9 x w b) (k0_pay10 x w b) (k0_pay11 x w b) 127#32 P v d (ix2 p k)
      = Moe.out (fun j => x (ix2 p j)) (fun j k => w (ix4 0 0 j k)) (fun k => b (ix4 0 0 0 k)) (fun f k => v (ix4 0 0 f k)) (fun k => d (ix4 0 0 0 k)) k := by
  refine (pay1_at (k0_pay4 x w b) (k0_pay5 x w b) _ _ _ _ _ _ P v d
    (cat (chunks (k0_pay4 x w b) (k0_pay5 x w b) 0) (chunks (k0_pay4 x w b) (k0_pay5 x w b) 1) (chunks (k0_pay4 x w b) (k0_pay5 x w b) 2)
      (chunks (k0_pay4 x w b) (k0_pay5 x w b) 3) (chunks (k0_pay4 x w b) (k0_pay5 x w b) 4) (chunks (k0_pay4 x w b) (k0_pay5 x w b) 5)) rfl p k).trans ?_
  unfold Moe.out
  congr 1
  refine Finset.sum_congr rfl fun f _ => ?_
  congr 1
  simp only [hP]
  rw [Moe.pick_sum (fun j => cat _ _ _ _ _ _ (ix2 p j)) f, cat_at _ _ (chunks (k0_pay4 x w b) (k0_pay5 x w b)) (chunks_at _ _), pay4_at, pay5_at]
  rfl

end Cert.ExpertsIdeal.Gen

end
-- ==== Proof.ExpertsFinal.lean ====
/-
  WHAT THE EXPERTS' ARRAY HOLDS at the end: `Moe.result` of the arguments. Each tile's block of 256 rows is written at the
  tile's point, from the blocks that the tables pick.
-/
module

public import proofs.«01_k».proof.Proof.ExpertsTile
public import Idealize.ShloMosaic.Lib.Pointwise
public import Idealize.ShloMosaic.Lib.Pipeline.Covers

@[expose] public section

noncomputable section

namespace Cert.ExpertsIdeal.Gen

open Cert.ExpertsIdeal
open Idealize.ShloMosaic Idealize.ShloMosaic.TcCoe Idealize.SL.Sem

variable (m : (ℓ : Loc nD τ sig) → Buf (Elt Ideal) ℓ) (ok : Routed.Ok (tbl m 0) (tbl m 1)) (c : Dev nD)

/-- The picking matrix the host builds. -/
theorem pick_at (j : Fin 768) (f : Fin 384) : (entry m c main_v6 : FVec Ideal S768x384 .bf16) (ix2 j f) = (if j.val = 2 * f.val then 1 else 0 : EReal) := by
  show (truncf .bf16 (uitofp .f32 (cmpi .eq (iotaInDim S768x384 32 0) (muli (broadcastInDim S768x384 ![] bcast_S_S768x384 (constantI S_ 32 2#32)) (iotaInDim S768x384 32 1)))) bitsLt_bf16_f32 : FVec Ideal S768x384 .bf16) (ix2 j f) = _
  pointwise
  have e : IntOp.cmpi .eq (BitVec.ofNat 32 j.val) (IntOp.muli (2#32) (BitVec.ofNat 32 f.val)) = if j.val = 2 * f.val then 1#1 else 0#1 := by
    have h1 : (BitVec.ofNat 32 j.val).toNat = j.val := by rw [BitVec.toNat_ofNat]; omega
    have h2 : ((2#32) * BitVec.ofNat 32 f.val).toNat = 2 * f.val := by
      rw [BitVec.toNat_mul, BitVec.toNat_ofNat, BitVec.toNat_ofNat]; omega
    have h3 : BitVec.ofNat 32 j.val = (2#32) * BitVec.ofNat 32 f.val ↔ j.val = 2 * f.val := by
      rw [← BitVec.toNat_inj, h1, h2]
    simp only [IntOp.cmpi, IntOp.muli]
    by_cases hc : j.val = 2 * f.val
    · rw [if_pos hc, h3.2 hc]; simp
    · rw [if_neg hc]
      show BitVec.ofBool (_ == _) = _
      rw [beq_eq_false_iff_ne.2 (mt h3.1 hc)]
      rfl
  rw [e]
  split <;> simp [FloatOps.uitofp]

variable (t : Fin (cfg0 (adm m ok)).N)

/-! ## The blocks -/

theorem index0 : (pcfg0.win (adm m ok) (0 : Fin 7)).index t = ![min (grid0.coords t 0).val (used (tbl m) - 1), 0] := map0 (tbl m) ok (grid0.coords t)
theorem index1 : (pcfg0.win (adm m ok) (1 : Fin 7)).index t = ![0, eid (tbl m) (grid0.coords t), 0, 0] := map1 (tbl m) (grid0.coords t)
theorem index2 : (pcfg0.win (adm m ok) (2 : Fin 7)).index t = ![0, eid (tbl m) (grid0.coords t), 0, 0] := map2 (tbl m) (grid0.coords t)
theorem index3 : (pcfg0.win (adm m ok) (3 : Fin 7)).index t = ![0, eid (tbl m) (grid0.coords t), 0, 0] := map3 (tbl m) (grid0.coords t)
theorem index4 : (pcfg0.win (adm m ok) (4 : Fin 7)).index t = ![0, eid (tbl m) (grid0.coords t), 0, 0] := map4 (tbl m) (grid0.coords t)
theorem index5 : (pcfg0.win (adm m ok) (5 : Fin 7)).index t = ![0, 0] := map5  (grid0.coords t)
theorem index6 : (pcfg0.win (adm m ok) (6 : Fin 7)).index t = ![(grid0.coords t 0).val, 0] := map6  (grid0.coords t)

theorem tile_lt : (grid0.coords t 0).val < 288 := (grid0.coords t 0).isLt

theorem blk0 (p : Fin 256) (k : Fin 4096) (h : (grid0.coords t 0).val < used (tbl m)) : iblk (adm m ok) (entry m) c (0 : Fin 7) t (ix2 p k)
    = (m ((c.tc : Thread nD τ).loc main_arg0) : FVec Ideal S73728x4096 .f32)
      (ix2 (⟨(grid0.coords t 0).val * 256 + p.val, by have := tile_lt m ok t; omega⟩ : Fin 73728) k) := by
  rw [← entry_arg m c main_arg0 (by simp)]
  have hi : min (grid0.coords t 0).val (used (tbl m) - 1) = (grid0.coords t 0).val := by omega
  blk_ext [iblk, index0 m ok t]

theorem blk1 (j : Fin 4096) (k : Fin 768) : iblk (adm m ok) (entry m) c (1 : Fin 7) t (ix4 0 0 j k)
    = (m ((c.tc : Thread nD τ).loc main_arg3) : FVec Ideal S4x32x4096x768 .bf16) (ix4 0 (⟨eid (tbl m) (grid0.coords t), eid_lt (tbl m) ok _⟩ : Fin 32) j k) := by
  rw [← entry_arg m c main_arg3 (by simp)]
  blk_ext [iblk, index1 m ok t]

theorem blk2 (k : Fin 768) : iblk (adm m ok) (entry m) c (2 : Fin 7) t (ix4 0 0 0 k)
    = (m ((c.tc : Thread nD τ).loc main_arg4) : FVec Ideal S4x32x1x768 .f32) (ix4 0 (⟨eid (tbl m) (grid0.coords t), eid_lt (tbl m) ok _⟩ : Fin 32) 0 k) := by
  rw [← entry_arg m c main_arg4 (by simp)]
  blk_ext [iblk, index2 m ok t]

theorem blk3 (j : Fin 384) (k : Fin 4096) : iblk (adm m ok) (entry m) c (3 : Fin 7) t (ix4 0 0 j k)
    = (m ((c.tc : Thread nD τ).loc main_arg5) : FVec Ideal S4x32x384x4096 .bf16) (ix4 0 (⟨eid (tbl m) (grid0.coords t), eid_lt (tbl m) ok _⟩ : Fin 32) j k) := by
  rw [← entry_arg m c main_arg5 (by simp)]
  blk_ext [iblk, index3 m ok t]

theorem blk4 (k : Fin 4096) : iblk (adm m ok) (entry m) c (4 : Fin 7) t (ix4 0 0 0 k)
    = (m ((c.tc : Thread nD τ).loc main_arg6) : FVec Ideal S4x32x1x4096 .f32) (ix4 0 (⟨eid (tbl m) (grid0.coords t), eid_lt (tbl m) ok _⟩ : Fin 32) 0 k) := by
  rw [← entry_arg m c main_arg6 (by simp)]
  blk_ext [iblk, index4 m ok t]

theorem blk5 (j : Fin 768) (f : Fin 384) : iblk (adm m ok) (entry m) c (5 : Fin 7) t (ix2 j f) = (if j.val = 2 * f.val then 1 else 0 : EReal) := by
  rw [← pick_at m c j f]
  blk_ext [iblk, index5 m ok t]

/-- Every block of the result is some tile's. -/
theorem covers : ((cfg0 (adm m ok)).win (6 : Fin 7)).Covers := by
  have n0 : ((cfg0 (adm m ok)).win (6 : Fin 7)).nblk (0 : Fin 2) = 288 := (by decide : (73728 + 256 - 1) / 256 = 288)
  have n1 : ((cfg0 (adm m ok)).win (6 : Fin 7)).nblk (1 : Fin 2) = 1 := (by decide : (4096 + 4096 - 1) / 4096 = 1)
  refine Pipeline.Window.covers_of_indexMap_surj _ rfl (fun a => by fin_cases a; exact (by decide : 0 < 256); exact (by decide : 0 < 4096)) fun β => ⟨fun a => (β (0 : Fin 2)).cast (by fin_cases a; exact n0), fun a => ?_⟩
  refine (congrFun (map6 (fun a => (β (0 : Fin 2)).cast (by fin_cases a; exact n0))) a).trans ?_
  fin_cases a
  · rfl
  · have h : (β (1 : Fin 2)).val < 1 := lt_of_lt_of_eq (β (1 : Fin 2)).isLt n1
    exact (Nat.lt_one_iff.1 h).symm

theorem final : (dats (adm m ok) (entry m) 0 c).arrAt (6 : Fin 7) (cfg0 (adm m ok)).N = fun i => Moe.result
    (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (i 0) (i 1) := by
  obtain rfl : c = 0 := Subsingleton.elim _ _
  refine (dats (adm m ok) (entry m) 0 0).arrAt_eq_of_covers (6 : Fin 7) _ (covers m ok) fun t hf y => ?_
  blk_simp
  rw [after0_6]
  have e0 : (((View.whole main_v7).slice ((pcfg0.win (adm m ok) (6 : Fin 7)).rect t)).emb y 0).val = (grid0.coords t 0).val * 256 + (y 0).val := by
    blk_simp [index6 m ok t]
  have e1 : (((View.whole main_v7).slice ((pcfg0.win (adm m ok) (6 : Fin 7)).rect t)).emb y 1).val = (y 1).val := by
    blk_simp [index6 m ok t]
  generalize (((View.whole main_v7).slice ((pcfg0.win (adm m ok) (6 : Fin 7)).rect t)).emb y) = Y at e0 e1 ⊢
  have hw : word (adm m ok) = tbl m 1 (ix1 (0 : Fin 1)) := at1 (tbl m)
  have hc := cond1_iff (tbl m) ok (grid0.coords t)
  have hy : y = (ix2 (y 0) (y 1) : S256x4096.Idx) := by funext a; fin_cases a <;> rfl
  have y0 : (y 0).val < 256 := (y 0).isLt
  have hd : (Y 0).val / 256 = (grid0.coords t 0).val := by omega
  have hk : (Y 1 : Fin 4096) = y 1 := Fin.ext e1
  unfold outAt
  split
  · rename_i h
    have hu : (grid0.coords t 0).val < used (tbl m) := hc.1 (by rw [← hw]; exact h)
    frame_out
    simp only [View.read_rep]
    rw [hy]
    refine (tile_at _ _ _ _ (blk5 m ok 0 t) _ _ _ _).trans ?_
    unfold Moe.result
    rw [if_pos (by rw [hd]; exact hu), hk]
    have ht : (⟨(Y 0).val / 256, by have : (Y 0).val < 73728 := (Y 0).isLt; omega⟩ : Fin 288) = ⟨(grid0.coords t 0).val, tile_lt m ok t⟩ := Fin.ext hd
    have he : Moe.expert (m (((0 : Dev nD).tc : Thread nD τ).loc main_arg1)) ⟨(Y 0).val / 256, by have : (Y 0).val < 73728 := (Y 0).isLt; omega⟩
        = ⟨eid (tbl m) (grid0.coords t), eid_lt (tbl m) ok _⟩ := by
      rw [ht]
      exact Fin.ext (Nat.mod_eq_of_lt (eid_lt (tbl m) ok (grid0.coords t)))
    have hr : (Y 0 : Fin 73728) = ⟨(grid0.coords t 0).val * 256 + (y 0).val, by have := tile_lt m ok t; omega⟩ := Fin.ext e0
    rw [he, hr]
    simp only [blk1 m ok 0 t, blk2 m ok 0 t, blk3 m ok 0 t, blk4 m ok 0 t]
    congr 1
    funext j
    exact blk0 m ok 0 t (y 0) j hu
  · rename_i h
    have hu : ¬ (grid0.coords t 0).val < used (tbl m) := fun hn => h (by have := hc.2 hn; rw [← hw] at this; exact this)
    frame_out
    unfold Moe.result
    rw [if_neg (by rw [hd]; exact hu)]
    pointwise [k0_pay2]

end Cert.ExpertsIdeal.Gen

end
-- ==== Proof.ExpertsRef.lean ====
/-
  THE EXPERTS' REFERENCE. Its composed term is the staged functions below: which expert a row is routed to (a row of zeros
  and at most one one), the first product with every expert, the activations weighted by the routing, the second product.
  Read at an entry, the sums over the experts keep the routed one, and the result is `Moe.result`.
-/
module

public import proofs.«01_k».proof.Proof.Gen.ExpertsReferenceIdeal.Run
public import proofs.«01_k».proof.Proof.ExpertsSpec
public import proofs.«01_k».proof.Proof.Routed

@[expose] public section

set_option maxRecDepth 16384

noncomputable section

namespace Cert.ExpertsReferenceIdeal.Stage

open Idealize.ShloMosaic Idealize.ShloMosaic.TcCoe Idealize.SL.Sem Cert.ExpertsReferenceIdeal Cert.ExpertsReferenceIdeal.Gen

variable (x : FVec Ideal S73728x4096 .f32) (eid : IVec S288 32) (nused : IVec S1 32) (w : FVec Ideal S4x32x4096x768 .bf16)
  (b : FVec Ideal S4x32x1x768 .f32) (v : FVec Ideal S4x32x384x4096 .bf16) (d : FVec Ideal S4x32x1x4096 .f32)

/-- The routing, as zeros and ones. -/
def comb : FVec Ideal S73728x32 .f32 :=
  uitofp .f32 (shapeCast _ (broadcastInDim S288x256x32 ![0, 1, 2] bcast_S288x1x32_S288x256x32_0_1_2 (broadcastInDim S288x1x32 ![0, 2] bcast_S288x32_S288x1x32_0_2 (andi (cmpi .eq (broadcastInDim S288x32 ![0, 1] bcast_S288x1_S288x32_0_1 (broadcastInDim S288x1 ![0] bcast_S288_S288x1_0 eid)) (broadcastInDim S288x32 ![0, 1] bcast_S1x32_S288x32_0_1 (broadcastInDim S1x32 ![1] bcast_S32_S1x32_1 (iotaInDim S32 32 0)))) (broadcastInDim S288x32 ![0, 1] bcast_S288x1_S288x32_0_1 (broadcastInDim S288x1 ![0] bcast_S288_S288x1_0 (cmpi .slt (iotaInDim S288 32 0) (broadcastInDim S288 ![] bcast_S_S288 (shapeCast _ nused shapeCasts_S1_S_)))))))) shapeCasts_S288x256x32_S73728x32)

/-- The first product, of every row with every expert. -/
def hid : FVec Ideal S73728x32x768 .f32 :=
  addf (Host.dotGeneral dot_S73728x4096_S32x4096x768_S73728x32x768_1_1_0_02_n_n none x (extf .f32 (shapeCast _ (extractStridedSlice S1x32x4096x768 ![0, 0, 0, 0] w slices_S4x32x4096x768_S1x32x4096x768_0_0_0_0) shapeCasts_S1x32x4096x768_S32x4096x768) bitsLt_bf16_f32)) (broadcastInDim S73728x32x768 ![0, 1, 2] bcast_S1x32x768_S73728x32x768_0_1_2 (broadcastInDim S1x32x768 ![1, 2] bcast_S32x768_S1x32x768_1_2 (shapeCast _ (extractStridedSlice S1x32x1x768 ![0, 0, 0, 0] b slices_S4x32x1x768_S1x32x1x768_0_0_0_0) shapeCasts_S1x32x1x768_S32x768)))

variable (h : FVec Ideal S73728x32x768 .f32) (cb : FVec Ideal S73728x32 .f32)

/-- The activations, weighted by the routing. -/
def act : FVec Ideal S73728x32x384 .f32 :=
  mulf (mulf (mulf (minimumf (Host.slice S73728x32x384 ![0, 0, 0] ![1, 1, 2] h slicesBy_S73728x32x768_S73728x32x384_0s1_0s1_0s2) (broadcastInDim S73728x32x384 ![] bcast_S_S73728x32x384 (constant S_ .f32 0x40E00000#32))) (Host.divf (broadcastInDim S73728x32x384 ![] bcast_S_S73728x32x384 (constant S_ .f32 0x3F800000#32)) (addf (broadcastInDim S73728x32x384 ![] bcast_S_S73728x32x384 (constant S_ .f32 0x3F800000#32)) (Host.exp (Host.negf (mulf (broadcastInDim S73728x32x384 ![] bcast_S_S73728x32x384 (constant S_ .f32 0x3FD9DB23#32)) (minimumf (Host.slice S73728x32x384 ![0, 0, 0] ![1, 1, 2] h slicesBy_S73728x32x768_S73728x32x384_0s1_0s1_0s2) (broadcastInDim S73728x32x384 ![] bcast_S_S73728x32x384 (constant S_ .f32 0x40E00000#32))))))))) (addf (minimumf (broadcastInDim S73728x32x384 ![] bcast_S_S73728x32x384 (id (constant S_ .f32 0x40E00000#32))) (maximumf (broadcastInDim S73728x32x384 ![] bcast_S_S73728x32x384 (id (constant S_ .f32 0xC0E00000#32))) (Host.slice S73728x32x384 ![0, 0, 1] ![1, 1, 2] h slicesBy_S73728x32x768_S73728x32x384_0s1_0s1_1s2))) (broadcastInDim S73728x32x384 ![] bcast_S_S73728x32x384 (constant S_ .f32 0x3F800000#32)))) (broadcastInDim S73728x32x384 ![0, 1, 2] bcast_S73728x32x1_S73728x32x384_0_1_2 (broadcastInDim S73728x32x1 ![0, 1] bcast_S73728x32_S73728x32x1_0_1 cb))

variable (a : FVec Ideal S73728x32x384 .f32)

/-- The second product, summed over the experts. -/
def out : FVec Ideal S73728x4096 .f32 :=
  addf (Host.dotGeneral dot_S73728x32x384_S32x384x4096_S73728x4096_12_01_0_2_n_n none a (extf .f32 (shapeCast _ (extractStridedSlice S1x32x384x4096 ![0, 0, 0, 0] v slices_S4x32x384x4096_S1x32x384x4096_0_0_0_0) shapeCasts_S1x32x384x4096_S32x384x4096) bitsLt_bf16_f32)) (Host.dotGeneral dot_S73728x32_S32x4096_S73728x4096_1_0_0_1_n_n none cb (shapeCast _ (extractStridedSlice S1x32x1x4096 ![0, 0, 0, 0] d slices_S4x32x1x4096_S1x32x1x4096_0_0_0_0) shapeCasts_S1x32x1x4096_S32x4096))

def result : FVec Ideal S73728x4096 .f32 := out v d (comb eid nused) (act (hid x w b) (comb eid nused))

theorem res_eq (m : (ℓ : Loc nD τ sig) → Buf (Elt Ideal) ℓ) (c : Dev nD) :
    Value.res_main_v53 (F := Ideal) m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := rfl

/-! ## The stages at an entry -/

/-- A row's weight for an expert: one if its tile is in use and the expert is the tile's, else zero. -/
theorem comb_at (ok : Routed.Ok eid nused) (r : Fin 73728) (e : Fin 32) : comb eid nused (ix2 r e)
    = if r.val / 256 < (nused (ix1 0)).toNat then (if e.val = (Moe.expert eid ⟨r.val / 256, by omega⟩).val then 1 else 0) else 0 := by
  have hr : r.val / 256 < 288 := by omega
  have h1 : IntOp.cmpi CmpIPredicate.slt (BitVec.ofNat 32 (r.val / 256)) (nused (ix1 0)) = BitVec.ofBool (decide (r.val / 256 < (nused (ix1 0)).toNat)) := by
    simp only [IntOp.cmpi]
    rw [Routed.slt_word hr (ok.used_pos _)]
  have h2 : IntOp.cmpi CmpIPredicate.eq (eid (ix1 ⟨r.val / 256, hr⟩)) (BitVec.ofNat 32 e.val)
      = BitVec.ofBool (decide (e.val = (Moe.expert eid ⟨r.val / 256, hr⟩).val)) := by
    have hlt : (eid (ix1 ⟨r.val / 256, hr⟩)).toNat < 32 := by
      have a := Routed.toNat_eq (ok.eid_nonneg (ix1 ⟨r.val / 256, hr⟩))
      have := ok.eid_lt (ix1 ⟨r.val / 256, hr⟩)
      omega
    have hm : (Moe.expert eid ⟨r.val / 256, hr⟩).val = (eid (ix1 ⟨r.val / 256, hr⟩)).toNat := Nat.mod_eq_of_lt hlt
    rw [hm]
    show BitVec.ofBool (_ == _) = _
    congr 1
    rw [Bool.eq_iff_iff, beq_iff_eq, decide_eq_true_iff, ← BitVec.toNat_inj, BitVec.toNat_ofNat]
    omega
  pointwise [comb]
  rw [h1, h2]
  by_cases c1 : r.val / 256 < (nused (ix1 0)).toNat <;> by_cases c2 : e.val = (Moe.expert eid ⟨r.val / 256, hr⟩).val <;>
    simp [c1, c2, IntOp.andi, FloatOps.uitofp]

theorem hid_at (r : Fin 73728) (e : Fin 32) (k : Fin 768) : hid x w b (ix3 r e k)
    = Moe.hid (fun j => x (ix2 r j)) (fun j k => w (ix4 0 e j k)) (fun k => b (ix4 0 e 0 k)) k := by
  pointwise [hid]
  rfl

theorem act_at (r : Fin 73728) (e : Fin 32) (f : Fin 384) : act h cb (ix3 r e f) = Moe.act (fun k => h (ix3 r e k)) f * cb (ix2 r e) := by
  pointwise [act]
  have e1 : 1 + 2 * f.val = 2 * f.val + 1 := by omega
  simp only [e1]
  rfl

theorem out_at (r : Fin 73728) (k : Fin 4096) : out v d cb a (ix2 r k)
    = ∑ e : Fin 32, (∑ f : Fin 384, a (ix3 r e f) * v (ix4 0 e f k)) + ∑ e : Fin 32, cb (ix2 r e) * d (ix4 0 e 0 k) := by
  pointwise [out]

/-- The reference computes `Moe.result`. -/
theorem result_eq (ok : Routed.Ok eid nused) : result x eid nused w b v d = fun i => Moe.result x eid nused w b v d (i 0) (i 1) := by
  funext i
  obtain ⟨r, k, rfl⟩ : ∃ r k, i = ix2 r k := ⟨i 0, i 1, by pointwise⟩
  show result x eid nused w b v d (ix2 r k) = Moe.result x eid nused w b v d r k
  unfold result
  rw [out_at]
  simp only [act_at, hid_at]
  have hc := comb_at eid nused ok r
  generalize comb eid nused = cb at hc
  unfold Moe.result
  by_cases hu : r.val / 256 < (nused (ix1 0)).toNat
  · rw [if_pos hu]
    simp only [if_pos hu] at hc
    generalize Moe.expert eid ⟨r.val / 256, by omega⟩ = e0 at hc ⊢
    unfold Moe.out
    congr 1
    · refine Eq.trans ?_ (Moe.one_hot e0.val e0.isLt (fun e => cb (ix2 r e)) hc (fun e => ∑ f : Fin 384, Moe.act (Moe.hid (fun j => x (ix2 r j)) (fun j k => w (ix4 0 e j k)) (fun k => b (ix4 0 e 0 k))) f * v (ix4 0 e f k)))
      refine Finset.sum_congr rfl fun e _ => ?_
      simp only [hc]
      split
      · simp only [mul_one]
      · simp only [mul_zero, zero_mul, Finset.sum_const_zero]
    · refine Eq.trans ?_ (Moe.one_hot e0.val e0.isLt (fun e => cb (ix2 r e)) hc (fun e => d (ix4 0 e 0 k)))
      exact Finset.sum_congr rfl fun e _ => mul_comm _ _
  · rw [if_neg hu]
    simp only [if_neg hu] at hc
    simp only [hc, mul_zero, zero_mul, Finset.sum_const_zero, add_zero]

end Cert.ExpertsReferenceIdeal.Stage

end
-- ==== Proof.ExpertsClaim.lean ====
/-
  THE EXPERTS' CLAIMS. Both programs leave the arguments as they were; the idealised program is the program itself; and over
  the extended reals it computes what the reference computes.
-/
module

public import proofs.«01_k».proof.Proof.ExpertsTables
public import proofs.«01_k».proof.Proof.ExpertsFinal
public import proofs.«01_k».proof.Proof.ExpertsRef
public import Idealize.ShloMosaic.Lib.Quiescent

@[expose] public section

noncomputable section

namespace Cert.Proof.Experts

open Idealize.ShloMosaic Idealize.ShloMosaic.TcCoe Idealize.SL.Sem

theorem frame_p : Cert.quiescent_Experts := Cert.Experts.Gen.frame
theorem frame_pi : Cert.quiescent_ExpertsIdeal := Cert.ExpertsIdeal.Gen.frame
theorem frame_ri : Cert.quiescent_ExpertsReferenceIdeal := fun m ρ _ =>
  (θ_run Cert.ExpertsReferenceIdeal.defs _ _).mono (fun r h => ⟨fun c => (h c).2, sem_eq_zero_of_no_sems (by decide) r.2⟩)
    (Cert.ExpertsReferenceIdeal.Value.run (F := Ideal) m ρ)
theorem frame_ri_pre : Cert.quiescent_ExpertsReferenceIdeal_pre_routed := fun m ρ _ => frame_ri m ρ trivial

theorem preserves : Cert.preserves_Experts_ExpertsIdeal := trivial

theorem algebraic : Cert.algebraic_ExpertsIdeal_ExpertsReferenceIdeal := by
  intro m ρ m' ρ' hpre hagree
  have ok := Cert.ExpertsIdeal.Gen.ok_of_pre m hpre
  refine ⟨fun c => _, (θ_run Cert.ExpertsIdeal.defs _ _).mono (fun r h c => ⟨((h.1 c).1).trans (Cert.ExpertsIdeal.Gen.final m ok c), (h.1 c).2 _ (by simp), (h.1 c).2 _ (by simp),
    (h.1 c).2 _ (by simp), (h.1 c).2 _ (by simp), (h.1 c).2 _ (by simp), (h.1 c).2 _ (by simp), (h.1 c).2 _ (by simp)⟩) (Cert.ExpertsIdeal.Gen.run_args m ok ρ), ?_⟩
  refine (θ_run Cert.ExpertsReferenceIdeal.defs _ _).mono (fun _ h c => ⟨(h c).1.trans ?_, (h c).2⟩)
    (Cert.ExpertsReferenceIdeal.Value.run (F := Ideal) m' ρ')
  obtain ⟨h0, h1, h2, h3, h4, h5, h6⟩ := hagree c
  rw [Cert.ExpertsReferenceIdeal.Stage.res_eq, h0, h1, h2, h3, h4, h5, h6]
  refine Cert.ExpertsReferenceIdeal.Stage.result_eq _ _ _ _ _ _ _ ?_
  obtain rfl : c = 0 := Subsingleton.elim _ _
  exact ok

end Cert.Proof.Experts

end
-- ==== Proof.OutProj.lean ====
/-
  THE OUTPUT PROJECTION. Grid point `(i, j)` computes rows `1024 i …` and columns `512 j …` of the product of the mixed rows
  with one layer's weights, each entry as one sum over the 4096 inner positions. The reference is the same product.
-/
module

public import proofs.«01_k».proof.Defs
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjReferenceIdeal.Run
public import Idealize.ShloMosaic.Lib.Pipeline.ValueKit
public import Idealize.ShloMosaic.Lib.Pointwise
public import Idealize.ShloMosaic.Lib.Quiescent

@[expose] public section

set_option maxRecDepth 16384

noncomputable section

namespace Cert.OutProjIdeal.Product

open Idealize.ShloMosaic Idealize.ShloMosaic.TcCoe Idealize.SL.Sem Cert.OutProjIdeal Cert.OutProjIdeal.Gen

/-- Entry `(r, c)` of the product of the rows with layer 0's weights. -/
def prod (o : FVec Ideal S16384x4096 .bf16) (w : FVec Ideal S2x4096x4096 .bf16) (r : Fin 16384) (c : Fin 4096) : EReal :=
  ∑ k : Fin 4096, o (ix2 r k) * w (ix3 (0 : Fin 2) k c)

/-- One block's product. -/
theorem pay_at (a : FVec Ideal S1024x4096 .bf16) (b : FVec Ideal S1x4096x512 .bf16) (r : Fin 1024) (c : Fin 512) :
    (k0_pay1 (F := Ideal) a b (ix2 r c) : EReal) = ∑ k : Fin 4096, (a (ix2 r k) : EReal) * b (ix3 (0 : Fin 1) k c) := by
  pointwise [k0_pay1]

variable (m : (ℓ : Loc nD τ sig) → Buf (Elt Ideal) ℓ)

theorem idx0 : ∀ t : Fin cfg0.N, win0_0.index t = ![(grid0.coords t 0).val, 0] := by decide +kernel
theorem idx1 : ∀ t : Fin cfg0.N, win0_1.index t = ![0, 0, (grid0.coords t 1).val] := by decide +kernel
theorem idx2 : ∀ t : Fin cfg0.N, win0_2.index t = ![(grid0.coords t 0).val, (grid0.coords t 1).val] := by decide +kernel

variable (c : Dev nD) (t : Fin cfg0.N)

theorem lt0 : (grid0.coords t 0).val < 16 := (grid0.coords t 0).isLt
theorem lt1 : (grid0.coords t 1).val < 8 := (grid0.coords t 1).isLt

theorem blk0 (r : Fin 1024) (k : Fin 4096) : iblk m c 0 t (ix2 r k)
    = m ((c.tc : Thread nD τ).loc main_arg0) (ix2 (⟨(grid0.coords t 0).val * 1024 + r.val, by have := lt0 t; omega⟩ : Fin 16384) k) := by
  blk_ext [iblk, V, idx0 t]

theorem blk1 (k : Fin 4096) (q : Fin 512) : iblk m c 1 t (ix3 (0 : Fin 1) k q)
    = m ((c.tc : Thread nD τ).loc main_arg1) (ix3 (0 : Fin 2) k (⟨(grid0.coords t 1).val * 512 + q.val, by have := lt1 t; omega⟩ : Fin 4096)) := by
  blk_ext [iblk, V, idx1 t]

/-- The array after the run. -/
theorem final : (dats m 0 c).arrAt 2 cfg0.N = fun i => prod (m ((c.tc : Thread nD τ).loc main_arg0)) (m ((c.tc : Thread nD τ).loc main_arg1)) (i 0) (i 1) := by
  refine (dats m 0 c).arrAt_eq_of_covers 2 _ (by decide +kernel) fun t hf y => ?_
  blk_simp
  rw [after0_2]
  frame_out
  have e0 : (((View.whole main_v0).slice (win0_2.rect t)).emb y 0).val = (grid0.coords t 0).val * 1024 + (y 0).val := by
    blk_simp [idx2 t]
  have e1 : (((View.whole main_v0).slice (win0_2.rect t)).emb y 1).val = (grid0.coords t 1).val * 512 + (y 1).val := by
    blk_simp [idx2 t]
  generalize (((View.whole main_v0).slice (win0_2.rect t)).emb y) = Y at e0 e1 ⊢
  rw [show y = ix2 (y 0) (y 1) from by pointwise]
  refine (pay_at _ _ (y 0) (y 1)).trans (Finset.sum_congr rfl fun k _ => ?_)
  refine congrArg₂ (· * ·) ((blk0 m c t (y 0) k).trans ?_) ((blk1 m c t k (y 1)).trans ?_)
  · congr 2; apply Fin.ext; exact e0.symm
  · congr 2; apply Fin.ext; exact e1.symm

end Cert.OutProjIdeal.Product

namespace Cert.OutProjReferenceIdeal.Product

open Idealize.ShloMosaic Cert.OutProjReferenceIdeal Cert.OutProjReferenceIdeal.Gen

/-- The reference's result is the same product. -/
theorem reference_at (o : FVec Ideal S16384x4096 .bf16) (w : FVec Ideal S2x4096x4096 .bf16) :
    Host.dotGeneral dot_S16384x4096_S4096x4096_S16384x4096_1_0_0_1_n_n none (extf .f32 o bitsLt_bf16_f32)
      (extf .f32 (shapeCast _ (extractStridedSlice S1x4096x4096 ![0, 0, 0] w slices_S2x4096x4096_S1x4096x4096_0_0_0) shapeCasts_S1x4096x4096_S4096x4096) bitsLt_bf16_f32)
      = fun i => Cert.OutProjIdeal.Product.prod o w (i 0) (i 1) := by
  funext i
  rw [show i = ix2 (i 0) (i 1) from by pointwise]
  pointwise [Cert.OutProjIdeal.Product.prod]

end Cert.OutProjReferenceIdeal.Product

namespace Cert.Proof.OutProj

open Idealize.ShloMosaic Idealize.ShloMosaic.TcCoe Idealize.SL.Sem

theorem frame_p : Cert.quiescent_OutProj := fun m ρ _ => Cert.OutProj.Gen.frame m ρ
theorem frame_pi : Cert.quiescent_OutProjIdeal := fun m ρ _ => Cert.OutProjIdeal.Gen.frame m ρ
theorem frame_ri : Cert.quiescent_OutProjReferenceIdeal := fun m ρ _ =>
  (θ_run Cert.OutProjReferenceIdeal.defs _ _).mono (fun r h => ⟨fun c => (h c).2, sem_eq_zero_of_no_sems (by decide) r.2⟩)
    (Cert.OutProjReferenceIdeal.Value.run (F := Ideal) m ρ)

/-- Nothing is rewritten. -/
theorem preserves : Cert.preserves_OutProj_OutProjIdeal := trivial

theorem algebraic : Cert.algebraic_OutProjIdeal_OutProjReferenceIdeal := by
  intro m ρ m' ρ' _ hagree
  refine ⟨_, Cert.OutProjIdeal.Value.run_blocks (F := Ideal) m ρ, ?_⟩
  refine (θ_run Cert.OutProjReferenceIdeal.defs _ _).mono (fun _ h c => ⟨(h c).1.trans ?_, (h c).2⟩)
    (Cert.OutProjReferenceIdeal.Value.run (F := Ideal) m' ρ')
  rw [(hagree c).1, (hagree c).2]
  exact (Cert.OutProjReferenceIdeal.Product.reference_at _ _).trans (Cert.OutProjIdeal.Product.final m c).symm

end Cert.Proof.OutProj

end
-- ==== Proof.OddInIdealBody.lean ====
/-
  THE BODY OF THE ODD LAYERS' INPUT PROJECTION, RUN. The body has two ways through a point of the grid: a block of columns
  whose mode is zero is the product itself (path A), any other is turned by the table of its mode (path B). Each is run
  once here on arbitrary whole staging buffers and arbitrary table contents, of the idealized program.
-/
module

public import proofs.«01_k».proof.Proof.Gen.OddInIdeal.Skeleton
public import proofs.«01_k».proof.Proof.Gen.OddInIdeal.Launch
public import Idealize.ShloMosaic.Lib.Tactic
public import Idealize.ShloMosaic.Lib.Ring
public import Idealize.ShloMosaic.Lib.Pipeline.TableIdle
public import Idealize.ShloMosaic.Lib.Pipeline.FrameBody
public import Idealize.ShloMosaic.Lib.Pipeline.Frame
public import Idealize.ShloMosaic.Lib.Pipeline.ValueKit

@[expose] public section

set_option Elab.async false

noncomputable section

namespace Cert.OddInIdeal.Gen

open Cert.OddInIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The table of modes as the body is handed it. -/
abbrev tbM_0 : Memref sig .tc .smem S24 .i32 := Memref.whole main_c

/-- One staging buffer of the output, through which its contents are stated. -/
abbrev VO0_3 : View sig .tc .vmem S1024x512 .bf16 := (Memref.whole cc0_stg3_0 : Memref sig .tc .vmem S1024x512 .bf16).view

set_option backward.proofsInPublic true in
set_option maxHeartbeats 8000000 in
/-- PATH A: the mode is zero. What the body leaves in the output's staging buffer, with the proof that, holding its inputs at their blocks
    and its half of the table, it runs and leaves that. -/
noncomputable def kernelRun0_A (c : Dev nD) (i : grid0.Coords) (arg3 : Memref sig .tc .vmem S1024x4096 .bf16) (harg3 : arg3.IsWhole) (arg4 : Memref sig .tc .vmem S1x4096x512 .bf16) (harg4 : arg4.IsWhole) (arg5 : Memref sig .tc .vmem S1x1024x384 .f32) (harg5 : arg5.IsWhole) (arg6 : Memref sig .tc .vmem S1024x512 .bf16) (harg6 : arg6.IsWhole) (T0 : S24.Idx → Elt F .i32)
    (x0 : S1024x4096.Idx → Elt F .bf16) (x1 : S1x4096x512.Idx → Elt F .bf16) (x2 : S1x1024x384.Idx → Elt F .f32) (k0_h1 : k0_cond1 (View.readAt (Elt F) (tbM_0).view (Rect.unit (s := S24) (k0_off1 i) S1.size (k0_off1_inb i)).toLoadRect T0 (Shape.Idx.first (numel1_S1.symm ▸ Nat.one_pos))) = 1#1) (k0_h2 : ¬(k0_cond2 (View.readAt (Elt F) (tbM_0).view (Rect.unit (s := S24) (k0_off1 i) S1.size (k0_off1_inb i)).toLoadRect T0 (Shape.Idx.first (numel1_S1.symm ▸ Nat.one_pos))) = 1#1)) :
    { out0 : List (View.Piece (Elt F) S1024x512 .bf16) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbM_0.view.loc (c : Thread nD τ) ↦{fullShare.right} T0)
          ∗ (∃ d, owns (c : Thread nD τ) arg6 fullShare d)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbM_0.view.loc (c : Thread nD τ) ↦{fullShare.right} T0)
              ∗ (∃ f, arg6.view.loc (c : Thread nD τ) ↦[arg6.view.set]{fullShare} arg6.view.writes (Elt F) f out0)) -∗ K ⟨⟩))
          ⊢ wp frame (wpE (defs₀ (F := F)) Variants.none c none) Set.univ (cc0_odd_in_proj i tbM_0 (Memref.isWhole_whole _) arg3 harg3 arg4 harg4 arg5 harg5 arg6 harg6) K } :=
  ⟨_, fun K => by
    unfold owns
    rw [cc0_odd_in_proj_eq_skeleton]; unfold cc0_odd_in_proj_skel
    rw [k0_part1_eq_skeleton]; unfold k0_part1_skel
    iintro ⟨H0, H1, H2, HT0, ⟨%d3, %f3, -, HO3⟩, Hk⟩
    have hT0 : tbM_0.IsWhole := Memref.isWhole_whole _
    sl_exec! (disch := first | (guard_target = k0_cond1 _ = _; exact k0_h1) | (guard_target = ¬(k0_cond2 _ = _); exact k0_h2))
    sl_step
    iapply Hk
    isplitl [H0]; · iexact H0
    isplitl [H1]; · iexact H1
    isplitl [H2]; · iexact H2
    isplitl [HT0]; · iexact HT0
    iexists _; iexact HO3⟩

/-- Its stores cover the block. -/
theorem cover0_A_3 (c : Dev nD) (i : grid0.Coords) (arg3 : Memref sig .tc .vmem S1024x4096 .bf16) (harg3 : arg3.IsWhole) (arg4 : Memref sig .tc .vmem S1x4096x512 .bf16) (harg4 : arg4.IsWhole) (arg5 : Memref sig .tc .vmem S1x1024x384 .f32) (harg5 : arg5.IsWhole) (arg6 : Memref sig .tc .vmem S1024x512 .bf16) (harg6 : arg6.IsWhole) (T0 : S24.Idx → Elt F .i32)
    (x0 : S1024x4096.Idx → Elt F .bf16) (x1 : S1x4096x512.Idx → Elt F .bf16) (x2 : S1x1024x384.Idx → Elt F .f32) (k0_h1 : k0_cond1 (View.readAt (Elt F) (tbM_0).view (Rect.unit (s := S24) (k0_off1 i) S1.size (k0_off1_inb i)).toLoadRect T0 (Shape.Idx.first (numel1_S1.symm ▸ Nat.one_pos))) = 1#1) (k0_h2 : ¬(k0_cond2 (View.readAt (Elt F) (tbM_0).view (Rect.unit (s := S24) (k0_off1 i) S1.size (k0_off1_inb i)).toLoadRect T0 (Shape.Idx.first (numel1_S1.symm ▸ Nat.one_pos))) = 1#1)) (y : S1024x512.Idx) :
    ∃ pc ∈ (kernelRun0_A c i arg3 harg3 arg4 harg4 arg5 harg5 arg6 harg6 T0 x0 x1 x2 k0_h1 k0_h2).1, y ∈ pc.1.set :=
  View.cover_of_tiledL (kernelRun0_A c i arg3 harg3 arg4 harg4 arg5 harg5 arg6 harg6 T0 x0 x1 x2 k0_h1 k0_h2).1 S1024x512.size (by sl_kernel_rfl) y

/-- What the block then holds. -/
noncomputable def out0_A_3 (c : Dev nD) (i : grid0.Coords) (arg3 : Memref sig .tc .vmem S1024x4096 .bf16) (harg3 : arg3.IsWhole) (arg4 : Memref sig .tc .vmem S1x4096x512 .bf16) (harg4 : arg4.IsWhole) (arg5 : Memref sig .tc .vmem S1x1024x384 .f32) (harg5 : arg5.IsWhole) (arg6 : Memref sig .tc .vmem S1024x512 .bf16) (harg6 : arg6.IsWhole) (T0 : S24.Idx → Elt F .i32)
    (x0 : S1024x4096.Idx → Elt F .bf16) (x1 : S1x4096x512.Idx → Elt F .bf16) (x2 : S1x1024x384.Idx → Elt F .f32) (k0_h1 : k0_cond1 (View.readAt (Elt F) (tbM_0).view (Rect.unit (s := S24) (k0_off1 i) S1.size (k0_off1_inb i)).toLoadRect T0 (Shape.Idx.first (numel1_S1.symm ▸ Nat.one_pos))) = 1#1) (k0_h2 : ¬(k0_cond2 (View.readAt (Elt F) (tbM_0).view (Rect.unit (s := S24) (k0_off1 i) S1.size (k0_off1_inb i)).toLoadRect T0 (Shape.Idx.first (numel1_S1.symm ▸ Nat.one_pos))) = 1#1)) : S1024x512.Idx → Elt F .bf16 :=
  VO0_3.read (Elt F) (VO0_3.writes (Elt F) VO0_3.junk (kernelRun0_A c i arg3 harg3 arg4 harg4 arg5 harg5 arg6 harg6 T0 x0 x1 x2 k0_h1 k0_h2).1)

set_option backward.proofsInPublic true in
set_option maxHeartbeats 8000000 in
/-- PATH B: the mode is not zero. What the body leaves in the output's staging buffer, with the proof that, holding its inputs at their blocks
    and its half of the table, it runs and leaves that. -/
noncomputable def kernelRun0_B (c : Dev nD) (i : grid0.Coords) (arg3 : Memref sig .tc .vmem S1024x4096 .bf16) (harg3 : arg3.IsWhole) (arg4 : Memref sig .tc .vmem S1x4096x512 .bf16) (harg4 : arg4.IsWhole) (arg5 : Memref sig .tc .vmem S1x1024x384 .f32) (harg5 : arg5.IsWhole) (arg6 : Memref sig .tc .vmem S1024x512 .bf16) (harg6 : arg6.IsWhole) (T0 : S24.Idx → Elt F .i32)
    (x0 : S1024x4096.Idx → Elt F .bf16) (x1 : S1x4096x512.Idx → Elt F .bf16) (x2 : S1x1024x384.Idx → Elt F .f32) (k0_h1 : ¬(k0_cond1 (View.readAt (Elt F) (tbM_0).view (Rect.unit (s := S24) (k0_off1 i) S1.size (k0_off1_inb i)).toLoadRect T0 (Shape.Idx.first (numel1_S1.symm ▸ Nat.one_pos))) = 1#1)) (k0_h2 : k0_cond2 (View.readAt (Elt F) (tbM_0).view (Rect.unit (s := S24) (k0_off1 i) S1.size (k0_off1_inb i)).toLoadRect T0 (Shape.Idx.first (numel1_S1.symm ▸ Nat.one_pos))) = 1#1) :
    { out0 : List (View.Piece (Elt F) S1024x512 .bf16) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbM_0.view.loc (c : Thread nD τ) ↦{fullShare.right} T0)
          ∗ (∃ d, owns (c : Thread nD τ) arg6 fullShare d)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbM_0.view.loc (c : Thread nD τ) ↦{fullShare.right} T0)
              ∗ (∃ f, arg6.view.loc (c : Thread nD τ) ↦[arg6.view.set]{fullShare} arg6.view.writes (Elt F) f out0)) -∗ K ⟨⟩))
          ⊢ wp frame (wpE (defs₀ (F := F)) Variants.none c none) Set.univ (cc0_odd_in_proj i tbM_0 (Memref.isWhole_whole _) arg3 harg3 arg4 harg4 arg5 harg5 arg6 harg6) K } :=
  ⟨_, fun K => by
    unfold owns
    rw [cc0_odd_in_proj_eq_skeleton]; unfold cc0_odd_in_proj_skel
    rw [k0_part1_eq_skeleton]; unfold k0_part1_skel
    iintro ⟨H0, H1, H2, HT0, ⟨%d3, %f3, -, HO3⟩, Hk⟩
    have hT0 : tbM_0.IsWhole := Memref.isWhole_whole _
    sl_exec! (disch := first | (guard_target = ¬(k0_cond1 _ = _); exact k0_h1) | (guard_target = k0_cond2 _ = _; exact k0_h2))
    sl_step
    iapply Hk
    isplitl [H0]; · iexact H0
    isplitl [H1]; · iexact H1
    isplitl [H2]; · iexact H2
    isplitl [HT0]; · iexact HT0
    iexists _; iexact HO3⟩

/-- Its stores cover the block. -/
theorem cover0_B_3 (c : Dev nD) (i : grid0.Coords) (arg3 : Memref sig .tc .vmem S1024x4096 .bf16) (harg3 : arg3.IsWhole) (arg4 : Memref sig .tc .vmem S1x4096x512 .bf16) (harg4 : arg4.IsWhole) (arg5 : Memref sig .tc .vmem S1x1024x384 .f32) (harg5 : arg5.IsWhole) (arg6 : Memref sig .tc .vmem S1024x512 .bf16) (harg6 : arg6.IsWhole) (T0 : S24.Idx → Elt F .i32)
    (x0 : S1024x4096.Idx → Elt F .bf16) (x1 : S1x4096x512.Idx → Elt F .bf16) (x2 : S1x1024x384.Idx → Elt F .f32) (k0_h1 : ¬(k0_cond1 (View.readAt (Elt F) (tbM_0).view (Rect.unit (s := S24) (k0_off1 i) S1.size (k0_off1_inb i)).toLoadRect T0 (Shape.Idx.first (numel1_S1.symm ▸ Nat.one_pos))) = 1#1)) (k0_h2 : k0_cond2 (View.readAt (Elt F) (tbM_0).view (Rect.unit (s := S24) (k0_off1 i) S1.size (k0_off1_inb i)).toLoadRect T0 (Shape.Idx.first (numel1_S1.symm ▸ Nat.one_pos))) = 1#1) (y : S1024x512.Idx) :
    ∃ pc ∈ (kernelRun0_B c i arg3 harg3 arg4 harg4 arg5 harg5 arg6 harg6 T0 x0 x1 x2 k0_h1 k0_h2).1, y ∈ pc.1.set :=
  View.cover_of_tiledL (kernelRun0_B c i arg3 harg3 arg4 harg4 arg5 harg5 arg6 harg6 T0 x0 x1 x2 k0_h1 k0_h2).1 S1024x128.size (by sl_kernel_rfl) y

/-- What the block then holds. -/
noncomputable def out0_B_3 (c : Dev nD) (i : grid0.Coords) (arg3 : Memref sig .tc .vmem S1024x4096 .bf16) (harg3 : arg3.IsWhole) (arg4 : Memref sig .tc .vmem S1x4096x512 .bf16) (harg4 : arg4.IsWhole) (arg5 : Memref sig .tc .vmem S1x1024x384 .f32) (harg5 : arg5.IsWhole) (arg6 : Memref sig .tc .vmem S1024x512 .bf16) (harg6 : arg6.IsWhole) (T0 : S24.Idx → Elt F .i32)
    (x0 : S1024x4096.Idx → Elt F .bf16) (x1 : S1x4096x512.Idx → Elt F .bf16) (x2 : S1x1024x384.Idx → Elt F .f32) (k0_h1 : ¬(k0_cond1 (View.readAt (Elt F) (tbM_0).view (Rect.unit (s := S24) (k0_off1 i) S1.size (k0_off1_inb i)).toLoadRect T0 (Shape.Idx.first (numel1_S1.symm ▸ Nat.one_pos))) = 1#1)) (k0_h2 : k0_cond2 (View.readAt (Elt F) (tbM_0).view (Rect.unit (s := S24) (k0_off1 i) S1.size (k0_off1_inb i)).toLoadRect T0 (Shape.Idx.first (numel1_S1.symm ▸ Nat.one_pos))) = 1#1) : S1024x512.Idx → Elt F .bf16 :=
  VO0_3.read (Elt F) (VO0_3.writes (Elt F) VO0_3.junk (kernelRun0_B c i arg3 harg3 arg4 harg4 arg5 harg5 arg6 harg6 T0 x0 x1 x2 k0_h1 k0_h2).1)

end Cert.OddInIdeal.Gen

end
-- ==== Proof.OddInIdealFrame.lean ====
/-
  THE RUN OF THE ODD LAYERS' INPUT PROJECTION. The body obligation by the two ways through a point, then the launch: the
  host operations that write the modes and build the tables of cosines and sines, then the grid. The modes are the
  program's own constants, so every block is inside its array.
-/
module

public import proofs.«01_k».proof.Defs
public import proofs.«01_k».proof.Proof.OddInIdealBody

@[expose] public section

set_option Elab.async false

noncomputable section

namespace Cert.OddInIdeal.Gen

open Cert.OddInIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The contents of the TensorCore's buffers when the grid starts. -/
abbrev Entry (F : FTy → Type) := (c : Dev nD) → (b : Ref sig .tc) → Buf (Elt F) ((c.tc : Thread nD τ).loc b)

variable (a : (pcfg0 (F := F)).Adm) (V : Entry F)

abbrev crd (t : Fin (cfg0 a).N) : grid0.Coords := (cfg0 a).grid.coords t
abbrev ms0_0 (t : Fin (cfg0 a).N) : Memref sig .tc .vmem S1024x4096 .bf16 := spec0_0.stage ((cfg0 a).slots t (0 : Fin 4))
theorem hs0_0 (t : Fin (cfg0 a).N) : (ms0_0 a t).IsWhole := hstage0_0 (((cfg0 a).slots t (0 : Fin 4)).cast nbuf0_0)
abbrev ms0_1 (t : Fin (cfg0 a).N) : Memref sig .tc .vmem S1x4096x512 .bf16 := spec0_1.stage ((cfg0 a).slots t (1 : Fin 4))
theorem hs0_1 (t : Fin (cfg0 a).N) : (ms0_1 a t).IsWhole := hstage0_1 (((cfg0 a).slots t (1 : Fin 4)).cast nbuf0_1)
abbrev ms0_2 (t : Fin (cfg0 a).N) : Memref sig .tc .vmem S1x1024x384 .f32 := spec0_2.stage ((cfg0 a).slots t (2 : Fin 4))
theorem hs0_2 (t : Fin (cfg0 a).N) : (ms0_2 a t).IsWhole := hstage0_2 (((cfg0 a).slots t (2 : Fin 4)).cast nbuf0_2)
abbrev ms0_3 (t : Fin (cfg0 a).N) : Memref sig .tc .vmem S1024x512 .bf16 := spec0_3.stage ((cfg0 a).slots t (3 : Fin 4))
theorem hs0_3 (t : Fin (cfg0 a).N) : (ms0_3 a t).IsWhole := hstage0_3 (((cfg0 a).slots t (3 : Fin 4)).cast nbuf0_3)

/-- Window `w`'s block at point `t`, read off its array at entry. -/
def iblk (c : Dev nD) (w : Fin (cfg0 a).W) (t : Fin (cfg0 a).N) :
    (((cfg0 a).win w).xblock (crd a t)).Idx → Elt F ((cfg0 a).win w).elt :=
  (((cfg0 a).win w).blk t).view.read (Elt F) (V c (Pipeline.arrRef (cfg0 a).spec w))

/-- The word the body tests: the mode of the block of columns. -/
abbrev word (i : grid0.Coords) : BitVec 32 := View.readAt (Elt F) (tbM_0).view (Rect.unit (s := S24) (k0_off1 i) S1.size (k0_off1_inb i)).toLoadRect (a.1 0) (Shape.Idx.first (numel1_S1.symm ▸ Nat.one_pos))

/-- The two tests are each other's negation. -/
theorem cond2_iff (w : BitVec 32) : k0_cond2 w = 1#1 ↔ ¬ (k0_cond1 w = 1#1) := by
  have e1 : k0_cond1 w = 1#1 ↔ w = 0#32 := by
    unfold k0_cond1
    by_cases h : w = 0#32
    · simp [Scalar.cmpi, Scalar.extui, IntOp.cmpi, h]
    · have hb : (w == 0#32) = false := by simpa using h
      simp [Scalar.cmpi, Scalar.extui, IntOp.cmpi, h, hb, bne]
  have e2 : k0_cond2 w = 1#1 ↔ ¬ w = 0#32 := by
    unfold k0_cond2
    by_cases h : w = 0#32
    · simp [Scalar.cmpi, Scalar.extui, IntOp.cmpi, h]
    · have hb : (w == 0#32) = false := by simpa using h
      simp [Scalar.cmpi, Scalar.extui, IntOp.cmpi, h, hb, bne]
  rw [e1, e2]

theorem not_cond2 (w : BitVec 32) (h : k0_cond1 w = 1#1) : ¬ (k0_cond2 w = 1#1) :=
  fun h2 => (cond2_iff w).1 h2 h

/-- What the output's block holds after point `t`. -/
def outAt (c : Dev nD) (t : Fin (cfg0 a).N) : S1024x512.Idx → Elt F .bf16 :=
  if h : k0_cond1 (word a (crd a t)) = 1#1 then
    out0_A_3 c (crd a t) (ms0_0 a t) (hs0_0 a t) (ms0_1 a t) (hs0_1 a t) (ms0_2 a t) (hs0_2 a t) (ms0_3 a t) (hs0_3 a t) (a.1 0) (iblk a V c (0 : Fin 4) t) (iblk a V c (1 : Fin 4) t) (iblk a V c (2 : Fin 4) t) h (not_cond2 _ h)
  else
    out0_B_3 c (crd a t) (ms0_0 a t) (hs0_0 a t) (ms0_1 a t) (hs0_1 a t) (ms0_2 a t) (hs0_2 a t) (ms0_3 a t) (hs0_3 a t) (a.1 0) (iblk a V c (0 : Fin 4) t) (iblk a V c (1 : Fin 4) t) (iblk a V c (2 : Fin 4) t) h ((cond2_iff _).2 h)

/-- No point leaves the output untouched. -/
theorem idle_3 (i : grid0.Coords) : (cfg0 a).idle (3 : Fin 4) i = false := by
  show (!(k0_cond1 (a.1.atD 0 (k0_off1 i)) == 1#1) && !(k0_cond2 (a.1.atD 0 (k0_off1 i)) == 1#1)) = false
  by_cases h : k0_cond1 (a.1.atD 0 (k0_off1 i)) = 1#1
  · simp [h]
  · simp [h, (cond2_iff _).2 h]

/-- The pipeline's proof data. -/
def dats (_ : Fin 1) (c : Dev nD) : Dat τ (Elt F) Unit ℕ (UR sig nD τ) ℕ (cfg0 a) c where
  A w := V c (Pipeline.arrRef (cfg0 a).spec w)
  after w t := match w with
    | ⟨0, _⟩ => iblk a V c (0 : Fin 4) t
    | ⟨1, _⟩ => iblk a V c (1 : Fin 4) t
    | ⟨2, _⟩ => iblk a V c (2 : Fin 4) t
    | ⟨3, _⟩ => outAt a V c t
  Φ _ := iprop(Pipeline.ΦA (cfg0 a).spec c ∗ Pipeline.ΦT pre0 a.1 c)
  q _ := fullShare
  owed _ := 0
theorem after0_0 (c : Dev nD) (t : Fin (cfg0 a).N) : (dats a V 0 c).after (0 : Fin 4) t = iblk a V c (0 : Fin 4) t := rfl
theorem after0_1 (c : Dev nD) (t : Fin (cfg0 a).N) : (dats a V 0 c).after (1 : Fin 4) t = iblk a V c (1 : Fin 4) t := rfl
theorem after0_2 (c : Dev nD) (t : Fin (cfg0 a).N) : (dats a V 0 c).after (2 : Fin 4) t = iblk a V c (2 : Fin 4) t := rfl
theorem after0_3 (c : Dev nD) (t : Fin (cfg0 a).N) : (dats a V 0 c).after (3 : Fin 4) t = outAt a V c t := rfl

theorem before0_0 (c : Dev nD) (t : Fin (cfg0 a).N) (d) : (dats a V 0 c).before (0 : Fin 4) t d = iblk a V c (0 : Fin 4) t :=
  ((dats a V 0 c).before_in_eq_fetched (0 : Fin 4) rfl (fun _ => rfl) (fun _ _ _ => rfl) (fun t => by rw [after0_0]; unfold Dat.blockOf iblk; rfl) t d).trans
    (by unfold Dat.fetched Dat.blockOf iblk; rfl)
theorem before0_1 (c : Dev nD) (t : Fin (cfg0 a).N) (d) : (dats a V 0 c).before (1 : Fin 4) t d = iblk a V c (1 : Fin 4) t :=
  ((dats a V 0 c).before_in_eq_fetched (1 : Fin 4) rfl (fun _ => rfl) (fun _ _ _ => rfl) (fun t => by rw [after0_1]; unfold Dat.blockOf iblk; rfl) t d).trans
    (by unfold Dat.fetched Dat.blockOf iblk; rfl)
theorem before0_2 (c : Dev nD) (t : Fin (cfg0 a).N) (d) : (dats a V 0 c).before (2 : Fin 4) t d = iblk a V c (2 : Fin 4) t :=
  ((dats a V 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- The one table. -/
theorem prefHeld_eq (c : Dev nD) (q : Fin 1 → PosShare TreeShare) (v : pre0.Contents (Elt F)) :
    (Pipeline.prefHeld (Ix := Unit) (Name := ℕ) (U := UR sig nD τ) (Lvl := ℕ) pre0 c q v : sProp 𝕄)
      = iprop(((c : Thread nD τ).loc main_c) ↦{q 0} v 0) := by
  unfold Pipeline.prefHeld
  rw [show (Finset.univ : Finset (Fin 1)) = {(0 : Fin 1)} from by decide, bigSep_singleton]
  rfl

/-- The body at point `t` on its staging buffers. -/
abbrev bodyAt0 (t : Fin (cfg0 a).N) : Prog (TpuEff nD τ sig (Elt F) Λ₀ .tc) PUnit :=
  cc0_odd_in_proj (crd a t) tbM_0 (Memref.isWhole_whole _) (ms0_0 a t) (hs0_0 a t) (ms0_1 a t) (hs0_1 a t) (ms0_2 a t) (hs0_2 a t) (ms0_3 a t) (hs0_3 a t)

set_option maxHeartbeats 4000000 in
/-- The body obligation at point `t`: which way the point goes is told by its first test. -/
theorem sound_body (c : Dev nD) (t : Fin (cfg0 a).N) :
    iprop((dats a V 0 c).Φ t.castSucc ∗ (dats a V 0 c).owesAt () t.castSucc
        ∗ (∃ d, owns (c : Thread nD τ) (ms0_0 a t) fullShare ((dats a V 0 c).before (0 : Fin 4) t d))
        ∗ (∃ d, owns (c : Thread nD τ) (ms0_1 a t) fullShare ((dats a V 0 c).before (1 : Fin 4) t d))
        ∗ (∃ d, owns (c : Thread nD τ) (ms0_2 a t) fullShare ((dats a V 0 c).before (2 : Fin 4) t d))
        ∗ (∃ d, owns (c : Thread nD τ) (ms0_3 a t) fullShare ((dats a V 0 c).before (3 : Fin 4) t d)))
      ⊢ wp frame (wpE (defs₀ (F := F)) Variants.none c none) Set.univ (bodyAt0 a t) fun _ =>
          iprop((dats a V 0 c).Φ t.succ ∗ (dats a V 0 c).owesAt () t.succ
            ∗ bigSep Finset.univ fun w : Fin (cfg0 a).W =>
                match (cfg0 a).idle w ((cfg0 a).grid.coords t) with
                | true =>
                  match ((cfg0 a).win w).flush t with
                  | false => iprop(∃ d, owns (c : Thread nD τ) (((cfg0 a).win w).stage ((cfg0 a).slots t w)) fullShare ((dats a V 0 c).before w t d))
                  | true => owns (c : Thread nD τ) (((cfg0 a).win w).stage ((cfg0 a).slots t w)) fullShare ((dats a V 0 c).after w t)
                | false => owns (c : Thread nD τ) (((cfg0 a).win w).stage ((cfg0 a).slots t w)) fullShare ((dats a V 0 c).after w t)) := by
  rw [bigSep_W0]
  rewrite [idle_3 a]
  simp only [before0_0, before0_1, before0_2, after0_0, after0_1, after0_2, after0_3]
  rewrite [show (dats a V 0 c).Φ t.succ = iprop(Pipeline.ΦA (cfg0 a).spec c ∗ Pipeline.ΦT pre0 a.1 c) from rfl,
    show (dats a V 0 c).Φ t.castSucc = iprop(Pipeline.ΦA (cfg0 a).spec c ∗ Pipeline.ΦT pre0 a.1 c) from rfl,
    show (dats a V 0 c).owesAt () t.succ = (dats a V 0 c).owesAt () t.castSucc from rfl]
  rw [show (Pipeline.ΦT pre0 a.1 c : sProp 𝕄) = _ from prefHeld_eq c _ _]
  by_cases h : k0_cond1 (word a (crd a t)) = 1#1
  · rw [show outAt a V c t = out0_A_3 c (crd a t) (ms0_0 a t) (hs0_0 a t) (ms0_1 a t) (hs0_1 a t) (ms0_2 a t) (hs0_2 a t) (ms0_3 a t) (hs0_3 a t) (a.1 0) (iblk a V c (0 : Fin 4) t) (iblk a V c (1 : Fin 4) t) (iblk a V c (2 : Fin 4) t) h (not_cond2 _ h) from by unfold outAt; rw [dif_pos h]]
    iintro ⟨⟨HA, HT0⟩, Ho, ⟨%d0, H0⟩, ⟨%d1, H1⟩, ⟨%d2, H2⟩, ⟨%d3, H3⟩⟩
    iapply ((kernelRun0_A c (crd a t) (ms0_0 a t) (hs0_0 a t) (ms0_1 a t) (hs0_1 a t) (ms0_2 a t) (hs0_2 a t) (ms0_3 a t) (hs0_3 a t) (a.1 0) (iblk a V c (0 : Fin 4) t) (iblk a V c (1 : Fin 4) t) (iblk a V c (2 : Fin 4) t) h (not_cond2 _ h)).2 _)
    isplitl [H0]; · iapply rep_of_owns; iexact H0
    isplitl [H1]; · iapply rep_of_owns; iexact H1
    isplitl [H2]; · iapply rep_of_owns; iexact H2
    isplitl [HT0]; · iexact HT0
    isplitl [H3]; · iexists _; iexact H3
    iintro ⟨H0, H1, H2, HT0, ⟨%e3, H3⟩⟩
    isplitl [HA HT0]
    · isplitl [HA]
      · iexact HA
      iexact HT0
    isplitl [Ho]; · iexact Ho
    isplitl [H0]
    · iapply owns_of_rep; iexact H0
    isplitl [H1]
    · iapply owns_of_rep; iexact H1
    isplitl [H2]
    · iapply owns_of_rep; iexact H2
    unfold owns; iexists _; isplitr; swap
    · iexact H3
    · ipureintro; exact View.read_writes_of_cover _ _ _ _ _ (cover0_A_3 c (crd a t) (ms0_0 a t) (hs0_0 a t) (ms0_1 a t) (hs0_1 a t) (ms0_2 a t) (hs0_2 a t) (ms0_3 a t) (hs0_3 a t) (a.1 0) (iblk a V c (0 : Fin 4) t) (iblk a V c (1 : Fin 4) t) (iblk a V c (2 : Fin 4) t) h (not_cond2 _ h))
  · rw [show outAt a V c t = out0_B_3 c (crd a t) (ms0_0 a t) (hs0_0 a t) (ms0_1 a t) (hs0_1 a t) (ms0_2 a t) (hs0_2 a t) (ms0_3 a t) (hs0_3 a t) (a.1 0) (iblk a V c (0 : Fin 4) t) (iblk a V c (1 : Fin 4) t) (iblk a V c (2 : Fin 4) t) h ((cond2_iff _).2 h) from by unfold outAt; rw [dif_neg h]]
    iintro ⟨⟨HA, HT0⟩, Ho, ⟨%d0, H0⟩, ⟨%d1, H1⟩, ⟨%d2, H2⟩, ⟨%d3, H3⟩⟩
    iapply ((kernelRun0_B c (crd a t) (ms0_0 a t) (hs0_0 a t) (ms0_1 a t) (hs0_1 a t) (ms0_2 a t) (hs0_2 a t) (ms0_3 a t) (hs0_3 a t) (a.1 0) (iblk a V c (0 : Fin 4) t) (iblk a V c (1 : Fin 4) t) (iblk a V c (2 : Fin 4) t) h ((cond2_iff _).2 h)).2 _)
    isplitl [H0]; · iapply rep_of_owns; iexact H0
    isplitl [H1]; · iapply rep_of_owns; iexact H1
    isplitl [H2]; · iapply rep_of_owns; iexact H2
    isplitl [HT0]; · iexact HT0
    isplitl [H3]; · iexists _; iexact H3
    iintro ⟨H0, H1, H2, HT0, ⟨%e3, H3⟩⟩
    isplitl [HA HT0]
    · isplitl [HA]
      · iexact HA
      iexact HT0
    isplitl [Ho]; · iexact Ho
    isplitl [H0]
    · iapply owns_of_rep; iexact H0
    isplitl [H1]
    · iapply owns_of_rep; iexact H1
    isplitl [H2]
    · iapply owns_of_rep; iexact H2
    unfold owns; iexists _; isplitr; swap
    · iexact H3
    · ipureintro; exact View.read_writes_of_cover _ _ _ _ _ (cover0_B_3 c (crd a t) (ms0_0 a t) (hs0_0 a t) (ms0_1 a t) (hs0_1 a t) (ms0_2 a t) (hs0_2 a t) (ms0_3 a t) (hs0_3 a t) (a.1 0) (iblk a V c (0 : Fin 4) t) (iblk a V c (1 : Fin 4) t) (iblk a V c (2 : Fin 4) t) h ((cond2_iff _).2 h))

/-- The library's body obligation, at every point. -/
theorem body_obligation (c : Dev nD) : BodyObligation (dats a V 0 c) (defs₀ (F := F)) Variants.none () Set.univ := fun t => by
  rw [bigSep_W0]
  exact sound_body a V c t

theorem share_eq (c : Dev nD) (w : Fin (cfg0 a).W) : (dats a V 0 c).share w = fullShare := by unfold Dat.share; split <;> rfl

/-- The buffers when the grid starts: the host operations done on the launch memory. -/
def entry (m : (ℓ : Loc nD τ sig) → Buf (Elt F) ℓ) : Entry F :=
  fun c b => StableHlo.after hostOps0 (fun b => m (c, b)) b

set_option maxHeartbeats 4000000 in
/-- THE RUN: from any memory whose table (after the host operations) is the admissible contents `a`, every execution
    terminates with every array at the computed contents, every other buffer as the host operations left it, and every
    semaphore counter at zero. -/
theorem run (m : (ℓ : Loc nD τ sig) → Buf (Elt F) ℓ) (ρ : Dev nD → PrngReg)
    (hpf : ∀ c k, entry m c (pre0.ref k) = a.1 k) :
    θ_run (defs (F := F)) (onTc (τ := τ) (main (F := F))) (s₀ m ρ)
      (fun r => Pipeline.FramePost (Pipeline.pin (pcfgs (F := F)) fun _ => a) (fun p c => dats a (entry m) p c) 0 (entry m) r ∧ r.2.sem = fun _ => 0) :=
  Pipeline.θ_run_frameP (pcfgs (F := F)) (fun _ => a) (fun p c => dats a (entry m) p c) 0 launch0 defs₀ Variants.none m ρ main
    (fun c => (body_obligation a (entry m) c).loose) (share_eq a (entry m)) (fun _ _ => rfl) (entry m)
    (Pipeline.hmainP_prefix (pcfgs (F := F)) 0 defs₀ Variants.none m main hostOps0 hostOps0_sub
      (by simp only [hostOps0, List.Forall]; exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩) main_chain)
    (fun _ _ => rfl) hpf (fun _ _ => rfl) _ (fun _ h => h)

/-! ## The modes, and the index maps in closed form -/

/-- The table of modes, as the host writes it. -/
def tbl : pre0.Contents (Elt F) := fun | 0 => fun i => lit0 (S24.rowMajor i)

/-- The mode of block `j` of columns. -/
def mode (j : Fin 24) : BitVec 32 := lit0 (S24.rowMajor (ix1 j))

/-- Which of the three tables a block of columns reads. -/
def pickTab (j : Fin 24) : ℕ := (Scalar.maxsi (Scalar.subi (mode j) 1#32) 0#32).toNat

theorem pickTab_lt : ∀ j : Fin 24, pickTab j < 3 := by decide

theorem lt0 (i : grid0.Coords) : (i 0).val < 16 := (i 0).isLt
theorem lt1 (i : grid0.Coords) : (i 1).val < 24 := (i 1).isLt

theorem off_eq (i : grid0.Coords) : (Scalar.indexCast (BitVec.ofNat 32 (i 1).val) : Index).toNat = (i 1).val := congrFun (k0_off1_eq i) 0

theorem at0 (i : grid0.Coords) : (tbl (F := F)).at 0 (Rect.unit (s := S24) ![((Scalar.indexCast (BitVec.ofNat 32 (i 1).val) : Index)).toNat] S1.size (k0_off1_inb i)) numel1_S1 = mode (i 1) := by
  show lit0 _ = lit0 _
  congr 2
  funext a
  fin_cases a
  apply Fin.ext
  refine Eq.trans ?_ (off_eq i)
  exact (Nat.add_zero _)

theorem map0 (i : grid0.Coords) : cc0_transform_0 i = ![(i 0).val, 0] := by
  have h : (BitVec.ofNat 32 (i 0).val).toNat = (i 0).val := by rw [BitVec.toNat_ofNat]; have := lt0 i; omega
  unfold cc0_transform_0
  dsimp only
  rw [h]
  rfl
theorem map1 (i : grid0.Coords) : cc0_transform_1 i = ![0, 0, (i 1).val] := by
  have h : (BitVec.ofNat 32 (i 1).val).toNat = (i 1).val := by rw [BitVec.toNat_ofNat]; have := lt1 i; omega
  unfold cc0_transform_1
  dsimp only
  rw [h]
  rfl
theorem map2 (i : grid0.Coords) : cc0_transform_2 k0_off1_inb numel1_S1 (tbl (F := F)) i = ![pickTab (i 1), (i 0).val, 0] := by
  have h : (BitVec.ofNat 32 (i 0).val).toNat = (i 0).val := by rw [BitVec.toNat_ofNat]; have := lt0 i; omega
  unfold cc0_transform_2
  dsimp only
  rw [at0, h]
  rfl
theorem map3 (i : grid0.Coords) : cc0_transform_3 i = ![(i 0).val, (i 1).val] := by
  have h : (BitVec.ofNat 32 (i 0).val).toNat = (i 0).val := by rw [BitVec.toNat_ofNat]; have := lt0 i; omega
  have h' : (BitVec.ofNat 32 (i 1).val).toNat = (i 1).val := by rw [BitVec.toNat_ofNat]; have := lt1 i; omega
  unfold cc0_transform_3
  dsimp only
  rw [h, h']

theorem ok_tbl : ok0 (tbl (F := F)) := by
  intro i
  refine ⟨fun a => ?_, .inl rfl⟩
  rw [map2 i]
  have hp := pickTab_lt (i 1)
  have h0 := lt0 i
  fin_cases a
  · show (pickTab (i 1) + 1) * 1 ≤ 3
    omega
  · show ((i 0).val + 1) * 1024 ≤ 16384
    omega
  · show (0 + 1) * 384 ≤ 384
    decide

def adm : (pcfg0 (F := F)).Adm := ⟨tbl, ok_tbl⟩

section Memory

variable (m : (ℓ : Loc nD τ sig) → Buf (Elt F) ℓ)

/-- The host operations write neither argument. -/
theorem entry_arg0 (c : Dev nD) : entry m c main_arg0 = m ((c.tc : Thread nD τ).loc main_arg0) := by
  unfold entry
  after_results
theorem entry_arg1 (c : Dev nD) : entry m c main_arg1 = m ((c.tc : Thread nD τ).loc main_arg1) := by
  unfold entry
  after_results

theorem entry_tbl (c : Dev nD) (k : Fin 1) : entry m c (pre0.ref k) = (tbl (F := F)) k := by
  fin_cases k
  show entry m c main_c = _
  unfold entry
  after_results
  rfl

variable (ρ : Dev nD → PrngReg)

set_option maxHeartbeats 4000000 in
/-- What the run leaves: the arguments as they were, the result as the proof data computes it, no counter up. -/
theorem run_args : θ_run (defs (F := F)) (onTc (τ := τ) (main (F := F))) ⟨m, fun _ => 0, ρ⟩ (fun r =>
    (∀ c : Dev nD, r.2.mem ((c.tc : Thread nD τ).loc main_v80) = (dats adm (entry m) 0 c).arrAt (3 : Fin 4) (cfg0 (F := F) adm).N
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  refine (θ_run defs _ _).mono (fun r h => ⟨fun c => ⟨(h.1 c).1 (3 : Fin 4), ?_, ?_⟩, h.2⟩) (run adm m ρ (fun c k => entry_tbl m c k))
  · exact ((h.1 c).1 (0 : Fin 4)).trans (((dats adm (entry m) 0 c).arrAt_in (0 : Fin 4) rfl _).trans (entry_arg0 m c))
  · exact ((h.1 c).1 (1 : Fin 4)).trans (((dats adm (entry m) 0 c).arrAt_in (1 : Fin 4) rfl _).trans (entry_arg1 m c))

end Memory

/-- The frame. -/
theorem frame : Cert.quiescent_OddInIdeal := fun m ρ _ =>
  (θ_run defs _ _).mono (fun r hr => ⟨fun c => (hr.1 c).2, hr.2⟩) (run_args m ρ)

end Cert.OddInIdeal.Gen

end
-- ==== Proof.Turn.lean ====
/-
  THE ROTARY TURN, as one function of a head's 128 lanes. The first 32 lanes are two halves of 16, turned against each other by
  the position's angles; the other lanes stay. A kernel multiplies a lane by one table, the lane sixteen above by a second and the
  lane sixteen below by a third, each table carrying a scale; over the extended reals that is the turn, scaled.
-/
module

public import proofs.«01_k».proof.Defs
public import Idealize.ShloMosaic.Lib.Pointwise

@[expose] public section

noncomputable section

namespace Cert.Turn

open Idealize.ShloMosaic

/-- The angle of position `t` at frequency `f`. -/
def angle (t : Fin 16384) (f : Fin 16) : EReal :=
  FloatOps.sitofp (F := Ideal) FTy.f32 (BitVec.ofNat 32 t.val) * Ideal.pow (Ideal.ofBits FTy.f32 0x48F42400#32)
    (Ideal.div (-FloatOps.sitofp (F := Ideal) FTy.f32 (BitVec.ofNat 32 f.val)) (Ideal.ofBits FTy.f32 0x41800000#32))

def cosine (t : Fin 16384) (f : Fin 16) : EReal := Ideal.cos (angle t f)
def sine (t : Fin 16384) (f : Fin 16) : EReal := Ideal.sin (angle t f)

/-- The scale of a table. -/
def bits (k : ℕ) : BitVec 32 := if k = 0 then 0x3F800000#32 else if k = 1 then 0x3DB504F3#32 else 0x3E0293EE#32
def scale (k : ℕ) : EReal := Ideal.ofBits FTy.f32 (bits k)

theorem scale_pos (k : ℕ) : 0 ≤ scale k ∧ scale k ≠ ⊤ := by
  unfold scale bits
  split_ifs
  · have e : Ideal.ofBits FTy.f32 0x3F800000#32 = 1 := by simp
    rw [e]; exact ⟨zero_le_one, EReal.coe_ne_top 1⟩
  · have e : ∃ r : ℝ, 0 ≤ r ∧ Ideal.ofBits FTy.f32 0x3DB504F3#32 = (r : EReal) := by
      refine ⟨_, ?_, by simp only [Ideal.ofBits, Ideal.ieee]; rfl⟩
      rw [if_neg (by decide)]
      positivity
    obtain ⟨r, hr, e⟩ := e
    rw [e]
    exact ⟨by exact_mod_cast hr, EReal.coe_ne_top r⟩
  · have e : ∃ r : ℝ, 0 ≤ r ∧ Ideal.ofBits FTy.f32 0x3E0293EE#32 = (r : EReal) := by
      refine ⟨_, ?_, by simp only [Ideal.ofBits, Ideal.ieee]; rfl⟩
      rw [if_neg (by decide)]
      positivity
    obtain ⟨r, hr, e⟩ := e
    rw [e]
    exact ⟨by exact_mod_cast hr, EReal.coe_ne_top r⟩

/-- A head's lanes, turned. -/
def turn (cs sn : Fin 16 → EReal) (y : Fin 128 → EReal) (l : Fin 128) : EReal :=
  if h : l.val < 16 then y l * cs ⟨l.val, h⟩ - y ⟨l.val + 16, by omega⟩ * sn ⟨l.val, h⟩
  else if h : l.val - 16 < 16 then y l * cs ⟨l.val - 16, h⟩ + y ⟨l.val - 16, by omega⟩ * sn ⟨l.val - 16, h⟩
  else y l

/-- The factor of the lane itself, of the lane sixteen above, of the lane sixteen below. -/
def facC (cs : Fin 16 → EReal) (l : Fin 128) : EReal :=
  if h : l.val < 16 then cs ⟨l.val, h⟩ else if h : l.val - 16 < 16 then cs ⟨l.val - 16, h⟩ else 1
def facA (sn : Fin 16 → EReal) (l : Fin 128) : EReal := if h : l.val < 16 then -sn ⟨l.val, h⟩ else 0
def facB (sn : Fin 16 → EReal) (l : Fin 128) : EReal :=
  if l.val < 16 then 0 else if h : l.val - 16 < 16 then sn ⟨l.val - 16, h⟩ else 0

/-- The three products are the turn, scaled. -/
theorem turn_scaled (cs sn : Fin 16 → EReal) (y : Fin 128 → EReal) (l : Fin 128) (s : EReal) (h0 : 0 ≤ s) (ht : s ≠ ⊤) :
    y l * (facC cs l * s) + y ⟨(l.val + 16) % 128, by omega⟩ * (facA sn l * s) + y ⟨(l.val + 112) % 128, by omega⟩ * (facB sn l * s)
      = turn cs sn y l * s := by
  unfold facC facA facB turn
  by_cases h1 : l.val < 16
  · have e : (⟨(l.val + 16) % 128, by omega⟩ : Fin 128) = ⟨l.val + 16, by omega⟩ := Fin.ext (by simp only; omega)
    simp only [dif_pos h1, if_pos h1, zero_mul, mul_zero, add_zero]
    rw [e, sub_eq_add_neg, EReal.right_distrib_of_nonneg_of_ne_top h0 ht]
    simp only [mul_assoc, neg_mul, mul_neg]
  · by_cases h2 : l.val - 16 < 16
    · have e : (⟨(l.val + 112) % 128, by omega⟩ : Fin 128) = ⟨l.val - 16, by omega⟩ := Fin.ext (by simp only; omega)
      simp only [dif_neg h1, if_neg h1, dif_pos h2, zero_mul, mul_zero, add_zero]
      rw [e, EReal.right_distrib_of_nonneg_of_ne_top h0 ht, ← mul_assoc, ← mul_assoc]
    · simp only [dif_neg h1, if_neg h1, dif_neg h2, zero_mul, mul_zero, add_zero, one_mul]

/-- A row of the projection, column `q`, of mode `k`: the product as it is, or its head turned and scaled. -/
def entry {n : ℕ} (hn : n % 128 = 0) (k : ℕ) (t : Fin 16384) (h : Fin n → EReal) (q : Fin n) : EReal :=
  if k = 0 then h q
  else turn (cosine t) (sine t) (fun l => h ⟨128 * (q.val / 128) + l.val, by have := q.isLt; omega⟩) ⟨q.val % 128, by omega⟩ * scale (k - 1)

end Cert.Turn

end
-- ==== Proof.OddInIdealTables.lean ====
/-
  THE TABLES OF THE ODD LAYERS' INPUT PROJECTION, as the host operations build them: the three tables differ by their scale alone,
  and each has, side by side, the factors of a lane, of the lane sixteen above and of the lane sixteen below.
-/
module

public import proofs.«01_k».proof.Proof.OddInIdealFrame
public import proofs.«01_k».proof.Proof.Turn
public import Idealize.ShloMosaic.Lib.Pointwise

@[expose] public section

set_option maxRecDepth 16384

noncomputable section

namespace Cert.OddInIdeal.Tabs

open Idealize.ShloMosaic Idealize.ShloMosaic.TcCoe Idealize.SL.Sem Cert.OddInIdeal Cert.OddInIdeal.Gen

/-- The angles. -/
def angles : FVec Ideal S16384x16 .f32 :=
  mulf (broadcastInDim S16384x16 ![0, 1] bcast_S16384x1_S16384x16_0_1 (broadcastInDim S16384x1 ![0] bcast_S16384_S16384x1_0 (sitofp .f32 (iotaInDim S16384 32 0)))) (broadcastInDim S16384x16 ![0, 1] bcast_S1x16_S16384x16_0_1 (broadcastInDim S1x16 ![1] bcast_S16_S1x16_1 (Host.powf (broadcastInDim S16 ![] bcast_S_S16 (constant S_ .f32 0x48F42400#32)) (Host.divf (Host.negf (sitofp .f32 (iotaInDim S16 32 0))) (broadcastInDim S16 ![] bcast_S_S16 (constant S_ .f32 0x41800000#32))))))

theorem angles_at (t : Fin 16384) (f : Fin 16) : angles (ix2 t f) = Turn.angle t f := by
  pointwise [angles]
  rfl

variable (A : FVec Ideal S16384x16 .f32)

def ones96 : FVec Ideal S16384x96 .f32 := broadcastInDim S16384x96 ![] bcast_S_S16384x96 (constant S_ .f32 0x3F800000#32)
def zeros96 : FVec Ideal S16384x96 .f32 := broadcastInDim S16384x96 ![] bcast_S_S16384x96 (constant S_ .f32 0x00000000#32)
def zeros112 : FVec Ideal S16384x112 .f32 := broadcastInDim S16384x112 ![] bcast_S_S16384x112 (constant S_ .f32 0x00000000#32)
def zeros16 : FVec Ideal S16384x16 .f32 := broadcastInDim S16384x16 ![] bcast_S_S16384x16 (constant S_ .f32 0x00000000#32)

/-- The factor of a lane itself. -/
def tabC : FVec Ideal S16384x128 .f32 :=
  concatenate S16384x128 1 [⟨S16384x16, Host.cos A⟩, ⟨S16384x16, Host.cos A⟩, ⟨S16384x96, ones96⟩] concatenates_S16384x16_S16384x16_S16384x96_S16384x128_d1
/-- The factor of the lane sixteen above. -/
def tabA : FVec Ideal S16384x128 .f32 :=
  concatenate S16384x128 1 [⟨S16384x16, Host.negf (Host.sin A)⟩, ⟨S16384x112, zeros112⟩] concatenates_S16384x16_S16384x112_S16384x128_d1
/-- The factor of the lane sixteen below. -/
def tabB : FVec Ideal S16384x128 .f32 :=
  concatenate S16384x128 1 [⟨S16384x16, zeros16⟩, ⟨S16384x16, Host.sin A⟩, ⟨S16384x96, zeros96⟩] concatenates_S16384x16_S16384x16_S16384x96_S16384x128_d1

variable (X Y Z : FVec Ideal S16384x128 .f32) (s : BitVec 32)

/-- The three factors side by side, scaled. -/
def table : FVec Ideal S16384x384 .f32 :=
  mulf (concatenate S16384x384 1 [⟨S16384x128, X⟩, ⟨S16384x128, Y⟩, ⟨S16384x128, Z⟩] concatenates_S16384x128_S16384x128_S16384x128_S16384x384_d1)
    (broadcastInDim S16384x384 ![] bcast_S_S16384x384 (constant S_ .f32 s))

variable (T0 T1 T2 : FVec Ideal S16384x384 .f32)

/-- The three tables. -/
def stack : FVec Ideal S3x16384x384 .f32 :=
  concatenate S3x16384x384 0 [⟨S1x16384x384, broadcastInDim S1x16384x384 ![1, 2] bcast_S16384x384_S1x16384x384_1_2 T0⟩, ⟨S1x16384x384, broadcastInDim S1x16384x384 ![1, 2] bcast_S16384x384_S1x16384x384_1_2 T1⟩, ⟨S1x16384x384, broadcastInDim S1x16384x384 ![1, 2] bcast_S16384x384_S1x16384x384_1_2 T2⟩] concatenates_S1x16384x384_S1x16384x384_S1x16384x384_S3x16384x384_d0

theorem tabC_at (t : Fin 16384) (l : Fin 128) : tabC angles (ix2 t l) = Turn.facC (Turn.cosine t) l := by
  pointwise [tabC, ones96]
  simp only [angles_at]
  rfl
theorem tabA_at (t : Fin 16384) (l : Fin 128) : tabA angles (ix2 t l) = Turn.facA (Turn.sine t) l := by
  pointwise [tabA, zeros112]
  simp only [angles_at]
  rfl
theorem tabB_at (t : Fin 16384) (l : Fin 128) : tabB angles (ix2 t l) = Turn.facB (Turn.sine t) l := by
  pointwise [tabB, zeros96, zeros16]
  simp only [angles_at]
  rfl

theorem table_c (t : Fin 16384) (l : Fin 128) : table X Y Z s (ix2 t (⟨l.val, by omega⟩ : Fin 384)) = X (ix2 t l) * Ideal.ofBits .f32 s := by
  pointwise [table]
theorem table_a (t : Fin 16384) (l : Fin 128) : table X Y Z s (ix2 t (⟨128 + l.val, by omega⟩ : Fin 384)) = Y (ix2 t l) * Ideal.ofBits .f32 s := by
  pointwise [table]
theorem table_b (t : Fin 16384) (l : Fin 128) : table X Y Z s (ix2 t (⟨256 + l.val, by omega⟩ : Fin 384)) = Z (ix2 t l) * Ideal.ofBits .f32 s := by
  pointwise [table]
  rw [dif_neg (by omega), dif_neg (by omega)]
  congr 3
  apply Fin.ext
  show 256 + l.val - 128 - 128 = l.val
  omega

/-- One of the three tables. -/
def pick (k : Fin 3) : FVec Ideal S16384x384 .f32 := table (tabC angles) (tabA angles) (tabB angles) (Turn.bits k.val)

def tables : FVec Ideal S3x16384x384 .f32 :=
  stack (table (tabC angles) (tabA angles) (tabB angles) 0x3F800000#32) (table (tabC angles) (tabA angles) (tabB angles) 0x3DB504F3#32) (table (tabC angles) (tabA angles) (tabB angles) 0x3E0293EE#32)

theorem stack_at (k : Fin 3) (t : Fin 16384) (l : Fin 384) : stack T0 T1 T2 (ix3 k t l) = if k.val < 1 then T0 (ix2 t l) else if k.val - 1 < 1 then T1 (ix2 t l) else T2 (ix2 t l) := by
  pointwise [stack]
  rfl

theorem tables_at (k : Fin 3) (t : Fin 16384) (l : Fin 384) : tables (ix3 k t l) = pick k (ix2 t l) := by
  unfold tables pick
  rw [stack_at]
  fin_cases k <;> rfl

theorem c_at (k : Fin 3) (t : Fin 16384) (l : Fin 128) : tables (ix3 k t (⟨l.val, by omega⟩ : Fin 384)) = Turn.facC (Turn.cosine t) l * Turn.scale k.val := by
  rw [tables_at, pick, table_c, tabC_at]; rfl
theorem a_at (k : Fin 3) (t : Fin 16384) (l : Fin 128) : tables (ix3 k t (⟨128 + l.val, by omega⟩ : Fin 384)) = Turn.facA (Turn.sine t) l * Turn.scale k.val := by
  rw [tables_at, pick, table_a, tabA_at]; rfl
theorem b_at (k : Fin 3) (t : Fin 16384) (l : Fin 128) : tables (ix3 k t (⟨256 + l.val, by omega⟩ : Fin 384)) = Turn.facB (Turn.sine t) l * Turn.scale k.val := by
  rw [tables_at, pick, table_b, tabB_at]; rfl

set_option maxHeartbeats 8000000 in
/-- The host operations write them. -/
theorem entry_tabs (m : (ℓ : Loc nD τ sig) → Buf (Elt Ideal) ℓ) (c : Dev nD) : entry m c main_v79 = tables := by
  unfold entry
  after_results_simp <;> (try dsimp only [Matrix.cons_val]) <;> (try after_results_simp) <;> (try dsimp only [Matrix.cons_val]) <;> (try after_results_simp) <;> rfl

end Cert.OddInIdeal.Tabs

end
-- ==== Proof.OddInIdealTile.lean ====
/-
  ONE BLOCK OF THE ODD LAYERS' INPUT PROJECTION, and the array after the run. A block is the product of 1024 rows with 512 columns;
  on the second way each of its four heads is multiplied by the table's factors with the lanes sixteen above and below.
-/
module

public import proofs.«01_k».proof.Proof.OddInIdealTables
public import Idealize.ShloMosaic.Lib.Pipeline.Covers

@[expose] public section

set_option maxRecDepth 16384

noncomputable section

namespace Cert.OddInIdeal.Gen

open Cert.OddInIdeal
open Idealize.ShloMosaic Idealize.ShloMosaic.TcCoe Idealize.SL.Sem

/-- Entry `(t, q)` of the product. -/
def prod (x : FVec Ideal S16384x4096 .bf16) (w : FVec Ideal S2x4096x12288 .bf16) (t : Fin 16384) (q : Fin 12288) : EReal :=
  ∑ k : Fin 4096, x (ix2 t k) * w (ix3 (0 : Fin 2) k q)

/-- The function: each block of 512 columns by its mode. -/
def spec (x : FVec Ideal S16384x4096 .bf16) (w : FVec Ideal S2x4096x12288 .bf16) (t : Fin 16384) (q : Fin 12288) : EReal :=
  Turn.entry (by decide) (mode ⟨q.val / 512, by omega⟩).toNat t (prod x w t) q

variable (x0 : Vec Ideal S1024x4096 .bf16) (x1 : Vec Ideal S1x4096x512 .bf16)

theorem pay1_at (r : Fin 1024) (q : Fin 512) : (k0_pay1 (F := Ideal) x0 x1 (ix2 r q) : EReal) = ∑ k : Fin 4096, (x0 (ix2 r k) : EReal) * x1 (ix3 (0 : Fin 1) k q) := by
  pointwise [k0_pay1]

theorem pay2_at (r : Fin 1024) (q : Fin 512) : (k0_pay2 (F := Ideal) x0 x1 (ix2 r q) : EReal) = k0_pay1 (F := Ideal) x0 x1 (ix2 r q) := by
  unfold k0_pay2
  generalize k0_pay1 (F := Ideal) x0 x1 = h
  pointwise

/-- One lane of one head, by the table's three factors. -/
def mixed (h : FVec Ideal S1024x512 .f32) (x2 : Vec Ideal S1x1024x384 .f32) (r : Fin 1024) (p : Fin 4) (l : Fin 128) : EReal :=
  h (ix2 r (⟨128 * p.val + l.val, by omega⟩ : Fin 512)) * x2 (ix3 (0 : Fin 1) r (⟨l.val, by omega⟩ : Fin 384))
    + h (ix2 r (⟨128 * p.val + (l.val + 16) % 128, by omega⟩ : Fin 512)) * x2 (ix3 (0 : Fin 1) r (⟨128 + l.val, by omega⟩ : Fin 384))
    + h (ix2 r (⟨128 * p.val + (l.val + 112) % 128, by omega⟩ : Fin 512)) * x2 (ix3 (0 : Fin 1) r (⟨256 + l.val, by omega⟩ : Fin 384))

theorem pay5_at (h : FVec Ideal S1024x512 .f32) (x2 : Vec Ideal S1x1024x384 .f32) (r : Fin 1024) (l : Fin 128) :
    (k0_pay5 (F := Ideal) h x2 (ix2 r l) : EReal) = mixed h x2 r 0 l := by
  pointwise [k0_pay5, k0_pay4]
  refine congrArg₂ (· + ·) (congrArg₂ (· + ·) (congrArg₂ (· * ·) (congrArg h (congrArg (ix2 r) (Fin.ext ?_))) rfl)
    (congrArg₂ (· * ·) (congrArg h (congrArg (ix2 r) (Fin.ext ?_))) rfl)) (congrArg₂ (· * ·) (congrArg h (congrArg (ix2 r) (Fin.ext ?_))) rfl)
  all_goals
    simp
    try omega
theorem pay6_at (h : FVec Ideal S1024x512 .f32) (x2 : Vec Ideal S1x1024x384 .f32) (r : Fin 1024) (l : Fin 128) :
    (k0_pay6 (F := Ideal) h x2 (ix2 r l) : EReal) = mixed h x2 r 1 l := by
  pointwise [k0_pay6, k0_pay4]
  refine congrArg₂ (· + ·) (congrArg₂ (· + ·) (congrArg₂ (· * ·) (congrArg h (congrArg (ix2 r) (Fin.ext ?_))) rfl)
    (congrArg₂ (· * ·) (congrArg h (congrArg (ix2 r) (Fin.ext ?_))) rfl)) (congrArg₂ (· * ·) (congrArg h (congrArg (ix2 r) (Fin.ext ?_))) rfl)
  all_goals
    simp
    try omega
theorem pay7_at (h : FVec Ideal S1024x512 .f32) (x2 : Vec Ideal S1x1024x384 .f32) (r : Fin 1024) (l : Fin 128) :
    (k0_pay7 (F := Ideal) h x2 (ix2 r l) : EReal) = mixed h x2 r 2 l := by
  pointwise [k0_pay7, k0_pay4]
  refine congrArg₂ (· + ·) (congrArg₂ (· + ·) (congrArg₂ (· * ·) (congrArg h (congrArg (ix2 r) (Fin.ext ?_))) rfl)
    (congrArg₂ (· * ·) (congrArg h (congrArg (ix2 r) (Fin.ext ?_))) rfl)) (congrArg₂ (· * ·) (congrArg h (congrArg (ix2 r) (Fin.ext ?_))) rfl)
  all_goals
    simp
    try omega
theorem pay3_at (h : FVec Ideal S1024x512 .f32) (x2 : Vec Ideal S1x1024x384 .f32) (r : Fin 1024) (l : Fin 128) :
    (k0_pay3 (F := Ideal) (k0_pay4 x2) (k0_pay8 h) (ix2 r l) : EReal) = mixed h x2 r 3 l := by
  pointwise [k0_pay3, k0_pay4, k0_pay8]
  refine congrArg₂ (· + ·) (congrArg₂ (· + ·) (congrArg₂ (· * ·) (congrArg h (congrArg (ix2 r) (Fin.ext ?_))) rfl)
    (congrArg₂ (· * ·) (congrArg h (congrArg (ix2 r) (Fin.ext ?_))) rfl)) (congrArg₂ (· * ·) (congrArg h (congrArg (ix2 r) (Fin.ext ?_))) rfl)
  all_goals
    simp
    try omega

end Cert.OddInIdeal.Gen

end
-- ==== Proof.OddInIdealFinal.lean ====
/-
  WHAT THE ODD LAYERS' PROJECTED ROWS HOLD at the end: `spec` of the arguments.
-/
module

public import proofs.«01_k».proof.Proof.OddInIdealTile

@[expose] public section

set_option maxRecDepth 16384

noncomputable section

namespace Cert.OddInIdeal.Gen

open Cert.OddInIdeal
open Idealize.ShloMosaic Idealize.ShloMosaic.TcCoe Idealize.SL.Sem

/-- The first test is that the mode is zero. -/
theorem cond1_iff (w : BitVec 32) : k0_cond1 w = 1#1 ↔ w = 0#32 := by
  unfold k0_cond1
  by_cases h : w = 0#32
  · simp [Scalar.cmpi, Scalar.extui, IntOp.cmpi, h]
  · have hb : (w == 0#32) = false := by simpa using h
    simp [Scalar.cmpi, Scalar.extui, IntOp.cmpi, h, hb, bne]

theorem pickTab_eq : ∀ j : Fin 24, ¬ (mode j).toNat = 0 → (mode j).toNat - 1 = pickTab j := by decide

theorem word_adm (i : grid0.Coords) : word (F := Ideal) adm i = mode (i 1) := at0 (F := Ideal) i

variable (m : (ℓ : Loc nD τ sig) → Buf (Elt Ideal) ℓ) (c : Dev nD) (t : Fin (cfg0 (F := Ideal) adm).N)

theorem index0 : ((pcfg0 (F := Ideal)).win adm (0 : Fin 4)).index t = ![(grid0.coords t 0).val, 0] := map0 (grid0.coords t)
theorem index1 : ((pcfg0 (F := Ideal)).win adm (1 : Fin 4)).index t = ![0, 0, (grid0.coords t 1).val] := map1 (grid0.coords t)
theorem index2 : ((pcfg0 (F := Ideal)).win adm (2 : Fin 4)).index t = ![pickTab (grid0.coords t 1), (grid0.coords t 0).val, 0] := map2 (F := Ideal) (grid0.coords t)
theorem index3 : ((pcfg0 (F := Ideal)).win adm (3 : Fin 4)).index t = ![(grid0.coords t 0).val, (grid0.coords t 1).val] := map3 (grid0.coords t)

theorem blk0 (r : Fin 1024) (k : Fin 4096) : iblk adm (entry m) c (0 : Fin 4) t (ix2 r k) = (m ((c.tc : Thread nD τ).loc main_arg0) : FVec Ideal S16384x4096 .bf16) (ix2 (⟨(grid0.coords t 0).val * 1024 + r.val, by have := lt0 (grid0.coords t); omega⟩ : Fin 16384) k) := by
  rw [← entry_arg0 m c]
  blk_ext [iblk, index0 t]

theorem blk1 (k : Fin 4096) (q : Fin 512) : iblk adm (entry m) c (1 : Fin 4) t (ix3 (0 : Fin 1) k q) = (m ((c.tc : Thread nD τ).loc main_arg1) : FVec Ideal S2x4096x12288 .bf16) (ix3 (0 : Fin 2) k (⟨(grid0.coords t 1).val * 512 + q.val, by have := lt1 (grid0.coords t); omega⟩ : Fin 12288)) := by
  rw [← entry_arg1 m c]
  blk_ext [iblk, index1 t]

theorem blk2 (r : Fin 1024) (l : Fin 384) : iblk adm (entry m) c (2 : Fin 4) t (ix3 (0 : Fin 1) r l)
    = Tabs.tables (ix3 (⟨pickTab (grid0.coords t 1), pickTab_lt _⟩ : Fin 3) (⟨(grid0.coords t 0).val * 1024 + r.val, by have := lt0 (grid0.coords t); omega⟩ : Fin 16384) l) := by
  rw [← Tabs.entry_tabs m c]
  blk_ext [iblk, index2 t]

/-- A block's product is the product's block. -/
theorem prod_at (r : Fin 1024) (q : Fin 512) : (k0_pay1 (F := Ideal) (iblk adm (entry m) c (0 : Fin 4) t) (iblk adm (entry m) c (1 : Fin 4) t) (ix2 r q) : EReal)
    = prod (m ((c.tc : Thread nD τ).loc main_arg0) : FVec Ideal S16384x4096 .bf16) (m ((c.tc : Thread nD τ).loc main_arg1) : FVec Ideal S2x4096x12288 .bf16) (⟨(grid0.coords t 0).val * 1024 + r.val, by have := lt0 (grid0.coords t); omega⟩ : Fin 16384) (⟨(grid0.coords t 1).val * 512 + q.val, by have := lt1 (grid0.coords t); omega⟩ : Fin 12288) :=
  (pay1_at _ _ r q).trans (Finset.sum_congr rfl fun k _ => congrArg₂ (· * ·) (blk0 m c t r k) (blk1 m c t k q))

theorem mixed_at (hm : ¬ mode (grid0.coords t 1) = 0#32) (r : Fin 1024) (p : Fin 4) (l : Fin 128) :
    mixed (k0_pay1 (F := Ideal) (iblk adm (entry m) c (0 : Fin 4) t) (iblk adm (entry m) c (1 : Fin 4) t)) (iblk adm (entry m) c (2 : Fin 4) t) r p l
      = spec (m ((c.tc : Thread nD τ).loc main_arg0) : FVec Ideal S16384x4096 .bf16) (m ((c.tc : Thread nD τ).loc main_arg1) : FVec Ideal S2x4096x12288 .bf16) (⟨(grid0.coords t 0).val * 1024 + r.val, by have := lt0 (grid0.coords t); omega⟩ : Fin 16384) (⟨(grid0.coords t 1).val * 512 + (128 * p.val + l.val), by have := lt1 (grid0.coords t); omega⟩ : Fin 12288) := by
  have hj : (⟨((grid0.coords t 1).val * 512 + (128 * p.val + l.val)) / 512, by have := lt1 (grid0.coords t); omega⟩ : Fin 24) = grid0.coords t 1 :=
    Fin.ext (by simp only; omega)
  have hn : ¬ (mode (grid0.coords t 1)).toNat = 0 := fun h => hm (BitVec.eq_of_toNat_eq h)
  have hp := pickTab_eq _ hn
  have hs := Turn.scale_pos (pickTab (grid0.coords t 1))
  have e := Turn.turn_scaled (Turn.cosine (⟨(grid0.coords t 0).val * 1024 + r.val, by have := lt0 (grid0.coords t); omega⟩ : Fin 16384)) (Turn.sine (⟨(grid0.coords t 0).val * 1024 + r.val, by have := lt0 (grid0.coords t); omega⟩ : Fin 16384))
    (fun l => prod (m ((c.tc : Thread nD τ).loc main_arg0) : FVec Ideal S16384x4096 .bf16) (m ((c.tc : Thread nD τ).loc main_arg1) : FVec Ideal S2x4096x12288 .bf16) (⟨(grid0.coords t 0).val * 1024 + r.val, by have := lt0 (grid0.coords t); omega⟩ : Fin 16384) (⟨(grid0.coords t 1).val * 512 + (128 * p.val + l.val), by have := lt1 (grid0.coords t); omega⟩ : Fin 12288)) l _ hs.1 hs.2
  unfold mixed spec Turn.entry
  rw [hj, if_neg hn, hp]
  refine (congrArg₂ (· + ·) (congrArg₂ (· + ·) (congrArg₂ (· * ·) (prod_at m c t r _) ((blk2 m c t r _).trans (Tabs.c_at _ _ l)))
    (congrArg₂ (· * ·) (prod_at m c t r _) ((blk2 m c t r _).trans (Tabs.a_at _ _ l))))
    (congrArg₂ (· * ·) (prod_at m c t r _) ((blk2 m c t r _).trans (Tabs.b_at _ _ l)))).trans (e.trans ?_)
  congr 2
  · funext l'
    congr 1
    apply Fin.ext
    simp only
    omega
  · apply Fin.ext
    simp only
    omega

/-- Every block of the result is some point's. -/
theorem covers : ((cfg0 (F := Ideal) adm).win (3 : Fin 4)).Covers := by
  have n0 : ((cfg0 (F := Ideal) adm).win (3 : Fin 4)).nblk (0 : Fin 2) = 16 := (by decide : (16384 + 1024 - 1) / 1024 = 16)
  have n1 : ((cfg0 (F := Ideal) adm).win (3 : Fin 4)).nblk (1 : Fin 2) = 24 := (by decide : (12288 + 512 - 1) / 512 = 24)
  refine Pipeline.Window.covers_of_indexMap_surj _ rfl (fun a => by fin_cases a; exact (by decide : 0 < 1024); exact (by decide : 0 < 512)) fun β => ⟨fun a => (β a).cast (by fin_cases a; exact n0; exact n1), fun a => ?_⟩
  refine (congrFun (map3 (fun a => (β a).cast (by fin_cases a; exact n0; exact n1))) a).trans ?_
  fin_cases a <;> rfl

set_option maxHeartbeats 2000000 in
/-- The array after the run. -/
theorem final : (dats adm (entry m) 0 c).arrAt (3 : Fin 4) (cfg0 (F := Ideal) adm).N = fun i => spec (m ((c.tc : Thread nD τ).loc main_arg0) : FVec Ideal S16384x4096 .bf16) (m ((c.tc : Thread nD τ).loc main_arg1) : FVec Ideal S2x4096x12288 .bf16) (i 0) (i 1) := by
  refine (dats adm (entry m) 0 c).arrAt_eq_of_covers (3 : Fin 4) _ covers fun t hf y => ?_
  blk_simp
  rw [after0_3]
  have e0 : (((View.whole main_v80).slice (((pcfg0 (F := Ideal)).win adm (3 : Fin 4)).rect t)).emb y 0).val = (grid0.coords t 0).val * 1024 + (y 0).val := by
    blk_simp [index3 t]
  have e1 : (((View.whole main_v80).slice (((pcfg0 (F := Ideal)).win adm (3 : Fin 4)).rect t)).emb y 1).val = (grid0.coords t 1).val * 512 + (y 1).val := by
    blk_simp [index3 t]
  generalize (((View.whole main_v80).slice (((pcfg0 (F := Ideal)).win adm (3 : Fin 4)).rect t)).emb y) = Y at e0 e1 ⊢
  have hw := word_adm (grid0.coords t)
  have hy : y = (ix2 (y 0) (y 1) : S1024x512.Idx) := by funext a; fin_cases a <;> rfl
  have y0 : (y 0).val < 1024 := (y 0).isLt
  have y1 : (y 1).val < 512 := (y 1).isLt
  have hY0 : (Y 0 : Fin 16384) = ⟨(grid0.coords t 0).val * 1024 + (y 0).val, by have := lt0 (grid0.coords t); omega⟩ := Fin.ext e0
  have hY1 : (Y 1 : Fin 12288) = ⟨(grid0.coords t 1).val * 512 + (y 1).val, by have := lt1 (grid0.coords t); omega⟩ := Fin.ext e1
  rw [hY0, hY1]
  unfold outAt
  split
  · rename_i h
    have hm : mode (grid0.coords t 1) = 0#32 := (cond1_iff _).1 (hw ▸ h)
    frame_out
    simp only [View.read_rep]
    refine (congrArg (k0_pay2 (F := Ideal) (iblk adm (entry m) c (0 : Fin 4) t) (iblk adm (entry m) c (1 : Fin 4) t)) hy).trans ?_
    refine (pay2_at _ _ (y 0) (y 1)).trans ((prod_at m c t (y 0) (y 1)).trans ?_)
    have hj : (⟨((grid0.coords t 1).val * 512 + (y 1).val) / 512, by have := lt1 (grid0.coords t); omega⟩ : Fin 24) = grid0.coords t 1 :=
      Fin.ext (by simp only; omega)
    unfold spec Turn.entry
    rw [hj, hm]
    rfl
  · rename_i h
    have hm : ¬ mode (grid0.coords t 1) = 0#32 := fun hn => h (by rw [hw]; exact (cond1_iff _).2 hn)
    frame_out
    simp only [View.read_rep]
    canon_tiles z h
    · rw [show z = ix2 (z 0) (z 1) from by pointwise]
      refine (pay3_at _ _ (z 0) (z 1)).trans ((mixed_at m c t hm (z 0) 3 (z 1)).trans ?_)
      congr 1 <;> · apply Fin.ext; simp only [Fin.isValue, e0, e1]; first | rfl | (simp <;> omega) | omega
    · rw [show z = ix2 (z 0) (z 1) from by pointwise]
      refine (pay7_at _ _ (z 0) (z 1)).trans ((mixed_at m c t hm (z 0) 2 (z 1)).trans ?_)
      congr 1 <;> · apply Fin.ext; simp only [Fin.isValue, e0, e1]; first | rfl | (simp <;> omega) | omega
    · rw [show z = ix2 (z 0) (z 1) from by pointwise]
      refine (pay6_at _ _ (z 0) (z 1)).trans ((mixed_at m c t hm (z 0) 1 (z 1)).trans ?_)
      congr 1 <;> · apply Fin.ext; simp only [Fin.isValue, e0, e1]; first | rfl | (simp <;> omega) | omega
    · rw [show z = ix2 (z 0) (z 1) from by pointwise]
      refine (pay5_at _ _ (z 0) (z 1)).trans ((mixed_at m c t hm (z 0) 0 (z 1)).trans ?_)
      congr 1 <;> · apply Fin.ext; simp only [Fin.isValue, e0, e1]; first | rfl | (simp <;> omega) | omega

end Cert.OddInIdeal.Gen

end
-- ==== Proof.OddInRef.lean ====
/-
  THE REFERENCE OF THE ODD LAYERS' INPUT PROJECTION. Its composed term is the staged functions below: the product, its parts by
  columns, the rotary turn of the queries and keys head by head, the scale on the queries. Read at an entry it is `spec`.
-/
module

public import proofs.«01_k».proof.Proof.Gen.OddInReferenceIdeal.Run
public import proofs.«01_k».proof.Proof.OddInIdealFinal
public import proofs.«01_k».proof.Proof.OddInFrame
public import Idealize.ShloMosaic.Lib.Quiescent

@[expose] public section

set_option maxRecDepth 16384

noncomputable section

namespace Cert.OddInReferenceIdeal.Stage

open Idealize.ShloMosaic Idealize.ShloMosaic.TcCoe Idealize.SL.Sem Cert.OddInReferenceIdeal Cert.OddInReferenceIdeal.Gen

/-- The angles. -/
def angles : FVec Ideal S16384x16 .f32 :=
  mulf (broadcastInDim S16384x16 ![0, 1] bcast_S16384x1_S16384x16_0_1 (broadcastInDim S16384x1 ![0] bcast_S16384_S16384x1_0 (sitofp .f32 (iotaInDim S16384 32 0)))) (broadcastInDim S16384x16 ![0, 1] bcast_S1x16_S16384x16_0_1 (broadcastInDim S1x16 ![1] bcast_S16_S1x16_1 (Host.powf (broadcastInDim S16 ![] bcast_S_S16 (constant S_ .f32 0x48F42400#32)) (Host.divf (Host.negf (sitofp .f32 (iotaInDim S16 32 0))) (broadcastInDim S16 ![] bcast_S_S16 (constant S_ .f32 0x41800000#32))))))

theorem angles_at (t : Fin 16384) (f : Fin 16) : angles (ix2 t f) = Turn.angle t f := by
  pointwise [angles]
  rfl

/-- The product. -/
def proj (x : FVec Ideal S16384x4096 .bf16) (w : FVec Ideal S2x4096x12288 .bf16) : FVec Ideal S16384x12288 .f32 :=
  Host.dotGeneral dot_S16384x4096_S4096x12288_S16384x12288_1_0_0_1_n_n none (extf .f32 x bitsLt_bf16_f32) (extf .f32 (shapeCast _ (extractStridedSlice S1x4096x12288 ![0, 0, 0] w slices_S2x4096x12288_S1x4096x12288_0_0_0) shapeCasts_S1x4096x12288_S4096x12288) bitsLt_bf16_f32)

theorem proj_at (x : FVec Ideal S16384x4096 .bf16) (w : FVec Ideal S2x4096x12288 .bf16) (t : Fin 16384) (q : Fin 12288) :
    proj x w (ix2 t q) = OddInIdeal.Gen.prod x w t q := by
  pointwise [proj, OddInIdeal.Gen.prod]

variable (h : FVec Ideal S16384x12288 .f32) (A : FVec Ideal S16384x16 .f32)

/-- Columns 0 to 4095. -/
def cut_q : FVec Ideal S16384x4096 .f32 := extractStridedSlice S16384x4096 ![0, 0] h slices_S16384x12288_S16384x4096_0_0
theorem cut_q_at (t : Fin 16384) (q : Fin 4096) : cut_q h (ix2 t q) = h (ix2 t (⟨0 + q.val, by omega⟩ : Fin 12288)) := by
  pointwise [cut_q]

/-- Columns 4096 to 8191. -/
def cut_k : FVec Ideal S16384x4096 .f32 := extractStridedSlice S16384x4096 ![0, 4096] h slices_S16384x12288_S16384x4096_0_4096
theorem cut_k_at (t : Fin 16384) (q : Fin 4096) : cut_k h (ix2 t q) = h (ix2 t (⟨4096 + q.val, by omega⟩ : Fin 12288)) := by
  pointwise [cut_k]

/-- Columns 8192 to 12287. -/
def cut_v : FVec Ideal S16384x4096 .f32 := extractStridedSlice S16384x4096 ![0, 8192] h slices_S16384x12288_S16384x4096_0_8192
theorem cut_v_at (t : Fin 16384) (q : Fin 4096) : cut_v h (ix2 t q) = h (ix2 t (⟨8192 + q.val, by omega⟩ : Fin 12288)) := by
  pointwise [cut_v]

/-! ### 32 heads -/

/-- The rows as heads. -/
def heads32 (g : FVec Ideal S16384x4096 .f32) : FVec Ideal S16384x32x128 .f32 := shapeCast _ g shapeCasts_S16384x4096_S16384x32x128
theorem heads32_at (g : FVec Ideal S16384x4096 .f32) (t : Fin 16384) (p : Fin 32) (l : Fin 128) :
    heads32 g (ix3 t p l) = g (ix2 t (⟨p.val * 128 + l.val, by omega⟩ : Fin 4096)) := by
  pointwise [heads32]
  try (congr 2; apply Fin.ext; simp only; omega)

/-- The turn of each head. -/
def rope32 (y : FVec Ideal S16384x32x128 .f32) : FVec Ideal S16384x32x128 .f32 :=
  concatenate S16384x32x128 2 [⟨S16384x32x16, subf (mulf (extractStridedSlice S16384x32x16 ![0, 0, 0] y slices_S16384x32x128_S16384x32x16_0_0_0) (broadcastInDim S16384x32x16 ![0, 1, 2] bcast_S16384x1x16_S16384x32x16_0_1_2 (broadcastInDim S16384x1x16 ![0, 2] bcast_S16384x16_S16384x1x16_0_2 (Host.cos A)))) (mulf (extractStridedSlice S16384x32x16 ![0, 0, 16] y slices_S16384x32x128_S16384x32x16_0_0_16) (broadcastInDim S16384x32x16 ![0, 1, 2] bcast_S16384x1x16_S16384x32x16_0_1_2 (broadcastInDim S16384x1x16 ![0, 2] bcast_S16384x16_S16384x1x16_0_2 (Host.sin A))))⟩,
    ⟨S16384x32x16, addf (mulf (extractStridedSlice S16384x32x16 ![0, 0, 16] y slices_S16384x32x128_S16384x32x16_0_0_16) (broadcastInDim S16384x32x16 ![0, 1, 2] bcast_S16384x1x16_S16384x32x16_0_1_2 (broadcastInDim S16384x1x16 ![0, 2] bcast_S16384x16_S16384x1x16_0_2 (Host.cos A)))) (mulf (extractStridedSlice S16384x32x16 ![0, 0, 0] y slices_S16384x32x128_S16384x32x16_0_0_0) (broadcastInDim S16384x32x16 ![0, 1, 2] bcast_S16384x1x16_S16384x32x16_0_1_2 (broadcastInDim S16384x1x16 ![0, 2] bcast_S16384x16_S16384x1x16_0_2 (Host.sin A))))⟩,
    ⟨S16384x32x96, extractStridedSlice S16384x32x96 ![0, 0, 32] y slices_S16384x32x128_S16384x32x96_0_0_32⟩] concatenates_S16384x32x16_S16384x32x16_S16384x32x96_S16384x32x128_d2
theorem rope32_at (y : FVec Ideal S16384x32x128 .f32) (t : Fin 16384) (p : Fin 32) (l : Fin 128) :
    rope32 angles y (ix3 t p l) = Turn.turn (Turn.cosine t) (Turn.sine t) (fun l => y (ix3 t p l)) l := by
  pointwise [rope32]
  simp only [angles_at]
  unfold Turn.turn
  have ey : ∀ a b : Fin 128, a.val = b.val → y (ix3 t p a) = y (ix3 t p b) := fun a b h => by rw [Fin.ext h]
  split_ifs
  all_goals first
    | exact congrArg₂ (· - ·) rfl (congrArg₂ (· * ·) (ey _ _ (by simp only; omega)) rfl)
    | exact congrArg₂ (· + ·) (congrArg₂ (· * ·) (ey _ _ (by simp only; omega)) rfl) rfl
    | exact ey _ _ (by simp only; omega)

/-- The heads as rows. -/
def flat32 (y : FVec Ideal S16384x32x128 .f32) : FVec Ideal S16384x4096 .f32 := shapeCast _ y shapeCasts_S16384x32x128_S16384x4096
theorem flat32_at (y : FVec Ideal S16384x32x128 .f32) (t : Fin 16384) (q : Fin 4096) :
    flat32 y (ix2 t q) = y (ix3 t (⟨q.val / 128, by omega⟩ : Fin 32) (⟨q.val % 128, by omega⟩ : Fin 128)) := by
  pointwise [flat32]

/-- A scale on every lane. -/
def scaled32 (s : BitVec 32) (y : FVec Ideal S16384x32x128 .f32) : FVec Ideal S16384x32x128 .f32 := mulf y (broadcastInDim S16384x32x128 ![] bcast_S_S16384x32x128 (constant S_ .f32 s))
theorem scaled32_at (s : BitVec 32) (y : FVec Ideal S16384x32x128 .f32) (t : Fin 16384) (p : Fin 32) (l : Fin 128) :
    scaled32 s y (ix3 t p l) = y (ix3 t p l) * Ideal.ofBits .f32 s := by
  pointwise [scaled32]

/-! ### The parts, each an entry of the function -/

def part_q : FVec Ideal S16384x4096 .f32 := flat32 (scaled32 0x3E0293EE#32 (rope32 A (heads32 (cut_q h))))
theorem part_q_at (t : Fin 16384) (q : Fin 4096) :
    part_q h angles (ix2 t q) = Turn.entry (n := 12288) (by decide) 3 t (fun r => h (ix2 t r)) ⟨0 + q.val, by omega⟩ := by
  unfold part_q Turn.entry
  rw [if_neg (by decide), flat32_at]
  rw [scaled32_at, rope32_at]
  refine congrArg₂ (· * ·) (congrArg₂ (Turn.turn (Turn.cosine t) (Turn.sine t)) (funext fun l => ?_) (Fin.ext ?_)) rfl
  · refine (heads32_at _ t _ l).trans ((cut_q_at h t _).trans ?_)
    exact congrArg (fun r => h (ix2 t r)) (Fin.ext (by simp only; omega))
  · simp only; omega

def part_k : FVec Ideal S16384x4096 .f32 := flat32 (rope32 A (heads32 (cut_k h)))
theorem part_k_at (t : Fin 16384) (q : Fin 4096) :
    part_k h angles (ix2 t q) = Turn.entry (n := 12288) (by decide) 1 t (fun r => h (ix2 t r)) ⟨4096 + q.val, by omega⟩ := by
  unfold part_k Turn.entry
  rw [if_neg (by decide), flat32_at]
  rw [rope32_at, show Turn.scale (1 - 1) = 1 from by simp [Turn.scale, Turn.bits], mul_one]
  refine congrArg₂ (Turn.turn (Turn.cosine t) (Turn.sine t)) (funext fun l => ?_) (Fin.ext ?_)
  · refine (heads32_at _ t _ l).trans ((cut_k_at h t _).trans ?_)
    exact congrArg (fun r => h (ix2 t r)) (Fin.ext (by simp only; omega))
  · simp only; omega

def part_v : FVec Ideal S16384x4096 .f32 := cut_v h
theorem part_v_at (t : Fin 16384) (q : Fin 4096) :
    part_v h (ix2 t q) = Turn.entry (n := 12288) (by decide) 0 t (fun r => h (ix2 t r)) ⟨8192 + q.val, by omega⟩ := by
  exact cut_v_at h t q

variable (p0 : FVec Ideal S16384x4096 .f32) (p1 : FVec Ideal S16384x4096 .f32) (p2 : FVec Ideal S16384x4096 .f32)

/-- The parts side by side. -/
def join : FVec Ideal S16384x12288 .bf16 :=
  truncf .bf16 (concatenate S16384x12288 1 [⟨S16384x4096, p0⟩, ⟨S16384x4096, p1⟩, ⟨S16384x4096, p2⟩] concatenates_S16384x4096_S16384x4096_S16384x4096_S16384x12288_d1) bitsLt_bf16_f32

theorem join_q (t : Fin 16384) (q : Fin 12288) (h1 : 0 ≤ q.val) (h2 : q.val < 4096) :
    join p0 p1 p2 (ix2 t q) = p0 (ix2 t ⟨q.val - 0, by omega⟩) := by
  pointwise [join]
  rw [dif_pos (by omega)]
  all_goals exact congrArg (fun z => p0 (ix2 t z)) (Fin.ext (by simp only; omega))

theorem join_k (t : Fin 16384) (q : Fin 12288) (h1 : 4096 ≤ q.val) (h2 : q.val < 8192) :
    join p0 p1 p2 (ix2 t q) = p1 (ix2 t ⟨q.val - 4096, by omega⟩) := by
  pointwise [join]
  rw [dif_neg (by omega)]
  rw [dif_pos (by omega)]
  all_goals exact congrArg (fun z => p1 (ix2 t z)) (Fin.ext (by simp only; omega))

theorem join_v (t : Fin 16384) (q : Fin 12288) (h1 : 8192 ≤ q.val) (h2 : q.val < 12288) :
    join p0 p1 p2 (ix2 t q) = p2 (ix2 t ⟨q.val - 8192, by omega⟩) := by
  pointwise [join]
  rw [dif_neg (by omega)]
  rw [dif_neg (by omega)]
  all_goals exact congrArg (fun z => p2 (ix2 t z)) (Fin.ext (by simp only; omega))

/-! ### The result -/

/-- The reference's result, of its two arguments. -/
def result (x : FVec Ideal S16384x4096 .bf16) (w : FVec Ideal S2x4096x12288 .bf16) : FVec Ideal S16384x12288 .bf16 :=
  join (part_q (proj x w) angles) (part_k (proj x w) angles) (part_v (proj x w))

theorem result_at (x : FVec Ideal S16384x4096 .bf16) (w : FVec Ideal S2x4096x12288 .bf16) (t : Fin 16384) (q : Fin 12288) :
    result x w (ix2 t q) = OddInIdeal.Gen.spec x w t q := by
  have hq := q.isLt
  unfold result OddInIdeal.Gen.spec
  by_cases c0 : q.val < 4096
  · have hm : ∀ j : Fin 24, 0 ≤ j.val → j.val < 8 → (OddInIdeal.Gen.mode j).toNat = 3 := by decide
    rw [join_q _ _ _ t q (by omega) (by omega), part_q_at, hm ⟨q.val / 512, by omega⟩ (by simp only; omega) (by simp only; omega)]
    exact congrArg₂ (Turn.entry _ 3 t) (funext fun r => proj_at x w t r) (Fin.ext (by simp only; omega))
  by_cases c1 : q.val < 8192
  · have hm : ∀ j : Fin 24, 8 ≤ j.val → j.val < 16 → (OddInIdeal.Gen.mode j).toNat = 1 := by decide
    rw [join_k _ _ _ t q (by omega) (by omega), part_k_at, hm ⟨q.val / 512, by omega⟩ (by simp only; omega) (by simp only; omega)]
    exact congrArg₂ (Turn.entry _ 1 t) (funext fun r => proj_at x w t r) (Fin.ext (by simp only; omega))
  have hm : ∀ j : Fin 24, 16 ≤ j.val → j.val < 24 → (OddInIdeal.Gen.mode j).toNat = 0 := by decide
  rw [join_v _ _ _ t q (by omega) (by omega), part_v_at, hm ⟨q.val / 512, by omega⟩ (by simp only; omega) (by simp only; omega)]
  exact congrArg₂ (Turn.entry _ 0 t) (funext fun r => proj_at x w t r) (Fin.ext (by simp only; omega))

theorem result_eq (x : FVec Ideal S16384x4096 .bf16) (w : FVec Ideal S2x4096x12288 .bf16) :
    result x w = fun i => OddInIdeal.Gen.spec x w (i 0) (i 1) := by
  funext i
  exact (congrArg (result x w) (show i = ix2 (i 0) (i 1) from by pointwise)).trans (result_at x w _ _)

theorem res_eq (m : (ℓ : Loc nD τ sig) → Buf (Elt Ideal) ℓ) (c : Dev nD) :
    Value.res_main_v77 m c = result (m ((c.tc : Thread nD τ).loc main_arg0)) (m ((c.tc : Thread nD τ).loc main_arg1)) := rfl

end Cert.OddInReferenceIdeal.Stage

namespace Cert.Proof.OddIn

open Idealize.ShloMosaic Idealize.ShloMosaic.TcCoe Idealize.SL.Sem

theorem frame_p : Cert.quiescent_OddIn := Cert.OddIn.Gen.frame
theorem frame_pi : Cert.quiescent_OddInIdeal := Cert.OddInIdeal.Gen.frame
theorem frame_ri : Cert.quiescent_OddInReferenceIdeal := fun m ρ _ =>
  (θ_run Cert.OddInReferenceIdeal.defs _ _).mono (fun r h => ⟨fun c => (h c).2, sem_eq_zero_of_no_sems (by decide) r.2⟩)
    (Cert.OddInReferenceIdeal.Value.run (F := Ideal) m ρ)

/-- Nothing is rewritten. -/
theorem preserves : Cert.preserves_OddIn_OddInIdeal := trivial

theorem algebraic : Cert.algebraic_OddInIdeal_OddInReferenceIdeal := by
  intro m ρ m' ρ' _ hagree
  refine ⟨fun c => _, (θ_run Cert.OddInIdeal.defs _ _).mono (fun r h c => ⟨((h.1 c).1).trans (Cert.OddInIdeal.Gen.final m c), (h.1 c).2.1, (h.1 c).2.2⟩)
    (Cert.OddInIdeal.Gen.run_args m ρ), ?_⟩
  refine (θ_run Cert.OddInReferenceIdeal.defs _ _).mono (fun _ h c => ⟨(h c).1.trans ?_, (h c).2⟩)
    (Cert.OddInReferenceIdeal.Value.run (F := Ideal) m' ρ')
  refine (Cert.OddInReferenceIdeal.Stage.res_eq m' c).trans ?_
  rw [(hagree c).1, (hagree c).2]
  exact Cert.OddInReferenceIdeal.Stage.result_eq _ _

end Cert.Proof.OddIn

end
-- ==== Proof.EvenInIdealBody.lean ====
/-
  THE BODY OF THE EVEN LAYERS' INPUT PROJECTION, RUN. The body has two ways through a point of the grid: a block of columns
  whose mode is zero is the product itself (path A), any other is turned by the table of its mode (path B). Each is run
  once here on arbitrary whole staging buffers and arbitrary table contents, of the idealized program.
-/
module

public import proofs.«01_k».proof.Proof.Gen.EvenInIdeal.Skeleton
public import proofs.«01_k».proof.Proof.Gen.EvenInIdeal.Launch
public import Idealize.ShloMosaic.Lib.Tactic
public import Idealize.ShloMosaic.Lib.Ring
public import Idealize.ShloMosaic.Lib.Pipeline.TableIdle
public import Idealize.ShloMosaic.Lib.Pipeline.FrameBody
public import Idealize.ShloMosaic.Lib.Pipeline.Frame
public import Idealize.ShloMosaic.Lib.Pipeline.ValueKit

@[expose] public section

set_option Elab.async false

noncomputable section

namespace Cert.EvenInIdeal.Gen

open Cert.EvenInIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The table of modes as the body is handed it. -/
abbrev tbM_0 : Memref sig .tc .smem S21 .i32 := Memref.whole main_c

/-- One staging buffer of the output, through which its contents are stated. -/
abbrev VO0_3 : View sig .tc .vmem S1024x512 .bf16 := (Memref.whole cc0_stg3_0 : Memref sig .tc .vmem S1024x512 .bf16).view

set_option backward.proofsInPublic true in
set_option maxHeartbeats 8000000 in
/-- PATH A: the mode is zero. What the body leaves in the output's staging buffer, with the proof that, holding its inputs at their blocks
    and its half of the table, it runs and leaves that. -/
noncomputable def kernelRun0_A (c : Dev nD) (i : grid0.Coords) (arg3 : Memref sig .tc .vmem S1024x4096 .bf16) (harg3 : arg3.IsWhole) (arg4 : Memref sig .tc .vmem S4096x512 .bf16) (harg4 : arg4.IsWhole) (arg5 : Memref sig .tc .vmem S1x1024x384 .f32) (harg5 : arg5.IsWhole) (arg6 : Memref sig .tc .vmem S1024x512 .bf16) (harg6 : arg6.IsWhole) (T0 : S21.Idx → Elt F .i32)
    (x0 : S1024x4096.Idx → Elt F .bf16) (x1 : S4096x512.Idx → Elt F .bf16) (x2 : S1x1024x384.Idx → Elt F .f32) (k0_h1 : k0_cond1 (View.readAt (Elt F) (tbM_0).view (Rect.unit (s := S21) (k0_off1 i) S1.size (k0_off1_inb i)).toLoadRect T0 (Shape.Idx.first (numel1_S1.symm ▸ Nat.one_pos))) = 1#1) (k0_h2 : ¬(k0_cond2 (View.readAt (Elt F) (tbM_0).view (Rect.unit (s := S21) (k0_off1 i) S1.size (k0_off1_inb i)).toLoadRect T0 (Shape.Idx.first (numel1_S1.symm ▸ Nat.one_pos))) = 1#1)) :
    { out0 : List (View.Piece (Elt F) S1024x512 .bf16) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbM_0.view.loc (c : Thread nD τ) ↦{fullShare.right} T0)
          ∗ (∃ d, owns (c : Thread nD τ) arg6 fullShare d)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbM_0.view.loc (c : Thread nD τ) ↦{fullShare.right} T0)
              ∗ (∃ f, arg6.view.loc (c : Thread nD τ) ↦[arg6.view.set]{fullShare} arg6.view.writes (Elt F) f out0)) -∗ K ⟨⟩))
          ⊢ wp frame (wpE (defs₀ (F := F)) Variants.none c none) Set.univ (cc0_even_in_proj i tbM_0 (Memref.isWhole_whole _) arg3 harg3 arg4 harg4 arg5 harg5 arg6 harg6) K } :=
  ⟨_, fun K => by
    unfold owns
    rw [cc0_even_in_proj_eq_skeleton]; unfold cc0_even_in_proj_skel
    rw [k0_part1_eq_skeleton]; unfold k0_part1_skel
    iintro ⟨H0, H1, H2, HT0, ⟨%d3, %f3, -, HO3⟩, Hk⟩
    have hT0 : tbM_0.IsWhole := Memref.isWhole_whole _
    sl_exec! (disch := first | (guard_target = k0_cond1 _ = _; exact k0_h1) | (guard_target = ¬(k0_cond2 _ = _); exact k0_h2))
    sl_step
    iapply Hk
    isplitl [H0]; · iexact H0
    isplitl [H1]; · iexact H1
    isplitl [H2]; · iexact H2
    isplitl [HT0]; · iexact HT0
    iexists _; iexact HO3⟩

/-- Its stores cover the block. -/
theorem cover0_A_3 (c : Dev nD) (i : grid0.Coords) (arg3 : Memref sig .tc .vmem S1024x4096 .bf16) (harg3 : arg3.IsWhole) (arg4 : Memref sig .tc .vmem S4096x512 .bf16) (harg4 : arg4.IsWhole) (arg5 : Memref sig .tc .vmem S1x1024x384 .f32) (harg5 : arg5.IsWhole) (arg6 : Memref sig .tc .vmem S1024x512 .bf16) (harg6 : arg6.IsWhole) (T0 : S21.Idx → Elt F .i32)
    (x0 : S1024x4096.Idx → Elt F .bf16) (x1 : S4096x512.Idx → Elt F .bf16) (x2 : S1x1024x384.Idx → Elt F .f32) (k0_h1 : k0_cond1 (View.readAt (Elt F) (tbM_0).view (Rect.unit (s := S21) (k0_off1 i) S1.size (k0_off1_inb i)).toLoadRect T0 (Shape.Idx.first (numel1_S1.symm ▸ Nat.one_pos))) = 1#1) (k0_h2 : ¬(k0_cond2 (View.readAt (Elt F) (tbM_0).view (Rect.unit (s := S21) (k0_off1 i) S1.size (k0_off1_inb i)).toLoadRect T0 (Shape.Idx.first (numel1_S1.symm ▸ Nat.one_pos))) = 1#1)) (y : S1024x512.Idx) :
    ∃ pc ∈ (kernelRun0_A c i arg3 harg3 arg4 harg4 arg5 harg5 arg6 harg6 T0 x0 x1 x2 k0_h1 k0_h2).1, y ∈ pc.1.set :=
  View.cover_of_tiledL (kernelRun0_A c i arg3 harg3 arg4 harg4 arg5 harg5 arg6 harg6 T0 x0 x1 x2 k0_h1 k0_h2).1 S1024x512.size (by sl_kernel_rfl) y

/-- What the block then holds. -/
noncomputable def out0_A_3 (c : Dev nD) (i : grid0.Coords) (arg3 : Memref sig .tc .vmem S1024x4096 .bf16) (harg3 : arg3.IsWhole) (arg4 : Memref sig .tc .vmem S4096x512 .bf16) (harg4 : arg4.IsWhole) (arg5 : Memref sig .tc .vmem S1x1024x384 .f32) (harg5 : arg5.IsWhole) (arg6 : Memref sig .tc .vmem S1024x512 .bf16) (harg6 : arg6.IsWhole) (T0 : S21.Idx → Elt F .i32)
    (x0 : S1024x4096.Idx → Elt F .bf16) (x1 : S4096x512.Idx → Elt F .bf16) (x2 : S1x1024x384.Idx → Elt F .f32) (k0_h1 : k0_cond1 (View.readAt (Elt F) (tbM_0).view (Rect.unit (s := S21) (k0_off1 i) S1.size (k0_off1_inb i)).toLoadRect T0 (Shape.Idx.first (numel1_S1.symm ▸ Nat.one_pos))) = 1#1) (k0_h2 : ¬(k0_cond2 (View.readAt (Elt F) (tbM_0).view (Rect.unit (s := S21) (k0_off1 i) S1.size (k0_off1_inb i)).toLoadRect T0 (Shape.Idx.first (numel1_S1.symm ▸ Nat.one_pos))) = 1#1)) : S1024x512.Idx → Elt F .bf16 :=
  VO0_3.read (Elt F) (VO0_3.writes (Elt F) VO0_3.junk (kernelRun0_A c i arg3 harg3 arg4 harg4 arg5 harg5 arg6 harg6 T0 x0 x1 x2 k0_h1 k0_h2).1)

set_option backward.proofsInPublic true in
set_option maxHeartbeats 8000000 in
/-- PATH B: the mode is not zero. What the body leaves in the output's staging buffer, with the proof that, holding its inputs at their blocks
    and its half of the table, it runs and leaves that. -/
noncomputable def kernelRun0_B (c : Dev nD) (i : grid0.Coords) (arg3 : Memref sig .tc .vmem S1024x4096 .bf16) (harg3 : arg3.IsWhole) (arg4 : Memref sig .tc .vmem S4096x512 .bf16) (harg4 : arg4.IsWhole) (arg5 : Memref sig .tc .vmem S1x1024x384 .f32) (harg5 : arg5.IsWhole) (arg6 : Memref sig .tc .vmem S1024x512 .bf16) (harg6 : arg6.IsWhole) (T0 : S21.Idx → Elt F .i32)
    (x0 : S1024x4096.Idx → Elt F .bf16) (x1 : S4096x512.Idx → Elt F .bf16) (x2 : S1x1024x384.Idx → Elt F .f32) (k0_h1 : ¬(k0_cond1 (View.readAt (Elt F) (tbM_0).view (Rect.unit (s := S21) (k0_off1 i) S1.size (k0_off1_inb i)).toLoadRect T0 (Shape.Idx.first (numel1_S1.symm ▸ Nat.one_pos))) = 1#1)) (k0_h2 : k0_cond2 (View.readAt (Elt F) (tbM_0).view (Rect.unit (s := S21) (k0_off1 i) S1.size (k0_off1_inb i)).toLoadRect T0 (Shape.Idx.first (numel1_S1.symm ▸ Nat.one_pos))) = 1#1) :
    { out0 : List (View.Piece (Elt F) S1024x512 .bf16) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbM_0.view.loc (c : Thread nD τ) ↦{fullShare.right} T0)
          ∗ (∃ d, owns (c : Thread nD τ) arg6 fullShare d)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tbM_0.view.loc (c : Thread nD τ) ↦{fullShare.right} T0)
              ∗ (∃ f, arg6.view.loc (c : Thread nD τ) ↦[arg6.view.set]{fullShare} arg6.view.writes (Elt F) f out0)) -∗ K ⟨⟩))
          ⊢ wp frame (wpE (defs₀ (F := F)) Variants.none c none) Set.univ (cc0_even_in_proj i tbM_0 (Memref.isWhole_whole _) arg3 harg3 arg4 harg4 arg5 harg5 arg6 harg6) K } :=
  ⟨_, fun K => by
    unfold owns
    rw [cc0_even_in_proj_eq_skeleton]; unfold cc0_even_in_proj_skel
    rw [k0_part1_eq_skeleton]; unfold k0_part1_skel
    iintro ⟨H0, H1, H2, HT0, ⟨%d3, %f3, -, HO3⟩, Hk⟩
    have hT0 : tbM_0.IsWhole := Memref.isWhole_whole _
    sl_exec! (disch := first | (guard_target = ¬(k0_cond1 _ = _); exact k0_h1) | (guard_target = k0_cond2 _ = _; exact k0_h2))
    sl_step
    iapply Hk
    isplitl [H0]; · iexact H0
    isplitl [H1]; · iexact H1
    isplitl [H2]; · iexact H2
    isplitl [HT0]; · iexact HT0
    iexists _; iexact HO3⟩

/-- Its stores cover the block. -/
theorem cover0_B_3 (c : Dev nD) (i : grid0.Coords) (arg3 : Memref sig .tc .vmem S1024x4096 .bf16) (harg3 : arg3.IsWhole) (arg4 : Memref sig .tc .vmem S4096x512 .bf16) (harg4 : arg4.IsWhole) (arg5 : Memref sig .tc .vmem S1x1024x384 .f32) (harg5 : arg5.IsWhole) (arg6 : Memref sig .tc .vmem S1024x512 .bf16) (harg6 : arg6.IsWhole) (T0 : S21.Idx → Elt F .i32)
    (x0 : S1024x4096.Idx → Elt F .bf16) (x1 : S4096x512.Idx → Elt F .bf16) (x2 : S1x1024x384.Idx → Elt F .f32) (k0_h1 : ¬(k0_cond1 (View.readAt (Elt F) (tbM_0).view (Rect.unit (s := S21) (k0_off1 i) S1.size (k0_off1_inb i)).toLoadRect T0 (Shape.Idx.first (numel1_S1.symm ▸ Nat.one_pos))) = 1#1)) (k0_h2 : k0_cond2 (View.readAt (Elt F) (tbM_0).view (Rect.unit (s := S21) (k0_off1 i) S1.size (k0_off1_inb i)).toLoadRect T0 (Shape.Idx.first (numel1_S1.symm ▸ Nat.one_pos))) = 1#1) (y : S1024x512.Idx) :
    ∃ pc ∈ (kernelRun0_B c i arg3 harg3 arg4 harg4 arg5 harg5 arg6 harg6 T0 x0 x1 x2 k0_h1 k0_h2).1, y ∈ pc.1.set :=
  View.cover_of_tiledL (kernelRun0_B c i arg3 harg3 arg4 harg4 arg5 harg5 arg6 harg6 T0 x0 x1 x2 k0_h1 k0_h2).1 S1024x128.size (by sl_kernel_rfl) y

/-- What the block then holds. -/
noncomputable def out0_B_3 (c : Dev nD) (i : grid0.Coords) (arg3 : Memref sig .tc .vmem S1024x4096 .bf16) (harg3 : arg3.IsWhole) (arg4 : Memref sig .tc .vmem S4096x512 .bf16) (harg4 : arg4.IsWhole) (arg5 : Memref sig .tc .vmem S1x1024x384 .f32) (harg5 : arg5.IsWhole) (arg6 : Memref sig .tc .vmem S1024x512 .bf16) (harg6 : arg6.IsWhole) (T0 : S21.Idx → Elt F .i32)
    (x0 : S1024x4096.Idx → Elt F .bf16) (x1 : S4096x512.Idx → Elt F .bf16) (x2 : S1x1024x384.Idx → Elt F .f32) (k0_h1 : ¬(k0_cond1 (View.readAt (Elt F) (tbM_0).view (Rect.unit (s := S21) (k0_off1 i) S1.size (k0_off1_inb i)).toLoadRect T0 (Shape.Idx.first (numel1_S1.symm ▸ Nat.one_pos))) = 1#1)) (k0_h2 : k0_cond2 (View.readAt (Elt F) (tbM_0).view (Rect.unit (s := S21) (k0_off1 i) S1.size (k0_off1_inb i)).toLoadRect T0 (Shape.Idx.first (numel1_S1.symm ▸ Nat.one_pos))) = 1#1) : S1024x512.Idx → Elt F .bf16 :=
  VO0_3.read (Elt F) (VO0_3.writes (Elt F) VO0_3.junk (kernelRun0_B c i arg3 harg3 arg4 harg4 arg5 harg5 arg6 harg6 T0 x0 x1 x2 k0_h1 k0_h2).1)

end Cert.EvenInIdeal.Gen

end
-- ==== Proof.EvenInIdealFrame.lean ====
/-
  THE RUN OF THE EVEN LAYERS' INPUT PROJECTION. The body obligation by the two ways through a point, then the launch: the
  host operations that write the modes and build the tables of cosines and sines, then the grid. The modes are the
  program's own constants, so every block is inside its array.
-/
module

public import proofs.«01_k».proof.Defs
public import proofs.«01_k».proof.Proof.EvenInIdealBody

@[expose] public section

set_option Elab.async false

noncomputable section

namespace Cert.EvenInIdeal.Gen

open Cert.EvenInIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The contents of the TensorCore's buffers when the grid starts. -/
abbrev Entry (F : FTy → Type) := (c : Dev nD) → (b : Ref sig .tc) → Buf (Elt F) ((c.tc : Thread nD τ).loc b)

variable (a : (pcfg0 (F := F)).Adm) (V : Entry F)

abbrev crd (t : Fin (cfg0 a).N) : grid0.Coords := (cfg0 a).grid.coords t
abbrev ms0_0 (t : Fin (cfg0 a).N) : Memref sig .tc .vmem S1024x4096 .bf16 := spec0_0.stage ((cfg0 a).slots t (0 : Fin 4))
theorem hs0_0 (t : Fin (cfg0 a).N) : (ms0_0 a t).IsWhole := hstage0_0 (((cfg0 a).slots t (0 : Fin 4)).cast nbuf0_0)
abbrev ms0_1 (t : Fin (cfg0 a).N) : Memref sig .tc .vmem S4096x512 .bf16 := spec0_1.stage ((cfg0 a).slots t (1 : Fin 4))
theorem hs0_1 (t : Fin (cfg0 a).N) : (ms0_1 a t).IsWhole := hstage0_1 (((cfg0 a).slots t (1 : Fin 4)).cast nbuf0_1)
abbrev ms0_2 (t : Fin (cfg0 a).N) : Memref sig .tc .vmem S1x1024x384 .f32 := spec0_2.stage ((cfg0 a).slots t (2 : Fin 4))
theorem hs0_2 (t : Fin (cfg0 a).N) : (ms0_2 a t).IsWhole := hstage0_2 (((cfg0 a).slots t (2 : Fin 4)).cast nbuf0_2)
abbrev ms0_3 (t : Fin (cfg0 a).N) : Memref sig .tc .vmem S1024x512 .bf16 := spec0_3.stage ((cfg0 a).slots t (3 : Fin 4))
theorem hs0_3 (t : Fin (cfg0 a).N) : (ms0_3 a t).IsWhole := hstage0_3 (((cfg0 a).slots t (3 : Fin 4)).cast nbuf0_3)

/-- Window `w`'s block at point `t`, read off its array at entry. -/
def iblk (c : Dev nD) (w : Fin (cfg0 a).W) (t : Fin (cfg0 a).N) :
    (((cfg0 a).win w).xblock (crd a t)).Idx → Elt F ((cfg0 a).win w).elt :=
  (((cfg0 a).win w).blk t).view.read (Elt F) (V c (Pipeline.arrRef (cfg0 a).spec w))

/-- The word the body tests: the mode of the block of columns. -/
abbrev word (i : grid0.Coords) : BitVec 32 := View.readAt (Elt F) (tbM_0).view (Rect.unit (s := S21) (k0_off1 i) S1.size (k0_off1_inb i)).toLoadRect (a.1 0) (Shape.Idx.first (numel1_S1.symm ▸ Nat.one_pos))

/-- The two tests are each other's negation. -/
theorem cond2_iff (w : BitVec 32) : k0_cond2 w = 1#1 ↔ ¬ (k0_cond1 w = 1#1) := by
  have e1 : k0_cond1 w = 1#1 ↔ w = 0#32 := by
    unfold k0_cond1
    by_cases h : w = 0#32
    · simp [Scalar.cmpi, Scalar.extui, IntOp.cmpi, h]
    · have hb : (w == 0#32) = false := by simpa using h
      simp [Scalar.cmpi, Scalar.extui, IntOp.cmpi, h, hb, bne]
  have e2 : k0_cond2 w = 1#1 ↔ ¬ w = 0#32 := by
    unfold k0_cond2
    by_cases h : w = 0#32
    · simp [Scalar.cmpi, Scalar.extui, IntOp.cmpi, h]
    · have hb : (w == 0#32) = false := by simpa using h
      simp [Scalar.cmpi, Scalar.extui, IntOp.cmpi, h, hb, bne]
  rw [e1, e2]

theorem not_cond2 (w : BitVec 32) (h : k0_cond1 w = 1#1) : ¬ (k0_cond2 w = 1#1) :=
  fun h2 => (cond2_iff w).1 h2 h

/-- What the output's block holds after point `t`. -/
def outAt (c : Dev nD) (t : Fin (cfg0 a).N) : S1024x512.Idx → Elt F .bf16 :=
  if h : k0_cond1 (word a (crd a t)) = 1#1 then
    out0_A_3 c (crd a t) (ms0_0 a t) (hs0_0 a t) (ms0_1 a t) (hs0_1 a t) (ms0_2 a t) (hs0_2 a t) (ms0_3 a t) (hs0_3 a t) (a.1 0) (iblk a V c (0 : Fin 4) t) (iblk a V c (1 : Fin 4) t) (iblk a V c (2 : Fin 4) t) h (not_cond2 _ h)
  else
    out0_B_3 c (crd a t) (ms0_0 a t) (hs0_0 a t) (ms0_1 a t) (hs0_1 a t) (ms0_2 a t) (hs0_2 a t) (ms0_3 a t) (hs0_3 a t) (a.1 0) (iblk a V c (0 : Fin 4) t) (iblk a V c (1 : Fin 4) t) (iblk a V c (2 : Fin 4) t) h ((cond2_iff _).2 h)

/-- No point leaves the output untouched. -/
theorem idle_3 (i : grid0.Coords) : (cfg0 a).idle (3 : Fin 4) i = false := by
  show (!(k0_cond1 (a.1.atD 0 (k0_off1 i)) == 1#1) && !(k0_cond2 (a.1.atD 0 (k0_off1 i)) == 1#1)) = false
  by_cases h : k0_cond1 (a.1.atD 0 (k0_off1 i)) = 1#1
  · simp [h]
  · simp [h, (cond2_iff _).2 h]

/-- The pipeline's proof data. -/
def dats (_ : Fin 1) (c : Dev nD) : Dat τ (Elt F) Unit ℕ (UR sig nD τ) ℕ (cfg0 a) c where
  A w := V c (Pipeline.arrRef (cfg0 a).spec w)
  after w t := match w with
    | ⟨0, _⟩ => iblk a V c (0 : Fin 4) t
    | ⟨1, _⟩ => iblk a V c (1 : Fin 4) t
    | ⟨2, _⟩ => iblk a V c (2 : Fin 4) t
    | ⟨3, _⟩ => outAt a V c t
  Φ _ := iprop(Pipeline.ΦA (cfg0 a).spec c ∗ Pipeline.ΦT pre0 a.1 c)
  q _ := fullShare
  owed _ := 0
theorem after0_0 (c : Dev nD) (t : Fin (cfg0 a).N) : (dats a V 0 c).after (0 : Fin 4) t = iblk a V c (0 : Fin 4) t := rfl
theorem after0_1 (c : Dev nD) (t : Fin (cfg0 a).N) : (dats a V 0 c).after (1 : Fin 4) t = iblk a V c (1 : Fin 4) t := rfl
theorem after0_2 (c : Dev nD) (t : Fin (cfg0 a).N) : (dats a V 0 c).after (2 : Fin 4) t = iblk a V c (2 : Fin 4) t := rfl
theorem after0_3 (c : Dev nD) (t : Fin (cfg0 a).N) : (dats a V 0 c).after (3 : Fin 4) t = outAt a V c t := rfl

theorem before0_0 (c : Dev nD) (t : Fin (cfg0 a).N) (d) : (dats a V 0 c).before (0 : Fin 4) t d = iblk a V c (0 : Fin 4) t :=
  ((dats a V 0 c).before_in_eq_fetched (0 : Fin 4) rfl (fun _ => rfl) (fun _ _ _ => rfl) (fun t => by rw [after0_0]; unfold Dat.blockOf iblk; rfl) t d).trans
    (by unfold Dat.fetched Dat.blockOf iblk; rfl)
theorem before0_1 (c : Dev nD) (t : Fin (cfg0 a).N) (d) : (dats a V 0 c).before (1 : Fin 4) t d = iblk a V c (1 : Fin 4) t :=
  ((dats a V 0 c).before_in_eq_fetched (1 : Fin 4) rfl (fun _ => rfl) (fun _ _ _ => rfl) (fun t => by rw [after0_1]; unfold Dat.blockOf iblk; rfl) t d).trans
    (by unfold Dat.fetched Dat.blockOf iblk; rfl)
theorem before0_2 (c : Dev nD) (t : Fin (cfg0 a).N) (d) : (dats a V 0 c).before (2 : Fin 4) t d = iblk a V c (2 : Fin 4) t :=
  ((dats a V 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- The one table. -/
theorem prefHeld_eq (c : Dev nD) (q : Fin 1 → PosShare TreeShare) (v : pre0.Contents (Elt F)) :
    (Pipeline.prefHeld (Ix := Unit) (Name := ℕ) (U := UR sig nD τ) (Lvl := ℕ) pre0 c q v : sProp 𝕄)
      = iprop(((c : Thread nD τ).loc main_c) ↦{q 0} v 0) := by
  unfold Pipeline.prefHeld
  rw [show (Finset.univ : Finset (Fin 1)) = {(0 : Fin 1)} from by decide, bigSep_singleton]
  rfl

/-- The body at point `t` on its staging buffers. -/
abbrev bodyAt0 (t : Fin (cfg0 a).N) : Prog (TpuEff nD τ sig (Elt F) Λ₀ .tc) PUnit :=
  cc0_even_in_proj (crd a t) tbM_0 (Memref.isWhole_whole _) (ms0_0 a t) (hs0_0 a t) (ms0_1 a t) (hs0_1 a t) (ms0_2 a t) (hs0_2 a t) (ms0_3 a t) (hs0_3 a t)

set_option maxHeartbeats 4000000 in
/-- The body obligation at point `t`: which way the point goes is told by its first test. -/
theorem sound_body (c : Dev nD) (t : Fin (cfg0 a).N) :
    iprop((dats a V 0 c).Φ t.castSucc ∗ (dats a V 0 c).owesAt () t.castSucc
        ∗ (∃ d, owns (c : Thread nD τ) (ms0_0 a t) fullShare ((dats a V 0 c).before (0 : Fin 4) t d))
        ∗ (∃ d, owns (c : Thread nD τ) (ms0_1 a t) fullShare ((dats a V 0 c).before (1 : Fin 4) t d))
        ∗ (∃ d, owns (c : Thread nD τ) (ms0_2 a t) fullShare ((dats a V 0 c).before (2 : Fin 4) t d))
        ∗ (∃ d, owns (c : Thread nD τ) (ms0_3 a t) fullShare ((dats a V 0 c).before (3 : Fin 4) t d)))
      ⊢ wp frame (wpE (defs₀ (F := F)) Variants.none c none) Set.univ (bodyAt0 a t) fun _ =>
          iprop((dats a V 0 c).Φ t.succ ∗ (dats a V 0 c).owesAt () t.succ
            ∗ bigSep Finset.univ fun w : Fin (cfg0 a).W =>
                match (cfg0 a).idle w ((cfg0 a).grid.coords t) with
                | true =>
                  match ((cfg0 a).win w).flush t with
                  | false => iprop(∃ d, owns (c : Thread nD τ) (((cfg0 a).win w).stage ((cfg0 a).slots t w)) fullShare ((dats a V 0 c).before w t d))
                  | true => owns (c : Thread nD τ) (((cfg0 a).win w).stage ((cfg0 a).slots t w)) fullShare ((dats a V 0 c).after w t)
                | false => owns (c : Thread nD τ) (((cfg0 a).win w).stage ((cfg0 a).slots t w)) fullShare ((dats a V 0 c).after w t)) := by
  rw [bigSep_W0]
  rewrite [idle_3 a]
  simp only [before0_0, before0_1, before0_2, after0_0, after0_1, after0_2, after0_3]
  rewrite [show (dats a V 0 c).Φ t.succ = iprop(Pipeline.ΦA (cfg0 a).spec c ∗ Pipeline.ΦT pre0 a.1 c) from rfl,
    show (dats a V 0 c).Φ t.castSucc = iprop(Pipeline.ΦA (cfg0 a).spec c ∗ Pipeline.ΦT pre0 a.1 c) from rfl,
    show (dats a V 0 c).owesAt () t.succ = (dats a V 0 c).owesAt () t.castSucc from rfl]
  rw [show (Pipeline.ΦT pre0 a.1 c : sProp 𝕄) = _ from prefHeld_eq c _ _]
  by_cases h : k0_cond1 (word a (crd a t)) = 1#1
  · rw [show outAt a V c t = out0_A_3 c (crd a t) (ms0_0 a t) (hs0_0 a t) (ms0_1 a t) (hs0_1 a t) (ms0_2 a t) (hs0_2 a t) (ms0_3 a t) (hs0_3 a t) (a.1 0) (iblk a V c (0 : Fin 4) t) (iblk a V c (1 : Fin 4) t) (iblk a V c (2 : Fin 4) t) h (not_cond2 _ h) from by unfold outAt; rw [dif_pos h]]
    iintro ⟨⟨HA, HT0⟩, Ho, ⟨%d0, H0⟩, ⟨%d1, H1⟩, ⟨%d2, H2⟩, ⟨%d3, H3⟩⟩
    iapply ((kernelRun0_A c (crd a t) (ms0_0 a t) (hs0_0 a t) (ms0_1 a t) (hs0_1 a t) (ms0_2 a t) (hs0_2 a t) (ms0_3 a t) (hs0_3 a t) (a.1 0) (iblk a V c (0 : Fin 4) t) (iblk a V c (1 : Fin 4) t) (iblk a V c (2 : Fin 4) t) h (not_cond2 _ h)).2 _)
    isplitl [H0]; · iapply rep_of_owns; iexact H0
    isplitl [H1]; · iapply rep_of_owns; iexact H1
    isplitl [H2]; · iapply rep_of_owns; iexact H2
    isplitl [HT0]; · iexact HT0
    isplitl [H3]; · iexists _; iexact H3
    iintro ⟨H0, H1, H2, HT0, ⟨%e3, H3⟩⟩
    isplitl [HA HT0]
    · isplitl [HA]
      · iexact HA
      iexact HT0
    isplitl [Ho]; · iexact Ho
    isplitl [H0]
    · iapply owns_of_rep; iexact H0
    isplitl [H1]
    · iapply owns_of_rep; iexact H1
    isplitl [H2]
    · iapply owns_of_rep; iexact H2
    unfold owns; iexists _; isplitr; swap
    · iexact H3
    · ipureintro; exact View.read_writes_of_cover _ _ _ _ _ (cover0_A_3 c (crd a t) (ms0_0 a t) (hs0_0 a t) (ms0_1 a t) (hs0_1 a t) (ms0_2 a t) (hs0_2 a t) (ms0_3 a t) (hs0_3 a t) (a.1 0) (iblk a V c (0 : Fin 4) t) (iblk a V c (1 : Fin 4) t) (iblk a V c (2 : Fin 4) t) h (not_cond2 _ h))
  · rw [show outAt a V c t = out0_B_3 c (crd a t) (ms0_0 a t) (hs0_0 a t) (ms0_1 a t) (hs0_1 a t) (ms0_2 a t) (hs0_2 a t) (ms0_3 a t) (hs0_3 a t) (a.1 0) (iblk a V c (0 : Fin 4) t) (iblk a V c (1 : Fin 4) t) (iblk a V c (2 : Fin 4) t) h ((cond2_iff _).2 h) from by unfold outAt; rw [dif_neg h]]
    iintro ⟨⟨HA, HT0⟩, Ho, ⟨%d0, H0⟩, ⟨%d1, H1⟩, ⟨%d2, H2⟩, ⟨%d3, H3⟩⟩
    iapply ((kernelRun0_B c (crd a t) (ms0_0 a t) (hs0_0 a t) (ms0_1 a t) (hs0_1 a t) (ms0_2 a t) (hs0_2 a t) (ms0_3 a t) (hs0_3 a t) (a.1 0) (iblk a V c (0 : Fin 4) t) (iblk a V c (1 : Fin 4) t) (iblk a V c (2 : Fin 4) t) h ((cond2_iff _).2 h)).2 _)
    isplitl [H0]; · iapply rep_of_owns; iexact H0
    isplitl [H1]; · iapply rep_of_owns; iexact H1
    isplitl [H2]; · iapply rep_of_owns; iexact H2
    isplitl [HT0]; · iexact HT0
    isplitl [H3]; · iexists _; iexact H3
    iintro ⟨H0, H1, H2, HT0, ⟨%e3, H3⟩⟩
    isplitl [HA HT0]
    · isplitl [HA]
      · iexact HA
      iexact HT0
    isplitl [Ho]; · iexact Ho
    isplitl [H0]
    · iapply owns_of_rep; iexact H0
    isplitl [H1]
    · iapply owns_of_rep; iexact H1
    isplitl [H2]
    · iapply owns_of_rep; iexact H2
    unfold owns; iexists _; isplitr; swap
    · iexact H3
    · ipureintro; exact View.read_writes_of_cover _ _ _ _ _ (cover0_B_3 c (crd a t) (ms0_0 a t) (hs0_0 a t) (ms0_1 a t) (hs0_1 a t) (ms0_2 a t) (hs0_2 a t) (ms0_3 a t) (hs0_3 a t) (a.1 0) (iblk a V c (0 : Fin 4) t) (iblk a V c (1 : Fin 4) t) (iblk a V c (2 : Fin 4) t) h ((cond2_iff _).2 h))

/-- The library's body obligation, at every point. -/
theorem body_obligation (c : Dev nD) : BodyObligation (dats a V 0 c) (defs₀ (F := F)) Variants.none () Set.univ := fun t => by
  rw [bigSep_W0]
  exact sound_body a V c t

theorem share_eq (c : Dev nD) (w : Fin (cfg0 a).W) : (dats a V 0 c).share w = fullShare := by unfold Dat.share; split <;> rfl

/-- The buffers when the grid starts: the host operations done on the launch memory. -/
def entry (m : (ℓ : Loc nD τ sig) → Buf (Elt F) ℓ) : Entry F :=
  fun c b => StableHlo.after hostOps0 (fun b => m (c, b)) b

set_option maxHeartbeats 4000000 in
/-- THE RUN: from any memory whose table (after the host operations) is the admissible contents `a`, every execution
    terminates with every array at the computed contents, every other buffer as the host operations left it, and every
    semaphore counter at zero. -/
theorem run (m : (ℓ : Loc nD τ sig) → Buf (Elt F) ℓ) (ρ : Dev nD → PrngReg)
    (hpf : ∀ c k, entry m c (pre0.ref k) = a.1 k) :
    θ_run (defs (F := F)) (onTc (τ := τ) (main (F := F))) (s₀ m ρ)
      (fun r => Pipeline.FramePost (Pipeline.pin (pcfgs (F := F)) fun _ => a) (fun p c => dats a (entry m) p c) 0 (entry m) r ∧ r.2.sem = fun _ => 0) :=
  Pipeline.θ_run_frameP (pcfgs (F := F)) (fun _ => a) (fun p c => dats a (entry m) p c) 0 launch0 defs₀ Variants.none m ρ main
    (fun c => (body_obligation a (entry m) c).loose) (share_eq a (entry m)) (fun _ _ => rfl) (entry m)
    (Pipeline.hmainP_prefix (pcfgs (F := F)) 0 defs₀ Variants.none m main hostOps0 hostOps0_sub
      (by simp only [hostOps0, List.Forall]; exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩) main_chain)
    (fun _ _ => rfl) hpf (fun _ _ => rfl) _ (fun _ h => h)

/-! ## The modes, and the index maps in closed form -/

/-- The table of modes, as the host writes it. -/
def tbl : pre0.Contents (Elt F) := fun | 0 => fun i => lit0 (S21.rowMajor i)

/-- The mode of block `j` of columns. -/
def mode (j : Fin 21) : BitVec 32 := lit0 (S21.rowMajor (ix1 j))

/-- Which of the three tables a block of columns reads. -/
def pickTab (j : Fin 21) : ℕ := (Scalar.maxsi (Scalar.subi (mode j) 1#32) 0#32).toNat

theorem pickTab_lt : ∀ j : Fin 21, pickTab j < 3 := by decide

theorem lt0 (i : grid0.Coords) : (i 0).val < 16 := (i 0).isLt
theorem lt1 (i : grid0.Coords) : (i 1).val < 21 := (i 1).isLt

theorem off_eq (i : grid0.Coords) : (Scalar.indexCast (BitVec.ofNat 32 (i 1).val) : Index).toNat = (i 1).val := congrFun (k0_off1_eq i) 0

theorem at0 (i : grid0.Coords) : (tbl (F := F)).at 0 (Rect.unit (s := S21) ![((Scalar.indexCast (BitVec.ofNat 32 (i 1).val) : Index)).toNat] S1.size (k0_off1_inb i)) numel1_S1 = mode (i 1) := by
  show lit0 _ = lit0 _
  congr 2
  funext a
  fin_cases a
  apply Fin.ext
  refine Eq.trans ?_ (off_eq i)
  exact (Nat.add_zero _)

theorem map0 (i : grid0.Coords) : cc0_transform_0 i = ![(i 0).val, 0] := by
  have h : (BitVec.ofNat 32 (i 0).val).toNat = (i 0).val := by rw [BitVec.toNat_ofNat]; have := lt0 i; omega
  unfold cc0_transform_0
  dsimp only
  rw [h]
  rfl
theorem map1 (i : grid0.Coords) : cc0_transform_1 i = ![0, (i 1).val] := by
  have h : (BitVec.ofNat 32 (i 1).val).toNat = (i 1).val := by rw [BitVec.toNat_ofNat]; have := lt1 i; omega
  unfold cc0_transform_1
  dsimp only
  rw [h]
  rfl
theorem map2 (i : grid0.Coords) : cc0_transform_2 k0_off1_inb numel1_S1 (tbl (F := F)) i = ![pickTab (i 1), (i 0).val, 0] := by
  have h : (BitVec.ofNat 32 (i 0).val).toNat = (i 0).val := by rw [BitVec.toNat_ofNat]; have := lt0 i; omega
  unfold cc0_transform_2
  dsimp only
  rw [at0, h]
  rfl
theorem map3 (i : grid0.Coords) : cc0_transform_3 i = ![(i 0).val, (i 1).val] := by
  have h : (BitVec.ofNat 32 (i 0).val).toNat = (i 0).val := by rw [BitVec.toNat_ofNat]; have := lt0 i; omega
  have h' : (BitVec.ofNat 32 (i 1).val).toNat = (i 1).val := by rw [BitVec.toNat_ofNat]; have := lt1 i; omega
  unfold cc0_transform_3
  dsimp only
  rw [h, h']

theorem ok_tbl : ok0 (tbl (F := F)) := by
  intro i
  refine ⟨fun a => ?_, .inl rfl⟩
  rw [map2 i]
  have hp := pickTab_lt (i 1)
  have h0 := lt0 i
  fin_cases a
  · show (pickTab (i 1) + 1) * 1 ≤ 3
    omega
  · show ((i 0).val + 1) * 1024 ≤ 16384
    omega
  · show (0 + 1) * 384 ≤ 384
    decide

def adm : (pcfg0 (F := F)).Adm := ⟨tbl, ok_tbl⟩

section Memory

variable (m : (ℓ : Loc nD τ sig) → Buf (Elt F) ℓ)

/-- The host operations write neither argument. -/
theorem entry_arg0 (c : Dev nD) : entry m c main_arg0 = m ((c.tc : Thread nD τ).loc main_arg0) := by
  unfold entry
  after_results
theorem entry_arg1 (c : Dev nD) : entry m c main_arg1 = m ((c.tc : Thread nD τ).loc main_arg1) := by
  unfold entry
  after_results

theorem entry_tbl (c : Dev nD) (k : Fin 1) : entry m c (pre0.ref k) = (tbl (F := F)) k := by
  fin_cases k
  show entry m c main_c = _
  unfold entry
  after_results
  rfl

variable (ρ : Dev nD → PrngReg)

set_option maxHeartbeats 4000000 in
/-- What the run leaves: the arguments as they were, the result as the proof data computes it, no counter up. -/
theorem run_args : θ_run (defs (F := F)) (onTc (τ := τ) (main (F := F))) ⟨m, fun _ => 0, ρ⟩ (fun r =>
    (∀ c : Dev nD, r.2.mem ((c.tc : Thread nD τ).loc main_v80) = (dats adm (entry m) 0 c).arrAt (3 : Fin 4) (cfg0 (F := F) adm).N
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  refine (θ_run defs _ _).mono (fun r h => ⟨fun c => ⟨(h.1 c).1 (3 : Fin 4), ?_, ?_⟩, h.2⟩) (run adm m ρ (fun c k => entry_tbl m c k))
  · exact ((h.1 c).1 (0 : Fin 4)).trans (((dats adm (entry m) 0 c).arrAt_in (0 : Fin 4) rfl _).trans (entry_arg0 m c))
  · exact ((h.1 c).1 (1 : Fin 4)).trans (((dats adm (entry m) 0 c).arrAt_in (1 : Fin 4) rfl _).trans (entry_arg1 m c))

end Memory

/-- The frame. -/
theorem frame : Cert.quiescent_EvenInIdeal := fun m ρ _ =>
  (θ_run defs _ _).mono (fun r hr => ⟨fun c => (hr.1 c).2, hr.2⟩) (run_args m ρ)

end Cert.EvenInIdeal.Gen

end
-- ==== Proof.EvenInIdealTables.lean ====
/-
  THE TABLES OF THE EVEN LAYERS' INPUT PROJECTION, as the host operations build them: the three tables differ by their scale alone,
  and each has, side by side, the factors of a lane, of the lane sixteen above and of the lane sixteen below.
-/
module

public import proofs.«01_k».proof.Proof.EvenInIdealFrame
public import proofs.«01_k».proof.Proof.Turn
public import Idealize.ShloMosaic.Lib.Pointwise

@[expose] public section

set_option maxRecDepth 16384

noncomputable section

namespace Cert.EvenInIdeal.Tabs

open Idealize.ShloMosaic Idealize.ShloMosaic.TcCoe Idealize.SL.Sem Cert.EvenInIdeal Cert.EvenInIdeal.Gen

/-- The angles. -/
def angles : FVec Ideal S16384x16 .f32 :=
  mulf (broadcastInDim S16384x16 ![0, 1] bcast_S16384x1_S16384x16_0_1 (broadcastInDim S16384x1 ![0] bcast_S16384_S16384x1_0 (sitofp .f32 (iotaInDim S16384 32 0)))) (broadcastInDim S16384x16 ![0, 1] bcast_S1x16_S16384x16_0_1 (broadcastInDim S1x16 ![1] bcast_S16_S1x16_1 (Host.powf (broadcastInDim S16 ![] bcast_S_S16 (constant S_ .f32 0x48F42400#32)) (Host.divf (Host.negf (sitofp .f32 (iotaInDim S16 32 0))) (broadcastInDim S16 ![] bcast_S_S16 (constant S_ .f32 0x41800000#32))))))

theorem angles_at (t : Fin 16384) (f : Fin 16) : angles (ix2 t f) = Turn.angle t f := by
  pointwise [angles]
  rfl

variable (A : FVec Ideal S16384x16 .f32)

def ones96 : FVec Ideal S16384x96 .f32 := broadcastInDim S16384x96 ![] bcast_S_S16384x96 (constant S_ .f32 0x3F800000#32)
def zeros96 : FVec Ideal S16384x96 .f32 := broadcastInDim S16384x96 ![] bcast_S_S16384x96 (constant S_ .f32 0x00000000#32)
def zeros112 : FVec Ideal S16384x112 .f32 := broadcastInDim S16384x112 ![] bcast_S_S16384x112 (constant S_ .f32 0x00000000#32)
def zeros16 : FVec Ideal S16384x16 .f32 := broadcastInDim S16384x16 ![] bcast_S_S16384x16 (constant S_ .f32 0x00000000#32)

/-- The factor of a lane itself. -/
def tabC : FVec Ideal S16384x128 .f32 :=
  concatenate S16384x128 1 [⟨S16384x16, Host.cos A⟩, ⟨S16384x16, Host.cos A⟩, ⟨S16384x96, ones96⟩] concatenates_S16384x16_S16384x16_S16384x96_S16384x128_d1
/-- The factor of the lane sixteen above. -/
def tabA : FVec Ideal S16384x128 .f32 :=
  concatenate S16384x128 1 [⟨S16384x16, Host.negf (Host.sin A)⟩, ⟨S16384x112, zeros112⟩] concatenates_S16384x16_S16384x112_S16384x128_d1
/-- The factor of the lane sixteen below. -/
def tabB : FVec Ideal S16384x128 .f32 :=
  concatenate S16384x128 1 [⟨S16384x16, zeros16⟩, ⟨S16384x16, Host.sin A⟩, ⟨S16384x96, zeros96⟩] concatenates_S16384x16_S16384x16_S16384x96_S16384x128_d1

variable (X Y Z : FVec Ideal S16384x128 .f32) (s : BitVec 32)

/-- The three factors side by side, scaled. -/
def table : FVec Ideal S16384x384 .f32 :=
  mulf (concatenate S16384x384 1 [⟨S16384x128, X⟩, ⟨S16384x128, Y⟩, ⟨S16384x128, Z⟩] concatenates_S16384x128_S16384x128_S16384x128_S16384x384_d1)
    (broadcastInDim S16384x384 ![] bcast_S_S16384x384 (constant S_ .f32 s))

variable (T0 T1 T2 : FVec Ideal S16384x384 .f32)

/-- The three tables. -/
def stack : FVec Ideal S3x16384x384 .f32 :=
  concatenate S3x16384x384 0 [⟨S1x16384x384, broadcastInDim S1x16384x384 ![1, 2] bcast_S16384x384_S1x16384x384_1_2 T0⟩, ⟨S1x16384x384, broadcastInDim S1x16384x384 ![1, 2] bcast_S16384x384_S1x16384x384_1_2 T1⟩, ⟨S1x16384x384, broadcastInDim S1x16384x384 ![1, 2] bcast_S16384x384_S1x16384x384_1_2 T2⟩] concatenates_S1x16384x384_S1x16384x384_S1x16384x384_S3x16384x384_d0

theorem tabC_at (t : Fin 16384) (l : Fin 128) : tabC angles (ix2 t l) = Turn.facC (Turn.cosine t) l := by
  pointwise [tabC, ones96]
  simp only [angles_at]
  rfl
theorem tabA_at (t : Fin 16384) (l : Fin 128) : tabA angles (ix2 t l) = Turn.facA (Turn.sine t) l := by
  pointwise [tabA, zeros112]
  simp only [angles_at]
  rfl
theorem tabB_at (t : Fin 16384) (l : Fin 128) : tabB angles (ix2 t l) = Turn.facB (Turn.sine t) l := by
  pointwise [tabB, zeros96, zeros16]
  simp only [angles_at]
  rfl

theorem table_c (t : Fin 16384) (l : Fin 128) : table X Y Z s (ix2 t (⟨l.val, by omega⟩ : Fin 384)) = X (ix2 t l) * Ideal.ofBits .f32 s := by
  pointwise [table]
theorem table_a (t : Fin 16384) (l : Fin 128) : table X Y Z s (ix2 t (⟨128 + l.val, by omega⟩ : Fin 384)) = Y (ix2 t l) * Ideal.ofBits .f32 s := by
  pointwise [table]
theorem table_b (t : Fin 16384) (l : Fin 128) : table X Y Z s (ix2 t (⟨256 + l.val, by omega⟩ : Fin 384)) = Z (ix2 t l) * Ideal.ofBits .f32 s := by
  pointwise [table]
  rw [dif_neg (by omega), dif_neg (by omega)]
  congr 3
  apply Fin.ext
  show 256 + l.val - 128 - 128 = l.val
  omega

/-- One of the three tables. -/
def pick (k : Fin 3) : FVec Ideal S16384x384 .f32 := table (tabC angles) (tabA angles) (tabB angles) (Turn.bits k.val)

def tables : FVec Ideal S3x16384x384 .f32 :=
  stack (table (tabC angles) (tabA angles) (tabB angles) 0x3F800000#32) (table (tabC angles) (tabA angles) (tabB angles) 0x3DB504F3#32) (table (tabC angles) (tabA angles) (tabB angles) 0x3E0293EE#32)

theorem stack_at (k : Fin 3) (t : Fin 16384) (l : Fin 384) : stack T0 T1 T2 (ix3 k t l) = if k.val < 1 then T0 (ix2 t l) else if k.val - 1 < 1 then T1 (ix2 t l) else T2 (ix2 t l) := by
  pointwise [stack]
  rfl

theorem tables_at (k : Fin 3) (t : Fin 16384) (l : Fin 384) : tables (ix3 k t l) = pick k (ix2 t l) := by
  unfold tables pick
  rw [stack_at]
  fin_cases k <;> rfl

theorem c_at (k : Fin 3) (t : Fin 16384) (l : Fin 128) : tables (ix3 k t (⟨l.val, by omega⟩ : Fin 384)) = Turn.facC (Turn.cosine t) l * Turn.scale k.val := by
  rw [tables_at, pick, table_c, tabC_at]; rfl
theorem a_at (k : Fin 3) (t : Fin 16384) (l : Fin 128) : tables (ix3 k t (⟨128 + l.val, by omega⟩ : Fin 384)) = Turn.facA (Turn.sine t) l * Turn.scale k.val := by
  rw [tables_at, pick, table_a, tabA_at]; rfl
theorem b_at (k : Fin 3) (t : Fin 16384) (l : Fin 128) : tables (ix3 k t (⟨256 + l.val, by omega⟩ : Fin 384)) = Turn.facB (Turn.sine t) l * Turn.scale k.val := by
  rw [tables_at, pick, table_b, tabB_at]; rfl

set_option maxHeartbeats 8000000 in
/-- The host operations write them. -/
theorem entry_tabs (m : (ℓ : Loc nD τ sig) → Buf (Elt Ideal) ℓ) (c : Dev nD) : entry m c main_v79 = tables := by
  unfold entry
  after_results_simp <;> (try dsimp only [Matrix.cons_val]) <;> (try after_results_simp) <;> (try dsimp only [Matrix.cons_val]) <;> (try after_results_simp) <;> rfl

end Cert.EvenInIdeal.Tabs

end
-- ==== Proof.EvenInIdealTile.lean ====
/-
  ONE BLOCK OF THE EVEN LAYERS' INPUT PROJECTION, and the array after the run. A block is the product of 1024 rows with 512 columns;
  on the second way each of its four heads is multiplied by the table's factors with the lanes sixteen above and below.
-/
module

public import proofs.«01_k».proof.Proof.EvenInIdealTables
public import Idealize.ShloMosaic.Lib.Pipeline.Covers

@[expose] public section

set_option maxRecDepth 16384

noncomputable section

namespace Cert.EvenInIdeal.Gen

open Cert.EvenInIdeal
open Idealize.ShloMosaic Idealize.ShloMosaic.TcCoe Idealize.SL.Sem

/-- Entry `(t, q)` of the product. -/
def prod (x : FVec Ideal S16384x4096 .bf16) (w : FVec Ideal S4096x10752 .bf16) (t : Fin 16384) (q : Fin 10752) : EReal :=
  ∑ k : Fin 4096, x (ix2 t k) * w (ix2 k q)

/-- The function: each block of 512 columns by its mode. -/
def spec (x : FVec Ideal S16384x4096 .bf16) (w : FVec Ideal S4096x10752 .bf16) (t : Fin 16384) (q : Fin 10752) : EReal :=
  Turn.entry (by decide) (mode ⟨q.val / 512, by omega⟩).toNat t (prod x w t) q

variable (x0 : Vec Ideal S1024x4096 .bf16) (x1 : Vec Ideal S4096x512 .bf16)

theorem pay1_at (r : Fin 1024) (q : Fin 512) : (k0_pay1 (F := Ideal) x0 x1 (ix2 r q) : EReal) = ∑ k : Fin 4096, (x0 (ix2 r k) : EReal) * x1 (ix2 k q) := by
  pointwise [k0_pay1]

theorem pay2_at (r : Fin 1024) (q : Fin 512) : (k0_pay2 (F := Ideal) x0 x1 (ix2 r q) : EReal) = k0_pay1 (F := Ideal) x0 x1 (ix2 r q) := by
  unfold k0_pay2
  generalize k0_pay1 (F := Ideal) x0 x1 = h
  pointwise

/-- One lane of one head, by the table's three factors. -/
def mixed (h : FVec Ideal S1024x512 .f32) (x2 : Vec Ideal S1x1024x384 .f32) (r : Fin 1024) (p : Fin 4) (l : Fin 128) : EReal :=
  h (ix2 r (⟨128 * p.val + l.val, by omega⟩ : Fin 512)) * x2 (ix3 (0 : Fin 1) r (⟨l.val, by omega⟩ : Fin 384))
    + h (ix2 r (⟨128 * p.val + (l.val + 16) % 128, by omega⟩ : Fin 512)) * x2 (ix3 (0 : Fin 1) r (⟨128 + l.val, by omega⟩ : Fin 384))
    + h (ix2 r (⟨128 * p.val + (l.val + 112) % 128, by omega⟩ : Fin 512)) * x2 (ix3 (0 : Fin 1) r (⟨256 + l.val, by omega⟩ : Fin 384))

theorem pay5_at (h : FVec Ideal S1024x512 .f32) (x2 : Vec Ideal S1x1024x384 .f32) (r : Fin 1024) (l : Fin 128) :
    (k0_pay5 (F := Ideal) h x2 (ix2 r l) : EReal) = mixed h x2 r 0 l := by
  pointwise [k0_pay5, k0_pay4]
  refine congrArg₂ (· + ·) (congrArg₂ (· + ·) (congrArg₂ (· * ·) (congrArg h (congrArg (ix2 r) (Fin.ext ?_))) rfl)
    (congrArg₂ (· * ·) (congrArg h (congrArg (ix2 r) (Fin.ext ?_))) rfl)) (congrArg₂ (· * ·) (congrArg h (congrArg (ix2 r) (Fin.ext ?_))) rfl)
  all_goals
    simp
    try omega
theorem pay6_at (h : FVec Ideal S1024x512 .f32) (x2 : Vec Ideal S1x1024x384 .f32) (r : Fin 1024) (l : Fin 128) :
    (k0_pay6 (F := Ideal) h x2 (ix2 r l) : EReal) = mixed h x2 r 1 l := by
  pointwise [k0_pay6, k0_pay4]
  refine congrArg₂ (· + ·) (congrArg₂ (· + ·) (congrArg₂ (· * ·) (congrArg h (congrArg (ix2 r) (Fin.ext ?_))) rfl)
    (congrArg₂ (· * ·) (congrArg h (congrArg (ix2 r) (Fin.ext ?_))) rfl)) (congrArg₂ (· * ·) (congrArg h (congrArg (ix2 r) (Fin.ext ?_))) rfl)
  all_goals
    simp
    try omega
theorem pay7_at (h : FVec Ideal S1024x512 .f32) (x2 : Vec Ideal S1x1024x384 .f32) (r : Fin 1024) (l : Fin 128) :
    (k0_pay7 (F := Ideal) h x2 (ix2 r l) : EReal) = mixed h x2 r 2 l := by
  pointwise [k0_pay7, k0_pay4]
  refine congrArg₂ (· + ·) (congrArg₂ (· + ·) (congrArg₂ (· * ·) (congrArg h (congrArg (ix2 r) (Fin.ext ?_))) rfl)
    (congrArg₂ (· * ·) (congrArg h (congrArg (ix2 r) (Fin.ext ?_))) rfl)) (congrArg₂ (· * ·) (congrArg h (congrArg (ix2 r) (Fin.ext ?_))) rfl)
  all_goals
    simp
    try omega
theorem pay3_at (h : FVec Ideal S1024x512 .f32) (x2 : Vec Ideal S1x1024x384 .f32) (r : Fin 1024) (l : Fin 128) :
    (k0_pay3 (F := Ideal) (k0_pay4 x2) (k0_pay8 h) (ix2 r l) : EReal) = mixed h x2 r 3 l := by
  pointwise [k0_pay3, k0_pay4, k0_pay8]
  refine congrArg₂ (· + ·) (congrArg₂ (· + ·) (congrArg₂ (· * ·) (congrArg h (congrArg (ix2 r) (Fin.ext ?_))) rfl)
    (congrArg₂ (· * ·) (congrArg h (congrArg (ix2 r) (Fin.ext ?_))) rfl)) (congrArg₂ (· * ·) (congrArg h (congrArg (ix2 r) (Fin.ext ?_))) rfl)
  all_goals
    simp
    try omega

end Cert.EvenInIdeal.Gen

end
-- ==== Proof.EvenInIdealFinal.lean ====
/-
  WHAT THE EVEN LAYERS' PROJECTED ROWS HOLD at the end: `spec` of the arguments.
-/
module

public import proofs.«01_k».proof.Proof.EvenInIdealTile

@[expose] public section

set_option maxRecDepth 16384

noncomputable section

namespace Cert.EvenInIdeal.Gen

open Cert.EvenInIdeal
open Idealize.ShloMosaic Idealize.ShloMosaic.TcCoe Idealize.SL.Sem

/-- The first test is that the mode is zero. -/
theorem cond1_iff (w : BitVec 32) : k0_cond1 w = 1#1 ↔ w = 0#32 := by
  unfold k0_cond1
  by_cases h : w = 0#32
  · simp [Scalar.cmpi, Scalar.extui, IntOp.cmpi, h]
  · have hb : (w == 0#32) = false := by simpa using h
    simp [Scalar.cmpi, Scalar.extui, IntOp.cmpi, h, hb, bne]

theorem pickTab_eq : ∀ j : Fin 21, ¬ (mode j).toNat = 0 → (mode j).toNat - 1 = pickTab j := by decide

theorem word_adm (i : grid0.Coords) : word (F := Ideal) adm i = mode (i 1) := at0 (F := Ideal) i

variable (m : (ℓ : Loc nD τ sig) → Buf (Elt Ideal) ℓ) (c : Dev nD) (t : Fin (cfg0 (F := Ideal) adm).N)

theorem index0 : ((pcfg0 (F := Ideal)).win adm (0 : Fin 4)).index t = ![(grid0.coords t 0).val, 0] := map0 (grid0.coords t)
theorem index1 : ((pcfg0 (F := Ideal)).win adm (1 : Fin 4)).index t = ![0, (grid0.coords t 1).val] := map1 (grid0.coords t)
theorem index2 : ((pcfg0 (F := Ideal)).win adm (2 : Fin 4)).index t = ![pickTab (grid0.coords t 1), (grid0.coords t 0).val, 0] := map2 (F := Ideal) (grid0.coords t)
theorem index3 : ((pcfg0 (F := Ideal)).win adm (3 : Fin 4)).index t = ![(grid0.coords t 0).val, (grid0.coords t 1).val] := map3 (grid0.coords t)

theorem blk0 (r : Fin 1024) (k : Fin 4096) : iblk adm (entry m) c (0 : Fin 4) t (ix2 r k) = (m ((c.tc : Thread nD τ).loc main_arg0) : FVec Ideal S16384x4096 .bf16) (ix2 (⟨(grid0.coords t 0).val * 1024 + r.val, by have := lt0 (grid0.coords t); omega⟩ : Fin 16384) k) := by
  rw [← entry_arg0 m c]
  blk_ext [iblk, index0 t]

theorem blk1 (k : Fin 4096) (q : Fin 512) : iblk adm (entry m) c (1 : Fin 4) t (ix2 k q) = (m ((c.tc : Thread nD τ).loc main_arg1) : FVec Ideal S4096x10752 .bf16) (ix2 k (⟨(grid0.coords t 1).val * 512 + q.val, by have := lt1 (grid0.coords t); omega⟩ : Fin 10752)) := by
  rw [← entry_arg1 m c]
  blk_ext [iblk, index1 t]

theorem blk2 (r : Fin 1024) (l : Fin 384) : iblk adm (entry m) c (2 : Fin 4) t (ix3 (0 : Fin 1) r l)
    = Tabs.tables (ix3 (⟨pickTab (grid0.coords t 1), pickTab_lt _⟩ : Fin 3) (⟨(grid0.coords t 0).val * 1024 + r.val, by have := lt0 (grid0.coords t); omega⟩ : Fin 16384) l) := by
  rw [← Tabs.entry_tabs m c]
  blk_ext [iblk, index2 t]

/-- A block's product is the product's block. -/
theorem prod_at (r : Fin 1024) (q : Fin 512) : (k0_pay1 (F := Ideal) (iblk adm (entry m) c (0 : Fin 4) t) (iblk adm (entry m) c (1 : Fin 4) t) (ix2 r q) : EReal)
    = prod (m ((c.tc : Thread nD τ).loc main_arg0) : FVec Ideal S16384x4096 .bf16) (m ((c.tc : Thread nD τ).loc main_arg1) : FVec Ideal S4096x10752 .bf16) (⟨(grid0.coords t 0).val * 1024 + r.val, by have := lt0 (grid0.coords t); omega⟩ : Fin 16384) (⟨(grid0.coords t 1).val * 512 + q.val, by have := lt1 (grid0.coords t); omega⟩ : Fin 10752) :=
  (pay1_at _ _ r q).trans (Finset.sum_congr rfl fun k _ => congrArg₂ (· * ·) (blk0 m c t r k) (blk1 m c t k q))

theorem mixed_at (hm : ¬ mode (grid0.coords t 1) = 0#32) (r : Fin 1024) (p : Fin 4) (l : Fin 128) :
    mixed (k0_pay1 (F := Ideal) (iblk adm (entry m) c (0 : Fin 4) t) (iblk adm (entry m) c (1 : Fin 4) t)) (iblk adm (entry m) c (2 : Fin 4) t) r p l
      = spec (m ((c.tc : Thread nD τ).loc main_arg0) : FVec Ideal S16384x4096 .bf16) (m ((c.tc : Thread nD τ).loc main_arg1) : FVec Ideal S4096x10752 .bf16) (⟨(grid0.coords t 0).val * 1024 + r.val, by have := lt0 (grid0.coords t); omega⟩ : Fin 16384) (⟨(grid0.coords t 1).val * 512 + (128 * p.val + l.val), by have := lt1 (grid0.coords t); omega⟩ : Fin 10752) := by
  have hj : (⟨((grid0.coords t 1).val * 512 + (128 * p.val + l.val)) / 512, by have := lt1 (grid0.coords t); omega⟩ : Fin 21) = grid0.coords t 1 :=
    Fin.ext (by simp only; omega)
  have hn : ¬ (mode (grid0.coords t 1)).toNat = 0 := fun h => hm (BitVec.eq_of_toNat_eq h)
  have hp := pickTab_eq _ hn
  have hs := Turn.scale_pos (pickTab (grid0.coords t 1))
  have e := Turn.turn_scaled (Turn.cosine (⟨(grid0.coords t 0).val * 1024 + r.val, by have := lt0 (grid0.coords t); omega⟩ : Fin 16384)) (Turn.sine (⟨(grid0.coords t 0).val * 1024 + r.val, by have := lt0 (grid0.coords t); omega⟩ : Fin 16384))
    (fun l => prod (m ((c.tc : Thread nD τ).loc main_arg0) : FVec Ideal S16384x4096 .bf16) (m ((c.tc : Thread nD τ).loc main_arg1) : FVec Ideal S4096x10752 .bf16) (⟨(grid0.coords t 0).val * 1024 + r.val, by have := lt0 (grid0.coords t); omega⟩ : Fin 16384) (⟨(grid0.coords t 1).val * 512 + (128 * p.val + l.val), by have := lt1 (grid0.coords t); omega⟩ : Fin 10752)) l _ hs.1 hs.2
  unfold mixed spec Turn.entry
  rw [hj, if_neg hn, hp]
  refine (congrArg₂ (· + ·) (congrArg₂ (· + ·) (congrArg₂ (· * ·) (prod_at m c t r _) ((blk2 m c t r _).trans (Tabs.c_at _ _ l)))
    (congrArg₂ (· * ·) (prod_at m c t r _) ((blk2 m c t r _).trans (Tabs.a_at _ _ l))))
    (congrArg₂ (· * ·) (prod_at m c t r _) ((blk2 m c t r _).trans (Tabs.b_at _ _ l)))).trans (e.trans ?_)
  congr 2
  · funext l'
    congr 1
    apply Fin.ext
    simp only
    omega
  · apply Fin.ext
    simp only
    omega

/-- Every block of the result is some point's. -/
theorem covers : ((cfg0 (F := Ideal) adm).win (3 : Fin 4)).Covers := by
  have n0 : ((cfg0 (F := Ideal) adm).win (3 : Fin 4)).nblk (0 : Fin 2) = 16 := (by decide : (16384 + 1024 - 1) / 1024 = 16)
  have n1 : ((cfg0 (F := Ideal) adm).win (3 : Fin 4)).nblk (1 : Fin 2) = 21 := (by decide : (10752 + 512 - 1) / 512 = 21)
  refine Pipeline.Window.covers_of_indexMap_surj _ rfl (fun a => by fin_cases a; exact (by decide : 0 < 1024); exact (by decide : 0 < 512)) fun β => ⟨fun a => (β a).cast (by fin_cases a; exact n0; exact n1), fun a => ?_⟩
  refine (congrFun (map3 (fun a => (β a).cast (by fin_cases a; exact n0; exact n1))) a).trans ?_
  fin_cases a <;> rfl

set_option maxHeartbeats 2000000 in
/-- The array after the run. -/
theorem final : (dats adm (entry m) 0 c).arrAt (3 : Fin 4) (cfg0 (F := Ideal) adm).N = fun i => spec (m ((c.tc : Thread nD τ).loc main_arg0) : FVec Ideal S16384x4096 .bf16) (m ((c.tc : Thread nD τ).loc main_arg1) : FVec Ideal S4096x10752 .bf16) (i 0) (i 1) := by
  refine (dats adm (entry m) 0 c).arrAt_eq_of_covers (3 : Fin 4) _ covers fun t hf y => ?_
  blk_simp
  rw [after0_3]
  have e0 : (((View.whole main_v80).slice (((pcfg0 (F := Ideal)).win adm (3 : Fin 4)).rect t)).emb y 0).val = (grid0.coords t 0).val * 1024 + (y 0).val := by
    blk_simp [index3 t]
  have e1 : (((View.whole main_v80).slice (((pcfg0 (F := Ideal)).win adm (3 : Fin 4)).rect t)).emb y 1).val = (grid0.coords t 1).val * 512 + (y 1).val := by
    blk_simp [index3 t]
  generalize (((View.whole main_v80).slice (((pcfg0 (F := Ideal)).win adm (3 : Fin 4)).rect t)).emb y) = Y at e0 e1 ⊢
  have hw := word_adm (grid0.coords t)
  have hy : y = (ix2 (y 0) (y 1) : S1024x512.Idx) := by funext a; fin_cases a <;> rfl
  have y0 : (y 0).val < 1024 := (y 0).isLt
  have y1 : (y 1).val < 512 := (y 1).isLt
  have hY0 : (Y 0 : Fin 16384) = ⟨(grid0.coords t 0).val * 1024 + (y 0).val, by have := lt0 (grid0.coords t); omega⟩ := Fin.ext e0
  have hY1 : (Y 1 : Fin 10752) = ⟨(grid0.coords t 1).val * 512 + (y 1).val, by have := lt1 (grid0.coords t); omega⟩ := Fin.ext e1
  rw [hY0, hY1]
  unfold outAt
  split
  · rename_i h
    have hm : mode (grid0.coords t 1) = 0#32 := (cond1_iff _).1 (hw ▸ h)
    frame_out
    simp only [View.read_rep]
    refine (congrArg (k0_pay2 (F := Ideal) (iblk adm (entry m) c (0 : Fin 4) t) (iblk adm (entry m) c (1 : Fin 4) t)) hy).trans ?_
    refine (pay2_at _ _ (y 0) (y 1)).trans ((prod_at m c t (y 0) (y 1)).trans ?_)
    have hj : (⟨((grid0.coords t 1).val * 512 + (y 1).val) / 512, by have := lt1 (grid0.coords t); omega⟩ : Fin 21) = grid0.coords t 1 :=
      Fin.ext (by simp only; omega)
    unfold spec Turn.entry
    rw [hj, hm]
    rfl
  · rename_i h
    have hm : ¬ mode (grid0.coords t 1) = 0#32 := fun hn => h (by rw [hw]; exact (cond1_iff _).2 hn)
    frame_out
    simp only [View.read_rep]
    canon_tiles z h
    · rw [show z = ix2 (z 0) (z 1) from by pointwise]
      refine (pay3_at _ _ (z 0) (z 1)).trans ((mixed_at m c t hm (z 0) 3 (z 1)).trans ?_)
      congr 1 <;> · apply Fin.ext; simp only [Fin.isValue, e0, e1]; first | rfl | (simp <;> omega) | omega
    · rw [show z = ix2 (z 0) (z 1) from by pointwise]
      refine (pay7_at _ _ (z 0) (z 1)).trans ((mixed_at m c t hm (z 0) 2 (z 1)).trans ?_)
      congr 1 <;> · apply Fin.ext; simp only [Fin.isValue, e0, e1]; first | rfl | (simp <;> omega) | omega
    · rw [show z = ix2 (z 0) (z 1) from by pointwise]
      refine (pay6_at _ _ (z 0) (z 1)).trans ((mixed_at m c t hm (z 0) 1 (z 1)).trans ?_)
      congr 1 <;> · apply Fin.ext; simp only [Fin.isValue, e0, e1]; first | rfl | (simp <;> omega) | omega
    · rw [show z = ix2 (z 0) (z 1) from by pointwise]
      refine (pay5_at _ _ (z 0) (z 1)).trans ((mixed_at m c t hm (z 0) 0 (z 1)).trans ?_)
      congr 1 <;> · apply Fin.ext; simp only [Fin.isValue, e0, e1]; first | rfl | (simp <;> omega) | omega

end Cert.EvenInIdeal.Gen

end
-- ==== Proof.EvenInRef.lean ====
/-
  THE REFERENCE OF THE EVEN LAYERS' INPUT PROJECTION. Its composed term is the staged functions below: the product, its parts by
  columns, the rotary turn of the queries and keys head by head, the scale on the queries. Read at an entry it is `spec`.
-/
module

public import proofs.«01_k».proof.Proof.Gen.EvenInReferenceIdeal.Run
public import proofs.«01_k».proof.Proof.EvenInIdealFinal
public import proofs.«01_k».proof.Proof.EvenInFrame
public import Idealize.ShloMosaic.Lib.Quiescent

@[expose] public section

set_option maxRecDepth 16384

noncomputable section

namespace Cert.EvenInReferenceIdeal.Stage

open Idealize.ShloMosaic Idealize.ShloMosaic.TcCoe Idealize.SL.Sem Cert.EvenInReferenceIdeal Cert.EvenInReferenceIdeal.Gen

/-- The angles. -/
def angles : FVec Ideal S16384x16 .f32 :=
  mulf (broadcastInDim S16384x16 ![0, 1] bcast_S16384x1_S16384x16_0_1 (broadcastInDim S16384x1 ![0] bcast_S16384_S16384x1_0 (sitofp .f32 (iotaInDim S16384 32 0)))) (broadcastInDim S16384x16 ![0, 1] bcast_S1x16_S16384x16_0_1 (broadcastInDim S1x16 ![1] bcast_S16_S1x16_1 (Host.powf (broadcastInDim S16 ![] bcast_S_S16 (constant S_ .f32 0x48F42400#32)) (Host.divf (Host.negf (sitofp .f32 (iotaInDim S16 32 0))) (broadcastInDim S16 ![] bcast_S_S16 (constant S_ .f32 0x41800000#32))))))

theorem angles_at (t : Fin 16384) (f : Fin 16) : angles (ix2 t f) = Turn.angle t f := by
  pointwise [angles]
  rfl

/-- The product. -/
def proj (x : FVec Ideal S16384x4096 .bf16) (w : FVec Ideal S4096x10752 .bf16) : FVec Ideal S16384x10752 .f32 :=
  Host.dotGeneral dot_S16384x4096_S4096x10752_S16384x10752_1_0_0_1_n_n none (extf .f32 x bitsLt_bf16_f32) (extf .f32 w bitsLt_bf16_f32)

theorem proj_at (x : FVec Ideal S16384x4096 .bf16) (w : FVec Ideal S4096x10752 .bf16) (t : Fin 16384) (q : Fin 10752) :
    proj x w (ix2 t q) = EvenInIdeal.Gen.prod x w t q := by
  pointwise [proj, EvenInIdeal.Gen.prod]

variable (h : FVec Ideal S16384x10752 .f32) (A : FVec Ideal S16384x16 .f32)

/-- Columns 0 to 2559. -/
def cut_qa : FVec Ideal S16384x2560 .f32 := extractStridedSlice S16384x2560 ![0, 0] h slices_S16384x10752_S16384x2560_0_0
theorem cut_qa_at (t : Fin 16384) (q : Fin 2560) : cut_qa h (ix2 t q) = h (ix2 t (⟨0 + q.val, by omega⟩ : Fin 10752)) := by
  pointwise [cut_qa]

/-- Columns 2560 to 3071. -/
def cut_kc : FVec Ideal S16384x512 .f32 := extractStridedSlice S16384x512 ![0, 2560] h slices_S16384x10752_S16384x512_0_2560
theorem cut_kc_at (t : Fin 16384) (q : Fin 512) : cut_kc h (ix2 t q) = h (ix2 t (⟨2560 + q.val, by omega⟩ : Fin 10752)) := by
  pointwise [cut_kc]

/-- Columns 3072 to 3583. -/
def cut_vc : FVec Ideal S16384x512 .f32 := extractStridedSlice S16384x512 ![0, 3072] h slices_S16384x10752_S16384x512_0_3072
theorem cut_vc_at (t : Fin 16384) (q : Fin 512) : cut_vc h (ix2 t q) = h (ix2 t (⟨3072 + q.val, by omega⟩ : Fin 10752)) := by
  pointwise [cut_vc]

/-- Columns 3584 to 4095. -/
def cut_ks : FVec Ideal S16384x512 .f32 := extractStridedSlice S16384x512 ![0, 3584] h slices_S16384x10752_S16384x512_0_3584
theorem cut_ks_at (t : Fin 16384) (q : Fin 512) : cut_ks h (ix2 t q) = h (ix2 t (⟨3584 + q.val, by omega⟩ : Fin 10752)) := by
  pointwise [cut_ks]

/-- Columns 4096 to 4607. -/
def cut_vs : FVec Ideal S16384x512 .f32 := extractStridedSlice S16384x512 ![0, 4096] h slices_S16384x10752_S16384x512_0_4096
theorem cut_vs_at (t : Fin 16384) (q : Fin 512) : cut_vs h (ix2 t q) = h (ix2 t (⟨4096 + q.val, by omega⟩ : Fin 10752)) := by
  pointwise [cut_vs]

/-- Columns 4608 to 5119. -/
def cut_kw : FVec Ideal S16384x512 .f32 := extractStridedSlice S16384x512 ![0, 4608] h slices_S16384x10752_S16384x512_0_4608
theorem cut_kw_at (t : Fin 16384) (q : Fin 512) : cut_kw h (ix2 t q) = h (ix2 t (⟨4608 + q.val, by omega⟩ : Fin 10752)) := by
  pointwise [cut_kw]

/-- Columns 5120 to 5631. -/
def cut_vw : FVec Ideal S16384x512 .f32 := extractStridedSlice S16384x512 ![0, 5120] h slices_S16384x10752_S16384x512_0_5120
theorem cut_vw_at (t : Fin 16384) (q : Fin 512) : cut_vw h (ix2 t q) = h (ix2 t (⟨5120 + q.val, by omega⟩ : Fin 10752)) := by
  pointwise [cut_vw]

/-- Columns 5632 to 7167. -/
def cut_qb : FVec Ideal S16384x1536 .f32 := extractStridedSlice S16384x1536 ![0, 5632] h slices_S16384x10752_S16384x1536_0_5632
theorem cut_qb_at (t : Fin 16384) (q : Fin 1536) : cut_qb h (ix2 t q) = h (ix2 t (⟨5632 + q.val, by omega⟩ : Fin 10752)) := by
  pointwise [cut_qb]

/-- Columns 7168 to 8703. -/
def cut_kb : FVec Ideal S16384x1536 .f32 := extractStridedSlice S16384x1536 ![0, 7168] h slices_S16384x10752_S16384x1536_0_7168
theorem cut_kb_at (t : Fin 16384) (q : Fin 1536) : cut_kb h (ix2 t q) = h (ix2 t (⟨7168 + q.val, by omega⟩ : Fin 10752)) := by
  pointwise [cut_kb]

/-- Columns 8704 to 10239. -/
def cut_vb : FVec Ideal S16384x1536 .f32 := extractStridedSlice S16384x1536 ![0, 8704] h slices_S16384x10752_S16384x1536_0_8704
theorem cut_vb_at (t : Fin 16384) (q : Fin 1536) : cut_vb h (ix2 t q) = h (ix2 t (⟨8704 + q.val, by omega⟩ : Fin 10752)) := by
  pointwise [cut_vb]

/-- Columns 10240 to 10751. -/
def cut_gate : FVec Ideal S16384x512 .f32 := extractStridedSlice S16384x512 ![0, 10240] h slices_S16384x10752_S16384x512_0_10240
theorem cut_gate_at (t : Fin 16384) (q : Fin 512) : cut_gate h (ix2 t q) = h (ix2 t (⟨10240 + q.val, by omega⟩ : Fin 10752)) := by
  pointwise [cut_gate]

/-! ### 4 heads -/

/-- The rows as heads. -/
def heads4 (g : FVec Ideal S16384x512 .f32) : FVec Ideal S16384x4x128 .f32 := shapeCast _ g shapeCasts_S16384x512_S16384x4x128
theorem heads4_at (g : FVec Ideal S16384x512 .f32) (t : Fin 16384) (p : Fin 4) (l : Fin 128) :
    heads4 g (ix3 t p l) = g (ix2 t (⟨p.val * 128 + l.val, by omega⟩ : Fin 512)) := by
  pointwise [heads4]
  try (congr 2; apply Fin.ext; simp only; omega)

/-- The turn of each head. -/
def rope4 (y : FVec Ideal S16384x4x128 .f32) : FVec Ideal S16384x4x128 .f32 :=
  concatenate S16384x4x128 2 [⟨S16384x4x16, subf (mulf (extractStridedSlice S16384x4x16 ![0, 0, 0] y slices_S16384x4x128_S16384x4x16_0_0_0) (broadcastInDim S16384x4x16 ![0, 1, 2] bcast_S16384x1x16_S16384x4x16_0_1_2 (broadcastInDim S16384x1x16 ![0, 2] bcast_S16384x16_S16384x1x16_0_2 (Host.cos A)))) (mulf (extractStridedSlice S16384x4x16 ![0, 0, 16] y slices_S16384x4x128_S16384x4x16_0_0_16) (broadcastInDim S16384x4x16 ![0, 1, 2] bcast_S16384x1x16_S16384x4x16_0_1_2 (broadcastInDim S16384x1x16 ![0, 2] bcast_S16384x16_S16384x1x16_0_2 (Host.sin A))))⟩,
    ⟨S16384x4x16, addf (mulf (extractStridedSlice S16384x4x16 ![0, 0, 16] y slices_S16384x4x128_S16384x4x16_0_0_16) (broadcastInDim S16384x4x16 ![0, 1, 2] bcast_S16384x1x16_S16384x4x16_0_1_2 (broadcastInDim S16384x1x16 ![0, 2] bcast_S16384x16_S16384x1x16_0_2 (Host.cos A)))) (mulf (extractStridedSlice S16384x4x16 ![0, 0, 0] y slices_S16384x4x128_S16384x4x16_0_0_0) (broadcastInDim S16384x4x16 ![0, 1, 2] bcast_S16384x1x16_S16384x4x16_0_1_2 (broadcastInDim S16384x1x16 ![0, 2] bcast_S16384x16_S16384x1x16_0_2 (Host.sin A))))⟩,
    ⟨S16384x4x96, extractStridedSlice S16384x4x96 ![0, 0, 32] y slices_S16384x4x128_S16384x4x96_0_0_32⟩] concatenates_S16384x4x16_S16384x4x16_S16384x4x96_S16384x4x128_d2
theorem rope4_at (y : FVec Ideal S16384x4x128 .f32) (t : Fin 16384) (p : Fin 4) (l : Fin 128) :
    rope4 angles y (ix3 t p l) = Turn.turn (Turn.cosine t) (Turn.sine t) (fun l => y (ix3 t p l)) l := by
  pointwise [rope4]
  simp only [angles_at]
  unfold Turn.turn
  have ey : ∀ a b : Fin 128, a.val = b.val → y (ix3 t p a) = y (ix3 t p b) := fun a b h => by rw [Fin.ext h]
  split_ifs
  all_goals first
    | exact congrArg₂ (· - ·) rfl (congrArg₂ (· * ·) (ey _ _ (by simp only; omega)) rfl)
    | exact congrArg₂ (· + ·) (congrArg₂ (· * ·) (ey _ _ (by simp only; omega)) rfl) rfl
    | exact ey _ _ (by simp only; omega)

/-- The heads as rows. -/
def flat4 (y : FVec Ideal S16384x4x128 .f32) : FVec Ideal S16384x512 .f32 := shapeCast _ y shapeCasts_S16384x4x128_S16384x512
theorem flat4_at (y : FVec Ideal S16384x4x128 .f32) (t : Fin 16384) (q : Fin 512) :
    flat4 y (ix2 t q) = y (ix3 t (⟨q.val / 128, by omega⟩ : Fin 4) (⟨q.val % 128, by omega⟩ : Fin 128)) := by
  pointwise [flat4]

/-! ### 12 heads -/

/-- The rows as heads. -/
def heads12 (g : FVec Ideal S16384x1536 .f32) : FVec Ideal S16384x12x128 .f32 := shapeCast _ g shapeCasts_S16384x1536_S16384x12x128
theorem heads12_at (g : FVec Ideal S16384x1536 .f32) (t : Fin 16384) (p : Fin 12) (l : Fin 128) :
    heads12 g (ix3 t p l) = g (ix2 t (⟨p.val * 128 + l.val, by omega⟩ : Fin 1536)) := by
  pointwise [heads12]
  try (congr 2; apply Fin.ext; simp only; omega)

/-- The turn of each head. -/
def rope12 (y : FVec Ideal S16384x12x128 .f32) : FVec Ideal S16384x12x128 .f32 :=
  concatenate S16384x12x128 2 [⟨S16384x12x16, subf (mulf (extractStridedSlice S16384x12x16 ![0, 0, 0] y slices_S16384x12x128_S16384x12x16_0_0_0) (broadcastInDim S16384x12x16 ![0, 1, 2] bcast_S16384x1x16_S16384x12x16_0_1_2 (broadcastInDim S16384x1x16 ![0, 2] bcast_S16384x16_S16384x1x16_0_2 (Host.cos A)))) (mulf (extractStridedSlice S16384x12x16 ![0, 0, 16] y slices_S16384x12x128_S16384x12x16_0_0_16) (broadcastInDim S16384x12x16 ![0, 1, 2] bcast_S16384x1x16_S16384x12x16_0_1_2 (broadcastInDim S16384x1x16 ![0, 2] bcast_S16384x16_S16384x1x16_0_2 (Host.sin A))))⟩,
    ⟨S16384x12x16, addf (mulf (extractStridedSlice S16384x12x16 ![0, 0, 16] y slices_S16384x12x128_S16384x12x16_0_0_16) (broadcastInDim S16384x12x16 ![0, 1, 2] bcast_S16384x1x16_S16384x12x16_0_1_2 (broadcastInDim S16384x1x16 ![0, 2] bcast_S16384x16_S16384x1x16_0_2 (Host.cos A)))) (mulf (extractStridedSlice S16384x12x16 ![0, 0, 0] y slices_S16384x12x128_S16384x12x16_0_0_0) (broadcastInDim S16384x12x16 ![0, 1, 2] bcast_S16384x1x16_S16384x12x16_0_1_2 (broadcastInDim S16384x1x16 ![0, 2] bcast_S16384x16_S16384x1x16_0_2 (Host.sin A))))⟩,
    ⟨S16384x12x96, extractStridedSlice S16384x12x96 ![0, 0, 32] y slices_S16384x12x128_S16384x12x96_0_0_32⟩] concatenates_S16384x12x16_S16384x12x16_S16384x12x96_S16384x12x128_d2
theorem rope12_at (y : FVec Ideal S16384x12x128 .f32) (t : Fin 16384) (p : Fin 12) (l : Fin 128) :
    rope12 angles y (ix3 t p l) = Turn.turn (Turn.cosine t) (Turn.sine t) (fun l => y (ix3 t p l)) l := by
  pointwise [rope12]
  simp only [angles_at]
  unfold Turn.turn
  have ey : ∀ a b : Fin 128, a.val = b.val → y (ix3 t p a) = y (ix3 t p b) := fun a b h => by rw [Fin.ext h]
  split_ifs
  all_goals first
    | exact congrArg₂ (· - ·) rfl (congrArg₂ (· * ·) (ey _ _ (by simp only; omega)) rfl)
    | exact congrArg₂ (· + ·) (congrArg₂ (· * ·) (ey _ _ (by simp only; omega)) rfl) rfl
    | exact ey _ _ (by simp only; omega)

/-- The heads as rows. -/
def flat12 (y : FVec Ideal S16384x12x128 .f32) : FVec Ideal S16384x1536 .f32 := shapeCast _ y shapeCasts_S16384x12x128_S16384x1536
theorem flat12_at (y : FVec Ideal S16384x12x128 .f32) (t : Fin 16384) (q : Fin 1536) :
    flat12 y (ix2 t q) = y (ix3 t (⟨q.val / 128, by omega⟩ : Fin 12) (⟨q.val % 128, by omega⟩ : Fin 128)) := by
  pointwise [flat12]

/-- A scale on every lane. -/
def scaled12 (s : BitVec 32) (y : FVec Ideal S16384x12x128 .f32) : FVec Ideal S16384x12x128 .f32 := mulf y (broadcastInDim S16384x12x128 ![] bcast_S_S16384x12x128 (constant S_ .f32 s))
theorem scaled12_at (s : BitVec 32) (y : FVec Ideal S16384x12x128 .f32) (t : Fin 16384) (p : Fin 12) (l : Fin 128) :
    scaled12 s y (ix3 t p l) = y (ix3 t p l) * Ideal.ofBits .f32 s := by
  pointwise [scaled12]

/-! ### 20 heads -/

/-- The rows as heads. -/
def heads20 (g : FVec Ideal S16384x2560 .f32) : FVec Ideal S16384x20x128 .f32 := shapeCast _ g shapeCasts_S16384x2560_S16384x20x128
theorem heads20_at (g : FVec Ideal S16384x2560 .f32) (t : Fin 16384) (p : Fin 20) (l : Fin 128) :
    heads20 g (ix3 t p l) = g (ix2 t (⟨p.val * 128 + l.val, by omega⟩ : Fin 2560)) := by
  pointwise [heads20]
  try (congr 2; apply Fin.ext; simp only; omega)

/-- The turn of each head. -/
def rope20 (y : FVec Ideal S16384x20x128 .f32) : FVec Ideal S16384x20x128 .f32 :=
  concatenate S16384x20x128 2 [⟨S16384x20x16, subf (mulf (extractStridedSlice S16384x20x16 ![0, 0, 0] y slices_S16384x20x128_S16384x20x16_0_0_0) (broadcastInDim S16384x20x16 ![0, 1, 2] bcast_S16384x1x16_S16384x20x16_0_1_2 (broadcastInDim S16384x1x16 ![0, 2] bcast_S16384x16_S16384x1x16_0_2 (Host.cos A)))) (mulf (extractStridedSlice S16384x20x16 ![0, 0, 16] y slices_S16384x20x128_S16384x20x16_0_0_16) (broadcastInDim S16384x20x16 ![0, 1, 2] bcast_S16384x1x16_S16384x20x16_0_1_2 (broadcastInDim S16384x1x16 ![0, 2] bcast_S16384x16_S16384x1x16_0_2 (Host.sin A))))⟩,
    ⟨S16384x20x16, addf (mulf (extractStridedSlice S16384x20x16 ![0, 0, 16] y slices_S16384x20x128_S16384x20x16_0_0_16) (broadcastInDim S16384x20x16 ![0, 1, 2] bcast_S16384x1x16_S16384x20x16_0_1_2 (broadcastInDim S16384x1x16 ![0, 2] bcast_S16384x16_S16384x1x16_0_2 (Host.cos A)))) (mulf (extractStridedSlice S16384x20x16 ![0, 0, 0] y slices_S16384x20x128_S16384x20x16_0_0_0) (broadcastInDim S16384x20x16 ![0, 1, 2] bcast_S16384x1x16_S16384x20x16_0_1_2 (broadcastInDim S16384x1x16 ![0, 2] bcast_S16384x16_S16384x1x16_0_2 (Host.sin A))))⟩,
    ⟨S16384x20x96, extractStridedSlice S16384x20x96 ![0, 0, 32] y slices_S16384x20x128_S16384x20x96_0_0_32⟩] concatenates_S16384x20x16_S16384x20x16_S16384x20x96_S16384x20x128_d2
theorem rope20_at (y : FVec Ideal S16384x20x128 .f32) (t : Fin 16384) (p : Fin 20) (l : Fin 128) :
    rope20 angles y (ix3 t p l) = Turn.turn (Turn.cosine t) (Turn.sine t) (fun l => y (ix3 t p l)) l := by
  pointwise [rope20]
  simp only [angles_at]
  unfold Turn.turn
  have ey : ∀ a b : Fin 128, a.val = b.val → y (ix3 t p a) = y (ix3 t p b) := fun a b h => by rw [Fin.ext h]
  split_ifs
  all_goals first
    | exact congrArg₂ (· - ·) rfl (congrArg₂ (· * ·) (ey _ _ (by simp only; omega)) rfl)
    | exact congrArg₂ (· + ·) (congrArg₂ (· * ·) (ey _ _ (by simp only; omega)) rfl) rfl
    | exact ey _ _ (by simp only; omega)

/-- The heads as rows. -/
def flat20 (y : FVec Ideal S16384x20x128 .f32) : FVec Ideal S16384x2560 .f32 := shapeCast _ y shapeCasts_S16384x20x128_S16384x2560
theorem flat20_at (y : FVec Ideal S16384x20x128 .f32) (t : Fin 16384) (q : Fin 2560) :
    flat20 y (ix2 t q) = y (ix3 t (⟨q.val / 128, by omega⟩ : Fin 20) (⟨q.val % 128, by omega⟩ : Fin 128)) := by
  pointwise [flat20]

/-- A scale on every lane. -/
def scaled20 (s : BitVec 32) (y : FVec Ideal S16384x20x128 .f32) : FVec Ideal S16384x20x128 .f32 := mulf y (broadcastInDim S16384x20x128 ![] bcast_S_S16384x20x128 (constant S_ .f32 s))
theorem scaled20_at (s : BitVec 32) (y : FVec Ideal S16384x20x128 .f32) (t : Fin 16384) (p : Fin 20) (l : Fin 128) :
    scaled20 s y (ix3 t p l) = y (ix3 t p l) * Ideal.ofBits .f32 s := by
  pointwise [scaled20]

/-! ### The parts, each an entry of the function -/

def part_qa : FVec Ideal S16384x2560 .f32 := flat20 (scaled20 0x3E0293EE#32 (rope20 A (heads20 (cut_qa h))))
theorem part_qa_at (t : Fin 16384) (q : Fin 2560) :
    part_qa h angles (ix2 t q) = Turn.entry (n := 10752) (by decide) 3 t (fun r => h (ix2 t r)) ⟨0 + q.val, by omega⟩ := by
  unfold part_qa Turn.entry
  rw [if_neg (by decide), flat20_at]
  rw [scaled20_at, rope20_at]
  refine congrArg₂ (· * ·) (congrArg₂ (Turn.turn (Turn.cosine t) (Turn.sine t)) (funext fun l => ?_) (Fin.ext ?_)) rfl
  · refine (heads20_at _ t _ l).trans ((cut_qa_at h t _).trans ?_)
    exact congrArg (fun r => h (ix2 t r)) (Fin.ext (by simp only; omega))
  · simp only; omega

def part_kc : FVec Ideal S16384x512 .f32 := cut_kc h
theorem part_kc_at (t : Fin 16384) (q : Fin 512) :
    part_kc h (ix2 t q) = Turn.entry (n := 10752) (by decide) 0 t (fun r => h (ix2 t r)) ⟨2560 + q.val, by omega⟩ := by
  exact cut_kc_at h t q

def part_vc : FVec Ideal S16384x512 .f32 := cut_vc h
theorem part_vc_at (t : Fin 16384) (q : Fin 512) :
    part_vc h (ix2 t q) = Turn.entry (n := 10752) (by decide) 0 t (fun r => h (ix2 t r)) ⟨3072 + q.val, by omega⟩ := by
  exact cut_vc_at h t q

def part_ks : FVec Ideal S16384x512 .f32 := flat4 (rope4 A (heads4 (cut_ks h)))
theorem part_ks_at (t : Fin 16384) (q : Fin 512) :
    part_ks h angles (ix2 t q) = Turn.entry (n := 10752) (by decide) 1 t (fun r => h (ix2 t r)) ⟨3584 + q.val, by omega⟩ := by
  unfold part_ks Turn.entry
  rw [if_neg (by decide), flat4_at]
  rw [rope4_at, show Turn.scale (1 - 1) = 1 from by simp [Turn.scale, Turn.bits], mul_one]
  refine congrArg₂ (Turn.turn (Turn.cosine t) (Turn.sine t)) (funext fun l => ?_) (Fin.ext ?_)
  · refine (heads4_at _ t _ l).trans ((cut_ks_at h t _).trans ?_)
    exact congrArg (fun r => h (ix2 t r)) (Fin.ext (by simp only; omega))
  · simp only; omega

def part_vs : FVec Ideal S16384x512 .f32 := cut_vs h
theorem part_vs_at (t : Fin 16384) (q : Fin 512) :
    part_vs h (ix2 t q) = Turn.entry (n := 10752) (by decide) 0 t (fun r => h (ix2 t r)) ⟨4096 + q.val, by omega⟩ := by
  exact cut_vs_at h t q

def part_kw : FVec Ideal S16384x512 .f32 := flat4 (rope4 A (heads4 (cut_kw h)))
theorem part_kw_at (t : Fin 16384) (q : Fin 512) :
    part_kw h angles (ix2 t q) = Turn.entry (n := 10752) (by decide) 1 t (fun r => h (ix2 t r)) ⟨4608 + q.val, by omega⟩ := by
  unfold part_kw Turn.entry
  rw [if_neg (by decide), flat4_at]
  rw [rope4_at, show Turn.scale (1 - 1) = 1 from by simp [Turn.scale, Turn.bits], mul_one]
  refine congrArg₂ (Turn.turn (Turn.cosine t) (Turn.sine t)) (funext fun l => ?_) (Fin.ext ?_)
  · refine (heads4_at _ t _ l).trans ((cut_kw_at h t _).trans ?_)
    exact congrArg (fun r => h (ix2 t r)) (Fin.ext (by simp only; omega))
  · simp only; omega

def part_vw : FVec Ideal S16384x512 .f32 := cut_vw h
theorem part_vw_at (t : Fin 16384) (q : Fin 512) :
    part_vw h (ix2 t q) = Turn.entry (n := 10752) (by decide) 0 t (fun r => h (ix2 t r)) ⟨5120 + q.val, by omega⟩ := by
  exact cut_vw_at h t q

def part_qb : FVec Ideal S16384x1536 .f32 := flat12 (scaled12 0x3DB504F3#32 (rope12 A (heads12 (cut_qb h))))
theorem part_qb_at (t : Fin 16384) (q : Fin 1536) :
    part_qb h angles (ix2 t q) = Turn.entry (n := 10752) (by decide) 2 t (fun r => h (ix2 t r)) ⟨5632 + q.val, by omega⟩ := by
  unfold part_qb Turn.entry
  rw [if_neg (by decide), flat12_at]
  rw [scaled12_at, rope12_at]
  refine congrArg₂ (· * ·) (congrArg₂ (Turn.turn (Turn.cosine t) (Turn.sine t)) (funext fun l => ?_) (Fin.ext ?_)) rfl
  · refine (heads12_at _ t _ l).trans ((cut_qb_at h t _).trans ?_)
    exact congrArg (fun r => h (ix2 t r)) (Fin.ext (by simp only; omega))
  · simp only; omega

def part_kb : FVec Ideal S16384x1536 .f32 := flat12 (rope12 A (heads12 (cut_kb h)))
theorem part_kb_at (t : Fin 16384) (q : Fin 1536) :
    part_kb h angles (ix2 t q) = Turn.entry (n := 10752) (by decide) 1 t (fun r => h (ix2 t r)) ⟨7168 + q.val, by omega⟩ := by
  unfold part_kb Turn.entry
  rw [if_neg (by decide), flat12_at]
  rw [rope12_at, show Turn.scale (1 - 1) = 1 from by simp [Turn.scale, Turn.bits], mul_one]
  refine congrArg₂ (Turn.turn (Turn.cosine t) (Turn.sine t)) (funext fun l => ?_) (Fin.ext ?_)
  · refine (heads12_at _ t _ l).trans ((cut_kb_at h t _).trans ?_)
    exact congrArg (fun r => h (ix2 t r)) (Fin.ext (by simp only; omega))
  · simp only; omega

def part_vb : FVec Ideal S16384x1536 .f32 := cut_vb h
theorem part_vb_at (t : Fin 16384) (q : Fin 1536) :
    part_vb h (ix2 t q) = Turn.entry (n := 10752) (by decide) 0 t (fun r => h (ix2 t r)) ⟨8704 + q.val, by omega⟩ := by
  exact cut_vb_at h t q

def part_gate : FVec Ideal S16384x512 .f32 := cut_gate h
theorem part_gate_at (t : Fin 16384) (q : Fin 512) :
    part_gate h (ix2 t q) = Turn.entry (n := 10752) (by decide) 0 t (fun r => h (ix2 t r)) ⟨10240 + q.val, by omega⟩ := by
  exact cut_gate_at h t q

variable (p0 : FVec Ideal S16384x2560 .f32) (p1 : FVec Ideal S16384x512 .f32) (p2 : FVec Ideal S16384x512 .f32) (p3 : FVec Ideal S16384x512 .f32) (p4 : FVec Ideal S16384x512 .f32) (p5 : FVec Ideal S16384x512 .f32) (p6 : FVec Ideal S16384x512 .f32) (p7 : FVec Ideal S16384x1536 .f32) (p8 : FVec Ideal S16384x1536 .f32) (p9 : FVec Ideal S16384x1536 .f32) (p10 : FVec Ideal S16384x512 .f32)

/-- The parts side by side. -/
def join : FVec Ideal S16384x10752 .bf16 :=
  truncf .bf16 (concatenate S16384x10752 1 [⟨S16384x2560, p0⟩, ⟨S16384x512, p1⟩, ⟨S16384x512, p2⟩, ⟨S16384x512, p3⟩, ⟨S16384x512, p4⟩, ⟨S16384x512, p5⟩, ⟨S16384x512, p6⟩, ⟨S16384x1536, p7⟩, ⟨S16384x1536, p8⟩, ⟨S16384x1536, p9⟩, ⟨S16384x512, p10⟩] concatenates_S16384x2560_S16384x512_S16384x512_S16384x512_S16384x512_S16384x512_S16384x512_S16384x1536_S16384x1536_S16384x1536_S16384x512_S16384x10752_d1) bitsLt_bf16_f32

theorem join_qa (t : Fin 16384) (q : Fin 10752) (h1 : 0 ≤ q.val) (h2 : q.val < 2560) :
    join p0 p1 p2 p3 p4 p5 p6 p7 p8 p9 p10 (ix2 t q) = p0 (ix2 t ⟨q.val - 0, by omega⟩) := by
  pointwise [join]
  rw [dif_pos (by omega)]
  all_goals exact congrArg (fun z => p0 (ix2 t z)) (Fin.ext (by simp only; omega))

theorem join_kc (t : Fin 16384) (q : Fin 10752) (h1 : 2560 ≤ q.val) (h2 : q.val < 3072) :
    join p0 p1 p2 p3 p4 p5 p6 p7 p8 p9 p10 (ix2 t q) = p1 (ix2 t ⟨q.val - 2560, by omega⟩) := by
  pointwise [join]
  rw [dif_neg (by omega)]
  rw [dif_pos (by omega)]
  all_goals exact congrArg (fun z => p1 (ix2 t z)) (Fin.ext (by simp only; omega))

theorem join_vc (t : Fin 16384) (q : Fin 10752) (h1 : 3072 ≤ q.val) (h2 : q.val < 3584) :
    join p0 p1 p2 p3 p4 p5 p6 p7 p8 p9 p10 (ix2 t q) = p2 (ix2 t ⟨q.val - 3072, by omega⟩) := by
  pointwise [join]
  iterate 2 rw [dif_neg (by omega)]
  rw [dif_pos (by omega)]
  all_goals exact congrArg (fun z => p2 (ix2 t z)) (Fin.ext (by simp only; omega))

theorem join_ks (t : Fin 16384) (q : Fin 10752) (h1 : 3584 ≤ q.val) (h2 : q.val < 4096) :
    join p0 p1 p2 p3 p4 p5 p6 p7 p8 p9 p10 (ix2 t q) = p3 (ix2 t ⟨q.val - 3584, by omega⟩) := by
  pointwise [join]
  iterate 3 rw [dif_neg (by omega)]
  rw [dif_pos (by omega)]
  all_goals exact congrArg (fun z => p3 (ix2 t z)) (Fin.ext (by simp only; omega))

theorem join_vs (t : Fin 16384) (q : Fin 10752) (h1 : 4096 ≤ q.val) (h2 : q.val < 4608) :
    join p0 p1 p2 p3 p4 p5 p6 p7 p8 p9 p10 (ix2 t q) = p4 (ix2 t ⟨q.val - 4096, by omega⟩) := by
  pointwise [join]
  iterate 4 rw [dif_neg (by omega)]
  rw [dif_pos (by omega)]
  all_goals exact congrArg (fun z => p4 (ix2 t z)) (Fin.ext (by simp only; omega))

theorem join_kw (t : Fin 16384) (q : Fin 10752) (h1 : 4608 ≤ q.val) (h2 : q.val < 5120) :
    join p0 p1 p2 p3 p4 p5 p6 p7 p8 p9 p10 (ix2 t q) = p5 (ix2 t ⟨q.val - 4608, by omega⟩) := by
  pointwise [join]
  iterate 5 rw [dif_neg (by omega)]
  rw [dif_pos (by omega)]
  all_goals exact congrArg (fun z => p5 (ix2 t z)) (Fin.ext (by simp only; omega))

theorem join_vw (t : Fin 16384) (q : Fin 10752) (h1 : 5120 ≤ q.val) (h2 : q.val < 5632) :
    join p0 p1 p2 p3 p4 p5 p6 p7 p8 p9 p10 (ix2 t q) = p6 (ix2 t ⟨q.val - 5120, by omega⟩) := by
  pointwise [join]
  iterate 6 rw [dif_neg (by omega)]
  rw [dif_pos (by omega)]
  all_goals exact congrArg (fun z => p6 (ix2 t z)) (Fin.ext (by simp only; omega))

theorem join_qb (t : Fin 16384) (q : Fin 10752) (h1 : 5632 ≤ q.val) (h2 : q.val < 7168) :
    join p0 p1 p2 p3 p4 p5 p6 p7 p8 p9 p10 (ix2 t q) = p7 (ix2 t ⟨q.val - 5632, by omega⟩) := by
  pointwise [join]
  iterate 7 rw [dif_neg (by omega)]
  rw [dif_pos (by omega)]
  all_goals exact congrArg (fun z => p7 (ix2 t z)) (Fin.ext (by simp only; omega))

theorem join_kb (t : Fin 16384) (q : Fin 10752) (h1 : 7168 ≤ q.val) (h2 : q.val < 8704) :
    join p0 p1 p2 p3 p4 p5 p6 p7 p8 p9 p10 (ix2 t q) = p8 (ix2 t ⟨q.val - 7168, by omega⟩) := by
  pointwise [join]
  iterate 8 rw [dif_neg (by omega)]
  rw [dif_pos (by omega)]
  all_goals exact congrArg (fun z => p8 (ix2 t z)) (Fin.ext (by simp only; omega))

theorem join_vb (t : Fin 16384) (q : Fin 10752) (h1 : 8704 ≤ q.val) (h2 : q.val < 10240) :
    join p0 p1 p2 p3 p4 p5 p6 p7 p8 p9 p10 (ix2 t q) = p9 (ix2 t ⟨q.val - 8704, by omega⟩) := by
  pointwise [join]
  iterate 9 rw [dif_neg (by omega)]
  rw [dif_pos (by omega)]
  all_goals exact congrArg (fun z => p9 (ix2 t z)) (Fin.ext (by simp only; omega))

theorem join_gate (t : Fin 16384) (q : Fin 10752) (h1 : 10240 ≤ q.val) (h2 : q.val < 10752) :
    join p0 p1 p2 p3 p4 p5 p6 p7 p8 p9 p10 (ix2 t q) = p10 (ix2 t ⟨q.val - 10240, by omega⟩) := by
  pointwise [join]
  iterate 10 rw [dif_neg (by omega)]
  all_goals exact congrArg (fun z => p10 (ix2 t z)) (Fin.ext (by simp only; omega))

/-! ### The result -/

/-- The reference's result, of its two arguments. -/
def result (x : FVec Ideal S16384x4096 .bf16) (w : FVec Ideal S4096x10752 .bf16) : FVec Ideal S16384x10752 .bf16 :=
  join (part_qa (proj x w) angles) (part_kc (proj x w)) (part_vc (proj x w)) (part_ks (proj x w) angles) (part_vs (proj x w)) (part_kw (proj x w) angles) (part_vw (proj x w)) (part_qb (proj x w) angles) (part_kb (proj x w) angles) (part_vb (proj x w)) (part_gate (proj x w))

theorem result_at (x : FVec Ideal S16384x4096 .bf16) (w : FVec Ideal S4096x10752 .bf16) (t : Fin 16384) (q : Fin 10752) :
    result x w (ix2 t q) = EvenInIdeal.Gen.spec x w t q := by
  have hq := q.isLt
  unfold result EvenInIdeal.Gen.spec
  by_cases c0 : q.val < 2560
  · have hm : ∀ j : Fin 21, 0 ≤ j.val → j.val < 5 → (EvenInIdeal.Gen.mode j).toNat = 3 := by decide
    rw [join_qa _ _ _ _ _ _ _ _ _ _ _ t q (by omega) (by omega), part_qa_at, hm ⟨q.val / 512, by omega⟩ (by simp only; omega) (by simp only; omega)]
    exact congrArg₂ (Turn.entry _ 3 t) (funext fun r => proj_at x w t r) (Fin.ext (by simp only; omega))
  by_cases c1 : q.val < 3072
  · have hm : ∀ j : Fin 21, 5 ≤ j.val → j.val < 6 → (EvenInIdeal.Gen.mode j).toNat = 0 := by decide
    rw [join_kc _ _ _ _ _ _ _ _ _ _ _ t q (by omega) (by omega), part_kc_at, hm ⟨q.val / 512, by omega⟩ (by simp only; omega) (by simp only; omega)]
    exact congrArg₂ (Turn.entry _ 0 t) (funext fun r => proj_at x w t r) (Fin.ext (by simp only; omega))
  by_cases c2 : q.val < 3584
  · have hm : ∀ j : Fin 21, 6 ≤ j.val → j.val < 7 → (EvenInIdeal.Gen.mode j).toNat = 0 := by decide
    rw [join_vc _ _ _ _ _ _ _ _ _ _ _ t q (by omega) (by omega), part_vc_at, hm ⟨q.val / 512, by omega⟩ (by simp only; omega) (by simp only; omega)]
    exact congrArg₂ (Turn.entry _ 0 t) (funext fun r => proj_at x w t r) (Fin.ext (by simp only; omega))
  by_cases c3 : q.val < 4096
  · have hm : ∀ j : Fin 21, 7 ≤ j.val → j.val < 8 → (EvenInIdeal.Gen.mode j).toNat = 1 := by decide
    rw [join_ks _ _ _ _ _ _ _ _ _ _ _ t q (by omega) (by omega), part_ks_at, hm ⟨q.val / 512, by omega⟩ (by simp only; omega) (by simp only; omega)]
    exact congrArg₂ (Turn.entry _ 1 t) (funext fun r => proj_at x w t r) (Fin.ext (by simp only; omega))
  by_cases c4 : q.val < 4608
  · have hm : ∀ j : Fin 21, 8 ≤ j.val → j.val < 9 → (EvenInIdeal.Gen.mode j).toNat = 0 := by decide
    rw [join_vs _ _ _ _ _ _ _ _ _ _ _ t q (by omega) (by omega), part_vs_at, hm ⟨q.val / 512, by omega⟩ (by simp only; omega) (by simp only; omega)]
    exact congrArg₂ (Turn.entry _ 0 t) (funext fun r => proj_at x w t r) (Fin.ext (by simp only; omega))
  by_cases c5 : q.val < 5120
  · have hm : ∀ j : Fin 21, 9 ≤ j.val → j.val < 10 → (EvenInIdeal.Gen.mode j).toNat = 1 := by decide
    rw [join_kw _ _ _ _ _ _ _ _ _ _ _ t q (by omega) (by omega), part_kw_at, hm ⟨q.val / 512, by omega⟩ (by simp only; omega) (by simp only; omega)]
    exact congrArg₂ (Turn.entry _ 1 t) (funext fun r => proj_at x w t r) (Fin.ext (by simp only; omega))
  by_cases c6 : q.val < 5632
  · have hm : ∀ j : Fin 21, 10 ≤ j.val → j.val < 11 → (EvenInIdeal.Gen.mode j).toNat = 0 := by decide
    rw [join_vw _ _ _ _ _ _ _ _ _ _ _ t q (by omega) (by omega), part_vw_at, hm ⟨q.val / 512, by omega⟩ (by simp only; omega) (by simp only; omega)]
    exact congrArg₂ (Turn.entry _ 0 t) (funext fun r => proj_at x w t r) (Fin.ext (by simp only; omega))
  by_cases c7 : q.val < 7168
  · have hm : ∀ j : Fin 21, 11 ≤ j.val → j.val < 14 → (EvenInIdeal.Gen.mode j).toNat = 2 := by decide
    rw [join_qb _ _ _ _ _ _ _ _ _ _ _ t q (by omega) (by omega), part_qb_at, hm ⟨q.val / 512, by omega⟩ (by simp only; omega) (by simp only; omega)]
    exact congrArg₂ (Turn.entry _ 2 t) (funext fun r => proj_at x w t r) (Fin.ext (by simp only; omega))
  by_cases c8 : q.val < 8704
  · have hm : ∀ j : Fin 21, 14 ≤ j.val → j.val < 17 → (EvenInIdeal.Gen.mode j).toNat = 1 := by decide
    rw [join_kb _ _ _ _ _ _ _ _ _ _ _ t q (by omega) (by omega), part_kb_at, hm ⟨q.val / 512, by omega⟩ (by simp only; omega) (by simp only; omega)]
    exact congrArg₂ (Turn.entry _ 1 t) (funext fun r => proj_at x w t r) (Fin.ext (by simp only; omega))
  by_cases c9 : q.val < 10240
  · have hm : ∀ j : Fin 21, 17 ≤ j.val → j.val < 20 → (EvenInIdeal.Gen.mode j).toNat = 0 := by decide
    rw [join_vb _ _ _ _ _ _ _ _ _ _ _ t q (by omega) (by omega), part_vb_at, hm ⟨q.val / 512, by omega⟩ (by simp only; omega) (by simp only; omega)]
    exact congrArg₂ (Turn.entry _ 0 t) (funext fun r => proj_at x w t r) (Fin.ext (by simp only; omega))
  have hm : ∀ j : Fin 21, 20 ≤ j.val → j.val < 21 → (EvenInIdeal.Gen.mode j).toNat = 0 := by decide
  rw [join_gate _ _ _ _ _ _ _ _ _ _ _ t q (by omega) (by omega), part_gate_at, hm ⟨q.val / 512, by omega⟩ (by simp only; omega) (by simp only; omega)]
  exact congrArg₂ (Turn.entry _ 0 t) (funext fun r => proj_at x w t r) (Fin.ext (by simp only; omega))

theorem result_eq (x : FVec Ideal S16384x4096 .bf16) (w : FVec Ideal S4096x10752 .bf16) :
    result x w = fun i => EvenInIdeal.Gen.spec x w (i 0) (i 1) := by
  funext i
  exact (congrArg (result x w) (show i = ix2 (i 0) (i 1) from by pointwise)).trans (result_at x w _ _)

open Idealize.ShloMosaic.StableHlo in
theorem res_eq (m : (ℓ : Loc nD τ sig) → Buf (Elt Ideal) ℓ) (c : Dev nD) :
    truncf .bf16 (Value.res_main_v183 (F := Ideal) (launchContents m c)) bitsLt_bf16_f32
      = result (m ((c.tc : Thread nD τ).loc main_arg0)) (m ((c.tc : Thread nD τ).loc main_arg1)) := rfl

end Cert.EvenInReferenceIdeal.Stage

namespace Cert.Proof.EvenIn

open Idealize.ShloMosaic Idealize.ShloMosaic.TcCoe Idealize.SL.Sem

theorem frame_p : Cert.quiescent_EvenIn := Cert.EvenIn.Gen.frame
theorem frame_pi : Cert.quiescent_EvenInIdeal := Cert.EvenInIdeal.Gen.frame
theorem frame_ri : Cert.quiescent_EvenInReferenceIdeal := fun m ρ _ =>
  (θ_run Cert.EvenInReferenceIdeal.defs _ _).mono (fun r h => ⟨fun c => (h c).2, sem_eq_zero_of_no_sems (by decide) r.2⟩)
    (Cert.EvenInReferenceIdeal.Value.run (F := Ideal) m ρ)

/-- Nothing is rewritten. -/
theorem preserves : Cert.preserves_EvenIn_EvenInIdeal := trivial

theorem algebraic : Cert.algebraic_EvenInIdeal_EvenInReferenceIdeal := by
  intro m ρ m' ρ' _ hagree
  refine ⟨fun c => _, (θ_run Cert.EvenInIdeal.defs _ _).mono (fun r h c => ⟨((h.1 c).1).trans (Cert.EvenInIdeal.Gen.final m c), (h.1 c).2.1, (h.1 c).2.2⟩)
    (Cert.EvenInIdeal.Gen.run_args m ρ), ?_⟩
  refine (θ_run Cert.EvenInReferenceIdeal.defs _ _).mono (fun _ h c => ⟨(h c).1.trans ?_, (h c).2⟩)
    (Cert.EvenInReferenceIdeal.Value.run (F := Ideal) m' ρ')
  refine (Cert.EvenInReferenceIdeal.Stage.res_eq m' c).trans ?_
  rw [(hagree c).1, (hagree c).2]
  exact Cert.EvenInReferenceIdeal.Stage.result_eq _ _

end Cert.Proof.EvenIn

end
-- ==== Proof.CmpIn.lean ====
/-
  THE FIRST LAYER OF THE COMPRESSION NETWORK. Grid point `(i, 0)` computes rows `1024 i …` of the hidden rows: the product
  with the weights, each entry as one sum over the 4096 inner positions, the bias of its column, and the gelu (the form
  with the hyperbolic tangent). The reference is the same function of the same rows.
-/
module

public import proofs.«01_k».proof.Defs
public import proofs.«01_k».proof.Proof.Gen.CmpIn.Frame
public import proofs.«01_k».proof.Proof.Gen.CmpInIdeal.Frame
public import proofs.«01_k».proof.Proof.Gen.CmpInIdeal.Value
public import proofs.«01_k».proof.Proof.Gen.CmpInReferenceIdeal.Run
public import Idealize.ShloMosaic.Lib.Pipeline.ValueKit
public import Idealize.ShloMosaic.Lib.Pointwise
public import Idealize.ShloMosaic.Lib.Quiescent

@[expose] public section

set_option maxRecDepth 16384

noncomputable section

namespace Cert.CmpInIdeal.Hidden

open Idealize.ShloMosaic Idealize.ShloMosaic.TcCoe Idealize.SL.Sem Cert.CmpInIdeal Cert.CmpInIdeal.Gen

/-- The gelu of an extended real: `x · (1/2 · (1 + tanh (√(2/π) · (x + 0.044715 x³))))`, with the three constants as the
    programs round them. -/
def gelu (x : EReal) : EReal :=
  x * (Ideal.ofBits .f32 0x3F000000#32 * (1
    + Ideal.tanh (Ideal.ofBits .f32 0x3F4C422A#32 * (x + Ideal.ofBits .f32 0x3D372713#32 * (x * x * x)))))

/-- Entry `(r, c)` of the hidden rows. -/
def hidden (a : FVec Ideal S4096x4096 .bf16) (w : FVec Ideal S4096x512 .bf16) (b : FVec Ideal S512 .f32) (r : Fin 4096) (c : Fin 512) : EReal :=
  gelu ((∑ k : Fin 4096, (a (ix2 r k) : EReal) * w (ix2 k c)) + b (ix1 c))

/-- One block of hidden rows. -/
theorem pay_at (a : FVec Ideal S1024x4096 .bf16) (w : FVec Ideal S4096x512 .bf16) (b : FVec Ideal S1x512 .f32) (r : Fin 1024) (c : Fin 512) :
    (k0_pay1 (F := Ideal) a w b (ix2 r c) : EReal)
      = gelu ((∑ k : Fin 4096, (a (ix2 r k) : EReal) * w (ix2 k c)) + b (ix2 (0 : Fin 1) c)) := by
  pointwise [k0_pay1]
  unfold gelu
  simp only [mul_assoc]

variable (m : (ℓ : Loc nD τ sig) → Buf (Elt Ideal) ℓ)

theorem idx0 : ∀ t : Fin cfg0.N, win0_0.index t = ![(grid0.coords t 0).val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![(grid0.coords t 0).val, 0] := by decide +kernel

variable (c : Dev nD) (t : Fin cfg0.N)

theorem lt0 : (grid0.coords t 0).val < 4 := (grid0.coords t 0).isLt

/-- The bias as a row. -/
theorem bias_row : V m c main_v0 = shapeCast S1x512 (m ((c.tc : Thread nD τ).loc main_arg2)) shapeCasts_S512_S1x512 := by
  unfold V hostOps0
  after_results_simp <;> rfl

theorem blk0 (r : Fin 1024) (k : Fin 4096) : iblk m c 0 t (ix2 r k)
    = m ((c.tc : Thread nD τ).loc main_arg0) (ix2 (⟨(grid0.coords t 0).val * 1024 + r.val, by have := lt0 t; omega⟩ : Fin 4096) k) := by
  blk_ext [iblk, V, idx0 t]

theorem blk1 (k : Fin 4096) (q : Fin 512) : iblk m c 1 t (ix2 k q) = m ((c.tc : Thread nD τ).loc main_arg1) (ix2 k q) := by
  blk_ext [iblk, V, idx1 t]

theorem blk2 (q : Fin 512) : iblk m c 2 t (ix2 (0 : Fin 1) q) = m ((c.tc : Thread nD τ).loc main_arg2) (ix1 q) := by
  have h : iblk m c 2 t (ix2 (0 : Fin 1) q) = V m c main_v0 (ix2 (0 : Fin 1) q) := by
    blk_ext [iblk, idx2 t]
  rw [h, bias_row]
  pointwise

/-- The array after the run. -/
theorem final : (dats m 0 c).arrAt 3 cfg0.N = fun i => hidden (m ((c.tc : Thread nD τ).loc main_arg0))
    (m ((c.tc : Thread nD τ).loc main_arg1)) (m ((c.tc : Thread nD τ).loc main_arg2)) (i 0) (i 1) := by
  refine (dats m 0 c).arrAt_eq_of_covers 3 _ (by decide +kernel) fun t hf y => ?_
  blk_simp
  rw [after0_3]
  frame_out
  have e0 : (((View.whole main_v1).slice (win0_3.rect t)).emb y 0).val = (grid0.coords t 0).val * 1024 + (y 0).val := by
    blk_simp [idx3 t]
  have e1 : (((View.whole main_v1).slice (win0_3.rect t)).emb y 1).val = (y 1).val := by
    blk_simp [idx3 t]
  generalize (((View.whole main_v1).slice (win0_3.rect t)).emb y) = Y at e0 e1 ⊢
  rw [show y = ix2 (y 0) (y 1) from by pointwise]
  refine (pay_at _ _ _ (y 0) (y 1)).trans (congrArg gelu (congrArg₂ (· + ·) (Finset.sum_congr rfl fun k _ => ?_) ?_))
  · refine congrArg₂ (· * ·) ((blk0 m c t (y 0) k).trans ?_) ((blk1 m c t k (y 1)).trans ?_)
    · congr 2; apply Fin.ext; exact e0.symm
    · congr 2; apply Fin.ext; exact e1.symm
  · refine (blk2 m c t (y 1)).trans ?_
    congr 2; apply Fin.ext; exact e1.symm

end Cert.CmpInIdeal.Hidden

namespace Cert.CmpInReferenceIdeal.Hidden

open Idealize.ShloMosaic Idealize.ShloMosaic.TcCoe Idealize.SL.Sem Cert.CmpInReferenceIdeal Cert.CmpInReferenceIdeal.Gen

variable (a : FVec Ideal S4096x4096 .bf16) (w : FVec Ideal S4096x512 .bf16) (b : FVec Ideal S512 .f32)

/-- The reference's product and bias. -/
def affine : FVec Ideal S4096x512 .f32 :=
  addf (Host.dotGeneral dot_S4096x4096_S4096x512_S4096x512_1_0_0_1_n_n none (extf .f32 a bitsLt_bf16_f32) (extf .f32 w bitsLt_bf16_f32))
    (broadcastInDim S4096x512 ![0, 1] bcast_S1x512_S4096x512_0_1 (broadcastInDim S1x512 ![1] bcast_S512_S1x512_1 b))

/-- The reference's gelu. -/
def act (x : FVec Ideal S4096x512 .f32) : FVec Ideal S4096x512 .bf16 :=
  truncf .bf16 (mulf x (mulf (broadcastInDim S4096x512 ![] bcast_S_S4096x512 (constant S_ .f32 0x3F000000#32))
    (addf (broadcastInDim S4096x512 ![] bcast_S_S4096x512 (constant S_ .f32 0x3F800000#32))
      (Host.tanh (mulf (broadcastInDim S4096x512 ![] bcast_S_S4096x512 (constant S_ .f32 0x3F4C422A#32))
        (addf x (mulf (broadcastInDim S4096x512 ![] bcast_S_S4096x512 (constant S_ .f32 0x3D372713#32)) (mulf (mulf x x) x)))))))) bitsLt_bf16_f32

theorem affine_at (r : Fin 4096) (c : Fin 512) :
    affine a w b (ix2 r c) = (∑ k : Fin 4096, (a (ix2 r k) : EReal) * w (ix2 k c)) + b (ix1 c) := by
  pointwise [affine]

theorem act_at (x : FVec Ideal S4096x512 .f32) (r : Fin 4096) (c : Fin 512) :
    act x (ix2 r c) = Cert.CmpInIdeal.Hidden.gelu (x (ix2 r c)) := by
  pointwise [act, Cert.CmpInIdeal.Hidden.gelu]

/-- The reference's result is the same function. -/
theorem reference_at : act (affine a w b) = fun i => Cert.CmpInIdeal.Hidden.hidden a w b (i 0) (i 1) := by
  funext i
  obtain ⟨r, c, rfl⟩ : ∃ r c, i = ix2 r c := ⟨i 0, i 1, by pointwise⟩
  rw [act_at, affine_at]
  rfl

end Cert.CmpInReferenceIdeal.Hidden

namespace Cert.Proof.CmpIn

open Idealize.ShloMosaic Idealize.ShloMosaic.TcCoe Idealize.SL.Sem

theorem frame_p : Cert.quiescent_CmpIn := fun m ρ _ => Cert.CmpIn.Gen.frame m ρ
theorem frame_pi : Cert.quiescent_CmpInIdeal := fun m ρ _ => Cert.CmpInIdeal.Gen.frame m ρ
theorem frame_ri : Cert.quiescent_CmpInReferenceIdeal := fun m ρ _ =>
  (θ_run Cert.CmpInReferenceIdeal.defs _ _).mono (fun r h => ⟨fun c => (h c).2, sem_eq_zero_of_no_sems (by decide) r.2⟩)
    (Cert.CmpInReferenceIdeal.Value.run (F := Ideal) m ρ)

/-- Nothing is rewritten. -/
theorem preserves : Cert.preserves_CmpIn_CmpInIdeal := trivial

theorem algebraic : Cert.algebraic_CmpInIdeal_CmpInReferenceIdeal := by
  intro m ρ m' ρ' _ hagree
  refine ⟨_, Cert.CmpInIdeal.Value.run_blocks (F := Ideal) m ρ, ?_⟩
  refine (θ_run Cert.CmpInReferenceIdeal.defs _ _).mono (fun _ h c => ⟨(h c).1.trans ?_, (h c).2⟩)
    (Cert.CmpInReferenceIdeal.Value.run (F := Ideal) m' ρ')
  rw [(hagree c).1, (hagree c).2.1, (hagree c).2.2]
  exact (Cert.CmpInReferenceIdeal.Hidden.reference_at _ _ _).trans (Cert.CmpInIdeal.Hidden.final m c).symm

end Cert.Proof.CmpIn

end
-- ==== Proof.CmpOut.lean ====
/-
  THE SECOND LAYER OF THE COMPRESSION NETWORK. Grid point `(i, 0)` computes rows `1024 i …` of the compressed rows: the
  product of the hidden rows with the weights, each entry as one sum over the 512 inner positions, and the bias of its
  column. The reference is the same function of the same rows.
-/
module

public import proofs.«01_k».proof.Defs
public import proofs.«01_k».proof.Proof.Gen.CmpOut.Frame
public import proofs.«01_k».proof.Proof.Gen.CmpOutIdeal.Frame
public import proofs.«01_k».proof.Proof.Gen.CmpOutIdeal.Value
public import proofs.«01_k».proof.Proof.Gen.CmpOutReferenceIdeal.Run
public import Idealize.ShloMosaic.Lib.Pipeline.ValueKit
public import Idealize.ShloMosaic.Lib.Pointwise
public import Idealize.ShloMosaic.Lib.Quiescent

@[expose] public section

set_option maxRecDepth 16384

noncomputable section

namespace Cert.CmpOutIdeal.Mapped

open Idealize.ShloMosaic Idealize.ShloMosaic.TcCoe Idealize.SL.Sem Cert.CmpOutIdeal Cert.CmpOutIdeal.Gen

/-- Entry `(r, c)` of the compressed rows. -/
def mapped (a : FVec Ideal S4096x512 .bf16) (w : FVec Ideal S512x128 .bf16) (b : FVec Ideal S128 .f32) (r : Fin 4096) (c : Fin 128) : EReal :=
  (∑ k : Fin 512, (a (ix2 r k) : EReal) * w (ix2 k c)) + b (ix1 c)

/-- One block of compressed rows. -/
theorem pay_at (a : FVec Ideal S1024x512 .bf16) (w : FVec Ideal S512x128 .bf16) (b : FVec Ideal S1x128 .f32) (r : Fin 1024) (c : Fin 128) :
    (k0_pay1 (F := Ideal) a w b (ix2 r c) : EReal)
      = (∑ k : Fin 512, (a (ix2 r k) : EReal) * w (ix2 k c)) + b (ix2 (0 : Fin 1) c) := by
  pointwise [k0_pay1]

variable (m : (ℓ : Loc nD τ sig) → Buf (Elt Ideal) ℓ)

theorem idx0 : ∀ t : Fin cfg0.N, win0_0.index t = ![(grid0.coords t 0).val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![(grid0.coords t 0).val, 0] := by decide +kernel

variable (c : Dev nD) (t : Fin cfg0.N)

theorem lt0 : (grid0.coords t 0).val < 4 := (grid0.coords t 0).isLt

/-- The bias as a row. -/
theorem bias_row : V m c main_v0 = shapeCast S1x128 (m ((c.tc : Thread nD τ).loc main_arg2)) shapeCasts_S128_S1x128 := by
  unfold V hostOps0
  after_results_simp <;> rfl

theorem blk0 (r : Fin 1024) (k : Fin 512) : iblk m c 0 t (ix2 r k)
    = m ((c.tc : Thread nD τ).loc main_arg0) (ix2 (⟨(grid0.coords t 0).val * 1024 + r.val, by have := lt0 t; omega⟩ : Fin 4096) k) := by
  blk_ext [iblk, V, idx0 t]

theorem blk1 (k : Fin 512) (q : Fin 128) : iblk m c 1 t (ix2 k q) = m ((c.tc : Thread nD τ).loc main_arg1) (ix2 k q) := by
  blk_ext [iblk, V, idx1 t]

theorem blk2 (q : Fin 128) : iblk m c 2 t (ix2 (0 : Fin 1) q) = m ((c.tc : Thread nD τ).loc main_arg2) (ix1 q) := by
  have h : iblk m c 2 t (ix2 (0 : Fin 1) q) = V m c main_v0 (ix2 (0 : Fin 1) q) := by
    blk_ext [iblk, idx2 t]
  rw [h, bias_row]
  pointwise

/-- The array after the run. -/
theorem final : (dats m 0 c).arrAt 3 cfg0.N = fun i => mapped (m ((c.tc : Thread nD τ).loc main_arg0))
    (m ((c.tc : Thread nD τ).loc main_arg1)) (m ((c.tc : Thread nD τ).loc main_arg2)) (i 0) (i 1) := by
  refine (dats m 0 c).arrAt_eq_of_covers 3 _ (by decide +kernel) fun t hf y => ?_
  blk_simp
  rw [after0_3]
  frame_out
  have e0 : (((View.whole main_v1).slice (win0_3.rect t)).emb y 0).val = (grid0.coords t 0).val * 1024 + (y 0).val := by
    blk_simp [idx3 t]
  have e1 : (((View.whole main_v1).slice (win0_3.rect t)).emb y 1).val = (y 1).val := by
    blk_simp [idx3 t]
  generalize (((View.whole main_v1).slice (win0_3.rect t)).emb y) = Y at e0 e1 ⊢
  rw [show y = ix2 (y 0) (y 1) from by pointwise]
  refine (pay_at _ _ _ (y 0) (y 1)).trans (congrArg₂ (· + ·) (Finset.sum_congr rfl fun k _ => ?_) ?_)
  · refine congrArg₂ (· * ·) ((blk0 m c t (y 0) k).trans ?_) ((blk1 m c t k (y 1)).trans ?_)
    · congr 2; apply Fin.ext; exact e0.symm
    · congr 2; apply Fin.ext; exact e1.symm
  · refine (blk2 m c t (y 1)).trans ?_
    congr 2; apply Fin.ext; exact e1.symm

end Cert.CmpOutIdeal.Mapped

namespace Cert.CmpOutReferenceIdeal.Mapped

open Idealize.ShloMosaic Idealize.ShloMosaic.TcCoe Idealize.SL.Sem Cert.CmpOutReferenceIdeal Cert.CmpOutReferenceIdeal.Gen

variable (a : FVec Ideal S4096x512 .bf16) (w : FVec Ideal S512x128 .bf16) (b : FVec Ideal S128 .f32)

/-- The reference's product and bias. -/
def affine : FVec Ideal S4096x128 .bf16 :=
  truncf .bf16 (addf (Host.dotGeneral dot_S4096x512_S512x128_S4096x128_1_0_0_1_n_n none (extf .f32 a bitsLt_bf16_f32) (extf .f32 w bitsLt_bf16_f32))
    (broadcastInDim S4096x128 ![0, 1] bcast_S1x128_S4096x128_0_1 (broadcastInDim S1x128 ![1] bcast_S128_S1x128_1 b))) bitsLt_bf16_f32

theorem affine_at (r : Fin 4096) (c : Fin 128) :
    affine a w b (ix2 r c) = (∑ k : Fin 512, (a (ix2 r k) : EReal) * w (ix2 k c)) + b (ix1 c) := by
  pointwise [affine]

/-- The reference's result is the same function. -/
theorem reference_at : affine a w b = fun i => Cert.CmpOutIdeal.Mapped.mapped a w b (i 0) (i 1) := by
  funext i
  obtain ⟨r, c, rfl⟩ : ∃ r c, i = ix2 r c := ⟨i 0, i 1, by pointwise⟩
  rw [affine_at]
  rfl

end Cert.CmpOutReferenceIdeal.Mapped

namespace Cert.Proof.CmpOut

open Idealize.ShloMosaic Idealize.ShloMosaic.TcCoe Idealize.SL.Sem

theorem frame_p : Cert.quiescent_CmpOut := fun m ρ _ => Cert.CmpOut.Gen.frame m ρ
theorem frame_pi : Cert.quiescent_CmpOutIdeal := fun m ρ _ => Cert.CmpOutIdeal.Gen.frame m ρ
theorem frame_ri : Cert.quiescent_CmpOutReferenceIdeal := fun m ρ _ =>
  (θ_run Cert.CmpOutReferenceIdeal.defs _ _).mono (fun r h => ⟨fun c => (h c).2, sem_eq_zero_of_no_sems (by decide) r.2⟩)
    (Cert.CmpOutReferenceIdeal.Value.run (F := Ideal) m ρ)

/-- Nothing is rewritten. -/
theorem preserves : Cert.preserves_CmpOut_CmpOutIdeal := trivial

theorem algebraic : Cert.algebraic_CmpOutIdeal_CmpOutReferenceIdeal := by
  intro m ρ m' ρ' _ hagree
  refine ⟨_, Cert.CmpOutIdeal.Value.run_blocks (F := Ideal) m ρ, ?_⟩
  refine (θ_run Cert.CmpOutReferenceIdeal.defs _ _).mono (fun _ h c => ⟨(h c).1.trans ?_, (h c).2⟩)
    (Cert.CmpOutReferenceIdeal.Value.run (F := Ideal) m' ρ')
  rw [(hagree c).1, (hagree c).2.1, (hagree c).2.2]
  exact (Cert.CmpOutReferenceIdeal.Mapped.reference_at _ _ _).trans (Cert.CmpOutIdeal.Mapped.final m c).symm

end Cert.Proof.CmpOut

end
-- ==== Proof.Norm.lean ====
/-
  THE LAYER NORM AFTER A MIXER. Grid point `i` computes rows `256 i …` of both results: the residual row times a constant plus the
  mixer's row, its mean taken off, divided by the root of its variance plus a constant, with a weight and a bias for each
  column. The second result is the first at the narrower type, which is no change over the extended reals. The reference is
  the same function of the same rows.
-/
module

public import proofs.«01_k».proof.Defs
public import proofs.«01_k».proof.Proof.Gen.Norm.Frame
public import proofs.«01_k».proof.Proof.Gen.NormIdeal.Frame
public import proofs.«01_k».proof.Proof.Gen.NormIdeal.Value
public import proofs.«01_k».proof.Proof.Gen.NormReferenceIdeal.Run
public import Idealize.ShloMosaic.Lib.Pipeline.ValueKit
public import Idealize.ShloMosaic.Lib.Pointwise
public import Idealize.ShloMosaic.Lib.ValueLayout
public import Idealize.ShloMosaic.Lib.Quiescent

@[expose] public section

set_option maxRecDepth 16384

noncomputable section

namespace Cert.NormIdeal.Rows

open Idealize.ShloMosaic Idealize.ShloMosaic.TcCoe Idealize.SL.Sem Cert.NormIdeal Cert.NormIdeal.Gen

/-- The mean of a row of 4096. -/
def mean (z : Fin 4096 → EReal) : EReal := Ideal.div (∑ k, z k) (Ideal.ofBits .f32 0x45800000#32)

/-- A row with its mean taken off. -/
def centred (z : Fin 4096 → EReal) (k : Fin 4096) : EReal := z k - mean z

/-- A row's entry, normalised, with its column's weight and bias. -/
def normed (z : Fin 4096 → EReal) (g b : EReal) (k : Fin 4096) : EReal :=
  centred z k * Ideal.rsqrt (mean (fun j => centred z j * centred z j) + Ideal.ofBits .f32 0x3727C5AC#32) * g + b

/-- The row that is normalised: the residual times a constant, plus the mixer's row. -/
def sum (x y : EReal) : EReal := Ideal.ofBits .f32 0x3FD744FD#32 * x + y

/-- Entry `(r, c)` of the results. -/
def entry (x y : FVec Ideal S16384x4096 .f32) (g b : FVec Ideal S4096 .f32) (r : Fin 16384) (c : Fin 4096) : EReal :=
  normed (fun k => sum (x (ix2 r k)) (y (ix2 r k))) (g (ix1 c)) (b (ix1 c)) c

/-- One block's rows. -/
theorem pay_at (x y : FVec Ideal S256x4096 .f32) (g b : FVec Ideal S1x4096 .f32) (r : Fin 256) (c : Fin 4096) :
    (k0_pay1 (F := Ideal) x y g b (ix2 r c) : EReal)
      = normed (fun k => sum (x (ix2 r k)) (y (ix2 r k))) (g (ix2 (0 : Fin 1) c)) (b (ix2 (0 : Fin 1) c)) c := by
  pointwise [k0_pay1]
  rfl

theorem pay2_at (x y : FVec Ideal S256x4096 .f32) (g b : FVec Ideal S1x4096 .f32) (r : Fin 256) (c : Fin 4096) :
    (k0_pay2 (F := Ideal) x y g b (ix2 r c) : EReal)
      = normed (fun k => sum (x (ix2 r k)) (y (ix2 r k))) (g (ix2 (0 : Fin 1) c)) (b (ix2 (0 : Fin 1) c)) c :=
  pay_at x y g b r c

variable (m : (ℓ : Loc nD τ sig) → Buf (Elt Ideal) ℓ)

theorem idx0 : ∀ t : Fin cfg0.N, win0_0.index t = ![(grid0.coords t 0).val, 0] := by decide +kernel
theorem idx1 : ∀ t : Fin cfg0.N, win0_1.index t = ![(grid0.coords t 0).val, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![(grid0.coords t 0).val, 0] := by decide +kernel
theorem idx5 : ∀ t : Fin cfg0.N, win0_5.index t = ![(grid0.coords t 0).val, 0] := by decide +kernel

variable (c : Dev nD) (t : Fin cfg0.N)

theorem lt0 : (grid0.coords t 0).val < 64 := (grid0.coords t 0).isLt

/-- The weight and the bias as rows. -/
theorem weight_row : V m c main_v0 = shapeCast S1x4096 (m ((c.tc : Thread nD τ).loc main_arg2)) shapeCasts_S4096_S1x4096 := by
  unfold V hostOps0
  after_results_simp <;> rfl
theorem bias_row : V m c main_v1 = shapeCast S1x4096 (m ((c.tc : Thread nD τ).loc main_arg3)) shapeCasts_S4096_S1x4096 := by
  unfold V hostOps0
  after_results_simp <;> rfl

theorem blk0 (r : Fin 256) (k : Fin 4096) : iblk m c 0 t (ix2 r k)
    = m ((c.tc : Thread nD τ).loc main_arg0) (ix2 (⟨(grid0.coords t 0).val * 256 + r.val, by have := lt0 t; omega⟩ : Fin 16384) k) := by
  have h : iblk m c 0 t (ix2 r k) = V m c main_arg0 (ix2 (⟨(grid0.coords t 0).val * 256 + r.val, by have := lt0 t; omega⟩ : Fin 16384) k) := by
    blk_ext [iblk, idx0 t]
  rw [h, V_main_arg0]

theorem blk1 (r : Fin 256) (k : Fin 4096) : iblk m c 1 t (ix2 r k)
    = m ((c.tc : Thread nD τ).loc main_arg1) (ix2 (⟨(grid0.coords t 0).val * 256 + r.val, by have := lt0 t; omega⟩ : Fin 16384) k) := by
  have h : iblk m c 1 t (ix2 r k) = V m c main_arg1 (ix2 (⟨(grid0.coords t 0).val * 256 + r.val, by have := lt0 t; omega⟩ : Fin 16384) k) := by
    blk_ext [iblk, idx1 t]
  rw [h, V_main_arg1]

theorem blk2 (q : Fin 4096) : iblk m c 2 t (ix2 (0 : Fin 1) q) = m ((c.tc : Thread nD τ).loc main_arg2) (ix1 q) := by
  have h : iblk m c 2 t (ix2 (0 : Fin 1) q) = V m c main_v0 (ix2 (0 : Fin 1) q) := by
    blk_ext [iblk, idx2 t]
  rw [h, weight_row]
  exact Idealize.ShloMosaic.ValueIdx.shapeCast_a_1a_apply _ _ _ _

theorem blk3 (q : Fin 4096) : iblk m c 3 t (ix2 (0 : Fin 1) q) = m ((c.tc : Thread nD τ).loc main_arg3) (ix1 q) := by
  have h : iblk m c 3 t (ix2 (0 : Fin 1) q) = V m c main_v1 (ix2 (0 : Fin 1) q) := by
    blk_ext [iblk, idx3 t]
  rw [h, bias_row]
  exact Idealize.ShloMosaic.ValueIdx.shapeCast_a_1a_apply _ _ _ _

/-- The first array after the run. -/
theorem final4 : (dats m 0 c).arrAt 4 cfg0.N = fun i => entry (m ((c.tc : Thread nD τ).loc main_arg0)) (m ((c.tc : Thread nD τ).loc main_arg1))
    (m ((c.tc : Thread nD τ).loc main_arg2)) (m ((c.tc : Thread nD τ).loc main_arg3)) (i 0) (i 1) := by
  refine (dats m 0 c).arrAt_eq_of_covers 4 _ (by decide +kernel) fun t hf y => ?_
  blk_simp
  rw [after0_4]
  frame_out
  have e0 : (((View.whole main_v2_0).slice (win0_4.rect t)).emb y 0).val = (grid0.coords t 0).val * 256 + (y 0).val := by
    blk_simp [idx4 t]
  have e1 : (((View.whole main_v2_0).slice (win0_4.rect t)).emb y 1).val = (y 1).val := by
    blk_simp [idx4 t]
  generalize (((View.whole main_v2_0).slice (win0_4.rect t)).emb y) = Y at e0 e1 ⊢
  have r0 : (⟨(grid0.coords t 0).val * 256 + (y 0).val, by have := lt0 t; have : (y 0).val < 256 := (y 0).isLt; omega⟩ : Fin 16384) = Y 0 := Fin.ext e0.symm
  have r1 : y 1 = Y 1 := Fin.ext e1.symm
  rw [show y = ix2 (y 0) (y 1) from by pointwise]
  refine (pay_at _ _ _ _ (y 0) (y 1)).trans ?_
  unfold entry
  rw [← r0, ← r1]
  congr 1
  · funext k
    exact congrArg₂ sum (blk0 m c t (y 0) k) (blk1 m c t (y 0) k)
  · exact blk2 m c t (y 1)
  · exact blk3 m c t (y 1)

/-- The second array after the run. -/
theorem final5 : (dats m 0 c).arrAt 5 cfg0.N = fun i => entry (m ((c.tc : Thread nD τ).loc main_arg0)) (m ((c.tc : Thread nD τ).loc main_arg1))
    (m ((c.tc : Thread nD τ).loc main_arg2)) (m ((c.tc : Thread nD τ).loc main_arg3)) (i 0) (i 1) := by
  refine (dats m 0 c).arrAt_eq_of_covers 5 _ (by decide +kernel) fun t hf y => ?_
  blk_simp
  rw [after0_5]
  frame_out
  have e0 : (((View.whole main_v2_1).slice (win0_5.rect t)).emb y 0).val = (grid0.coords t 0).val * 256 + (y 0).val := by
    blk_simp [idx5 t]
  have e1 : (((View.whole main_v2_1).slice (win0_5.rect t)).emb y 1).val = (y 1).val := by
    blk_simp [idx5 t]
  generalize (((View.whole main_v2_1).slice (win0_5.rect t)).emb y) = Y at e0 e1 ⊢
  have r0 : (⟨(grid0.coords t 0).val * 256 + (y 0).val, by have := lt0 t; have : (y 0).val < 256 := (y 0).isLt; omega⟩ : Fin 16384) = Y 0 := Fin.ext e0.symm
  have r1 : y 1 = Y 1 := Fin.ext e1.symm
  rw [show y = ix2 (y 0) (y 1) from by pointwise]
  refine (pay2_at _ _ _ _ (y 0) (y 1)).trans ?_
  unfold entry
  rw [← r0, ← r1]
  congr 1
  · funext k
    exact congrArg₂ sum (blk0 m c t (y 0) k) (blk1 m c t (y 0) k)
  · exact blk2 m c t (y 1)
  · exact blk3 m c t (y 1)

end Cert.NormIdeal.Rows

namespace Cert.NormReferenceIdeal.Rows

open Idealize.ShloMosaic Idealize.ShloMosaic.TcCoe Idealize.SL.Sem Cert.NormReferenceIdeal Cert.NormReferenceIdeal.Gen

variable (x y z : FVec Ideal S16384x4096 .f32) (g b : FVec Ideal S4096 .f32)

/-- The reference's rows before the norm. -/
def before : FVec Ideal S16384x4096 .f32 :=
  addf (mulf (broadcastInDim S16384x4096 ![] bcast_S_S16384x4096 (constant S_ .f32 0x3FD744FD#32)) x) y

/-- The mean of each row. -/
def means : FVec Ideal S16384x1 .f32 :=
  Host.divf (broadcastInDim S16384x1 ![0] bcast_S16384_S16384x1_0 (Host.reduceAdd z (constant S_ .f32 0x00000000#32) reducesTo_S16384x4096_S16384_d1 h_S_))
    (broadcastInDim S16384x1 ![] bcast_S_S16384x1 (constant S_ .f32 0x45800000#32))

/-- Each row with its mean taken off. -/
def off : FVec Ideal S16384x4096 .f32 := subf z (broadcastInDim S16384x4096 ![0, 1] bcast_S16384x1_S16384x4096_0_1 (means z))

/-- The normalised rows with the weights and biases. -/
def after : FVec Ideal S16384x4096 .f32 :=
  addf (mulf (mulf (off z) (broadcastInDim S16384x4096 ![0, 1] bcast_S16384x1_S16384x4096_0_1
      (Host.rsqrt (addf (means (mulf (off z) (off z))) (broadcastInDim S16384x1 ![] bcast_S_S16384x1 (constant S_ .f32 0x3727C5AC#32))))))
    (broadcastInDim S16384x4096 ![0, 1] bcast_S1x4096_S16384x4096_0_1 (broadcastInDim S1x4096 ![1] bcast_S4096_S1x4096_1 g)))
    (broadcastInDim S16384x4096 ![0, 1] bcast_S1x4096_S16384x4096_0_1 (broadcastInDim S1x4096 ![1] bcast_S4096_S1x4096_1 b))

theorem before_at (r : Fin 16384) (c : Fin 4096) :
    before x y (ix2 r c) = Cert.NormIdeal.Rows.sum (x (ix2 r c)) (y (ix2 r c)) := by
  pointwise [before, Cert.NormIdeal.Rows.sum]

theorem means_at (r : Fin 16384) (u : Fin 1) : means z (ix2 r u) = Cert.NormIdeal.Rows.mean fun k => z (ix2 r k) := by
  pointwise [means, Cert.NormIdeal.Rows.mean]

theorem off_at (r : Fin 16384) (c : Fin 4096) : off z (ix2 r c) = Cert.NormIdeal.Rows.centred (fun k => z (ix2 r k)) c := by
  pointwise [off, Cert.NormIdeal.Rows.centred]
  rw [means_at]

theorem after_at (r : Fin 16384) (c : Fin 4096) :
    after z g b (ix2 r c) = Cert.NormIdeal.Rows.normed (fun k => z (ix2 r k)) (g (ix1 c)) (b (ix1 c)) c := by
  unfold Cert.NormIdeal.Rows.normed
  simp only [← off_at]
  pointwise [after]
  rw [means_at]
  rfl

/-- The reference's result is the same function. -/
theorem reference_at : after (before x y) g b = fun i => Cert.NormIdeal.Rows.entry x y g b (i 0) (i 1) := by
  funext i
  obtain ⟨r, c, rfl⟩ : ∃ r c, i = ix2 r c := ⟨i 0, i 1, by pointwise⟩
  rw [after_at]
  simp only [before_at]
  rfl

end Cert.NormReferenceIdeal.Rows

namespace Cert.Proof.Norm

open Idealize.ShloMosaic Idealize.ShloMosaic.TcCoe Idealize.SL.Sem

theorem frame_p : Cert.quiescent_Norm := fun m ρ _ => Cert.Norm.Gen.frame m ρ
theorem frame_pi : Cert.quiescent_NormIdeal := fun m ρ _ => Cert.NormIdeal.Gen.frame m ρ
theorem frame_ri : Cert.quiescent_NormReferenceIdeal := fun m ρ _ =>
  (θ_run Cert.NormReferenceIdeal.defs _ _).mono (fun r h => ⟨fun c => (h c).2.2, sem_eq_zero_of_no_sems (by decide) r.2⟩)
    (Cert.NormReferenceIdeal.Value.run (F := Ideal) m ρ)

/-- Nothing is rewritten. -/
theorem preserves : Cert.preserves_Norm_NormIdeal := trivial

theorem algebraic : Cert.algebraic_NormIdeal_NormReferenceIdeal := by
  intro m ρ m' ρ' _ hagree
  refine ⟨_, _, Cert.NormIdeal.Value.run_blocks (F := Ideal) m ρ, ?_⟩
  refine (θ_run Cert.NormReferenceIdeal.defs _ _).mono (fun _ h c => ⟨(h c).1.trans ?_, (h c).2.1.trans ?_, (h c).2.2⟩)
    (Cert.NormReferenceIdeal.Value.run (F := Ideal) m' ρ')
  · rw [(hagree c).1, (hagree c).2.1, (hagree c).2.2.1, (hagree c).2.2.2]
    exact (Cert.NormReferenceIdeal.Rows.reference_at _ _ _ _).trans (Cert.NormIdeal.Rows.final4 m c).symm
  · rw [(hagree c).1, (hagree c).2.1, (hagree c).2.2.1, (hagree c).2.2.2]
    exact (Cert.NormReferenceIdeal.Rows.reference_at _ _ _ _).trans (Cert.NormIdeal.Rows.final5 m c).symm

end Cert.Proof.Norm

end
-- ==== Proof.CmpRow.lean ====
/-
  ONE ROW OF MASKED PROBABILITIES over the extended reals. A row has finitely many keys, some of them visible (perhaps
  none), each with a real score in base two. `prob` is the probability of a key: its weight `2 ^ score` over the sum of the
  visible keys' weights, and zero for a hidden key or in a row without visible keys. Two ways to compute it are shown equal
  to it: `kernel_prob` takes powers of two of the scores less their maximum, zero at the hidden keys, over their sum or a
  small positive number, whichever is larger (the sum is at least one when some key is visible); `reference_prob` takes
  powers of e of the scores times `log 2` less their maximum, over their sum, and masks the quotients again.
-/
module

public import proofs.«01_k».proof.Proof.Row

@[expose] public section

noncomputable section

namespace Cert.CmpRow

open Idealize.ShloMosaic Cert.Row

variable {ι : Type} [Fintype ι]

/-- A key's probability, with weights `2 ^ score`. -/
def prob (M : ι → Prop) [DecidablePred M] (x : ι → ℝ) (c : ι) : ℝ :=
  (if M c then (2 : ℝ) ^ x c else 0) / ∑ c, if M c then (2 : ℝ) ^ x c else 0

theorem prob_nonneg (M : ι → Prop) [DecidablePred M] (x : ι → ℝ) (c : ι) : 0 ≤ prob M x c := by
  have h : ∀ c, (0 : ℝ) ≤ if M c then (2 : ℝ) ^ x c else 0 := fun c => by
    split
    · exact (Real.rpow_pos_of_pos two_pos _).le
    · exact le_rfl
  exact div_nonneg (h c) (Finset.sum_nonneg fun c _ => h c)

/-- A hidden key has probability zero. -/
theorem prob_hidden (M : ι → Prop) [DecidablePred M] (x : ι → ℝ) (c : ι) (h : ¬M c) : prob M x c = 0 := by
  rw [prob, if_neg h, zero_div]

/-- The maximum of the visible scores is one of them when some key is visible. -/
theorem max_attained (M : ι → Prop) [DecidablePred M] (hne : ∃ c, M c) (x : ι → ℝ) :
    ∃ c₀, M c₀ ∧ Finset.univ.fold max ⊥ (fun c => if M c then (x c : EReal) else ⊥) = (x c₀ : EReal) := by
  obtain ⟨c₀, h₀⟩ := hne
  obtain ⟨c, -, hc⟩ := Finset.exists_mem_eq_sup (Finset.univ : Finset ι) ⟨c₀, Finset.mem_univ _⟩
    (fun c => if M c then (x c : EReal) else ⊥)
  have hle := Finset.le_sup (f := fun c => if M c then (x c : EReal) else ⊥) (Finset.mem_univ c₀)
  change ∃ c₀, M c₀ ∧ Finset.univ.sup (fun c => if M c then (x c : EReal) else ⊥) = (x c₀ : EReal)
  rw [hc] at hle ⊢
  by_cases hM : M c
  · exact ⟨c, hM, if_pos hM⟩
  · simp only [if_pos h₀, if_neg hM] at hle
    exact absurd (le_bot_iff.mp hle) (EReal.coe_ne_bot _)

/-- A common factor of the weights cancels. -/
theorem prob_scale (M : ι → Prop) [DecidablePred M] (x : ι → ℝ) (a : ℝ) (ha : a ≠ 0) (c : ι) :
    (if M c then a * (2 : ℝ) ^ x c else 0) / (∑ c, if M c then a * (2 : ℝ) ^ x c else 0) = prob M x c := by
  have h₁ : (if M c then a * (2 : ℝ) ^ x c else 0) = a * if M c then (2 : ℝ) ^ x c else 0 := by split <;> simp
  have h₂ : (∑ c, if M c then a * (2 : ℝ) ^ x c else 0) = a * ∑ c, if M c then (2 : ℝ) ^ x c else 0 := by
    rw [Finset.mul_sum]; exact Finset.sum_congr rfl fun c _ => by split <;> simp
  rw [h₁, h₂, mul_div_mul_left _ _ ha]; rfl

/-- The kernel's probabilities. -/
theorem kernel_prob (M : ι → Prop) [DecidablePred M] (x : ι → ℝ) (s e : ι → EReal) (ε : ℝ) (hε : 0 < ε) (hε1 : ε ≤ 1)
    (hs : ∀ c, s c = if M c then (x c : EReal) else ⊥)
    (he : ∀ c, e c = if M c then Ideal.exp2 (s c - Finset.univ.fold max ⊥ s) else 0) (c : ι) :
    Ideal.div (e c) (max (∑ c, e c) (ε : EReal)) = (prob M x c : EReal) := by
  obtain rfl : s = fun c => if M c then (x c : EReal) else ⊥ := funext hs
  by_cases hne : ∃ c, M c
  · obtain ⟨c₀, h₀, hμ⟩ := max_attained M hne x
    rw [hμ] at he
    have he' : ∀ c, e c = ((if M c then (2 : ℝ) ^ (-x c₀) * (2 : ℝ) ^ x c else 0 : ℝ) : EReal) := fun c => by
      rw [he]
      by_cases h : M c
      · simp only [if_pos h]
        rw [← EReal.coe_sub, Ideal.exp2_coe, Real.rpow_eq_pow, sub_eq_neg_add, Real.rpow_add two_pos]
      · simp only [if_neg h, EReal.coe_zero]
    have ha : (0 : ℝ) < (2 : ℝ) ^ (-x c₀) := Real.rpow_pos_of_pos two_pos _
    have hn : ∀ c, (0 : ℝ) ≤ if M c then (2 : ℝ) ^ (-x c₀) * (2 : ℝ) ^ x c else 0 := fun c => by
      split
      · exact (mul_pos ha (Real.rpow_pos_of_pos two_pos _)).le
      · exact le_rfl
    have hge : (1 : ℝ) ≤ ∑ c, if M c then (2 : ℝ) ^ (-x c₀) * (2 : ℝ) ^ x c else 0 := by
      refine le_trans (le_of_eq ?_) (Finset.single_le_sum (fun c _ => hn c) (Finset.mem_univ c₀))
      rw [if_pos h₀, ← Real.rpow_add two_pos, neg_add_cancel, Real.rpow_zero]
    simp only [he', sum_coe]
    rw [max_eq_left (EReal.coe_le_coe_iff.mpr (hε1.trans hge)), Ideal.div_coe (by linarith), ← EReal.coe_mul,
      ← prob_scale M x _ ha.ne', mul_one_div]
  · have h0 : ∀ c, ¬M c := fun c h => hne ⟨c, h⟩
    have he' : ∀ c, e c = 0 := fun c => by rw [he, if_neg (h0 c)]
    simp only [he', Finset.sum_const_zero]
    rw [max_eq_right (by exact_mod_cast hε.le), Ideal.div_coe hε.ne', zero_mul, prob_hidden M x c (h0 c), EReal.coe_zero]

/-- The reference's probabilities. -/
theorem reference_prob (M : ι → Prop) [DecidablePred M] (x : ι → ℝ) (s k : ι → EReal)
    (hs : ∀ c, s c = if M c then (x c : EReal) * (Real.log 2 : ℝ) else ⊥) (hk : ∀ c, k c = if M c then 1 else 0) (c : ι) :
    Ideal.div (Ideal.exp (s c - Finset.univ.fold max ⊥ s)) (0 + ∑ c, Ideal.exp (s c - Finset.univ.fold max ⊥ s)) * k c
      = (prob M x c : EReal) := by
  by_cases hc : M c
  · have hne : ∃ c, M c := ⟨c, hc⟩
    obtain rfl : s = fun c => if M c then ((x c * Real.log 2 : ℝ) : EReal) else ⊥ :=
      funext fun c => by rw [hs, EReal.coe_mul]
    obtain ⟨μ, hμ⟩ := max_real M hne fun c => x c * Real.log 2
    rw [hμ]
    have he : ∀ c, Ideal.exp ((if M c then ((x c * Real.log 2 : ℝ) : EReal) else ⊥) - (μ : EReal))
        = ((if M c then Real.exp (-μ) * (2 : ℝ) ^ x c else 0 : ℝ) : EReal) := fun c => by
      split
      · rw [← EReal.coe_sub, Ideal.exp_coe, sub_eq_neg_add, Real.exp_add, Real.rpow_def_of_pos two_pos, mul_comm (x c)]
      · rw [EReal.bot_sub, Ideal.exp_bot, EReal.coe_zero]
    have ha : (0 : ℝ) < Real.exp (-μ) := Real.exp_pos _
    have hpos := weights_pos M hne (fun c => Real.exp (-μ) * (2 : ℝ) ^ x c)
      fun c => mul_pos ha (Real.rpow_pos_of_pos two_pos _)
    simp only [he, sum_coe, zero_add]
    rw [Ideal.div_coe hpos.ne', ← EReal.coe_mul, ← prob_scale M x _ ha.ne', mul_one_div, hk]
    simp only [if_pos hc, mul_one]
  · rw [hk, if_neg hc, mul_zero, prob_hidden M x c hc, EReal.coe_zero]

end Cert.CmpRow

end
-- ==== Proof.CmpPick.lean ====
/-
  THE LARGEST VALUES OF A ROW, one after another. The positions of a row `V` are ordered by their value, larger first;
  `pick V i` is the `i`-th position of the stable sort, so that equal values stand in the order of their positions
  (`pick_sorted`). A round takes the row's maximum (`top`), the first position that has it (`first`), marks that position
  when the maximum exceeds a threshold, and overwrites its value by a number below every value of the row. `rounds_val` and
  `rounds_mark` say what `r` rounds leave: the first `r` positions of the sort overwritten, and those of them marked whose
  value exceeds the threshold.
-/
module

public import Idealize.ShloMosaic.PureOps.Ideal
public import Idealize.ShloMosaic.Lib.SortPrefix

@[expose] public section

noncomputable section

namespace Cert.CmpPick

open Idealize.ShloMosaic

variable {n : ℕ}

/-- Position `a` comes before position `b`: it has the larger value. -/
def greater (V : Fin n → EReal) (a b : Fin n) : Bool := Ideal.cmp .ogt (V a) (V b) == 1#1

theorem greater_iff (V : Fin n → EReal) (a b : Fin n) : greater V a b = true ↔ V b < V a := by
  unfold greater Ideal.cmp
  by_cases h : V b < V a <;> simp [h]

/-- The position of the `i`-th largest value. -/
def pick (V : Fin n → EReal) (i : Fin n) : Fin n := sortedFrom (greater V) i

/-- The same order, equal values by position. -/
def greaterThen (V : Fin n → EReal) (k k' : Fin n) : Bool :=
  decide (V k' < V k) || (decide (V k = V k') && decide (k < k'))

theorem strict (V : Fin n → EReal) : StrictTotalBefore (greaterThen V) :=
  StrictTotalBefore.of_key_then_position (fun a b : EReal => decide (b < a)) V (fun a => by simp)
    (fun a b c => by simpa using fun h₁ h₂ => lt_trans h₂ h₁)
    (fun a b => by rcases lt_trichotomy a b with h | h | h <;> simp [h])

/-- On a list of ascending positions the two orders sort alike. -/
theorem stableSort_eq (V : Fin n → EReal) (l : List (Fin n)) (hl : l.Pairwise (· < ·)) :
    stableSort (greater V) l = stableSort (greaterThen V) l := by
  induction l with
  | nil => rfl
  | cons a l ih =>
    rw [List.pairwise_cons] at hl
    unfold stableSort
    rw [ih hl.2]
    refine insertBefore_congr _ _ a _ fun b hb => ?_
    have hb' : a < b := hl.1 b ((perm_stableSort _ l).mem_iff.mp hb)
    rw [Bool.eq_iff_iff, greater_iff]
    simp [greaterThen, hb'.le]

theorem pick_eq (V : Fin n → EReal) (i : Fin n) : pick V i = sortedFrom (greaterThen V) i := by
  have e : sortPositions n (greater V) = sortPositions n (greaterThen V) :=
    stableSort_eq V _ (List.pairwise_lt_finRange n)
  unfold pick sortedFrom
  simp only [List.get_eq_getElem, Fin.val_cast, e]

theorem pick_surjective (V : Fin n → EReal) : Function.Surjective (pick V) := sortedFrom_surjective _
theorem pick_injective (V : Fin n → EReal) : Function.Injective (pick V) := sortedFrom_injective _

/-- A larger value comes earlier, and of equal values the earlier position. -/
theorem pick_sorted (V : Fin n → EReal) (i j : Fin n) (h : i < j) :
    V (pick V j) < V (pick V i) ∨ (V (pick V j) = V (pick V i) ∧ pick V i < pick V j) := by
  have hs := strict V
  have h0 := sortedFrom_noInversion (greaterThen V) (greaterThen V) (fun a b => hs.asymm a b) (fun _ _ h => h)
    hs.negTrans i j h
  rw [← pick_eq, ← pick_eq] at h0
  have h1 := (hs.total (pick V i) (pick V j) fun e => h.ne (pick_injective V e)).resolve_right (by rw [h0]; decide)
  simp only [greaterThen, Bool.or_eq_true, Bool.and_eq_true, decide_eq_true_eq] at h1
  exact h1.imp id fun ⟨a, b⟩ => ⟨a.symm, b⟩

/-! The rounds. -/

/-- The row's maximum. -/
def top (v : Fin n → EReal) : EReal := Finset.univ.fold max ⊥ v

/-- The first position that has the maximum, as a number. -/
def first (v : Fin n → EReal) : EReal :=
  Finset.univ.fold min ⊤ fun j : Fin n => if v j = top v then ((j.val : ℝ) : EReal) else ((n : ℝ) : EReal)

/-- The row with that position overwritten. -/
def roundVal (low : EReal) (v : Fin n → EReal) (j : Fin n) : EReal :=
  if ((j.val : ℝ) : EReal) = first v then low else v j

/-- The marks with that position marked. -/
def roundMark (thr : EReal) (v m : Fin n → EReal) (j : Fin n) : EReal :=
  if ((j.val : ℝ) : EReal) = first v ∧ thr < top v then 1 else m j

/-- A position no value of the row exceeds, and no earlier one reaches, is the first maximum. -/
theorem top_first (v : Fin n → EReal) (p : Fin n) (hp : ∀ j, v j < v p ∨ (v j = v p ∧ p ≤ j)) :
    top v = v p ∧ first v = ((p.val : ℝ) : EReal) := by
  have ht : top v = v p := by
    refine le_antisymm ?_ ?_
    · refine Finset.fold_max_le _ |>.mpr ⟨bot_le, fun j _ => ?_⟩
      rcases hp j with h | h
      · exact h.le
      · exact h.1.le
    · exact Finset.le_fold_max _ |>.mpr (.inr ⟨p, Finset.mem_univ _, le_rfl⟩)
  refine ⟨ht, ?_⟩
  refine le_antisymm ?_ ?_
  · refine Finset.fold_min_le _ |>.mpr (.inr ⟨p, Finset.mem_univ _, ?_⟩)
    rw [if_pos ht.symm]
  · refine Finset.le_fold_min _ |>.mpr ⟨le_top, fun j _ => ?_⟩
    split
    · rename_i h
      rcases hp j with h' | h'
      · rw [h, ht] at h'; exact absurd h' (lt_irrefl _)
      · exact_mod_cast h'.2
    · exact_mod_cast p.isLt.le

theorem coe_inj (i j : Fin n) : ((i.val : ℝ) : EReal) = ((j.val : ℝ) : EReal) ↔ i = j := by
  rw [EReal.coe_eq_coe_iff, Nat.cast_inj, Fin.val_inj]

/-- The row after `r` rounds, and the marks. -/
def rows (low : EReal) (V : Fin n → EReal) : ℕ → Fin n → EReal
  | 0 => V
  | r + 1 => roundVal low (rows low V r)

def marks (low thr : EReal) (V : Fin n → EReal) : ℕ → Fin n → EReal
  | 0 => fun _ => 0
  | r + 1 => roundMark thr (rows low V r) (marks low thr V r)

/-- In the row with the first `r` positions of the sort overwritten, the `r`-th is the first maximum. -/
theorem top_first_of_prefix (low : EReal) (V : Fin n → EReal) (hlow : ∀ j, low < V j) (r : ℕ) (hr : r < n) :
    let v : Fin n → EReal := open Classical in fun j => if ∃ i : Fin n, i.val < r ∧ pick V i = j then low else V j
    top v = V (pick V ⟨r, hr⟩) ∧ first v = (((pick V ⟨r, hr⟩).val : ℝ) : EReal) := by
  classical
  intro v
  have hv : v (pick V ⟨r, hr⟩) = V (pick V ⟨r, hr⟩) := by
    refine if_neg ?_
    rintro ⟨i, hi, e⟩
    have := pick_injective V e
    rw [this] at hi
    exact absurd hi (lt_irrefl _)
  have h := top_first v (pick V ⟨r, hr⟩) fun j => ?_
  · rwa [hv] at h
  · rw [hv]
    by_cases hj : ∃ i : Fin n, i.val < r ∧ pick V i = j
    · left
      rw [show v j = low from if_pos hj]
      exact hlow _
    · rw [show v j = V j from if_neg hj]
      obtain ⟨i, rfl⟩ := pick_surjective V j
      have hi : r ≤ i.val := by
        by_contra hn
        exact hj ⟨i, by omega, rfl⟩
      rcases Nat.eq_or_lt_of_le hi with e | e
      · right
        have : (⟨r, hr⟩ : Fin n) = i := Fin.ext e
        rw [this]
        exact ⟨rfl, le_rfl⟩
      · rcases pick_sorted V ⟨r, hr⟩ i e with h | h
        · exact .inl h
        · exact .inr ⟨h.1, h.2.le⟩

open Classical in
theorem rounds_val (low : EReal) (V : Fin n → EReal) (hlow : ∀ j, low < V j) (r : ℕ) (hr : r ≤ n) :
    rows low V r = fun j => if ∃ i : Fin n, i.val < r ∧ pick V i = j then low else V j := by
  induction r with
  | zero => funext j; simp [rows]
  | succ r ih =>
    funext j
    have ht := top_first_of_prefix low V hlow r hr
    rw [rows, ih (by omega), roundVal, ht.2]
    simp only [coe_inj]
    by_cases h : j = pick V ⟨r, hr⟩
    · rw [if_pos h, if_pos ⟨⟨r, hr⟩, Nat.lt_succ_self r, h.symm⟩]
    · rw [if_neg h]
      refine if_congr ⟨fun ⟨i, hi, e⟩ => ⟨i, by omega, e⟩, fun ⟨i, hi, e⟩ => ⟨i, ?_, e⟩⟩ rfl rfl
      rcases Nat.eq_or_lt_of_le (Nat.lt_succ_iff.mp hi) with e' | e'
      · exact absurd (e.symm.trans (congrArg (pick V) (Fin.ext e'))) h
      · exact e'

open Classical in
theorem rounds_mark (low thr : EReal) (V : Fin n → EReal) (hlow : ∀ j, low < V j) (r : ℕ) (hr : r ≤ n) :
    marks low thr V r = fun j => if ∃ i : Fin n, i.val < r ∧ pick V i = j ∧ thr < V (pick V i) then 1 else 0 := by
  induction r with
  | zero => funext j; simp [marks]
  | succ r ih =>
    funext j
    have ht := top_first_of_prefix low V hlow r hr
    rw [marks, ih (by omega), rounds_val low V hlow r (by omega), roundMark, ht.1, ht.2]
    simp only [coe_inj]
    by_cases h : j = pick V ⟨r, hr⟩ ∧ thr < V (pick V ⟨r, hr⟩)
    · rw [if_pos h, if_pos ⟨⟨r, hr⟩, Nat.lt_succ_self r, h.1.symm, h.2⟩]
    · rw [if_neg h]
      refine if_congr ⟨fun ⟨i, hi, e⟩ => ⟨i, by omega, e⟩, fun ⟨i, hi, e, e'⟩ => ⟨i, ?_, e, e'⟩⟩ rfl rfl
      rcases Nat.eq_or_lt_of_le (Nat.lt_succ_iff.mp hi) with q | q
      · have q' : i = ⟨r, hr⟩ := Fin.ext q
        subst q'
        exact absurd ⟨e.symm, e'⟩ h
      · exact q

end Cert.CmpPick

end
-- ==== Proof.CmpSpec.lean ====
/-
  WHAT COMPRESSED ATTENTION COMPUTES, written once for the kernel and for its reference. A position `t` sees the
  compressed row `c` of its group when that row's span has ended: `16 c + 31 ≤ t`. Twenty heads, five to a group, attend
  over the group's 1024 rows (`mean`). The probabilities of a group's five heads, summed over the rows whose span meets
  a block of 64 positions, weigh the group's 256 blocks (`weight`: the first block, the position's own and the one before
  it are always in, later ones never). A block is chosen (`chosen`) when it is among the sixteen heaviest.
-/
module

public import proofs.«01_k».proof.Proof.CmpRow
public import proofs.«01_k».proof.Proof.CmpPick
public import Idealize.ShloMosaic.Lib.WordCmp
public import Idealize.ShloMosaic.Lib.ReduceAll

@[expose] public section

noncomputable section

namespace Cert.CmpSpec

open Idealize.ShloMosaic

variable (x : Fin 16384 → Fin 10752 → ℝ) (y : Fin 4096 → Fin 128 → ℝ) (v : Fin 4096 → Fin 128 → EReal)

/-- Position `t` sees row `c`. -/
def sees (t : Fin 16384) (c : Fin 1024) : Prop := 16 * c.val + 31 ≤ t.val

instance (t : Fin 16384) : DecidablePred (sees t) := fun c => inferInstanceAs (Decidable (16 * c.val + 31 ≤ t.val))

/-- The score of head `h` of group `g`. -/
def score (t : Fin 16384) (g : Fin 4) (h : Fin 5) (c : Fin 1024) : ℝ :=
  ∑ d : Fin 128, x t ⟨g.val * 640 + h.val * 128 + d.val, by omega⟩ * y ⟨g.val * 1024 + c.val, by omega⟩ d

/-- Its probabilities. -/
def prob (t : Fin 16384) (g : Fin 4) (h : Fin 5) (c : Fin 1024) : ℝ := CmpRow.prob (sees t) (score x y t g h) c

/-- What a head returns. -/
def mean (t : Fin 16384) (g : Fin 4) (h : Fin 5) (d : Fin 128) : EReal :=
  ∑ c : Fin 1024, (prob x y t g h c : EReal) * v ⟨g.val * 1024 + c.val, by omega⟩ d

/-- The span of row `c` meets block `j`. -/
def meets (c : Fin 1024) (j : Fin 256) : Prop := 16 * c.val < 64 * j.val + 64 ∧ 64 * j.val < 16 * c.val + 32

instance (c : Fin 1024) (j : Fin 256) : Decidable (meets c j) :=
  inferInstanceAs (Decidable (16 * c.val < 64 * j.val + 64 ∧ 64 * j.val < 16 * c.val + 32))

/-- A block's importance to a group. -/
def imp (t : Fin 16384) (g : Fin 4) (j : Fin 256) : ℝ :=
  ∑ c : Fin 1024, (∑ h : Fin 5, prob x y t g h c) * (if meets c j then 1 else 0)

/-- The weights of the blocks always in and of those never in, the threshold between them, and a number below all. -/
abbrev hi : EReal := Ideal.ofBits .f32 0x4E6E6B28#32
abbrev lo : EReal := Ideal.ofBits .f32 0xCE6E6B28#32
abbrev bar : EReal := Ideal.ofBits .f32 0xCDEE6B28#32
abbrev low : EReal := Ideal.ofBits .f32 0xFF61B1E6#32

/-- The importances with those blocks filled in. -/
def fill (t : ℕ) (w : Fin 256 → EReal) (j : Fin 256) : EReal :=
  if j.val = 0 ∨ j.val = t / 64 ∨ j.val + 1 = t / 64 then hi else if j.val ≤ t / 64 then w j else lo

def weight (t : Fin 16384) (g : Fin 4) : Fin 256 → EReal := fill t.val fun j => (imp x y t g j : EReal)

open Classical in
/-- Whether block `j` is among the sixteen heaviest (and not one of those never in). -/
def chosen (t : Fin 16384) (g : Fin 4) (j : Fin 256) : EReal :=
  if ∃ i : Fin 256, i.val < 16 ∧ CmpPick.pick (weight x y t g) i = j ∧ bar < weight x y t g (CmpPick.pick (weight x y t g) i)
  then 1 else 0

/-- The heads' results, by a column of the array. -/
def meanAt (v : Fin 4096 → Fin 128 → EReal) (t : Fin 16384) (l : Fin 2560) : EReal :=
  mean x y v t (⟨l.val / 640, by omega⟩ : Fin 4) (⟨l.val / 128 % 5, by omega⟩ : Fin 5) (⟨l.val % 128, by omega⟩ : Fin 128)

/-- The marks, by a column of the array. -/
def chosenAt (t : Fin 16384) (l : Fin 1024) : EReal :=
  chosen x y t (⟨l.val / 256, by omega⟩ : Fin 4) (⟨l.val % 256, by omega⟩ : Fin 256)

/-- The last row of a group has no probability: no position sees it. -/
theorem prob_last (t : Fin 16384) (g : Fin 4) (h : Fin 5) (c : Fin 1024) (hc : c.val = 1023) : prob x y t g h c = 0 :=
  CmpRow.prob_hidden _ _ _ (by unfold sees; omega)

theorem imp_nonneg (t : Fin 16384) (g : Fin 4) (j : Fin 256) : 0 ≤ imp x y t g j :=
  Finset.sum_nonneg fun c _ => mul_nonneg (Finset.sum_nonneg fun h _ => CmpRow.prob_nonneg _ _ _)
    (by split <;> norm_num)

theorem hi_eq : hi = ((1000000000 : ℝ) : EReal) := by
  simp [Ideal.ofBits, Ideal.ieee]
  rw [← EReal.coe_pow, ← EReal.coe_mul]
  norm_num

theorem lo_eq : lo = ((-1000000000 : ℝ) : EReal) := by
  simp [Ideal.ofBits, Ideal.ieee]
  rw [← EReal.coe_pow, ← EReal.coe_mul]
  norm_num

theorem low_lt_lo : low < lo := by
  rw [lo_eq]
  have e : low = ((-(14791142 * 2 ^ 104 : ℝ) : ℝ) : EReal) := by
    simp [Ideal.ofBits, Ideal.ieee]
  rw [e]
  exact EReal.coe_lt_coe_iff.mpr (by norm_num)

/-- Every weight is above the number a picked block is overwritten by. -/
theorem low_lt (t : Fin 16384) (g : Fin 4) (j : Fin 256) : low < weight x y t g j := by
  refine low_lt_lo.trans_le ?_
  unfold weight fill
  have h0 : lo ≤ ((0 : ℝ) : EReal) := by rw [lo_eq]; exact EReal.coe_le_coe_iff.mpr (by norm_num)
  split
  · rw [lo_eq, hi_eq]; exact EReal.coe_le_coe_iff.mpr (by norm_num)
  · split
    · exact h0.trans (EReal.coe_le_coe_iff.mpr (imp_nonneg x y t g j))
    · exact le_rfl

/-! The position's block, as the machine's words compute it. -/

theorem toInt_small (n : ℕ) (h : n < 2 ^ 31) : (BitVec.ofNat 32 n).toInt = n := by
  rw [BitVec.toInt_eq_toNat_cond, BitVec.toNat_ofNat, Nat.mod_eq_of_lt (by omega), if_pos (by omega)]

theorem sdiv_64 (n : ℕ) (h : n < 16384) : (BitVec.ofNat 32 n).sdiv 64#32 = BitVec.ofNat 32 (n / 64) := by
  have hm : (BitVec.ofNat 32 n).msb = false := by
    rw [BitVec.msb_eq_false_iff_two_mul_lt, BitVec.toNat_ofNat]; omega
  rw [BitVec.sdiv_eq, hm, show (64#32).msb = false from rfl]
  apply BitVec.eq_of_toNat_eq
  simp only [BitVec.udiv_eq, BitVec.toNat_udiv, BitVec.toNat_ofNat, Nat.reducePow, Nat.reduceMod]
  omega

theorem srem_64 (n : ℕ) (h : n < 16384) : (BitVec.ofNat 32 n).srem 64#32 = BitVec.ofNat 32 (n % 64) := by
  have hm : (BitVec.ofNat 32 n).msb = false := by
    rw [BitVec.msb_eq_false_iff_two_mul_lt, BitVec.toNat_ofNat]; omega
  rw [BitVec.srem_eq, hm, show (64#32).msb = false from rfl]
  apply BitVec.eq_of_toNat_eq
  simp only [BitVec.umod_eq, BitVec.toNat_umod, BitVec.toNat_ofNat, Nat.reducePow, Nat.reduceMod]
  omega

theorem word_eq (a b : ℕ) (ha : a < 16384) (hb : b < 16384) : (BitVec.ofNat 32 a = BitVec.ofNat 32 b) ↔ a = b := by
  constructor
  · intro h
    have := congrArg BitVec.toNat h
    simp only [BitVec.toNat_ofNat] at this
    omega
  · rintro rfl; rfl

theorem word_pred (a b : ℕ) (ha : a < 16384) (hb : b < 16384) :
    (BitVec.ofNat 32 a = BitVec.ofNat 32 b - 1#32) ↔ a + 1 = b := by
  constructor
  · intro h
    have := congrArg BitVec.toNat h
    simp only [BitVec.toNat_sub, BitVec.toNat_ofNat, Nat.reducePow, Nat.reduceMod] at this
    omega
  · intro h
    apply BitVec.eq_of_toNat_eq
    simp only [BitVec.toNat_sub, BitVec.toNat_ofNat, Nat.reducePow, Nat.reduceMod]
    omega

/-- The floor division by 64 as it is spelt: the quotient rounded to zero, less one where the signs differ and there is a
    remainder. -/
theorem floor_word (u : ArithUnit) (n : ℕ) (h : n < 16384) (s : BitVec 1) (hs : 0 < n → s = 0#1) :
    Scalar.select (IntOp.andi s (IntOp.cmpi .ne (IntOp.remsi u (BitVec.ofNat 32 n) 64#32) 0#32))
      (IntOp.subi (IntOp.divsi u (BitVec.ofNat 32 n) 64#32) 1#32) (IntOp.divsi u (BitVec.ofNat 32 n) 64#32)
      = BitVec.ofNat 32 (n / 64) := by
  have hc : ¬IntOp.SDivCorner (BitVec.ofNat 32 n) 64#32 := by
    unfold IntOp.SDivCorner
    rintro (h | ⟨_, h⟩) <;> exact absurd h (by decide)
  have hd : IntOp.divsi u (BitVec.ofNat 32 n) 64#32 = BitVec.ofNat 32 (n / 64) := by
    rw [IntOp.divsi, if_neg hc, sdiv_64 n h]
  have hm : IntOp.remsi u (BitVec.ofNat 32 n) 64#32 = BitVec.ofNat 32 (n % 64) := by
    rw [IntOp.remsi, if_neg hc, srem_64 n h]
  have h0 : IntOp.andi s (IntOp.cmpi .ne (IntOp.remsi u (BitVec.ofNat 32 n) 64#32) 0#32) ≠ 1 := by
    intro hq
    obtain ⟨h1, h2⟩ := IntOp.andi_eq_one.1 hq
    rcases Nat.eq_zero_or_pos n with rfl | hp
    · rw [hm] at h2
      exact absurd h2 (by decide)
    · rw [hs hp] at h1
      exact absurd h1 (by decide)
  rw [Scalar.select, if_neg h0, hd]

/-- The filled importances as they are spelt. -/
theorem fill_word (n : ℕ) (h : n < 16384) (w : Fin 256 → EReal) (j : Fin 256) :
    Scalar.select (IntOp.ori (IntOp.ori (IntOp.cmpi .eq (BitVec.ofNat 32 j.val) 0#32)
        (IntOp.cmpi .eq (BitVec.ofNat 32 j.val) (BitVec.ofNat 32 (n / 64))))
        (IntOp.cmpi .eq (BitVec.ofNat 32 j.val) (IntOp.subi (BitVec.ofNat 32 (n / 64)) 1#32)))
      hi (Scalar.select (IntOp.cmpi .sle (BitVec.ofNat 32 j.val) (BitVec.ofNat 32 (n / 64))) (w j) lo) = fill n w j := by
  have hj := j.isLt
  rw [WordCmp.cmpi_eq_eq, WordCmp.cmpi_eq_eq, WordCmp.cmpi_eq_eq, WordCmp.cmpi_sle_eq, WordCmp.ori_ofBool, WordCmp.ori_ofBool,
    toInt_small _ (by omega), toInt_small _ (by omega)]
  have e₁ : (BitVec.ofNat 32 j.val = 0#32) ↔ j.val = 0 := word_eq j.val 0 (by omega) (by omega)
  have e₂ := word_eq j.val (n / 64) (by omega) (by omega)
  have e₃ := word_pred j.val (n / 64) (by omega) (by omega)
  unfold fill Scalar.select IntOp.subi
  simp only [e₁, e₂, e₃, Nat.cast_le]
  by_cases h1 : j.val = 0 <;> by_cases h2 : j.val = n / 64 <;> by_cases h3 : j.val + 1 = n / 64 <;>
    by_cases h4 : j.val ≤ n / 64 <;> simp [h1, h2, h3, h4]

end Cert.CmpSpec

end
-- ==== Proof.CmpHead.lean ====
/-
  ONE HEAD OF ONE BLOCK OF THE KERNEL. The body runs the same computation for each of a group's five heads: `probs` is
  that computation, `mix` the product with the values, `gather` the blocks' importances from the five heads'
  probabilities. `probs_apply` reads the first at a row and a column, for real queries and keys, and `mask_eq`, `fill_eq`
  say which rows a position sees and which blocks are filled in.
-/
module

public import proofs.«01_k».proof.Proof.Gen.CmpIdeal.Skeleton
public import Idealize.ShloMosaic.Lib.Pointwise
public import proofs.«01_k».proof.Proof.CmpSpec

@[expose] public section

set_option maxRecDepth 16384

noncomputable section

namespace Cert.CmpIdeal.Head

open Idealize.ShloMosaic Idealize.SL.Sem Cert.CmpIdeal Cert.CmpIdeal.Gen

/-- The scores, the hidden ones at minus infinity. -/
def scores (mk : IVec S512x1024 1) (k : FVec Ideal S1024x128 .bf16) (q : FVec Ideal S512x128 .bf16) : FVec Ideal S512x1024 .f32 :=
  select mk (matmul dot_S512x128_S1024x128_S512x1024_1_1_0_0_n_n none q k (constant S512x1024 .f32 0x00000000#32))
    (broadcast S512x1024 (Named.named κ "mask" 0xF149F2CA#32))

/-- The weights: powers of two of the visible scores less their row's maximum. -/
def weights (mk : IVec S512x1024 1) (s : FVec Ideal S512x1024 .f32) : FVec Ideal S512x1024 .f32 :=
  select mk (exp2 (subf s (broadcastTo S512x1024 (shapeCast S512x1
    (multiReduction .maximumf [1] S512 s 0xFF800000#32 reduces_S512x1024_S512 (.inl rfl) rfl) shapeCasts_S512_S512x1)
    broadcasts_S512x1_S512x1024))) (broadcast S512x1024 (Scalar.ofBits .f32 0x00000000#32 : Ideal .f32))

/-- The weights over their row's sum, that sum kept off zero. -/
def quot (e : FVec Ideal S512x1024 .f32) : FVec Ideal S512x1024 .f32 :=
  divf e (broadcastTo S512x1024 (maximumf (shapeCast S512x1
    (multiReduction .add [1] S512 e 0x00000000#32 reduces_S512x1024_S512 (.inl rfl) rfl) shapeCasts_S512_S512x1)
    (broadcast S512x1 (Scalar.ofBits .f32 0x0DA24260#32 : Ideal .f32))) broadcasts_S512x1_S512x1024)

/-- One head's probabilities. -/
def probs (mk : IVec S512x1024 1) (k : FVec Ideal S1024x128 .bf16) (q : FVec Ideal S512x128 .bf16) : FVec Ideal S512x1024 .f32 :=
  quot (weights mk (scores mk k q))

/-- Their product with the values. -/
def mix (p : FVec Ideal S512x1024 .f32) (v : FVec Ideal S1024x128 .bf16) : FVec Ideal S512x128 .bf16 :=
  truncf .bf16 (matmul dot_S512x1024_S1024x128_S512x128_1_0_0_1_n_n none (truncf .bf16 p bitsLt_bf16_f32) v
    (constant S512x128 .f32 0x00000000#32)) bitsLt_bf16_f32

/-- The sum of the five heads' probabilities. -/
def five (p₀ p₁ p₂ p₃ p₄ : FVec Ideal S512x1024 .f32) : FVec Ideal S512x1024 .f32 :=
  addf (addf (addf (addf (addf (broadcast S512x1024 (Scalar.ofBits .f32 0x00000000#32 : Ideal .f32)) p₀) p₁) p₂) p₃) p₄

/-- The product with the overlaps, in three parts: the rounded sum, what rounding left, and what rounding that left. -/
def gather (s : FVec Ideal S512x1024 .f32) (o : FVec Ideal S1024x256 .bf16) : FVec Ideal S512x256 .f32 :=
  addf (addf
    (matmul dot_S512x1024_S1024x256_S512x256_1_0_0_1_n_n none (truncf .bf16 s bitsLt_bf16_f32)
      (shapeCast S1024x256 o shapeCasts_S1024x256_S1024x256) (constant S512x256 .f32 0x00000000#32))
    (matmul dot_S512x1024_S1024x256_S512x256_1_0_0_1_n_n none
      (truncf .bf16 (subf s (extf .f32 (truncf .bf16 s bitsLt_bf16_f32 : FVec Ideal S512x1024 .bf16) bitsLt_bf16_f32)) bitsLt_bf16_f32)
      (shapeCast S1024x256 o shapeCasts_S1024x256_S1024x256) (constant S512x256 .f32 0x00000000#32)))
    (matmul dot_S512x1024_S1024x256_S512x256_1_0_0_1_n_n none
      (truncf .bf16 (subf (subf s (extf .f32 (truncf .bf16 s bitsLt_bf16_f32 : FVec Ideal S512x1024 .bf16) bitsLt_bf16_f32))
        (extf .f32 (truncf .bf16 (subf s (extf .f32 (truncf .bf16 s bitsLt_bf16_f32 : FVec Ideal S512x1024 .bf16) bitsLt_bf16_f32)) bitsLt_bf16_f32
          : FVec Ideal S512x1024 .bf16) bitsLt_bf16_f32)) bitsLt_bf16_f32)
      (shapeCast S1024x256 o shapeCasts_S1024x256_S1024x256) (constant S512x256 .f32 0x00000000#32))

/-! The body's pieces are these functions. -/

section
variable (i : grid0.Coords) (mk : IVec S512x1024 1) (k v : Vec Ideal S1024x128 .bf16) (q q₁ : Vec Ideal S512x128 .bf16)
  (a b : FVec Ideal S512x1024 .f32) (o : Vec Ideal S1024x256 .bf16)

theorem p5 : k0_pay5 (F := Ideal) i k v q = mix (probs (k0_pay3 i) k q) v := rfl
theorem p8 : k0_pay8 (F := Ideal) mk k v q = mix (probs mk k q) v := rfl
theorem p12 : k0_pay12 (F := Ideal) v (k0_pay11 mk k q) (constant S512x128 .f32 0x00000000#32) = mix (probs mk k q) v := rfl
theorem p14 : k0_pay14 (F := Ideal) mk k v q = mix (probs mk k q) v := rfl
theorem p19 : k0_pay19 (F := Ideal) v (k0_pay16 mk k q) (k0_pay17 mk k q) = mix (probs mk k q) v := rfl
theorem p20 (q₂ q₃ q₄ : Vec Ideal S512x128 .bf16) :
    k0_pay20 (F := Ideal) (k0_pay15 (k0_pay3 i) k (k0_pay9 (k0_pay3 i) k (k0_pay6 i k q) q₁) (k0_pay10 (k0_pay3 i) k q₂) q₃)
      (k0_pay16 (k0_pay3 i) k q₄) (k0_pay17 (k0_pay3 i) k q₄) o
      = gather (five (probs (k0_pay3 i) k q) (probs (k0_pay3 i) k q₁) (probs (k0_pay3 i) k q₂) (probs (k0_pay3 i) k q₃)
          (probs (k0_pay3 i) k q₄)) o := rfl

end

/-! Each function at an index. -/

theorem scores_apply (mk : IVec S512x1024 1) (k : FVec Ideal S1024x128 .bf16) (q : FVec Ideal S512x128 .bf16)
    (r : Fin 512) (c : Fin 1024) :
    scores mk k q (ix2 r c) = if mk (ix2 r c) = 1#1 then ∑ l : Fin 128, q (ix2 r l) * k (ix2 c l) else ⊥ := by
  have hm : Named.named (F := Ideal) κ "mask" (φ := .f32) 0xF149F2CA#32 = ⊥ :=
    IdealRules.named_const.ideal_named_scalar _ _ _ _ rfl
  pointwise [scores]
  rw [hm]
  rfl

theorem weights_apply (mk : IVec S512x1024 1) (s : FVec Ideal S512x1024 .f32) (r : Fin 512) (c : Fin 1024) :
    weights mk s (ix2 r c) = if mk (ix2 r c) = 1#1
      then Ideal.exp2 (s (ix2 r c) - Finset.univ.fold max ⊥ fun c : Fin 1024 => s (ix2 r c)) else 0 := by
  have hb : Ideal.ofBits .f32 0xFF800000#32 = ⊥ := by simp [Ideal.ofBits, Ideal.ieee]
  pointwise [weights]
  rw [hb]
  rfl

theorem quot_apply (e : FVec Ideal S512x1024 .f32) (r : Fin 512) (c : Fin 1024) :
    quot e (ix2 r c) = Ideal.div (e (ix2 r c)) (max (∑ c : Fin 1024, e (ix2 r c)) (Ideal.ofBits .f32 0x0DA24260#32)) := by
  pointwise [quot]

/-- A head's probabilities at a row and a column, for real queries and keys. -/
theorem probs_apply (mk : IVec S512x1024 1) (k : FVec Ideal S1024x128 .bf16) (q : FVec Ideal S512x128 .bf16) (r : Fin 512)
    (M : Fin 1024 → Prop) [DecidablePred M] (hM : ∀ c, mk (ix2 r c) = 1#1 ↔ M c)
    (x : Fin 128 → ℝ) (y : Fin 1024 → Fin 128 → ℝ)
    (hq : ∀ l, q (ix2 r l) = (x l : EReal)) (hk : ∀ c l, k (ix2 c l) = (y c l : EReal)) (c : Fin 1024) :
    probs mk k q (ix2 r c) = (CmpRow.prob M (fun c => ∑ l, x l * y c l) c : EReal) := by
  have hε : Ideal.ofBits .f32 0x0DA24260#32 = ((10633824 * (2 ^ 123 : ℝ)⁻¹ : ℝ) : EReal) := by
    simp [Ideal.ofBits, Ideal.ieee]
  rw [probs, quot_apply, hε]
  refine CmpRow.kernel_prob M (fun c => ∑ l, x l * y c l) (fun c => scores mk k q (ix2 r c)) _ _ (by norm_num) (by norm_num)
    (fun c => ?_) (fun c => ?_) c
  · rw [scores_apply]
    refine if_congr (hM c) ?_ rfl
    simp only [hq, hk, ← EReal.coe_mul]
    exact Row.sum_coe _
  · rw [weights_apply]
    exact if_congr (hM c) rfl rfl

theorem mix_apply (p : FVec Ideal S512x1024 .f32) (v : FVec Ideal S1024x128 .bf16) (r : Fin 512) (d : Fin 128) :
    mix p v (ix2 r d) = ∑ c : Fin 1024, p (ix2 r c) * v (ix2 c d) := by
  pointwise [mix]

theorem five_apply (p₀ p₁ p₂ p₃ p₄ : FVec Ideal S512x1024 .f32) (r : Fin 512) (c : Fin 1024) :
    five p₀ p₁ p₂ p₃ p₄ (ix2 r c) = 0 + p₀ (ix2 r c) + p₁ (ix2 r c) + p₂ (ix2 r c) + p₃ (ix2 r c) + p₄ (ix2 r c) := by
  pointwise [five]

/-- The importances, for real probabilities: what rounding leaves is nothing. -/
theorem gather_apply (s : FVec Ideal S512x1024 .f32) (o : FVec Ideal S1024x256 .bf16) (r : Fin 512) (f : Fin 1024 → ℝ)
    (hs : ∀ c, s (ix2 r c) = (f c : EReal)) (j : Fin 256) :
    gather s o (ix2 r j) = ∑ c : Fin 1024, (f c : EReal) * o (ix2 c j) := by
  have h0 : ∀ a : ℝ, (a : EReal) - a = 0 := fun a => by rw [← EReal.coe_sub, sub_self]; rfl
  have e : gather s o (ix2 r j) = (∑ c : Fin 1024, s (ix2 r c) * o (ix2 c j))
      + (∑ c : Fin 1024, (s (ix2 r c) - s (ix2 r c)) * o (ix2 c j))
      + ∑ c : Fin 1024, ((s (ix2 r c) - s (ix2 r c)) - (s (ix2 r c) - s (ix2 r c))) * o (ix2 c j) := by
    pointwise [gather]
  rw [e]
  simp [hs, h0]

/-- The position of a row, as a word. -/
theorem pos_eq (i : grid0.Coords) (r : Fin 512) :
    k0_pay2 i (ix2 r (0 : Fin 1)) = BitVec.ofNat 32 ((i 1).val * 512 + r.val) := by
  have hn : (i 1).val < 32 := (i 1).isLt
  pointwise [k0_pay2]
  generalize (i 1).val = n at hn
  apply BitVec.eq_of_toNat_eq
  simp only [Scalar.muli, IntOp.addi, IntOp.muli, BitVec.toNat_add, BitVec.toNat_mul, BitVec.toNat_ofNat, Nat.reducePow,
    Nat.reduceMod]
  omega

/-- Row `r` of block `i` sees column `c`. -/
theorem mask_eq (i : grid0.Coords) (r : Fin 512) (c : Fin 1024) :
    k0_pay3 i (ix2 r c) = 1#1 ↔ 16 * c.val + 31 ≤ (i 1).val * 512 + r.val := by
  have hn : (i 1).val < 32 := (i 1).isLt
  have hr := r.isLt
  have hc := c.isLt
  have e₁ : IntOp.addi (IntOp.muli 16#32 (BitVec.ofNat 32 c.val)) 31#32 = BitVec.ofNat 32 (16 * c.val + 31) := by
    apply BitVec.eq_of_toNat_eq
    simp only [IntOp.addi, IntOp.muli, BitVec.toNat_add, BitVec.toNat_mul, BitVec.toNat_ofNat, Nat.reducePow, Nat.reduceMod]
    omega
  pointwise [k0_pay3]
  rw [IntOp.cmpi_sle, e₁, pos_eq, CmpSpec.toInt_small _ (by omega), CmpSpec.toInt_small _ (by omega)]
  omega

/-- The importances with the blocks filled in. -/
theorem fill_eq (i : grid0.Coords) (w : FVec Ideal S512x256 .f32) (r : Fin 512) (j : Fin 256) :
    k0_pay25 (F := Ideal) w (iota .tc S1x256 32 [1] iota_S1x256_d1_w32) (k0_pay22 (k0_pay2 i)) (k0_pay23 (k0_pay2 i))
      (k0_pay24 (k0_pay2 i)) 0#32 (ix2 r j) = CmpSpec.fill ((i 1).val * 512 + r.val) (fun j => w (ix2 r j)) j := by
  have hn : (i 1).val < 32 := (i 1).isLt
  have hr := r.isLt
  have hj := j.isLt
  pointwise [k0_pay25, k0_pay22, k0_pay23, k0_pay24]
  rw [pos_eq]
  have hn' : (i 1).val * 512 + r.val < 16384 := by omega
  generalize (i 1).val * 512 + r.val = n at hn'
  rw [CmpSpec.floor_word .vector n hn' _ fun hp => ?_]
  · exact CmpSpec.fill_word n hn' (fun j => w (ix2 r j)) j
  · rw [WordCmp.cmpi_sgt_eq, WordCmp.cmpi_slt_eq, CmpSpec.toInt_small n (by omega)]
    rw [decide_eq_true (show (0#32).toInt < (n : ℤ) from by show (0 : ℤ) < n; omega),
      decide_eq_false (show ¬(n : ℤ) < (0#32).toInt from by show ¬(n : ℤ) < 0; omega)]
    decide

end Cert.CmpIdeal.Head

end
-- ==== Proof.CmpRounds.lean ====
/-
  THE KERNEL'S SIXTEEN ROUNDS on a block of 512 rows of 256 values. A round (`stepV`, `stepS`) is written here once; the
  kernel's body runs it sixteen times, and `marksV` counts the rounds. Read on one row, a round is the round of
  CmpPick.lean, so that a row of the marks is what its sixteen rounds leave.
-/
module

public import proofs.«01_k».proof.Proof.Gen.CmpIdeal.Skeleton
public import Idealize.ShloMosaic.Lib.Pointwise
public import proofs.«01_k».proof.Proof.CmpPick

@[expose] public section

set_option maxRecDepth 16384

noncomputable section

namespace Cert.CmpIdeal.Rounds

open Idealize.ShloMosaic Idealize.SL.Sem Cert.CmpIdeal Cert.CmpIdeal.Gen

/-- Every row's maximum. -/
def mx (v : FVec Ideal S512x256 .f32) : FVec Ideal S512x1 .f32 :=
  shapeCast S512x1 (multiReduction .maximumf [1] S512 v 0xFF800000#32 reduces_S512x256_S512 (.inl rfl) rfl) shapeCasts_S512_S512x1

/-- Where a row has its maximum. -/
def eqm (v : FVec Ideal S512x256 .f32) : IVec S512x256 1 :=
  cmpf .oeq v (broadcastTo S512x256 (mx v) broadcasts_S512x1_S512x256)

/-- The first such position, as a number. -/
def fst (J : FVec Ideal S1x256 .f32) (e : IVec S512x256 1) : FVec Ideal S512 .f32 :=
  multiReduction .minimumf [1] S512 (select e
    (broadcastTo S512x256 (shapeCast S1x256 J shapeCasts_S1x256_S1x256) broadcasts_S1x256_S512x256)
    (broadcast S512x256 (Scalar.ofBits .f32 0x43800000#32 : Ideal .f32))) 0x7F800000#32 reduces_S512x256_S512 (.inl rfl) rfl

/-- Which position that is. -/
def hit (J : FVec Ideal S1x256 .f32) (f : FVec Ideal S512 .f32) : IVec S512x256 1 :=
  cmpf .oeq (broadcastTo S512x256 J broadcasts_S1x256_S512x256)
    (broadcastTo S512x256 (shapeCast S512x1 f shapeCasts_S512_S512x1) broadcasts_S512x1_S512x256)

/-- The first position of every row's maximum. -/
def at1 (J : FVec Ideal S1x256 .f32) (v : FVec Ideal S512x256 .f32) : IVec S512x256 1 := hit J (fst J (eqm v))

/-- The threshold. -/
def thr : FVec Ideal S512x1 .f32 := broadcast S512x1 (Scalar.ofBits .f32 0xCDEE6B28#32 : Ideal .f32)

/-- The block with that position overwritten. -/
def stepV (J : FVec Ideal S1x256 .f32) (v : FVec Ideal S512x256 .f32) : FVec Ideal S512x256 .f32 :=
  select (at1 J v) (broadcast S512x256 (Scalar.ofBits .f32 0xFF61B1E6#32 : Ideal .f32)) v

/-- The marks with that position marked. -/
def stepS (J : FVec Ideal S1x256 .f32) (v s : FVec Ideal S512x256 .f32) : FVec Ideal S512x256 .f32 :=
  select (andi (at1 J v) (broadcastTo S512x256 (cmpf .ogt (mx v) thr) broadcasts_S512x1_S512x256))
    (broadcast S512x256 (Scalar.ofBits .f32 0x3F800000#32 : Ideal .f32)) s

/-- The block after `r` rounds, and the marks. -/
def rowsV (J : FVec Ideal S1x256 .f32) (v : FVec Ideal S512x256 .f32) : ℕ → FVec Ideal S512x256 .f32
  | 0 => v
  | r + 1 => stepV J (rowsV J v r)

def marksV (J : FVec Ideal S1x256 .f32) (v : FVec Ideal S512x256 .f32) : ℕ → FVec Ideal S512x256 .f32
  | 0 => broadcast S512x256 (Scalar.ofBits .f32 0x00000000#32 : Ideal .f32)
  | r + 1 => stepS J (rowsV J v r) (marksV J v r)

/-! The body's pieces are these rounds. -/

section
variable (J : FVec Ideal S1x256 .f32) (s v w : FVec Ideal S512x256 .f32) (b : IVec S1x256 32) (d : IVec S512x1 32)
  (p : IVec S512x1 1) (q : IVec S512x1 32) (z : BitVec 32)

theorem p28 : k0_pay28 (F := Ideal) w b J d p q z = stepS J (k0_pay25 w b d p q z) (broadcast S512x256 (Scalar.ofBits .f32 0x00000000#32 : Ideal .f32)) := rfl
theorem p29 : k0_pay29 (F := Ideal) w b J d p q z = stepV J (k0_pay25 w b d p q z) := rfl
theorem p35 : k0_pay35 (F := Ideal) J s v = stepS J (stepV J v) (stepS J v s) := rfl
theorem p36 : k0_pay36 (F := Ideal) J v = stepV J (stepV J v) := rfl
theorem p37 : k0_pay37 (F := Ideal) J v = mx (stepV J (stepV J v)) := rfl
theorem p38 : k0_pay38 (F := Ideal) J v = eqm (stepV J (stepV J v)) := rfl
theorem p43 : k0_pay43 (F := Ideal) J s v (mx v) (eqm v) (Scalar.ofBits .f32 0x43800000#32) = stepS J (stepV J v) (stepS J v s) := rfl
theorem p44 : k0_pay44 (F := Ideal) J v (eqm v) (Scalar.ofBits .f32 0x43800000#32) = stepV J (stepV J v) := rfl
theorem p45 : k0_pay45 (F := Ideal) J v (eqm v) (Scalar.ofBits .f32 0x43800000#32) = mx (stepV J (stepV J v)) := rfl
theorem p46 : k0_pay46 (F := Ideal) J v (eqm v) (Scalar.ofBits .f32 0x43800000#32) = fst J (eqm (stepV J (stepV J v))) := rfl
theorem p51 : k0_pay51 (F := Ideal) J s v (mx v) (fst J (eqm v)) = stepS J (stepV J v) (stepS J v s) := rfl
theorem p52 : k0_pay52 (F := Ideal) J v (fst J (eqm v)) = stepV J (stepV J v) := rfl
theorem p53 : k0_pay53 (F := Ideal) J v (fst J (eqm v)) = mx (stepV J (stepV J v)) := rfl
theorem p54 : k0_pay54 (F := Ideal) J v (fst J (eqm v)) = at1 J (stepV J (stepV J v)) := rfl
theorem p55 : k0_pay55 (F := Ideal) = thr := rfl
theorem p59 : k0_pay59 (F := Ideal) J v (at1 J v) = stepV J (stepV J v) := rfl
theorem p61 : k0_pay61 (F := Ideal) J v (at1 J v) = at1 J (stepV J (stepV J v)) := rfl
theorem p62 : k0_pay62 (F := Ideal) J s v (mx v) (at1 J v) thr = stepS J (stepV J (stepV J v)) (stepS J (stepV J v) (stepS J v s)) := rfl
theorem p69 : k0_pay69 (F := Ideal) J v (at1 J v) s = stepS J (stepV J (stepV J v)) (stepS J (stepV J v) s) := rfl
theorem p70 : k0_pay70 (F := Ideal) J v (at1 J v) = stepV J (stepV J (stepV J v)) := rfl
theorem p71 : k0_pay71 (F := Ideal) J v (at1 J v) = mx (stepV J (stepV J (stepV J v))) := rfl
theorem p76 : k0_pay76 (F := Ideal) J s v (mx v) = stepS J (stepV J v) (stepS J v s) := rfl
theorem p77 : k0_pay77 (F := Ideal) J v (mx v) = stepV J (stepV J v) := rfl
theorem p78 : k0_pay78 (F := Ideal) J v (mx v) = mx (stepV J (stepV J v)) := rfl
theorem p79 : k0_pay79 (F := Ideal) J v (mx v) = eqm (stepV J (stepV J v)) := rfl
theorem p1 : k0_pay1 (F := Ideal) J s v (mx v) (eqm v) (k0_pay80 J) k0_pay81 = stepS J (stepV J v) (stepS J v s) := rfl

end

/-! A round on one row. -/

/-- A row of a block. -/
def row (v : FVec Ideal S512x256 .f32) (r : Fin 512) (j : Fin 256) : EReal := v (ix2 r j)

/-- The positions as numbers. -/
theorem J_apply (j : Fin 256) : k0_pay21 (F := Ideal) (ix2 (0 : Fin 1) j) = ((j.val : ℝ) : EReal) := by
  have e : (BitVec.ofNat 32 j.val).toInt = j.val := by
    rw [BitVec.toInt_eq_toNat_of_lt] <;> rw [BitVec.toNat_ofNat] <;> omega
  pointwise [k0_pay21]
  simp [FloatOps.sitofp, e]

theorem mx_apply (v : FVec Ideal S512x256 .f32) (r : Fin 512) :
    mx v (ix2 r (0 : Fin 1)) = CmpPick.top (row v r) := by
  have hb : Ideal.ofBits .f32 0xFF800000#32 = ⊥ := by simp [Ideal.ofBits, Ideal.ieee]
  pointwise [mx]
  rw [hb]
  rfl

theorem eqm_apply (v : FVec Ideal S512x256 .f32) (r : Fin 512) (j : Fin 256) :
    eqm v (ix2 r j) = if row v r j = CmpPick.top (row v r) then 1#1 else 0#1 := by
  rw [← mx_apply]
  pointwise [eqm]
  show Ideal.cmp .oeq _ _ = _
  unfold Ideal.cmp row
  by_cases h : (v (ix2 r j) : EReal) = mx v (ix2 r (0 : Fin 1)) <;> simp [h]

theorem fst_apply (v : FVec Ideal S512x256 .f32) (r : Fin 512) :
    fst k0_pay21 (eqm v) (ix1 r) = CmpPick.first (row v r) := by
  have hb : Ideal.ofBits .f32 0x7F800000#32 = ⊤ := by simp [Ideal.ofBits, Ideal.ieee]
  have hn : Ideal.ofBits .f32 0x43800000#32 = ((256 : ℝ) : EReal) := by
    simp [Ideal.ofBits, Ideal.ieee]
    rw [← EReal.coe_mul]
    norm_num
  pointwise [fst]
  rw [hb]
  unfold CmpPick.first
  refine congrArg (fun f => Finset.univ.fold min ⊤ f) (funext fun j : Fin 256 => ?_)
  rw [eqm_apply, J_apply]
  by_cases h : row v r j = CmpPick.top (row v r)
  · simp [Scalar.select, h]
  · simp [Scalar.select, h, hn]

theorem at1_apply (v : FVec Ideal S512x256 .f32) (r : Fin 512) (j : Fin 256) :
    at1 k0_pay21 v (ix2 r j) = if ((j.val : ℝ) : EReal) = CmpPick.first (row v r) then 1#1 else 0#1 := by
  rw [← fst_apply, ← J_apply]
  pointwise [at1, hit]
  show Ideal.cmp .oeq _ _ = _
  unfold Ideal.cmp
  by_cases h : (k0_pay21 (F := Ideal) (ix2 (0 : Fin 1) j) : EReal) = fst k0_pay21 (eqm v) (ix1 r) <;> simp [h]

/-- The number a picked position is overwritten by, and the threshold. -/
abbrev low : EReal := Ideal.ofBits .f32 0xFF61B1E6#32
abbrev bar : EReal := Ideal.ofBits .f32 0xCDEE6B28#32

theorem stepV_row (v : FVec Ideal S512x256 .f32) (r : Fin 512) :
    row (stepV k0_pay21 v) r = CmpPick.roundVal low (row v r) := by
  funext j
  unfold row CmpPick.roundVal
  pointwise [stepV]
  rw [at1_apply]
  unfold row
  split <;> rfl

theorem stepS_row (v s : FVec Ideal S512x256 .f32) (r : Fin 512) :
    row (stepS k0_pay21 v s) r = CmpPick.roundMark bar (row v r) (row s r) := by
  funext j
  show stepS k0_pay21 v s (ix2 r j) = CmpPick.roundMark bar (row v r) (row s r) j
  unfold CmpPick.roundMark
  pointwise [stepS, thr]
  rw [at1_apply, mx_apply]
  generalize ((j.val : ℝ) : EReal) = n
  by_cases h : n = CmpPick.first (row v r) <;> by_cases h' : bar < CmpPick.top (row v r) <;> simp [h, h', Scalar.select, IntOp.andi, row]

theorem rowsV_row (v : FVec Ideal S512x256 .f32) (r : Fin 512) (k : ℕ) :
    row (rowsV k0_pay21 v k) r = CmpPick.rows low (row v r) k := by
  induction k with
  | zero => rfl
  | succ k ih => rw [rowsV, stepV_row, ih]; rfl

/-- A row of the marks after `k` rounds. -/
theorem marksV_row (v : FVec Ideal S512x256 .f32) (r : Fin 512) (k : ℕ) :
    row (marksV k0_pay21 v k) r = CmpPick.marks low bar (row v r) k := by
  induction k with
  | zero =>
    funext j
    unfold row
    pointwise [marksV]
    simp [CmpPick.marks, Ideal.ofBits, Ideal.ieee]
  | succ k ih => rw [marksV, stepS_row, rowsV_row, ih]; rfl

end Cert.CmpIdeal.Rounds

end
-- ==== Proof.CmpBlock.lean ====
/-
  THE KERNEL'S TWO RESULT ARRAYS. Grid point `(g, n)` computes, for group `g`, the positions `512 n` to `512 n + 511`:
  the five heads' results, from those positions' queries and the group's compressed rows, and the marks of the sixteen
  heaviest of the group's blocks. `overlap_apply` is the array of overlaps the kernel is handed, `final4` and `final5`
  are the arrays after the run.
-/
module

public import proofs.«01_k».proof.Proof.Gen.CmpIdeal.Value
public import Idealize.ShloMosaic.Lib.Pipeline.ValueKit
public import proofs.«01_k».proof.Proof.CmpHead
public import proofs.«01_k».proof.Proof.CmpRounds

@[expose] public section

set_option maxRecDepth 16384

noncomputable section

namespace Cert.CmpIdeal.Block

open Idealize.ShloMosaic Idealize.ShloMosaic.TcCoe Idealize.SL.Sem Cert.CmpIdeal Cert.CmpIdeal.Gen

/-! The overlaps. -/

def start : IVec S1024x1 32 :=
  muli (broadcastInDim S1024x1 ![0] bcast_S1024_S1024x1_0 (iotaInDim S1024 32 0)) (broadcastInDim S1024x1 ![] bcast_S_S1024x1 (constantI S_ 32 16#32))

def blocks : IVec S1x256 32 :=
  muli (broadcastInDim S1x256 ![1] bcast_S256_S1x256_1 (iotaInDim S256 32 0)) (broadcastInDim S1x256 ![] bcast_S_S1x256 (constantI S_ 32 64#32))

def overlap : FVec Ideal S1024x256 .bf16 :=
  truncf .bf16 (uitofp .f32 (andi (andi
    (cmpi .slt (broadcastInDim S1024x256 ![0, 1] bcast_S1024x1_S1024x256_0_1 start)
      (broadcastInDim S1024x256 ![0, 1] bcast_S1x256_S1024x256_0_1 (addi blocks (broadcastInDim S1x256 ![] bcast_S_S1x256 (constantI S_ 32 64#32)))))
    (cmpi .sgt (broadcastInDim S1024x256 ![0, 1] bcast_S1024x1_S1024x256_0_1 (addi start (broadcastInDim S1024x1 ![] bcast_S_S1024x1 (constantI S_ 32 32#32))))
      (broadcastInDim S1024x256 ![0, 1] bcast_S1x256_S1024x256_0_1 blocks)))
    (broadcastInDim S1024x256 ![0, 1] bcast_S1024x1_S1024x256_0_1 (cmpi .slt (broadcastInDim S1024x1 ![0] bcast_S1024_S1024x1_0 (iotaInDim S1024 32 0))
      (broadcastInDim S1024x1 ![] bcast_S_S1024x1 (constantI S_ 32 1023#32))))) : FVec Ideal S1024x256 .f32) bitsLt_bf16_f32

theorem overlap_apply (c : Fin 1024) (j : Fin 256) (hc : c.val < 1023) :
    overlap (ix2 c j) = if CmpSpec.meets c j then 1 else 0 := by
  have e₁ : IntOp.muli (BitVec.ofNat 32 c.val) 16#32 = BitVec.ofNat 32 (16 * c.val) := by
    apply BitVec.eq_of_toNat_eq
    simp only [IntOp.muli, BitVec.toNat_mul, BitVec.toNat_ofNat, Nat.reducePow, Nat.reduceMod]
    omega
  have e₂ : IntOp.muli (BitVec.ofNat 32 j.val) 64#32 = BitVec.ofNat 32 (64 * j.val) := by
    apply BitVec.eq_of_toNat_eq
    simp only [IntOp.muli, BitVec.toNat_mul, BitVec.toNat_ofNat, Nat.reducePow, Nat.reduceMod]
    omega
  have e₃ : IntOp.addi (BitVec.ofNat 32 (64 * j.val)) 64#32 = BitVec.ofNat 32 (64 * j.val + 64) := by
    apply BitVec.eq_of_toNat_eq
    simp only [IntOp.addi, BitVec.toNat_add, BitVec.toNat_ofNat, Nat.reducePow, Nat.reduceMod]
    omega
  have e₄ : IntOp.addi (BitVec.ofNat 32 (16 * c.val)) 32#32 = BitVec.ofNat 32 (16 * c.val + 32) := by
    apply BitVec.eq_of_toNat_eq
    simp only [IntOp.addi, BitVec.toNat_add, BitVec.toNat_ofNat, Nat.reducePow, Nat.reduceMod]
    omega
  have e₅ : (1023#32).toInt = 1023 := rfl
  have bit : ∀ (b : BitVec 1) (p : Prop) [Decidable p], (b = 1#1 ↔ p) → b = if p then 1#1 else 0#1 := fun b p _ h => by
    split
    · exact h.mpr ‹_›
    · have := mt h.mp ‹_›
      clear h
      revert b
      decide
  unfold overlap start blocks
  pointwise
  rw [e₁, e₂, e₃, e₄]
  refine (congrArg _ (bit _ (CmpSpec.meets c j) ?_)).trans ?_
  · rw [IntOp.andi_eq_one, IntOp.andi_eq_one, IntOp.cmpi_slt, IntOp.cmpi_sgt, IntOp.cmpi_slt, CmpSpec.toInt_small _ (by omega),
      CmpSpec.toInt_small _ (by omega), CmpSpec.toInt_small _ (by omega), CmpSpec.toInt_small _ (by omega),
      CmpSpec.toInt_small _ (by omega), e₅]
    unfold CmpSpec.meets
    omega
  · split <;> simp [FloatOps.uitofp]

variable (m : (ℓ : Loc nD τ sig) → Buf (Elt Ideal) ℓ)

theorem idx0 : ∀ t : Fin cfg0.N, win0_0.index t = ![(grid0.coords t 1).val, (grid0.coords t 0).val] := by decide +kernel
theorem idx1 : ∀ t : Fin cfg0.N, win0_1.index t = ![(grid0.coords t 0).val, 0] := by decide +kernel
theorem idx2 : ∀ t : Fin cfg0.N, win0_2.index t = ![(grid0.coords t 0).val, 0] := by decide +kernel
theorem idx3 : ∀ t : Fin cfg0.N, win0_3.index t = ![0, 0] := by decide +kernel
theorem idx4 : ∀ t : Fin cfg0.N, win0_4.index t = ![(grid0.coords t 1).val, (grid0.coords t 0).val] := by decide +kernel
theorem idx5 : ∀ t : Fin cfg0.N, win0_5.index t = ![(grid0.coords t 1).val, (grid0.coords t 0).val] := by decide +kernel

variable (c : Dev nD) (t : Fin cfg0.N)

theorem lt0 : (grid0.coords t 0).val < 4 := (grid0.coords t 0).isLt
theorem lt1 : (grid0.coords t 1).val < 32 := (grid0.coords t 1).isLt

theorem overlap_eq : V m c main_v26 = overlap := by
  unfold V hostOps0
  after_results_simp <;> rfl

theorem blk3 (q : Fin 1024) (j : Fin 256) : iblk m c 3 t (ix2 q j) = overlap (ix2 q j) := by
  have h : iblk m c 3 t (ix2 q j) = V m c main_v26 (ix2 q j) := by
    blk_ext [iblk, idx3 t]
  rw [h, overlap_eq]

theorem blk2 (q : Fin 1024) (d : Fin 128) : iblk m c 2 t (ix2 q d)
    = m ((c.tc : Thread nD τ).loc main_arg2) (ix2 (⟨(grid0.coords t 0).val * 1024 + q.val, by have := lt0 t; omega⟩ : Fin 4096) d) := by
  blk_ext [iblk, V, idx2 t]

variable (x : Fin 16384 → Fin 10752 → ℝ) (y : Fin 4096 → Fin 128 → ℝ)
  (hx : ∀ t l, m ((c.tc : Thread nD τ).loc main_arg0) (ix2 t l) = (x t l : EReal))
  (hk : ∀ r d, m ((c.tc : Thread nD τ).loc main_arg1) (ix2 r d) = (y r d : EReal))

include hk in
theorem blk1 (q : Fin 1024) (d : Fin 128) : iblk m c 1 t (ix2 q d)
    = (y (⟨(grid0.coords t 0).val * 1024 + q.val, by have := lt0 t; omega⟩ : Fin 4096) d : EReal) := by
  rw [← hk]
  blk_ext [iblk, V, idx1 t]

include hx in
theorem blk0 (h : Fin 5) (inb) (r : Fin 512) (l : Fin 128) :
    View.ld (X0_0 m c t) (Rect.unit ![0, h.val * 128] ![512, 128] inb) (ix2 r l)
      = (x (⟨(grid0.coords t 1).val * 512 + r.val, by have := lt1 t; omega⟩ : Fin 16384)
        (⟨(grid0.coords t 0).val * 640 + h.val * 128 + l.val, by have := lt0 t; omega⟩ : Fin 10752) : EReal) := by
  rw [← hx]
  unfold X0_0
  unfold Pipeline.Window.fill
  rw [View.ld]
  rw [dif_pos (moved0_0 t _)]
  blk_ext [iblk, V, idx0 t]
  · simp [Rect.unit, LoadRect.idx, ix2]
  · simp [Rect.unit, LoadRect.idx, ix2]; omega

/-- The position of a row of a block. -/
abbrev posn (r : Fin 512) : Fin 16384 := ⟨(grid0.coords t 1).val * 512 + r.val, by have := lt1 t; omega⟩

/-- The group of a grid point. -/
abbrev grp : Fin 4 := ⟨(grid0.coords t 0).val, lt0 t⟩

include hx hk in
/-- A head's probabilities. -/
theorem probs_row (h : Fin 5) (inb) (r : Fin 512) (q : Fin 1024) :
    Head.probs (k0_pay3 (grid0.coords t)) (iblk m c 1 t) (View.ld (X0_0 m c t) (Rect.unit ![0, h.val * 128] ![512, 128] inb)) (ix2 r q)
      = (CmpSpec.prob x y (posn t r) (grp t) h q : EReal) := by
  rw [Head.probs_apply (k0_pay3 (grid0.coords t)) _ _ r (CmpSpec.sees (posn t r)) (fun q => Head.mask_eq _ r q)
    (fun l => x (posn t r) (⟨(grid0.coords t 0).val * 640 + h.val * 128 + l.val, by have := lt0 t; omega⟩ : Fin 10752))
    (fun q d => y (⟨(grid0.coords t 0).val * 1024 + q.val, by have := lt0 t; omega⟩ : Fin 4096) d)
    (fun l => blk0 m c t x hx h inb r l) (fun q d => blk1 m c t y hk q d)]
  rfl

include hx hk in
/-- A head's result. -/
theorem mix_row (h : Fin 5) (inb) (r : Fin 512) (d : Fin 128) :
    Head.mix (Head.probs (k0_pay3 (grid0.coords t)) (iblk m c 1 t) (View.ld (X0_0 m c t) (Rect.unit ![0, h.val * 128] ![512, 128] inb)))
        (iblk m c 2 t) (ix2 r d)
      = CmpSpec.mean x y (fun r d => m ((c.tc : Thread nD τ).loc main_arg2) (ix2 r d)) (posn t r) (grp t) h d := by
  rw [Head.mix_apply]
  unfold CmpSpec.mean
  refine Finset.sum_congr rfl fun q _ => ?_
  rw [probs_row m c t x y hx hk h inb r q, blk2 m c t q d]

/-- The weights of a group's blocks at a row, from the five heads' probabilities. -/
theorem weight_row (r : Fin 512) (q₀ q₁ q₂ q₃ q₄ : FVec Ideal S512x128 .bf16)
    (h₀ : ∀ q, Head.probs (k0_pay3 (grid0.coords t)) (iblk m c 1 t) q₀ (ix2 r q) = (CmpSpec.prob x y (posn t r) (grp t) 0 q : EReal))
    (h₁ : ∀ q, Head.probs (k0_pay3 (grid0.coords t)) (iblk m c 1 t) q₁ (ix2 r q) = (CmpSpec.prob x y (posn t r) (grp t) 1 q : EReal))
    (h₂ : ∀ q, Head.probs (k0_pay3 (grid0.coords t)) (iblk m c 1 t) q₂ (ix2 r q) = (CmpSpec.prob x y (posn t r) (grp t) 2 q : EReal))
    (h₃ : ∀ q, Head.probs (k0_pay3 (grid0.coords t)) (iblk m c 1 t) q₃ (ix2 r q) = (CmpSpec.prob x y (posn t r) (grp t) 3 q : EReal))
    (h₄ : ∀ q, Head.probs (k0_pay3 (grid0.coords t)) (iblk m c 1 t) q₄ (ix2 r q) = (CmpSpec.prob x y (posn t r) (grp t) 4 q : EReal)) :
    Rounds.row (k0_pay25 (F := Ideal) (Head.gather (Head.five (Head.probs (k0_pay3 (grid0.coords t)) (iblk m c 1 t) q₀)
        (Head.probs (k0_pay3 (grid0.coords t)) (iblk m c 1 t) q₁) (Head.probs (k0_pay3 (grid0.coords t)) (iblk m c 1 t) q₂)
        (Head.probs (k0_pay3 (grid0.coords t)) (iblk m c 1 t) q₃) (Head.probs (k0_pay3 (grid0.coords t)) (iblk m c 1 t) q₄))
        (iblk m c 3 t)) (iota .tc S1x256 32 [1] iota_S1x256_d1_w32) (k0_pay22 (k0_pay2 (grid0.coords t)))
        (k0_pay23 (k0_pay2 (grid0.coords t))) (k0_pay24 (k0_pay2 (grid0.coords t))) 0#32) r
      = CmpSpec.weight x y (posn t r) (grp t) := by
  funext j
  unfold Rounds.row
  rw [Head.fill_eq]
  unfold CmpSpec.weight
  refine congrArg (fun f => CmpSpec.fill ((grid0.coords t 1).val * 512 + r.val) f j) (funext fun j => ?_)
  rw [Head.gather_apply _ _ r (fun q => ∑ h : Fin 5, CmpSpec.prob x y (posn t r) (grp t) h q) (fun q => ?_) j]
  · unfold CmpSpec.imp
    rw [← Row.sum_coe]
    refine Finset.sum_congr rfl fun q _ => ?_
    rw [blk3 m c t q j]
    by_cases hq : q.val < 1023
    · rw [overlap_apply q j hq, EReal.coe_mul]
      split <;> simp
    · have e : ∑ h : Fin 5, CmpSpec.prob x y (posn t r) (grp t) h q = 0 :=
        Finset.sum_eq_zero fun h _ => CmpSpec.prob_last x y _ _ h q (by omega)
      simp [e]
  · rw [Head.five_apply, h₀, h₁, h₂, h₃, h₄]
    simp only [Fin.sum_univ_five, EReal.coe_add, zero_add]

/-- A column of the heads' results belongs to one group, head and entry. -/
theorem mean_at (v : Fin 4096 → Fin 128 → EReal) (p p' : Fin 16384) (g : Fin 4) (h : Fin 5) (d : Fin 128) (l : Fin 2560)
    (h0 : p'.val = p.val) (h1 : l.val = g.val * 640 + (h.val * 128 + d.val)) :
    CmpSpec.mean x y v p g h d = CmpSpec.meanAt x y v p' l := by
  obtain rfl : p' = p := Fin.ext h0
  unfold CmpSpec.meanAt
  congr 1 <;> · apply Fin.ext; dsimp only; omega

/-- A column of the marks belongs to one group and block. -/
theorem chosen_at (p p' : Fin 16384) (g : Fin 4) (j : Fin 256) (l : Fin 1024)
    (h0 : p'.val = p.val) (h1 : l.val = g.val * 256 + j.val) :
    CmpSpec.chosen x y p g j = CmpSpec.chosenAt x y p' l := by
  obtain rfl : p' = p := Fin.ext h0
  unfold CmpSpec.chosenAt
  congr 1 <;> · apply Fin.ext; dsimp only; omega

include hx hk in
/-- The heads' results after the run. -/
theorem final4 : (dats m 0 c).arrAt 4 cfg0.N = fun i =>
    CmpSpec.meanAt x y (fun r d => m ((c.tc : Thread nD τ).loc main_arg2) (ix2 r d)) (i 0) (i 1) := by
  refine (dats m 0 c).arrAt_eq_of_covers 4 _ (by decide +kernel) fun t hf y' => ?_
  blk_simp
  rw [after0_4]
  unfold outsAt0
  frame_out
  simp only [Head.p5, Head.p8, Head.p12, Head.p14, Head.p19]
  have e0 : (((View.whole main_v27_0).slice (win0_4.rect t)).emb y' 0).val = (grid0.coords t 1).val * 512 + (y' 0).val := by
    blk_simp [idx4 t]
  have e1 : (((View.whole main_v27_0).slice (win0_4.rect t)).emb y' 1).val = (grid0.coords t 0).val * 640 + (y' 1).val := by
    blk_simp [idx4 t]
  generalize (((View.whole main_v27_0).slice (win0_4.rect t)).emb y') = Y at e0 e1 ⊢
  canon_tiles z h
  · rw [show z = ix2 (z 0) (z 1) from by pointwise]
    refine (mix_row m c t x y hx hk 4 _ (z 0) (z 1)).trans ?_
    exact mean_at x y _ _ _ _ _ _ _ (by dsimp only [posn]; omega) (by dsimp only [grp]; omega)
  · rw [show z = ix2 (z 0) (z 1) from by pointwise]
    refine (mix_row m c t x y hx hk 3 _ (z 0) (z 1)).trans ?_
    exact mean_at x y _ _ _ _ _ _ _ (by dsimp only [posn]; omega) (by dsimp only [grp]; omega)
  · rw [show z = ix2 (z 0) (z 1) from by pointwise]
    refine (mix_row m c t x y hx hk 2 _ (z 0) (z 1)).trans ?_
    exact mean_at x y _ _ _ _ _ _ _ (by dsimp only [posn]; omega) (by dsimp only [grp]; omega)
  · rw [show z = ix2 (z 0) (z 1) from by pointwise]
    refine (mix_row m c t x y hx hk 1 _ (z 0) (z 1)).trans ?_
    exact mean_at x y _ _ _ _ _ _ _ (by dsimp only [posn]; omega) (by dsimp only [grp]; omega)
  · rw [show z = ix2 (z 0) (z 1) from by pointwise]
    refine (mix_row m c t x y hx hk 0 _ (z 0) (z 1)).trans ?_
    exact mean_at x y _ _ _ _ _ _ _ (by dsimp only [posn]; omega) (by dsimp only [grp]; omega)

/-- A block's marks at a row and a column. -/
theorem marks_row (W : FVec Ideal S512x256 .f32) (tt : Fin 16384) (g : Fin 4) (r : Fin 512) (j : Fin 256)
    (h : Rounds.row W r = CmpSpec.weight x y tt g) :
    Rounds.marksV k0_pay21 W 16 (ix2 r j) = CmpSpec.chosen x y tt g j := by
  have e : Rounds.row (Rounds.marksV k0_pay21 W 16) r j = CmpPick.marks CmpSpec.low CmpSpec.bar (CmpSpec.weight x y tt g) 16 j := by
    rw [Rounds.marksV_row, h]
  refine e.trans ?_
  rw [CmpPick.rounds_mark CmpSpec.low CmpSpec.bar _ (CmpSpec.low_lt x y tt g) 16 (by omega)]
  rfl

include hx hk in
/-- The marks after the run. -/
theorem final5 : (dats m 0 c).arrAt 5 cfg0.N = fun i => CmpSpec.chosenAt x y (i 0) (i 1) := by
  refine (dats m 0 c).arrAt_eq_of_covers 5 _ (by decide +kernel) fun t hf y' => ?_
  blk_simp
  rw [after0_5]
  unfold outsAt0
  frame_out
  simp only [Head.p20]
  simp only [Rounds.p28, Rounds.p29]
  simp only [Rounds.p35, Rounds.p36, Rounds.p37, Rounds.p38]
  simp only [Rounds.p43, Rounds.p44, Rounds.p45, Rounds.p46]
  simp only [Rounds.p51, Rounds.p52, Rounds.p53, Rounds.p54, Rounds.p55]
  simp only [Rounds.p59, Rounds.p61, Rounds.p62]
  simp only [Rounds.p69, Rounds.p70, Rounds.p71]
  simp only [Rounds.p76, Rounds.p77, Rounds.p78, Rounds.p79]
  simp only [Rounds.p1]
  have e0 : (((View.whole main_v27_1).slice (win0_5.rect t)).emb y' 0).val = (grid0.coords t 1).val * 512 + (y' 0).val := by
    blk_simp [idx5 t]
  have e1 : (((View.whole main_v27_1).slice (win0_5.rect t)).emb y' 1).val = (grid0.coords t 0).val * 256 + (y' 1).val := by
    blk_simp [idx5 t]
  generalize (((View.whole main_v27_1).slice (win0_5.rect t)).emb y') = Y at e0 e1 ⊢
  rw [show y' = ix2 (y' 0) (y' 1) from by pointwise]
  refine (marks_row x y _ (posn t (y' 0)) (grp t) (y' 0) (y' 1) (weight_row m c t x y (y' 0) _ _ _ _ _
    (probs_row m c t x y hx hk 0 _ (y' 0)) (probs_row m c t x y hx hk 1 _ (y' 0)) (probs_row m c t x y hx hk 2 _ (y' 0))
    (probs_row m c t x y hx hk 3 _ (y' 0)) (probs_row m c t x y hx hk 4 _ (y' 0)))).trans ?_
  exact chosen_at x y _ _ _ _ _ (by dsimp only [posn]; omega) (by dsimp only [grp]; omega)

end Cert.CmpIdeal.Block

end
-- ==== Proof.CmpRef.lean ====
/-
  THE REFERENCE'S TWO RESULTS. The composed terms of the reference are the staged functions below: which rows are
  visible, the scores, the probabilities, the heads' results; the importances, the blocks filled in, the sixteen heaviest
  and the blocks among them. Read at an entry, the results are the functions of CmpSpec.lean.
-/
module

public import proofs.«01_k».proof.Proof.Gen.CmpReferenceIdeal.Run
public import Idealize.ShloMosaic.Lib.Pointwise
public import Idealize.ShloMosaic.Lib.ReduceAll
public import proofs.«01_k».proof.Proof.CmpSpec

@[expose] public section

set_option maxRecDepth 16384

noncomputable section

namespace Cert.CmpReferenceIdeal.Stage

open Idealize.ShloMosaic Idealize.ShloMosaic.TcCoe Idealize.SL.Sem Cert.CmpReferenceIdeal Cert.CmpReferenceIdeal.Gen

/-- The first position of a row's span. -/
def start : IVec S1024 32 := muli (iotaInDim S1024 32 0) (broadcastInDim S1024 ![] bcast_S_S1024 (constantI S_ 32 16#32))

/-- Which rows are visible. -/
def vis : IVec S16384x1024 1 :=
  cmpi .sle (broadcastInDim S16384x1024 ![0, 1] bcast_S1x1024_S16384x1024_0_1 (addi (broadcastInDim S1x1024 ![1] bcast_S1024_S1x1024_1 start)
      (broadcastInDim S1x1024 ![] bcast_S_S1x1024 (constantI S_ 32 31#32))))
    (broadcastInDim S16384x1024 ![0, 1] bcast_S16384x1_S16384x1024_0_1 (broadcastInDim S16384x1 ![0] bcast_S16384_S16384x1_0 (iotaInDim S16384 32 0)))

def vis4 : IVec S1x16384x1x1024 1 := broadcastInDim S1x16384x1x1024 ![1, 3] bcast_S16384x1024_S1x16384x1x1024_1_3 vis

variable (a : FVec Ideal S16384x10752 .bf16) (k v : FVec Ideal S4096x128 .bf16)

def queries : FVec Ideal S16384x4x5x128 .f32 :=
  shapeCast _ (extf .f32 (extractStridedSlice S16384x2560 ![0, 0] a slices_S16384x10752_S16384x2560_0_0) bitsLt_bf16_f32) shapeCasts_S16384x2560_S16384x4x5x128

def rows : FVec Ideal S4x1024x128 .f32 := shapeCast _ (extf .f32 k bitsLt_bf16_f32) shapeCasts_S4096x128_S4x1024x128

def raw : FVec Ideal S4x16384x5x1024 .f32 :=
  Host.dotGeneral dot_S16384x4x5x128_S4x1024x128_S4x16384x5x1024_3_2_02_1_1_0 none (queries a) (rows k)

def scores : FVec Ideal S4x16384x5x1024 .f32 :=
  select (broadcastInDim S4x16384x5x1024 ![0, 1, 2, 3] bcast_S1x16384x1x1024_S4x16384x5x1024_0_1_2_3 vis4)
    (mulf (raw a k) (broadcastInDim S4x16384x5x1024 ![] bcast_S_S4x16384x5x1024 (Host.log (constant S_ .f32 0x40000000#32))))
    (broadcastInDim S4x16384x5x1024 ![] bcast_S_S4x16384x5x1024 (id (constant S_ .f32 0xFF800000#32)))

variable (s : FVec Ideal S4x16384x5x1024 .f32) (b : FVec Ideal S4x16384x5 .f32)

def top : FVec Ideal S4x16384x5 .f32 := Host.reduce FloatOps.maximumf s (constant S_ .f32 0xFF800000#32) reducesTo_S4x16384x5x1024_S4x16384x5_d3 h_S_

def expd : FVec Ideal S4x16384x5x1024 .f32 :=
  Host.exp (subf s (broadcastInDim S4x16384x5x1024 ![0, 1, 2, 3] bcast_S4x16384x5x1_S4x16384x5x1024_0_1_2_3 (broadcastInDim S4x16384x5x1 ![0, 1, 2] bcast_S4x16384x5_S4x16384x5x1_0_1_2
    (maximumf (broadcastInDim S4x16384x5 ![] bcast_S_S4x16384x5 (constant S_ .f32 0xFF800000#32)) b))))

def total : FVec Ideal S4x16384x5 .f32 := Host.reduceAdd s (constant S_ .f32 0x00000000#32) reducesTo_S4x16384x5x1024_S4x16384x5_d3 h_S_

def quot : FVec Ideal S4x16384x5x1024 .f32 :=
  mulf (Host.divf s (broadcastInDim S4x16384x5x1024 ![0, 1, 2, 3] bcast_S4x16384x5x1_S4x16384x5x1024_0_1_2_3 (broadcastInDim S4x16384x5x1 ![0, 1, 2] bcast_S4x16384x5_S4x16384x5x1_0_1_2 b)))
    (broadcastInDim S4x16384x5x1024 ![0, 1, 2, 3] bcast_S1x16384x1x1024_S4x16384x5x1024_0_1_2_3 (uitofp .f32 vis4))

def probs : FVec Ideal S4x16384x5x1024 .f32 := quot (expd s (top s)) (total (expd s (top s)))

def mix (w : FVec Ideal S4x1024x128 .f32) : FVec Ideal S16384x2560 .bf16 :=
  truncf .bf16 (shapeCast _ (transpose S16384x4x5x128 [1, 0, 2, 3] (Host.dotGeneral dot_S4x16384x5x1024_S4x1024x128_S4x16384x5x128_3_1_12_2_0_0 none
    s w) transposes_S4x16384x5x128_S16384x4x5x128_1_0_2_3) shapeCasts_S16384x4x5x128_S16384x2560) bitsLt_bf16_f32

/-- Which rows' spans meet which blocks. -/
def blocks : IVec S256 32 := muli (iotaInDim S256 32 0) (broadcastInDim S256 ![] bcast_S_S256 (constantI S_ 32 64#32))

def meets : FVec Ideal S1024x256 .f32 :=
  uitofp .f32 (andi
    (cmpi .slt (broadcastInDim S1024x256 ![0, 1] bcast_S1024x1_S1024x256_0_1 (broadcastInDim S1024x1 ![0] bcast_S1024_S1024x1_0 start))
      (broadcastInDim S1024x256 ![0, 1] bcast_S1x256_S1024x256_0_1 (addi (broadcastInDim S1x256 ![1] bcast_S256_S1x256_1 blocks)
        (broadcastInDim S1x256 ![] bcast_S_S1x256 (constantI S_ 32 64#32)))))
    (cmpi .sgt (broadcastInDim S1024x256 ![0, 1] bcast_S1024x1_S1024x256_0_1 (addi (broadcastInDim S1024x1 ![0] bcast_S1024_S1024x1_0 start)
        (broadcastInDim S1024x1 ![] bcast_S_S1024x1 (constantI S_ 32 32#32))))
      (broadcastInDim S1024x256 ![0, 1] bcast_S1x256_S1024x256_0_1 (broadcastInDim S1x256 ![1] bcast_S256_S1x256_1 blocks))))

/-- The importances. -/
def imp : FVec Ideal S4x16384x256 .f32 :=
  Host.dotGeneral dot_S4x16384x1024_S1024x256_S4x16384x256_2_0_01_1_n_n none
    (Host.reduceAdd s (constant S_ .f32 0x00000000#32) reducesTo_S4x16384x5x1024_S4x16384x1024_d2 h_S_) meets

def jj : IVec S1x256 32 := broadcastInDim S1x256 ![1] bcast_S256_S1x256_1 (iotaInDim S256 32 0)

/-- A position's block. -/
def own : IVec S16384 32 :=
  select (andi (cmpi .ne (signi (iotaInDim S16384 32 0)) (broadcastInDim S16384 ![] bcast_S_S16384 (signi (id (constantI S_ 32 64#32)))))
      (cmpi .ne (Host.remsi (iotaInDim S16384 32 0) (broadcastInDim S16384 ![] bcast_S_S16384 (id (constantI S_ 32 64#32))))
        (broadcastInDim S16384 ![] bcast_S_S16384 (constantI S_ 32 0#32))))
    (subi (Host.divsi (iotaInDim S16384 32 0) (broadcastInDim S16384 ![] bcast_S_S16384 (id (constantI S_ 32 64#32))))
      (broadcastInDim S16384 ![] bcast_S_S16384 (constantI S_ 32 1#32)))
    (Host.divsi (iotaInDim S16384 32 0) (broadcastInDim S16384 ![] bcast_S_S16384 (id (constantI S_ 32 64#32))))

def ownc : IVec S16384x1 32 := broadcastInDim S16384x1 ![0] bcast_S16384_S16384x1_0 own

def jjb : IVec S16384x256 32 := broadcastInDim S16384x256 ![0, 1] bcast_S1x256_S16384x256_0_1 jj

def forced : IVec S16384x256 1 :=
  ori (ori (broadcastInDim S16384x256 ![0, 1] bcast_S1x256_S16384x256_0_1 (cmpi .eq jj (broadcastInDim S1x256 ![] bcast_S_S1x256 (constantI S_ 32 0#32))))
      (cmpi .eq jjb (broadcastInDim S16384x256 ![0, 1] bcast_S16384x1_S16384x256_0_1 ownc)))
    (cmpi .eq jjb (broadcastInDim S16384x256 ![0, 1] bcast_S16384x1_S16384x256_0_1
      (subi ownc (broadcastInDim S16384x1 ![] bcast_S_S16384x1 (constantI S_ 32 1#32)))))

variable (w : FVec Ideal S4x16384x256 .f32)

/-- The importances with the blocks filled in. -/
def fill : FVec Ideal S4x16384x256 .f32 :=
  select (broadcastInDim S4x16384x256 ![1, 2] bcast_S16384x256_S4x16384x256_1_2 forced)
    (broadcastInDim S4x16384x256 ![] bcast_S_S4x16384x256 (id (constant S_ .f32 0x4E6E6B28#32)))
    (select (broadcastInDim S4x16384x256 ![1, 2] bcast_S16384x256_S4x16384x256_1_2
        (cmpi .sle jjb (broadcastInDim S16384x256 ![0, 1] bcast_S16384x1_S16384x256_0_1 ownc)))
      w (broadcastInDim S4x16384x256 ![] bcast_S_S4x16384x256 (id (constant S_ .f32 0xCE6E6B28#32))))

/-- The sixteen heaviest blocks' weights and numbers. -/
def heaviest : FVec Ideal S4x16384x16 .f32 := (Host.topK S4x16384x16 2 (FloatOps.cmpfTotal .gt) w sliceFits_S4x16384x256_S4x16384x16).1
def which : IVec S4x16384x16 32 := (Host.topK S4x16384x16 2 (FloatOps.cmpfTotal .gt) w sliceFits_S4x16384x256_S4x16384x16).2

/-- Which of the sixteen is which block, those never in left out. -/
def onehot : IVec S4x16384x16x256 1 :=
  andi (cmpi .eq
      (broadcastInDim S4x16384x16x256 ![0, 1, 2, 3] bcast_S4x16384x16x1_S4x16384x16x256_0_1_2_3 (broadcastInDim S4x16384x16x1 ![0, 1, 2] bcast_S4x16384x16_S4x16384x16x1_0_1_2 (which w)))
      (broadcastInDim S4x16384x16x256 ![0, 1, 2, 3] bcast_S1x1x1x256_S4x16384x16x256_0_1_2_3 (broadcastInDim S1x1x1x256 ![3] bcast_S256_S1x1x1x256_3 (shapeCast S256 jj shapeCasts_S1x256_S256))))
    (broadcastInDim S4x16384x16x256 ![0, 1, 2, 3] bcast_S4x16384x16x1_S4x16384x16x256_0_1_2_3 (broadcastInDim S4x16384x16x1 ![0, 1, 2] bcast_S4x16384x16_S4x16384x16x1_0_1_2
      (cmpf .ogt (heaviest w) (broadcastInDim S4x16384x16 ![] bcast_S_S4x16384x16 (constant S_ .f32 0xCDEE6B28#32)))))

def anyof (o : IVec S4x16384x16x256 1) : IVec S4x16384x256 1 :=
  Host.reduce IntOp.ori o (constantI S_ 1 0#1) reducesTo_S4x16384x16x256_S4x16384x256_d2 h_S_

def flat (o : IVec S4x16384x256 1) : FVec Ideal S16384x1024 .bf16 :=
  uitofp .bf16 (shapeCast S16384x1024 (transpose S16384x4x256 [1, 0, 2] o transposes_S4x16384x256_S16384x4x256_1_0_2) shapeCasts_S16384x4x256_S16384x1024)

def result0 : FVec Ideal S16384x2560 .bf16 := mix (probs (scores a k)) (rows v)
def result1 : FVec Ideal S16384x1024 .bf16 := flat (anyof (onehot (fill (imp (probs (scores a k))))))

theorem res0_eq (m : (ℓ : Loc nD τ sig) → Buf (Elt Ideal) ℓ) (c : Dev nD) :
    Value.res_out0 (F := Ideal) m c = result0 (m ((c.tc : Thread nD τ).loc main_arg0)) (m ((c.tc : Thread nD τ).loc main_arg1))
      (m ((c.tc : Thread nD τ).loc main_arg2)) := rfl

theorem res1_eq (m : (ℓ : Loc nD τ sig) → Buf (Elt Ideal) ℓ) (c : Dev nD) :
    Value.res_out1 (F := Ideal) m c = result1 (m ((c.tc : Thread nD τ).loc main_arg0)) (m ((c.tc : Thread nD τ).loc main_arg1)) := rfl

/-! The stages at an entry. -/

theorem bot_eq : Ideal.ofBits FTy.f32 0xFF800000#32 = ⊥ := by simp [Ideal.ofBits, Ideal.ieee]

theorem two_eq : Ideal.log (Ideal.ofBits FTy.f32 0x40000000#32) = (Real.log 2 : ℝ) := by
  have e : Ideal.ofBits FTy.f32 0x40000000#32 = ((2 : ℝ) : EReal) := by
    simp [Ideal.ofBits, Ideal.ieee]
    rw [← EReal.coe_mul]
    norm_num
  rw [e, Ideal.log_coe, if_neg (by norm_num)]

theorem bit_eq (b : BitVec 1) (p : Prop) [Decidable p] (h : b = 1#1 ↔ p) : b = if p then 1#1 else 0#1 := by
  split
  · exact h.mpr ‹_›
  · have := mt h.mp ‹_›
    clear h
    revert b
    decide

theorem vis_eq (t : Fin 16384) (c : Fin 1024) : vis (ix2 t c) = 1#1 ↔ CmpSpec.sees t c := by
  have e : IntOp.addi (IntOp.muli (BitVec.ofNat 32 c.val) 16#32) 31#32 = BitVec.ofNat 32 (16 * c.val + 31) := by
    apply BitVec.eq_of_toNat_eq
    simp only [IntOp.addi, IntOp.muli, BitVec.toNat_add, BitVec.toNat_mul, BitVec.toNat_ofNat, Nat.reducePow, Nat.reduceMod]
    omega
  unfold vis start
  pointwise
  rw [IntOp.cmpi_sle, e, CmpSpec.toInt_small _ (by omega), CmpSpec.toInt_small _ (by omega)]
  unfold CmpSpec.sees
  omega

theorem queries_eq (t : Fin 16384) (g : Fin 4) (h : Fin 5) (d : Fin 128) :
    queries a (ix4 t g h d) = a (ix2 t (⟨g.val * 640 + h.val * 128 + d.val, by omega⟩ : Fin 10752)) := by
  pointwise [queries]

theorem rows_eq (g : Fin 4) (c : Fin 1024) (d : Fin 128) :
    rows k (ix3 g c d) = k (ix2 (⟨g.val * 1024 + c.val, by omega⟩ : Fin 4096) d) := by
  pointwise [rows]

theorem raw_eq (g : Fin 4) (t : Fin 16384) (h : Fin 5) (j : Fin 1024) :
    raw a k (ix4 g t h j) = ∑ d : Fin 128, queries a (ix4 t g h d) * rows k (ix3 g j d) := by
  pointwise [raw]

theorem scores_eq (g : Fin 4) (t : Fin 16384) (h : Fin 5) (j : Fin 1024) :
    scores a k (ix4 g t h j) = if CmpSpec.sees t j then raw a k (ix4 g t h j) * (Real.log 2 : ℝ) else ⊥ := by
  pointwise [scores, vis4]
  simp only [Scalar.select, two_eq, id]
  refine if_congr (vis_eq t j) ?_ ?_
  · rfl
  · exact bot_eq

theorem top_eq (g : Fin 4) (t : Fin 16384) (h : Fin 5) :
    top s (ix3 g t h) = Finset.univ.fold max ⊥ fun j : Fin 1024 => s (ix4 g t h j) := by
  pointwise [top]
  rw [bot_eq]

theorem expd_eq (g : Fin 4) (t : Fin 16384) (h : Fin 5) (j : Fin 1024) :
    expd s b (ix4 g t h j) = Ideal.exp (s (ix4 g t h j) - b (ix3 g t h)) := by
  pointwise [expd]
  rw [bot_eq, max_eq_right bot_le]

theorem total_eq (g : Fin 4) (t : Fin 16384) (h : Fin 5) :
    total s (ix3 g t h) = 0 + ∑ j, s (ix4 g t h j) := by
  rw [zero_add]
  pointwise [total]

theorem quot_eq (g : Fin 4) (t : Fin 16384) (h : Fin 5) (j : Fin 1024) :
    quot s b (ix4 g t h j) = Ideal.div (s (ix4 g t h j)) (b (ix3 g t h)) * (if CmpSpec.sees t j then 1 else 0) := by
  pointwise [quot, vis4]
  congr 1
  rw [bit_eq _ _ (vis_eq t j)]
  split <;> simp [FloatOps.uitofp]

theorem mix_eq (w : FVec Ideal S4x1024x128 .f32) (t : Fin 16384) (l : Fin 2560) :
    mix s w (ix2 t l) = ∑ j, s (ix4 (⟨l.val / 640, by omega⟩ : Fin 4) t (⟨l.val / 128 % 5, by omega⟩ : Fin 5) j)
      * w (ix3 (⟨l.val / 640, by omega⟩ : Fin 4) j (⟨l.val % 128, by omega⟩ : Fin 128)) := by
  pointwise [mix]

theorem meets_eq (c : Fin 1024) (j : Fin 256) : meets (ix2 c j) = if CmpSpec.meets c j then 1 else 0 := by
  have e₁ : IntOp.muli (BitVec.ofNat 32 c.val) 16#32 = BitVec.ofNat 32 (16 * c.val) := by
    apply BitVec.eq_of_toNat_eq
    simp only [IntOp.muli, BitVec.toNat_mul, BitVec.toNat_ofNat, Nat.reducePow, Nat.reduceMod]
    omega
  have e₂ : IntOp.muli (BitVec.ofNat 32 j.val) 64#32 = BitVec.ofNat 32 (64 * j.val) := by
    apply BitVec.eq_of_toNat_eq
    simp only [IntOp.muli, BitVec.toNat_mul, BitVec.toNat_ofNat, Nat.reducePow, Nat.reduceMod]
    omega
  have e₃ : IntOp.addi (BitVec.ofNat 32 (64 * j.val)) 64#32 = BitVec.ofNat 32 (64 * j.val + 64) := by
    apply BitVec.eq_of_toNat_eq
    simp only [IntOp.addi, BitVec.toNat_add, BitVec.toNat_ofNat, Nat.reducePow, Nat.reduceMod]
    omega
  have e₄ : IntOp.addi (BitVec.ofNat 32 (16 * c.val)) 32#32 = BitVec.ofNat 32 (16 * c.val + 32) := by
    apply BitVec.eq_of_toNat_eq
    simp only [IntOp.addi, BitVec.toNat_add, BitVec.toNat_ofNat, Nat.reducePow, Nat.reduceMod]
    omega
  unfold meets start blocks
  pointwise
  rw [e₁, e₂, e₃, e₄]
  refine (congrArg _ (bit_eq _ (CmpSpec.meets c j) ?_)).trans ?_
  · rw [IntOp.andi_eq_one, IntOp.cmpi_slt, IntOp.cmpi_sgt, CmpSpec.toInt_small _ (by omega), CmpSpec.toInt_small _ (by omega),
      CmpSpec.toInt_small _ (by omega), CmpSpec.toInt_small _ (by omega)]
    unfold CmpSpec.meets
    omega
  · split <;> simp [FloatOps.uitofp]

theorem imp_eq (g : Fin 4) (t : Fin 16384) (j : Fin 256) :
    imp s (ix3 g t j) = ∑ c : Fin 1024, (∑ h : Fin 5, s (ix4 g t h c)) * (if CmpSpec.meets c j then 1 else 0) := by
  simp only [← meets_eq]
  pointwise [imp]

theorem own_eq (t : Fin 16384) : own (ix1 t) = BitVec.ofNat 32 (t.val / 64) := by
  unfold own
  pointwise
  refine CmpSpec.floor_word _ t.val t.isLt _ fun hp => ?_
  have h0 : ¬BitVec.ofNat 32 t.val = 0 := fun e => by
    have := (CmpSpec.word_eq t.val 0 t.isLt (by omega)).1 e
    omega
  have hm : ¬(BitVec.ofNat 32 t.val).msb = true := by
    rw [Bool.not_eq_true, BitVec.msb_eq_false_iff_two_mul_lt, BitVec.toNat_ofNat]
    omega
  rw [if_neg h0]
  refine (congrArg (fun q => IntOp.cmpi .ne q _) (if_neg hm)).trans ?_
  rfl

theorem fill_eq (g : Fin 4) (t : Fin 16384) (j : Fin 256) :
    fill w (ix3 g t j) = CmpSpec.fill t.val (fun j => w (ix3 g t j)) j := by
  unfold fill forced jjb jj ownc
  pointwise
  simp only [own_eq]
  exact CmpSpec.fill_word t.val t.isLt (fun j => w (ix3 g t j)) j

/-- The weights of one position and group. -/
def row (g : Fin 4) (t : Fin 16384) (j : Fin 256) : EReal := w (ix3 g t j)

theorem along_eq (g : Fin 4) (t : Fin 16384) (i k : Fin 256) : (ix3 g t i).along 2 k = ix3 g t k := by
  funext d
  match d with
  | 0 => rfl
  | 1 => rfl
  | 2 => rfl

theorem heaviest_eq (g : Fin 4) (t : Fin 16384) (i : Fin 16) :
    heaviest w (ix3 g t i) = row w g t (CmpPick.pick (row w g t) (⟨i.val, by omega⟩ : Fin 256)) := by
  unfold heaviest Host.topK Host.sort2
  pointwise
  rw [along_eq]
  simp only [along_eq]
  rfl

theorem which_eq (g : Fin 4) (t : Fin 16384) (i : Fin 16) :
    which w (ix3 g t i) = BitVec.ofNat 32 (CmpPick.pick (row w g t) (⟨i.val, by omega⟩ : Fin 256)).val := by
  unfold which Host.topK Host.sort2
  pointwise
  rw [along_eq]
  simp only [along_eq]
  rfl

theorem onehot_eq (g : Fin 4) (t : Fin 16384) (i : Fin 16) (j : Fin 256) :
    onehot w (ix4 g t i j) = 1#1 ↔ (CmpPick.pick (row w g t) (⟨i.val, by omega⟩ : Fin 256) = j
      ∧ CmpSpec.bar < row w g t (CmpPick.pick (row w g t) (⟨i.val, by omega⟩ : Fin 256))) := by
  unfold onehot jj
  pointwise
  rw [IntOp.andi_eq_one, heaviest_eq, which_eq, IntOp.cmpi_eq, CmpSpec.word_eq _ _ (by omega) (by omega), Fin.ext_iff]
  refine and_congr Iff.rfl ?_
  by_cases h : CmpSpec.bar < row w g t (CmpPick.pick (row w g t) (⟨i.val, by omega⟩ : Fin 256)) <;> simp [h]

theorem fold_ori {n : ℕ} (f : Fin n → BitVec 1) (S : Finset (Fin n)) :
    S.fold IntOp.ori 0#1 f = 1#1 ↔ ∃ i ∈ S, f i = 1#1 := by
  classical
  induction S using Finset.induction_on with
  | empty => simp
  | insert a S ha ih =>
    rw [Finset.fold_insert ha]
    have e : ∀ p q : BitVec 1, IntOp.ori p q = 1#1 ↔ p = 1#1 ∨ q = 1#1 := by decide
    rw [e, ih]
    simp

theorem anyof_eq (o : IVec S4x16384x16x256 1) (g : Fin 4) (t : Fin 16384) (j : Fin 256) :
    anyof o (ix3 g t j) = 1#1 ↔ ∃ i : Fin 16, o (ix4 g t i j) = 1#1 := by
  unfold anyof
  pointwise
  rw [fold_ori]
  simp

theorem flat_eq (o : IVec S4x16384x256 1) (t : Fin 16384) (l : Fin 1024) :
    flat o (ix2 t l) = FloatOps.uitofp .bf16 (o (ix3 (⟨l.val / 256, by omega⟩ : Fin 4) t (⟨l.val % 256, by omega⟩ : Fin 256))) := by
  pointwise [flat]

open Classical in
/-- The marks of one position and group. -/
theorem marks_eq (t : Fin 16384) (l : Fin 1024) :
    flat (anyof (onehot w)) (ix2 t l)
      = if ∃ i : Fin 256, i.val < 16 ∧ CmpPick.pick (row w (⟨l.val / 256, by omega⟩ : Fin 4) t) i = (⟨l.val % 256, by omega⟩ : Fin 256)
          ∧ CmpSpec.bar < row w (⟨l.val / 256, by omega⟩ : Fin 4) t (CmpPick.pick (row w (⟨l.val / 256, by omega⟩ : Fin 4) t) i)
        then 1 else 0 := by
  rw [flat_eq]
  generalize (⟨l.val / 256, by omega⟩ : Fin 4) = g
  generalize (⟨l.val % 256, by omega⟩ : Fin 256) = j
  have h : anyof (onehot w) (ix3 g t j) = 1#1 ↔ ∃ i : Fin 256, i.val < 16 ∧ CmpPick.pick (row w g t) i = j
      ∧ CmpSpec.bar < row w g t (CmpPick.pick (row w g t) i) := by
    rw [anyof_eq]
    constructor
    · rintro ⟨i, hi⟩
      exact ⟨⟨i.val, by omega⟩, i.isLt, (onehot_eq w g t i j).1 hi⟩
    · rintro ⟨i, hi, h⟩
      exact ⟨⟨i.val, hi⟩, (onehot_eq w g t ⟨i.val, hi⟩ j).2 h⟩
  generalize anyof (onehot w) (ix3 g t j) = b at h ⊢
  rw [bit_eq b _ h]
  split <;> simp [FloatOps.uitofp]

/-- A choice does not depend on how its condition is decided. -/
theorem ite_any (P : Prop) (d d' : Decidable P) (u v : EReal) : @ite _ P d u v = @ite _ P d' u v := by
  obtain rfl := Subsingleton.elim d d'
  rfl

open Classical in
/-- The same, for a row whose weights are known by another name. -/
theorem marks_of (t : Fin 16384) (l : Fin 1024) (W : Fin 256 → EReal) (h : row w (⟨l.val / 256, by omega⟩ : Fin 4) t = W) :
    flat (anyof (onehot w)) (ix2 t l)
      = if ∃ i : Fin 256, i.val < 16 ∧ CmpPick.pick W i = (⟨l.val % 256, by omega⟩ : Fin 256)
          ∧ CmpSpec.bar < W (CmpPick.pick W i) then 1 else 0 := by
  subst h
  exact marks_eq w t l

/-! The results. -/

variable (x : Fin 16384 → Fin 10752 → ℝ) (y : Fin 4096 → Fin 128 → ℝ) (hx : ∀ t l, a (ix2 t l) = (x t l : EReal))
  (hk : ∀ r d, k (ix2 r d) = (y r d : EReal))

include hx hk

theorem probs_eq (g : Fin 4) (t : Fin 16384) (h : Fin 5) (c : Fin 1024) :
    probs (scores a k) (ix4 g t h c) = (CmpSpec.prob x y t g h c : EReal) := by
  unfold probs
  simp only [quot_eq, total_eq, expd_eq, top_eq]
  refine CmpRow.reference_prob (CmpSpec.sees t) (CmpSpec.score x y t g h) (fun c => scores a k (ix4 g t h c))
    (fun c => if CmpSpec.sees t c then 1 else 0) (fun c => ?_) (fun c => rfl) c
  rw [scores_eq, raw_eq]
  refine if_congr Iff.rfl (congrArg (· * _) ?_) rfl
  unfold CmpSpec.score
  rw [← Row.sum_coe]
  refine Finset.sum_congr rfl fun d _ => ?_
  rw [queries_eq, rows_eq, hx, hk, EReal.coe_mul]

theorem result0_eq (t : Fin 16384) (l : Fin 2560) :
    result0 a k v (ix2 t l) = CmpSpec.mean x y (fun r d => v (ix2 r d)) t (⟨l.val / 640, by omega⟩ : Fin 4)
      (⟨l.val / 128 % 5, by omega⟩ : Fin 5) (⟨l.val % 128, by omega⟩ : Fin 128) := by
  unfold result0 CmpSpec.mean
  rw [mix_eq]
  simp only [probs_eq a k x y hx hk, rows_eq]

theorem weight_eq (g : Fin 4) (t : Fin 16384) : row (fill (imp (probs (scores a k)))) g t = CmpSpec.weight x y t g := by
  funext j
  unfold row
  rw [fill_eq]
  unfold CmpSpec.weight
  refine congrArg (fun f => CmpSpec.fill t.val f j) (funext fun j => ?_)
  rw [imp_eq]
  simp only [probs_eq a k x y hx hk, Row.sum_coe]
  unfold CmpSpec.imp
  rw [← Row.sum_coe]
  refine Finset.sum_congr rfl fun c _ => ?_
  split <;> simp

theorem result1_eq (t : Fin 16384) (l : Fin 1024) :
    result1 a k (ix2 t l) = CmpSpec.chosen x y t (⟨l.val / 256, by omega⟩ : Fin 4) (⟨l.val % 256, by omega⟩ : Fin 256) := by
  have e := weight_eq a k x y hx hk (⟨l.val / 256, by omega⟩ : Fin 4) t
  have h2 := marks_of (fill (imp (probs (scores a k)))) t l _ e
  unfold CmpSpec.chosen
  refine Eq.trans ?_ (h2.trans ?_)
  · unfold result1; rfl
  · exact ite_any _ _ _ _ _

end Cert.CmpReferenceIdeal.Stage

end
-- ==== Proof.CmpClaim.lean ====
/-
  THE CLAIMS OF THE COMPRESSED ATTENTION. On arguments whose queries and keys are real numbers, both results of the
  kernel and of the reference are functions of the arguments that CmpSpec.lean writes out; the values may be anything.
-/
module

public import proofs.«01_k».proof.Defs
public import proofs.«01_k».proof.Proof.Gen.Cmp.Frame
public import proofs.«01_k».proof.Proof.Gen.CmpIdeal.Frame
public import proofs.«01_k».proof.Proof.Gen.Pre_finite_keys
public import proofs.«01_k».proof.Proof.CmpBlock
public import proofs.«01_k».proof.Proof.CmpRef
public import Idealize.ShloMosaic.Lib.ReduceAll
public import Idealize.ShloMosaic.Lib.Quiescent

@[expose] public section

noncomputable section

namespace Cert.Proof.Cmp

open Idealize.ShloMosaic Idealize.ShloMosaic.TcCoe Idealize.SL.Sem

/-- An entry whose size is below infinity is a real number. -/
theorem real_of_small (v : EReal) (h : FloatOps.cmpf (F := Ideal) (φ := .f32) .olt (FloatOps.absf (F := Ideal) (φ := .f32) v)
    (FloatOps.ofBits (F := Ideal) .f32 0x7F800000#32) = 1#1) :
    ∃ r : ℝ, v = (r : EReal) := by
  have e : Ideal.ofBits FTy.f32 0x7F800000#32 = ⊤ := by simp [Ideal.ofBits, Ideal.ieee]
  rw [show FloatOps.ofBits (F := Ideal) .f32 0x7F800000#32 = (⊤ : EReal) from e] at h
  have h3 : max v (-v) < ⊤ := by
    by_contra hn
    have h' : BitVec.ofBool (decide (FloatOps.absf (F := Ideal) (φ := .f32) v < (⊤ : EReal))) = 1#1 := h
    rw [show decide (FloatOps.absf (F := Ideal) (φ := .f32) v < (⊤ : EReal)) = false from decide_eq_false hn] at h'
    exact absurd h' (by decide)
  match v, h3 with
  | ⊥, h3 => simp at h3
  | ⊤, h3 => simp at h3
  | (r : ℝ), _ => exact ⟨r, rfl⟩

/-- Under the precondition every entry of the queries and of the keys is a real number. -/
theorem real_of_pre (a : FVec Ideal Cert.Pre_finite_keys.S16384x10752 .bf16) (k v : FVec Ideal Cert.Pre_finite_keys.S4096x128 .bf16)
    (h : Cert.Pre_finite_keys.fn (F := Ideal) a k v = fun _ => 1#1) :
    (∃ x : Fin 16384 → Fin 10752 → ℝ, ∀ t l, a (ix2 t l) = (x t l : EReal))
      ∧ ∃ y : Fin 4096 → Fin 128 → ℝ, ∀ r d, k (ix2 r d) = (y r d : EReal) := by
  have h0 := congrFun h ix0
  dsimp only [Cert.Pre_finite_keys.fn] at h0
  obtain ⟨ha, hk⟩ := IntOp.andi_eq_one.1 h0
  constructor
  · suffices ∀ t l, ∃ r : ℝ, a (ix2 t l) = (r : EReal) by choose x hx using this; exact ⟨x, hx⟩
    intro t l
    exact real_of_small _ (Host.reduce_andi_all _ _ _ _ _ ha (ix2 t l))
  · suffices ∀ r d, ∃ z : ℝ, k (ix2 r d) = (z : EReal) by choose y hy using this; exact ⟨y, hy⟩
    intro r d
    exact real_of_small _ (Host.reduce_andi_all _ _ _ _ _ hk (ix2 r d))

theorem frame_p : Cert.quiescent_Cmp := fun m ρ _ => Cert.Cmp.Gen.frame m ρ
theorem frame_pi : Cert.quiescent_CmpIdeal := fun m ρ _ => Cert.CmpIdeal.Gen.frame m ρ
theorem frame_pi_pre : Cert.quiescent_CmpIdeal_pre_finite_keys := fun m ρ _ => Cert.CmpIdeal.Gen.frame m ρ
theorem frame_ri : Cert.quiescent_CmpReferenceIdeal := fun m ρ _ =>
  (θ_run Cert.CmpReferenceIdeal.defs _ _).mono (fun r h => ⟨fun c => (h c).2.2, sem_eq_zero_of_no_sems (by decide) r.2⟩)
    (Cert.CmpReferenceIdeal.Value.run (F := Ideal) m ρ)
theorem frame_ri_pre : Cert.quiescent_CmpReferenceIdeal_pre_finite_keys := fun m ρ _ => frame_ri m ρ trivial

/-- The mask's fill is the table's `-∞`. -/
theorem preserves : Cert.preserves_Cmp_CmpIdeal :=
  IdealRules.named_const.statement Cert.CmpIdeal.κ "mask" .f32 0xF149F2CA#32 ⊥ rfl

theorem algebraic : Cert.algebraic_CmpIdeal_CmpReferenceIdeal_pre_finite_keys := by
  intro m ρ m' ρ' hpre hagree
  refine ⟨_, _, Cert.CmpIdeal.Value.run_blocks (F := Ideal) m ρ, ?_⟩
  refine (θ_run Cert.CmpReferenceIdeal.defs _ _).mono (fun _ h c => ⟨(h c).1.trans ?_, (h c).2.1.trans ?_, (h c).2.2⟩)
    (Cert.CmpReferenceIdeal.Value.run (F := Ideal) m' ρ')
  · obtain ⟨⟨x, hx⟩, y, hy⟩ := real_of_pre _ _ _ (hpre c)
    refine (Cert.CmpReferenceIdeal.Stage.res0_eq m' c).trans ?_
    rw [(hagree c).1, (hagree c).2.1, (hagree c).2.2]
    refine Eq.trans ?_ (Cert.CmpIdeal.Block.final4 m c x y hx hy).symm
    funext i
    obtain ⟨t, l, rfl⟩ : ∃ t l, i = ix2 t l := ⟨i 0, i 1, by pointwise⟩
    exact Cert.CmpReferenceIdeal.Stage.result0_eq _ _ _ x y hx hy t l
  · obtain ⟨⟨x, hx⟩, y, hy⟩ := real_of_pre _ _ _ (hpre c)
    refine (Cert.CmpReferenceIdeal.Stage.res1_eq m' c).trans ?_
    rw [(hagree c).1, (hagree c).2.1]
    refine Eq.trans ?_ (Cert.CmpIdeal.Block.final5 m c x y hx hy).symm
    funext i
    obtain ⟨t, l, rfl⟩ : ∃ t l, i = ix2 t l := ⟨i 0, i 1, by pointwise⟩
    exact Cert.CmpReferenceIdeal.Stage.result1_eq _ _ x y hx hy t l

end Cert.Proof.Cmp

end
-- ==== Proof.DilRow.lean ====
/-
  ONE ROW OF MASKED SOFTMAX ATTENTION WITH ITS LOGARITHM, over the extended reals. A row has finitely many keys, some of
  them visible, each with a real score and a real value. `soft` is the mean of the visible keys' values with weights
  `e ^ score`, `lse` the logarithm of the sum of those weights. `kernel_row` divides once at the end, `reference_row`
  divides every weight; both subtract the row's maximum first. `lse_row` is the logarithm either way. The reindexing
  lemmas change the set of keys.
-/
module

public import proofs.«01_k».proof.Proof.Row

@[expose] public section

noncomputable section

namespace Cert.DilRow

open Idealize.ShloMosaic Cert.Row

variable {ι κ : Type} [Fintype ι] [Fintype κ]

/-- The sum of the visible weights. -/
def den (M : ι → Prop) [DecidablePred M] (x : ι → ℝ) : ℝ := ∑ c, if M c then Real.exp (x c) else 0

/-- The mean of the visible keys' values. -/
def soft (M : ι → Prop) [DecidablePred M] (x v : ι → ℝ) : ℝ := (∑ c, if M c then Real.exp (x c) * v c else 0) / den M x

/-- The logarithm of the sum of the visible weights. -/
def lse (M : ι → Prop) [DecidablePred M] (x : ι → ℝ) : ℝ := Real.log (den M x)

theorem den_pos (M : ι → Prop) [DecidablePred M] (hne : ∃ c, M c) (x : ι → ℝ) : 0 < den M x :=
  weights_pos M hne (fun c => Real.exp (x c)) fun _ => Real.exp_pos _

/-- The weights less their row's maximum: a common positive factor times the weights. -/
theorem shifted (M : ι → Prop) [DecidablePred M] (hne : ∃ c, M c) (x : ι → ℝ) (s : ι → EReal)
    (hs : ∀ c, s c = if M c then (x c : EReal) else ⊥) :
    ∃ μ : ℝ, Finset.univ.fold max ⊥ s = (μ : EReal)
      ∧ (∀ c, Ideal.exp (s c - (μ : EReal)) = (((if M c then Real.exp (x c) else 0) * Real.exp (-μ) : ℝ) : EReal))
      ∧ ∑ c, Ideal.exp (s c - (μ : EReal)) = ((den M x * Real.exp (-μ) : ℝ) : EReal) := by
  obtain rfl : s = fun c => if M c then (x c : EReal) else ⊥ := funext hs
  obtain ⟨μ, hμ⟩ := max_real M hne x
  have he : ∀ c, Ideal.exp ((if M c then (x c : EReal) else ⊥) - (μ : EReal))
      = (((if M c then Real.exp (x c) else 0) * Real.exp (-μ) : ℝ) : EReal) := fun c => by
    split
    · rw [← EReal.coe_sub, Ideal.exp_coe, sub_eq_add_neg, Real.exp_add]
    · rw [EReal.bot_sub, Ideal.exp_bot, zero_mul, EReal.coe_zero]
  refine ⟨μ, hμ, he, ?_⟩
  simp only [he, sum_coe, ← Finset.sum_mul]
  rfl

/-- The kernel's row: the product with the values divided once. -/
theorem kernel_row (M : ι → Prop) [DecidablePred M] (hne : ∃ c, M c) (x v : ι → ℝ) (s : ι → EReal)
    (hs : ∀ c, s c = if M c then (x c : EReal) else ⊥) :
    Ideal.div (∑ c, Ideal.exp (s c - Finset.univ.fold max ⊥ s) * (v c : EReal))
      (∑ c, Ideal.exp (s c - Finset.univ.fold max ⊥ s)) = (soft M x v : EReal) := by
  obtain ⟨μ, hμ, he, hd⟩ := shifted M hne x s hs
  rw [hμ, hd]
  have hp := den_pos M hne x
  have ha := Real.exp_pos (-μ)
  have hne' : den M x * Real.exp (-μ) ≠ 0 := (mul_pos hp ha).ne'
  simp only [he, ← EReal.coe_mul, sum_coe]
  rw [Ideal.div_coe hne', ← EReal.coe_mul]
  refine congrArg _ ?_
  have h₁ : (∑ c, (if M c then Real.exp (x c) else 0) * Real.exp (-μ) * v c)
      = (∑ c, if M c then Real.exp (x c) * v c else 0) * Real.exp (-μ) := by
    rw [Finset.sum_mul]
    exact Finset.sum_congr rfl fun c _ => by split <;> ring
  rw [h₁, mul_one_div, mul_div_mul_right _ _ ha.ne', soft]

/-- The reference's row: every weight divided. -/
theorem reference_row (M : ι → Prop) [DecidablePred M] (hne : ∃ c, M c) (x v : ι → ℝ) (s : ι → EReal)
    (hs : ∀ c, s c = if M c then (x c : EReal) else ⊥) :
    ∑ c, Ideal.div (Ideal.exp (s c - Finset.univ.fold max ⊥ s)) (∑ c, Ideal.exp (s c - Finset.univ.fold max ⊥ s))
      * (v c : EReal) = (soft M x v : EReal) := by
  obtain ⟨μ, hμ, he, hd⟩ := shifted M hne x s hs
  rw [hμ, hd]
  have hp := den_pos M hne x
  have ha := Real.exp_pos (-μ)
  have hne' : den M x * Real.exp (-μ) ≠ 0 := (mul_pos hp ha).ne'
  simp only [he, Ideal.div_coe hne', ← EReal.coe_mul, sum_coe]
  refine congrArg _ ?_
  rw [soft, Finset.sum_div]
  refine Finset.sum_congr rfl fun c _ => ?_
  rw [mul_one_div, mul_div_mul_right _ _ ha.ne']
  split
  · ring
  · simp

/-- The maximum plus the logarithm of the sum of the shifted weights. -/
theorem lse_row (M : ι → Prop) [DecidablePred M] (hne : ∃ c, M c) (x : ι → ℝ) (s : ι → EReal)
    (hs : ∀ c, s c = if M c then (x c : EReal) else ⊥) :
    Finset.univ.fold max ⊥ s + Ideal.log (∑ c, Ideal.exp (s c - Finset.univ.fold max ⊥ s)) = (lse M x : EReal) := by
  obtain ⟨μ, hμ, he, hd⟩ := shifted M hne x s hs
  rw [hμ, hd]
  have hp := den_pos M hne x
  have ha := Real.exp_pos (-μ)
  rw [Ideal.log_coe, if_neg (not_le.mpr (mul_pos hp ha)), ← EReal.coe_add, Real.log_mul hp.ne' ha.ne', Real.log_exp, lse]
  refine congrArg _ ?_
  ring

theorem sum_reindex (M : ι → Prop) [DecidablePred M] (N : κ → Prop) [DecidablePred N] (x : ι → ℝ) (y : κ → ℝ)
    (f : ι → κ) (g : κ → ι) (hf : ∀ c, M c → N (f c)) (hg : ∀ d, N d → M (g d)) (hgf : ∀ c, M c → g (f c) = c)
    (hfg : ∀ d, N d → f (g d) = d) (hx : ∀ c, M c → x c = y (f c)) :
    (∑ c, if M c then x c else 0) = ∑ d, if N d then y d else 0 := by
  simp only [← Finset.sum_filter]
  refine Finset.sum_bij' (fun c _ => f c) (fun d _ => g d) ?_ ?_ ?_ ?_ ?_
  all_goals simp only [Finset.mem_filter, Finset.mem_univ, true_and]
  · exact hf
  · exact hg
  · exact hgf
  · exact hfg
  · exact hx

/-- Two rows of keys whose visible parts correspond, with equal scores, have one sum of weights. -/
theorem den_reindex (M : ι → Prop) [DecidablePred M] (N : κ → Prop) [DecidablePred N] (x : ι → ℝ) (y : κ → ℝ)
    (f : ι → κ) (g : κ → ι) (hf : ∀ c, M c → N (f c)) (hg : ∀ d, N d → M (g d)) (hgf : ∀ c, M c → g (f c) = c)
    (hfg : ∀ d, N d → f (g d) = d) (hx : ∀ c, M c → x c = y (f c)) : den M x = den N y :=
  sum_reindex M N (fun c => Real.exp (x c)) (fun d => Real.exp (y d)) f g hf hg hgf hfg fun c hc => by rw [hx c hc]

/-- With equal values too, one mean. -/
theorem soft_reindex (M : ι → Prop) [DecidablePred M] (N : κ → Prop) [DecidablePred N] (x v : ι → ℝ) (y w : κ → ℝ)
    (f : ι → κ) (g : κ → ι) (hf : ∀ c, M c → N (f c)) (hg : ∀ d, N d → M (g d)) (hgf : ∀ c, M c → g (f c) = c)
    (hfg : ∀ d, N d → f (g d) = d) (hx : ∀ c, M c → x c = y (f c)) (hv : ∀ c, M c → v c = w (f c)) :
    soft M x v = soft N y w := by
  unfold soft
  rw [den_reindex M N x y f g hf hg hgf hfg hx,
    sum_reindex M N (fun c => Real.exp (x c) * v c) (fun d => Real.exp (y d) * w d) f g hf hg hgf hfg
      fun c hc => by rw [hx c hc, hv c hc]]

end Cert.DilRow

end
-- ==== Proof.DilHead.lean ====
/-
  ONE HEAD OF ONE BLOCK OF THE DILATED ATTENTION'S FIRST GROUP, at the ideal values. The kernel's body runs the same
  computation for each of its four heads: `head` is its first result and `headLogs` its second, on the mask, the block of
  queries, and the keys and values of the block before and of the block itself, stacked (`cat`). `head_eq` and
  `headLogs_eq` read them at a row and a lane, for real queries, keys and values: they are the row functions of
  DilRow.lean on the visible keys. `mask_eq` says which keys of the two blocks a row sees.
-/
module

public import proofs.«01_k».proof.Proof.Gen.DilIdeal.Skeleton
public import Idealize.ShloMosaic.Lib.Pointwise
public import proofs.«01_k».proof.Proof.DilRow

@[expose] public section

set_option maxRecDepth 16384

noncomputable section

namespace Cert.DilIdeal.Head

open Idealize.ShloMosaic Idealize.SL.Sem Cert.DilIdeal Cert.DilIdeal.Gen

/-- Two blocks of 128 rows, one below the other. -/
def cat (a b : FVec Ideal S128x128 .bf16) : FVec Ideal S256x128 .bf16 :=
  concatenate S256x128 0 [⟨S128x128, a⟩, ⟨S128x128, b⟩] concatenates_S128x128_S128x128_S256x128_d0

/-- The scores of a block of queries, the hidden ones at minus infinity. -/
def scores (mk : IVec S128x256 1) (q : FVec Ideal S128x128 .bf16) (k : FVec Ideal S256x128 .bf16) : FVec Ideal S128x256 .f32 :=
  select mk (matmul dot_S128x128_S256x128_S128x256_1_1_0_0_n_n none q k (constant S128x256 .f32 0x00000000#32))
    (broadcast S128x256 (Named.named κ "mask" 0xF149F2CA#32))

/-- The weights: exponentials of the scores less their row's maximum. -/
def weights (s : FVec Ideal S128x256 .f32) : FVec Ideal S128x256 .f32 :=
  exp (subf s (broadcastTo S128x256 (shapeCast S128x1
    (multiReduction .maximumf [1] S128 s 0xFF800000#32 reduces_S128x256_S128 (.inl rfl) rfl) shapeCasts_S128_S128x1)
    broadcasts_S128x1_S128x256))

/-- The weighted mean of the values. -/
def mean (e : FVec Ideal S128x256 .f32) (v : FVec Ideal S256x128 .bf16) : FVec Ideal S128x128 .bf16 :=
  truncf .bf16 (divf
    (matmul dot_S128x256_S256x128_S128x128_1_0_0_1_n_n none (truncf .bf16 e bitsLt_bf16_f32) v
      (constant S128x128 .f32 0x00000000#32))
    (broadcastTo S128x128 (shapeCast S128x1
      (multiReduction .add [1] S128 e 0x00000000#32 reduces_S128x256_S128 (.inl rfl) rfl) shapeCasts_S128_S128x1)
      broadcasts_S128x1_S128x128)) bitsLt_bf16_f32

/-- One head of one block. -/
def head (mk : IVec S128x256 1) (q kp kc vp vc : FVec Ideal S128x128 .bf16) : FVec Ideal S128x128 .bf16 :=
  mean (weights (scores mk q (cat kp kc))) (cat vp vc)

/-- The logarithm of the sum of a row's weights, at every lane. -/
def logs (s : FVec Ideal S128x256 .f32) : FVec Ideal S128x128 .f32 :=
  broadcastTo S128x128 (shapeCast S128x1 (addf
    (shapeCast S128x1 (multiReduction .maximumf [1] S128 s 0xFF800000#32 reduces_S128x256_S128 (.inl rfl) rfl) shapeCasts_S128_S128x1)
    (log (shapeCast S128x1
      (multiReduction .add [1] S128 (weights s) 0x00000000#32 reduces_S128x256_S128 (.inl rfl) rfl) shapeCasts_S128_S128x1)))
    shapeCasts_S128x1_S128x1) broadcasts_S128x1_S128x128

/-- One head's logarithms. -/
def headLogs (mk : IVec S128x256 1) (q kp kc : FVec Ideal S128x128 .bf16) : FVec Ideal S128x128 .f32 :=
  logs (scores mk q (cat kp kc))

/-! The four heads' payloads are those functions. -/

theorem pay_0 (i : grid0.Coords) (q kp kc vp vc : Vec Ideal S128x128 .bf16) :
    k0_pay14 (F := Ideal) (k0_pay12 i q kp kc vp vc) (k0_pay13 i q kp kc) = head (k0_pay7 i) q kp kc vp vc := rfl
theorem pay_1 (mk : IVec S128x256 1) (q kp kc vp vc : Vec Ideal S128x128 .bf16) :
    k0_pay20 (F := Ideal) mk q kp kc vp vc = head mk q kp kc vp vc := rfl
theorem pay_2 (mk : IVec S128x256 1) (q kp kc vp vc : Vec Ideal S128x128 .bf16) :
    k0_pay26 (F := Ideal) mk q kp kc vp vc = head mk q kp kc vp vc := rfl
theorem pay_3 (mk : IVec S128x256 1) (q kp kc vp vc : Vec Ideal S128x128 .bf16) :
    k0_pay5 (F := Ideal) mk q kp kc vp vc = head mk q kp kc vp vc := rfl
theorem log_0 (i : grid0.Coords) (q kp kc : Vec Ideal S128x128 .bf16) :
    k0_pay15 (F := Ideal) (k0_pay9 i q kp kc) (k0_pay11 i q kp kc) = headLogs (k0_pay7 i) q kp kc := rfl
theorem log_1 (mk : IVec S128x256 1) (q kp kc : Vec Ideal S128x128 .bf16) :
    k0_pay21 (F := Ideal) mk q kp kc = headLogs mk q kp kc := rfl
theorem log_2 (mk : IVec S128x256 1) (q kp kc : Vec Ideal S128x128 .bf16) :
    k0_pay27 (F := Ideal) mk q kp kc = headLogs mk q kp kc := rfl
theorem log_3 (mk : IVec S128x256 1) (q kp kc : Vec Ideal S128x128 .bf16) :
    k0_pay6 (F := Ideal) mk q kp kc = headLogs mk q kp kc := rfl

/-! Each stage at an index. -/

theorem cat_apply (a b : FVec Ideal S128x128 .bf16) (c : Fin 256) (d : Fin 128) :
    cat a b (ix2 c d) = if h : c.val < 128 then a (ix2 (⟨c.val, h⟩ : Fin 128) d)
      else b (ix2 (⟨c.val - 128, by omega⟩ : Fin 128) d) := by
  pointwise [cat]

theorem scores_apply (mk : IVec S128x256 1) (q : FVec Ideal S128x128 .bf16) (k : FVec Ideal S256x128 .bf16)
    (r : Fin 128) (c : Fin 256) :
    scores mk q k (ix2 r c) = if mk (ix2 r c) = 1#1 then ∑ l : Fin 128, q (ix2 r l) * k (ix2 c l) else ⊥ := by
  have hm : Named.named (F := Ideal) κ "mask" (φ := .f32) 0xF149F2CA#32 = ⊥ :=
    IdealRules.named_const.ideal_named_scalar _ _ _ _ rfl
  pointwise [scores]
  rw [hm]
  rfl

theorem weights_apply (s : FVec Ideal S128x256 .f32) (r : Fin 128) (c : Fin 256) :
    weights s (ix2 r c) = Ideal.exp (s (ix2 r c) - Finset.univ.fold max ⊥ fun c : Fin 256 => s (ix2 r c)) := by
  have hb : Ideal.ofBits .f32 0xFF800000#32 = ⊥ := by simp [Ideal.ofBits, Ideal.ieee]
  pointwise [weights]
  rw [hb]

theorem mean_apply (e : FVec Ideal S128x256 .f32) (v : FVec Ideal S256x128 .bf16) (r : Fin 128) (d : Fin 128) :
    mean e v (ix2 r d) = Ideal.div (∑ c : Fin 256, e (ix2 r c) * v (ix2 c d)) (∑ c : Fin 256, e (ix2 r c)) := by
  pointwise [mean]

/-- A head at a row and a lane, for real operands. -/
theorem head_eq (mk : IVec S128x256 1) (q kp kc vp vc : FVec Ideal S128x128 .bf16) (r : Fin 128) (d : Fin 128)
    (M : Fin 256 → Prop) [DecidablePred M] (hne : ∃ c, M c) (hM : ∀ c, mk (ix2 r c) = 1#1 ↔ M c)
    (x : Fin 128 → ℝ) (y : Fin 256 → Fin 128 → ℝ) (z : Fin 256 → ℝ)
    (hq : ∀ l, q (ix2 r l) = (x l : EReal)) (hk : ∀ c l, cat kp kc (ix2 c l) = (y c l : EReal))
    (hv : ∀ c, cat vp vc (ix2 c d) = (z c : EReal)) :
    head mk q kp kc vp vc (ix2 r d) = (DilRow.soft M (fun c => ∑ l, x l * y c l) z : EReal) := by
  rw [head, mean_apply]
  simp only [weights_apply, hv]
  refine Eq.trans ?_ (DilRow.kernel_row M hne (fun c => ∑ l, x l * y c l) z
    (fun c => scores mk q (cat kp kc) (ix2 r c)) fun c => ?_)
  · rfl
  · rw [scores_apply]
    simp only [hM, hq, hk, ← EReal.coe_mul, Row.sum_coe]

theorem logs_apply (s : FVec Ideal S128x256 .f32) (r : Fin 128) (d : Fin 128) :
    logs s (ix2 r d) = (Finset.univ.fold max ⊥ fun c : Fin 256 => s (ix2 r c)) + Ideal.log (∑ c : Fin 256, weights s (ix2 r c)) := by
  have hb : Ideal.ofBits .f32 0xFF800000#32 = ⊥ := by simp [Ideal.ofBits, Ideal.ieee]
  pointwise [logs]
  rw [hb]

/-- A head's logarithm at a row and a lane, for real operands. -/
theorem headLogs_eq (mk : IVec S128x256 1) (q kp kc : FVec Ideal S128x128 .bf16) (r : Fin 128) (d : Fin 128)
    (M : Fin 256 → Prop) [DecidablePred M] (hne : ∃ c, M c) (hM : ∀ c, mk (ix2 r c) = 1#1 ↔ M c)
    (x : Fin 128 → ℝ) (y : Fin 256 → Fin 128 → ℝ)
    (hq : ∀ l, q (ix2 r l) = (x l : EReal)) (hk : ∀ c l, cat kp kc (ix2 c l) = (y c l : EReal)) :
    headLogs mk q kp kc (ix2 r d) = (DilRow.lse M (fun c => ∑ l, x l * y c l) : EReal) := by
  rw [headLogs, logs_apply]
  simp only [weights_apply]
  refine DilRow.lse_row M hne (fun c => ∑ l, x l * y c l)
    (fun c => scores mk q (cat kp kc) (ix2 r c)) fun c => ?_
  rw [scores_apply]
  simp only [hM, hq, hk, ← EReal.coe_mul, Row.sum_coe]

/-- A small natural number as a signed word. -/
theorem toInt_small (n : ℕ) (h : n < 2 ^ 31) : (BitVec.ofNat 32 n).toInt = n := by
  rw [BitVec.toInt_eq_toNat_cond, BitVec.toNat_ofNat, Nat.mod_eq_of_lt (by omega), if_pos (by omega)]

/-- A row `r` of block `i` sees column `c` of the two stacked blocks when the column is not before the first key, not
    after the row's own position, and at most 128 positions before it. -/
theorem mask_eq (i : grid0.Coords) (r : Fin 128) (c : Fin 256) :
    k0_pay7 i (ix2 r c) = 1#1 ↔ (128 ≤ (i 1).val * 128 + c.val ∧ c.val ≤ r.val + 128 ∧ r.val ≤ c.val) := by
  have hn : (i 1).val < 128 := (i 1).isLt
  have hr := r.isLt
  have hc := c.isLt
  have s₁ := toInt_small r.val (by omega)
  have s₂ := toInt_small c.val (by omega)
  have s₃ := toInt_small (i 1).val (by omega)
  have e₁ : (IntOp.subi (IntOp.addi (BitVec.ofNat 32 r.val) 128#32) (BitVec.ofNat 32 c.val)).toInt
      = (r.val : ℤ) + 128 - c.val := by
    simp only [IntOp.subi, IntOp.addi, BitVec.toInt_sub, BitVec.toInt_add, s₁, s₂, show (128#32).toInt = 128 from rfl, Int.bmod]
    omega
  have e₂ : (IntOp.addi (BitVec.ofNat 32 c.val)
      (Scalar.muli (Scalar.subi (BitVec.ofNat 32 (i 1).val) 1#32) 128#32)).toInt
      = (c.val : ℤ) + ((i 1).val - 1) * 128 := by
    simp only [Scalar.muli, Scalar.subi, IntOp.subi, IntOp.addi, IntOp.muli, BitVec.toInt_sub, BitVec.toInt_add,
      BitVec.toInt_mul, s₂, s₃, show (128#32).toInt = 128 from rfl, show (1#32).toInt = 1 from rfl, Int.bmod]
    omega
  pointwise [k0_pay7]
  rw [IntOp.andi_eq_one, IntOp.andi_eq_one, IntOp.cmpi_sge, IntOp.cmpi_sge, IntOp.cmpi_sle, e₁, e₂,
    show (0#32).toInt = 0 from rfl, show (128#32).toInt = 128 from rfl]
  omega

end Cert.DilIdeal.Head

end
-- ==== Proof.DilSpec.lean ====
/-
  WHAT THE FIRST GROUP OF THE DILATED ATTENTION COMPUTES, as functions of the projected rows. A row holds the group's four
  query heads of 128 lanes (from column 5632, already multiplied by the scale), its four keys (from column 7168) and its
  four values (from column 8704). Position `t` sees the positions `j` with `j ≤ t ≤ j + 128`. The first result is the
  attention at position `t` and column `l` (head `l / 128`, lane `l % 128`); the second is the logarithm of the sum of the
  row's weights, the same at every lane of a head.
-/
module

public import proofs.«01_k».proof.Proof.DilRow
public import proofs.«01_k».proof.Proof.Spec

@[expose] public section

noncomputable section

namespace Cert.DilSpec

open Idealize.ShloMosaic

/-- The score of position `t` against position `j` in the head of column `l`. -/
def score (x : Spec.Rows) (t : Fin 16384) (l : Fin 512) (j : Fin 16384) : ℝ :=
  ∑ d : Fin 128, x (ix2 t (⟨5632 + l.val / 128 * 128 + d.val, by omega⟩ : Fin 10752))
    * x (ix2 j (⟨7168 + l.val / 128 * 128 + d.val, by omega⟩ : Fin 10752))

/-- The value of position `j` at column `l`. -/
def value (x : Spec.Rows) (l : Fin 512) (j : Fin 16384) : ℝ :=
  x (ix2 j (⟨8704 + l.val / 128 * 128 + l.val % 128, by omega⟩ : Fin 10752))

/-- The attention of position `t` over its window, at column `l`. -/
def attn (x : Spec.Rows) (t : Fin 16384) (l : Fin 512) : ℝ :=
  DilRow.soft (fun j : Fin 16384 => j.val ≤ t.val ∧ t.val ≤ j.val + 128) (score x t l) (value x l)

/-- The logarithm of the sum of position `t`'s weights, at column `l`. -/
def logs (x : Spec.Rows) (t : Fin 16384) (l : Fin 512) : ℝ :=
  DilRow.lse (fun j : Fin 16384 => j.val ≤ t.val ∧ t.val ≤ j.val + 128) (score x t l)

end Cert.DilSpec

end
-- ==== Proof.DilBlock.lean ====
/-
  THE KERNEL'S TWO RESULT ARRAYS, of the dilated attention's first group. Grid point `(0, n)` computes, for the four heads,
  the rows `128 n` to `128 n + 127` of both results, from those rows' queries and from the keys and values of blocks
  `n - 1` and `n`. `head_row` and `logs_row` are one head of one block against the functions of DilSpec.lean, the visible
  columns of the two blocks being the visible positions; `final5` and `final6` are the arrays after the run.
-/
module

public import proofs.«01_k».proof.Proof.Gen.DilIdeal.Value
public import Idealize.ShloMosaic.Lib.Pipeline.ValueKit
public import proofs.«01_k».proof.Proof.DilHead
public import proofs.«01_k».proof.Proof.DilSpec

@[expose] public section

set_option maxRecDepth 16384

noncomputable section

namespace Cert.DilIdeal.Block

open Idealize.ShloMosaic Idealize.ShloMosaic.TcCoe Idealize.SL.Sem Cert.DilIdeal Cert.DilIdeal.Gen Cert.DilIdeal.Head

/-- The position of column `c` of the two blocks stacked before a row of block `n`. -/
def posn (n : Fin 128) (c : Fin 256) : Fin 16384 :=
  if h : c.val < 128 then ⟨(n.val - 1) * 128 + c.val, by omega⟩ else ⟨n.val * 128 + (c.val - 128), by omega⟩

/-- A visible column's position. -/
theorem posn_val (n : Fin 128) (c : Fin 256) (h : 128 ≤ n.val * 128 + c.val) : (posn n c).val = n.val * 128 + c.val - 128 := by
  unfold posn
  split
  · dsimp only; omega
  · dsimp only; omega

/-- The column of a visible position. -/
def back (n : Fin 128) (j : Fin 16384) : Fin 256 :=
  if h : n.val * 128 ≤ j.val + 128 ∧ j.val + 128 < n.val * 128 + 256 then ⟨j.val + 128 - n.val * 128, by omega⟩ else 0

/-- The columns a row of a block sees. -/
abbrev Sees (n r : Fin 128) (c : Fin 256) : Prop := 128 ≤ n.val * 128 + c.val ∧ c.val ≤ r.val + 128 ∧ r.val ≤ c.val

/-- The positions that row's position sees. -/
abbrev Window (n r : Fin 128) (j : Fin 16384) : Prop := j.val ≤ n.val * 128 + r.val ∧ n.val * 128 + r.val ≤ j.val + 128

theorem sees_window (n r : Fin 128) (c : Fin 256) (hc : Sees n r c) : Window n r (posn n c) := by
  have e := posn_val n c hc.1
  unfold Sees at hc
  unfold Window
  omega

theorem window_sees (n r : Fin 128) (j : Fin 16384) (hj : Window n r j) : Sees n r (back n j) := by
  unfold Window at hj
  unfold Sees back
  rw [dif_pos (by omega)]
  dsimp only
  omega

theorem back_posn (n r : Fin 128) (c : Fin 256) (hc : Sees n r c) : back n (posn n c) = c := by
  have e := posn_val n c hc.1
  unfold back
  unfold Sees at hc
  rw [dif_pos (by omega)]
  apply Fin.ext
  dsimp only
  omega

theorem posn_back (n r : Fin 128) (j : Fin 16384) (hj : Window n r j) : posn n (back n j) = j := by
  have hs := window_sees n r j hj
  apply Fin.ext
  rw [posn_val n _ hs.1]
  unfold Window at hj
  unfold back
  rw [dif_pos (by omega)]
  dsimp only
  omega

theorem sees_self (n r : Fin 128) : Sees n r ⟨r.val + 128, by omega⟩ := by
  unfold Sees
  dsimp only
  omega

/-- The score of a column is the score of its position. -/
theorem score_posn (x : Spec.Rows) (n r : Fin 128) (hh : Fin 4) (d : Fin 128) (c : Fin 256) :
    ∑ l : Fin 128, x (ix2 (⟨n.val * 128 + r.val, by omega⟩ : Fin 16384) (⟨5632 + hh.val * 128 + l.val, by omega⟩ : Fin 10752))
        * x (ix2 (posn n c) (⟨7168 + hh.val * 128 + l.val, by omega⟩ : Fin 10752))
      = DilSpec.score x ⟨n.val * 128 + r.val, by omega⟩ ⟨hh.val * 128 + d.val, by omega⟩ (posn n c) := by
  unfold DilSpec.score
  refine Finset.sum_congr rfl fun l _ => ?_
  have e : (hh.val * 128 + d.val) / 128 * 128 = hh.val * 128 := by omega
  simp only [e]

/-- One head of one block is the attention of its rows. -/
theorem head_row (x : Spec.Rows) (i : grid0.Coords) (n : Fin 128) (hh : Fin 4) (hn : (i 1).val = n.val)
    (q kp kc vp vc : FVec Ideal S128x128 .bf16) (r : Fin 128) (d : Fin 128)
    (hq : ∀ l : Fin 128, q (ix2 r l) = (x (ix2 (⟨n.val * 128 + r.val, by omega⟩ : Fin 16384)
      (⟨5632 + hh.val * 128 + l.val, by omega⟩ : Fin 10752)) : EReal))
    (hkp : ∀ (c : Fin 128) (l : Fin 128), kp (ix2 c l) = (x (ix2 (⟨(n.val - 1) * 128 + c.val, by omega⟩ : Fin 16384)
      (⟨7168 + hh.val * 128 + l.val, by omega⟩ : Fin 10752)) : EReal))
    (hkc : ∀ (c : Fin 128) (l : Fin 128), kc (ix2 c l) = (x (ix2 (⟨n.val * 128 + c.val, by omega⟩ : Fin 16384)
      (⟨7168 + hh.val * 128 + l.val, by omega⟩ : Fin 10752)) : EReal))
    (hvp : ∀ (c : Fin 128) (l : Fin 128), vp (ix2 c l) = (x (ix2 (⟨(n.val - 1) * 128 + c.val, by omega⟩ : Fin 16384)
      (⟨8704 + hh.val * 128 + l.val, by omega⟩ : Fin 10752)) : EReal))
    (hvc : ∀ (c : Fin 128) (l : Fin 128), vc (ix2 c l) = (x (ix2 (⟨n.val * 128 + c.val, by omega⟩ : Fin 16384)
      (⟨8704 + hh.val * 128 + l.val, by omega⟩ : Fin 10752)) : EReal)) :
    head (k0_pay7 i) q kp kc vp vc (ix2 r d)
      = (DilSpec.attn x ⟨n.val * 128 + r.val, by omega⟩ ⟨hh.val * 128 + d.val, by omega⟩ : EReal) := by
  rw [head_eq (k0_pay7 i) q kp kc vp vc r d (Sees n r) ⟨_, sees_self n r⟩
    (fun c => by rw [mask_eq, hn])
    _ (fun c l => x (ix2 (posn n c) (⟨7168 + hh.val * 128 + l.val, by omega⟩ : Fin 10752)))
    (fun c => x (ix2 (posn n c) (⟨8704 + hh.val * 128 + d.val, by omega⟩ : Fin 10752)))
    hq
    (fun c l => by rw [cat_apply, posn]; split <;> simp only [hkp, hkc])
    (fun c => by rw [cat_apply, posn]; split <;> simp only [hvp, hvc])]
  refine congrArg _ ?_
  refine DilRow.soft_reindex _ _ _ _ _ _ (posn n) (back n) (sees_window n r) (window_sees n r) (back_posn n r) (posn_back n r)
    (fun c _ => score_posn x n r hh d c) fun c _ => ?_
  unfold DilSpec.value
  have e : 8704 + (hh.val * 128 + d.val) / 128 * 128 + (hh.val * 128 + d.val) % 128 = 8704 + hh.val * 128 + d.val := by omega
  simp only [e]

/-- One head's logarithms of one block are those of its rows. -/
theorem logs_row (x : Spec.Rows) (i : grid0.Coords) (n : Fin 128) (hh : Fin 4) (hn : (i 1).val = n.val)
    (q kp kc : FVec Ideal S128x128 .bf16) (r : Fin 128) (d : Fin 128)
    (hq : ∀ l : Fin 128, q (ix2 r l) = (x (ix2 (⟨n.val * 128 + r.val, by omega⟩ : Fin 16384)
      (⟨5632 + hh.val * 128 + l.val, by omega⟩ : Fin 10752)) : EReal))
    (hkp : ∀ (c : Fin 128) (l : Fin 128), kp (ix2 c l) = (x (ix2 (⟨(n.val - 1) * 128 + c.val, by omega⟩ : Fin 16384)
      (⟨7168 + hh.val * 128 + l.val, by omega⟩ : Fin 10752)) : EReal))
    (hkc : ∀ (c : Fin 128) (l : Fin 128), kc (ix2 c l) = (x (ix2 (⟨n.val * 128 + c.val, by omega⟩ : Fin 16384)
      (⟨7168 + hh.val * 128 + l.val, by omega⟩ : Fin 10752)) : EReal)) :
    headLogs (k0_pay7 i) q kp kc (ix2 r d)
      = (DilSpec.logs x ⟨n.val * 128 + r.val, by omega⟩ ⟨hh.val * 128 + d.val, by omega⟩ : EReal) := by
  rw [headLogs_eq (k0_pay7 i) q kp kc r d (Sees n r) ⟨_, sees_self n r⟩
    (fun c => by rw [mask_eq, hn])
    _ (fun c l => x (ix2 (posn n c) (⟨7168 + hh.val * 128 + l.val, by omega⟩ : Fin 10752)))
    hq
    (fun c l => by rw [cat_apply, posn]; split <;> simp only [hkp, hkc])]
  refine congrArg _ ?_
  unfold DilRow.lse DilSpec.logs DilRow.lse
  refine congrArg Real.log ?_
  exact DilRow.den_reindex _ _ _ _ (posn n) (back n) (sees_window n r) (window_sees n r) (back_posn n r) (posn_back n r)
    (fun c _ => score_posn x n r hh d c)

variable (m : (ℓ : Loc nD τ sig) → Buf (Elt Ideal) ℓ)

theorem idx0 : ∀ t : Fin cfg0.N, win0_0.index t = ![(grid0.coords t 1).val, 11] := by decide +kernel
theorem idx1 : ∀ t : Fin cfg0.N, win0_1.index t = ![(grid0.coords t 1).val - 1, 14] := by decide +kernel
theorem idx2 : ∀ t : Fin cfg0.N, win0_2.index t = ![(grid0.coords t 1).val, 14] := by decide +kernel
theorem idx3 : ∀ t : Fin cfg0.N, win0_3.index t = ![(grid0.coords t 1).val - 1, 17] := by decide +kernel
theorem idx4 : ∀ t : Fin cfg0.N, win0_4.index t = ![(grid0.coords t 1).val, 17] := by decide +kernel
theorem idx5 : ∀ t : Fin cfg0.N, win0_5.index t = ![(grid0.coords t 1).val, 0] := by decide +kernel
theorem idx6 : ∀ t : Fin cfg0.N, win0_6.index t = ![(grid0.coords t 1).val, 0] := by decide +kernel

variable (c : Dev nD) (x : Spec.Rows) (hx : ∀ i, m ((c.tc : Thread nD τ).loc main_arg0) i = (x i : EReal)) (t : Fin cfg0.N)

theorem lt1 : (grid0.coords t 1).val < 128 := (grid0.coords t 1).isLt

include hx

theorem blk0 (o : ℕ) (ho : o + 128 ≤ 512) (inb) (r : Fin 128) (l : Fin 128) :
    View.ld (iblk m c 0 t : Vec Ideal S128x512 .bf16) (Rect.unit ![0, o] ![128, 128] inb) (ix2 r l)
      = (x (ix2 (⟨(grid0.coords t 1).val * 128 + r.val, by have := lt1 t; omega⟩ : Fin 16384)
        (⟨5632 + o + l.val, by omega⟩ : Fin 10752)) : EReal) := by
  rw [← hx]
  rw [View.ld]
  blk_ext [iblk, V, idx0 t]
  · simp [Rect.unit, LoadRect.idx, ix2]
  · simp [Rect.unit, LoadRect.idx, ix2]; omega

theorem blk1 (o : ℕ) (ho : o + 128 ≤ 512) (inb) (r : Fin 128) (l : Fin 128) :
    View.ld (iblk m c 1 t : Vec Ideal S128x512 .bf16) (Rect.unit ![0, o] ![128, 128] inb) (ix2 r l)
      = (x (ix2 (⟨((grid0.coords t 1).val - 1) * 128 + r.val, by have := lt1 t; omega⟩ : Fin 16384)
        (⟨7168 + o + l.val, by omega⟩ : Fin 10752)) : EReal) := by
  rw [← hx]
  rw [View.ld]
  blk_ext [iblk, V, idx1 t]
  · simp [Rect.unit, LoadRect.idx, ix2]
  · simp [Rect.unit, LoadRect.idx, ix2]; omega

theorem blk2 (o : ℕ) (ho : o + 128 ≤ 512) (inb) (r : Fin 128) (l : Fin 128) :
    View.ld (iblk m c 2 t : Vec Ideal S128x512 .bf16) (Rect.unit ![0, o] ![128, 128] inb) (ix2 r l)
      = (x (ix2 (⟨(grid0.coords t 1).val * 128 + r.val, by have := lt1 t; omega⟩ : Fin 16384)
        (⟨7168 + o + l.val, by omega⟩ : Fin 10752)) : EReal) := by
  rw [← hx]
  rw [View.ld]
  blk_ext [iblk, V, idx2 t]
  · simp [Rect.unit, LoadRect.idx, ix2]
  · simp [Rect.unit, LoadRect.idx, ix2]; omega

theorem blk3 (o : ℕ) (ho : o + 128 ≤ 512) (inb) (r : Fin 128) (l : Fin 128) :
    View.ld (iblk m c 3 t : Vec Ideal S128x512 .bf16) (Rect.unit ![0, o] ![128, 128] inb) (ix2 r l)
      = (x (ix2 (⟨((grid0.coords t 1).val - 1) * 128 + r.val, by have := lt1 t; omega⟩ : Fin 16384)
        (⟨8704 + o + l.val, by omega⟩ : Fin 10752)) : EReal) := by
  rw [← hx]
  rw [View.ld]
  blk_ext [iblk, V, idx3 t]
  · simp [Rect.unit, LoadRect.idx, ix2]
  · simp [Rect.unit, LoadRect.idx, ix2]; omega

theorem blk4 (o : ℕ) (ho : o + 128 ≤ 512) (inb) (r : Fin 128) (l : Fin 128) :
    View.ld (iblk m c 4 t : Vec Ideal S128x512 .bf16) (Rect.unit ![0, o] ![128, 128] inb) (ix2 r l)
      = (x (ix2 (⟨(grid0.coords t 1).val * 128 + r.val, by have := lt1 t; omega⟩ : Fin 16384)
        (⟨8704 + o + l.val, by omega⟩ : Fin 10752)) : EReal) := by
  rw [← hx]
  rw [View.ld]
  blk_ext [iblk, V, idx4 t]
  · simp [Rect.unit, LoadRect.idx, ix2]
  · simp [Rect.unit, LoadRect.idx, ix2]; omega

/-- The attention after the run. -/
theorem final5 :
    (dats m 0 c).arrAt 5 cfg0.N = fun i => (DilSpec.attn x (i 0) (i 1) : EReal) := by
  refine (dats m 0 c).arrAt_eq_of_covers 5 _ (by decide +kernel) fun t hf y => ?_
  blk_simp
  rw [after0_5]
  frame_out
  simp only [k0_pay28, pay_0, pay_1, pay_2, pay_3]
  have e0 : (((View.whole main_v0_0).slice (win0_5.rect t)).emb y 0).val = (grid0.coords t 1).val * 128 + (y 0).val := by
    blk_simp [idx5 t]
  have e1 : (((View.whole main_v0_0).slice (win0_5.rect t)).emb y 1).val = (y 1).val := by
    blk_simp [idx5 t]
  generalize (((View.whole main_v0_0).slice (win0_5.rect t)).emb y) = Y at e0 e1 ⊢
  canon_tiles z h
  · rw [show z = ix2 (z 0) (z 1) from by pointwise]
    refine (head_row x (grid0.coords t) (grid0.coords t 1) 3 rfl _ _ _ _ _ _ _
      (blk0 m c x hx t 384 (by omega) _ _) (blk1 m c x hx t 384 (by omega) _) (blk2 m c x hx t 384 (by omega) _) (blk3 m c x hx t 384 (by omega) _) (blk4 m c x hx t 384 (by omega) _)).trans ?_
    congr 2 <;> · apply Fin.ext; dsimp only; omega
  · rw [show z = ix2 (z 0) (z 1) from by pointwise]
    refine (head_row x (grid0.coords t) (grid0.coords t 1) 2 rfl _ _ _ _ _ _ _
      (blk0 m c x hx t 256 (by omega) _ _) (blk1 m c x hx t 256 (by omega) _) (blk2 m c x hx t 256 (by omega) _) (blk3 m c x hx t 256 (by omega) _) (blk4 m c x hx t 256 (by omega) _)).trans ?_
    congr 2 <;> · apply Fin.ext; dsimp only; omega
  · rw [show z = ix2 (z 0) (z 1) from by pointwise]
    refine (head_row x (grid0.coords t) (grid0.coords t 1) 1 rfl _ _ _ _ _ _ _
      (blk0 m c x hx t 128 (by omega) _ _) (blk1 m c x hx t 128 (by omega) _) (blk2 m c x hx t 128 (by omega) _) (blk3 m c x hx t 128 (by omega) _) (blk4 m c x hx t 128 (by omega) _)).trans ?_
    congr 2 <;> · apply Fin.ext; dsimp only; omega
  · rw [show z = ix2 (z 0) (z 1) from by pointwise]
    refine (head_row x (grid0.coords t) (grid0.coords t 1) 0 rfl _ _ _ _ _ _ _
      (blk0 m c x hx t 0 (by omega) _ _) (blk1 m c x hx t 0 (by omega) _) (blk2 m c x hx t 0 (by omega) _) (blk3 m c x hx t 0 (by omega) _) (blk4 m c x hx t 0 (by omega) _)).trans ?_
    congr 2 <;> · apply Fin.ext; dsimp only; omega

/-- The logarithms after the run. -/
theorem final6 :
    (dats m 0 c).arrAt 6 cfg0.N = fun i => (DilSpec.logs x (i 0) (i 1) : EReal) := by
  refine (dats m 0 c).arrAt_eq_of_covers 6 _ (by decide +kernel) fun t hf y => ?_
  blk_simp
  rw [after0_6]
  frame_out
  simp only [k0_pay28, log_0, log_1, log_2, log_3]
  have e0 : (((View.whole main_v0_1).slice (win0_6.rect t)).emb y 0).val = (grid0.coords t 1).val * 128 + (y 0).val := by
    blk_simp [idx6 t]
  have e1 : (((View.whole main_v0_1).slice (win0_6.rect t)).emb y 1).val = (y 1).val := by
    blk_simp [idx6 t]
  generalize (((View.whole main_v0_1).slice (win0_6.rect t)).emb y) = Y at e0 e1 ⊢
  canon_tiles z h
  · rw [show z = ix2 (z 0) (z 1) from by pointwise]
    refine (logs_row x (grid0.coords t) (grid0.coords t 1) 3 rfl _ _ _ _ _
      (blk0 m c x hx t 384 (by omega) _ _) (blk1 m c x hx t 384 (by omega) _) (blk2 m c x hx t 384 (by omega) _)).trans ?_
    congr 2 <;> · apply Fin.ext; dsimp only; omega
  · rw [show z = ix2 (z 0) (z 1) from by pointwise]
    refine (logs_row x (grid0.coords t) (grid0.coords t 1) 2 rfl _ _ _ _ _
      (blk0 m c x hx t 256 (by omega) _ _) (blk1 m c x hx t 256 (by omega) _) (blk2 m c x hx t 256 (by omega) _)).trans ?_
    congr 2 <;> · apply Fin.ext; dsimp only; omega
  · rw [show z = ix2 (z 0) (z 1) from by pointwise]
    refine (logs_row x (grid0.coords t) (grid0.coords t 1) 1 rfl _ _ _ _ _
      (blk0 m c x hx t 128 (by omega) _ _) (blk1 m c x hx t 128 (by omega) _) (blk2 m c x hx t 128 (by omega) _)).trans ?_
    congr 2 <;> · apply Fin.ext; dsimp only; omega
  · rw [show z = ix2 (z 0) (z 1) from by pointwise]
    refine (logs_row x (grid0.coords t) (grid0.coords t 1) 0 rfl _ _ _ _ _
      (blk0 m c x hx t 0 (by omega) _ _) (blk1 m c x hx t 0 (by omega) _) (blk2 m c x hx t 0 (by omega) _)).trans ?_
    congr 2 <;> · apply Fin.ext; dsimp only; omega

end Cert.DilIdeal.Block

end
-- ==== Proof.DilRef.lean ====
/-
  THE REFERENCE'S TWO RESULTS, of the dilated attention's first group. The composed terms of the reference are the staged
  functions below, one for each of its lines: which positions are visible, the scores, a row's largest score, the
  exponentials, their sum, the attention, the logarithms. Read at an entry, the results are the functions of DilSpec.lean.
-/
module

public import proofs.«01_k».proof.Proof.Gen.DilReferenceIdeal.Run
public import proofs.«01_k».proof.Proof.DilSpec

@[expose] public section

set_option maxRecDepth 16384

noncomputable section

namespace Cert.DilReferenceIdeal.Stage

open Idealize.ShloMosaic Idealize.ShloMosaic.TcCoe Idealize.SL.Sem Cert.DilReferenceIdeal Cert.DilReferenceIdeal.Gen

/-- A position's distance to another. -/
def dist : IVec S16384x16384 32 :=
  subi (broadcastInDim S16384x16384 ![0, 1] bcast_S16384x1_S16384x16384_0_1 (broadcastInDim S16384x1 ![0] bcast_S16384_S16384x1_0 (iotaInDim S16384 32 0)))
    (broadcastInDim S16384x16384 ![0, 1] bcast_S1x16384_S16384x16384_0_1 (broadcastInDim S1x16384 ![1] bcast_S16384_S1x16384_1 (iotaInDim S16384 32 0)))

/-- Which positions are visible. -/
def vis : IVec S16384x16384 1 :=
  andi (cmpi .sge dist (broadcastInDim S16384x16384 ![] bcast_S_S16384x16384 (constantI S_ 32 0#32)))
    (cmpi .sle dist (broadcastInDim S16384x16384 ![] bcast_S_S16384x16384 (constantI S_ 32 128#32)))

variable (a : FVec Ideal S16384x10752 .bf16)

def queries : FVec Ideal S16384x4x128 .f32 :=
  shapeCast _ (extf .f32 (extractStridedSlice S16384x512 ![0, 5632] a slices_S16384x10752_S16384x512_0_5632) bitsLt_bf16_f32) shapeCasts_S16384x512_S16384x4x128

def keys : FVec Ideal S16384x4x128 .f32 :=
  shapeCast _ (extf .f32 (extractStridedSlice S16384x512 ![0, 7168] a slices_S16384x10752_S16384x512_0_7168) bitsLt_bf16_f32) shapeCasts_S16384x512_S16384x4x128

def values : FVec Ideal S16384x4x128 .f32 :=
  shapeCast _ (extf .f32 (extractStridedSlice S16384x512 ![0, 8704] a slices_S16384x10752_S16384x512_0_8704) bitsLt_bf16_f32) shapeCasts_S16384x512_S16384x4x128

def raw : FVec Ideal S4x16384x16384 .f32 :=
  Host.dotGeneral dot_S16384x4x128_S16384x4x128_S4x16384x16384_2_2_0_0_1_1 none (queries a) (keys a)

def scores : FVec Ideal S4x16384x16384 .f32 :=
  select (broadcastInDim S4x16384x16384 ![0, 1, 2] bcast_S1x16384x16384_S4x16384x16384_0_1_2 (broadcastInDim S1x16384x16384 ![1, 2] bcast_S16384x16384_S1x16384x16384_1_2 vis))
    (raw a) (broadcastInDim S4x16384x16384 ![] bcast_S_S4x16384x16384 (id (constant S_ .f32 0xFF800000#32)))

variable (s : FVec Ideal S4x16384x16384 .f32)

def top : FVec Ideal S4x16384x1 .f32 :=
  broadcastInDim S4x16384x1 ![0, 1] bcast_S4x16384_S4x16384x1_0_1
    (Host.reduce FloatOps.maximumf s (constant S_ .f32 0xFF800000#32) reducesTo_S4x16384x16384_S4x16384_d2 h_S_)

def expd : FVec Ideal S4x16384x16384 .f32 :=
  Host.exp (subf s (broadcastInDim S4x16384x16384 ![0, 1, 2] bcast_S4x16384x1_S4x16384x16384_0_1_2 (top s)))

def total : FVec Ideal S4x16384x1 .f32 :=
  broadcastInDim S4x16384x1 ![0, 1] bcast_S4x16384_S4x16384x1_0_1
    (Host.reduceAdd s (constant S_ .f32 0x00000000#32) reducesTo_S4x16384x16384_S4x16384_d2 h_S_)

variable (b : FVec Ideal S4x16384x1 .f32)

def quot : FVec Ideal S4x16384x16384 .f32 :=
  Host.divf s (broadcastInDim S4x16384x16384 ![0, 1, 2] bcast_S4x16384x1_S4x16384x16384_0_1_2 b)

def mix (v : FVec Ideal S16384x4x128 .f32) : FVec Ideal S16384x512 .bf16 :=
  truncf .bf16 (shapeCast _ (transpose S16384x4x128 [1, 0, 2]
    (Host.dotGeneral dot_S4x16384x16384_S16384x4x128_S4x16384x128_2_0_1_2_0_1 none s v)
    transposes_S4x16384x128_S16384x4x128_1_0_2) shapeCasts_S16384x4x128_S16384x512) bitsLt_bf16_f32

def spread (w : FVec Ideal S4x16384x1 .f32) : FVec Ideal S16384x512 .f32 :=
  shapeCast _ (transpose S16384x4x128 [1, 0, 2]
    (broadcastInDim S4x16384x128 ![0, 1, 2] bcast_S4x16384x1_S4x16384x128_0_1_2 (addf b (Host.log w)))
    transposes_S4x16384x128_S16384x4x128_1_0_2) shapeCasts_S16384x4x128_S16384x512

def result0 : FVec Ideal S16384x512 .bf16 := mix (quot (expd (scores a)) (total (expd (scores a)))) (values a)

def result1 : FVec Ideal S16384x512 .f32 := spread (top (scores a)) (total (expd (scores a)))

theorem res0_eq (m : (ℓ : Loc nD τ sig) → Buf (Elt Ideal) ℓ) (c : Dev nD) :
    Value.res_out0 (F := Ideal) m c = result0 (m ((c.tc : Thread nD τ).loc main_arg0)) := rfl

theorem res1_eq (m : (ℓ : Loc nD τ sig) → Buf (Elt Ideal) ℓ) (c : Dev nD) :
    Value.res_out1 (F := Ideal) m c = result1 (m ((c.tc : Thread nD τ).loc main_arg0)) := rfl

/-! The stages at an entry. -/

theorem bot_eq : Ideal.ofBits FTy.f32 0xFF800000#32 = ⊥ := by simp [Ideal.ofBits, Ideal.ieee]

theorem toInt_small (n : ℕ) (h : n < 16384) : (BitVec.ofNat 32 n).toInt = n := by
  rw [BitVec.toInt_eq_toNat_of_lt] <;> rw [BitVec.toNat_ofNat] <;> omega

theorem vis_eq (t j : Fin 16384) : vis (ix2 t j) = 1#1 ↔ (j.val ≤ t.val ∧ t.val ≤ j.val + 128) := by
  unfold vis dist
  pointwise
  have e : ((BitVec.ofNat 32 t.val) - (BitVec.ofNat 32 j.val)).toInt = (t.val : ℤ) - j.val := by
    rw [BitVec.toInt_sub, toInt_small _ t.isLt, toInt_small _ j.isLt]
    simp only [Int.bmod_def]
    omega
  rw [IntOp.andi_eq_one, IntOp.cmpi_sge, IntOp.cmpi_sle, IntOp.subi, e]
  have h0 : (0#32).toInt = 0 := rfl
  have h1 : (128#32).toInt = 128 := rfl
  rw [h0, h1]
  omega

theorem queries_eq (t : Fin 16384) (h : Fin 4) (d : Fin 128) :
    queries a (ix3 t h d) = a (ix2 t (⟨5632 + h.val * 128 + d.val, by omega⟩ : Fin 10752)) := by
  pointwise [queries]
  simp only [Nat.add_assoc]

theorem keys_eq (t : Fin 16384) (h : Fin 4) (d : Fin 128) :
    keys a (ix3 t h d) = a (ix2 t (⟨7168 + h.val * 128 + d.val, by omega⟩ : Fin 10752)) := by
  pointwise [keys]
  simp only [Nat.add_assoc]

theorem values_eq (t : Fin 16384) (h : Fin 4) (d : Fin 128) :
    values a (ix3 t h d) = a (ix2 t (⟨8704 + h.val * 128 + d.val, by omega⟩ : Fin 10752)) := by
  pointwise [values]
  simp only [Nat.add_assoc]

theorem raw_eq (h : Fin 4) (t j : Fin 16384) :
    raw a (ix3 h t j) = ∑ d : Fin 128, queries a (ix3 t h d) * keys a (ix3 j h d) := by
  pointwise [raw]

theorem scores_eq (h : Fin 4) (t j : Fin 16384) :
    scores a (ix3 h t j) = if j.val ≤ t.val ∧ t.val ≤ j.val + 128 then raw a (ix3 h t j) else ⊥ := by
  pointwise [scores]
  simp only [Scalar.select, id]
  refine if_congr (vis_eq t j) ?_ ?_
  · rfl
  · exact bot_eq

theorem top_eq (h : Fin 4) (t : Fin 16384) (z : Fin 1) :
    top s (ix3 h t z) = Finset.univ.fold max ⊥ fun j : Fin 16384 => s (ix3 h t j) := by
  pointwise [top]
  rw [bot_eq]

theorem expd_eq (h : Fin 4) (t j : Fin 16384) :
    expd s (ix3 h t j) = Ideal.exp (s (ix3 h t j) - Finset.univ.fold max ⊥ fun j : Fin 16384 => s (ix3 h t j)) := by
  rw [← top_eq s h t 0]
  pointwise [expd]

theorem total_eq (h : Fin 4) (t : Fin 16384) (z : Fin 1) : total s (ix3 h t z) = ∑ j, s (ix3 h t j) := by
  pointwise [total]

theorem quot_eq (h : Fin 4) (t j : Fin 16384) :
    quot s b (ix3 h t j) = Ideal.div (s (ix3 h t j)) (b (ix3 h t (0 : Fin 1))) := by
  pointwise [quot]

theorem mix_eq (v : FVec Ideal S16384x4x128 .f32) (t : Fin 16384) (l : Fin 512) :
    mix s v (ix2 t l) = ∑ j, s (ix3 (⟨l.val / 128, by omega⟩ : Fin 4) t j)
      * v (ix3 j (⟨l.val / 128, by omega⟩ : Fin 4) (⟨l.val % 128, by omega⟩ : Fin 128)) := by
  pointwise [mix]

theorem spread_eq (w : FVec Ideal S4x16384x1 .f32) (t : Fin 16384) (l : Fin 512) :
    spread b w (ix2 t l) = b (ix3 (⟨l.val / 128, by omega⟩ : Fin 4) t (0 : Fin 1))
      + Ideal.log (w (ix3 (⟨l.val / 128, by omega⟩ : Fin 4) t (0 : Fin 1))) := by
  pointwise [spread]

variable (x : Spec.Rows) (hx : ∀ i, a i = (x i : EReal))

include hx

/-- The scores of a row: real where the position is visible, and minus infinity elsewhere. -/
theorem scores_row (t : Fin 16384) (l : Fin 512) (j : Fin 16384) :
    scores a (ix3 (⟨l.val / 128, by omega⟩ : Fin 4) t j)
      = if j.val ≤ t.val ∧ t.val ≤ j.val + 128 then (DilSpec.score x t l j : EReal) else ⊥ := by
  rw [scores_eq, raw_eq]
  refine if_congr Iff.rfl ?_ rfl
  unfold DilSpec.score
  rw [← Row.sum_coe]
  refine Finset.sum_congr rfl fun d _ => ?_
  rw [queries_eq, keys_eq, hx, hx, EReal.coe_mul]

/-- The reference's first result is the attention of DilSpec.lean. -/
theorem result0_eq (t : Fin 16384) (l : Fin 512) : result0 a (ix2 t l) = (DilSpec.attn x t l : EReal) := by
  unfold result0
  rw [mix_eq]
  simp only [quot_eq, total_eq, expd_eq, values_eq, hx]
  exact DilRow.reference_row (fun j : Fin 16384 => j.val ≤ t.val ∧ t.val ≤ j.val + 128) ⟨t, by omega⟩ (DilSpec.score x t l)
    (DilSpec.value x l) (fun j => scores a (ix3 (⟨l.val / 128, by omega⟩ : Fin 4) t j)) (scores_row a x hx t l)

/-- The reference's second result is the logarithms of DilSpec.lean. -/
theorem result1_eq (t : Fin 16384) (l : Fin 512) : result1 a (ix2 t l) = (DilSpec.logs x t l : EReal) := by
  unfold result1
  rw [spread_eq]
  simp only [top_eq, total_eq, expd_eq]
  exact DilRow.lse_row (fun j : Fin 16384 => j.val ≤ t.val ∧ t.val ≤ j.val + 128) ⟨t, by omega⟩ (DilSpec.score x t l)
    (fun j => scores a (ix3 (⟨l.val / 128, by omega⟩ : Fin 4) t j)) (scores_row a x hx t l)

end Cert.DilReferenceIdeal.Stage

end
-- ==== Proof.DilClaim.lean ====
/-
  THE CLAIMS OF THE DILATED ATTENTION'S FIRST GROUP. On arguments every entry of which is a real number, both results of
  the kernel and of the reference are the functions of the argument that DilSpec.lean writes out.
-/
module

public import proofs.«01_k».proof.Defs
public import proofs.«01_k».proof.Proof.Gen.Dil.Frame
public import proofs.«01_k».proof.Proof.Gen.DilIdeal.Frame
public import proofs.«01_k».proof.Proof.Gen.Pre_finite
public import proofs.«01_k».proof.Proof.Window
public import proofs.«01_k».proof.Proof.DilBlock
public import proofs.«01_k».proof.Proof.DilRef
public import Idealize.ShloMosaic.Lib.Quiescent

@[expose] public section

noncomputable section

namespace Cert.Proof.Dil

open Idealize.ShloMosaic Idealize.ShloMosaic.TcCoe Idealize.SL.Sem

theorem frame_p : Cert.quiescent_Dil := fun m ρ _ => Cert.Dil.Gen.frame m ρ
theorem frame_pi : Cert.quiescent_DilIdeal := fun m ρ _ => Cert.DilIdeal.Gen.frame m ρ
theorem frame_pi_pre : Cert.quiescent_DilIdeal_pre_finite := fun m ρ _ => Cert.DilIdeal.Gen.frame m ρ
theorem frame_ri : Cert.quiescent_DilReferenceIdeal := fun m ρ _ =>
  (θ_run Cert.DilReferenceIdeal.defs _ _).mono (fun r h => ⟨fun c => (h c).2.2, sem_eq_zero_of_no_sems (by decide) r.2⟩)
    (Cert.DilReferenceIdeal.Value.run (F := Ideal) m ρ)
theorem frame_ri_pre : Cert.quiescent_DilReferenceIdeal_pre_finite := fun m ρ _ => frame_ri m ρ trivial

/-- The mask's fill is the table's `-∞`. -/
theorem preserves : Cert.preserves_Dil_DilIdeal :=
  IdealRules.named_const.statement Cert.DilIdeal.κ "mask" .f32 0xF149F2CA#32 ⊥ rfl

theorem algebraic : Cert.algebraic_DilIdeal_DilReferenceIdeal_pre_finite := by
  intro m ρ m' ρ' hpre hagree
  refine ⟨_, _, Cert.DilIdeal.Value.run_blocks (F := Ideal) m ρ, ?_⟩
  refine (θ_run Cert.DilReferenceIdeal.defs _ _).mono (fun _ h c => ⟨(h c).1.trans ?_, (h c).2.1.trans ?_, (h c).2.2⟩)
    (Cert.DilReferenceIdeal.Value.run (F := Ideal) m' ρ')
  · obtain ⟨x, hx⟩ := Window.real_of_pre _ (hpre c)
    refine (Cert.DilReferenceIdeal.Stage.res0_eq m' c).trans ?_
    rw [hagree c]
    refine Eq.trans ?_ (Cert.DilIdeal.Block.final5 m c x hx).symm
    funext i
    obtain ⟨t, l, rfl⟩ : ∃ t l, i = ix2 t l := ⟨i 0, i 1, by pointwise⟩
    exact Cert.DilReferenceIdeal.Stage.result0_eq _ x hx t l
  · obtain ⟨x, hx⟩ := Window.real_of_pre _ (hpre c)
    refine (Cert.DilReferenceIdeal.Stage.res1_eq m' c).trans ?_
    rw [hagree c]
    refine Eq.trans ?_ (Cert.DilIdeal.Block.final6 m c x hx).symm
    funext i
    obtain ⟨t, l, rfl⟩ : ∃ t l, i = ix2 t l := ⟨i 0, i 1, by pointwise⟩
    exact Cert.DilReferenceIdeal.Stage.result1_eq _ x hx t l

end Cert.Proof.Dil

end
-- ==== Proof.BandRow.lean ====
/-
  THE DILATED HEADS ON PAPER, for a window `w` and a dilation `d`: position `t` sees the positions `j` with `j ≤ t ≤ j + w`
  whose distance `t - j` is a multiple of `d`. A row of projected rows holds two groups of four such heads (`g` is 0 for
  dilation 4 and 1 for dilation 16): queries from column 6144, keys from 7680, values from 9216, 512 columns a group. `attn`
  and `logs` are the two results. A block of 256 rows reads the `w + 256` positions from `256 n - w` on (or from the first):
  `attn_band` and `logs_band` say that this loses nothing. The last lemmas read the conditions off machine words.
-/
module

public import proofs.«01_k».proof.Proof.DilRow
public import proofs.«01_k».proof.Proof.Spec
public import Idealize.ShloMosaic.Lib.ReduceAll
public import Idealize.ShloMosaic.Lib.WordCmp

@[expose] public section

noncomputable section

namespace Cert.Band

open Idealize.ShloMosaic

/-- Position `j` is visible to position `t`. -/
abbrev Vis (w d t j : ℕ) : Prop := j ≤ t ∧ t ≤ j + w ∧ (t - j) % d = 0

/-- The column of lane `e` of head `h` of group `g`: of its queries, its keys, its values, its results. -/
def qcol (g : Fin 2) (h : Fin 4) (e : Fin 128) : Fin 10752 := ⟨6144 + g.val * 512 + h.val * 128 + e.val, by omega⟩
def kcol (g : Fin 2) (h : Fin 4) (e : Fin 128) : Fin 10752 := ⟨7680 + g.val * 512 + h.val * 128 + e.val, by omega⟩
def vcol (g : Fin 2) (h : Fin 4) (e : Fin 128) : Fin 10752 := ⟨9216 + g.val * 512 + h.val * 128 + e.val, by omega⟩
def ocol (h : Fin 4) (e : Fin 128) : Fin 512 := ⟨h.val * 128 + e.val, by omega⟩

/-- The head and the lane of a result's column. -/
def head (l : Fin 512) : Fin 4 := ⟨l.val / 128, by omega⟩
def lane (l : Fin 512) : Fin 128 := ⟨l.val % 128, by omega⟩

theorem head_ocol (h : Fin 4) (e : Fin 128) : head (ocol h e) = h := by
  apply Fin.ext
  unfold head ocol
  dsimp only
  omega

theorem lane_ocol (h : Fin 4) (e : Fin 128) : lane (ocol h e) = e := by
  apply Fin.ext
  unfold lane ocol
  dsimp only
  omega

/-- Row `r` of block `n`. -/
def row (n : Fin 64) (r : Fin 256) : Fin 16384 := ⟨n.val * 256 + r.val, by omega⟩

variable (x : Spec.Rows) (g : Fin 2) (w d : ℕ)

/-- The score of position `t` against position `j` in the head of column `l`. -/
def score (t : Fin 16384) (l : Fin 512) (j : Fin 16384) : ℝ :=
  ∑ e : Fin 128, x (ix2 t (qcol g (head l) e)) * x (ix2 j (kcol g (head l) e))

/-- The value of position `j` at column `l`. -/
def value (l : Fin 512) (j : Fin 16384) : ℝ :=
  x (ix2 j (vcol g (head l) (lane l)))

/-- The attention of position `t`, at column `l`. -/
def attn (t : Fin 16384) (l : Fin 512) : ℝ :=
  DilRow.soft (fun j : Fin 16384 => Vis w d t.val j.val) (score x g t l) (value x g l)

/-- The logarithm of the sum of position `t`'s weights, at column `l`. -/
def logs (t : Fin 16384) (l : Fin 512) : ℝ :=
  DilRow.lse (fun j : Fin 16384 => Vis w d t.val j.val) (score x g t l)

variable (hw : w ≤ 2048) (n : Fin 64) (r : Fin 256)

/-- The position of column `c` of the band read by block `n`. -/
def posn (c : Fin (w + 256)) : Fin 16384 := ⟨n.val * 256 - w + c.val, by omega⟩

/-- The column of a position. -/
def back (j : Fin 16384) : Fin (w + 256) :=
  if h : j.val - (n.val * 256 - w) < w + 256 then ⟨j.val - (n.val * 256 - w), h⟩ else ⟨0, Nat.succ_pos _⟩

/-- The row's own column is visible. -/
theorem sees_self : ∃ c : Fin (w + 256), Vis w d (n.val * 256 + r.val) (posn w hw n c).val := by
  refine ⟨⟨n.val * 256 + r.val - (n.val * 256 - w), by omega⟩, ?_⟩
  have e : (posn w hw n ⟨n.val * 256 + r.val - (n.val * 256 - w), by omega⟩).val = n.val * 256 + r.val := by
    unfold posn
    dsimp only
    omega
  rw [e]
  exact ⟨le_rfl, by omega, by simp⟩

theorem back_posn (c : Fin (w + 256)) : back w n (posn w hw n c) = c := by
  unfold back posn
  rw [dif_pos (by dsimp only; omega)]
  apply Fin.ext
  dsimp only
  omega

theorem posn_back (j : Fin 16384) (hj : Vis w d (n.val * 256 + r.val) j.val) : posn w hw n (back w n j) = j := by
  have h1 := hj.1
  have h2 := hj.2.1
  unfold back posn
  rw [dif_pos (by omega)]
  apply Fin.ext
  dsimp only
  omega

variable (hh : Fin 4) (e : Fin 128)

/-- The score of a column is the score of its position. -/
theorem score_posn (c : Fin (w + 256)) :
    ∑ l : Fin 128, x (ix2 (row n r) (qcol g hh l))
        * x (ix2 (posn w hw n c) (kcol g hh l))
      = score x g (row n r) (ocol hh e) (posn w hw n c) := by
  unfold score
  rw [head_ocol]

/-- The attention over the band is the attention. -/
theorem attn_band :
    DilRow.soft (fun c : Fin (w + 256) => Vis w d (n.val * 256 + r.val) (posn w hw n c).val)
      (fun c => ∑ l : Fin 128, x (ix2 (row n r) (qcol g hh l))
        * x (ix2 (posn w hw n c) (kcol g hh l)))
      (fun c => x (ix2 (posn w hw n c) (vcol g hh e)))
      = attn x g w d (row n r) (ocol hh e) := by
  refine DilRow.soft_reindex _ _ _ _ _ _ (posn w hw n) (back w n) (fun c h => h) (fun j hj => ?_)
    (fun c _ => back_posn w hw n c) (fun j hj => posn_back w d hw n r j hj)
    (fun c _ => score_posn x g w hw n r hh e c) fun c _ => ?_
  · rw [posn_back w d hw n r j hj]
    exact hj
  · unfold value
    rw [head_ocol, lane_ocol]

/-- So are the logarithms. -/
theorem logs_band :
    DilRow.lse (fun c : Fin (w + 256) => Vis w d (n.val * 256 + r.val) (posn w hw n c).val)
      (fun c => ∑ l : Fin 128, x (ix2 (row n r) (qcol g hh l))
        * x (ix2 (posn w hw n c) (kcol g hh l)))
      = logs x g w d (row n r) (ocol hh e) := by
  unfold logs DilRow.lse
  refine congrArg Real.log (DilRow.den_reindex _ _ _ _ (posn w hw n) (back w n) (fun c h => h) (fun j hj => ?_)
    (fun c _ => back_posn w hw n c) (fun j hj => posn_back w d hw n r j hj)
    (fun c _ => score_posn x g w hw n r hh e c))
  rw [posn_back w d hw n r j hj]
  exact hj

/-! The conditions on machine words. -/

theorem toInt_small (n : ℕ) (h : n < 2 ^ 31) : (BitVec.ofNat 32 n).toInt = n := by
  rw [BitVec.toInt_eq_toNat_cond, BitVec.toNat_ofNat, Nat.mod_eq_of_lt (by omega), if_pos (by omega)]

/-- A word that is not negative is its natural number. -/
theorem toNat_of_nonneg (v : BitVec 32) (h : 0 ≤ v.toInt) : (v.toNat : ℤ) = v.toInt := by
  have := v.isLt
  rw [BitVec.toInt_eq_toNat_cond] at h ⊢
  split
  · rfl
  · rename_i hn
    rw [if_neg hn] at h
    omega

/-- The distance's last bits are zero where it is a multiple of a power of two. -/
theorem low_bits (v : BitVec 32) (k t j : ℕ) (hk : k < 32) (hv : v.toInt = (t : ℤ) - j) (h : j ≤ t) :
    IntOp.andi v (BitVec.ofNat 32 (2 ^ k - 1)) = 0#32 ↔ (t - j) % 2 ^ k = 0 := by
  have e : v.toNat = t - j := by
    have := toNat_of_nonneg v (by omega)
    omega
  have hp : 2 ^ k < 2 ^ 32 := Nat.pow_lt_pow_right (by omega) hk
  rw [← BitVec.toNat_inj]
  show (v &&& BitVec.ofNat 32 (2 ^ k - 1)).toNat = (0#32).toNat ↔ _
  rw [BitVec.toNat_and, BitVec.toNat_ofNat, Nat.mod_eq_of_lt (by omega), Nat.and_two_pow_sub_one_eq_mod, e]
  rfl

/-- The distance's remainder is zero where it is a multiple. -/
theorem rem_zero (v : BitVec 32) (k t j : ℕ) (h0 : 0 < k) (hk : k < 2 ^ 31) (hv : v.toInt = (t : ℤ) - j) (h : j ≤ t) :
    IntOp.remsi .host v (BitVec.ofNat 32 k) = 0#32 ↔ (t - j) % k = 0 := by
  have hk' := toInt_small k hk
  have hc : ¬ IntOp.SDivCorner v (BitVec.ofNat 32 k) := by
    rintro (hz | ⟨_, hz⟩)
    · rw [hz] at hk'
      have : (0 : BitVec 32).toInt = 0 := rfl
      omega
    · rw [hz] at hk'
      have : (-1 : BitVec 32).toInt = -1 := rfl
      omega
  rw [IntOp.remsi, if_neg hc, ← BitVec.toInt_inj, BitVec.toInt_srem, hk', hv, show (0#32).toInt = 0 from rfl,
    show (t : ℤ) - j = ((t - j : ℕ) : ℤ) by omega, ← Int.ofNat_tmod]
  omega

/-- The three conditions together, with the condition on the remainder as `q`. -/
theorem vis_word (v q : BitVec 32) (w d t j : ℕ) (hw : w < 2 ^ 31) (hv : v.toInt = (t : ℤ) - j)
    (hq : j ≤ t → (q = 0#32 ↔ (t - j) % d = 0)) :
    IntOp.andi (IntOp.andi (IntOp.cmpi .sge v 0#32) (IntOp.cmpi .sle v (BitVec.ofNat 32 w))) (IntOp.cmpi .eq q 0#32) = 1#1
      ↔ Vis w d t j := by
  have e : IntOp.cmpi .eq q 0#32 = 1#1 ↔ q = 0#32 := by
    rw [WordCmp.cmpi_eq_eq]
    by_cases h : q = 0#32 <;> simp [h]
  rw [IntOp.andi_eq_one, IntOp.andi_eq_one, IntOp.cmpi_sge, IntOp.cmpi_sle, e, hv, toInt_small w hw,
    show (0#32).toInt = 0 from rfl]
  unfold Vis
  constructor
  · rintro ⟨⟨h1, h2⟩, h3⟩
    exact ⟨by omega, by omega, (hq (by omega)).1 h3⟩
  · rintro ⟨h1, h2, h3⟩
    exact ⟨⟨by omega, by omega⟩, (hq h1).2 h3⟩

end Cert.Band

end
-- ==== Proof.Band16Head.lean ====
/-
  ONE BLOCK OF THE HEADS WITH WINDOW 2048 AND DILATION 16, at the ideal values: the two results of the kernel's body at a row
  and a lane, for real queries, keys and values, are the row functions of DilRow.lean on the visible columns of the band.
  `vis_eq` says which columns those are.
-/
module

public import proofs.«01_k».proof.Proof.Gen.Band16Ideal.Skeleton
public import Idealize.ShloMosaic.Lib.Pointwise
public import proofs.«01_k».proof.Proof.BandRow

@[expose] public section

set_option maxRecDepth 16384

noncomputable section

namespace Cert.Band16Ideal.Head

open Idealize.ShloMosaic Idealize.SL.Sem Cert.Band16Ideal Cert.Band16Ideal.Gen

/-- The first position a block of rows reads, from the block's own first position. -/
theorem shift_eq : ∀ n : Fin 64, Scalar.subi (Scalar.muli (BitVec.ofNat 32 n.val) 256#32)
    (Scalar.maxsi (Scalar.subi (Scalar.muli (Scalar.addi (BitVec.ofNat 32 n.val) 1#32) 256#32) 2304#32) 0#32)
    = BitVec.ofNat 32 (n.val * 256 - (n.val * 256 - 2048)) := by decide +kernel

theorem hw : 2048 ≤ 2048 := by omega

/-- The kernel's conditions on a row and a column of the band, as it computes them. -/
def word (n : ℕ) (r : Fin 256) (c : Fin 2304) : BitVec 32 :=
  IntOp.addi (IntOp.subi (BitVec.ofNat 32 r.val) (BitVec.ofNat 32 c.val)) (BitVec.ofNat 32 (n * 256 - (n * 256 - 2048)))

theorem vis_eq (n : Fin 64) (r : Fin 256) (c : Fin 2304) :
    IntOp.andi (IntOp.andi (IntOp.cmpi .sge (word n.val r c) 0#32) (IntOp.cmpi .sle (word n.val r c) 2048#32))
      (IntOp.cmpi .eq (IntOp.andi (word n.val r c) 15#32) 0#32) = 1#1
      ↔ Band.Vis 2048 16 (n.val * 256 + r.val) (Band.posn 2048 hw n c).val := by
  have s₁ := Band.toInt_small r.val (by omega)
  have s₂ := Band.toInt_small c.val (by omega)
  have s₃ := Band.toInt_small (n.val * 256 - (n.val * 256 - 2048)) (by omega)
  have hr := r.isLt
  have hc := c.isLt
  have e : (word n.val r c).toInt = ((n.val * 256 + r.val : ℕ) : ℤ) - (Band.posn 2048 hw n c).val := by
    unfold word Band.posn
    simp only [IntOp.subi, IntOp.addi, BitVec.toInt_sub, BitVec.toInt_add, s₁, s₂, s₃, Int.bmod]
    omega
  exact Band.vis_word _ _ 2048 16 _ _ (by omega) e fun h => Band.low_bits _ 4 _ _ (by omega) e h

variable (i : grid0.Coords) (n : Fin 64) (hn : (i 1).val = n.val)
  (q : FVec Ideal S256x128 .bf16) (k v : FVec Ideal S2304x128 .bf16)

include hn in
theorem scores_apply (r : Fin 256) (c : Fin 2304) :
    k0_pay3 (F := Ideal) i k q (ix2 r c) = if Band.Vis 2048 16 (n.val * 256 + r.val) (Band.posn 2048 hw n c).val
      then ∑ l : Fin 128, q (ix2 r l) * k (ix2 c l) else ⊥ := by
  have hm : Named.named (F := Ideal) κ "mask" (φ := .f32) 0xF149F2CA#32 = ⊥ :=
    IdealRules.named_const.ideal_named_scalar _ _ _ _ rfl
  pointwise [k0_pay3]
  rw [hm, hn, shift_eq n]
  exact if_congr (vis_eq n r c) rfl rfl

theorem top_apply (r : Fin 256) (z : Fin 1) :
    k0_pay4 (F := Ideal) i k q (ix2 r z) = Finset.univ.fold max ⊥ fun c : Fin 2304 => k0_pay3 (F := Ideal) i k q (ix2 r c) := by
  have hb : Ideal.ofBits .f32 0xFF800000#32 = ⊥ := by simp [Ideal.ofBits, Ideal.ieee]
  pointwise [k0_pay4]
  rw [hb]

theorem exp_apply (r : Fin 256) (c : Fin 2304) :
    k0_pay5 (F := Ideal) i k q (ix2 r c)
      = Ideal.exp (k0_pay3 (F := Ideal) i k q (ix2 r c) - Finset.univ.fold max ⊥ fun c : Fin 2304 => k0_pay3 (F := Ideal) i k q (ix2 r c)) := by
  rw [← top_apply i q k r 0]
  pointwise [k0_pay5]

theorem sum_apply (r : Fin 256) (z : Fin 1) :
    k0_pay6 (F := Ideal) i k q (ix2 r z) = ∑ c : Fin 2304, k0_pay5 (F := Ideal) i k q (ix2 r c) := by
  pointwise [k0_pay6]

theorem mean_apply (r : Fin 256) (e : Fin 128) :
    k0_pay1 (F := Ideal) (k0_pay7 i k v q) (k0_pay8 i k q) (ix2 r e)
      = Ideal.div (∑ c : Fin 2304, k0_pay5 (F := Ideal) i k q (ix2 r c) * v (ix2 c e)) (k0_pay6 (F := Ideal) i k q (ix2 r (0 : Fin 1))) := by
  pointwise [k0_pay1, k0_pay7, k0_pay8]

theorem log_apply (r : Fin 256) (e : Fin 128) :
    k0_pay2 (F := Ideal) (k0_pay4 i k q) (k0_pay6 i k q) (ix2 r e)
      = k0_pay4 (F := Ideal) i k q (ix2 r (0 : Fin 1)) + Ideal.log (k0_pay6 (F := Ideal) i k q (ix2 r (0 : Fin 1))) := by
  pointwise [k0_pay2]

variable (x : Spec.Rows) (hh : Fin 4) (r : Fin 256) (e : Fin 128)
  (hq : ∀ l : Fin 128, q (ix2 r l) = (x (ix2 (Band.row n r)
    (Band.qcol 1 hh l)) : EReal))
  (hk : ∀ (c : Fin 2304) (l : Fin 128), k (ix2 c l) = (x (ix2 (Band.posn 2048 hw n c)
    (Band.kcol 1 hh l)) : EReal))
  (hv : ∀ (c : Fin 2304) (l : Fin 128), v (ix2 c l) = (x (ix2 (Band.posn 2048 hw n c)
    (Band.vcol 1 hh l)) : EReal))

include hn hq hk

/-- The block's logarithms are those of its rows. -/
theorem logs_row : k0_pay2 (F := Ideal) (k0_pay4 i k q) (k0_pay6 i k q) (ix2 r e)
    = (Band.logs x 1 2048 16 (Band.row n r) (Band.ocol hh e) : EReal) := by
  rw [← Band.logs_band x 1 2048 16 hw n r hh e, log_apply, top_apply, sum_apply]
  simp only [exp_apply]
  refine DilRow.lse_row _ (Band.sees_self 2048 16 hw n r) _ (fun c : Fin (2048 + 256) => k0_pay3 (F := Ideal) i k q (ix2 r c)) fun c => ?_
  rw [scores_apply i n hn]
  simp only [hq, hk, ← EReal.coe_mul, Row.sum_coe]

include hv

/-- The block's attention is that of its rows. -/
theorem attn_row : k0_pay1 (F := Ideal) (k0_pay7 i k v q) (k0_pay8 i k q) (ix2 r e)
    = (Band.attn x 1 2048 16 (Band.row n r) (Band.ocol hh e) : EReal) := by
  rw [← Band.attn_band x 1 2048 16 hw n r hh e, mean_apply, sum_apply]
  simp only [exp_apply, hv]
  refine DilRow.kernel_row _ (Band.sees_self 2048 16 hw n r) _ _ (fun c : Fin (2048 + 256) => k0_pay3 (F := Ideal) i k q (ix2 r c)) fun c => ?_
  rw [scores_apply i n hn]
  simp only [hq, hk, ← EReal.coe_mul, Row.sum_coe]

end Cert.Band16Ideal.Head

end
-- ==== Proof.Band16Block.lean ====
/-
  THE RUN OF THE HEADS WITH WINDOW 2048 AND DILATION 16: each block of the two result arrays after the run is the attention, and
  the logarithms, of its rows (BandRow.lean). Grid point `(h, n)` writes head `h` of the 256 rows of block `n`.
-/
module

public import proofs.«01_k».proof.Proof.Gen.Band16Ideal.Value
public import Idealize.ShloMosaic.Lib.Pipeline.ValueKit
public import proofs.«01_k».proof.Proof.Band16Head

@[expose] public section

set_option maxRecDepth 16384

noncomputable section

namespace Cert.Band16Ideal.Block

open Idealize.ShloMosaic Idealize.ShloMosaic.TcCoe Idealize.SL.Sem Cert.Band16Ideal Cert.Band16Ideal.Gen Cert.Band16Ideal.Head

variable (m : (ℓ : Loc nD τ sig) → Buf (Elt Ideal) ℓ)

theorem idx0 : ∀ t : Fin cfg0.N, win0_0.index t = ![(grid0.coords t 1).val, 52 + (grid0.coords t 0).val] := by decide +kernel
theorem idx1 : ∀ t : Fin cfg0.N, win0_1.index t = ![0, 64 + (grid0.coords t 0).val] := by decide +kernel
theorem idx2 : ∀ t : Fin cfg0.N, win0_2.index t = ![0, 76 + (grid0.coords t 0).val] := by decide +kernel
theorem idx3 : ∀ t : Fin cfg0.N, win0_3.index t = ![(grid0.coords t 1).val, (grid0.coords t 0).val] := by decide +kernel
theorem idx4 : ∀ t : Fin cfg0.N, win0_4.index t = ![(grid0.coords t 1).val, (grid0.coords t 0).val] := by decide +kernel

theorem off_eq : ∀ t : Fin cfg0.N, k0_off1 (grid0.coords t) = ![(grid0.coords t 1).val * 256 - 2048, 0] := by decide +kernel

variable (c : Dev nD) (x : Spec.Rows) (hx : ∀ i, m ((c.tc : Thread nD τ).loc main_arg0) i = (x i : EReal)) (t : Fin cfg0.N)

include hx

theorem blk0 (r : Fin 256) (l : Fin 128) :
    (iblk m c 0 t : Vec Ideal S256x128 .bf16) (ix2 r l)
      = (x (ix2 (Band.row (grid0.coords t 1) r)
        (Band.qcol 1 (grid0.coords t 0) l)) : EReal) := by
  rw [← hx]
  blk_ext [iblk, V, idx0 t]
  · simp [ix2, Band.row]
  · simp [ix2, Band.qcol]; omega

theorem blk1 (inb) (r : Fin 2304) (l : Fin 128) :
    View.ld (iblk m c 1 t : Vec Ideal S16384x128 .bf16) (Rect.unit (k0_off1 (grid0.coords t)) S2304x128.size inb) (ix2 r l)
      = (x (ix2 (Band.posn 2048 hw (grid0.coords t 1) r)
        (Band.kcol 1 (grid0.coords t 0) l)) : EReal) := by
  rw [← hx]
  rw [View.ld]
  blk_ext [iblk, V, idx1 t]
  · simp [Rect.unit, LoadRect.idx, ix2, Band.posn, off_eq t]
  · simp [Rect.unit, LoadRect.idx, ix2, off_eq t, Band.kcol]; omega

theorem blk2 (inb) (r : Fin 2304) (l : Fin 128) :
    View.ld (iblk m c 2 t : Vec Ideal S16384x128 .bf16) (Rect.unit (k0_off1 (grid0.coords t)) S2304x128.size inb) (ix2 r l)
      = (x (ix2 (Band.posn 2048 hw (grid0.coords t 1) r)
        (Band.vcol 1 (grid0.coords t 0) l)) : EReal) := by
  rw [← hx]
  rw [View.ld]
  blk_ext [iblk, V, idx2 t]
  · simp [Rect.unit, LoadRect.idx, ix2, Band.posn, off_eq t]
  · simp [Rect.unit, LoadRect.idx, ix2, off_eq t, Band.vcol]; omega

/-- The attention after the run. -/
theorem final3 :
    (dats m 0 c).arrAt 3 cfg0.N = fun i => (Band.attn x 1 2048 16 (i 0) (i 1) : EReal) := by
  refine (dats m 0 c).arrAt_eq_of_covers 3 _ (by decide +kernel) fun t hf y => ?_
  blk_simp
  rw [after0_3]
  unfold outsAt0
  frame_out
  have e0 : (((View.whole main_v0_0).slice (win0_3.rect t)).emb y 0).val = (grid0.coords t 1).val * 256 + (y 0).val := by
    blk_simp [idx3 t]
  have e1 : (((View.whole main_v0_0).slice (win0_3.rect t)).emb y 1).val = (grid0.coords t 0).val * 128 + (y 1).val := by
    blk_simp [idx3 t]
  generalize (((View.whole main_v0_0).slice (win0_3.rect t)).emb y) = Y at e0 e1 ⊢
  rw [show y = ix2 (y 0) (y 1) from by pointwise]
  refine (attn_row (grid0.coords t) (grid0.coords t 1) rfl _ _ _ x (grid0.coords t 0) (y 0) (y 1)
    (blk0 m c x hx t (y 0)) (blk1 m c x hx t _) (blk2 m c x hx t _)).trans ?_
  congr 2 <;> · apply Fin.ext; first | exact e0.symm | exact e1.symm

/-- The logarithms after the run. -/
theorem final4 :
    (dats m 0 c).arrAt 4 cfg0.N = fun i => (Band.logs x 1 2048 16 (i 0) (i 1) : EReal) := by
  refine (dats m 0 c).arrAt_eq_of_covers 4 _ (by decide +kernel) fun t hf y => ?_
  blk_simp
  rw [after0_4]
  unfold outsAt0
  frame_out
  have e0 : (((View.whole main_v0_1).slice (win0_4.rect t)).emb y 0).val = (grid0.coords t 1).val * 256 + (y 0).val := by
    blk_simp [idx4 t]
  have e1 : (((View.whole main_v0_1).slice (win0_4.rect t)).emb y 1).val = (grid0.coords t 0).val * 128 + (y 1).val := by
    blk_simp [idx4 t]
  generalize (((View.whole main_v0_1).slice (win0_4.rect t)).emb y) = Y at e0 e1 ⊢
  rw [show y = ix2 (y 0) (y 1) from by pointwise]
  refine (logs_row (grid0.coords t) (grid0.coords t 1) rfl _ _ x (grid0.coords t 0) (y 0) (y 1)
    (blk0 m c x hx t (y 0)) (blk1 m c x hx t _)).trans ?_
  congr 2 <;> · apply Fin.ext; first | exact e0.symm | exact e1.symm

end Cert.Band16Ideal.Block

end
-- ==== Proof.BandRef.lean ====
/-
  THE REFERENCE OF THE WIDER DILATED HEADS, for any window and dilation, on queries, keys and values already split into
  heads. The stages after the mask are those of the undilated heads (DilRef.lean). `result0_eq` and `result1_eq` say that
  the two results are the functions of BandRow.lean.
-/
module

public import proofs.«01_k».proof.Proof.DilRef
public import proofs.«01_k».proof.Proof.BandRow

@[expose] public section

set_option maxRecDepth 16384

noncomputable section

namespace Cert.BandRef

open Idealize.ShloMosaic Cert.DilReferenceIdeal Cert.DilReferenceIdeal.Gen Cert.DilReferenceIdeal.Stage

/-- One number at every pair of positions. -/
def all (n : BitVec 32) : IVec S16384x16384 32 :=
  broadcastInDim S16384x16384 ![] bcast_S_S16384x16384 (constantI S_ 32 n)

/-- Which positions are visible. -/
def vis (w d : ℕ) : IVec S16384x16384 1 :=
  andi (andi (cmpi .sge dist (all 0#32)) (cmpi .sle dist (all (BitVec.ofNat 32 w))))
    (cmpi .eq (Host.remsi dist (all (BitVec.ofNat 32 d))) (all 0#32))

variable (w d : ℕ) (q k v : FVec Ideal S16384x4x128 .f32)

def scores : FVec Ideal S4x16384x16384 .f32 :=
  select (broadcastInDim S4x16384x16384 ![0, 1, 2] bcast_S1x16384x16384_S4x16384x16384_0_1_2 (broadcastInDim S1x16384x16384 ![1, 2] bcast_S16384x16384_S1x16384x16384_1_2 (vis w d)))
    (Host.dotGeneral dot_S16384x4x128_S16384x4x128_S4x16384x16384_2_2_0_0_1_1 none q k)
    (broadcastInDim S4x16384x16384 ![] bcast_S_S4x16384x16384 (id (constant S_ .f32 0xFF800000#32)))

def result0 : FVec Ideal S16384x512 .bf16 := mix (quot (expd (scores w d q k)) (total (expd (scores w d q k)))) v

def result1 : FVec Ideal S16384x512 .f32 := spread (top (scores w d q k)) (total (expd (scores w d q k)))

/-- A position sees itself. -/
theorem vis_self (w d t : ℕ) : Band.Vis w d t t := ⟨le_rfl, Nat.le_add_right t w, by rw [Nat.sub_self, Nat.zero_mod]⟩

theorem vis_eq (hw : w < 2 ^ 31) (hd : 0 < d) (hd' : d < 2 ^ 31) (t j : Fin 16384) :
    vis w d (ix2 t j) = 1#1 ↔ Band.Vis w d t.val j.val := by
  have e : (IntOp.subi (BitVec.ofNat 32 t.val) (BitVec.ofNat 32 j.val)).toInt = (t.val : ℤ) - j.val := by
    rw [IntOp.subi, BitVec.toInt_sub, DilReferenceIdeal.Stage.toInt_small _ t.isLt, DilReferenceIdeal.Stage.toInt_small _ j.isLt]
    simp only [Int.bmod_def]
    omega
  rw [← Band.vis_word _ (IntOp.remsi .host (IntOp.subi (BitVec.ofNat 32 t.val) (BitVec.ofNat 32 j.val)) (BitVec.ofNat 32 d))
    w d t.val j.val hw e fun h => Band.rem_zero _ d t.val j.val hd hd' e h]
  unfold vis DilReferenceIdeal.Stage.dist all
  pointwise [Host.remsi]

theorem scores_eq (hw : w < 2 ^ 31) (hd : 0 < d) (hd' : d < 2 ^ 31) (h : Fin 4) (t j : Fin 16384) :
    scores w d q k (ix3 h t j)
      = if Band.Vis w d t.val j.val then ∑ e : Fin 128, q (ix3 t h e) * k (ix3 j h e) else ⊥ := by
  pointwise [scores]
  simp only [Scalar.select, id]
  refine if_congr (vis_eq w d hw hd hd' t j) ?_ ?_
  · rfl
  · exact bot_eq

variable (x : Spec.Rows) (g : Fin 2)
  (hq : ∀ (t : Fin 16384) (h : Fin 4) (e : Fin 128), q (ix3 t h e)
    = (x (ix2 t (Band.qcol g h e)) : EReal))
  (hk : ∀ (t : Fin 16384) (h : Fin 4) (e : Fin 128), k (ix3 t h e)
    = (x (ix2 t (Band.kcol g h e)) : EReal))
  (hv : ∀ (t : Fin 16384) (h : Fin 4) (e : Fin 128), v (ix3 t h e)
    = (x (ix2 t (Band.vcol g h e)) : EReal))

include hq hk

/-- The scores of a row: real where the position is visible, and minus infinity elsewhere. -/
theorem scores_row (hw : w < 2 ^ 31) (hd : 0 < d) (hd' : d < 2 ^ 31) (t : Fin 16384) (l : Fin 512) (j : Fin 16384) :
    scores w d q k (ix3 (Band.head l) t j)
      = if Band.Vis w d t.val j.val then (Band.score x g t l j : EReal) else ⊥ := by
  rw [scores_eq w d q k hw hd hd']
  refine if_congr Iff.rfl ?_ rfl
  unfold Band.score
  rw [← Row.sum_coe]
  refine Finset.sum_congr rfl fun e _ => ?_
  rw [hq, hk, EReal.coe_mul]

/-- The logarithms. -/
theorem result1_eq (hw : w < 2 ^ 31) (hd : 0 < d) (hd' : d < 2 ^ 31) (t : Fin 16384) (l : Fin 512) :
    result1 w d q k (ix2 t l) = (Band.logs x g w d t l : EReal) := by
  unfold result1
  rw [spread_eq]
  simp only [top_eq, total_eq, expd_eq]
  exact DilRow.lse_row (fun j : Fin 16384 => Band.Vis w d t.val j.val) ⟨t, vis_self w d t.val⟩ (Band.score x g t l)
    (fun j => scores w d q k (ix3 (Band.head l) t j)) (scores_row w d q k x g hq hk hw hd hd' t l)

include hv

/-- The attention. -/
theorem result0_eq (hw : w < 2 ^ 31) (hd : 0 < d) (hd' : d < 2 ^ 31) (t : Fin 16384) (l : Fin 512) :
    result0 w d q k v (ix2 t l) = (Band.attn x g w d t l : EReal) := by
  unfold result0
  rw [mix_eq]
  simp only [quot_eq, total_eq, expd_eq, hv]
  exact DilRow.reference_row (fun j : Fin 16384 => Band.Vis w d t.val j.val) ⟨t, vis_self w d t.val⟩ (Band.score x g t l)
    (Band.value x g l) (fun j => scores w d q k (ix3 (Band.head l) t j)) (scores_row w d q k x g hq hk hw hd hd' t l)

end Cert.BandRef

end
-- ==== Proof.Band16Ref.lean ====
/-
  THE REFERENCE'S TWO RESULTS, of the heads with window 2048 and dilation 16: its composed terms are the stages of BandRef.lean.
-/
module

public import proofs.«01_k».proof.Proof.Gen.Band16ReferenceIdeal.Run
public import proofs.«01_k».proof.Proof.BandRef

@[expose] public section

set_option maxRecDepth 16384

noncomputable section

namespace Cert.Band16ReferenceIdeal.Stage

open Idealize.ShloMosaic Idealize.ShloMosaic.TcCoe Idealize.SL.Sem Cert.Band16ReferenceIdeal Cert.Band16ReferenceIdeal.Gen

variable (a : FVec Ideal S16384x10752 .bf16)

def queries : FVec Ideal S16384x4x128 .f32 :=
  shapeCast _ (extf .f32 (extractStridedSlice S16384x512 ![0, 6656] a slices_S16384x10752_S16384x512_0_6656) bitsLt_bf16_f32) shapeCasts_S16384x512_S16384x4x128

def keys : FVec Ideal S16384x4x128 .f32 :=
  shapeCast _ (extf .f32 (extractStridedSlice S16384x512 ![0, 8192] a slices_S16384x10752_S16384x512_0_8192) bitsLt_bf16_f32) shapeCasts_S16384x512_S16384x4x128

def values : FVec Ideal S16384x4x128 .f32 :=
  shapeCast _ (extf .f32 (extractStridedSlice S16384x512 ![0, 9728] a slices_S16384x10752_S16384x512_0_9728) bitsLt_bf16_f32) shapeCasts_S16384x512_S16384x4x128

theorem res0_eq (m : (ℓ : Loc nD τ sig) → Buf (Elt Ideal) ℓ) (c : Dev nD) :
    Value.res_out0 (F := Ideal) m c = BandRef.result0 2048 16 (queries (m ((c.tc : Thread nD τ).loc main_arg0)))
      (keys (m ((c.tc : Thread nD τ).loc main_arg0))) (values (m ((c.tc : Thread nD τ).loc main_arg0))) := rfl

theorem res1_eq (m : (ℓ : Loc nD τ sig) → Buf (Elt Ideal) ℓ) (c : Dev nD) :
    Value.res_out1 (F := Ideal) m c = BandRef.result1 2048 16 (queries (m ((c.tc : Thread nD τ).loc main_arg0)))
      (keys (m ((c.tc : Thread nD τ).loc main_arg0))) := rfl

variable (x : Spec.Rows) (hx : ∀ i, a i = (x i : EReal)) (t : Fin 16384) (h : Fin 4) (e : Fin 128)

include hx

theorem queries_eq : queries a (ix3 t h e)
    = (x (ix2 t (Band.qcol 1 h e)) : EReal) := by
  rw [← hx]
  pointwise [queries]
  refine congrArg a (congrArg (ix2 t) (Fin.ext ?_))
  change _ = 6144 + 1 * 512 + h.val * 128 + e.val
  dsimp only
  omega

theorem keys_eq : keys a (ix3 t h e)
    = (x (ix2 t (Band.kcol 1 h e)) : EReal) := by
  rw [← hx]
  pointwise [keys]
  refine congrArg a (congrArg (ix2 t) (Fin.ext ?_))
  change _ = 7680 + 1 * 512 + h.val * 128 + e.val
  dsimp only
  omega

theorem values_eq : values a (ix3 t h e)
    = (x (ix2 t (Band.vcol 1 h e)) : EReal) := by
  rw [← hx]
  pointwise [values]
  refine congrArg a (congrArg (ix2 t) (Fin.ext ?_))
  change _ = 9216 + 1 * 512 + h.val * 128 + e.val
  dsimp only
  omega

/-- The first result is the attention of BandRow.lean. -/
theorem result0_eq (l : Fin 512) :
    BandRef.result0 2048 16 (queries a) (keys a) (values a) (ix2 t l) = (Band.attn x 1 2048 16 t l : EReal) :=
  BandRef.result0_eq 2048 16 _ _ _ x 1 (queries_eq a x hx) (keys_eq a x hx) (values_eq a x hx) (by omega) (by omega) (by omega) t l

/-- The second result is the logarithms of BandRow.lean. -/
theorem result1_eq (l : Fin 512) :
    BandRef.result1 2048 16 (queries a) (keys a) (ix2 t l) = (Band.logs x 1 2048 16 t l : EReal) :=
  BandRef.result1_eq 2048 16 _ _ x 1 (queries_eq a x hx) (keys_eq a x hx) (by omega) (by omega) (by omega) t l

end Cert.Band16ReferenceIdeal.Stage

end
-- ==== Proof.Band4Head.lean ====
/-
  ONE BLOCK OF THE HEADS WITH WINDOW 512 AND DILATION 4, at the ideal values: the two results of the kernel's body at a row
  and a lane, for real queries, keys and values, are the row functions of DilRow.lean on the visible columns of the band.
  `vis_eq` says which columns those are.
-/
module

public import proofs.«01_k».proof.Proof.Gen.Band4Ideal.Skeleton
public import Idealize.ShloMosaic.Lib.Pointwise
public import proofs.«01_k».proof.Proof.BandRow

@[expose] public section

set_option maxRecDepth 16384

noncomputable section

namespace Cert.Band4Ideal.Head

open Idealize.ShloMosaic Idealize.SL.Sem Cert.Band4Ideal Cert.Band4Ideal.Gen

/-- The first position a block of rows reads, from the block's own first position. -/
theorem shift_eq : ∀ n : Fin 64, Scalar.subi (Scalar.muli (BitVec.ofNat 32 n.val) 256#32)
    (Scalar.maxsi (Scalar.subi (Scalar.muli (Scalar.addi (BitVec.ofNat 32 n.val) 1#32) 256#32) 768#32) 0#32)
    = BitVec.ofNat 32 (n.val * 256 - (n.val * 256 - 512)) := by decide +kernel

theorem hw : 512 ≤ 2048 := by omega

/-- The kernel's conditions on a row and a column of the band, as it computes them. -/
def word (n : ℕ) (r : Fin 256) (c : Fin 768) : BitVec 32 :=
  IntOp.addi (IntOp.subi (BitVec.ofNat 32 r.val) (BitVec.ofNat 32 c.val)) (BitVec.ofNat 32 (n * 256 - (n * 256 - 512)))

theorem vis_eq (n : Fin 64) (r : Fin 256) (c : Fin 768) :
    IntOp.andi (IntOp.andi (IntOp.cmpi .sge (word n.val r c) 0#32) (IntOp.cmpi .sle (word n.val r c) 512#32))
      (IntOp.cmpi .eq (IntOp.andi (word n.val r c) 3#32) 0#32) = 1#1
      ↔ Band.Vis 512 4 (n.val * 256 + r.val) (Band.posn 512 hw n c).val := by
  have s₁ := Band.toInt_small r.val (by omega)
  have s₂ := Band.toInt_small c.val (by omega)
  have s₃ := Band.toInt_small (n.val * 256 - (n.val * 256 - 512)) (by omega)
  have hr := r.isLt
  have hc := c.isLt
  have e : (word n.val r c).toInt = ((n.val * 256 + r.val : ℕ) : ℤ) - (Band.posn 512 hw n c).val := by
    unfold word Band.posn
    simp only [IntOp.subi, IntOp.addi, BitVec.toInt_sub, BitVec.toInt_add, s₁, s₂, s₃, Int.bmod]
    omega
  exact Band.vis_word _ _ 512 4 _ _ (by omega) e fun h => Band.low_bits _ 2 _ _ (by omega) e h

variable (i : grid0.Coords) (n : Fin 64) (hn : (i 1).val = n.val)
  (q : FVec Ideal S256x128 .bf16) (k v : FVec Ideal S768x128 .bf16)

include hn in
theorem scores_apply (r : Fin 256) (c : Fin 768) :
    k0_pay3 (F := Ideal) i k q (ix2 r c) = if Band.Vis 512 4 (n.val * 256 + r.val) (Band.posn 512 hw n c).val
      then ∑ l : Fin 128, q (ix2 r l) * k (ix2 c l) else ⊥ := by
  have hm : Named.named (F := Ideal) κ "mask" (φ := .f32) 0xF149F2CA#32 = ⊥ :=
    IdealRules.named_const.ideal_named_scalar _ _ _ _ rfl
  pointwise [k0_pay3]
  rw [hm, hn, shift_eq n]
  exact if_congr (vis_eq n r c) rfl rfl

theorem top_apply (r : Fin 256) (z : Fin 1) :
    k0_pay4 (F := Ideal) i k q (ix2 r z) = Finset.univ.fold max ⊥ fun c : Fin 768 => k0_pay3 (F := Ideal) i k q (ix2 r c) := by
  have hb : Ideal.ofBits .f32 0xFF800000#32 = ⊥ := by simp [Ideal.ofBits, Ideal.ieee]
  pointwise [k0_pay4]
  rw [hb]

theorem exp_apply (r : Fin 256) (c : Fin 768) :
    k0_pay5 (F := Ideal) i k q (ix2 r c)
      = Ideal.exp (k0_pay3 (F := Ideal) i k q (ix2 r c) - Finset.univ.fold max ⊥ fun c : Fin 768 => k0_pay3 (F := Ideal) i k q (ix2 r c)) := by
  rw [← top_apply i q k r 0]
  pointwise [k0_pay5]

theorem sum_apply (r : Fin 256) (z : Fin 1) :
    k0_pay6 (F := Ideal) i k q (ix2 r z) = ∑ c : Fin 768, k0_pay5 (F := Ideal) i k q (ix2 r c) := by
  pointwise [k0_pay6]

theorem mean_apply (r : Fin 256) (e : Fin 128) :
    k0_pay1 (F := Ideal) (k0_pay7 i k v q) (k0_pay8 i k q) (ix2 r e)
      = Ideal.div (∑ c : Fin 768, k0_pay5 (F := Ideal) i k q (ix2 r c) * v (ix2 c e)) (k0_pay6 (F := Ideal) i k q (ix2 r (0 : Fin 1))) := by
  pointwise [k0_pay1, k0_pay7, k0_pay8]

theorem log_apply (r : Fin 256) (e : Fin 128) :
    k0_pay2 (F := Ideal) (k0_pay4 i k q) (k0_pay6 i k q) (ix2 r e)
      = k0_pay4 (F := Ideal) i k q (ix2 r (0 : Fin 1)) + Ideal.log (k0_pay6 (F := Ideal) i k q (ix2 r (0 : Fin 1))) := by
  pointwise [k0_pay2]

variable (x : Spec.Rows) (hh : Fin 4) (r : Fin 256) (e : Fin 128)
  (hq : ∀ l : Fin 128, q (ix2 r l) = (x (ix2 (Band.row n r)
    (Band.qcol 0 hh l)) : EReal))
  (hk : ∀ (c : Fin 768) (l : Fin 128), k (ix2 c l) = (x (ix2 (Band.posn 512 hw n c)
    (Band.kcol 0 hh l)) : EReal))
  (hv : ∀ (c : Fin 768) (l : Fin 128), v (ix2 c l) = (x (ix2 (Band.posn 512 hw n c)
    (Band.vcol 0 hh l)) : EReal))

include hn hq hk

/-- The block's logarithms are those of its rows. -/
theorem logs_row : k0_pay2 (F := Ideal) (k0_pay4 i k q) (k0_pay6 i k q) (ix2 r e)
    = (Band.logs x 0 512 4 (Band.row n r) (Band.ocol hh e) : EReal) := by
  rw [← Band.logs_band x 0 512 4 hw n r hh e, log_apply, top_apply, sum_apply]
  simp only [exp_apply]
  refine DilRow.lse_row _ (Band.sees_self 512 4 hw n r) _ (fun c : Fin (512 + 256) => k0_pay3 (F := Ideal) i k q (ix2 r c)) fun c => ?_
  rw [scores_apply i n hn]
  simp only [hq, hk, ← EReal.coe_mul, Row.sum_coe]

include hv

/-- The block's attention is that of its rows. -/
theorem attn_row : k0_pay1 (F := Ideal) (k0_pay7 i k v q) (k0_pay8 i k q) (ix2 r e)
    = (Band.attn x 0 512 4 (Band.row n r) (Band.ocol hh e) : EReal) := by
  rw [← Band.attn_band x 0 512 4 hw n r hh e, mean_apply, sum_apply]
  simp only [exp_apply, hv]
  refine DilRow.kernel_row _ (Band.sees_self 512 4 hw n r) _ _ (fun c : Fin (512 + 256) => k0_pay3 (F := Ideal) i k q (ix2 r c)) fun c => ?_
  rw [scores_apply i n hn]
  simp only [hq, hk, ← EReal.coe_mul, Row.sum_coe]

end Cert.Band4Ideal.Head

end
-- ==== Proof.Band4Block.lean ====
/-
  THE RUN OF THE HEADS WITH WINDOW 512 AND DILATION 4: each block of the two result arrays after the run is the attention, and
  the logarithms, of its rows (BandRow.lean). Grid point `(h, n)` writes head `h` of the 256 rows of block `n`.
-/
module

public import proofs.«01_k».proof.Proof.Gen.Band4Ideal.Value
public import Idealize.ShloMosaic.Lib.Pipeline.ValueKit
public import proofs.«01_k».proof.Proof.Band4Head

@[expose] public section

set_option maxRecDepth 16384

noncomputable section

namespace Cert.Band4Ideal.Block

open Idealize.ShloMosaic Idealize.ShloMosaic.TcCoe Idealize.SL.Sem Cert.Band4Ideal Cert.Band4Ideal.Gen Cert.Band4Ideal.Head

variable (m : (ℓ : Loc nD τ sig) → Buf (Elt Ideal) ℓ)

theorem idx0 : ∀ t : Fin cfg0.N, win0_0.index t = ![(grid0.coords t 1).val, 48 + (grid0.coords t 0).val] := by decide +kernel
theorem idx1 : ∀ t : Fin cfg0.N, win0_1.index t = ![0, 60 + (grid0.coords t 0).val] := by decide +kernel
theorem idx2 : ∀ t : Fin cfg0.N, win0_2.index t = ![0, 72 + (grid0.coords t 0).val] := by decide +kernel
theorem idx3 : ∀ t : Fin cfg0.N, win0_3.index t = ![(grid0.coords t 1).val, (grid0.coords t 0).val] := by decide +kernel
theorem idx4 : ∀ t : Fin cfg0.N, win0_4.index t = ![(grid0.coords t 1).val, (grid0.coords t 0).val] := by decide +kernel

theorem off_eq : ∀ t : Fin cfg0.N, k0_off1 (grid0.coords t) = ![(grid0.coords t 1).val * 256 - 512, 0] := by decide +kernel

variable (c : Dev nD) (x : Spec.Rows) (hx : ∀ i, m ((c.tc : Thread nD τ).loc main_arg0) i = (x i : EReal)) (t : Fin cfg0.N)

include hx

theorem blk0 (r : Fin 256) (l : Fin 128) :
    (iblk m c 0 t : Vec Ideal S256x128 .bf16) (ix2 r l)
      = (x (ix2 (Band.row (grid0.coords t 1) r)
        (Band.qcol 0 (grid0.coords t 0) l)) : EReal) := by
  rw [← hx]
  blk_ext [iblk, V, idx0 t]
  · simp [ix2, Band.row]
  · simp [ix2, Band.qcol]; omega

theorem blk1 (inb) (r : Fin 768) (l : Fin 128) :
    View.ld (iblk m c 1 t : Vec Ideal S16384x128 .bf16) (Rect.unit (k0_off1 (grid0.coords t)) S768x128.size inb) (ix2 r l)
      = (x (ix2 (Band.posn 512 hw (grid0.coords t 1) r)
        (Band.kcol 0 (grid0.coords t 0) l)) : EReal) := by
  rw [← hx]
  rw [View.ld]
  blk_ext [iblk, V, idx1 t]
  · simp [Rect.unit, LoadRect.idx, ix2, Band.posn, off_eq t]
  · simp [Rect.unit, LoadRect.idx, ix2, off_eq t, Band.kcol]; omega

theorem blk2 (inb) (r : Fin 768) (l : Fin 128) :
    View.ld (iblk m c 2 t : Vec Ideal S16384x128 .bf16) (Rect.unit (k0_off1 (grid0.coords t)) S768x128.size inb) (ix2 r l)
      = (x (ix2 (Band.posn 512 hw (grid0.coords t 1) r)
        (Band.vcol 0 (grid0.coords t 0) l)) : EReal) := by
  rw [← hx]
  rw [View.ld]
  blk_ext [iblk, V, idx2 t]
  · simp [Rect.unit, LoadRect.idx, ix2, Band.posn, off_eq t]
  · simp [Rect.unit, LoadRect.idx, ix2, off_eq t, Band.vcol]; omega

/-- The attention after the run. -/
theorem final3 :
    (dats m 0 c).arrAt 3 cfg0.N = fun i => (Band.attn x 0 512 4 (i 0) (i 1) : EReal) := by
  refine (dats m 0 c).arrAt_eq_of_covers 3 _ (by decide +kernel) fun t hf y => ?_
  blk_simp
  rw [after0_3]
  unfold outsAt0
  frame_out
  have e0 : (((View.whole main_v0_0).slice (win0_3.rect t)).emb y 0).val = (grid0.coords t 1).val * 256 + (y 0).val := by
    blk_simp [idx3 t]
  have e1 : (((View.whole main_v0_0).slice (win0_3.rect t)).emb y 1).val = (grid0.coords t 0).val * 128 + (y 1).val := by
    blk_simp [idx3 t]
  generalize (((View.whole main_v0_0).slice (win0_3.rect t)).emb y) = Y at e0 e1 ⊢
  rw [show y = ix2 (y 0) (y 1) from by pointwise]
  refine (attn_row (grid0.coords t) (grid0.coords t 1) rfl _ _ _ x (grid0.coords t 0) (y 0) (y 1)
    (blk0 m c x hx t (y 0)) (blk1 m c x hx t _) (blk2 m c x hx t _)).trans ?_
  congr 2 <;> · apply Fin.ext; first | exact e0.symm | exact e1.symm

/-- The logarithms after the run. -/
theorem final4 :
    (dats m 0 c).arrAt 4 cfg0.N = fun i => (Band.logs x 0 512 4 (i 0) (i 1) : EReal) := by
  refine (dats m 0 c).arrAt_eq_of_covers 4 _ (by decide +kernel) fun t hf y => ?_
  blk_simp
  rw [after0_4]
  unfold outsAt0
  frame_out
  have e0 : (((View.whole main_v0_1).slice (win0_4.rect t)).emb y 0).val = (grid0.coords t 1).val * 256 + (y 0).val := by
    blk_simp [idx4 t]
  have e1 : (((View.whole main_v0_1).slice (win0_4.rect t)).emb y 1).val = (grid0.coords t 0).val * 128 + (y 1).val := by
    blk_simp [idx4 t]
  generalize (((View.whole main_v0_1).slice (win0_4.rect t)).emb y) = Y at e0 e1 ⊢
  rw [show y = ix2 (y 0) (y 1) from by pointwise]
  refine (logs_row (grid0.coords t) (grid0.coords t 1) rfl _ _ x (grid0.coords t 0) (y 0) (y 1)
    (blk0 m c x hx t (y 0)) (blk1 m c x hx t _)).trans ?_
  congr 2 <;> · apply Fin.ext; first | exact e0.symm | exact e1.symm

end Cert.Band4Ideal.Block

end
-- ==== Proof.Band4Ref.lean ====
/-
  THE REFERENCE'S TWO RESULTS, of the heads with window 512 and dilation 4: its composed terms are the stages of BandRef.lean.
-/
module

public import proofs.«01_k».proof.Proof.Gen.Band4ReferenceIdeal.Run
public import proofs.«01_k».proof.Proof.BandRef

@[expose] public section

set_option maxRecDepth 16384

noncomputable section

namespace Cert.Band4ReferenceIdeal.Stage

open Idealize.ShloMosaic Idealize.ShloMosaic.TcCoe Idealize.SL.Sem Cert.Band4ReferenceIdeal Cert.Band4ReferenceIdeal.Gen

variable (a : FVec Ideal S16384x10752 .bf16)

def queries : FVec Ideal S16384x4x128 .f32 :=
  shapeCast _ (extf .f32 (extractStridedSlice S16384x512 ![0, 6144] a slices_S16384x10752_S16384x512_0_6144) bitsLt_bf16_f32) shapeCasts_S16384x512_S16384x4x128

def keys : FVec Ideal S16384x4x128 .f32 :=
  shapeCast _ (extf .f32 (extractStridedSlice S16384x512 ![0, 7680] a slices_S16384x10752_S16384x512_0_7680) bitsLt_bf16_f32) shapeCasts_S16384x512_S16384x4x128

def values : FVec Ideal S16384x4x128 .f32 :=
  shapeCast _ (extf .f32 (extractStridedSlice S16384x512 ![0, 9216] a slices_S16384x10752_S16384x512_0_9216) bitsLt_bf16_f32) shapeCasts_S16384x512_S16384x4x128

theorem res0_eq (m : (ℓ : Loc nD τ sig) → Buf (Elt Ideal) ℓ) (c : Dev nD) :
    Value.res_out0 (F := Ideal) m c = BandRef.result0 512 4 (queries (m ((c.tc : Thread nD τ).loc main_arg0)))
      (keys (m ((c.tc : Thread nD τ).loc main_arg0))) (values (m ((c.tc : Thread nD τ).loc main_arg0))) := rfl

theorem res1_eq (m : (ℓ : Loc nD τ sig) → Buf (Elt Ideal) ℓ) (c : Dev nD) :
    Value.res_out1 (F := Ideal) m c = BandRef.result1 512 4 (queries (m ((c.tc : Thread nD τ).loc main_arg0)))
      (keys (m ((c.tc : Thread nD τ).loc main_arg0))) := rfl

variable (x : Spec.Rows) (hx : ∀ i, a i = (x i : EReal)) (t : Fin 16384) (h : Fin 4) (e : Fin 128)

include hx

theorem queries_eq : queries a (ix3 t h e)
    = (x (ix2 t (Band.qcol 0 h e)) : EReal) := by
  rw [← hx]
  pointwise [queries]
  refine congrArg a (congrArg (ix2 t) (Fin.ext ?_))
  change _ = 6144 + 0 * 512 + h.val * 128 + e.val
  dsimp only
  omega

theorem keys_eq : keys a (ix3 t h e)
    = (x (ix2 t (Band.kcol 0 h e)) : EReal) := by
  rw [← hx]
  pointwise [keys]
  refine congrArg a (congrArg (ix2 t) (Fin.ext ?_))
  change _ = 7680 + 0 * 512 + h.val * 128 + e.val
  dsimp only
  omega

theorem values_eq : values a (ix3 t h e)
    = (x (ix2 t (Band.vcol 0 h e)) : EReal) := by
  rw [← hx]
  pointwise [values]
  refine congrArg a (congrArg (ix2 t) (Fin.ext ?_))
  change _ = 9216 + 0 * 512 + h.val * 128 + e.val
  dsimp only
  omega

/-- The first result is the attention of BandRow.lean. -/
theorem result0_eq (l : Fin 512) :
    BandRef.result0 512 4 (queries a) (keys a) (values a) (ix2 t l) = (Band.attn x 0 512 4 t l : EReal) :=
  BandRef.result0_eq 512 4 _ _ _ x 0 (queries_eq a x hx) (keys_eq a x hx) (values_eq a x hx) (by omega) (by omega) (by omega) t l

/-- The second result is the logarithms of BandRow.lean. -/
theorem result1_eq (l : Fin 512) :
    BandRef.result1 512 4 (queries a) (keys a) (ix2 t l) = (Band.logs x 0 512 4 t l : EReal) :=
  BandRef.result1_eq 512 4 _ _ x 0 (queries_eq a x hx) (keys_eq a x hx) (by omega) (by omega) (by omega) t l

end Cert.Band4ReferenceIdeal.Stage

end
-- ==== Proof.BandClaim.lean ====
/-
  THE CLAIMS OF THE DILATED ATTENTION'S WIDER HEADS: window 512 with dilation 4, window 2048 with dilation 16. On arguments every
  entry of which is a real number, both results of kernel and reference are the functions of BandRow.lean.
-/
module

public import Idealize.ShloMosaic.Lib.Quiescent
public import proofs.«01_k».proof.Defs
public import proofs.«01_k».proof.Proof.Band16Block
public import proofs.«01_k».proof.Proof.Band16Ref
public import proofs.«01_k».proof.Proof.Band4Block
public import proofs.«01_k».proof.Proof.Band4Ref
public import proofs.«01_k».proof.Proof.Window
public import proofs.«01_k».proof.Proof.Gen.Band16.Frame
public import proofs.«01_k».proof.Proof.Gen.Band16Ideal.Frame
public import proofs.«01_k».proof.Proof.Gen.Band4.Frame
public import proofs.«01_k».proof.Proof.Gen.Band4Ideal.Frame
public import proofs.«01_k».proof.Proof.Gen.Pre_finite

@[expose] public section

noncomputable section

open Idealize.ShloMosaic Idealize.ShloMosaic.TcCoe Idealize.SL.Sem

namespace Cert.Proof.Band4

theorem frame_p : Cert.quiescent_Band4 := fun m ρ _ => Cert.Band4.Gen.frame m ρ
theorem frame_pi : Cert.quiescent_Band4Ideal := fun m ρ _ => Cert.Band4Ideal.Gen.frame m ρ
theorem frame_pi_pre : Cert.quiescent_Band4Ideal_pre_finite := fun m ρ _ => Cert.Band4Ideal.Gen.frame m ρ
theorem frame_ri : Cert.quiescent_Band4ReferenceIdeal := fun m ρ _ =>
  (θ_run Cert.Band4ReferenceIdeal.defs _ _).mono (fun r h => ⟨fun c => (h c).2.2, sem_eq_zero_of_no_sems (by decide) r.2⟩)
    (Cert.Band4ReferenceIdeal.Value.run (F := Ideal) m ρ)
theorem frame_ri_pre : Cert.quiescent_Band4ReferenceIdeal_pre_finite := fun m ρ _ => frame_ri m ρ trivial

/-- The mask's fill is the table's `-∞`. -/
theorem preserves : Cert.preserves_Band4_Band4Ideal :=
  IdealRules.named_const.statement Cert.Band4Ideal.κ "mask" .f32 0xF149F2CA#32 ⊥ rfl

theorem algebraic : Cert.algebraic_Band4Ideal_Band4ReferenceIdeal_pre_finite := by
  intro m ρ m' ρ' hpre hagree
  refine ⟨_, _, Cert.Band4Ideal.Value.run_blocks (F := Ideal) m ρ, ?_⟩
  refine (θ_run Cert.Band4ReferenceIdeal.defs _ _).mono (fun _ h c => ⟨(h c).1.trans ?_, (h c).2.1.trans ?_, (h c).2.2⟩)
    (Cert.Band4ReferenceIdeal.Value.run (F := Ideal) m' ρ')
  · obtain ⟨x, hx⟩ := Window.real_of_pre _ (hpre c)
    refine (Cert.Band4ReferenceIdeal.Stage.res0_eq m' c).trans ?_
    rw [hagree c]
    refine Eq.trans ?_ (Cert.Band4Ideal.Block.final3 m c x hx).symm
    funext i
    obtain ⟨t, l, rfl⟩ : ∃ t l, i = ix2 t l := ⟨i 0, i 1, by pointwise⟩
    exact Cert.Band4ReferenceIdeal.Stage.result0_eq _ x hx t l
  · obtain ⟨x, hx⟩ := Window.real_of_pre _ (hpre c)
    refine (Cert.Band4ReferenceIdeal.Stage.res1_eq m' c).trans ?_
    rw [hagree c]
    refine Eq.trans ?_ (Cert.Band4Ideal.Block.final4 m c x hx).symm
    funext i
    obtain ⟨t, l, rfl⟩ : ∃ t l, i = ix2 t l := ⟨i 0, i 1, by pointwise⟩
    exact Cert.Band4ReferenceIdeal.Stage.result1_eq _ x hx t l

end Cert.Proof.Band4

namespace Cert.Proof.Band16

theorem frame_p : Cert.quiescent_Band16 := fun m ρ _ => Cert.Band16.Gen.frame m ρ
theorem frame_pi : Cert.quiescent_Band16Ideal := fun m ρ _ => Cert.Band16Ideal.Gen.frame m ρ
theorem frame_pi_pre : Cert.quiescent_Band16Ideal_pre_finite := fun m ρ _ => Cert.Band16Ideal.Gen.frame m ρ
theorem frame_ri : Cert.quiescent_Band16ReferenceIdeal := fun m ρ _ =>
  (θ_run Cert.Band16ReferenceIdeal.defs _ _).mono (fun r h => ⟨fun c => (h c).2.2, sem_eq_zero_of_no_sems (by decide) r.2⟩)
    (Cert.Band16ReferenceIdeal.Value.run (F := Ideal) m ρ)
theorem frame_ri_pre : Cert.quiescent_Band16ReferenceIdeal_pre_finite := fun m ρ _ => frame_ri m ρ trivial

/-- The mask's fill is the table's `-∞`. -/
theorem preserves : Cert.preserves_Band16_Band16Ideal :=
  IdealRules.named_const.statement Cert.Band16Ideal.κ "mask" .f32 0xF149F2CA#32 ⊥ rfl

theorem algebraic : Cert.algebraic_Band16Ideal_Band16ReferenceIdeal_pre_finite := by
  intro m ρ m' ρ' hpre hagree
  refine ⟨_, _, Cert.Band16Ideal.Value.run_blocks (F := Ideal) m ρ, ?_⟩
  refine (θ_run Cert.Band16ReferenceIdeal.defs _ _).mono (fun _ h c => ⟨(h c).1.trans ?_, (h c).2.1.trans ?_, (h c).2.2⟩)
    (Cert.Band16ReferenceIdeal.Value.run (F := Ideal) m' ρ')
  · obtain ⟨x, hx⟩ := Window.real_of_pre _ (hpre c)
    refine (Cert.Band16ReferenceIdeal.Stage.res0_eq m' c).trans ?_
    rw [hagree c]
    refine Eq.trans ?_ (Cert.Band16Ideal.Block.final3 m c x hx).symm
    funext i
    obtain ⟨t, l, rfl⟩ : ∃ t l, i = ix2 t l := ⟨i 0, i 1, by pointwise⟩
    exact Cert.Band16ReferenceIdeal.Stage.result0_eq _ x hx t l
  · obtain ⟨x, hx⟩ := Window.real_of_pre _ (hpre c)
    refine (Cert.Band16ReferenceIdeal.Stage.res1_eq m' c).trans ?_
    rw [hagree c]
    refine Eq.trans ?_ (Cert.Band16Ideal.Block.final4 m c x hx).symm
    funext i
    obtain ⟨t, l, rfl⟩ : ∃ t l, i = ix2 t l := ⟨i 0, i 1, by pointwise⟩
    exact Cert.Band16ReferenceIdeal.Stage.result1_eq _ x hx t l

end Cert.Proof.Band16

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Window
public import proofs.«01_k».proof.Proof.ExpertsClaim
public import proofs.«01_k».proof.Proof.OutProj
public import proofs.«01_k».proof.Proof.OddInRef
public import proofs.«01_k».proof.Proof.EvenInRef
public import proofs.«01_k».proof.Proof.CmpIn
public import proofs.«01_k».proof.Proof.CmpOut
public import proofs.«01_k».proof.Proof.Norm
public import proofs.«01_k».proof.Proof.CmpClaim
public import proofs.«01_k».proof.Proof.DilClaim
public import proofs.«01_k».proof.Proof.BandClaim
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsReferenceIdeal
public import proofs.«01_k».proof.Proof.Gen.ExpertsReferenceIdeal.Run
public import proofs.«01_k».proof.Proof.Gen.Pre_routed
public import proofs.«01_k».proof.Proof.Gen.OutProj
public import proofs.«01_k».proof.Proof.Gen.OutProj.Skeleton
public import proofs.«01_k».proof.Proof.Gen.OutProj.Launch
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Frame
public import proofs.«01_k».proof.Proof.Gen.OddIn
public import proofs.«01_k».proof.Proof.Gen.OddIn.Skeleton
public import proofs.«01_k».proof.Proof.Gen.OddIn.Launch
public import proofs.«01_k».proof.Proof.Gen.OddInIdeal
public import proofs.«01_k».proof.Proof.Gen.OddInIdeal.Skeleton
public import proofs.«01_k».proof.Proof.Gen.OddInIdeal.Launch
public import proofs.«01_k».proof.Proof.Gen.EvenIn
public import proofs.«01_k».proof.Proof.Gen.EvenIn.Skeleton
public import proofs.«01_k».proof.Proof.Gen.EvenIn.Launch
public import proofs.«01_k».proof.Proof.Gen.EvenInIdeal
public import proofs.«01_k».proof.Proof.Gen.EvenInIdeal.Skeleton
public import proofs.«01_k».proof.Proof.Gen.EvenInIdeal.Launch
public import proofs.«01_k».proof.Proof.Gen.OutProjIdeal.Value
public import proofs.«01_k».proof.Proof.Gen.OutProjReferenceIdeal
public import proofs.«01_k».proof.Proof.Gen.OutProjReferenceIdeal.Run
public import proofs.«01_k».proof.Proof.Gen.OddInReferenceIdeal
public import proofs.«01_k».proof.Proof.Gen.OddInReferenceIdeal.Run
public import proofs.«01_k».proof.Proof.Gen.EvenInReferenceIdeal
public import proofs.«01_k».proof.Proof.Gen.EvenInReferenceIdeal.Run
public import proofs.«01_k».proof.Proof.Gen.CmpIn
public import proofs.«01_k».proof.Proof.Gen.CmpIn.Skeleton
public import proofs.«01_k».proof.Proof.Gen.CmpIn.Launch
public import proofs.«01_k».proof.Proof.Gen.CmpIn.Frame
public import proofs.«01_k».proof.Proof.Gen.CmpInIdeal
public import proofs.«01_k».proof.Proof.Gen.CmpInIdeal.Skeleton
public import proofs.«01_k».proof.Proof.Gen.CmpInIdeal.Launch
public import proofs.«01_k».proof.Proof.Gen.CmpInIdeal.Frame
public import proofs.«01_k».proof.Proof.Gen.CmpInIdeal.Value
public import proofs.«01_k».proof.Proof.Gen.CmpInReferenceIdeal
public import proofs.«01_k».proof.Proof.Gen.CmpInReferenceIdeal.Run
public import proofs.«01_k».proof.Proof.Gen.CmpOut
public import proofs.«01_k».proof.Proof.Gen.CmpOut.Skeleton
public import proofs.«01_k».proof.Proof.Gen.CmpOut.Launch
public import proofs.«01_k».proof.Proof.Gen.CmpOut.Frame
public import proofs.«01_k».proof.Proof.Gen.CmpOutIdeal
public import proofs.«01_k».proof.Proof.Gen.CmpOutIdeal.Skeleton
public import proofs.«01_k».proof.Proof.Gen.CmpOutIdeal.Launch
public import proofs.«01_k».proof.Proof.Gen.CmpOutIdeal.Frame
public import proofs.«01_k».proof.Proof.Gen.CmpOutIdeal.Value
public import proofs.«01_k».proof.Proof.Gen.CmpOutReferenceIdeal
public import proofs.«01_k».proof.Proof.Gen.CmpOutReferenceIdeal.Run
public import proofs.«01_k».proof.Proof.Gen.Norm
public import proofs.«01_k».proof.Proof.Gen.Norm.Skeleton
public import proofs.«01_k».proof.Proof.Gen.Norm.Launch
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Frame
public import proofs.«01_k».proof.Proof.Gen.NormIdeal.Value
public import proofs.«01_k».proof.Proof.Gen.NormReferenceIdeal
public import proofs.«01_k».proof.Proof.Gen.NormReferenceIdeal.Run
public import proofs.«01_k».proof.Proof.Gen.Cmp
public import proofs.«01_k».proof.Proof.Gen.Cmp.Skeleton
public import proofs.«01_k».proof.Proof.Gen.Cmp.Launch
public import proofs.«01_k».proof.Proof.Gen.Cmp.Frame
public import proofs.«01_k».proof.Proof.Gen.CmpIdeal
public import proofs.«01_k».proof.Proof.Gen.CmpIdeal.Skeleton
public import proofs.«01_k».proof.Proof.Gen.CmpIdeal.Launch
public import proofs.«01_k».proof.Proof.Gen.CmpIdeal.Frame
public import proofs.«01_k».proof.Proof.Gen.CmpIdeal.Value
public import proofs.«01_k».proof.Proof.Gen.CmpReferenceIdeal
public import proofs.«01_k».proof.Proof.Gen.CmpReferenceIdeal.Run
public import proofs.«01_k».proof.Proof.Gen.Pre_finite_keys
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
    Cert.Experts.Gen.facts, Cert.ExpertsIdeal.Gen.facts, Cert.ExpertsReferenceIdeal.Gen.facts,
    Cert.OutProj.Gen.facts, Cert.OutProjIdeal.Gen.facts, Cert.OutProjReferenceIdeal.Gen.facts,
    Cert.OddIn.Gen.facts, Cert.OddInIdeal.Gen.facts, Cert.OddInReferenceIdeal.Gen.facts,
    Cert.EvenIn.Gen.facts, Cert.EvenInIdeal.Gen.facts, Cert.EvenInReferenceIdeal.Gen.facts,
    Cert.CmpIn.Gen.facts, Cert.CmpInIdeal.Gen.facts, Cert.CmpInReferenceIdeal.Gen.facts,
    Cert.CmpOut.Gen.facts, Cert.CmpOutIdeal.Gen.facts, Cert.CmpOutReferenceIdeal.Gen.facts,
    Cert.Norm.Gen.facts, Cert.NormIdeal.Gen.facts, Cert.NormReferenceIdeal.Gen.facts,
    Cert.Cmp.Gen.facts, Cert.CmpIdeal.Gen.facts, Cert.CmpReferenceIdeal.Gen.facts,
    Cert.Dil.Gen.facts, Cert.DilIdeal.Gen.facts, Cert.DilReferenceIdeal.Gen.facts,
    Cert.Band4.Gen.facts, Cert.Band4Ideal.Gen.facts, Cert.Band4ReferenceIdeal.Gen.facts,
    Cert.Band16.Gen.facts, Cert.Band16Ideal.Gen.facts, Cert.Band16ReferenceIdeal.Gen.facts,
    Cert.Pre_finite.Gen.facts, Cert.Pre_routed.Gen.facts, Cert.Pre_finite_keys.Gen.facts,
    Window.frame_p, Window.frame_pi, Window.frame_pi_pre, Window.frame_ri, Window.frame_ri_pre,
    Experts.frame_p, Experts.frame_pi, Experts.frame_ri, Experts.frame_ri_pre,
    OutProj.frame_p, OutProj.frame_pi, OutProj.frame_ri,
    OddIn.frame_p, OddIn.frame_pi, OddIn.frame_ri,
    EvenIn.frame_p, EvenIn.frame_pi, EvenIn.frame_ri,
    CmpIn.frame_p, CmpIn.frame_pi, CmpIn.frame_ri,
    CmpOut.frame_p, CmpOut.frame_pi, CmpOut.frame_ri,
    Norm.frame_p, Norm.frame_pi, Norm.frame_ri,
    Cmp.frame_p, Cmp.frame_pi, Cmp.frame_pi_pre, Cmp.frame_ri, Cmp.frame_ri_pre,
    Dil.frame_p, Dil.frame_pi, Dil.frame_pi_pre, Dil.frame_ri, Dil.frame_ri_pre,
    Band4.frame_p, Band4.frame_pi, Band4.frame_pi_pre, Band4.frame_ri, Band4.frame_ri_pre,
    Band16.frame_p, Band16.frame_pi, Band16.frame_pi_pre, Band16.frame_ri, Band16.frame_ri_pre,
    Window.preserves, Window.algebraic, Experts.preserves, Experts.algebraic, OutProj.preserves, OutProj.algebraic, OddIn.preserves, OddIn.algebraic, EvenIn.preserves, EvenIn.algebraic,
    CmpIn.preserves, CmpIn.algebraic, CmpOut.preserves, CmpOut.algebraic, Norm.preserves, Norm.algebraic, Cmp.preserves, Cmp.algebraic, Dil.preserves, Dil.algebraic,
    Band4.preserves, Band4.algebraic, Band16.preserves, Band16.algebraic⟩

end Cert.Proof

end
